-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeRef (m : (ℓ : Loc Cert.MergeRef.nD Cert.MergeRef.τ Cert.MergeRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_Add2 (m : (ℓ : Loc Cert.Add2.nD Cert.Add2.τ Cert.Add2.sig) → Buf (Elt Bits) ℓ) : Prop :=
  True

def Pre_Add2Ideal (m : (ℓ : Loc Cert.Add2Ideal.nD Cert.Add2Ideal.τ Cert.Add2Ideal.sig) → Buf (Elt Ideal) ℓ) : Prop :=
  True

def Pre_Add2RefIdeal (m : (ℓ : Loc Cert.Add2RefIdeal.nD Cert.Add2RefIdeal.τ Cert.Add2RefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainRefIdeal (m : (ℓ : Loc Cert.ProjMainRefIdeal.nD Cert.ProjMainRefIdeal.τ Cert.ProjMainRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_ProjGatesDx (m : (ℓ : Loc Cert.ProjGatesDx.nD Cert.ProjGatesDx.τ Cert.ProjGatesDx.sig) → Buf (Elt Bits) ℓ) : Prop :=
  True

def Pre_ProjGatesDxIdeal (m : (ℓ : Loc Cert.ProjGatesDxIdeal.nD Cert.ProjGatesDxIdeal.τ Cert.ProjGatesDxIdeal.sig) → Buf (Elt Ideal) ℓ) : Prop :=
  True

def Pre_ProjGatesDxRefIdeal (m : (ℓ : Loc Cert.ProjGatesDxRefIdeal.nD Cert.ProjGatesDxRefIdeal.τ Cert.ProjGatesDxRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_ProjMainDw (m : (ℓ : Loc Cert.ProjMainDw.nD Cert.ProjMainDw.τ Cert.ProjMainDw.sig) → Buf (Elt Bits) ℓ) : Prop :=
  True

def Pre_ProjMainDwIdeal (m : (ℓ : Loc Cert.ProjMainDwIdeal.nD Cert.ProjMainDwIdeal.τ Cert.ProjMainDwIdeal.sig) → Buf (Elt Ideal) ℓ) : Prop :=
  True

def Pre_ProjMainDwRefIdeal (m : (ℓ : Loc Cert.ProjMainDwRefIdeal.nD Cert.ProjMainDwRefIdeal.τ Cert.ProjMainDwRefIdeal.sig) → Buf (Elt Ideal) ℓ) : Prop :=
  True

def Pre_ProjGatesDw (m : (ℓ : Loc Cert.ProjGatesDw.nD Cert.ProjGatesDw.τ Cert.ProjGatesDw.sig) → Buf (Elt Bits) ℓ) : Prop :=
  True

def Pre_ProjGatesDwIdeal (m : (ℓ : Loc Cert.ProjGatesDwIdeal.nD Cert.ProjGatesDwIdeal.τ Cert.ProjGatesDwIdeal.sig) → Buf (Elt Ideal) ℓ) : Prop :=
  True

def Pre_ProjGatesDwRefIdeal (m : (ℓ : Loc Cert.ProjGatesDwRefIdeal.nD Cert.ProjGatesDwRefIdeal.τ Cert.ProjGatesDwRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_ResLn (m : (ℓ : Loc Cert.ResLn.nD Cert.ResLn.τ Cert.ResLn.sig) → Buf (Elt Bits) ℓ) : Prop :=
  True

def Pre_ResLnIdeal (m : (ℓ : Loc Cert.ResLnIdeal.nD Cert.ResLnIdeal.τ Cert.ResLnIdeal.sig) → Buf (Elt Ideal) ℓ) : Prop :=
  True

def Pre_ResLnRefIdeal (m : (ℓ : Loc Cert.ResLnRefIdeal.nD Cert.ResLnRefIdeal.τ Cert.ResLnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_GateSgu (m : (ℓ : Loc Cert.GateSgu.nD Cert.GateSgu.τ Cert.GateSgu.sig) → Buf (Elt Bits) ℓ) : Prop :=
  True

def Pre_GateSguIdeal (m : (ℓ : Loc Cert.GateSguIdeal.nD Cert.GateSguIdeal.τ Cert.GateSguIdeal.sig) → Buf (Elt Ideal) ℓ) : Prop :=
  True

def Pre_GateSguRefIdeal (m : (ℓ : Loc Cert.GateSguRefIdeal.nD Cert.GateSguRefIdeal.τ Cert.GateSguRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0))
      ∧ r.2.sem = fun _ => 0)

def quiescent_MergeRef [hMergeRef : Cert.MergeRef.Facts] : Prop :=
  ∀ (m : (ℓ : Loc Cert.MergeRef.nD Cert.MergeRef.τ Cert.MergeRef.sig) → Buf (Elt Bits) ℓ) (g : Dev Cert.MergeRef.nD → PrngReg), Pre_MergeRef m →
    θ_run (Cert.MergeRef.defs (F := Bits)) (onTc (τ := Cert.MergeRef.τ) (Cert.MergeRef.main (F := Bits))) ⟨m, fun _ => 0, g⟩ (fun r => (∀ c : Dev Cert.MergeRef.nD,
      r.2.mem ((c.tc : Thread Cert.MergeRef.nD Cert.MergeRef.τ).loc Cert.MergeRef.main_arg0) = m ((c.tc : Thread Cert.MergeRef.nD Cert.MergeRef.τ).loc Cert.MergeRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2))
      ∧ r.2.sem = fun _ => 0)

def quiescent_Add2 [hAdd2 : Cert.Add2.Facts] : Prop :=
  ∀ (m : (ℓ : Loc Cert.Add2.nD Cert.Add2.τ Cert.Add2.sig) → Buf (Elt Bits) ℓ) (g : Dev Cert.Add2.nD → PrngReg), Pre_Add2 m →
    θ_run (Cert.Add2.defs (F := Bits)) (onTc (τ := Cert.Add2.τ) (Cert.Add2.main (F := Bits))) ⟨m, fun _ => 0, g⟩ (fun r => (∀ c : Dev Cert.Add2.nD,
      r.2.mem ((c.tc : Thread Cert.Add2.nD Cert.Add2.τ).loc Cert.Add2.main_arg0) = m ((c.tc : Thread Cert.Add2.nD Cert.Add2.τ).loc Cert.Add2.main_arg0)
      ∧ r.2.mem ((c.tc : Thread Cert.Add2.nD Cert.Add2.τ).loc Cert.Add2.main_arg1) = m ((c.tc : Thread Cert.Add2.nD Cert.Add2.τ).loc Cert.Add2.main_arg1))
      ∧ r.2.sem = fun _ => 0)

def quiescent_Add2Ideal [hAdd2Ideal : Cert.Add2Ideal.Facts] : Prop :=
  ∀ (m : (ℓ : Loc Cert.Add2Ideal.nD Cert.Add2Ideal.τ Cert.Add2Ideal.sig) → Buf (Elt Ideal) ℓ) (g : Dev Cert.Add2Ideal.nD → PrngReg), Pre_Add2Ideal m →
    θ_run (Cert.Add2Ideal.defs (F := Ideal)) (onTc (τ := Cert.Add2Ideal.τ) (Cert.Add2Ideal.main (F := Ideal))) ⟨m, fun _ => 0, g⟩ (fun r => (∀ c : Dev Cert.Add2Ideal.nD,
      r.2.mem ((c.tc : Thread Cert.Add2Ideal.nD Cert.Add2Ideal.τ).loc Cert.Add2Ideal.main_arg0) = m ((c.tc : Thread Cert.Add2Ideal.nD Cert.Add2Ideal.τ).loc Cert.Add2Ideal.main_arg0)
      ∧ r.2.mem ((c.tc : Thread Cert.Add2Ideal.nD Cert.Add2Ideal.τ).loc Cert.Add2Ideal.main_arg1) = m ((c.tc : Thread Cert.Add2Ideal.nD Cert.Add2Ideal.τ).loc Cert.Add2Ideal.main_arg1))
      ∧ r.2.sem = fun _ => 0)

def quiescent_Add2RefIdeal [hAdd2RefIdeal : Cert.Add2RefIdeal.Facts] : Prop :=
  ∀ (m : (ℓ : Loc Cert.Add2RefIdeal.nD Cert.Add2RefIdeal.τ Cert.Add2RefIdeal.sig) → Buf (Elt Ideal) ℓ) (g : Dev Cert.Add2RefIdeal.nD → PrngReg), Pre_Add2RefIdeal m →
    θ_run (Cert.Add2RefIdeal.defs (F := Ideal)) (onTc (τ := Cert.Add2RefIdeal.τ) (Cert.Add2RefIdeal.main (F := Ideal))) ⟨m, fun _ => 0, g⟩ (fun r => (∀ c : Dev Cert.Add2RefIdeal.nD,
      r.2.mem ((c.tc : Thread Cert.Add2RefIdeal.nD Cert.Add2RefIdeal.τ).loc Cert.Add2RefIdeal.main_arg0) = m ((c.tc : Thread Cert.Add2RefIdeal.nD Cert.Add2RefIdeal.τ).loc Cert.Add2RefIdeal.main_arg0)
      ∧ r.2.mem ((c.tc : Thread Cert.Add2RefIdeal.nD Cert.Add2RefIdeal.τ).loc Cert.Add2RefIdeal.main_arg1) = m ((c.tc : Thread Cert.Add2RefIdeal.nD Cert.Add2RefIdeal.τ).loc Cert.Add2RefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainRefIdeal [hProjMainRefIdeal : Cert.ProjMainRefIdeal.Facts] : Prop :=
  ∀ (m : (ℓ : Loc Cert.ProjMainRefIdeal.nD Cert.ProjMainRefIdeal.τ Cert.ProjMainRefIdeal.sig) → Buf (Elt Ideal) ℓ) (g : Dev Cert.ProjMainRefIdeal.nD → PrngReg), Pre_ProjMainRefIdeal m →
    θ_run (Cert.ProjMainRefIdeal.defs (F := Ideal)) (onTc (τ := Cert.ProjMainRefIdeal.τ) (Cert.ProjMainRefIdeal.main (F := Ideal))) ⟨m, fun _ => 0, g⟩ (fun r => (∀ c : Dev Cert.ProjMainRefIdeal.nD,
      r.2.mem ((c.tc : Thread Cert.ProjMainRefIdeal.nD Cert.ProjMainRefIdeal.τ).loc Cert.ProjMainRefIdeal.main_arg0) = m ((c.tc : Thread Cert.ProjMainRefIdeal.nD Cert.ProjMainRefIdeal.τ).loc Cert.ProjMainRefIdeal.main_arg0)
      ∧ r.2.mem ((c.tc : Thread Cert.ProjMainRefIdeal.nD Cert.ProjMainRefIdeal.τ).loc Cert.ProjMainRefIdeal.main_arg1) = m ((c.tc : Thread Cert.ProjMainRefIdeal.nD Cert.ProjMainRefIdeal.τ).loc Cert.ProjMainRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_ProjGatesDx [hProjGatesDx : Cert.ProjGatesDx.Facts] : Prop :=
  ∀ (m : (ℓ : Loc Cert.ProjGatesDx.nD Cert.ProjGatesDx.τ Cert.ProjGatesDx.sig) → Buf (Elt Bits) ℓ) (g : Dev Cert.ProjGatesDx.nD → PrngReg), Pre_ProjGatesDx m →
    θ_run (Cert.ProjGatesDx.defs (F := Bits)) (onTc (τ := Cert.ProjGatesDx.τ) (Cert.ProjGatesDx.main (F := Bits))) ⟨m, fun _ => 0, g⟩ (fun r => (∀ c : Dev Cert.ProjGatesDx.nD,
      r.2.mem ((c.tc : Thread Cert.ProjGatesDx.nD Cert.ProjGatesDx.τ).loc Cert.ProjGatesDx.main_arg0) = m ((c.tc : Thread Cert.ProjGatesDx.nD Cert.ProjGatesDx.τ).loc Cert.ProjGatesDx.main_arg0)
      ∧ r.2.mem ((c.tc : Thread Cert.ProjGatesDx.nD Cert.ProjGatesDx.τ).loc Cert.ProjGatesDx.main_arg1) = m ((c.tc : Thread Cert.ProjGatesDx.nD Cert.ProjGatesDx.τ).loc Cert.ProjGatesDx.main_arg1)
      ∧ r.2.mem ((c.tc : Thread Cert.ProjGatesDx.nD Cert.ProjGatesDx.τ).loc Cert.ProjGatesDx.main_arg2) = m ((c.tc : Thread Cert.ProjGatesDx.nD Cert.ProjGatesDx.τ).loc Cert.ProjGatesDx.main_arg2))
      ∧ r.2.sem = fun _ => 0)

def quiescent_ProjGatesDxIdeal [hProjGatesDxIdeal : Cert.ProjGatesDxIdeal.Facts] : Prop :=
  ∀ (m : (ℓ : Loc Cert.ProjGatesDxIdeal.nD Cert.ProjGatesDxIdeal.τ Cert.ProjGatesDxIdeal.sig) → Buf (Elt Ideal) ℓ) (g : Dev Cert.ProjGatesDxIdeal.nD → PrngReg), Pre_ProjGatesDxIdeal m →
    θ_run (Cert.ProjGatesDxIdeal.defs (F := Ideal)) (onTc (τ := Cert.ProjGatesDxIdeal.τ) (Cert.ProjGatesDxIdeal.main (F := Ideal))) ⟨m, fun _ => 0, g⟩ (fun r => (∀ c : Dev Cert.ProjGatesDxIdeal.nD,
      r.2.mem ((c.tc : Thread Cert.ProjGatesDxIdeal.nD Cert.ProjGatesDxIdeal.τ).loc Cert.ProjGatesDxIdeal.main_arg0) = m ((c.tc : Thread Cert.ProjGatesDxIdeal.nD Cert.ProjGatesDxIdeal.τ).loc Cert.ProjGatesDxIdeal.main_arg0)
      ∧ r.2.mem ((c.tc : Thread Cert.ProjGatesDxIdeal.nD Cert.ProjGatesDxIdeal.τ).loc Cert.ProjGatesDxIdeal.main_arg1) = m ((c.tc : Thread Cert.ProjGatesDxIdeal.nD Cert.ProjGatesDxIdeal.τ).loc Cert.ProjGatesDxIdeal.main_arg1)
      ∧ r.2.mem ((c.tc : Thread Cert.ProjGatesDxIdeal.nD Cert.ProjGatesDxIdeal.τ).loc Cert.ProjGatesDxIdeal.main_arg2) = m ((c.tc : Thread Cert.ProjGatesDxIdeal.nD Cert.ProjGatesDxIdeal.τ).loc Cert.ProjGatesDxIdeal.main_arg2))
      ∧ r.2.sem = fun _ => 0)

def quiescent_ProjGatesDxRefIdeal [hProjGatesDxRefIdeal : Cert.ProjGatesDxRefIdeal.Facts] : Prop :=
  ∀ (m : (ℓ : Loc Cert.ProjGatesDxRefIdeal.nD Cert.ProjGatesDxRefIdeal.τ Cert.ProjGatesDxRefIdeal.sig) → Buf (Elt Ideal) ℓ) (g : Dev Cert.ProjGatesDxRefIdeal.nD → PrngReg), Pre_ProjGatesDxRefIdeal m →
    θ_run (Cert.ProjGatesDxRefIdeal.defs (F := Ideal)) (onTc (τ := Cert.ProjGatesDxRefIdeal.τ) (Cert.ProjGatesDxRefIdeal.main (F := Ideal))) ⟨m, fun _ => 0, g⟩ (fun r => (∀ c : Dev Cert.ProjGatesDxRefIdeal.nD,
      r.2.mem ((c.tc : Thread Cert.ProjGatesDxRefIdeal.nD Cert.ProjGatesDxRefIdeal.τ).loc Cert.ProjGatesDxRefIdeal.main_arg0) = m ((c.tc : Thread Cert.ProjGatesDxRefIdeal.nD Cert.ProjGatesDxRefIdeal.τ).loc Cert.ProjGatesDxRefIdeal.main_arg0)
      ∧ r.2.mem ((c.tc : Thread Cert.ProjGatesDxRefIdeal.nD Cert.ProjGatesDxRefIdeal.τ).loc Cert.ProjGatesDxRefIdeal.main_arg1) = m ((c.tc : Thread Cert.ProjGatesDxRefIdeal.nD Cert.ProjGatesDxRefIdeal.τ).loc Cert.ProjGatesDxRefIdeal.main_arg1)
      ∧ r.2.mem ((c.tc : Thread Cert.ProjGatesDxRefIdeal.nD Cert.ProjGatesDxRefIdeal.τ).loc Cert.ProjGatesDxRefIdeal.main_arg2) = m ((c.tc : Thread Cert.ProjGatesDxRefIdeal.nD Cert.ProjGatesDxRefIdeal.τ).loc Cert.ProjGatesDxRefIdeal.main_arg2))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_ProjMainDw [hProjMainDw : Cert.ProjMainDw.Facts] : Prop :=
  ∀ (m : (ℓ : Loc Cert.ProjMainDw.nD Cert.ProjMainDw.τ Cert.ProjMainDw.sig) → Buf (Elt Bits) ℓ) (g : Dev Cert.ProjMainDw.nD → PrngReg), Pre_ProjMainDw m →
    θ_run (Cert.ProjMainDw.defs (F := Bits)) (onTc (τ := Cert.ProjMainDw.τ) (Cert.ProjMainDw.main (F := Bits))) ⟨m, fun _ => 0, g⟩ (fun r => (∀ c : Dev Cert.ProjMainDw.nD,
      r.2.mem ((c.tc : Thread Cert.ProjMainDw.nD Cert.ProjMainDw.τ).loc Cert.ProjMainDw.main_arg0) = m ((c.tc : Thread Cert.ProjMainDw.nD Cert.ProjMainDw.τ).loc Cert.ProjMainDw.main_arg0)
      ∧ r.2.mem ((c.tc : Thread Cert.ProjMainDw.nD Cert.ProjMainDw.τ).loc Cert.ProjMainDw.main_arg1) = m ((c.tc : Thread Cert.ProjMainDw.nD Cert.ProjMainDw.τ).loc Cert.ProjMainDw.main_arg1))
      ∧ r.2.sem = fun _ => 0)

def quiescent_ProjMainDwIdeal [hProjMainDwIdeal : Cert.ProjMainDwIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg), Pre_ProjMainDwIdeal m →
    θ_run (Cert.ProjMainDwIdeal.defs (F := Ideal)) (onTc (τ := Cert.ProjMainDwIdeal.τ) (Cert.ProjMainDwIdeal.main (F := Ideal))) ⟨m, fun _ => 0, g⟩ (fun r => (∀ c : Dev Cert.ProjMainDwIdeal.nD,
      r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
      ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ r.2.sem = fun _ => 0)

def quiescent_ProjMainDwRefIdeal [hProjMainDwRefIdeal : Cert.ProjMainDwRefIdeal.Facts] : Prop :=
  ∀ (m : (ℓ : Loc Cert.ProjMainDwRefIdeal.nD Cert.ProjMainDwRefIdeal.τ Cert.ProjMainDwRefIdeal.sig) → Buf (Elt Ideal) ℓ) (g : Dev Cert.ProjMainDwRefIdeal.nD → PrngReg), Pre_ProjMainDwRefIdeal m →
    θ_run (Cert.ProjMainDwRefIdeal.defs (F := Ideal)) (onTc (τ := Cert.ProjMainDwRefIdeal.τ) (Cert.ProjMainDwRefIdeal.main (F := Ideal))) ⟨m, fun _ => 0, g⟩ (fun r => (∀ c : Dev Cert.ProjMainDwRefIdeal.nD,
      r.2.mem ((c.tc : Thread Cert.ProjMainDwRefIdeal.nD Cert.ProjMainDwRefIdeal.τ).loc Cert.ProjMainDwRefIdeal.main_arg0) = m ((c.tc : Thread Cert.ProjMainDwRefIdeal.nD Cert.ProjMainDwRefIdeal.τ).loc Cert.ProjMainDwRefIdeal.main_arg0)
      ∧ r.2.mem ((c.tc : Thread Cert.ProjMainDwRefIdeal.nD Cert.ProjMainDwRefIdeal.τ).loc Cert.ProjMainDwRefIdeal.main_arg1) = m ((c.tc : Thread Cert.ProjMainDwRefIdeal.nD Cert.ProjMainDwRefIdeal.τ).loc Cert.ProjMainDwRefIdeal.main_arg1))
      ∧ r.2.sem = fun _ => 0)

def quiescent_ProjGatesDw [hProjGatesDw : Cert.ProjGatesDw.Facts] : Prop :=
  ∀ (m : (ℓ : Loc Cert.ProjGatesDw.nD Cert.ProjGatesDw.τ Cert.ProjGatesDw.sig) → Buf (Elt Bits) ℓ) (g : Dev Cert.ProjGatesDw.nD → PrngReg), Pre_ProjGatesDw m →
    θ_run (Cert.ProjGatesDw.defs (F := Bits)) (onTc (τ := Cert.ProjGatesDw.τ) (Cert.ProjGatesDw.main (F := Bits))) ⟨m, fun _ => 0, g⟩ (fun r => (∀ c : Dev Cert.ProjGatesDw.nD,
      r.2.mem ((c.tc : Thread Cert.ProjGatesDw.nD Cert.ProjGatesDw.τ).loc Cert.ProjGatesDw.main_arg0) = m ((c.tc : Thread Cert.ProjGatesDw.nD Cert.ProjGatesDw.τ).loc Cert.ProjGatesDw.main_arg0)
      ∧ r.2.mem ((c.tc : Thread Cert.ProjGatesDw.nD Cert.ProjGatesDw.τ).loc Cert.ProjGatesDw.main_arg1) = m ((c.tc : Thread Cert.ProjGatesDw.nD Cert.ProjGatesDw.τ).loc Cert.ProjGatesDw.main_arg1))
      ∧ r.2.sem = fun _ => 0)

def quiescent_ProjGatesDwIdeal [hProjGatesDwIdeal : Cert.ProjGatesDwIdeal.Facts] : Prop :=
  ∀ (m : (ℓ : Loc Cert.ProjGatesDwIdeal.nD Cert.ProjGatesDwIdeal.τ Cert.ProjGatesDwIdeal.sig) → Buf (Elt Ideal) ℓ) (g : Dev Cert.ProjGatesDwIdeal.nD → PrngReg), Pre_ProjGatesDwIdeal m →
    θ_run (Cert.ProjGatesDwIdeal.defs (F := Ideal)) (onTc (τ := Cert.ProjGatesDwIdeal.τ) (Cert.ProjGatesDwIdeal.main (F := Ideal))) ⟨m, fun _ => 0, g⟩ (fun r => (∀ c : Dev Cert.ProjGatesDwIdeal.nD,
      r.2.mem ((c.tc : Thread Cert.ProjGatesDwIdeal.nD Cert.ProjGatesDwIdeal.τ).loc Cert.ProjGatesDwIdeal.main_arg0) = m ((c.tc : Thread Cert.ProjGatesDwIdeal.nD Cert.ProjGatesDwIdeal.τ).loc Cert.ProjGatesDwIdeal.main_arg0)
      ∧ r.2.mem ((c.tc : Thread Cert.ProjGatesDwIdeal.nD Cert.ProjGatesDwIdeal.τ).loc Cert.ProjGatesDwIdeal.main_arg1) = m ((c.tc : Thread Cert.ProjGatesDwIdeal.nD Cert.ProjGatesDwIdeal.τ).loc Cert.ProjGatesDwIdeal.main_arg1))
      ∧ r.2.sem = fun _ => 0)

def quiescent_ProjGatesDwRefIdeal [hProjGatesDwRefIdeal : Cert.ProjGatesDwRefIdeal.Facts] : Prop :=
  ∀ (m : (ℓ : Loc Cert.ProjGatesDwRefIdeal.nD Cert.ProjGatesDwRefIdeal.τ Cert.ProjGatesDwRefIdeal.sig) → Buf (Elt Ideal) ℓ) (g : Dev Cert.ProjGatesDwRefIdeal.nD → PrngReg), Pre_ProjGatesDwRefIdeal m →
    θ_run (Cert.ProjGatesDwRefIdeal.defs (F := Ideal)) (onTc (τ := Cert.ProjGatesDwRefIdeal.τ) (Cert.ProjGatesDwRefIdeal.main (F := Ideal))) ⟨m, fun _ => 0, g⟩ (fun r => (∀ c : Dev Cert.ProjGatesDwRefIdeal.nD,
      r.2.mem ((c.tc : Thread Cert.ProjGatesDwRefIdeal.nD Cert.ProjGatesDwRefIdeal.τ).loc Cert.ProjGatesDwRefIdeal.main_arg0) = m ((c.tc : Thread Cert.ProjGatesDwRefIdeal.nD Cert.ProjGatesDwRefIdeal.τ).loc Cert.ProjGatesDwRefIdeal.main_arg0)
      ∧ r.2.mem ((c.tc : Thread Cert.ProjGatesDwRefIdeal.nD Cert.ProjGatesDwRefIdeal.τ).loc Cert.ProjGatesDwRefIdeal.main_arg1) = m ((c.tc : Thread Cert.ProjGatesDwRefIdeal.nD Cert.ProjGatesDwRefIdeal.τ).loc Cert.ProjGatesDwRefIdeal.main_arg1))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_ResLn [hResLn : Cert.ResLn.Facts] : Prop :=
  ∀ (m : (ℓ : Loc Cert.ResLn.nD Cert.ResLn.τ Cert.ResLn.sig) → Buf (Elt Bits) ℓ) (g : Dev Cert.ResLn.nD → PrngReg), Pre_ResLn m →
    θ_run (Cert.ResLn.defs (F := Bits)) (onTc (τ := Cert.ResLn.τ) (Cert.ResLn.main (F := Bits))) ⟨m, fun _ => 0, g⟩ (fun r => (∀ c : Dev Cert.ResLn.nD,
      r.2.mem ((c.tc : Thread Cert.ResLn.nD Cert.ResLn.τ).loc Cert.ResLn.main_arg0) = m ((c.tc : Thread Cert.ResLn.nD Cert.ResLn.τ).loc Cert.ResLn.main_arg0)
      ∧ r.2.mem ((c.tc : Thread Cert.ResLn.nD Cert.ResLn.τ).loc Cert.ResLn.main_arg1) = m ((c.tc : Thread Cert.ResLn.nD Cert.ResLn.τ).loc Cert.ResLn.main_arg1)
      ∧ r.2.mem ((c.tc : Thread Cert.ResLn.nD Cert.ResLn.τ).loc Cert.ResLn.main_arg2) = m ((c.tc : Thread Cert.ResLn.nD Cert.ResLn.τ).loc Cert.ResLn.main_arg2)
      ∧ r.2.mem ((c.tc : Thread Cert.ResLn.nD Cert.ResLn.τ).loc Cert.ResLn.main_arg3) = m ((c.tc : Thread Cert.ResLn.nD Cert.ResLn.τ).loc Cert.ResLn.main_arg3))
      ∧ r.2.sem = fun _ => 0)

def quiescent_ResLnIdeal [hResLnIdeal : Cert.ResLnIdeal.Facts] : Prop :=
  ∀ (m : (ℓ : Loc Cert.ResLnIdeal.nD Cert.ResLnIdeal.τ Cert.ResLnIdeal.sig) → Buf (Elt Ideal) ℓ) (g : Dev Cert.ResLnIdeal.nD → PrngReg), Pre_ResLnIdeal m →
    θ_run (Cert.ResLnIdeal.defs (F := Ideal)) (onTc (τ := Cert.ResLnIdeal.τ) (Cert.ResLnIdeal.main (F := Ideal))) ⟨m, fun _ => 0, g⟩ (fun r => (∀ c : Dev Cert.ResLnIdeal.nD,
      r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
      ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
      ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
      ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ r.2.sem = fun _ => 0)

def quiescent_ResLnRefIdeal [hResLnRefIdeal : Cert.ResLnRefIdeal.Facts] : Prop :=
  ∀ (m : (ℓ : Loc Cert.ResLnRefIdeal.nD Cert.ResLnRefIdeal.τ Cert.ResLnRefIdeal.sig) → Buf (Elt Ideal) ℓ) (g : Dev Cert.ResLnRefIdeal.nD → PrngReg), Pre_ResLnRefIdeal m →
    θ_run (Cert.ResLnRefIdeal.defs (F := Ideal)) (onTc (τ := Cert.ResLnRefIdeal.τ) (Cert.ResLnRefIdeal.main (F := Ideal))) ⟨m, fun _ => 0, g⟩ (fun r => (∀ c : Dev Cert.ResLnRefIdeal.nD,
      r.2.mem ((c.tc : Thread Cert.ResLnRefIdeal.nD Cert.ResLnRefIdeal.τ).loc Cert.ResLnRefIdeal.main_arg0) = m ((c.tc : Thread Cert.ResLnRefIdeal.nD Cert.ResLnRefIdeal.τ).loc Cert.ResLnRefIdeal.main_arg0)
      ∧ r.2.mem ((c.tc : Thread Cert.ResLnRefIdeal.nD Cert.ResLnRefIdeal.τ).loc Cert.ResLnRefIdeal.main_arg1) = m ((c.tc : Thread Cert.ResLnRefIdeal.nD Cert.ResLnRefIdeal.τ).loc Cert.ResLnRefIdeal.main_arg1)
      ∧ r.2.mem ((c.tc : Thread Cert.ResLnRefIdeal.nD Cert.ResLnRefIdeal.τ).loc Cert.ResLnRefIdeal.main_arg2) = m ((c.tc : Thread Cert.ResLnRefIdeal.nD Cert.ResLnRefIdeal.τ).loc Cert.ResLnRefIdeal.main_arg2)
      ∧ r.2.mem ((c.tc : Thread Cert.ResLnRefIdeal.nD Cert.ResLnRefIdeal.τ).loc Cert.ResLnRefIdeal.main_arg3) = m ((c.tc : Thread Cert.ResLnRefIdeal.nD Cert.ResLnRefIdeal.τ).loc Cert.ResLnRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_GateSgu [hGateSgu : Cert.GateSgu.Facts] : Prop :=
  ∀ (m : (ℓ : Loc Cert.GateSgu.nD Cert.GateSgu.τ Cert.GateSgu.sig) → Buf (Elt Bits) ℓ) (g : Dev Cert.GateSgu.nD → PrngReg), Pre_GateSgu m →
    θ_run (Cert.GateSgu.defs (F := Bits)) (onTc (τ := Cert.GateSgu.τ) (Cert.GateSgu.main (F := Bits))) ⟨m, fun _ => 0, g⟩ (fun r => (∀ c : Dev Cert.GateSgu.nD,
      r.2.mem ((c.tc : Thread Cert.GateSgu.nD Cert.GateSgu.τ).loc Cert.GateSgu.main_arg0) = m ((c.tc : Thread Cert.GateSgu.nD Cert.GateSgu.τ).loc Cert.GateSgu.main_arg0)
      ∧ r.2.mem ((c.tc : Thread Cert.GateSgu.nD Cert.GateSgu.τ).loc Cert.GateSgu.main_arg1) = m ((c.tc : Thread Cert.GateSgu.nD Cert.GateSgu.τ).loc Cert.GateSgu.main_arg1)
      ∧ r.2.mem ((c.tc : Thread Cert.GateSgu.nD Cert.GateSgu.τ).loc Cert.GateSgu.main_arg2) = m ((c.tc : Thread Cert.GateSgu.nD Cert.GateSgu.τ).loc Cert.GateSgu.main_arg2)
      ∧ r.2.mem ((c.tc : Thread Cert.GateSgu.nD Cert.GateSgu.τ).loc Cert.GateSgu.main_arg3) = m ((c.tc : Thread Cert.GateSgu.nD Cert.GateSgu.τ).loc Cert.GateSgu.main_arg3)
      ∧ r.2.mem ((c.tc : Thread Cert.GateSgu.nD Cert.GateSgu.τ).loc Cert.GateSgu.main_arg4) = m ((c.tc : Thread Cert.GateSgu.nD Cert.GateSgu.τ).loc Cert.GateSgu.main_arg4)
      ∧ r.2.mem ((c.tc : Thread Cert.GateSgu.nD Cert.GateSgu.τ).loc Cert.GateSgu.main_arg5) = m ((c.tc : Thread Cert.GateSgu.nD Cert.GateSgu.τ).loc Cert.GateSgu.main_arg5)
      ∧ r.2.mem ((c.tc : Thread Cert.GateSgu.nD Cert.GateSgu.τ).loc Cert.GateSgu.main_arg6) = m ((c.tc : Thread Cert.GateSgu.nD Cert.GateSgu.τ).loc Cert.GateSgu.main_arg6))
      ∧ r.2.sem = fun _ => 0)

def quiescent_GateSguIdeal [hGateSguIdeal : Cert.GateSguIdeal.Facts] : Prop :=
  ∀ (m : (ℓ : Loc Cert.GateSguIdeal.nD Cert.GateSguIdeal.τ Cert.GateSguIdeal.sig) → Buf (Elt Ideal) ℓ) (g : Dev Cert.GateSguIdeal.nD → PrngReg), Pre_GateSguIdeal m →
    θ_run (Cert.GateSguIdeal.defs (F := Ideal)) (onTc (τ := Cert.GateSguIdeal.τ) (Cert.GateSguIdeal.main (F := Ideal))) ⟨m, fun _ => 0, g⟩ (fun r => (∀ c : Dev Cert.GateSguIdeal.nD,
      r.2.mem ((c.tc : Thread Cert.GateSguIdeal.nD Cert.GateSguIdeal.τ).loc Cert.GateSguIdeal.main_arg0) = m ((c.tc : Thread Cert.GateSguIdeal.nD Cert.GateSguIdeal.τ).loc Cert.GateSguIdeal.main_arg0)
      ∧ r.2.mem ((c.tc : Thread Cert.GateSguIdeal.nD Cert.GateSguIdeal.τ).loc Cert.GateSguIdeal.main_arg1) = m ((c.tc : Thread Cert.GateSguIdeal.nD Cert.GateSguIdeal.τ).loc Cert.GateSguIdeal.main_arg1)
      ∧ r.2.mem ((c.tc : Thread Cert.GateSguIdeal.nD Cert.GateSguIdeal.τ).loc Cert.GateSguIdeal.main_arg2) = m ((c.tc : Thread Cert.GateSguIdeal.nD Cert.GateSguIdeal.τ).loc Cert.GateSguIdeal.main_arg2)
      ∧ r.2.mem ((c.tc : Thread Cert.GateSguIdeal.nD Cert.GateSguIdeal.τ).loc Cert.GateSguIdeal.main_arg3) = m ((c.tc : Thread Cert.GateSguIdeal.nD Cert.GateSguIdeal.τ).loc Cert.GateSguIdeal.main_arg3)
      ∧ r.2.mem ((c.tc : Thread Cert.GateSguIdeal.nD Cert.GateSguIdeal.τ).loc Cert.GateSguIdeal.main_arg4) = m ((c.tc : Thread Cert.GateSguIdeal.nD Cert.GateSguIdeal.τ).loc Cert.GateSguIdeal.main_arg4)
      ∧ r.2.mem ((c.tc : Thread Cert.GateSguIdeal.nD Cert.GateSguIdeal.τ).loc Cert.GateSguIdeal.main_arg5) = m ((c.tc : Thread Cert.GateSguIdeal.nD Cert.GateSguIdeal.τ).loc Cert.GateSguIdeal.main_arg5)
      ∧ r.2.mem ((c.tc : Thread Cert.GateSguIdeal.nD Cert.GateSguIdeal.τ).loc Cert.GateSguIdeal.main_arg6) = m ((c.tc : Thread Cert.GateSguIdeal.nD Cert.GateSguIdeal.τ).loc Cert.GateSguIdeal.main_arg6))
      ∧ r.2.sem = fun _ => 0)

def quiescent_GateSguRefIdeal [hGateSguRefIdeal : Cert.GateSguRefIdeal.Facts] : Prop :=
  ∀ (m : (ℓ : Loc Cert.GateSguRefIdeal.nD Cert.GateSguRefIdeal.τ Cert.GateSguRefIdeal.sig) → Buf (Elt Ideal) ℓ) (g : Dev Cert.GateSguRefIdeal.nD → PrngReg), Pre_GateSguRefIdeal m →
    θ_run (Cert.GateSguRefIdeal.defs (F := Ideal)) (onTc (τ := Cert.GateSguRefIdeal.τ) (Cert.GateSguRefIdeal.main (F := Ideal))) ⟨m, fun _ => 0, g⟩ (fun r => (∀ c : Dev Cert.GateSguRefIdeal.nD,
      r.2.mem ((c.tc : Thread Cert.GateSguRefIdeal.nD Cert.GateSguRefIdeal.τ).loc Cert.GateSguRefIdeal.main_arg0) = m ((c.tc : Thread Cert.GateSguRefIdeal.nD Cert.GateSguRefIdeal.τ).loc Cert.GateSguRefIdeal.main_arg0)
      ∧ r.2.mem ((c.tc : Thread Cert.GateSguRefIdeal.nD Cert.GateSguRefIdeal.τ).loc Cert.GateSguRefIdeal.main_arg1) = m ((c.tc : Thread Cert.GateSguRefIdeal.nD Cert.GateSguRefIdeal.τ).loc Cert.GateSguRefIdeal.main_arg1)
      ∧ r.2.mem ((c.tc : Thread Cert.GateSguRefIdeal.nD Cert.GateSguRefIdeal.τ).loc Cert.GateSguRefIdeal.main_arg2) = m ((c.tc : Thread Cert.GateSguRefIdeal.nD Cert.GateSguRefIdeal.τ).loc Cert.GateSguRefIdeal.main_arg2)
      ∧ r.2.mem ((c.tc : Thread Cert.GateSguRefIdeal.nD Cert.GateSguRefIdeal.τ).loc Cert.GateSguRefIdeal.main_arg3) = m ((c.tc : Thread Cert.GateSguRefIdeal.nD Cert.GateSguRefIdeal.τ).loc Cert.GateSguRefIdeal.main_arg3)
      ∧ r.2.mem ((c.tc : Thread Cert.GateSguRefIdeal.nD Cert.GateSguRefIdeal.τ).loc Cert.GateSguRefIdeal.main_arg4) = m ((c.tc : Thread Cert.GateSguRefIdeal.nD Cert.GateSguRefIdeal.τ).loc Cert.GateSguRefIdeal.main_arg4)
      ∧ r.2.mem ((c.tc : Thread Cert.GateSguRefIdeal.nD Cert.GateSguRefIdeal.τ).loc Cert.GateSguRefIdeal.main_arg5) = m ((c.tc : Thread Cert.GateSguRefIdeal.nD Cert.GateSguRefIdeal.τ).loc Cert.GateSguRefIdeal.main_arg5)
      ∧ r.2.mem ((c.tc : Thread Cert.GateSguRefIdeal.nD Cert.GateSguRefIdeal.τ).loc Cert.GateSguRefIdeal.main_arg6) = m ((c.tc : Thread Cert.GateSguRefIdeal.nD Cert.GateSguRefIdeal.τ).loc Cert.GateSguRefIdeal.main_arg6))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m ((c.tc : Thread Cert.MergeIdeal.nD Cert.MergeIdeal.τ).loc Cert.MergeIdeal.main_arg0) = Layout.block ⟨2, ![5120, 1024]⟩ ⟨2, ![40960, 1024]⟩ 0 8 c (m' (((0 : Dev Cert.MergeRefIdeal.nD).tc : Thread Cert.MergeRefIdeal.nD Cert.MergeRefIdeal.τ).loc Cert.MergeRefIdeal.main_arg0))) →
    ∃ (v0 : Buf (Elt Ideal) (((0 : Dev Cert.MergeRefIdeal.nD).tc : Thread Cert.MergeRefIdeal.nD Cert.MergeRefIdeal.τ).loc Cert.MergeRefIdeal.main_arg0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = Layout.blockN ⟨2, ![10240, 1024]⟩ ⟨2, ![40960, 1024]⟩ (Layout.meshBlock [2, 2, 2] ![[0, 1], []] c) v0
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0))
      ∧ θ_run (Cert.MergeRefIdeal.defs (F := Ideal)) (onTc (τ := Cert.MergeRefIdeal.τ) (Cert.MergeRefIdeal.main (F := Ideal))) ⟨m', fun _ => 0, g'⟩ (fun r =>
          r.2.mem (((0 : Dev Cert.MergeRefIdeal.nD).tc : Thread Cert.MergeRefIdeal.nD Cert.MergeRefIdeal.τ).loc Cert.MergeRefIdeal.main_arg0) = v0
          ∧ r.2.mem (((0 : Dev Cert.MergeRefIdeal.nD).tc : Thread Cert.MergeRefIdeal.nD Cert.MergeRefIdeal.τ).loc Cert.MergeRefIdeal.main_arg0) = m' (((0 : Dev Cert.MergeRefIdeal.nD).tc : Thread Cert.MergeRefIdeal.nD Cert.MergeRefIdeal.τ).loc Cert.MergeRefIdeal.main_arg0))

def bitexact_Merge_MergeRef [hMerge : Cert.Merge.Facts] [hMergeRef : Cert.MergeRef.Facts] : Prop :=
  ∀ (m : (ℓ : Loc Cert.Merge.nD Cert.Merge.τ Cert.Merge.sig) → Buf (Elt Bits) ℓ) (g : Dev Cert.Merge.nD → PrngReg)
    (m' : (ℓ : Loc Cert.MergeRef.nD Cert.MergeRef.τ Cert.MergeRef.sig) → Buf (Elt Bits) ℓ) (g' : Dev Cert.MergeRef.nD → PrngReg), Pre_Merge m →
    (∀ c : Dev Cert.Merge.nD,
      m ((c.tc : Thread Cert.Merge.nD Cert.Merge.τ).loc Cert.Merge.main_arg0) = Layout.block ⟨2, ![5120, 1024]⟩ ⟨2, ![40960, 1024]⟩ 0 8 c (m' (((0 : Dev Cert.MergeRef.nD).tc : Thread Cert.MergeRef.nD Cert.MergeRef.τ).loc Cert.MergeRef.main_arg0))) →
    ∃ (v0 : Buf (Elt Bits) (((0 : Dev Cert.MergeRef.nD).tc : Thread Cert.MergeRef.nD Cert.MergeRef.τ).loc Cert.MergeRef.main_arg0)),
      θ_run (Cert.Merge.defs (F := Bits)) (onTc (τ := Cert.Merge.τ) (Cert.Merge.main (F := Bits))) ⟨m, fun _ => 0, g⟩ (fun r => ∀ c : Dev Cert.Merge.nD,
          r.2.mem ((c.tc : Thread Cert.Merge.nD Cert.Merge.τ).loc Cert.Merge.main_v1) = Layout.blockN ⟨2, ![10240, 1024]⟩ ⟨2, ![40960, 1024]⟩ (Layout.meshBlock [2, 2, 2] ![[0, 1], []] c) v0
          ∧ r.2.mem ((c.tc : Thread Cert.Merge.nD Cert.Merge.τ).loc Cert.Merge.main_arg0) = m ((c.tc : Thread Cert.Merge.nD Cert.Merge.τ).loc Cert.Merge.main_arg0))
      ∧ θ_run (Cert.MergeRef.defs (F := Bits)) (onTc (τ := Cert.MergeRef.τ) (Cert.MergeRef.main (F := Bits))) ⟨m', fun _ => 0, g'⟩ (fun r =>
          r.2.mem (((0 : Dev Cert.MergeRef.nD).tc : Thread Cert.MergeRef.nD Cert.MergeRef.τ).loc Cert.MergeRef.main_arg0) = v0
          ∧ r.2.mem (((0 : Dev Cert.MergeRef.nD).tc : Thread Cert.MergeRef.nD Cert.MergeRef.τ).loc Cert.MergeRef.main_arg0) = m' (((0 : Dev Cert.MergeRef.nD).tc : Thread Cert.MergeRef.nD Cert.MergeRef.τ).loc Cert.MergeRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![10240, 1024]⟩ ⟨2, ![40960, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![10240, 1024]⟩ ⟨2, ![40960, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.blockN ⟨3, ![4, 10240, 1024]⟩ ⟨3, ![16, 20480, 1024]⟩ (Layout.meshBlock [2, 2, 2] ![[0, 1], [2], []] c) (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.blockN ⟨2, ![296, 1024]⟩ ⟨2, ![1184, 2048]⟩ (Layout.meshBlock [2, 2, 2] ![[0, 1], [2]] c) (m' (((0 : Dev Cert.ExchangeRefIdeal.nD).tc : Thread Cert.ExchangeRefIdeal.nD Cert.ExchangeRefIdeal.τ).loc Cert.ExchangeRefIdeal.main_arg1))) →
    ∃ (v0 : Buf (Elt Ideal) (((0 : Dev Cert.ExchangeRefIdeal.nD).tc : Thread Cert.ExchangeRefIdeal.nD Cert.ExchangeRefIdeal.τ).loc Cert.ExchangeRefIdeal.main_v2)) (v1 : Buf (Elt Ideal) (((0 : Dev Cert.ExchangeRefIdeal.nD).tc : Thread Cert.ExchangeRefIdeal.nD Cert.ExchangeRefIdeal.τ).loc Cert.ExchangeRefIdeal.main_v5)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.blockN ⟨3, ![4, 5120, 1024]⟩ ⟨3, ![16, 10240, 1024]⟩ (Layout.meshBlock [2, 2, 2] ![[0, 1], [2], []] c) v0
          ∧ r.2.mem ((c.tc : Thread Cert.ExchangeIdeal.nD Cert.ExchangeIdeal.τ).loc Cert.ExchangeIdeal.main_v1_1) = Layout.blockN ⟨2, ![296, 1024]⟩ ⟨2, ![1184, 2048]⟩ (Layout.meshBlock [2, 2, 2] ![[0, 1], [2]] c) v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v2) = v0
          ∧ r.2.mem (((0 : Dev Cert.ExchangeRefIdeal.nD).tc : Thread Cert.ExchangeRefIdeal.nD Cert.ExchangeRefIdeal.τ).loc Cert.ExchangeRefIdeal.main_v5) = v1
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.blockN ⟨3, ![4, 10240, 1024]⟩ ⟨3, ![16, 20480, 1024]⟩ (Layout.meshBlock [2, 2, 2] ![[0, 1], [2], []] c) (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.blockN ⟨2, ![296, 1024]⟩ ⟨2, ![1184, 2048]⟩ (Layout.meshBlock [2, 2, 2] ![[0, 1], [2]] c) (m' (((0 : Dev Cert.ExchangeRef.nD).tc : Thread Cert.ExchangeRef.nD Cert.ExchangeRef.τ).loc Cert.ExchangeRef.main_arg1))) →
    ∃ (v0 : Buf (Elt Bits) (((0 : Dev Cert.ExchangeRef.nD).tc : Thread Cert.ExchangeRef.nD Cert.ExchangeRef.τ).loc Cert.ExchangeRef.main_v2)) (v1 : Buf (Elt Bits) (((0 : Dev Cert.ExchangeRef.nD).tc : Thread Cert.ExchangeRef.nD Cert.ExchangeRef.τ).loc Cert.ExchangeRef.main_v5)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.blockN ⟨3, ![4, 5120, 1024]⟩ ⟨3, ![16, 10240, 1024]⟩ (Layout.meshBlock [2, 2, 2] ![[0, 1], [2], []] c) v0
          ∧ r.2.mem ((c.tc : Thread Cert.Exchange.nD Cert.Exchange.τ).loc Cert.Exchange.main_v1_1) = Layout.blockN ⟨2, ![296, 1024]⟩ ⟨2, ![1184, 2048]⟩ (Layout.meshBlock [2, 2, 2] ![[0, 1], [2]] c) v1
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v2) = v0
          ∧ r.2.mem (((0 : Dev Cert.ExchangeRef.nD).tc : Thread Cert.ExchangeRef.nD Cert.ExchangeRef.τ).loc Cert.ExchangeRef.main_v5) = v1
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.blockN ⟨3, ![4, 5120, 1024]⟩ ⟨3, ![16, 10240, 1024]⟩ (Layout.meshBlock [2, 2, 2] ![[0, 1], [2], []] c) (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨2, ![5120, 1024]⟩ ⟨2, ![40960, 1024]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.blockN ⟨2, ![296, 1024]⟩ ⟨2, ![1184, 2048]⟩ (Layout.meshBlock [2, 2, 2] ![[0, 1], [2]] c) (m' (((0 : Dev Cert.ChipsRefIdeal.nD).tc : Thread Cert.ChipsRefIdeal.nD Cert.ChipsRefIdeal.τ).loc Cert.ChipsRefIdeal.main_arg2))) →
    ∃ (v0 : Buf (Elt Ideal) (((0 : Dev Cert.ChipsRefIdeal.nD).tc : Thread Cert.ChipsRefIdeal.nD Cert.ChipsRefIdeal.τ).loc Cert.ChipsRefIdeal.main_v11)) (v1 : Buf (Elt Ideal) (((0 : Dev Cert.ChipsRefIdeal.nD).tc : Thread Cert.ChipsRefIdeal.nD Cert.ChipsRefIdeal.τ).loc Cert.ChipsRefIdeal.main_v13)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v19) = Layout.block ⟨2, ![5120, 1024]⟩ ⟨2, ![40960, 1024]⟩ 0 8 c v0
          ∧ r.2.mem ((c.tc : Thread Cert.ChipsIdeal.nD Cert.ChipsIdeal.τ).loc Cert.ChipsIdeal.main_v20) = Layout.blockN ⟨2, ![296, 1024]⟩ ⟨2, ![296, 2048]⟩ (Layout.meshBlock [2, 2, 2] ![[], [2]] c) v1
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v11) = v0
          ∧ r.2.mem (((0 : Dev Cert.ChipsRefIdeal.nD).tc : Thread Cert.ChipsRefIdeal.nD Cert.ChipsRefIdeal.τ).loc Cert.ChipsRefIdeal.main_v13) = v1
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2))

def preserves_Add2_Add2Ideal : Prop :=
  True

def algebraic_Add2Ideal_Add2RefIdeal [hAdd2Ideal : Cert.Add2Ideal.Facts] [hAdd2RefIdeal : Cert.Add2RefIdeal.Facts] : Prop :=
  ∀ (m : (ℓ : Loc Cert.Add2Ideal.nD Cert.Add2Ideal.τ Cert.Add2Ideal.sig) → Buf (Elt Ideal) ℓ) (g : Dev Cert.Add2Ideal.nD → PrngReg)
    (m' : (ℓ : Loc Cert.Add2RefIdeal.nD Cert.Add2RefIdeal.τ Cert.Add2RefIdeal.sig) → Buf (Elt Ideal) ℓ) (g' : Dev Cert.Add2RefIdeal.nD → PrngReg), Pre_Add2Ideal m →
    (∀ c : Dev Cert.Add2Ideal.nD,
      m' ((c.tc : Thread Cert.Add2RefIdeal.nD Cert.Add2RefIdeal.τ).loc Cert.Add2RefIdeal.main_arg0) = m ((c.tc : Thread Cert.Add2Ideal.nD Cert.Add2Ideal.τ).loc Cert.Add2Ideal.main_arg0)
      ∧ m' ((c.tc : Thread Cert.Add2RefIdeal.nD Cert.Add2RefIdeal.τ).loc Cert.Add2RefIdeal.main_arg1) = m ((c.tc : Thread Cert.Add2Ideal.nD Cert.Add2Ideal.τ).loc Cert.Add2Ideal.main_arg1)) →
    ∃ (v0 : (c : Dev Cert.Add2Ideal.nD) → Buf (Elt Ideal) ((c.tc : Thread Cert.Add2Ideal.nD Cert.Add2Ideal.τ).loc Cert.Add2Ideal.main_v0)),
      θ_run (Cert.Add2Ideal.defs (F := Ideal)) (onTc (τ := Cert.Add2Ideal.τ) (Cert.Add2Ideal.main (F := Ideal))) ⟨m, fun _ => 0, g⟩ (fun r => ∀ c : Dev Cert.Add2Ideal.nD,
          r.2.mem ((c.tc : Thread Cert.Add2Ideal.nD Cert.Add2Ideal.τ).loc Cert.Add2Ideal.main_v0) = v0 c
          ∧ r.2.mem ((c.tc : Thread Cert.Add2Ideal.nD Cert.Add2Ideal.τ).loc Cert.Add2Ideal.main_arg0) = m ((c.tc : Thread Cert.Add2Ideal.nD Cert.Add2Ideal.τ).loc Cert.Add2Ideal.main_arg0)
          ∧ r.2.mem ((c.tc : Thread Cert.Add2Ideal.nD Cert.Add2Ideal.τ).loc Cert.Add2Ideal.main_arg1) = m ((c.tc : Thread Cert.Add2Ideal.nD Cert.Add2Ideal.τ).loc Cert.Add2Ideal.main_arg1))
      ∧ θ_run (Cert.Add2RefIdeal.defs (F := Ideal)) (onTc (τ := Cert.Add2RefIdeal.τ) (Cert.Add2RefIdeal.main (F := Ideal))) ⟨m', fun _ => 0, g'⟩ (fun r => ∀ c : Dev Cert.Add2RefIdeal.nD,
          r.2.mem ((c.tc : Thread Cert.Add2RefIdeal.nD Cert.Add2RefIdeal.τ).loc Cert.Add2RefIdeal.main_v0) = v0 c
          ∧ r.2.mem ((c.tc : Thread Cert.Add2RefIdeal.nD Cert.Add2RefIdeal.τ).loc Cert.Add2RefIdeal.main_arg0) = m' ((c.tc : Thread Cert.Add2RefIdeal.nD Cert.Add2RefIdeal.τ).loc Cert.Add2RefIdeal.main_arg0)
          ∧ r.2.mem ((c.tc : Thread Cert.Add2RefIdeal.nD Cert.Add2RefIdeal.τ).loc Cert.Add2RefIdeal.main_arg1) = m' ((c.tc : Thread Cert.Add2RefIdeal.nD Cert.Add2RefIdeal.τ).loc Cert.Add2RefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m ((c.tc : Thread Cert.LossIdeal.nD Cert.LossIdeal.τ).loc Cert.LossIdeal.main_arg0) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg0))
      ∧ m ((c.tc : Thread Cert.LossIdeal.nD Cert.LossIdeal.τ).loc Cert.LossIdeal.main_arg1) = Layout.block ⟨2, ![8192, 1024]⟩ ⟨2, ![65536, 1024]⟩ 0 8 c (m' (((0 : Dev Cert.LossRefIdeal.nD).tc : Thread Cert.LossRefIdeal.nD Cert.LossRefIdeal.τ).loc Cert.LossRefIdeal.main_arg1))) →
    ∃ (v0 : Buf (Elt Ideal) (((0 : Dev Cert.LossRefIdeal.nD).tc : Thread Cert.LossRefIdeal.nD Cert.LossRefIdeal.τ).loc Cert.LossRefIdeal.main_v2)) (v1 : Buf (Elt Ideal) (((0 : Dev Cert.LossRefIdeal.nD).tc : Thread Cert.LossRefIdeal.nD Cert.LossRefIdeal.τ).loc Cert.LossRefIdeal.main_v8)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = Layout.block ⟨2, ![8192, 1024]⟩ ⟨2, ![65536, 1024]⟩ 0 8 c v0
          ∧ r.2.mem ((c.tc : Thread Cert.LossIdeal.nD Cert.LossIdeal.τ).loc Cert.LossIdeal.main_v5) = v1
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r =>
          r.2.mem (((0 : Dev Cert.LossRefIdeal.nD).tc : Thread Cert.LossRefIdeal.nD Cert.LossRefIdeal.τ).loc Cert.LossRefIdeal.main_v2) = v0
          ∧ r.2.mem (((0 : Dev Cert.LossRefIdeal.nD).tc : Thread Cert.LossRefIdeal.nD Cert.LossRefIdeal.τ).loc Cert.LossRefIdeal.main_v8) = v1
          ∧ r.2.mem (((0 : Dev Cert.LossRefIdeal.nD).tc : Thread Cert.LossRefIdeal.nD Cert.LossRefIdeal.τ).loc Cert.LossRefIdeal.main_arg0) = m' (((0 : Dev Cert.LossRefIdeal.nD).tc : Thread Cert.LossRefIdeal.nD Cert.LossRefIdeal.τ).loc Cert.LossRefIdeal.main_arg0)
          ∧ r.2.mem (((0 : Dev Cert.LossRefIdeal.nD).tc : Thread Cert.LossRefIdeal.nD Cert.LossRefIdeal.τ).loc Cert.LossRefIdeal.main_arg1) = m' (((0 : Dev Cert.LossRefIdeal.nD).tc : Thread Cert.LossRefIdeal.nD Cert.LossRefIdeal.τ).loc Cert.LossRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v1) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2))

def preserves_ProjMain_ProjMainIdeal : Prop :=
  True

def algebraic_ProjMainIdeal_ProjMainRefIdeal [hProjMainIdeal : Cert.ProjMainIdeal.Facts] [hProjMainRefIdeal : Cert.ProjMainRefIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainRefIdeal.nD Cert.ProjMainRefIdeal.τ Cert.ProjMainRefIdeal.sig) → Buf (Elt Ideal) ℓ) (g' : Dev Cert.ProjMainRefIdeal.nD → PrngReg), Pre_ProjMainIdeal m →
    (∀ c : Dev Cert.ProjMainIdeal.nD,
      m' ((c.tc : Thread Cert.ProjMainRefIdeal.nD Cert.ProjMainRefIdeal.τ).loc Cert.ProjMainRefIdeal.main_arg0) = m ((c.tc : Thread Cert.ProjMainIdeal.nD Cert.ProjMainIdeal.τ).loc Cert.ProjMainIdeal.main_arg0)
      ∧ m' ((c.tc : Thread Cert.ProjMainRefIdeal.nD Cert.ProjMainRefIdeal.τ).loc Cert.ProjMainRefIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v0)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v0) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainRefIdeal.defs (F := Ideal)) (onTc (τ := Cert.ProjMainRefIdeal.τ) (Cert.ProjMainRefIdeal.main (F := Ideal))) ⟨m', fun _ => 0, g'⟩ (fun r => ∀ c : Dev Cert.ProjMainRefIdeal.nD,
          r.2.mem ((c.tc : Thread Cert.ProjMainRefIdeal.nD Cert.ProjMainRefIdeal.τ).loc Cert.ProjMainRefIdeal.main_v0) = v0 c
          ∧ r.2.mem ((c.tc : Thread Cert.ProjMainRefIdeal.nD Cert.ProjMainRefIdeal.τ).loc Cert.ProjMainRefIdeal.main_arg0) = m' ((c.tc : Thread Cert.ProjMainRefIdeal.nD Cert.ProjMainRefIdeal.τ).loc Cert.ProjMainRefIdeal.main_arg0)
          ∧ r.2.mem ((c.tc : Thread Cert.ProjMainRefIdeal.nD Cert.ProjMainRefIdeal.τ).loc Cert.ProjMainRefIdeal.main_arg1) = m' ((c.tc : Thread Cert.ProjMainRefIdeal.nD Cert.ProjMainRefIdeal.τ).loc Cert.ProjMainRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v0) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v0) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v0) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_ProjGatesDx_ProjGatesDxIdeal : Prop :=
  True

def algebraic_ProjGatesDxIdeal_ProjGatesDxRefIdeal [hProjGatesDxIdeal : Cert.ProjGatesDxIdeal.Facts] [hProjGatesDxRefIdeal : Cert.ProjGatesDxRefIdeal.Facts] : Prop :=
  ∀ (m : (ℓ : Loc Cert.ProjGatesDxIdeal.nD Cert.ProjGatesDxIdeal.τ Cert.ProjGatesDxIdeal.sig) → Buf (Elt Ideal) ℓ) (g : Dev Cert.ProjGatesDxIdeal.nD → PrngReg)
    (m' : (ℓ : Loc Cert.ProjGatesDxRefIdeal.nD Cert.ProjGatesDxRefIdeal.τ Cert.ProjGatesDxRefIdeal.sig) → Buf (Elt Ideal) ℓ) (g' : Dev Cert.ProjGatesDxRefIdeal.nD → PrngReg), Pre_ProjGatesDxIdeal m →
    (∀ c : Dev Cert.ProjGatesDxIdeal.nD,
      m' ((c.tc : Thread Cert.ProjGatesDxRefIdeal.nD Cert.ProjGatesDxRefIdeal.τ).loc Cert.ProjGatesDxRefIdeal.main_arg0) = m ((c.tc : Thread Cert.ProjGatesDxIdeal.nD Cert.ProjGatesDxIdeal.τ).loc Cert.ProjGatesDxIdeal.main_arg0)
      ∧ m' ((c.tc : Thread Cert.ProjGatesDxRefIdeal.nD Cert.ProjGatesDxRefIdeal.τ).loc Cert.ProjGatesDxRefIdeal.main_arg1) = m ((c.tc : Thread Cert.ProjGatesDxIdeal.nD Cert.ProjGatesDxIdeal.τ).loc Cert.ProjGatesDxIdeal.main_arg1)
      ∧ m' ((c.tc : Thread Cert.ProjGatesDxRefIdeal.nD Cert.ProjGatesDxRefIdeal.τ).loc Cert.ProjGatesDxRefIdeal.main_arg2) = m ((c.tc : Thread Cert.ProjGatesDxIdeal.nD Cert.ProjGatesDxIdeal.τ).loc Cert.ProjGatesDxIdeal.main_arg2)) →
    ∃ (v0 : (c : Dev Cert.ProjGatesDxIdeal.nD) → Buf (Elt Ideal) ((c.tc : Thread Cert.ProjGatesDxIdeal.nD Cert.ProjGatesDxIdeal.τ).loc Cert.ProjGatesDxIdeal.main_v0)),
      θ_run (Cert.ProjGatesDxIdeal.defs (F := Ideal)) (onTc (τ := Cert.ProjGatesDxIdeal.τ) (Cert.ProjGatesDxIdeal.main (F := Ideal))) ⟨m, fun _ => 0, g⟩ (fun r => ∀ c : Dev Cert.ProjGatesDxIdeal.nD,
          r.2.mem ((c.tc : Thread Cert.ProjGatesDxIdeal.nD Cert.ProjGatesDxIdeal.τ).loc Cert.ProjGatesDxIdeal.main_v0) = v0 c
          ∧ r.2.mem ((c.tc : Thread Cert.ProjGatesDxIdeal.nD Cert.ProjGatesDxIdeal.τ).loc Cert.ProjGatesDxIdeal.main_arg0) = m ((c.tc : Thread Cert.ProjGatesDxIdeal.nD Cert.ProjGatesDxIdeal.τ).loc Cert.ProjGatesDxIdeal.main_arg0)
          ∧ r.2.mem ((c.tc : Thread Cert.ProjGatesDxIdeal.nD Cert.ProjGatesDxIdeal.τ).loc Cert.ProjGatesDxIdeal.main_arg1) = m ((c.tc : Thread Cert.ProjGatesDxIdeal.nD Cert.ProjGatesDxIdeal.τ).loc Cert.ProjGatesDxIdeal.main_arg1)
          ∧ r.2.mem ((c.tc : Thread Cert.ProjGatesDxIdeal.nD Cert.ProjGatesDxIdeal.τ).loc Cert.ProjGatesDxIdeal.main_arg2) = m ((c.tc : Thread Cert.ProjGatesDxIdeal.nD Cert.ProjGatesDxIdeal.τ).loc Cert.ProjGatesDxIdeal.main_arg2))
      ∧ θ_run (Cert.ProjGatesDxRefIdeal.defs (F := Ideal)) (onTc (τ := Cert.ProjGatesDxRefIdeal.τ) (Cert.ProjGatesDxRefIdeal.main (F := Ideal))) ⟨m', fun _ => 0, g'⟩ (fun r => ∀ c : Dev Cert.ProjGatesDxRefIdeal.nD,
          r.2.mem ((c.tc : Thread Cert.ProjGatesDxRefIdeal.nD Cert.ProjGatesDxRefIdeal.τ).loc Cert.ProjGatesDxRefIdeal.main_v3) = v0 c
          ∧ r.2.mem ((c.tc : Thread Cert.ProjGatesDxRefIdeal.nD Cert.ProjGatesDxRefIdeal.τ).loc Cert.ProjGatesDxRefIdeal.main_arg0) = m' ((c.tc : Thread Cert.ProjGatesDxRefIdeal.nD Cert.ProjGatesDxRefIdeal.τ).loc Cert.ProjGatesDxRefIdeal.main_arg0)
          ∧ r.2.mem ((c.tc : Thread Cert.ProjGatesDxRefIdeal.nD Cert.ProjGatesDxRefIdeal.τ).loc Cert.ProjGatesDxRefIdeal.main_arg1) = m' ((c.tc : Thread Cert.ProjGatesDxRefIdeal.nD Cert.ProjGatesDxRefIdeal.τ).loc Cert.ProjGatesDxRefIdeal.main_arg1)
          ∧ r.2.mem ((c.tc : Thread Cert.ProjGatesDxRefIdeal.nD Cert.ProjGatesDxRefIdeal.τ).loc Cert.ProjGatesDxRefIdeal.main_arg2) = m' ((c.tc : Thread Cert.ProjGatesDxRefIdeal.nD Cert.ProjGatesDxRefIdeal.τ).loc Cert.ProjGatesDxRefIdeal.main_arg2))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v3) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v0) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v0) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v0) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_ProjMainDw_ProjMainDwIdeal : Prop :=
  True

def algebraic_ProjMainDwIdeal_ProjMainDwRefIdeal [hProjMainDwIdeal : Cert.ProjMainDwIdeal.Facts] [hProjMainDwRefIdeal : Cert.ProjMainDwRefIdeal.Facts] : Prop :=
  ∀ (m : (ℓ : Loc Cert.ProjMainDwIdeal.nD Cert.ProjMainDwIdeal.τ Cert.ProjMainDwIdeal.sig) → Buf (Elt Ideal) ℓ) (g : Dev Cert.ProjMainDwIdeal.nD → PrngReg)
    (m' : (ℓ : Loc Cert.ProjMainDwRefIdeal.nD Cert.ProjMainDwRefIdeal.τ Cert.ProjMainDwRefIdeal.sig) → Buf (Elt Ideal) ℓ) (g' : Dev Cert.ProjMainDwRefIdeal.nD → PrngReg), Pre_ProjMainDwIdeal m →
    (∀ c : Dev Cert.ProjMainDwIdeal.nD,
      m' ((c.tc : Thread Cert.ProjMainDwRefIdeal.nD Cert.ProjMainDwRefIdeal.τ).loc Cert.ProjMainDwRefIdeal.main_arg0) = m ((c.tc : Thread Cert.ProjMainDwIdeal.nD Cert.ProjMainDwIdeal.τ).loc Cert.ProjMainDwIdeal.main_arg0)
      ∧ m' ((c.tc : Thread Cert.ProjMainDwRefIdeal.nD Cert.ProjMainDwRefIdeal.τ).loc Cert.ProjMainDwRefIdeal.main_arg1) = m ((c.tc : Thread Cert.ProjMainDwIdeal.nD Cert.ProjMainDwIdeal.τ).loc Cert.ProjMainDwIdeal.main_arg1)) →
    ∃ (v0 : (c : Dev Cert.ProjMainDwIdeal.nD) → Buf (Elt Ideal) ((c.tc : Thread Cert.ProjMainDwIdeal.nD Cert.ProjMainDwIdeal.τ).loc Cert.ProjMainDwIdeal.main_v0)),
      θ_run (Cert.ProjMainDwIdeal.defs (F := Ideal)) (onTc (τ := Cert.ProjMainDwIdeal.τ) (Cert.ProjMainDwIdeal.main (F := Ideal))) ⟨m, fun _ => 0, g⟩ (fun r => ∀ c : Dev Cert.ProjMainDwIdeal.nD,
          r.2.mem ((c.tc : Thread Cert.ProjMainDwIdeal.nD Cert.ProjMainDwIdeal.τ).loc Cert.ProjMainDwIdeal.main_v0) = v0 c
          ∧ r.2.mem ((c.tc : Thread Cert.ProjMainDwIdeal.nD Cert.ProjMainDwIdeal.τ).loc Cert.ProjMainDwIdeal.main_arg0) = m ((c.tc : Thread Cert.ProjMainDwIdeal.nD Cert.ProjMainDwIdeal.τ).loc Cert.ProjMainDwIdeal.main_arg0)
          ∧ r.2.mem ((c.tc : Thread Cert.ProjMainDwIdeal.nD Cert.ProjMainDwIdeal.τ).loc Cert.ProjMainDwIdeal.main_arg1) = m ((c.tc : Thread Cert.ProjMainDwIdeal.nD Cert.ProjMainDwIdeal.τ).loc Cert.ProjMainDwIdeal.main_arg1))
      ∧ θ_run (Cert.ProjMainDwRefIdeal.defs (F := Ideal)) (onTc (τ := Cert.ProjMainDwRefIdeal.τ) (Cert.ProjMainDwRefIdeal.main (F := Ideal))) ⟨m', fun _ => 0, g'⟩ (fun r => ∀ c : Dev Cert.ProjMainDwRefIdeal.nD,
          r.2.mem ((c.tc : Thread Cert.ProjMainDwRefIdeal.nD Cert.ProjMainDwRefIdeal.τ).loc Cert.ProjMainDwRefIdeal.main_v0) = v0 c
          ∧ r.2.mem ((c.tc : Thread Cert.ProjMainDwRefIdeal.nD Cert.ProjMainDwRefIdeal.τ).loc Cert.ProjMainDwRefIdeal.main_arg0) = m' ((c.tc : Thread Cert.ProjMainDwRefIdeal.nD Cert.ProjMainDwRefIdeal.τ).loc Cert.ProjMainDwRefIdeal.main_arg0)
          ∧ r.2.mem ((c.tc : Thread Cert.ProjMainDwRefIdeal.nD Cert.ProjMainDwRefIdeal.τ).loc Cert.ProjMainDwRefIdeal.main_arg1) = m' ((c.tc : Thread Cert.ProjMainDwRefIdeal.nD Cert.ProjMainDwRefIdeal.τ).loc Cert.ProjMainDwRefIdeal.main_arg1))

def preserves_ProjGatesDw_ProjGatesDwIdeal : Prop :=
  True

def algebraic_ProjGatesDwIdeal_ProjGatesDwRefIdeal [hProjGatesDwIdeal : Cert.ProjGatesDwIdeal.Facts] [hProjGatesDwRefIdeal : Cert.ProjGatesDwRefIdeal.Facts] : Prop :=
  ∀ (m : (ℓ : Loc Cert.ProjGatesDwIdeal.nD Cert.ProjGatesDwIdeal.τ Cert.ProjGatesDwIdeal.sig) → Buf (Elt Ideal) ℓ) (g : Dev Cert.ProjGatesDwIdeal.nD → PrngReg)
    (m' : (ℓ : Loc Cert.ProjGatesDwRefIdeal.nD Cert.ProjGatesDwRefIdeal.τ Cert.ProjGatesDwRefIdeal.sig) → Buf (Elt Ideal) ℓ) (g' : Dev Cert.ProjGatesDwRefIdeal.nD → PrngReg), Pre_ProjGatesDwIdeal m →
    (∀ c : Dev Cert.ProjGatesDwIdeal.nD,
      m' ((c.tc : Thread Cert.ProjGatesDwRefIdeal.nD Cert.ProjGatesDwRefIdeal.τ).loc Cert.ProjGatesDwRefIdeal.main_arg0) = m ((c.tc : Thread Cert.ProjGatesDwIdeal.nD Cert.ProjGatesDwIdeal.τ).loc Cert.ProjGatesDwIdeal.main_arg0)
      ∧ m' ((c.tc : Thread Cert.ProjGatesDwRefIdeal.nD Cert.ProjGatesDwRefIdeal.τ).loc Cert.ProjGatesDwRefIdeal.main_arg1) = m ((c.tc : Thread Cert.ProjGatesDwIdeal.nD Cert.ProjGatesDwIdeal.τ).loc Cert.ProjGatesDwIdeal.main_arg1)) →
    ∃ (v0 : (c : Dev Cert.ProjGatesDwIdeal.nD) → Buf (Elt Ideal) ((c.tc : Thread Cert.ProjGatesDwIdeal.nD Cert.ProjGatesDwIdeal.τ).loc Cert.ProjGatesDwIdeal.main_v0)),
      θ_run (Cert.ProjGatesDwIdeal.defs (F := Ideal)) (onTc (τ := Cert.ProjGatesDwIdeal.τ) (Cert.ProjGatesDwIdeal.main (F := Ideal))) ⟨m, fun _ => 0, g⟩ (fun r => ∀ c : Dev Cert.ProjGatesDwIdeal.nD,
          r.2.mem ((c.tc : Thread Cert.ProjGatesDwIdeal.nD Cert.ProjGatesDwIdeal.τ).loc Cert.ProjGatesDwIdeal.main_v0) = v0 c
          ∧ r.2.mem ((c.tc : Thread Cert.ProjGatesDwIdeal.nD Cert.ProjGatesDwIdeal.τ).loc Cert.ProjGatesDwIdeal.main_arg0) = m ((c.tc : Thread Cert.ProjGatesDwIdeal.nD Cert.ProjGatesDwIdeal.τ).loc Cert.ProjGatesDwIdeal.main_arg0)
          ∧ r.2.mem ((c.tc : Thread Cert.ProjGatesDwIdeal.nD Cert.ProjGatesDwIdeal.τ).loc Cert.ProjGatesDwIdeal.main_arg1) = m ((c.tc : Thread Cert.ProjGatesDwIdeal.nD Cert.ProjGatesDwIdeal.τ).loc Cert.ProjGatesDwIdeal.main_arg1))
      ∧ θ_run (Cert.ProjGatesDwRefIdeal.defs (F := Ideal)) (onTc (τ := Cert.ProjGatesDwRefIdeal.τ) (Cert.ProjGatesDwRefIdeal.main (F := Ideal))) ⟨m', fun _ => 0, g'⟩ (fun r => ∀ c : Dev Cert.ProjGatesDwRefIdeal.nD,
          r.2.mem ((c.tc : Thread Cert.ProjGatesDwRefIdeal.nD Cert.ProjGatesDwRefIdeal.τ).loc Cert.ProjGatesDwRefIdeal.main_v0) = v0 c
          ∧ r.2.mem ((c.tc : Thread Cert.ProjGatesDwRefIdeal.nD Cert.ProjGatesDwRefIdeal.τ).loc Cert.ProjGatesDwRefIdeal.main_arg0) = m' ((c.tc : Thread Cert.ProjGatesDwRefIdeal.nD Cert.ProjGatesDwRefIdeal.τ).loc Cert.ProjGatesDwRefIdeal.main_arg0)
          ∧ r.2.mem ((c.tc : Thread Cert.ProjGatesDwRefIdeal.nD Cert.ProjGatesDwRefIdeal.τ).loc Cert.ProjGatesDwRefIdeal.main_arg1) = m' ((c.tc : Thread Cert.ProjGatesDwRefIdeal.nD Cert.ProjGatesDwRefIdeal.τ).loc Cert.ProjGatesDwRefIdeal.main_arg1))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v4) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v19) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_ResLn_ResLnIdeal : Prop :=
  True

def algebraic_ResLnIdeal_ResLnRefIdeal [hResLnIdeal : Cert.ResLnIdeal.Facts] [hResLnRefIdeal : Cert.ResLnRefIdeal.Facts] : Prop :=
  ∀ (m : (ℓ : Loc Cert.ResLnIdeal.nD Cert.ResLnIdeal.τ Cert.ResLnIdeal.sig) → Buf (Elt Ideal) ℓ) (g : Dev Cert.ResLnIdeal.nD → PrngReg)
    (m' : (ℓ : Loc Cert.ResLnRefIdeal.nD Cert.ResLnRefIdeal.τ Cert.ResLnRefIdeal.sig) → Buf (Elt Ideal) ℓ) (g' : Dev Cert.ResLnRefIdeal.nD → PrngReg), Pre_ResLnIdeal m →
    (∀ c : Dev Cert.ResLnIdeal.nD,
      m' ((c.tc : Thread Cert.ResLnRefIdeal.nD Cert.ResLnRefIdeal.τ).loc Cert.ResLnRefIdeal.main_arg0) = m ((c.tc : Thread Cert.ResLnIdeal.nD Cert.ResLnIdeal.τ).loc Cert.ResLnIdeal.main_arg0)
      ∧ m' ((c.tc : Thread Cert.ResLnRefIdeal.nD Cert.ResLnRefIdeal.τ).loc Cert.ResLnRefIdeal.main_arg1) = m ((c.tc : Thread Cert.ResLnIdeal.nD Cert.ResLnIdeal.τ).loc Cert.ResLnIdeal.main_arg1)
      ∧ m' ((c.tc : Thread Cert.ResLnRefIdeal.nD Cert.ResLnRefIdeal.τ).loc Cert.ResLnRefIdeal.main_arg2) = m ((c.tc : Thread Cert.ResLnIdeal.nD Cert.ResLnIdeal.τ).loc Cert.ResLnIdeal.main_arg2)
      ∧ m' ((c.tc : Thread Cert.ResLnRefIdeal.nD Cert.ResLnRefIdeal.τ).loc Cert.ResLnRefIdeal.main_arg3) = m ((c.tc : Thread Cert.ResLnIdeal.nD Cert.ResLnIdeal.τ).loc Cert.ResLnIdeal.main_arg3)) →
    ∃ (v0 : (c : Dev Cert.ResLnIdeal.nD) → Buf (Elt Ideal) ((c.tc : Thread Cert.ResLnIdeal.nD Cert.ResLnIdeal.τ).loc Cert.ResLnIdeal.main_v0_0)) (v1 : (c : Dev Cert.ResLnIdeal.nD) → Buf (Elt Ideal) ((c.tc : Thread Cert.ResLnIdeal.nD Cert.ResLnIdeal.τ).loc Cert.ResLnIdeal.main_v0_1)) (v2 : (c : Dev Cert.ResLnIdeal.nD) → Buf (Elt Ideal) ((c.tc : Thread Cert.ResLnIdeal.nD Cert.ResLnIdeal.τ).loc Cert.ResLnIdeal.main_v0_2)),
      θ_run (Cert.ResLnIdeal.defs (F := Ideal)) (onTc (τ := Cert.ResLnIdeal.τ) (Cert.ResLnIdeal.main (F := Ideal))) ⟨m, fun _ => 0, g⟩ (fun r => ∀ c : Dev Cert.ResLnIdeal.nD,
          r.2.mem ((c.tc : Thread Cert.ResLnIdeal.nD Cert.ResLnIdeal.τ).loc Cert.ResLnIdeal.main_v0_0) = v0 c
          ∧ r.2.mem ((c.tc : Thread Cert.ResLnIdeal.nD Cert.ResLnIdeal.τ).loc Cert.ResLnIdeal.main_v0_1) = v1 c
          ∧ r.2.mem ((c.tc : Thread Cert.ResLnIdeal.nD Cert.ResLnIdeal.τ).loc Cert.ResLnIdeal.main_v0_2) = v2 c
          ∧ r.2.mem ((c.tc : Thread Cert.ResLnIdeal.nD Cert.ResLnIdeal.τ).loc Cert.ResLnIdeal.main_arg0) = m ((c.tc : Thread Cert.ResLnIdeal.nD Cert.ResLnIdeal.τ).loc Cert.ResLnIdeal.main_arg0)
          ∧ r.2.mem ((c.tc : Thread Cert.ResLnIdeal.nD Cert.ResLnIdeal.τ).loc Cert.ResLnIdeal.main_arg1) = m ((c.tc : Thread Cert.ResLnIdeal.nD Cert.ResLnIdeal.τ).loc Cert.ResLnIdeal.main_arg1)
          ∧ r.2.mem ((c.tc : Thread Cert.ResLnIdeal.nD Cert.ResLnIdeal.τ).loc Cert.ResLnIdeal.main_arg2) = m ((c.tc : Thread Cert.ResLnIdeal.nD Cert.ResLnIdeal.τ).loc Cert.ResLnIdeal.main_arg2)
          ∧ r.2.mem ((c.tc : Thread Cert.ResLnIdeal.nD Cert.ResLnIdeal.τ).loc Cert.ResLnIdeal.main_arg3) = m ((c.tc : Thread Cert.ResLnIdeal.nD Cert.ResLnIdeal.τ).loc Cert.ResLnIdeal.main_arg3))
      ∧ θ_run (Cert.ResLnRefIdeal.defs (F := Ideal)) (onTc (τ := Cert.ResLnRefIdeal.τ) (Cert.ResLnRefIdeal.main (F := Ideal))) ⟨m', fun _ => 0, g'⟩ (fun r => ∀ c : Dev Cert.ResLnRefIdeal.nD,
          r.2.mem ((c.tc : Thread Cert.ResLnRefIdeal.nD Cert.ResLnRefIdeal.τ).loc Cert.ResLnRefIdeal.main_v2) = v0 c
          ∧ r.2.mem ((c.tc : Thread Cert.ResLnRefIdeal.nD Cert.ResLnRefIdeal.τ).loc Cert.ResLnRefIdeal.main_v24) = v1 c
          ∧ r.2.mem ((c.tc : Thread Cert.ResLnRefIdeal.nD Cert.ResLnRefIdeal.τ).loc Cert.ResLnRefIdeal.main_v25) = v2 c
          ∧ r.2.mem ((c.tc : Thread Cert.ResLnRefIdeal.nD Cert.ResLnRefIdeal.τ).loc Cert.ResLnRefIdeal.main_arg0) = m' ((c.tc : Thread Cert.ResLnRefIdeal.nD Cert.ResLnRefIdeal.τ).loc Cert.ResLnRefIdeal.main_arg0)
          ∧ r.2.mem ((c.tc : Thread Cert.ResLnRefIdeal.nD Cert.ResLnRefIdeal.τ).loc Cert.ResLnRefIdeal.main_arg1) = m' ((c.tc : Thread Cert.ResLnRefIdeal.nD Cert.ResLnRefIdeal.τ).loc Cert.ResLnRefIdeal.main_arg1)
          ∧ r.2.mem ((c.tc : Thread Cert.ResLnRefIdeal.nD Cert.ResLnRefIdeal.τ).loc Cert.ResLnRefIdeal.main_arg2) = m' ((c.tc : Thread Cert.ResLnRefIdeal.nD Cert.ResLnRefIdeal.τ).loc Cert.ResLnRefIdeal.main_arg2)
          ∧ r.2.mem ((c.tc : Thread Cert.ResLnRefIdeal.nD Cert.ResLnRefIdeal.τ).loc Cert.ResLnRefIdeal.main_arg3) = m' ((c.tc : Thread Cert.ResLnRefIdeal.nD Cert.ResLnRefIdeal.τ).loc Cert.ResLnRefIdeal.main_arg3))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v35) = v0 c
          ∧ r.2.mem ((c.tc : Thread Cert.LnBwdRefIdeal.nD Cert.LnBwdRefIdeal.τ).loc Cert.LnBwdRefIdeal.main_v36) = v1 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_GateSgu_GateSguIdeal : Prop :=
  True

def algebraic_GateSguIdeal_GateSguRefIdeal [hGateSguIdeal : Cert.GateSguIdeal.Facts] [hGateSguRefIdeal : Cert.GateSguRefIdeal.Facts] : Prop :=
  ∀ (m : (ℓ : Loc Cert.GateSguIdeal.nD Cert.GateSguIdeal.τ Cert.GateSguIdeal.sig) → Buf (Elt Ideal) ℓ) (g : Dev Cert.GateSguIdeal.nD → PrngReg)
    (m' : (ℓ : Loc Cert.GateSguRefIdeal.nD Cert.GateSguRefIdeal.τ Cert.GateSguRefIdeal.sig) → Buf (Elt Ideal) ℓ) (g' : Dev Cert.GateSguRefIdeal.nD → PrngReg), Pre_GateSguIdeal m →
    (∀ c : Dev Cert.GateSguIdeal.nD,
      m' ((c.tc : Thread Cert.GateSguRefIdeal.nD Cert.GateSguRefIdeal.τ).loc Cert.GateSguRefIdeal.main_arg0) = m ((c.tc : Thread Cert.GateSguIdeal.nD Cert.GateSguIdeal.τ).loc Cert.GateSguIdeal.main_arg0)
      ∧ m' ((c.tc : Thread Cert.GateSguRefIdeal.nD Cert.GateSguRefIdeal.τ).loc Cert.GateSguRefIdeal.main_arg1) = m ((c.tc : Thread Cert.GateSguIdeal.nD Cert.GateSguIdeal.τ).loc Cert.GateSguIdeal.main_arg1)
      ∧ m' ((c.tc : Thread Cert.GateSguRefIdeal.nD Cert.GateSguRefIdeal.τ).loc Cert.GateSguRefIdeal.main_arg2) = m ((c.tc : Thread Cert.GateSguIdeal.nD Cert.GateSguIdeal.τ).loc Cert.GateSguIdeal.main_arg2)
      ∧ m' ((c.tc : Thread Cert.GateSguRefIdeal.nD Cert.GateSguRefIdeal.τ).loc Cert.GateSguRefIdeal.main_arg3) = m ((c.tc : Thread Cert.GateSguIdeal.nD Cert.GateSguIdeal.τ).loc Cert.GateSguIdeal.main_arg3)
      ∧ m' ((c.tc : Thread Cert.GateSguRefIdeal.nD Cert.GateSguRefIdeal.τ).loc Cert.GateSguRefIdeal.main_arg4) = m ((c.tc : Thread Cert.GateSguIdeal.nD Cert.GateSguIdeal.τ).loc Cert.GateSguIdeal.main_arg4)
      ∧ m' ((c.tc : Thread Cert.GateSguRefIdeal.nD Cert.GateSguRefIdeal.τ).loc Cert.GateSguRefIdeal.main_arg5) = m ((c.tc : Thread Cert.GateSguIdeal.nD Cert.GateSguIdeal.τ).loc Cert.GateSguIdeal.main_arg5)
      ∧ m' ((c.tc : Thread Cert.GateSguRefIdeal.nD Cert.GateSguRefIdeal.τ).loc Cert.GateSguRefIdeal.main_arg6) = m ((c.tc : Thread Cert.GateSguIdeal.nD Cert.GateSguIdeal.τ).loc Cert.GateSguIdeal.main_arg6)) →
    ∃ (v0 : (c : Dev Cert.GateSguIdeal.nD) → Buf (Elt Ideal) ((c.tc : Thread Cert.GateSguIdeal.nD Cert.GateSguIdeal.τ).loc Cert.GateSguIdeal.main_v0_0)) (v1 : (c : Dev Cert.GateSguIdeal.nD) → Buf (Elt Ideal) ((c.tc : Thread Cert.GateSguIdeal.nD Cert.GateSguIdeal.τ).loc Cert.GateSguIdeal.main_v0_1)),
      θ_run (Cert.GateSguIdeal.defs (F := Ideal)) (onTc (τ := Cert.GateSguIdeal.τ) (Cert.GateSguIdeal.main (F := Ideal))) ⟨m, fun _ => 0, g⟩ (fun r => ∀ c : Dev Cert.GateSguIdeal.nD,
          r.2.mem ((c.tc : Thread Cert.GateSguIdeal.nD Cert.GateSguIdeal.τ).loc Cert.GateSguIdeal.main_v0_0) = v0 c
          ∧ r.2.mem ((c.tc : Thread Cert.GateSguIdeal.nD Cert.GateSguIdeal.τ).loc Cert.GateSguIdeal.main_v0_1) = v1 c
          ∧ r.2.mem ((c.tc : Thread Cert.GateSguIdeal.nD Cert.GateSguIdeal.τ).loc Cert.GateSguIdeal.main_arg0) = m ((c.tc : Thread Cert.GateSguIdeal.nD Cert.GateSguIdeal.τ).loc Cert.GateSguIdeal.main_arg0)
          ∧ r.2.mem ((c.tc : Thread Cert.GateSguIdeal.nD Cert.GateSguIdeal.τ).loc Cert.GateSguIdeal.main_arg1) = m ((c.tc : Thread Cert.GateSguIdeal.nD Cert.GateSguIdeal.τ).loc Cert.GateSguIdeal.main_arg1)
          ∧ r.2.mem ((c.tc : Thread Cert.GateSguIdeal.nD Cert.GateSguIdeal.τ).loc Cert.GateSguIdeal.main_arg2) = m ((c.tc : Thread Cert.GateSguIdeal.nD Cert.GateSguIdeal.τ).loc Cert.GateSguIdeal.main_arg2)
          ∧ r.2.mem ((c.tc : Thread Cert.GateSguIdeal.nD Cert.GateSguIdeal.τ).loc Cert.GateSguIdeal.main_arg3) = m ((c.tc : Thread Cert.GateSguIdeal.nD Cert.GateSguIdeal.τ).loc Cert.GateSguIdeal.main_arg3)
          ∧ r.2.mem ((c.tc : Thread Cert.GateSguIdeal.nD Cert.GateSguIdeal.τ).loc Cert.GateSguIdeal.main_arg4) = m ((c.tc : Thread Cert.GateSguIdeal.nD Cert.GateSguIdeal.τ).loc Cert.GateSguIdeal.main_arg4)
          ∧ r.2.mem ((c.tc : Thread Cert.GateSguIdeal.nD Cert.GateSguIdeal.τ).loc Cert.GateSguIdeal.main_arg5) = m ((c.tc : Thread Cert.GateSguIdeal.nD Cert.GateSguIdeal.τ).loc Cert.GateSguIdeal.main_arg5)
          ∧ r.2.mem ((c.tc : Thread Cert.GateSguIdeal.nD Cert.GateSguIdeal.τ).loc Cert.GateSguIdeal.main_arg6) = m ((c.tc : Thread Cert.GateSguIdeal.nD Cert.GateSguIdeal.τ).loc Cert.GateSguIdeal.main_arg6))
      ∧ θ_run (Cert.GateSguRefIdeal.defs (F := Ideal)) (onTc (τ := Cert.GateSguRefIdeal.τ) (Cert.GateSguRefIdeal.main (F := Ideal))) ⟨m', fun _ => 0, g'⟩ (fun r => ∀ c : Dev Cert.GateSguRefIdeal.nD,
          r.2.mem ((c.tc : Thread Cert.GateSguRefIdeal.nD Cert.GateSguRefIdeal.τ).loc Cert.GateSguRefIdeal.main_v21) = v0 c
          ∧ r.2.mem ((c.tc : Thread Cert.GateSguRefIdeal.nD Cert.GateSguRefIdeal.τ).loc Cert.GateSguRefIdeal.main_v77) = v1 c
          ∧ r.2.mem ((c.tc : Thread Cert.GateSguRefIdeal.nD Cert.GateSguRefIdeal.τ).loc Cert.GateSguRefIdeal.main_arg0) = m' ((c.tc : Thread Cert.GateSguRefIdeal.nD Cert.GateSguRefIdeal.τ).loc Cert.GateSguRefIdeal.main_arg0)
          ∧ r.2.mem ((c.tc : Thread Cert.GateSguRefIdeal.nD Cert.GateSguRefIdeal.τ).loc Cert.GateSguRefIdeal.main_arg1) = m' ((c.tc : Thread Cert.GateSguRefIdeal.nD Cert.GateSguRefIdeal.τ).loc Cert.GateSguRefIdeal.main_arg1)
          ∧ r.2.mem ((c.tc : Thread Cert.GateSguRefIdeal.nD Cert.GateSguRefIdeal.τ).loc Cert.GateSguRefIdeal.main_arg2) = m' ((c.tc : Thread Cert.GateSguRefIdeal.nD Cert.GateSguRefIdeal.τ).loc Cert.GateSguRefIdeal.main_arg2)
          ∧ r.2.mem ((c.tc : Thread Cert.GateSguRefIdeal.nD Cert.GateSguRefIdeal.τ).loc Cert.GateSguRefIdeal.main_arg3) = m' ((c.tc : Thread Cert.GateSguRefIdeal.nD Cert.GateSguRefIdeal.τ).loc Cert.GateSguRefIdeal.main_arg3)
          ∧ r.2.mem ((c.tc : Thread Cert.GateSguRefIdeal.nD Cert.GateSguRefIdeal.τ).loc Cert.GateSguRefIdeal.main_arg4) = m' ((c.tc : Thread Cert.GateSguRefIdeal.nD Cert.GateSguRefIdeal.τ).loc Cert.GateSguRefIdeal.main_arg4)
          ∧ r.2.mem ((c.tc : Thread Cert.GateSguRefIdeal.nD Cert.GateSguRefIdeal.τ).loc Cert.GateSguRefIdeal.main_arg5) = m' ((c.tc : Thread Cert.GateSguRefIdeal.nD Cert.GateSguRefIdeal.τ).loc Cert.GateSguRefIdeal.main_arg5)
          ∧ r.2.mem ((c.tc : Thread Cert.GateSguRefIdeal.nD Cert.GateSguRefIdeal.τ).loc Cert.GateSguRefIdeal.main_arg6) = m' ((c.tc : Thread Cert.GateSguRefIdeal.nD Cert.GateSguRefIdeal.τ).loc Cert.GateSguRefIdeal.main_arg6))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)) (v2 : (c : Dev Cert.MixFwdIdeal.nD) → Buf (Elt Ideal) ((c.tc : Thread Cert.MixFwdIdeal.nD Cert.MixFwdIdeal.τ).loc Cert.MixFwdIdeal.main_v0_2)) (v3 : (c : Dev Cert.MixFwdIdeal.nD) → Buf (Elt Ideal) ((c.tc : Thread Cert.MixFwdIdeal.nD Cert.MixFwdIdeal.τ).loc Cert.MixFwdIdeal.main_v0_3)) (v4 : (c : Dev Cert.MixFwdIdeal.nD) → Buf (Elt Ideal) ((c.tc : Thread Cert.MixFwdIdeal.nD Cert.MixFwdIdeal.τ).loc Cert.MixFwdIdeal.main_v0_4)) (v5 : (c : Dev Cert.MixFwdIdeal.nD) → Buf (Elt Ideal) ((c.tc : Thread Cert.MixFwdIdeal.nD Cert.MixFwdIdeal.τ).loc Cert.MixFwdIdeal.main_v0_5)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_v0_2) = v2 c
          ∧ r.2.mem ((c.tc : Thread Cert.MixFwdIdeal.nD Cert.MixFwdIdeal.τ).loc Cert.MixFwdIdeal.main_v0_3) = v3 c
          ∧ r.2.mem ((c.tc : Thread Cert.MixFwdIdeal.nD Cert.MixFwdIdeal.τ).loc Cert.MixFwdIdeal.main_v0_4) = v4 c
          ∧ r.2.mem ((c.tc : Thread Cert.MixFwdIdeal.nD Cert.MixFwdIdeal.τ).loc Cert.MixFwdIdeal.main_v0_5) = v5 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v2) = v0 c
          ∧ r.2.mem ((c.tc : Thread Cert.MixFwdRefIdeal.nD Cert.MixFwdRefIdeal.τ).loc Cert.MixFwdRefIdeal.main_v3) = v1 c
          ∧ r.2.mem ((c.tc : Thread Cert.MixFwdRefIdeal.nD Cert.MixFwdRefIdeal.τ).loc Cert.MixFwdRefIdeal.main_v19) = v2 c
          ∧ r.2.mem ((c.tc : Thread Cert.MixFwdRefIdeal.nD Cert.MixFwdRefIdeal.τ).loc Cert.MixFwdRefIdeal.main_v23) = v3 c
          ∧ r.2.mem ((c.tc : Thread Cert.MixFwdRefIdeal.nD Cert.MixFwdRefIdeal.τ).loc Cert.MixFwdRefIdeal.main_v45) = v4 c
          ∧ r.2.mem ((c.tc : Thread Cert.MixFwdRefIdeal.nD Cert.MixFwdRefIdeal.τ).loc Cert.MixFwdRefIdeal.main_v46) = v5 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v0_0)) (v1 : (c : Dev Cert.MixBwdIdeal.nD) → Buf (Elt Ideal) ((c.tc : Thread Cert.MixBwdIdeal.nD Cert.MixBwdIdeal.τ).loc Cert.MixBwdIdeal.main_v0_1)) (v2 : (c : Dev Cert.MixBwdIdeal.nD) → Buf (Elt Ideal) ((c.tc : Thread Cert.MixBwdIdeal.nD Cert.MixBwdIdeal.τ).loc Cert.MixBwdIdeal.main_v0_2)) (v3 : (c : Dev Cert.MixBwdIdeal.nD) → Buf (Elt Ideal) ((c.tc : Thread Cert.MixBwdIdeal.nD Cert.MixBwdIdeal.τ).loc Cert.MixBwdIdeal.main_v0_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v0_0) = v0 c
          ∧ r.2.mem ((c.tc : Thread Cert.MixBwdIdeal.nD Cert.MixBwdIdeal.τ).loc Cert.MixBwdIdeal.main_v0_1) = v1 c
          ∧ r.2.mem ((c.tc : Thread Cert.MixBwdIdeal.nD Cert.MixBwdIdeal.τ).loc Cert.MixBwdIdeal.main_v0_2) = v2 c
          ∧ r.2.mem ((c.tc : Thread Cert.MixBwdIdeal.nD Cert.MixBwdIdeal.τ).loc Cert.MixBwdIdeal.main_v0_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v16) = v0 c
          ∧ r.2.mem ((c.tc : Thread Cert.MixBwdRefIdeal.nD Cert.MixBwdRefIdeal.τ).loc Cert.MixBwdRefIdeal.main_v18) = v1 c
          ∧ r.2.mem ((c.tc : Thread Cert.MixBwdRefIdeal.nD Cert.MixBwdRefIdeal.τ).loc Cert.MixBwdRefIdeal.main_v19) = v2 c
          ∧ r.2.mem ((c.tc : Thread Cert.MixBwdRefIdeal.nD Cert.MixBwdRefIdeal.τ).loc Cert.MixBwdRefIdeal.main_v20) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v23) = v0 c
          ∧ r.2.mem ((c.tc : Thread Cert.AdamProjRefIdeal.nD Cert.AdamProjRefIdeal.τ).loc Cert.AdamProjRefIdeal.main_v4) = v1 c
          ∧ r.2.mem ((c.tc : Thread Cert.AdamProjRefIdeal.nD Cert.AdamProjRefIdeal.τ).loc Cert.AdamProjRefIdeal.main_v10) = v2 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hMerge : Cert.Merge.Facts) (hMergeIdeal : Cert.MergeIdeal.Facts) (hMergeRefIdeal : Cert.MergeRefIdeal.Facts) (hMergeRef : Cert.MergeRef.Facts) (hGather : Cert.Gather.Facts) (hGatherIdeal : Cert.GatherIdeal.Facts) (hGatherRefIdeal : Cert.GatherRefIdeal.Facts) (hGatherRef : Cert.GatherRef.Facts) (hExchange : Cert.Exchange.Facts) (hExchangeIdeal : Cert.ExchangeIdeal.Facts) (hExchangeRefIdeal : Cert.ExchangeRefIdeal.Facts) (hExchangeRef : Cert.ExchangeRef.Facts) (hChips : Cert.Chips.Facts) (hChipsIdeal : Cert.ChipsIdeal.Facts) (hChipsRefIdeal : Cert.ChipsRefIdeal.Facts) (hAdd2 : Cert.Add2.Facts) (hAdd2Ideal : Cert.Add2Ideal.Facts) (hAdd2RefIdeal : Cert.Add2RefIdeal.Facts) (hLoss : Cert.Loss.Facts) (hLossIdeal : Cert.LossIdeal.Facts) (hLossRefIdeal : Cert.LossRefIdeal.Facts) (hGradX : Cert.GradX.Facts) (hGradXIdeal : Cert.GradXIdeal.Facts) (hGradXRefIdeal : Cert.GradXRefIdeal.Facts) (hProjMain : Cert.ProjMain.Facts) (hProjMainIdeal : Cert.ProjMainIdeal.Facts) (hProjMainRefIdeal : Cert.ProjMainRefIdeal.Facts) (hProjGates : Cert.ProjGates.Facts) (hProjGatesIdeal : Cert.ProjGatesIdeal.Facts) (hProjGatesRefIdeal : Cert.ProjGatesRefIdeal.Facts) (hFfnIn : Cert.FfnIn.Facts) (hFfnInIdeal : Cert.FfnInIdeal.Facts) (hFfnInRefIdeal : Cert.FfnInRefIdeal.Facts) (hFfnOutDx : Cert.FfnOutDx.Facts) (hFfnOutDxIdeal : Cert.FfnOutDxIdeal.Facts) (hFfnOutDxRefIdeal : Cert.FfnOutDxRefIdeal.Facts) (hProjGatesDx : Cert.ProjGatesDx.Facts) (hProjGatesDxIdeal : Cert.ProjGatesDxIdeal.Facts) (hProjGatesDxRefIdeal : Cert.ProjGatesDxRefIdeal.Facts) (hFfnOut : Cert.FfnOut.Facts) (hFfnOutIdeal : Cert.FfnOutIdeal.Facts) (hFfnOutRefIdeal : Cert.FfnOutRefIdeal.Facts) (hFfnInDx : Cert.FfnInDx.Facts) (hFfnInDxIdeal : Cert.FfnInDxIdeal.Facts) (hFfnInDxRefIdeal : Cert.FfnInDxRefIdeal.Facts) (hFfnOutDw : Cert.FfnOutDw.Facts) (hFfnOutDwIdeal : Cert.FfnOutDwIdeal.Facts) (hFfnOutDwRefIdeal : Cert.FfnOutDwRefIdeal.Facts) (hFfnInDw : Cert.FfnInDw.Facts) (hFfnInDwIdeal : Cert.FfnInDwIdeal.Facts) (hFfnInDwRefIdeal : Cert.FfnInDwRefIdeal.Facts) (hMixDw : Cert.MixDw.Facts) (hMixDwIdeal : Cert.MixDwIdeal.Facts) (hMixDwRefIdeal : Cert.MixDwRefIdeal.Facts) (hProjMainDw : Cert.ProjMainDw.Facts) (hProjMainDwIdeal : Cert.ProjMainDwIdeal.Facts) (hProjMainDwRefIdeal : Cert.ProjMainDwRefIdeal.Facts) (hProjGatesDw : Cert.ProjGatesDw.Facts) (hProjGatesDwIdeal : Cert.ProjGatesDwIdeal.Facts) (hProjGatesDwRefIdeal : Cert.ProjGatesDwRefIdeal.Facts) (hSwigluFwd : Cert.SwigluFwd.Facts) (hSwigluFwdIdeal : Cert.SwigluFwdIdeal.Facts) (hSwigluFwdRefIdeal : Cert.SwigluFwdRefIdeal.Facts) (hSwigluBwd : Cert.SwigluBwd.Facts) (hSwigluBwdIdeal : Cert.SwigluBwdIdeal.Facts) (hSwigluBwdRefIdeal : Cert.SwigluBwdRefIdeal.Facts) (hResLn : Cert.ResLn.Facts) (hResLnIdeal : Cert.ResLnIdeal.Facts) (hResLnRefIdeal : Cert.ResLnRefIdeal.Facts) (hLnBwd : Cert.LnBwd.Facts) (hLnBwdIdeal : Cert.LnBwdIdeal.Facts) (hLnBwdRefIdeal : Cert.LnBwdRefIdeal.Facts) (hGateSgu : Cert.GateSgu.Facts) (hGateSguIdeal : Cert.GateSguIdeal.Facts) (hGateSguRefIdeal : Cert.GateSguRefIdeal.Facts) (hMixFwd : Cert.MixFwd.Facts) (hMixFwdIdeal : Cert.MixFwdIdeal.Facts) (hMixFwdRefIdeal : Cert.MixFwdRefIdeal.Facts) (hMixBwd : Cert.MixBwd.Facts) (hMixBwdIdeal : Cert.MixBwdIdeal.Facts) (hMixBwdRefIdeal : Cert.MixBwdRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts),
    quiescent_Merge (hMerge := hMerge)
    ∧ quiescent_MergeIdeal (hMergeIdeal := hMergeIdeal)
    ∧ quiescent_MergeRefIdeal (hMergeRefIdeal := hMergeRefIdeal)
    ∧ quiescent_MergeRef (hMergeRef := hMergeRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Chips (hChips := hChips)
    ∧ quiescent_ChipsIdeal (hChipsIdeal := hChipsIdeal)
    ∧ quiescent_ChipsRefIdeal (hChipsRefIdeal := hChipsRefIdeal)
    ∧ quiescent_Add2 (hAdd2 := hAdd2)
    ∧ quiescent_Add2Ideal (hAdd2Ideal := hAdd2Ideal)
    ∧ quiescent_Add2RefIdeal (hAdd2RefIdeal := hAdd2RefIdeal)
    ∧ quiescent_Loss (hLoss := hLoss)
    ∧ quiescent_LossIdeal (hLossIdeal := hLossIdeal)
    ∧ quiescent_LossRefIdeal (hLossRefIdeal := hLossRefIdeal)
    ∧ quiescent_GradX (hGradX := hGradX)
    ∧ quiescent_GradXIdeal (hGradXIdeal := hGradXIdeal)
    ∧ quiescent_GradXRefIdeal (hGradXRefIdeal := hGradXRefIdeal)
    ∧ quiescent_ProjMain (hProjMain := hProjMain)
    ∧ quiescent_ProjMainIdeal (hProjMainIdeal := hProjMainIdeal)
    ∧ quiescent_ProjMainRefIdeal (hProjMainRefIdeal := hProjMainRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_ProjGatesDx (hProjGatesDx := hProjGatesDx)
    ∧ quiescent_ProjGatesDxIdeal (hProjGatesDxIdeal := hProjGatesDxIdeal)
    ∧ quiescent_ProjGatesDxRefIdeal (hProjGatesDxRefIdeal := hProjGatesDxRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_ProjMainDw (hProjMainDw := hProjMainDw)
    ∧ quiescent_ProjMainDwIdeal (hProjMainDwIdeal := hProjMainDwIdeal)
    ∧ quiescent_ProjMainDwRefIdeal (hProjMainDwRefIdeal := hProjMainDwRefIdeal)
    ∧ quiescent_ProjGatesDw (hProjGatesDw := hProjGatesDw)
    ∧ quiescent_ProjGatesDwIdeal (hProjGatesDwIdeal := hProjGatesDwIdeal)
    ∧ quiescent_ProjGatesDwRefIdeal (hProjGatesDwRefIdeal := hProjGatesDwRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_ResLn (hResLn := hResLn)
    ∧ quiescent_ResLnIdeal (hResLnIdeal := hResLnIdeal)
    ∧ quiescent_ResLnRefIdeal (hResLnRefIdeal := hResLnRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_GateSgu (hGateSgu := hGateSgu)
    ∧ quiescent_GateSguIdeal (hGateSguIdeal := hGateSguIdeal)
    ∧ quiescent_GateSguRefIdeal (hGateSguRefIdeal := hGateSguRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Merge_MergeIdeal
    ∧ algebraic_MergeIdeal_MergeRefIdeal (hMergeIdeal := hMergeIdeal) (hMergeRefIdeal := hMergeRefIdeal)
    ∧ bitexact_Merge_MergeRef (hMerge := hMerge) (hMergeRef := hMergeRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Chips_ChipsIdeal
    ∧ algebraic_ChipsIdeal_ChipsRefIdeal (hChipsIdeal := hChipsIdeal) (hChipsRefIdeal := hChipsRefIdeal)
    ∧ preserves_Add2_Add2Ideal
    ∧ algebraic_Add2Ideal_Add2RefIdeal (hAdd2Ideal := hAdd2Ideal) (hAdd2RefIdeal := hAdd2RefIdeal)
    ∧ preserves_Loss_LossIdeal
    ∧ algebraic_LossIdeal_LossRefIdeal (hLossIdeal := hLossIdeal) (hLossRefIdeal := hLossRefIdeal)
    ∧ preserves_GradX_GradXIdeal
    ∧ algebraic_GradXIdeal_GradXRefIdeal (hGradXIdeal := hGradXIdeal) (hGradXRefIdeal := hGradXRefIdeal)
    ∧ preserves_ProjMain_ProjMainIdeal
    ∧ algebraic_ProjMainIdeal_ProjMainRefIdeal (hProjMainIdeal := hProjMainIdeal) (hProjMainRefIdeal := hProjMainRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_FfnIn_FfnInIdeal
    ∧ algebraic_FfnInIdeal_FfnInRefIdeal (hFfnInIdeal := hFfnInIdeal) (hFfnInRefIdeal := hFfnInRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_ProjGatesDx_ProjGatesDxIdeal
    ∧ algebraic_ProjGatesDxIdeal_ProjGatesDxRefIdeal (hProjGatesDxIdeal := hProjGatesDxIdeal) (hProjGatesDxRefIdeal := hProjGatesDxRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_MixDw_MixDwIdeal
    ∧ algebraic_MixDwIdeal_MixDwRefIdeal (hMixDwIdeal := hMixDwIdeal) (hMixDwRefIdeal := hMixDwRefIdeal)
    ∧ preserves_ProjMainDw_ProjMainDwIdeal
    ∧ algebraic_ProjMainDwIdeal_ProjMainDwRefIdeal (hProjMainDwIdeal := hProjMainDwIdeal) (hProjMainDwRefIdeal := hProjMainDwRefIdeal)
    ∧ preserves_ProjGatesDw_ProjGatesDwIdeal
    ∧ algebraic_ProjGatesDwIdeal_ProjGatesDwRefIdeal (hProjGatesDwIdeal := hProjGatesDwIdeal) (hProjGatesDwRefIdeal := hProjGatesDwRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_ResLn_ResLnIdeal
    ∧ algebraic_ResLnIdeal_ResLnRefIdeal (hResLnIdeal := hResLnIdeal) (hResLnRefIdeal := hResLnRefIdeal)
    ∧ preserves_LnBwd_LnBwdIdeal
    ∧ algebraic_LnBwdIdeal_LnBwdRefIdeal (hLnBwdIdeal := hLnBwdIdeal) (hLnBwdRefIdeal := hLnBwdRefIdeal)
    ∧ preserves_GateSgu_GateSguIdeal
    ∧ algebraic_GateSguIdeal_GateSguRefIdeal (hGateSguIdeal := hGateSguIdeal) (hGateSguRefIdeal := hGateSguRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MixBwd_MixBwdIdeal
    ∧ algebraic_MixBwdIdeal_MixBwdRefIdeal (hMixBwdIdeal := hMixBwdIdeal) (hMixBwdRefIdeal := hMixBwdRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Merge.lean ====
abbrev S5120x1024 : Shape := ⟨2, ![5120, 1024]⟩
abbrev S10240x1024 : Shape := ⟨2, ![10240, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S5120x1024, .f32⟩
  | .hbm, ⟨1, _⟩ => ⟨S10240x1024, .f32⟩
  | _, _ => ⟨S5120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v9 : BitVec 32 := Scalar.muli v8 c5120_i32
  v9
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v9 : BitVec 32 := Scalar.muli v8 c5120_i32
  let v10 : BitVec 32 := v9
  let c0_i32 : BitVec 32 := 0#32
  ![v10.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v13 : BitVec 32 := Scalar.muli v2 c4_i32_4
  let v14 : BitVec 32 := Scalar.addi c0_i32_5 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
-- ==== MergeIdeal.lean ====
abbrev S5120x1024 : Shape := ⟨2, ![5120, 1024]⟩
abbrev S10240x1024 : Shape := ⟨2, ![10240, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S5120x1024, .f32⟩
  | .hbm, ⟨1, _⟩ => ⟨S10240x1024, .f32⟩
  | _, _ => ⟨S5120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v9 : BitVec 32 := Scalar.muli v8 c5120_i32
  v9
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v9 : BitVec 32 := Scalar.muli v8 c5120_i32
  let v10 : BitVec 32 := v9
  let c0_i32 : BitVec 32 := 0#32
  ![v10.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v13 : BitVec 32 := Scalar.muli v2 c4_i32_4
  let v14 : BitVec 32 := Scalar.addi c0_i32_5 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v15 : BitVec 32 := Scalar.muli v5 c2_i32_6
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_3 v8
  let c1_i32_7 : BitVec 32 := 1#32
  let v17 : BitVec 32 := Scalar.muli v12 c1_i32_7
  let v18 : BitVec 32 := Scalar.addi v16 v17
  v18.toNat
-- ==== MergeRef.lean ====
abbrev S40960x1024 : Shape := ⟨2, ![40960, 1024]⟩

abbrev nBuf : Space → Nat
  | .hbm => 1
  | .vmem => 0
  | .smem => 0
  | _ => 0

abbrev bufTy : (tb : Table) → Fin (tcTables nBuf tb) → BufTy
  | .hbm, ⟨0, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Gather.lean ====
abbrev S10240x1024 : Shape := ⟨2, ![10240, 1024]⟩
abbrev S4x10240x1024 : Shape := ⟨3, ![4, 10240, 1024]⟩
abbrev S6 : Shape := ⟨1, ![6]⟩
abbrev S_ : Shape := ⟨0, ![]⟩
abbrev S1x10240x1024 : Shape := ⟨3, ![1, 10240, 1024]⟩
abbrev S1 : Shape := ⟨1, ![1]⟩
abbrev S1x5120x1024 : Shape := ⟨3, ![1, 5120, 1024]⟩
abbrev S5120x1024 : Shape := ⟨2, ![5120, 1024]⟩

abbrev nBuf : Space → Nat
  | .hbm => 2
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S4x10240x1024, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c0_i32 : BitVec 32 := 0#32
  let c0_i32_9 : BitVec 32 := 0#32
  ![v15.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v18 : BitVec 32 := Scalar.muli v8 c5120_i32
  v18
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_10 : BitVec 32 := 5120#32
  let v20 : BitVec 32 := Scalar.muli v8 c5120_i32_10
  v20
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_11 : BitVec 32 := 5120#32
  let v22 : BitVec 32 := Scalar.muli v8 c5120_i32_11
  v22
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_12 : BitVec 32 := 5120#32
  let v24 : BitVec 32 := Scalar.muli v8 c5120_i32_12
  v24
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_10 : BitVec 32 := 5120#32
  let v20 : BitVec 32 := Scalar.muli v8 c5120_i32_10
  let v21 : BitVec 32 := v20
  let c0_i32_19 : BitVec 32 := 0#32
  ![v15.toNat, v21.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v18 : BitVec 32 := Scalar.muli v8 c5120_i32
  let v19 : BitVec 32 := v18
  let c0_i32_20 : BitVec 32 := 0#32
  ![v19.toNat, 0]
def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32_16 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v28 : BitVec 32 := Scalar.muli v5 c2_i32_17
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v30 : BitVec 32 := Scalar.muli v8 c1_i32_18
  let v31 : BitVec 32 := Scalar.addi v29 v30
  v31.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v41 : BitVec 32 := Scalar.muli v10 c2_i32_25
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.muli v8 c1_i32_26
  let v44 : BitVec 32 := Scalar.addi v42 v43
  v44.toNat
def k0_dev3 (d0 : Dev nD) : Nat :=
  let c0_i32_32 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_31 : BitVec 32 := 4#32
  let v52 : BitVec 32 := Scalar.muli v11 c4_i32_31
  let v53 : BitVec 32 := Scalar.addi c0_i32_32 v52
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_33 : BitVec 32 := 2#32
  let v54 : BitVec 32 := Scalar.muli v12 c2_i32_33
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v56 : BitVec 32 := Scalar.muli v8 c1_i32_34
  let v57 : BitVec 32 := Scalar.addi v55 v56
  v57.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_38 : BitVec 32 := 5120#32
  let v67 : BitVec 32 := Scalar.muli v8 c5120_i32_38
  v67
def k0_off4 (d0 : Dev nD) : Fin 3 → Nat :=
  let c2_i32_37 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v65 : BitVec 32 := Scalar.muli c2_i32_37 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.addi v65 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_38 : BitVec 32 := 5120#32
  let v67 : BitVec 32 := Scalar.muli v8 c5120_i32_38
  let v68 : BitVec 32 := v67
  let c0_i32_45 : BitVec 32 := 0#32
  ![v66.toNat, v68.toNat, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v81 : BitVec 32 := Scalar.muli v2 c4_i32_48
  let v82 : BitVec 32 := Scalar.addi c0_i32_49 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v83 : BitVec 32 := Scalar.muli v5 c2_i32_50
  let v84 : BitVec 32 := Scalar.addi v82 v83
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_51 : BitVec 32 := 1#32
  let v85 : BitVec 32 := Scalar.muli v13 c1_i32_51
  let v86 : BitVec 32 := Scalar.addi v84 v85
  v86.toNat
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_55 : BitVec 32 := 5120#32
  let v97 : BitVec 32 := Scalar.muli v8 c5120_i32_55
  v97
def k0_off5 (d0 : Dev nD) : Fin 3 → Nat :=
  let c2_i32_54 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c2_i32_54 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v96 : BitVec 32 := Scalar.addi v95 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_55 : BitVec 32 := 5120#32
  let v97 : BitVec 32 := Scalar.muli v8 c5120_i32_55
  let v98 : BitVec 32 := v97
  let c0_i32_62 : BitVec 32 := 0#32
  ![v96.toNat, v98.toNat, 0]
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v111 : BitVec 32 := Scalar.muli v2 c4_i32_66
  let v112 : BitVec 32 := Scalar.addi c0_i32_67 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v113 : BitVec 32 := Scalar.muli v5 c2_i32_68
  let v114 : BitVec 32 := Scalar.addi v112 v113
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_69 : BitVec 32 := 1#32
  let v115 : BitVec 32 := Scalar.muli v13 c1_i32_69
  let v116 : BitVec 32 := Scalar.addi v114 v115
  v116.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_73 : BitVec 32 := 5120#32
  let v127 : BitVec 32 := Scalar.muli v8 c5120_i32_73
  v127
def k0_off6 (d0 : Dev nD) : Fin 3 → Nat :=
  let c2_i32_72 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v125 : BitVec 32 := Scalar.muli c2_i32_72 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v126 : BitVec 32 := Scalar.addi v125 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_73 : BitVec 32 := 5120#32
  let v127 : BitVec 32 := Scalar.muli v8 c5120_i32_73
  let v128 : BitVec 32 := v127
  let c0_i32_80 : BitVec 32 := 0#32
  ![v126.toNat, v128.toNat, 0]
def k0_dev6 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v141 : BitVec 32 := Scalar.muli v2 c4_i32_83
  let v142 : BitVec 32 := Scalar.addi c0_i32_84 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v143 : BitVec 32 := Scalar.muli v5 c2_i32_85
  let v144 : BitVec 32 := Scalar.addi v142 v143
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_86 : BitVec 32 := 1#32
  let v145 : BitVec 32 := Scalar.muli v13 c1_i32_86
  let v146 : BitVec 32 := Scalar.addi v144 v145
  v146.toNat
def k0_mult8 (d0 : Dev nD) : BitVec 32 :=
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_90 v8
  let c5120_i32_91 : BitVec 32 := 5120#32
  let v158 : BitVec 32 := Scalar.muli v157 c5120_i32_91
  v158
def k0_off7 (d0 : Dev nD) : Fin 3 → Nat :=
  let c2_i32_89 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v155 : BitVec 32 := Scalar.muli c2_i32_89 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v156 : BitVec 32 := Scalar.addi v155 v5
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_90 v8
  let c5120_i32_91 : BitVec 32 := 5120#32
  let v158 : BitVec 32 := Scalar.muli v157 c5120_i32_91
  let v159 : BitVec 32 := v158
  let c0_i32_98 : BitVec 32 := 0#32
  ![v156.toNat, v159.toNat, 0]
def k0_mult9 (d0 : Dev nD) : BitVec 32 :=
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v174 : BitVec 32 := Scalar.subi c1_i32_101 v8
  let c5120_i32_102 : BitVec 32 := 5120#32
  let v175 : BitVec 32 := Scalar.muli v174 c5120_i32_102
  v175
def k0_off8 (d0 : Dev nD) : Fin 3 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c2_i32_100 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v173 : BitVec 32 := Scalar.addi v172 v10
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v174 : BitVec 32 := Scalar.subi c1_i32_101 v8
  let c5120_i32_102 : BitVec 32 := 5120#32
  let v175 : BitVec 32 := Scalar.muli v174 c5120_i32_102
  let v176 : BitVec 32 := v175
  let c0_i32_109 : BitVec 32 := 0#32
  ![v173.toNat, v176.toNat, 0]
def k0_mult10 (d0 : Dev nD) : BitVec 32 :=
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v191 : BitVec 32 := Scalar.subi c1_i32_112 v8
  let c5120_i32_113 : BitVec 32 := 5120#32
  let v192 : BitVec 32 := Scalar.muli v191 c5120_i32_113
  v192
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v189 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v190 : BitVec 32 := Scalar.addi v189 v12
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v191 : BitVec 32 := Scalar.subi c1_i32_112 v8
  let c5120_i32_113 : BitVec 32 := 5120#32
  let v192 : BitVec 32 := Scalar.muli v191 c5120_i32_113
  let v193 : BitVec 32 := v192
  let c0_i32_120 : BitVec 32 := 0#32
  ![v190.toNat, v193.toNat, 0]
-- ==== GatherIdeal.lean ====
abbrev S10240x1024 : Shape := ⟨2, ![10240, 1024]⟩
abbrev S4x10240x1024 : Shape := ⟨3, ![4, 10240, 1024]⟩
abbrev S6 : Shape := ⟨1, ![6]⟩
abbrev S_ : Shape := ⟨0, ![]⟩
abbrev S1x10240x1024 : Shape := ⟨3, ![1, 10240, 1024]⟩
abbrev S1 : Shape := ⟨1, ![1]⟩
abbrev S1x5120x1024 : Shape := ⟨3, ![1, 5120, 1024]⟩
abbrev S5120x1024 : Shape := ⟨2, ![5120, 1024]⟩

abbrev nBuf : Space → Nat
  | .hbm => 2
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S4x10240x1024, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c0_i32 : BitVec 32 := 0#32
  let c0_i32_9 : BitVec 32 := 0#32
  ![v15.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v18 : BitVec 32 := Scalar.muli v8 c5120_i32
  v18
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_10 : BitVec 32 := 5120#32
  let v20 : BitVec 32 := Scalar.muli v8 c5120_i32_10
  v20
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_11 : BitVec 32 := 5120#32
  let v22 : BitVec 32 := Scalar.muli v8 c5120_i32_11
  v22
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_12 : BitVec 32 := 5120#32
  let v24 : BitVec 32 := Scalar.muli v8 c5120_i32_12
  v24
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_10 : BitVec 32 := 5120#32
  let v20 : BitVec 32 := Scalar.muli v8 c5120_i32_10
  let v21 : BitVec 32 := v20
  let c0_i32_19 : BitVec 32 := 0#32
  ![v15.toNat, v21.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32 : BitVec 32 := 5120#32
  let v18 : BitVec 32 := Scalar.muli v8 c5120_i32
  let v19 : BitVec 32 := v18
  let c0_i32_20 : BitVec 32 := 0#32
  ![v19.toNat, 0]
def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32_16 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v28 : BitVec 32 := Scalar.muli v5 c2_i32_17
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v30 : BitVec 32 := Scalar.muli v8 c1_i32_18
  let v31 : BitVec 32 := Scalar.addi v29 v30
  v31.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v39 : BitVec 32 := Scalar.muli v2 c4_i32_23
  let v40 : BitVec 32 := Scalar.addi c0_i32_24 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v41 : BitVec 32 := Scalar.muli v10 c2_i32_25
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v43 : BitVec 32 := Scalar.muli v8 c1_i32_26
  let v44 : BitVec 32 := Scalar.addi v42 v43
  v44.toNat
def k0_dev3 (d0 : Dev nD) : Nat :=
  let c0_i32_32 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_31 : BitVec 32 := 4#32
  let v52 : BitVec 32 := Scalar.muli v11 c4_i32_31
  let v53 : BitVec 32 := Scalar.addi c0_i32_32 v52
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_33 : BitVec 32 := 2#32
  let v54 : BitVec 32 := Scalar.muli v12 c2_i32_33
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v56 : BitVec 32 := Scalar.muli v8 c1_i32_34
  let v57 : BitVec 32 := Scalar.addi v55 v56
  v57.toNat
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_38 : BitVec 32 := 5120#32
  let v67 : BitVec 32 := Scalar.muli v8 c5120_i32_38
  v67
def k0_off4 (d0 : Dev nD) : Fin 3 → Nat :=
  let c2_i32_37 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v65 : BitVec 32 := Scalar.muli c2_i32_37 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.addi v65 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_38 : BitVec 32 := 5120#32
  let v67 : BitVec 32 := Scalar.muli v8 c5120_i32_38
  let v68 : BitVec 32 := v67
  let c0_i32_45 : BitVec 32 := 0#32
  ![v66.toNat, v68.toNat, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v81 : BitVec 32 := Scalar.muli v2 c4_i32_48
  let v82 : BitVec 32 := Scalar.addi c0_i32_49 v81
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v83 : BitVec 32 := Scalar.muli v5 c2_i32_50
  let v84 : BitVec 32 := Scalar.addi v82 v83
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_51 : BitVec 32 := 1#32
  let v85 : BitVec 32 := Scalar.muli v13 c1_i32_51
  let v86 : BitVec 32 := Scalar.addi v84 v85
  v86.toNat
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_55 : BitVec 32 := 5120#32
  let v97 : BitVec 32 := Scalar.muli v8 c5120_i32_55
  v97
def k0_off5 (d0 : Dev nD) : Fin 3 → Nat :=
  let c2_i32_54 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c2_i32_54 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v96 : BitVec 32 := Scalar.addi v95 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_55 : BitVec 32 := 5120#32
  let v97 : BitVec 32 := Scalar.muli v8 c5120_i32_55
  let v98 : BitVec 32 := v97
  let c0_i32_62 : BitVec 32 := 0#32
  ![v96.toNat, v98.toNat, 0]
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v111 : BitVec 32 := Scalar.muli v2 c4_i32_66
  let v112 : BitVec 32 := Scalar.addi c0_i32_67 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v113 : BitVec 32 := Scalar.muli v5 c2_i32_68
  let v114 : BitVec 32 := Scalar.addi v112 v113
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_69 : BitVec 32 := 1#32
  let v115 : BitVec 32 := Scalar.muli v13 c1_i32_69
  let v116 : BitVec 32 := Scalar.addi v114 v115
  v116.toNat
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_73 : BitVec 32 := 5120#32
  let v127 : BitVec 32 := Scalar.muli v8 c5120_i32_73
  v127
def k0_off6 (d0 : Dev nD) : Fin 3 → Nat :=
  let c2_i32_72 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v125 : BitVec 32 := Scalar.muli c2_i32_72 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v126 : BitVec 32 := Scalar.addi v125 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c5120_i32_73 : BitVec 32 := 5120#32
  let v127 : BitVec 32 := Scalar.muli v8 c5120_i32_73
  let v128 : BitVec 32 := v127
  let c0_i32_80 : BitVec 32 := 0#32
  ![v126.toNat, v128.toNat, 0]
def k0_dev6 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v141 : BitVec 32 := Scalar.muli v2 c4_i32_83
  let v142 : BitVec 32 := Scalar.addi c0_i32_84 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v143 : BitVec 32 := Scalar.muli v5 c2_i32_85
  let v144 : BitVec 32 := Scalar.addi v142 v143
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_86 : BitVec 32 := 1#32
  let v145 : BitVec 32 := Scalar.muli v13 c1_i32_86
  let v146 : BitVec 32 := Scalar.addi v144 v145
  v146.toNat
def k0_mult8 (d0 : Dev nD) : BitVec 32 :=
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_90 v8
  let c5120_i32_91 : BitVec 32 := 5120#32
  let v158 : BitVec 32 := Scalar.muli v157 c5120_i32_91
  v158
def k0_off7 (d0 : Dev nD) : Fin 3 → Nat :=
  let c2_i32_89 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v155 : BitVec 32 := Scalar.muli c2_i32_89 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v156 : BitVec 32 := Scalar.addi v155 v5
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_90 v8
  let c5120_i32_91 : BitVec 32 := 5120#32
  let v158 : BitVec 32 := Scalar.muli v157 c5120_i32_91
  let v159 : BitVec 32 := v158
  let c0_i32_98 : BitVec 32 := 0#32
  ![v156.toNat, v159.toNat, 0]
def k0_mult9 (d0 : Dev nD) : BitVec 32 :=
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v174 : BitVec 32 := Scalar.subi c1_i32_101 v8
  let c5120_i32_102 : BitVec 32 := 5120#32
  let v175 : BitVec 32 := Scalar.muli v174 c5120_i32_102
  v175
def k0_off8 (d0 : Dev nD) : Fin 3 → Nat :=
  let c2_i32_100 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v172 : BitVec 32 := Scalar.muli c2_i32_100 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v173 : BitVec 32 := Scalar.addi v172 v10
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v174 : BitVec 32 := Scalar.subi c1_i32_101 v8
  let c5120_i32_102 : BitVec 32 := 5120#32
  let v175 : BitVec 32 := Scalar.muli v174 c5120_i32_102
  let v176 : BitVec 32 := v175
  let c0_i32_109 : BitVec 32 := 0#32
  ![v173.toNat, v176.toNat, 0]
def k0_mult10 (d0 : Dev nD) : BitVec 32 :=
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v191 : BitVec 32 := Scalar.subi c1_i32_112 v8
  let c5120_i32_113 : BitVec 32 := 5120#32
  let v192 : BitVec 32 := Scalar.muli v191 c5120_i32_113
  v192
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v189 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v190 : BitVec 32 := Scalar.addi v189 v12
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v191 : BitVec 32 := Scalar.subi c1_i32_112 v8
  let c5120_i32_113 : BitVec 32 := 5120#32
  let v192 : BitVec 32 := Scalar.muli v191 c5120_i32_113
  let v193 : BitVec 32 := v192
  let c0_i32_120 : BitVec 32 := 0#32
  ![v190.toNat, v193.toNat, 0]
-- ==== GatherRef.lean ====
abbrev S40960x1024 : Shape := ⟨2, ![40960, 1024]⟩
abbrev S4x10240x1024 : Shape := ⟨3, ![4, 10240, 1024]⟩

abbrev nBuf : Space → Nat
  | .hbm => 2
  | .vmem => 0
  | .smem => 0
  | _ => 0

abbrev bufTy : (tb : Table) → Fin (tcTables nBuf tb) → BufTy
  | .hbm, ⟨0, _⟩ => ⟨S40960x1024, .bf16⟩
  | .hbm, ⟨1, _⟩ => ⟨S4x10240x1024, .bf16⟩
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Exchange.lean ====
abbrev S4x10240x1024 : Shape := ⟨3, ![4, 10240, 1024]⟩
abbrev S296x1024 : Shape := ⟨2, ![296, 1024]⟩
abbrev S4x5120x1024 : Shape := ⟨3, ![4, 5120, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x10240x1024, .f32⟩
  | .hbm, ⟨1, _⟩ => ⟨S296x1024, .f32⟩
  | .hbm, ⟨2, _⟩ => ⟨S4x5120x1024, .f32⟩
  | .hbm, ⟨3, _⟩ => ⟨S296x1024, .f32⟩
  | _, _ => ⟨S4x10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c5120_i32 : BitVec 32 := 5120#32
  let v11 : BitVec 32 := Scalar.muli v10 c5120_i32
  v11
def k0_off1 (d0 : Dev nD) : Fin 3 → Nat :=
  let c0_i32_10 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c5120_i32 : BitVec 32 := 5120#32
  let v11 : BitVec 32 := Scalar.muli v10 c5120_i32
  let v12 : BitVec 32 := v11
  let c0_i32_11 : BitVec 32 := 0#32
  ![0, v12.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v13 : BitVec 32 := Scalar.muli v2 c4_i32_6
  let v14 : BitVec 32 := Scalar.addi c0_i32_7 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v17 : BitVec 32 := Scalar.muli v9 c1_i32_9
  let v18 : BitVec 32 := Scalar.addi v16 v17
  v18.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v28 : BitVec 32 := Scalar.muli v9 c1_i32_17
  let v29 : BitVec 32 := Scalar.addi v27 v28
  v29.toNat
-- ==== ExchangeIdeal.lean ====
abbrev S4x10240x1024 : Shape := ⟨3, ![4, 10240, 1024]⟩
abbrev S296x1024 : Shape := ⟨2, ![296, 1024]⟩
abbrev S4x5120x1024 : Shape := ⟨3, ![4, 5120, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x10240x1024, .f32⟩
  | .hbm, ⟨1, _⟩ => ⟨S296x1024, .f32⟩
  | .hbm, ⟨2, _⟩ => ⟨S4x5120x1024, .f32⟩
  | .hbm, ⟨3, _⟩ => ⟨S296x1024, .f32⟩
  | _, _ => ⟨S4x10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_mult1 (d0 : Dev nD) : BitVec 32 :=
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c5120_i32 : BitVec 32 := 5120#32
  let v11 : BitVec 32 := Scalar.muli v10 c5120_i32
  v11
def k0_off1 (d0 : Dev nD) : Fin 3 → Nat :=
  let c0_i32_10 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c5120_i32 : BitVec 32 := 5120#32
  let v11 : BitVec 32 := Scalar.muli v10 c5120_i32
  let v12 : BitVec 32 := v11
  let c0_i32_11 : BitVec 32 := 0#32
  ![0, v12.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v13 : BitVec 32 := Scalar.muli v2 c4_i32_6
  let v14 : BitVec 32 := Scalar.addi c0_i32_7 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v17 : BitVec 32 := Scalar.muli v9 c1_i32_9
  let v18 : BitVec 32 := Scalar.addi v16 v17
  v18.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32_15 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v26 : BitVec 32 := Scalar.muli v5 c2_i32_16
  let v27 : BitVec 32 := Scalar.addi v25 v26
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v28 : BitVec 32 := Scalar.muli v9 c1_i32_17
  let v29 : BitVec 32 := Scalar.addi v27 v28
  v29.toNat
-- ==== ExchangeRef.lean ====
abbrev S16x20480x1024 : Shape := ⟨3, ![16, 20480, 1024]⟩
abbrev S1184x2048 : Shape := ⟨2, ![1184, 2048]⟩
abbrev S16x5120x1024 : Shape := ⟨3, ![16, 5120, 1024]⟩
abbrev S16x10240x1024 : Shape := ⟨3, ![16, 10240, 1024]⟩
abbrev S1184x1024 : Shape := ⟨2, ![1184, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16x20480x1024, .f32⟩
  | .hbm, ⟨1, _⟩ => ⟨S1184x2048, .f32⟩
  | .hbm, ⟨2, _⟩ => ⟨S16x5120x1024, .f32⟩
  | .hbm, ⟨3, _⟩ => ⟨S16x5120x1024, .f32⟩
  | .hbm, ⟨4, _⟩ => ⟨S16x10240x1024, .f32⟩
  | .hbm, ⟨5, _⟩ => ⟨S1184x1024, .f32⟩
  | .hbm, ⟨6, _⟩ => ⟨S1184x1024, .f32⟩
  | .hbm, ⟨7, _⟩ => ⟨S1184x2048, .f32⟩
  | _, _ => ⟨S16x20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Chips.lean ====
abbrev S4x5120x1024 : Shape := ⟨3, ![4, 5120, 1024]⟩
abbrev S5120x1024 : Shape := ⟨2, ![5120, 1024]⟩
abbrev S296x1024 : Shape := ⟨2, ![296, 1024]⟩
abbrev S4x296x1024 : Shape := ⟨3, ![4, 296, 1024]⟩
abbrev S6 : Shape := ⟨1, ![6]⟩
abbrev S1 : Shape := ⟨1, ![1]⟩
abbrev S_ : Shape := ⟨0, ![]⟩
abbrev S1x5120x1024 : Shape := ⟨3, ![1, 5120, 1024]⟩
abbrev S1x296x1024 : Shape := ⟨3, ![1, 296, 1024]⟩
abbrev S2 : Shape := ⟨1, ![2]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 30
  | .vmem => 9
  | .smem => 1
  | _ => 0

abbrev bufTy : (tb : Table) → Fin (tcTables nBuf tb) → BufTy
  | .hbm, ⟨0, _⟩ => ⟨S4x5120x1024, .bf16⟩
  | .hbm, ⟨1, _⟩ => ⟨S5120x1024, .f32⟩
  | .hbm, ⟨2, _⟩ => ⟨S296x1024, .f32⟩
  | .hbm, ⟨3, _⟩ => ⟨S4x5120x1024, .bf16⟩
  | .hbm, ⟨4, _⟩ => ⟨S4x296x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S5120x1024, .f32⟩
  | .hbm, ⟨29, _⟩ => ⟨S296x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S296x1024, .f32⟩
  | .local _ .vmem, ⟨7, _⟩ => ⟨S4x296x1024, .f32⟩
  | .local _ .vmem, ⟨8, _⟩ => ⟨S296x1024, .f32⟩
  | .local _ .smem, ⟨0, _⟩ => ⟨S2, .i32⟩
  | _, _ => ⟨S4x5120x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v19 : Ref sig .tc := ⟨.hbm, 28, rfl⟩
abbrev main_v20 : Ref sig .tc := ⟨.hbm, 29, rfl⟩
abbrev main_v18 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem1_0 : DmaSem sig := 19
abbrev cc2_sem2_0 : DmaSem sig := 20

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_18 : BitVec 32 := 0#32
  let c0_i32_19 : BitVec 32 := 0#32
  ![v16.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v21 : BitVec 32 := Scalar.muli v9 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_26 : BitVec 32 := 0#32
  let c0_i32_27 : BitVec 32 := 0#32
  ![v14.toNat, 0, 0]
def k0_dev2 (d0 : Dev nD) : Nat :=
  let c0_i32_23 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_22 : BitVec 32 := 4#32
  let v35 : BitVec 32 := Scalar.muli v9 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_off4 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_36 : BitVec 32 := 0#32
  let c0_i32_37 : BitVec 32 := 0#32
  ![v18.toNat, 0, 0]
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v47 : BitVec 32 := Scalar.muli v2 c4_i32_30
  let v48 : BitVec 32 := Scalar.addi c0_i32_31 v47
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_32 : BitVec 32 := 2#32
  let v49 : BitVec 32 := Scalar.muli v10 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v61 : BitVec 32 := Scalar.muli v2 c4_i32_39
  let v62 : BitVec 32 := Scalar.addi c0_i32_40 v61
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_41 : BitVec 32 := 2#32
  let v63 : BitVec 32 := Scalar.muli v10 c2_i32_41
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v65 : BitVec 32 := Scalar.muli v8 c1_i32_42
  let v66 : BitVec 32 := Scalar.addi v64 v65
  v66.toNat
def k0_off5 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_53 : BitVec 32 := 0#32
  let c0_i32_54 : BitVec 32 := 0#32
  ![v20.toNat, 0, 0]
def k0_dev5 (d0 : Dev nD) : Nat :=
  let c0_i32_48 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_47 : BitVec 32 := 4#32
  let v73 : BitVec 32 := Scalar.muli v11 c4_i32_47
  let v74 : BitVec 32 := Scalar.addi c0_i32_48 v73
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_49 : BitVec 32 := 2#32
  let v75 : BitVec 32 := Scalar.muli v12 c2_i32_49
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v77 : BitVec 32 := Scalar.muli v8 c1_i32_50
  let v78 : BitVec 32 := Scalar.addi v76 v77
  v78.toNat
def k0_dev6 (d0 : Dev nD) : Nat :=
  let c0_i32_57 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_56 : BitVec 32 := 4#32
  let v87 : BitVec 32 := Scalar.muli v11 c4_i32_56
  let v88 : BitVec 32 := Scalar.addi c0_i32_57 v87
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_58 : BitVec 32 := 2#32
  let v89 : BitVec 32 := Scalar.muli v12 c2_i32_58
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v91 : BitVec 32 := Scalar.muli v8 c1_i32_59
  let v92 : BitVec 32 := Scalar.addi v90 v91
  v92.toNat
abbrev grid1 : Pipeline.Grid := ⟨1, ![10], ![false]⟩

abbrev pre1 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

abbrev pre2 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S296x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x296x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S296x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]
-- ==== ChipsIdeal.lean ====
abbrev S4x5120x1024 : Shape := ⟨3, ![4, 5120, 1024]⟩
abbrev S5120x1024 : Shape := ⟨2, ![5120, 1024]⟩
abbrev S296x1024 : Shape := ⟨2, ![296, 1024]⟩
abbrev S4x296x1024 : Shape := ⟨3, ![4, 296, 1024]⟩
abbrev S6 : Shape := ⟨1, ![6]⟩
abbrev S1 : Shape := ⟨1, ![1]⟩
abbrev S_ : Shape := ⟨0, ![]⟩
abbrev S1x5120x1024 : Shape := ⟨3, ![1, 5120, 1024]⟩
abbrev S1x296x1024 : Shape := ⟨3, ![1, 296, 1024]⟩
abbrev S2 : Shape := ⟨1, ![2]⟩
abbrev S512x1024 : Shape := ⟨2, ![512, 1024]⟩
abbrev S4x512x1024 : Shape := ⟨3, ![4, 512, 1024]⟩
abbrev S1x512x1024 : Shape := ⟨3, ![1, 512, 1024]⟩

abbrev nBuf : Space → Nat
  | .hbm => 30
  | .vmem => 9
  | .smem => 1
  | _ => 0

abbrev bufTy : (tb : Table) → Fin (tcTables nBuf tb) → BufTy
  | .hbm, ⟨0, _⟩ => ⟨S4x5120x1024, .bf16⟩
  | .hbm, ⟨1, _⟩ => ⟨S5120x1024, .f32⟩
  | .hbm, ⟨2, _⟩ => ⟨S296x1024, .f32⟩
  | .hbm, ⟨3, _⟩ => ⟨S4x5120x1024, .bf16⟩
  | .hbm, ⟨4, _⟩ => ⟨S4x296x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S5120x1024, .f32⟩
  | .hbm, ⟨29, _⟩ => ⟨S296x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .bf16⟩
  | .local _ .vmem, ⟨3, _⟩ => ⟨S4x512x1024, .bf16⟩
  | .local _ .vmem, ⟨4, _⟩ => ⟨S512x1024, .f32⟩
  | .local _ .vmem, ⟨5, _⟩ => ⟨S512x1024, .f32⟩
  | .local _ .vmem, ⟨6, _⟩ => ⟨S296x1024, .f32⟩
  | .local _ .vmem, ⟨7, _⟩ => ⟨S4x296x1024, .f32⟩
  | .local _ .vmem, ⟨8, _⟩ => ⟨S296x1024, .f32⟩
  | .local _ .smem, ⟨0, _⟩ => ⟨S2, .i32⟩
  | _, _ => ⟨S4x5120x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_c_2 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v19 : Ref sig .tc := ⟨.hbm, 28, rfl⟩
abbrev main_v20 : Ref sig .tc := ⟨.hbm, 29, rfl⟩
abbrev main_v18 : Ref sig .tc := ⟨.smem, 0, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem1_0 : DmaSem sig := 19
abbrev cc2_sem2_0 : DmaSem sig := 20

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_off2 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_18 : BitVec 32 := 0#32
  let c0_i32_19 : BitVec 32 := 0#32
  ![v16.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v21 : BitVec 32 := Scalar.muli v9 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_26 : BitVec 32 := 0#32
  let c0_i32_27 : BitVec 32 := 0#32
  ![v14.toNat, 0, 0]
def k0_dev2 (d0 : Dev nD) : Nat :=
  let c0_i32_23 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_22 : BitVec 32 := 4#32
  let v35 : BitVec 32 := Scalar.muli v9 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_off4 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_36 : BitVec 32 := 0#32
  let c0_i32_37 : BitVec 32 := 0#32
  ![v18.toNat, 0, 0]
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v47 : BitVec 32 := Scalar.muli v2 c4_i32_30
  let v48 : BitVec 32 := Scalar.addi c0_i32_31 v47
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_32 : BitVec 32 := 2#32
  let v49 : BitVec 32 := Scalar.muli v10 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v61 : BitVec 32 := Scalar.muli v2 c4_i32_39
  let v62 : BitVec 32 := Scalar.addi c0_i32_40 v61
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_41 : BitVec 32 := 2#32
  let v63 : BitVec 32 := Scalar.muli v10 c2_i32_41
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v65 : BitVec 32 := Scalar.muli v8 c1_i32_42
  let v66 : BitVec 32 := Scalar.addi v64 v65
  v66.toNat
def k0_off5 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_53 : BitVec 32 := 0#32
  let c0_i32_54 : BitVec 32 := 0#32
  ![v20.toNat, 0, 0]
def k0_dev5 (d0 : Dev nD) : Nat :=
  let c0_i32_48 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_47 : BitVec 32 := 4#32
  let v73 : BitVec 32 := Scalar.muli v11 c4_i32_47
  let v74 : BitVec 32 := Scalar.addi c0_i32_48 v73
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_49 : BitVec 32 := 2#32
  let v75 : BitVec 32 := Scalar.muli v12 c2_i32_49
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v77 : BitVec 32 := Scalar.muli v8 c1_i32_50
  let v78 : BitVec 32 := Scalar.addi v76 v77
  v78.toNat
def k0_dev6 (d0 : Dev nD) : Nat :=
  let c0_i32_57 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_56 : BitVec 32 := 4#32
  let v87 : BitVec 32 := Scalar.muli v11 c4_i32_56
  let v88 : BitVec 32 := Scalar.addi c0_i32_57 v87
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_58 : BitVec 32 := 2#32
  let v89 : BitVec 32 := Scalar.muli v12 c2_i32_58
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v91 : BitVec 32 := Scalar.muli v8 c1_i32_59
  let v92 : BitVec 32 := Scalar.addi v90 v91
  v92.toNat
abbrev grid1 : Pipeline.Grid := ⟨1, ![10], ![false]⟩

abbrev pre1 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

abbrev pre2 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S296x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S4x296x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S296x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]
-- ==== ChipsRefIdeal.lean ====
abbrev S16x10240x1024 : Shape := ⟨3, ![16, 10240, 1024]⟩
abbrev S40960x1024 : Shape := ⟨2, ![40960, 1024]⟩
abbrev S1184x2048 : Shape := ⟨2, ![1184, 2048]⟩
abbrev S4x4x10240x1024 : Shape := ⟨4, ![4, 4, 10240, 1024]⟩
abbrev S4x4 : Shape := ⟨2, ![4, 4]⟩
abbrev S_ : Shape := ⟨0, ![]⟩
abbrev S4x4x1x1 : Shape := ⟨4, ![4, 4, 1, 1]⟩
abbrev S4x10240x1024 : Shape := ⟨3, ![4, 10240, 1024]⟩
abbrev S4x296x2048 : Shape := ⟨3, ![4, 296, 2048]⟩
abbrev S296x2048 : Shape := ⟨2, ![296, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x10240x1024, .bf16⟩
  | .hbm, ⟨1, _⟩ => ⟨S40960x1024, .f32⟩
  | .hbm, ⟨2, _⟩ => ⟨S1184x2048, .f32⟩
  | .hbm, ⟨3, _⟩ => ⟨S4x4x10240x1024, .bf16⟩
  | .hbm, ⟨4, _⟩ => ⟨S4x4x10240x1024, .f32⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4x1x1, .i1⟩
  | .hbm, ⟨12, _⟩ => ⟨S_, .f32⟩
  | .hbm, ⟨13, _⟩ => ⟨S_, .f32⟩
  | .hbm, ⟨14, _⟩ => ⟨S4x4x10240x1024, .i1⟩
  | .hbm, ⟨15, _⟩ => ⟨S4x4x10240x1024, .f32⟩
  | .hbm, ⟨16, _⟩ => ⟨S4x4x10240x1024, .f32⟩
  | .hbm, ⟨17, _⟩ => ⟨S_, .f32⟩
  | .hbm, ⟨18, _⟩ => ⟨S4x10240x1024, .f32⟩
  | .hbm, ⟨19, _⟩ => ⟨S40960x1024, .f32⟩
  | .hbm, ⟨20, _⟩ => ⟨S40960x1024, .f32⟩
  | .hbm, ⟨21, _⟩ => ⟨S4x296x2048, .f32⟩
  | .hbm, ⟨22, _⟩ => ⟨S_, .f32⟩
  | .hbm, ⟨23, _⟩ => ⟨S296x2048, .f32⟩
  | _, _ => ⟨S16x10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Add2.lean ====
abbrev S296x1024 : Shape := ⟨2, ![296, 1024]⟩

abbrev nBuf : Space → Nat
  | .hbm => 3
  | .vmem => 3
  | .smem => 0
  | _ => 0

abbrev bufTy : (tb : Table) → Fin (tcTables nBuf tb) → BufTy
  | .hbm, ⟨0, _⟩ => ⟨S296x1024, .f32⟩
  | .hbm, ⟨1, _⟩ => ⟨S296x1024, .f32⟩
  | .hbm, ⟨2, _⟩ => ⟨S296x1024, .f32⟩
  | .local _ .vmem, ⟨0, _⟩ => ⟨S296x1024, .f32⟩
  | .local _ .vmem, ⟨1, _⟩ => ⟨S296x1024, .f32⟩
  | .local _ .vmem, ⟨2, _⟩ => ⟨S296x1024, .f32⟩
  | _, _ => ⟨S296x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S296x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S296x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S296x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Add2RefIdeal.lean ====
abbrev S296x1024 : Shape := ⟨2, ![296, 1024]⟩

abbrev nBuf : Space → Nat
  | .hbm => 3
  | .vmem => 0
  | .smem => 0
  | _ => 0

abbrev bufTy : (tb : Table) → Fin (tcTables nBuf tb) → BufTy
  | .hbm, ⟨0, _⟩ => ⟨S296x1024, .f32⟩
  | .hbm, ⟨1, _⟩ => ⟨S296x1024, .f32⟩
  | .hbm, ⟨2, _⟩ => ⟨S296x1024, .f32⟩
  | _, _ => ⟨S296x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S8192x1024 : Shape := ⟨2, ![8192, 1024]⟩
abbrev S8x128 : Shape := ⟨2, ![8, 128]⟩
abbrev S256x1024 : Shape := ⟨2, ![256, 1024]⟩
abbrev S32x8x1024 : Shape := ⟨3, ![32, 8, 1024]⟩
abbrev S8x1024 : Shape := ⟨2, ![8, 1024]⟩
abbrev S_ : Shape := ⟨0, ![]⟩

abbrev nBuf : Space → Nat
  | .hbm => 19
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v3_s0 : Ref sig .tc := ⟨.hbm, 7, rfl⟩
abbrev main_v3_s1 : Ref sig .tc := ⟨.hbm, 8, rfl⟩
abbrev main_v3_s2 : Ref sig .tc := ⟨.hbm, 9, rfl⟩
abbrev main_v3_s3 : Ref sig .tc := ⟨.hbm, 10, rfl⟩
abbrev main_v3_s4 : Ref sig .tc := ⟨.hbm, 11, rfl⟩
abbrev main_v3_s5 : Ref sig .tc := ⟨.hbm, 12, rfl⟩
abbrev main_v3_s6 : Ref sig .tc := ⟨.hbm, 13, rfl⟩
abbrev main_v3_s7 : Ref sig .tc := ⟨.hbm, 14, rfl⟩
abbrev main_cst_0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S65536x1024 : Shape := ⟨2, ![65536, 1024]⟩
abbrev S_ : Shape := ⟨0, ![]⟩
abbrev S65536 : Shape := ⟨1, ![65536]⟩

abbrev nBuf : Space → Nat
  | .hbm => 16
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== GradX.lean ====
abbrev S8192x8192 : Shape := ⟨2, ![8192, 8192]⟩
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXRefIdeal.lean ====
abbrev S8192x8192 : Shape := ⟨2, ![8192, 8192]⟩
abbrev S1024x8192 : Shape := ⟨2, ![1024, 8192]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== ProjMain.lean ====
abbrev S8192x1024 : Shape := ⟨2, ![8192, 1024]⟩
abbrev S1024x8192 : Shape := ⟨2, ![1024, 8192]⟩
abbrev S8192x8192 : Shape := ⟨2, ![8192, 8192]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainRefIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjGates.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOutDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjGatesDx.lean ====
abbrev S8192x256 : Shape := ⟨2, ![8192, 256]⟩
abbrev S1024x256 : Shape := ⟨2, ![1024, 256]⟩
abbrev S8192x1024 : Shape := ⟨2, ![8192, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x1024, .f32⟩
  | .hbm, ⟨3, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjGatesDxRefIdeal.lean ====
abbrev S8192x256 : Shape := ⟨2, ![8192, 256]⟩
abbrev S1024x256 : Shape := ⟨2, ![1024, 256]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnInDx.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDxRefIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnOutDw.lean ====
abbrev S8192x2816 : Shape := ⟨2, ![8192, 2816]⟩
abbrev S8192x1024 : Shape := ⟨2, ![8192, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x2816 : Shape := ⟨2, ![8192, 2816]⟩
abbrev S8192x1024 : Shape := ⟨2, ![8192, 1024]⟩
abbrev S2816x1024 : Shape := ⟨2, ![2816, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnInDw.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x1024 : Shape := ⟨2, ![8192, 1024]⟩
abbrev S8192x5632 : Shape := ⟨2, ![8192, 5632]⟩
abbrev S1024x5632 : Shape := ⟨2, ![1024, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjMainDw.lean ====
abbrev S8192x1024 : Shape := ⟨2, ![8192, 1024]⟩
abbrev S8192x8192 : Shape := ⟨2, ![8192, 8192]⟩
abbrev S1024x8192 : Shape := ⟨2, ![1024, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainDwRefIdeal.lean ====
abbrev S8192x1024 : Shape := ⟨2, ![8192, 1024]⟩
abbrev S8192x8192 : Shape := ⟨2, ![8192, 8192]⟩
abbrev S1024x8192 : Shape := ⟨2, ![1024, 8192]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjGatesDw.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjGatesDwRefIdeal.lean ====
abbrev S8192x1024 : Shape := ⟨2, ![8192, 1024]⟩
abbrev S8192x256 : Shape := ⟨2, ![8192, 256]⟩
abbrev S1024x256 : Shape := ⟨2, ![1024, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SwigluFwd.lean ====
abbrev S8192x5632 : Shape := ⟨2, ![8192, 5632]⟩
abbrev S8192x2816 : Shape := ⟨2, ![8192, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluFwdRefIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== SwigluBwd.lean ====
abbrev S8192x2816 : Shape := ⟨2, ![8192, 2816]⟩
abbrev S8192x5632 : Shape := ⟨2, ![8192, 5632]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S8192x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBwdRefIdeal.lean ====
abbrev S8192x2816 : Shape := ⟨2, ![8192, 2816]⟩
abbrev S8192x5632 : Shape := ⟨2, ![8192, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x5632, .f32⟩
  | .hbm, ⟨25, _⟩ => ⟨S8192x5632, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ResLn.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResLnRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S8x1024, .f32⟩
  | .hbm, ⟨6, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== GateSgu.lean ====
abbrev S8192x1024 : Shape := ⟨2, ![8192, 1024]⟩
abbrev S8192x8192 : Shape := ⟨2, ![8192, 8192]⟩
abbrev S1x1024 : Shape := ⟨2, ![1, 1024]⟩
abbrev S8x128x128 : Shape := ⟨3, ![8, 128, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S128x128, .f32⟩
  | .hbm, ⟨7, _⟩ => ⟨S8192x1024, .bf16⟩
  | .hbm, ⟨8, _⟩ => ⟨S8192x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x128, .f32⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GateSguRefIdeal.lean ====
abbrev S8192x1024 : Shape := ⟨2, ![8192, 1024]⟩
abbrev S8192x8192 : Shape := ⟨2, ![8192, 8192]⟩
abbrev S1x1024 : Shape := ⟨2, ![1, 1024]⟩
abbrev S8x128x128 : Shape := ⟨3, ![8, 128, 128]⟩
abbrev S128x128 : Shape := ⟨2, ![128, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S8x128 : Shape := ⟨2, ![8, 128]⟩
abbrev S1x8x128 : Shape := ⟨3, ![1, 8, 128]⟩
abbrev S8192 : Shape := ⟨1, ![8192]⟩
abbrev S8192x1 : Shape := ⟨2, ![8192, 1]⟩
abbrev S128 : Shape := ⟨1, ![128]⟩
abbrev S128x1 : Shape := ⟨2, ![128, 1]⟩
abbrev S1x128 : Shape := ⟨2, ![1, 128]⟩
abbrev S64x128x8x128 : Shape := ⟨4, ![64, 128, 8, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S128x128, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x8x128, .f32⟩
  | .hbm, ⟨11, _⟩ => ⟨S8192x8x128, .f32⟩
  | .hbm, ⟨12, _⟩ => ⟨S_, .f32⟩
  | .hbm, ⟨13, _⟩ => ⟨S8192x8, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S8x128, .f32⟩
  | .hbm, ⟨25, _⟩ => ⟨S1x8x128, .f32⟩
  | .hbm, ⟨26, _⟩ => ⟨S8192x8x128, .f32⟩
  | .hbm, ⟨27, _⟩ => ⟨S8192x8x128, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S128, .i32⟩
  | .hbm, ⟨77, _⟩ => ⟨S_, .i32⟩
  | .hbm, ⟨78, _⟩ => ⟨S_, .i32⟩
  | .hbm, ⟨79, _⟩ => ⟨S128, .i32⟩
  | .hbm, ⟨80, _⟩ => ⟨S128, .i32⟩
  | .hbm, ⟨81, _⟩ => ⟨S128, .i32⟩
  | .hbm, ⟨82, _⟩ => ⟨S_, .i32⟩
  | .hbm, ⟨83, _⟩ => ⟨S128, .i32⟩
  | .hbm, ⟨84, _⟩ => ⟨S128, .i1⟩
  | .hbm, ⟨85, _⟩ => ⟨S128, .i32⟩
  | .hbm, ⟨86, _⟩ => ⟨S128, .i32⟩
  | .hbm, ⟨87, _⟩ => ⟨S_, .i32⟩
  | .hbm, ⟨88, _⟩ => ⟨S128, .i32⟩
  | .hbm, ⟨89, _⟩ => ⟨S128, .i1⟩
  | .hbm, ⟨90, _⟩ => ⟨S128, .i1⟩
  | .hbm, ⟨91, _⟩ => ⟨S_, .i32⟩
  | .hbm, ⟨92, _⟩ => ⟨S128, .i32⟩
  | .hbm, ⟨93, _⟩ => ⟨S128, .i32⟩
  | .hbm, ⟨94, _⟩ => ⟨S128, .i32⟩
  | .hbm, ⟨95, _⟩ => ⟨S128x1, .i32⟩
  | .hbm, ⟨96, _⟩ => ⟨S1x128, .i32⟩
  | .hbm, ⟨97, _⟩ => ⟨S128x128, .i32⟩
  | .hbm, ⟨98, _⟩ => ⟨S128x128, .i32⟩
  | .hbm, ⟨99, _⟩ => ⟨S128x128, .i1⟩
  | .hbm, ⟨100, _⟩ => ⟨S_, .f32⟩
  | .hbm, ⟨101, _⟩ => ⟨S_, .f32⟩
  | .hbm, ⟨102, _⟩ => ⟨S8x128x128, .i1⟩
  | .hbm, ⟨103, _⟩ => ⟨S8x128x128, .f32⟩
  | .hbm, ⟨104, _⟩ => ⟨S8x128x128, .f32⟩
  | .hbm, ⟨105, _⟩ => ⟨S64x128x8x128, .f32⟩
  | .hbm, ⟨106, _⟩ => ⟨S8x128x128, .bf16⟩
  | .hbm, ⟨107, _⟩ => ⟨S64x128x8x128, .bf16⟩
  | .hbm, ⟨108, _⟩ => ⟨S8x64x128x128, .f32⟩
  | .hbm, ⟨109, _⟩ => ⟨S64x128x8x128, .f32⟩
  | .hbm, ⟨110, _⟩ => ⟨S128x8, .f32⟩
  | .hbm, ⟨111, _⟩ => ⟨S1x128x8x1, .f32⟩
  | .hbm, ⟨112, _⟩ => ⟨S64x128x8x128, .f32⟩
  | .hbm, ⟨113, _⟩ => ⟨S64x128x8x128, .f32⟩
  | .hbm, ⟨114, _⟩ => ⟨S_, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S_, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S8192x1024, .f32⟩
  | .hbm, ⟨124, _⟩ => ⟨S8192x1024, .f32⟩
  | .hbm, ⟨125, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_c : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_0 : Ref sig .tc := ⟨.hbm, 91, rfl⟩
abbrev main_call1_v12 : Ref sig .tc := ⟨.hbm, 92, rfl⟩
abbrev main_call1_v13 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_9 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_10 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_11 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩

abbrev nD : Nat := 1
abbrev τ : Topo := Topo.v7x

variable {F : FTy → Type} [FloatOps F]
-- ==== MixFwd.lean ====
abbrev S8192x1024 : Shape := ⟨2, ![8192, 1024]⟩
abbrev S8192x8192 : Shape := ⟨2, ![8192, 8192]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixFwdRefIdeal.lean ====
abbrev S8192x1024 : Shape := ⟨2, ![8192, 1024]⟩
abbrev S8192x8192 : Shape := ⟨2, ![8192, 8192]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x8192, .f32⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== MixBwd.lean ====
abbrev S8192x1024 : Shape := ⟨2, ![8192, 1024]⟩
abbrev S8192x8192 : Shape := ⟨2, ![8192, 8192]⟩
abbrev S1024x1024 : Shape := ⟨2, ![1024, 1024]⟩
abbrev S256x1024 : Shape := ⟨2, ![256, 1024]⟩
abbrev S256x2048 : Shape := ⟨2, ![256, 2048]⟩

abbrev nBuf : Space → Nat
  | .hbm => 12
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .hbm, ⟨10, _⟩ => ⟨S8192x1024, .f32⟩
  | .hbm, ⟨11, _⟩ => ⟨S8192x8192, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixBwdRefIdeal.lean ====
abbrev S8192x1024 : Shape := ⟨2, ![8192, 1024]⟩
abbrev S8192x8192 : Shape := ⟨2, ![8192, 8192]⟩
abbrev S1024x1024 : Shape := ⟨2, ![1024, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== AdamIn.lean ====
abbrev S2048x2052 : Shape := ⟨2, ![2048, 2052]⟩
abbrev S256x2052 : Shape := ⟨2, ![256, 2052]⟩

abbrev nBuf : Space → Nat
  | .hbm => 7
  | .vmem => 14
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S2048x2052, .f32⟩
  | .hbm, ⟨4, _⟩ => ⟨S2048x2052, .f32⟩
  | .hbm, ⟨5, _⟩ => ⟨S2048x2052, .f32⟩
  | .hbm, ⟨6, _⟩ => ⟨S2048x2052, .f32⟩
  | .local _ .vmem, ⟨0, _⟩ => ⟨S256x2052, .f32⟩
  | .local _ .vmem, ⟨1, _⟩ => ⟨S256x2052, .f32⟩
  | .local _ .vmem, ⟨2, _⟩ => ⟨S256x2052, .f32⟩
  | .local _ .vmem, ⟨3, _⟩ => ⟨S256x2052, .f32⟩
  | .local _ .vmem, ⟨4, _⟩ => ⟨S256x2052, .f32⟩
  | .local _ .vmem, ⟨5, _⟩ => ⟨S256x2052, .f32⟩
  | .local _ .vmem, ⟨6, _⟩ => ⟨S256x2052, .f32⟩
  | .local _ .vmem, ⟨7, _⟩ => ⟨S256x2052, .f32⟩
  | .local _ .vmem, ⟨8, _⟩ => ⟨S256x2052, .f32⟩
  | .local _ .vmem, ⟨9, _⟩ => ⟨S256x2052, .f32⟩
  | .local _ .vmem, ⟨10, _⟩ => ⟨S256x2052, .f32⟩
  | .local _ .vmem, ⟨11, _⟩ => ⟨S256x2052, .f32⟩
  | .local _ .vmem, ⟨12, _⟩ => ⟨S256x2052, .f32⟩
  | .local _ .vmem, ⟨13, _⟩ => ⟨S256x2052, .f32⟩
  | _, _ => ⟨S2048x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x2052 : Shape := ⟨2, ![2048, 2052]⟩
abbrev S256x2052 : Shape := ⟨2, ![256, 2052]⟩

abbrev nBuf : Space → Nat
  | .hbm => 7
  | .vmem => 14
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S2048x2052, .f32⟩
  | .hbm, ⟨4, _⟩ => ⟨S2048x2052, .f32⟩
  | .hbm, ⟨5, _⟩ => ⟨S2048x2052, .f32⟩
  | .hbm, ⟨6, _⟩ => ⟨S2048x2052, .f32⟩
  | .local _ .vmem, ⟨0, _⟩ => ⟨S256x2052, .f32⟩
  | .local _ .vmem, ⟨1, _⟩ => ⟨S256x2052, .f32⟩
  | .local _ .vmem, ⟨2, _⟩ => ⟨S256x2052, .f32⟩
  | .local _ .vmem, ⟨3, _⟩ => ⟨S256x2052, .f32⟩
  | .local _ .vmem, ⟨4, _⟩ => ⟨S256x2052, .f32⟩
  | .local _ .vmem, ⟨5, _⟩ => ⟨S256x2052, .f32⟩
  | .local _ .vmem, ⟨6, _⟩ => ⟨S256x2052, .f32⟩
  | .local _ .vmem, ⟨7, _⟩ => ⟨S256x2052, .f32⟩
  | .local _ .vmem, ⟨8, _⟩ => ⟨S256x2052, .f32⟩
  | .local _ .vmem, ⟨9, _⟩ => ⟨S256x2052, .f32⟩
  | .local _ .vmem, ⟨10, _⟩ => ⟨S256x2052, .f32⟩
  | .local _ .vmem, ⟨11, _⟩ => ⟨S256x2052, .f32⟩
  | .local _ .vmem, ⟨12, _⟩ => ⟨S256x2052, .f32⟩
  | .local _ .vmem, ⟨13, _⟩ => ⟨S256x2052, .f32⟩
  | _, _ => ⟨S2048x2052, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2052 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2052 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2052 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2052 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2052 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2052 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2052 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x2052 : Shape := ⟨2, ![2048, 2052]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2052, .f32⟩
  | .hbm, ⟨1, _⟩ => ⟨S2048x2052, .f32⟩
  | .hbm, ⟨2, _⟩ => ⟨S2048x2052, .f32⟩
  | .hbm, ⟨3, _⟩ => ⟨S2048x2052, .f32⟩
  | .hbm, ⟨4, _⟩ => ⟨S_, .f32⟩
  | .hbm, ⟨5, _⟩ => ⟨S2048x2052, .f32⟩
  | .hbm, ⟨6, _⟩ => ⟨S2048x2052, .f32⟩
  | .hbm, ⟨7, _⟩ => ⟨S_, .f32⟩
  | .hbm, ⟨8, _⟩ => ⟨S2048x2052, .f32⟩
  | .hbm, ⟨9, _⟩ => ⟨S2048x2052, .f32⟩
  | .hbm, ⟨10, _⟩ => ⟨S2048x2052, .f32⟩
  | .hbm, ⟨11, _⟩ => ⟨S_, .f32⟩
  | .hbm, ⟨12, _⟩ => ⟨S2048x2052, .f32⟩
  | .hbm, ⟨13, _⟩ => ⟨S2048x2052, .f32⟩
  | .hbm, ⟨14, _⟩ => ⟨S2048x2052, .f32⟩
  | .hbm, ⟨15, _⟩ => ⟨S_, .f32⟩
  | .hbm, ⟨16, _⟩ => ⟨S2048x2052, .f32⟩
  | .hbm, ⟨17, _⟩ => ⟨S2048x2052, .f32⟩
  | .hbm, ⟨18, _⟩ => ⟨S2048x2052, .f32⟩
  | .hbm, ⟨19, _⟩ => ⟨S_, .f32⟩
  | .hbm, ⟨20, _⟩ => ⟨S2048x2052, .f32⟩
  | .hbm, ⟨21, _⟩ => ⟨S2048x2052, .f32⟩
  | .hbm, ⟨22, _⟩ => ⟨S_, .f32⟩
  | .hbm, ⟨23, _⟩ => ⟨S2048x2052, .f32⟩
  | .hbm, ⟨24, _⟩ => ⟨S2048x2052, .f32⟩
  | .hbm, ⟨25, _⟩ => ⟨S2048x2052, .f32⟩
  | .hbm, ⟨26, _⟩ => ⟨S_, .f32⟩
  | .hbm, ⟨27, _⟩ => ⟨S2048x2052, .f32⟩
  | .hbm, ⟨28, _⟩ => ⟨S2048x2052, .f32⟩
  | .hbm, ⟨29, _⟩ => ⟨S2048x2052, .f32⟩
  | .hbm, ⟨30, _⟩ => ⟨S_, .f32⟩
  | .hbm, ⟨31, _⟩ => ⟨S2048x2052, .f32⟩
  | .hbm, ⟨32, _⟩ => ⟨S2048x2052, .f32⟩
  | .hbm, ⟨33, _⟩ => ⟨S2048x2052, .f32⟩
  | .hbm, ⟨34, _⟩ => ⟨S_, .f32⟩
  | .hbm, ⟨35, _⟩ => ⟨S2048x2052, .f32⟩
  | .hbm, ⟨36, _⟩ => ⟨S2048x2052, .f32⟩
  | _, _ => ⟨S2048x2052, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamProjRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S8x768 : Shape := ⟨2, ![8, 768]⟩

abbrev nBuf : Space → Nat
  | .hbm => 7
  | .vmem => 7
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S8x768, .f32⟩
  | .hbm, ⟨5, _⟩ => ⟨S8x768, .f32⟩
  | .hbm, ⟨6, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S8x768 : Shape := ⟨2, ![8, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x768, .f32⟩
  | .hbm, ⟨1, _⟩ => ⟨S8x768, .f32⟩
  | .hbm, ⟨2, _⟩ => ⟨S8x768, .f32⟩
  | .hbm, ⟨3, _⟩ => ⟨S8x768, .f32⟩
  | .hbm, ⟨4, _⟩ => ⟨S_, .f32⟩
  | .hbm, ⟨5, _⟩ => ⟨S8x768, .f32⟩
  | .hbm, ⟨6, _⟩ => ⟨S8x768, .f32⟩
  | .hbm, ⟨7, _⟩ => ⟨S_, .f32⟩
  | .hbm, ⟨8, _⟩ => ⟨S8x768, .f32⟩
  | .hbm, ⟨9, _⟩ => ⟨S8x768, .f32⟩
  | .hbm, ⟨10, _⟩ => ⟨S8x768, .f32⟩
  | .hbm, ⟨11, _⟩ => ⟨S_, .f32⟩
  | .hbm, ⟨12, _⟩ => ⟨S8x768, .f32⟩
  | .hbm, ⟨13, _⟩ => ⟨S8x768, .f32⟩
  | .hbm, ⟨14, _⟩ => ⟨S8x768, .f32⟩
  | .hbm, ⟨15, _⟩ => ⟨S_, .f32⟩
  | .hbm, ⟨16, _⟩ => ⟨S8x768, .f32⟩
  | .hbm, ⟨17, _⟩ => ⟨S8x768, .f32⟩
  | .hbm, ⟨18, _⟩ => ⟨S8x768, .f32⟩
  | .hbm, ⟨19, _⟩ => ⟨S_, .f32⟩
  | .hbm, ⟨20, _⟩ => ⟨S8x768, .f32⟩
  | .hbm, ⟨21, _⟩ => ⟨S8x768, .f32⟩
  | .hbm, ⟨22, _⟩ => ⟨S_, .f32⟩
  | .hbm, ⟨23, _⟩ => ⟨S8x768, .f32⟩
  | .hbm, ⟨24, _⟩ => ⟨S8x768, .f32⟩
  | .hbm, ⟨25, _⟩ => ⟨S8x768, .f32⟩
  | .hbm, ⟨26, _⟩ => ⟨S_, .f32⟩
  | .hbm, ⟨27, _⟩ => ⟨S8x768, .f32⟩
  | .hbm, ⟨28, _⟩ => ⟨S8x768, .f32⟩
  | .hbm, ⟨29, _⟩ => ⟨S8x768, .f32⟩
  | .hbm, ⟨30, _⟩ => ⟨S_, .f32⟩
  | .hbm, ⟨31, _⟩ => ⟨S8x768, .f32⟩
  | .hbm, ⟨32, _⟩ => ⟨S8x768, .f32⟩
  | .hbm, ⟨33, _⟩ => ⟨S8x768, .f32⟩
  | .hbm, ⟨34, _⟩ => ⟨S_, .f32⟩
  | .hbm, ⟨35, _⟩ => ⟨S8x768, .f32⟩
  | .hbm, ⟨36, _⟩ => ⟨S8x768, .f32⟩
  | _, _ => ⟨S8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S272x1024 : Shape := ⟨2, ![272, 1024]⟩
abbrev S136x1024 : Shape := ⟨2, ![136, 1024]⟩

abbrev nBuf : Space → Nat
  | .hbm => 7
  | .vmem => 14
  | .smem => 0
  | _ => 0

abbrev bufTy : (tb : Table) → Fin (tcTables nBuf tb) → BufTy
  | .hbm, ⟨0, _⟩ => ⟨S272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S272x1024, .f32⟩
  | .hbm, ⟨5, _⟩ => ⟨S272x1024, .f32⟩
  | .hbm, ⟨6, _⟩ => ⟨S272x1024, .f32⟩
  | .local _ .vmem, ⟨0, _⟩ => ⟨S136x1024, .f32⟩
  | .local _ .vmem, ⟨1, _⟩ => ⟨S136x1024, .f32⟩
  | .local _ .vmem, ⟨2, _⟩ => ⟨S136x1024, .f32⟩
  | .local _ .vmem, ⟨3, _⟩ => ⟨S136x1024, .f32⟩
  | .local _ .vmem, ⟨4, _⟩ => ⟨S136x1024, .f32⟩
  | .local _ .vmem, ⟨5, _⟩ => ⟨S136x1024, .f32⟩
  | .local _ .vmem, ⟨6, _⟩ => ⟨S136x1024, .f32⟩
  | .local _ .vmem, ⟨7, _⟩ => ⟨S136x1024, .f32⟩
  | .local _ .vmem, ⟨8, _⟩ => ⟨S136x1024, .f32⟩
  | .local _ .vmem, ⟨9, _⟩ => ⟨S136x1024, .f32⟩
  | .local _ .vmem, ⟨10, _⟩ => ⟨S136x1024, .f32⟩
  | .local _ .vmem, ⟨11, _⟩ => ⟨S136x1024, .f32⟩
  | .local _ .vmem, ⟨12, _⟩ => ⟨S136x1024, .f32⟩
  | .local _ .vmem, ⟨13, _⟩ => ⟨S136x1024, .f32⟩
  | _, _ => ⟨S272x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S272x1024 : Shape := ⟨2, ![272, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S272x1024, .f32⟩
  | .hbm, ⟨1, _⟩ => ⟨S272x1024, .f32⟩
  | .hbm, ⟨2, _⟩ => ⟨S272x1024, .f32⟩
  | .hbm, ⟨3, _⟩ => ⟨S272x1024, .f32⟩
  | .hbm, ⟨4, _⟩ => ⟨S_, .f32⟩
  | .hbm, ⟨5, _⟩ => ⟨S272x1024, .f32⟩
  | .hbm, ⟨6, _⟩ => ⟨S272x1024, .f32⟩
  | .hbm, ⟨7, _⟩ => ⟨S_, .f32⟩
  | .hbm, ⟨8, _⟩ => ⟨S272x1024, .f32⟩
  | .hbm, ⟨9, _⟩ => ⟨S272x1024, .f32⟩
  | .hbm, ⟨10, _⟩ => ⟨S272x1024, .f32⟩
  | .hbm, ⟨11, _⟩ => ⟨S_, .f32⟩
  | .hbm, ⟨12, _⟩ => ⟨S272x1024, .f32⟩
  | .hbm, ⟨13, _⟩ => ⟨S272x1024, .f32⟩
  | .hbm, ⟨14, _⟩ => ⟨S272x1024, .f32⟩
  | .hbm, ⟨15, _⟩ => ⟨S_, .f32⟩
  | .hbm, ⟨16, _⟩ => ⟨S272x1024, .f32⟩
  | .hbm, ⟨17, _⟩ => ⟨S272x1024, .f32⟩
  | .hbm, ⟨18, _⟩ => ⟨S272x1024, .f32⟩
  | .hbm, ⟨19, _⟩ => ⟨S_, .f32⟩
  | .hbm, ⟨20, _⟩ => ⟨S272x1024, .f32⟩
  | .hbm, ⟨21, _⟩ => ⟨S272x1024, .f32⟩
  | .hbm, ⟨22, _⟩ => ⟨S_, .f32⟩
  | .hbm, ⟨23, _⟩ => ⟨S272x1024, .f32⟩
  | .hbm, ⟨24, _⟩ => ⟨S272x1024, .f32⟩
  | .hbm, ⟨25, _⟩ => ⟨S272x1024, .f32⟩
  | .hbm, ⟨26, _⟩ => ⟨S_, .f32⟩
  | .hbm, ⟨27, _⟩ => ⟨S272x1024, .f32⟩
  | .hbm, ⟨28, _⟩ => ⟨S272x1024, .f32⟩
  | .hbm, ⟨29, _⟩ => ⟨S272x1024, .f32⟩
  | .hbm, ⟨30, _⟩ => ⟨S_, .f32⟩
  | .hbm, ⟨31, _⟩ => ⟨S272x1024, .f32⟩
  | .hbm, ⟨32, _⟩ => ⟨S272x1024, .f32⟩
  | .hbm, ⟨33, _⟩ => ⟨S272x1024, .f32⟩
  | .hbm, ⟨34, _⟩ => ⟨S_, .f32⟩
  | .hbm, ⟨35, _⟩ => ⟨S272x1024, .f32⟩
  | .hbm, ⟨36, _⟩ => ⟨S272x1024, .f32⟩
  | _, _ => ⟨S272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Adam.Value.lean ====
/- AdamW on each shape of array it is called at: the tiled kernel and the plain formulas end with the same three arrays. -/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamProj.Frame
public import proofs.«01_k».proof.Proof.Gen.AdamProjIdeal.Value
public import proofs.«01_k».proof.Proof.Gen.AdamProjRefIdeal.Run
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

noncomputable section

open Idealize.ShloMosaic Idealize.ShloMosaic.TcCoe
open Idealize.SL.Sem

namespace Cert.AdamProof

/-- Three results that are functions of four arguments, read at equal arguments. -/
theorem at_equal {A B : Type} {p q r : B} {P : A → A → A → A → B} {Q R : A → A → B} {w g a v w' g' a' v' : A} {K : Prop}
    (h : p = P w' g' a' v' ∧ q = Q g' a' ∧ r = R g' v' ∧ K) (e : w' = w ∧ g' = g ∧ a' = a ∧ v' = v) :
    p = P w g a v ∧ q = Q g a ∧ r = R g v ∧ K := by
  obtain ⟨rfl, rfl, rfl, rfl⟩ := e
  exact h

/-! ## The input projection -/

theorem in_frame : Cert.quiescent_AdamIn := fun m ρ _ => Cert.AdamIn.Gen.frame (F := Bits) m ρ

theorem in_frame_ideal : Cert.quiescent_AdamInIdeal := fun m ρ _ => Cert.AdamInIdeal.Gen.frame (F := Ideal) m ρ

theorem in_frame_ref : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem in_algebraic : Cert.algebraic_AdamInIdeal_AdamInRefIdeal := fun m g m' g' _ hm =>
  ⟨_, _, _, Cert.AdamInIdeal.Value.run (F := Ideal) m g, (θ_run Cert.AdamInRefIdeal.defs _ _).mono
    (fun _ h c => at_equal (P := fun w g a v => Cert.AdamInIdeal.Value.G4 g a v w) (Q := Cert.AdamInIdeal.Value.G5)
      (R := Cert.AdamInIdeal.Value.G6) (h c) (hm c)) (Cert.AdamInRefIdeal.Value.run (F := Ideal) m' g')⟩

/-! ## The two branch projections and the output projection -/

theorem proj_frame : Cert.quiescent_AdamProj := fun m ρ _ => Cert.AdamProj.Gen.frame (F := Bits) m ρ

theorem proj_frame_ideal : Cert.quiescent_AdamProjIdeal := fun m ρ _ => Cert.AdamProjIdeal.Gen.frame (F := Ideal) m ρ

theorem proj_frame_ref : Cert.quiescent_AdamProjRefIdeal := fun m ρ _ =>
  (θ_run Cert.AdamProjRefIdeal.defs _ _).mono (fun r h => ⟨fun c => (h c).2.2.2, sem_eq_zero_of_no_sems (by decide) r.2⟩)
    (Cert.AdamProjRefIdeal.Value.run (F := Ideal) m ρ)

theorem proj_algebraic : Cert.algebraic_AdamProjIdeal_AdamProjRefIdeal := fun m g m' g' _ hm =>
  ⟨_, _, _, Cert.AdamProjIdeal.Value.run (F := Ideal) m g, (θ_run Cert.AdamProjRefIdeal.defs _ _).mono
    (fun _ h c => at_equal (P := fun w g a v => Cert.AdamProjIdeal.Value.G4 g a v w) (Q := Cert.AdamProjIdeal.Value.G5)
      (R := Cert.AdamProjIdeal.Value.G6) (h c) (hm c)) (Cert.AdamProjRefIdeal.Value.run (F := Ideal) m' g')⟩

/-! ## The gate and up projections of the feed-forward block -/

theorem gate_frame : Cert.quiescent_AdamGate := fun m ρ _ => Cert.AdamGate.Gen.frame (F := Bits) m ρ

theorem gate_frame_ideal : Cert.quiescent_AdamGateIdeal := fun m ρ _ => Cert.AdamGateIdeal.Gen.frame (F := Ideal) m ρ

theorem gate_frame_ref : Cert.quiescent_AdamGateRefIdeal := fun m ρ _ =>
  (θ_run Cert.AdamGateRefIdeal.defs _ _).mono (fun r h => ⟨fun c => (h c).2.2.2, sem_eq_zero_of_no_sems (by decide) r.2⟩)
    (Cert.AdamGateRefIdeal.Value.run (F := Ideal) m ρ)

theorem gate_algebraic : Cert.algebraic_AdamGateIdeal_AdamGateRefIdeal := fun m g m' g' _ hm =>
  ⟨_, _, _, Cert.AdamGateIdeal.Value.run (F := Ideal) m g, (θ_run Cert.AdamGateRefIdeal.defs _ _).mono
    (fun _ h c => at_equal (P := fun w g a v => Cert.AdamGateIdeal.Value.G4 g a v w) (Q := Cert.AdamGateIdeal.Value.G5)
      (R := Cert.AdamGateIdeal.Value.G6) (h c) (hm c)) (Cert.AdamGateRefIdeal.Value.run (F := Ideal) m' g')⟩

/-! ## The down projection -/

theorem down_frame : Cert.quiescent_AdamDown := fun m ρ _ => Cert.AdamDown.Gen.frame (F := Bits) m ρ

theorem down_frame_ideal : Cert.quiescent_AdamDownIdeal := fun m ρ _ => Cert.AdamDownIdeal.Gen.frame (F := Ideal) m ρ

theorem down_frame_ref : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

theorem down_algebraic : Cert.algebraic_AdamDownIdeal_AdamDownRefIdeal := fun m g m' g' _ hm =>
  ⟨_, _, _, Cert.AdamDownIdeal.Value.run (F := Ideal) m g, (θ_run Cert.AdamDownRefIdeal.defs _ _).mono
    (fun _ h c => at_equal (P := fun w g a v => Cert.AdamDownIdeal.Value.G4 g a v w) (Q := Cert.AdamDownIdeal.Value.G5)
      (R := Cert.AdamDownIdeal.Value.G6) (h c) (hm c)) (Cert.AdamDownRefIdeal.Value.run (F := Ideal) m' g')⟩

/-! ## The convolution -/

theorem conv_frame : Cert.quiescent_AdamConv := fun m ρ _ => Cert.AdamConv.Gen.frame (F := Bits) m ρ

theorem conv_frame_ideal : Cert.quiescent_AdamConvIdeal := fun m ρ _ => Cert.AdamConvIdeal.Gen.frame (F := Ideal) m ρ

theorem conv_frame_ref : Cert.quiescent_AdamConvRefIdeal := fun m ρ _ =>
  (θ_run Cert.AdamConvRefIdeal.defs _ _).mono (fun r h => ⟨fun c => (h c).2.2.2, sem_eq_zero_of_no_sems (by decide) r.2⟩)
    (Cert.AdamConvRefIdeal.Value.run (F := Ideal) m ρ)

theorem conv_algebraic : Cert.algebraic_AdamConvIdeal_AdamConvRefIdeal := fun m g m' g' _ hm =>
  ⟨_, _, _, Cert.AdamConvIdeal.Value.run (F := Ideal) m g, (θ_run Cert.AdamConvRefIdeal.defs _ _).mono
    (fun _ h c => at_equal (P := fun w g a v => Cert.AdamConvIdeal.Value.G4 g a v w) (Q := Cert.AdamConvIdeal.Value.G5)
      (R := Cert.AdamConvIdeal.Value.G6) (h c) (hm c)) (Cert.AdamConvRefIdeal.Value.run (F := Ideal) m' g')⟩

/-! ## The eleven small arrays, packed into rows -/

theorem small_frame : Cert.quiescent_AdamSmall := fun m ρ _ => Cert.AdamSmall.Gen.frame (F := Bits) m ρ

theorem small_frame_ideal : Cert.quiescent_AdamSmallIdeal := fun m ρ _ => Cert.AdamSmallIdeal.Gen.frame (F := Ideal) m ρ

theorem small_frame_ref : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

theorem small_algebraic : Cert.algebraic_AdamSmallIdeal_AdamSmallRefIdeal := fun m g m' g' _ hm =>
  ⟨_, _, _, Cert.AdamSmallIdeal.Value.run (F := Ideal) m g, (θ_run Cert.AdamSmallRefIdeal.defs _ _).mono
    (fun _ h c => at_equal (P := fun w g a v => Cert.AdamSmallIdeal.Value.G4 g a v w) (Q := Cert.AdamSmallIdeal.Value.G5)
      (R := Cert.AdamSmallIdeal.Value.G6) (h c) (hm c)) (Cert.AdamSmallRefIdeal.Value.run (F := Ideal) m' g')⟩

end Cert.AdamProof

end
-- ==== Proof.Links.Launch.lean ====
/-
  Two facts about launching a program whose devices exchange data in a kernel that has no barrier.

  `run_dealt`: before any device runs, EVERYTHING every device holds at launch (its buffers, scoped and not, its counters,
  scoped and not, what it owes, its credit) is regrouped in one step over the whole mesh. A kernel without a barrier needs
  that: a copy may land in a peer's array before the peer has begun, so the right to write there and the live semaphore
  cell it completes on must be dealt before the first instruction, not when the peer gets to its kernel.

  `wp_region_dealt`: one kernel region run by a device whose kernel semaphores are no longer in its hands at the region's
  entry (they went into the cells dealt above), and come back when it ends.
-/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Quiescent

@[expose] public section

noncomputable section

namespace Links

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-! ## The level facts -/

/-- The rights to assign levels, spent on one assignment `lv` on the pairs `L` of the TensorCores' cells. -/
theorem levels_assign (L : GSem nD τ sig → Finset Ix) (lv : GSem nD τ sig → Ix → Lvl) (hL : ∀ g : GSem nD τ sig, g.1.2 ≠ .tc → L g = ∅) :
    (bigSep Finset.univ fun c : Dev nD => (levels0 c : sProp 𝕄)) ⊢ |==> levAts L lv := by
  classical
  have away (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by rw [hL _ (show (((d, p) : Thread nD τ), sm).1.2 ≠ .tc from hp), BI.bigSep_empty]]
    exact BI.bigSep_emp_const _
  have others : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun p hp => away d p (Finset.ne_of_mem_erase hp)]
      exact BI.bigSep_emp_const _]
    exact BI.bigSep_emp_const _
  have whole : (levAts L lv : sProp 𝕄) = iprop((bigSep Finset.univ fun d : Dev nD => coreLevAts (d.tc : Thread nD τ) L lv) ∗ emp) := by
    rw [show (levAts L lv : sProp 𝕄) = bigSep Finset.univ fun c : Thread nD τ => coreLevAts c L lv
      from bigSep_univ_prod fun g : GSem nD τ sig => bigSep (L g) fun ι => levAt g ι (lv g ι), bigSep_threads, others]
    rfl
  have pick : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [whole, bigSep_sep']
    iintro ⟨-, H⟩
    isplitl [H]; · iexact H
    iempintro
  exact (bigSep_mono fun c _ => lev_assign_cells (c.tc : Thread nD τ) L lv).trans ((BI.bigSep_bupd _ _).trans (BI.bupd_mono pick))

/-! ## The launch -/

variable {Λ : Labels}

/-- A program whose TensorCores run `main`, from memory `m` with every counter at zero: if everything all devices hold at
    launch can be regrouped, over the whole mesh at once, into one share `Pre c` per device (`hdeal`), each device runs from
    its share to `Tₙ c`, its region boundary and nothing owed (`hrun`), and what it ends with determines `QY c` of the final
    memory (`hfin`), then every weakly fair execution ends and its final memory satisfies every `QY c`, every counter of a
    thread other than a TensorCore and every scoped counter at zero. -/
theorem run_dealt [Infinite Name] {defs : Defs nD τ sig Val Λ} (𝒱 : Variants)
    (m : (ℓ : Loc nD τ sig) → Buf Val ℓ) (g : Dev nD → PrngReg) (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅) (u₀ : U) (Pre Tₙ : Dev nD → sProp 𝕄)
    (hdeal : iprop((bigSep Finset.univ fun c : Dev nD => iprop(boundary (c.tc : Thread nD τ) ∗ unscopedBufs c (fun b => m ((c.tc : Thread nD τ).loc b))
          ∗ unscopedSems0 c ∗ owes (c.tc : Thread nD τ) (O₀ c) ∅ ∗ launchCred O₀ c ∗ prngReg c (g c))) ∗ levAts L lv ∗ ownU u₀)
      ⊢ |={Set.univ}=> bigSep Finset.univ Pre)
    (hrun : ∀ c, Pre c ⊢ wp frame (wpE defs 𝒱 (c.tc : Thread nD τ) none) Set.univ (main c)
      (fun _ => iprop(Tₙ c ∗ boundary (c.tc : Thread nD τ) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => Pre)
      (fun _ c => iprop(Tₙ c ∗ boundary (c.tc : Thread nD τ))) (fun _ => iprop(emp)) Set.univ ?_ (fun _ c => (hrun c).trans ?_) fun _ => ?_))
  · -- the level rights apart from the rest, then the certificate's regrouping
    have apart (c : Dev nD) := (coreInit_boundary_owing (Ix := Ix) (Name := Name) (U := U) (Lvl := Lvl) O₀ m g c).trans
      (show _ ⊢ iprop(iprop(boundary (c.tc : Thread nD τ) ∗ unscopedBufs c (fun b => m ((c.tc : Thread nD τ).loc b))
          ∗ unscopedSems0 c ∗ owes (c.tc : Thread nD τ) (O₀ c) ∅ ∗ launchCred O₀ c ∗ prngReg c (g c)) ∗ levels0 c) from by
        iintro ⟨Hb, Hub, Hus, HO, Hlv, Hpr, Hcr⟩
        isplitr [Hlv]
        · isplitl [Hb]; · iexact Hb
          isplitl [Hub]; · iexact Hub
          isplitl [Hus]; · iexact Hus
          isplitl [HO]; · iexact HO
          isplitl [Hcr] <;> iassumption
        · iexact Hlv)
    have alls : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ (iprop((bigSep Finset.univ fun c : Dev nD => iprop(boundary (c.tc : Thread nD τ) ∗ unscopedBufs c (fun b => m ((c.tc : Thread nD τ).loc b))
            ∗ unscopedSems0 c ∗ owes (c.tc : Thread nD τ) (O₀ c) ∅ ∗ launchCred O₀ c ∗ prngReg c (g c)))
          ∗ bigSep Finset.univ fun c : Dev nD => levels0 c) : sProp 𝕄) :=
      (bigSep_mono fun (c : Dev nD) (_ : c ∈ Finset.univ) => apart c).trans (Entails.of_eq (bigSep_sep' _ _ _))
    iintro ⟨Hcores, Hu⟩
    ihave H := alls $$ Hcores
    icases H with ⟨H, Hlv⟩
    imod (levels_assign L lv hL) $$ Hlv with Hla
    imod hdeal $$ [H Hla Hu] with HP
    · isplitl [H]; · iexact H
      isplitl [Hla] <;> iassumption
    imodintro
    iexists ()
    isplitl [HP]; · iexact HP
    iempintro
  · refine Idealize.SL.Sem.wp_mono frame (wpE defs 𝒱 (c.tc : Thread nD τ) none) Set.univ (fun _ => ?_)
    unfold post; simp only [liftTc_tc]
    iintro ⟨HT, Hb, HO⟩
    isplitr [HO]
    · isplitl [HT] <;> iassumption
    · iexact HO
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

/-! ## One region -/

section Region

variable {Λ₀ : Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants) (p : P)
  {K : Type} [Fintype K] {osem : K → SemLoc sig} (hw : WinFacts₀ (pcs p).spec) (ho : OwnSemFacts (pcs p).spec osem)

local notation "𝔻" => Pipeline.defs pcs defs₀
local notation "𝕍" => Variants.lift 𝒱₀

/-- What of the region boundary is left with device `c` when the counters of pipeline `p`'s kernel are taken out of it. -/
def opened (c : Dev nD) : sProp 𝕄 :=
  iprop(scopedBufs (c.tc : Thread nD τ) ∗ PerCore.cellsSems0 (pinD pcs a) p c ∗ PerCore.idleSems0 (pinD pcs a) phinj p (fun _ => ho) c ∗ opIdle (c.tc : Thread nD τ))

include hw in
omit [Fintype P] [Preorder Lvl] in
/-- The kernel's counters taken out of the boundary. -/
theorem boundary_open (c : Dev nD) :
    (boundary (c.tc : Thread nD τ) : sProp 𝕄) ⊢ iprop(opened pcs a phinj p ho c ∗ ownSems0 osem c) := by
  have hss := PerCore.scopedSems0_split (pinD pcs a) phinj p (fun _ => hw) (fun _ => ho) (Ix := Ix) (Val := Val) (Name := Name) (U := U) (Lvl := Lvl) c
  unfold boundary opened
  rw [hss]
  iintro ⟨Hsc, ⟨⟨Hcells, Hos⟩, Hidle⟩, Hidl⟩
  isplitr [Hos]
  · isplitl [Hsc]; · iexact Hsc
    isplitl [Hcells]; · iexact Hcells
    isplitl [Hidle] <;> iassumption
  · iexact Hos

include hw in
/-- Pipeline `p`'s region on device `c`, its kernel's counters NOT in the device's hands at entry (`opened`): from them, the
    windows' arrays, what the device owes and what enters the kernel's invariant, `customCall (entry p) ()` runs to the whole
    region boundary, the invariant at the last point having given the counters back (`hout`). -/
theorem wp_region_dealt [∀ e, Nonempty (Val e)] [Infinite Name] [EP.LandsIn (upEmb : UEmb _ 𝕄)]
    (hne : ∀ w : Fin (pcs p).W, 0 < ((pcs p).spec w).block.numel)
    (hstage : ∀ (w : Fin (pcs p).W) (s : Fin ((pcs p).spec w).nbuf), (((pcs p).spec w).stage s).IsWhole)
    (c : Dev nD) (hbody : BodyObligationLoose (pdats p c) defs₀ 𝒱₀ ι Set.univ)
    (X Y : sProp 𝕄) (Lv : sProp 𝕄) (hwaits : Lv ⊢ PerCore.cellsWaits (pinD pcs a) pdats ι p c)
    (hin : iprop(X ∗ prefHeld (pcs p).pre c (fun _ => fullShare) (a c p).1 ∗ scopedRest (pcs p).spec c) ⊢ (pdats p c).Φ 0)
    (hout : (pdats p c).Φ (Fin.last (pinD pcs a c p).N) ⊢ iprop(Y ∗ ownSems0 osem c ∗ scopedRest (pcs p).spec c))
    {α : Type} (k : PUnit → Prog (TpuEff nD τ sig Val (Sig Λ₀ P fun p => (pcs p).Adm) .tc) α) (Q : α → sProp 𝕄) :
    iprop((iprop(boundary (c.tc : Thread nD τ) ∗ PerCore.EntryPost (pinD pcs a) pdats ι p c ∗ Y)
            -∗ wp frame (wpE 𝔻 𝕍 (c.tc : Thread nD τ) none) Set.univ (k ⟨⟩) Q)
        ∗ opened pcs a phinj p ho c
        ∗ iprop((pdats p c).arrays ((pdats p c).arrAt · 0) ∗ prefHeld (pcs p).pre c (fun _ => fullShare) (a c p).1 ∗ (pdats p c).owesAt ι 0 ∗ X)
        ∗ Lv ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => hw) (fun _ => ho) (Ix := Ix) (Val := Val) (Name := Name) (U := U) (Lvl := Lvl) c
  have hsb := PerCore.scopedBufs_split (pinD pcs a) p c hw.stage_scoped hw.stage_inj hstage (nD := nD) (τ := τ) (Ix := Ix) (Val := Val) (Name := Name) (U := U) (Lvl := Lvl)
  have back : iprop((pdats p c).Φ (Fin.last (pinD pcs a c p).N) ∗ PerCore.cellsSems0 (pinD pcs a) p c ∗ Dat.staging (pinD pcs a c p) c ∗ PerCore.idleSems0 (pinD pcs a) phinj p (fun _ => ho) c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitr [Hst Hrest]
    · isplitr [Hidle]
      · isplitl [Hcells] <;> iassumption
      · iexact Hidle
    · isplitl [Hst] <;> iassumption
  unfold opened
  iintro ⟨Hk, ⟨Hsc, Hcells, Hidle, Hidl⟩, ⟨Harr, Hpf, HO, HX⟩, Hlv, Hg, Ht⟩
  ihave Hw := hwaits $$ Hlv
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imodintro
  iapply (PerCore.wp_customCall_entry_frame pcs a pdats ι EP κ phinj p defs₀ 𝒱₀ (fun _ => fullShare) c Set.univ (fun _ _ => Set.mem_univ _)
      hbody hne none (fun u h => nomatch h) (X := X) (Y := Y) (R := scopedRest (pcs p).spec c)
      (I := PerCore.idleSems0 (pinD pcs a) phinj p (fun _ => ho) c) (Entails.of_eq hsb) hin back (k := k) (Q := Q)) $$ [Harr HO Hw Hinit Ht Hpf HX Hidle Hsc]
  · isplitl [Harr HO Hw Hinit Ht]
    · unfold PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hidle] <;> iassumption
  iintro ⟨Hpost, HY, Hss, Hsb⟩
  iapply Hk
  isplitr [Hpost HY]
  · unfold boundary
    isplitl [Hsb]; · iexact Hsb
    isplitl [Hss] <;> iassumption
  · isplitl [Hpost] <;> iassumption

end Region

end Links

end
-- ==== Proof.Links.Once.lean ====
/-
  Exchanges in which every semaphore is used ONCE: each device has the same `K` DMA semaphores, each of them is credited by
  exactly one copy, on one device, and waited for once by its owner. `Plan` says who credits which cell (`tgt k`: device `c`'s
  copy credits cell `k` of device `tgt k c`), by how much, and what the landing delivers to the owner (`pay`); the rest of
  the module is the schedule of rounds made of it, the dealing of it at launch (`deal`), and the steps of a body that follows
  the plan: `copy_step`, `send_step`, `wait_step`, `close_all`.
-/
module

public import Idealize.ShloMosaic.Lib.Pipeline.Regions
public import Idealize.ShloMosaic.Lib.Pipeline.Kit
public import Idealize.ShloMosaic.Lib.Rounds
public import Idealize.ShloMosaic.Lib.Tactic
public import Idealize.ShloMosaic.Harness.Basic

@[expose] public section

noncomputable section

namespace Links

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Idealize.ShloMosaic.Rounds

/-- One copy of the rounds algebra. -/
abbrev URd (nD : Nat) (τ : Topo) (sig : RefSig) : Type := URounds (GSem nD τ sig) Unit
/-- The user algebra: the pipeline library's copy, and the plan's. -/
abbrev UU (nD : Nat) (τ : Topo) (sig : RefSig) : Type := URd nD τ sig × URd nD τ sig

/-- Who credits which cell, by how much, with what. -/
structure Plan (nD : Nat) (τ : Topo) (sig : RefSig) (Val : EltTy → Type) (K : ℕ) where
  /-- The semaphores, the same on each device, -/
  sem : Fin K → DmaSem sig
  /-- all distinct. -/
  inj : Function.Injective sem
  /-- What semaphore `k` is credited by, -/
  amt : Fin K → ℕ
  /-- never nothing. -/
  pos : ∀ k, 0 < amt k
  /-- Device `c` credits semaphore `k` of device `tgt k c`. -/
  tgt : Fin K → (Dev nD ≃ Dev nD)
  /-- The semaphores credited by a remote copy's landing: their credit is owed at launch. -/
  far : Finset (Fin K)
  /-- Levels: a device may wait for `k` while it owes only at higher levels. -/
  lev : Fin K → ℕ
  /-- What crediting semaphore `k` of device `c` hands to `c`. -/
  pay : Dev nD → Fin K → sProp (MT nD τ sig Unit Val ℕ (UU nD τ sig) ℕ)
  /-- It can be kept in an invariant. -/
  sto : ∀ c k, BI.Storable (upEmb : UEmb _ (MT nD τ sig Unit Val ℕ (UU nD τ sig) ℕ)) (pay c k)

variable {nD : Nat} {τ : Topo} {sig : RefSig} {Val : EltTy → Type}

local notation "𝕄" => MT nD τ sig Unit Val ℕ (UU nD τ sig) ℕ

/-- The pipeline library's copy. -/
abbrev EP : Emb (URd nD τ sig) (MT nD τ sig Unit Val ℕ (UU nD τ sig) ℕ) := embL
/-- The plan's copy. -/
abbrev ER : Emb (URd nD τ sig) (MT nD τ sig Unit Val ℕ (UU nD τ sig) ℕ) := embR

namespace Plan

variable {K : ℕ} (P : Plan nD τ sig Val K)

/-- Semaphore `k` of device `c`. -/
abbrev cell (c : Dev nD) (k : Fin K) : GSem nD τ sig := ((c : Thread nD τ), .dma (P.sem k))

/-- The cells of the plan, over devices and semaphores. -/
def cellEmb : Dev nD × Fin K ↪ GSem nD τ sig :=
  ⟨fun ck => P.cell ck.1 ck.2, fun _ _ h => Prod.ext (congrArg (fun g : GSem nD τ sig => g.1.1) h)
    (P.inj (SemLoc.dma.inj (congrArg Prod.snd h)))⟩

/-- A counter that is one of the plan's semaphores. -/
def Is (s : SemLoc sig) (k : Fin K) : Prop := s = .dma (P.sem k)

theorem is_unique {s : SemLoc sig} {k k' : Fin K} (h : P.Is s k) (h' : P.Is s k') : k = k' :=
  P.inj (SemLoc.dma.inj (h.symm.trans h'))

open Classical in
/-- One round per cell, of one duty. -/
def sched : Rounds.Schedule (GSem nD τ sig) Unit 𝕄 where
  duties g r := if r = 0 ∧ g.1.2 = .tc ∧ (∃ k, P.Is g.2 k) then {()} else ∅
  unitless _ := False
  amount g _ _ := if h : ∃ k, P.Is g.2 k then P.amt h.choose else 1
  payload g _ _ := if h : ∃ k, P.Is g.2 k then P.pay g.1.1 h.choose else iprop(emp)
  amount_pos g _ _ _ := by
    split
    · exact P.pos _
    · exact Nat.one_pos

instance sched_storable (g : GSem nD τ sig) (r : ℕ) (d : Unit) : BI.Storable (upEmb : UEmb _ 𝕄) (P.sched.payload g r d) := by
  dsimp only [sched]
  split
  · exact P.sto _ _
  · infer_instance

variable (c : Dev nD) (k : Fin K)

theorem is_cell : ∃ k', P.Is (P.cell c k).2 k' := ⟨k, rfl⟩
theorem choose_cell : (P.is_cell c k).choose = k := (P.is_unique (s := (P.cell c k).2) rfl (P.is_cell c k).choose_spec).symm

theorem duties_cell : P.sched.duties (P.cell c k) 0 = {()} := by
  dsimp only [sched]; exact if_pos ⟨rfl, rfl, P.is_cell c k⟩
theorem duties_later (g : GSem nD τ sig) : ∀ r, 1 ≤ r → P.sched.duties g r = ∅ :=
  fun r hr => by dsimp only [sched]; exact if_neg fun h => by omega
theorem mem_duties : () ∈ P.sched.duties (P.cell c k) 0 := by rw [duties_cell]; exact Finset.mem_singleton_self _
theorem amount_cell (u : Unit) : P.sched.amount (P.cell c k) 0 u = P.amt k := by
  dsimp only [sched]; rw [dif_pos (P.is_cell c k), P.choose_cell c k]
theorem payload_cell (u : Unit) : P.sched.payload (P.cell c k) 0 u = P.pay c k := by
  dsimp only [sched]; rw [dif_pos (P.is_cell c k), P.choose_cell c k]
theorem expect_cell : P.sched.expect (P.cell c k) 0 = P.amt k := by
  unfold Schedule.expect Schedule.amountOf; rw [duties_cell, Finset.sum_singleton, amount_cell]
theorem rest_cell : bigSep (P.sched.duties (P.cell c k) 0 \ ∅) (fun u => P.sched.payload (P.cell c k) 0 u) = P.pay c k := by
  rw [Finset.sdiff_empty, duties_cell, BI.bigSep_singleton, payload_cell]

/-! ## What a device owes -/

/-- What device `c` owes when the copies that credit the semaphores `S` are still to be issued. -/
def owing (S : Finset (Fin K)) : CellTallies nD τ sig Unit := ∑ k ∈ S, tallyAt (P.cell (P.tgt k c) k) () (P.amt k)

theorem owing_insert {S : Finset (Fin K)} {k : Fin K} (h : k ∉ S) :
    P.owing c (insert k S) = P.owing c S + tallyAt (P.cell (P.tgt k c) k) () (P.amt k) := by
  unfold owing; rw [Finset.sum_insert h, add_comm]
theorem owing_empty : P.owing c ∅ = 0 := Finset.sum_empty

theorem owing_apply (S : Finset (Fin K)) (g : GSem nD τ sig) (u : Unit) :
    P.owing c S g u = ∑ k ∈ S, if g = P.cell (P.tgt k c) k then P.amt k else 0 := by
  unfold owing
  rw [Finset.sum_apply, Finsupp.finset_sum_apply]
  refine Finset.sum_congr rfl fun k _ => ?_
  rw [tallyAt_apply]
  by_cases h : g = P.cell (P.tgt k c) k
  · rw [if_pos ⟨h, rfl⟩, if_pos h]
  · rw [if_neg fun h' => h h'.1, if_neg h]

theorem owing_pos {S : Finset (Fin K)} {g : GSem nD τ sig} {u : Unit} (h : 0 < P.owing c S g u) : ∃ k ∈ S, g = P.cell (P.tgt k c) k := by
  rw [owing_apply] at h
  by_contra hne
  push Not at hne
  rw [Finset.sum_eq_zero fun k hk => if_neg (hne k hk)] at h
  exact absurd h (Nat.lt_irrefl 0)

/-! ## Levels -/

/-- Levels are assigned to the TensorCores' cells. -/
def lvOn (nD : Nat) (τ : Topo) (sig : RefSig) (g : GSem nD τ sig) : Finset Unit := if g.1.2 = .tc then {()} else ∅

open Classical in
/-- A plan's levels. -/
def lv (g : GSem nD τ sig) (_ : Unit) : ℕ := if h : ∃ k, P.Is g.2 k then P.lev h.choose else 0

theorem lvOn_of_ne (g : GSem nD τ sig) (h : g.1.2 ≠ .tc) : lvOn nD τ sig g = ∅ := if_neg h
theorem lvOn_tc (s : SemLoc sig) : lvOn nD τ sig ((c : Thread nD τ), s) = {()} := if_pos rfl
theorem lv_cell (u : Unit) : P.lv (P.cell c k) u = P.lev k := by
  unfold lv; rw [dif_pos (P.is_cell c k), P.choose_cell c k]

/-- A device may wait for semaphore `k` while every copy it still owes credits a semaphore of a higher level. -/
theorem may_wait (S : Finset (Fin K)) (h : ∀ k' ∈ S, P.lev k < P.lev k') :
    (levAts (lvOn nD τ sig) P.lv : sProp 𝕄) ⊢ MayWait (c : Thread nD τ) (.dma (P.sem k)) () (P.owing c S) :=
  MayOwe.of_cut (L := lvOn nD τ sig) (lev := P.lv) (P.lev k)
    (fun p hp => by rw [Finset.mem_singleton.mp hp, lvOn_tc]; exact Finset.mem_singleton_self _)
    (fun g u hg => by
      obtain ⟨k', -, rfl⟩ := P.owing_pos c hg
      rw [lvOn_tc]; exact Finset.mem_singleton_self _)
    (fun p hp => by rw [Finset.mem_singleton.mp hp]; exact (P.lv_cell c k ()).le)
    (fun g u hg => by
      obtain ⟨k', hk', rfl⟩ := P.owing_pos c hg
      rw [lv_cell]; exact h k' hk')

/-! ## What the launch deals -/

/-- The invariants of all cells, and that the round of each is open: what every device may consult. -/
def records (κ : GSem nD τ sig → ℕ) : sProp 𝕄 :=
  iprop((bigSep Finset.univ fun ck : Dev nD × Fin K => cellInv ER P.sched (κ (P.cell ck.1 ck.2)) (P.cell ck.1 ck.2))
    ∗ bigSep Finset.univ fun ck : Dev nD × Fin K => reached ER (P.cell ck.1 ck.2) 0)

instance records_persistent (κ : GSem nD τ sig → ℕ) : BI.Persistent (P.records κ) := by unfold records; infer_instance

theorem records_inv (κ : GSem nD τ sig → ℕ) : P.records κ ⊢ cellInv ER P.sched (κ (P.cell c k)) (P.cell c k) := by
  have h : (bigSep Finset.univ fun ck : Dev nD × Fin K => (cellInv ER P.sched (κ (P.cell ck.1 ck.2)) (P.cell ck.1 ck.2) : sProp 𝕄))
      ⊢ cellInv ER P.sched (κ (P.cell c k)) (P.cell c k) :=
    bigSep_elim (Φ := fun ck : Dev nD × Fin K => (cellInv ER P.sched (κ (P.cell ck.1 ck.2)) (P.cell ck.1 ck.2) : sProp 𝕄)) (Finset.mem_univ (c, k))
  unfold records
  iintro ⟨H, -⟩
  iapply h $$ H
theorem records_reached (κ : GSem nD τ sig → ℕ) : P.records κ ⊢ reached ER (P.cell c k) 0 := by
  have h : (bigSep Finset.univ fun ck : Dev nD × Fin K => (reached ER (P.cell ck.1 ck.2) 0 : sProp 𝕄)) ⊢ reached ER (P.cell c k) 0 :=
    bigSep_elim (Φ := fun ck : Dev nD × Fin K => (reached ER (P.cell ck.1 ck.2) 0 : sProp 𝕄)) (Finset.mem_univ (c, k))
  unfold records
  iintro ⟨-, H⟩
  iapply h $$ H

/-- Device `c`'s turn to wait on its own cell `k`. -/
abbrev turn : sProp 𝕄 := atPos ER (P.cell c k) 0 ∅ 0
/-- Device `c` has waited on its own cell `k`. -/
abbrev done : sProp 𝕄 := atPos ER (P.cell c k) (0 + 1) ∅ 0
/-- Device `c`'s right to credit cell `k` of device `tgt k c`. -/
abbrev tok : sProp 𝕄 := dutyTok ER (P.cell (P.tgt k c) k) 0 ()
/-- The credit device `c` waits on its own cell `k` with. -/
abbrev crd : sProp 𝕄 := cred (tallyAt (P.cell c k) () (P.amt k))

/-- What the launch hands device `c`: a turn on each of its cells, its rights to credit, and the credit of the cells that
    remote copies credit. -/
def hand : sProp 𝕄 :=
  iprop((bigSep Finset.univ fun k => P.turn c k) ∗ (bigSep Finset.univ fun k => P.tok c k) ∗ bigSep P.far fun k => P.crd c k)

/-- The plan's cells and duties, as the launch element lists them. -/
def cells : Finset (GSem nD τ sig) := Finset.univ.map P.cellEmb
def toks : Finset (GSem nD τ sig × ℕ × Unit) :=
  Finset.univ.map ⟨fun ck : Dev nD × Fin K => (P.cellEmb ck, 0, ()), fun _ _ h => P.cellEmb.injective (congrArg Prod.fst h)⟩

/-- The launch element. -/
def u₀ : URd nD τ sig := launchOf P.cells ∅ P.toks

theorem launch_credit {k : Fin K} (hk : k ∈ P.far) :
    tallyOn (P.cell c k) (launchCredit (Pipeline.owing fun d => P.owing d P.far) 0 (P.cell c k))
      = (tallyAt (P.cell c k) () (P.amt k) : CellTallies nD τ sig Unit) := by
  unfold tallyAt; refine congrArg _ (Finsupp.ext fun u => ?_); cases u
  rw [Pipeline.launchCredit_owing, Finsupp.single_eq_same,
    Finset.sum_congr rfl fun d _ => (P.owing_apply d P.far (P.cell c k) ()).trans ?_,
    Finset.sum_ite_eq' Finset.univ ((P.tgt k).symm c) fun _ => P.amt k, if_pos (Finset.mem_univ _)]
  rw [Finset.sum_eq_single k]
  · by_cases h : d = (P.tgt k).symm c
    · rw [if_pos h, if_pos (by rw [h, Equiv.apply_symm_apply])]
    · rw [if_neg h, if_neg fun h' => h ((P.tgt k).eq_symm_apply.mpr (congrArg (fun g : GSem nD τ sig => g.1.1) h').symm)]
  · intro k' _ hne
    exact if_neg fun h' => hne (P.inj (SemLoc.dma.inj (congrArg Prod.snd h'))).symm
  · intro h; exact absurd hk h

/-- A device's launch credit, cell by cell. -/
theorem creds : (Pipeline.launchCred (fun d => P.owing d P.far) c : sProp 𝕄) ⊢ bigSep P.far fun k => P.crd c k := by
  classical
  unfold Pipeline.launchCred
  have hsub : (bigSep Finset.univ fun sm : SemLoc sig =>
        (cred (tallyOn ((c : Thread nD τ), sm) (launchCredit (Pipeline.owing fun d => P.owing d P.far) 0 ((c : Thread nD τ), sm))) : sProp 𝕄))
      ⊢ bigSep (P.far.map ⟨fun k => (SemLoc.dma (P.sem k) : SemLoc sig), fun _ _ h => P.inj (SemLoc.dma.inj h)⟩) fun sm : SemLoc sig =>
        (cred (tallyOn ((c : Thread nD τ), sm) (launchCredit (Pipeline.owing fun d => P.owing d P.far) 0 ((c : Thread nD τ), sm))) : sProp 𝕄) :=
    bigSep_subset (Finset.subset_univ _)
  refine hsub.trans ?_
  rw [BI.bigSep_map]
  exact Entails.of_eq (bigSep_congr fun k hk => congrArg cred (P.launch_credit c hk))

/-- The dealing: from all devices' counters of the plan at zero, their launch credit and the launch element, the invariants of
    all cells and each device's hand. -/
theorem deal :
    iprop((bigSep Finset.univ fun c : Dev nD => iprop(ownSems0 (fun k : Fin K => SemLoc.dma (P.sem k)) c ∗ Pipeline.launchCred (fun d => P.owing d P.far) c))
        ∗ BI.own (ER P.u₀))
      ⊢ (|={Set.univ}=> ∃ κ : GSem nD τ sig → ℕ, P.records κ ∗ bigSep Finset.univ fun c : Dev nD => P.hand c : sProp 𝕄) := by
  classical
  have hv : (bigSep Finset.univ fun c : Dev nD => (ownSems0 (fun k : Fin K => SemLoc.dma (P.sem k)) c : sProp 𝕄)) ⊢ bigSep P.cells fun g => semVal g 0 :=
    Entails.of_eq (by unfold cells; rw [BI.bigSep_map, BI.bigSep_univ_prod]; rfl)
  have hinv (κ : GSem nD τ sig → ℕ) : bigSep (P.cells ∪ ∅) (fun g => (cellInv ER P.sched (κ g) g : sProp 𝕄))
      ⊢ bigSep Finset.univ fun ck : Dev nD × Fin K => cellInv ER P.sched (κ (P.cell ck.1 ck.2)) (P.cell ck.1 ck.2) :=
    Entails.of_eq (by rw [Finset.union_empty]; unfold cells; rw [BI.bigSep_map]; rfl)
  have hr : bigSep P.cells (fun g => (reached ER g 0 : sProp 𝕄)) ⊢ bigSep Finset.univ fun ck : Dev nD × Fin K => reached ER (P.cell ck.1 ck.2) 0 :=
    Entails.of_eq (by unfold cells; rw [BI.bigSep_map]; rfl)
  have hat : bigSep P.cells (fun g => (atPos ER g 0 ∅ 0 : sProp 𝕄)) ⊢ bigSep Finset.univ fun c : Dev nD => bigSep Finset.univ fun k => P.turn c k :=
    Entails.of_eq (by unfold cells; rw [BI.bigSep_map, BI.bigSep_univ_prod]; rfl)
  have htok : bigSep P.toks (fun x => (dutyTok ER x.1 x.2.1 x.2.2 : sProp 𝕄)) ⊢ bigSep Finset.univ fun c : Dev nD => bigSep Finset.univ fun k => P.tok c k :=
    Entails.of_eq (by
      unfold toks; rw [BI.bigSep_map, BI.bigSep_univ_prod, BI.bigSep_univ_comm]
      show bigSep Finset.univ (fun k : Fin K => bigSep Finset.univ fun c : Dev nD => (dutyTok ER (P.cell c k) 0 () : sProp 𝕄)) = _
      rw [bigSep_congr fun k _ => BI.bigSep_univ_equiv (P.tgt k) (fun c : Dev nD => (dutyTok ER (P.cell c k) 0 () : sProp 𝕄)), BI.bigSep_univ_comm])
  have hcr : (bigSep Finset.univ fun c : Dev nD => (Pipeline.launchCred (fun d => P.owing d P.far) c : sProp 𝕄))
      ⊢ bigSep Finset.univ fun c : Dev nD => bigSep P.far fun k => P.crd c k := bigSep_mono fun c _ => P.creds c
  have split := Entails.of_eq (bigSep_sep' Finset.univ (fun c : Dev nD => (ownSems0 (fun k : Fin K => SemLoc.dma (P.sem k)) c : sProp 𝕄))
    (fun c => Pipeline.launchCred (fun d => P.owing d P.far) c))
  iintro ⟨H, Hu⟩
  ihave H := split $$ H
  icases H with ⟨Hs, Hc⟩
  imod (Rounds.fund_launch ER P.sched (S := P.cells) (Sd := ∅) (Finset.disjoint_empty_right _) (fun g _ h => h) P.toks) $$ [Hs Hu] with ⟨%κ, -, Hinv, Hr, Hat, -, Htok⟩
  · isplitl [Hs]; · iapply hv $$ Hs
    iexact Hu
  imodintro
  iexists κ
  isplitl [Hinv Hr]
  · unfold records
    isplitl [Hinv]; · iapply (hinv κ) $$ Hinv
    iapply hr $$ Hr
  · unfold hand
    rw [bigSep_sep', bigSep_sep']
    isplitl [Hat]; · iapply hat $$ Hat
    isplitl [Htok]; · iapply htok $$ Htok
    iapply hcr $$ Hc

/-! ## The steps of a body that follows the plan -/

section Steps

variable {Λ : Labels} {defs : Defs nD τ sig Val Λ} (𝒱 : Variants) (κ : GSem nD τ sig → ℕ)
variable {α : Type} {Q : α → sProp (MT nD τ sig Unit Val ℕ (UU nD τ sig) ℕ)} {sp sp' : Space} {s : Shape} {e : EltTy}

/-- A local copy that credits the device's own cell `k`. -/
theorem copy_step {src : Memref sig .tc sp s e} {dst : Memref sig .tc sp' s e} {sem : DmaSem sig}
    {hsrc : src.view.WordExact} {hdst : dst.view.WordExact} {hsem : DmaTarget.Typed (nD := nD) (p := (c : Thread nD τ).2) sp (.dma sem) (.here dst)}
    {f : PUnit → Prog (TpuEff nD τ sig Val Λ .tc) α} (hs : sem = P.sem k) (hto : P.tgt k c = c)
    (hN : dst.view.amount (.dma sem) = P.amt k) {q : PosShare TreeShare} {fs : Buf Val (src.view.loc (c : Thread nD τ))} {fd : Buf Val (dst.view.loc (c : Thread nD τ))}
    (hpay : iprop((dst.view.loc (c : Thread nD τ) ↦[dst.view.set]{fullShare} (dst.view.write Val fd (src.view.read Val fs) Finset.univ))
              ∗ (src.view.loc (c : Thread nD τ) ↦[src.view.set]{q} fs)) ⊢ P.pay c k) :
    iprop(P.records κ ∗ (src.view.loc (c : Thread nD τ) ↦[src.view.set]{q} fs) ∗ (dst.view.loc (c : Thread nD τ) ↦[dst.view.set]{fullShare} fd) ∗ P.tok c k)
      ⊢ iprop((P.crd c k -∗ wp frame (wpE defs 𝒱 (c : Thread nD τ) none) Set.univ (f ⟨⟩) Q)
          -∗ wp frame (wpE defs 𝒱 (c : Thread nD τ) none) Set.univ (.op (.enqueueDma src (.here dst) (.dma sem) hsrc hdst hsem) f) Q) := by
  subst hs
  unfold tok
  rw [hto]
  iintro ⟨#HR, Hs, Hd, Ht⟩ Hk
  ihave #HI := (P.records_inv c k κ) $$ HR
  ihave #Hr := (P.records_reached c k κ) $$ HR
  iapply (Rounds.wp_copy_pointsTo 𝒱 ER P.sched (c : Thread nD τ) none (κ := κ (P.cell c k)) (r := 0) (d := ()) (P.mem_duties c k) () (P.amt k) hN
      (P.amount_cell c k ()) (by rw [P.payload_cell]; exact hpay)) $$ [Hs Hd Ht]
  · isplitr; · iexact HI
    isplitl [Hs]; · iexact Hs
    isplitl [Hd]; · iexact Hd
    isplitl [Ht]; · iexact Ht
    iexact Hr
  iexact Hk

/-- A remote copy that credits the device's own cell `k` when the source is free again and cell `k'` of the device it goes to
    when it has landed. -/
theorem send_step {k' : Fin K} {S : Finset (Fin K)} {c' : Dev nD} {src : Memref sig .tc sp s e} {dst : Memref sig .tc sp' s e} {sS sem : DmaSem sig}
    {hsc : dst.view.ref.isScScratch = false}
    {hsrc : src.view.WordExact} {hdst : dst.view.WordExact} {hsem : DmaTarget.Typed (nD := nD) sp (.dma sem) (.remote (c' : Thread nD τ) dst (.dma sS) hsc)}
    {f : PUnit → Prog (TpuEff nD τ sig Val Λ .tc) α} (hsS : sS = P.sem k) (hs : sem = P.sem k') (hto : P.tgt k c = c) (hto' : c' = P.tgt k' c) (hS : k' ∉ S)
    (hNs : P.amt k = P.amt k') (hN : dst.view.amount (.dma sem) = P.amt k') {q : PosShare TreeShare} {fs : Buf Val (src.view.loc (c : Thread nD τ))}
    {fd : Buf Val (dst.view.loc (c' : Thread nD τ))} {W : Waits sig Unit}
    (hpay : (src.view.loc (c : Thread nD τ) ↦[src.view.set]{q} fs) ⊢ P.pay c k)
    (hpay' : (dst.view.loc (c' : Thread nD τ) ↦[dst.view.set]{fullShare} (dst.view.write Val fd (src.view.read Val fs) Finset.univ)) ⊢ P.pay c' k')
    (hr : τ.routes (c : Thread nD τ) (c' : Thread nD τ) = true := by routes) :
    iprop(P.records κ ∗ (src.view.loc (c : Thread nD τ) ↦[src.view.set]{q} fs) ∗ (dst.view.loc (c' : Thread nD τ) ↦[dst.view.set]{fullShare} fd)
        ∗ P.tok c k ∗ P.tok c k' ∗ owes (c : Thread nD τ) (P.owing c (insert k' S)) W)
      ⊢ iprop((iprop(P.crd c k ∗ owes (c : Thread nD τ) (P.owing c S) W) -∗ wp frame (wpE defs 𝒱 (c : Thread nD τ) none) Set.univ (f ⟨⟩) Q)
          -∗ wp frame (wpE defs 𝒱 (c : Thread nD τ) none) Set.univ (.op (.enqueueDma src (.remote (c' : Thread nD τ) dst (.dma sS) hsc) (.dma sem) hsrc hdst hsem) f) Q) := by
  subst hsS hs hto'
  rw [P.owing_insert c hS]
  unfold tok crd
  rw [hto, hNs]
  iintro ⟨#HR, Hs, Hd, Ht, Ht', HO⟩ Hk
  ihave #HI := (P.records_inv c k κ) $$ HR
  ihave #Hr := (P.records_reached c k κ) $$ HR
  ihave #HI' := (P.records_inv (P.tgt k' c) k' κ) $$ HR
  ihave #Hr' := (P.records_reached (P.tgt k' c) k' κ) $$ HR
  iapply (Rounds.wp_send_pointsTo 𝒱 ER P.sched (c : Thread nD τ) none (c' := (P.tgt k' c : Thread nD τ)) (κ₁ := κ (P.cell c k)) (κ₂ := κ (P.cell (P.tgt k' c) k'))
      (r₁ := 0) (r₂ := 0) (d₁ := ()) (d₂ := ()) (P.mem_duties c k) (P.mem_duties (P.tgt k' c) k') () () (P.amt k') hN
      ((P.amount_cell c k ()).trans hNs) (P.amount_cell (P.tgt k' c) k' ()) (P.owing c S) rfl (W := W)
      (by rw [P.payload_cell]; exact hpay) (by rw [P.payload_cell]; exact hpay') (hr := hr)) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- The wait for the device's own cell `k`: what the crediting copy delivered. -/
theorem wait_step {S : Finset (Fin K)} {s' : Shape} {e' : EltTy} {src : Memref sig .tc sp' s' e'} {dst : Memref sig .tc sp s e} {sem : DmaSem sig}
    {hsrc : src.view.WordExact} {hdst : dst.view.WordExact}
    {f : PUnit → Prog (TpuEff nD τ sig Val Λ .tc) α} (hs : sem = P.sem k) (hN : dst.view.dmaCredit = P.amt k) (hS : ∀ k' ∈ S, P.lev k < P.lev k') {W : Waits sig Unit} :
    iprop(P.records κ ∗ levAts (lvOn nD τ sig) P.lv ∗ P.crd c k ∗ P.turn c k ∗ owes (c : Thread nD τ) (P.owing c S) W)
      ⊢ iprop((iprop(P.pay c k ∗ P.done c k ∗ owes (c : Thread nD τ) (P.owing c S) (insert (SemLoc.dma (P.sem k), ()) W))
            -∗ wp frame (wpE defs 𝒱 (c : Thread nD τ) none) Set.univ (f ⟨⟩) Q)
          -∗ wp frame (wpE defs 𝒱 (c : Thread nD τ) none) Set.univ (.op (.waitDma2 sem src dst hsrc hdst) f) Q) := by
  subst hs
  unfold crd
  rw [← hN]
  iintro ⟨#HR, #Hlev, Hc, Hat, HO⟩ Hk
  ihave #HI := (P.records_inv c k κ) $$ HR
  iapply (Rounds.wp_wait_rest_token 𝒱 ER P.sched (c : Thread nD τ) none (κ := κ (P.cell c k)) (wpE_waitDma2_eq 𝒱 (c : Thread nD τ) none Set.univ)
      (Set.mem_univ _) () (O := P.owing c S) (W := W) (R := 0) (m := 0) (T := ∅) ((Nat.zero_add _).trans (hN.trans (P.expect_cell c k).symm))) $$ [Hc Hat HO]
  · isplitr; · iexact HI
    isplitl [Hc]; · iexact Hc
    isplitl [HO]; · iexact HO
    isplitr; · iapply (P.may_wait c k S hS); iexact Hlev
    iexact Hat
  iintro ⟨HO, Hat, -, Hpay⟩
  iapply Hk
  isplitl [Hpay]; · iapply (Entails.of_eq (P.rest_cell c k)) $$ Hpay
  isplitl [Hat]; · iexact Hat
  iexact HO

/-- Every cell waited for: the counters come back at zero. -/
theorem close_all : iprop(P.records κ ∗ bigSep Finset.univ fun k => P.done c k)
    ⊢ (|={Set.univ}=> ownSems0 (fun k : Fin K => SemLoc.dma (P.sem k)) c : sProp 𝕄) := by
  have one (k : Fin K) : iprop(P.records κ ∗ P.done c k) ⊢ (|={Set.univ}=> semVal (P.cell c k) 0 : sProp 𝕄) := by
    iintro ⟨#HR, Hd⟩
    ihave #HI := (P.records_inv c k κ) $$ HR
    iapply (Rounds.cell_close ER P.sched (Set.mem_univ (κ (P.cell c k))) id (P.duties_later (P.cell c k)))
    isplitr; · iexact HI
    iexact Hd
  exact (bigSep_with_persistent fun k _ => one k).trans (BI.bigSep_fupd Finset.univ _)

end Steps

end Plan

end Links

end
-- ==== Proof.Links.Program.lean ====
/-
  A program that begins with ONE kernel region in which the devices exchange data along a `Plan` (Once.lean), the region
  staging no window: `θ_run_once`. The certificate says how the devices' buffers at launch are shared out over the whole mesh
  (`Start`), proves the body from one device's share to what it ends with (`End`), and whatever @main does after the region.
-/
module

public import proofs.«01_k».proof.Proof.Links.Launch
public import proofs.«01_k».proof.Proof.Links.Once

@[expose] public section

noncomputable section

namespace Links

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.Sem Idealize.SL.ProofMode
open Idealize.ShloMosaic.Rounds

variable {nD : Nat} {τ : Topo} {sig : RefSig} {Val : EltTy → Type}

local notation "𝕄" => MT nD τ sig Unit Val ℕ (UU nD τ sig) ℕ

theorem bigSep_none {M : Type} [URA M] {I : Type} [Fintype I] [IsEmpty I] (Φ : I → sProp M) : bigSep Finset.univ Φ = (BI.emp : sProp M) := by
  rw [Finset.univ_eq_empty, BI.bigSep_empty]

variable {K : ℕ} (P : Plan nD τ sig Val K)
variable {Λ₀ : Labels} {R : Type} [Fintype R] [DecidableEq R] (pcs : R → PCfg sig Λ₀ Val) (a : Dev nD → (r : R) → (pcs r).Adm) (p : R)
variable (Start End : Dev nD → sProp (MT nD τ sig Unit Val ℕ (UU nD τ sig) ℕ))

/-- What enters the region's invariant: the records, the levels, the device's hand and its share of the buffers. -/
def entering (c : Dev nD) : sProp 𝕄 :=
  iprop((∃ κ, P.records κ) ∗ levAts (Plan.lvOn nD τ sig) P.lv ∗ P.hand c ∗ Start c)

/-- The region's proof data: no window; before its one point the device owes the landings its copies are to make. -/
def onceDat (c : Dev nD) [IsEmpty (Fin (pinD pcs a c p).W)] : Dat τ Val Unit ℕ (UU nD τ sig) ℕ (pinD pcs a c p) c where
  A w := isEmptyElim w
  after w := isEmptyElim w
  Φ t := if t.val = 0 then iprop(entering P Start c ∗ scopedRest (pcs p).spec c)
    else iprop(End c ∗ ownSems0 (fun k : Fin K => SemLoc.dma (P.sem k)) c ∗ scopedRest (pcs p).spec c)
  q w := isEmptyElim w
  owed t := if t.val = 0 then P.owing c P.far else 0

section Dat
variable (c : Dev nD) [IsEmpty (Fin (pinD pcs a c p).W)] (t : Fin ((pinD pcs a c p).N + 1))
theorem once_first (h : t.val = 0) : (onceDat P pcs a p Start End c).Φ t = iprop(entering P Start c ∗ scopedRest (pcs p).spec c) := if_pos h
theorem once_after (h : t.val ≠ 0) : (onceDat P pcs a p Start End c).Φ t
    = iprop(End c ∗ ownSems0 (fun k : Fin K => SemLoc.dma (P.sem k)) c ∗ scopedRest (pcs p).spec c) := if_neg h
theorem owed_first (h : t.val = 0) : (onceDat P pcs a p Start End c).owed t = P.owing c P.far := if_pos h
theorem owed_after (h : t.val ≠ 0) : (onceDat P pcs a p Start End c).owed t = 0 := if_neg h
end Dat

variable (defs₀ : Defs nD τ sig Val Λ₀) (𝒱₀ : Variants)

local notation "𝔻" => Pipeline.defs pcs defs₀
local notation "𝕍" => Variants.lift 𝒱₀

/-- The body's obligation, from its run. -/
theorem once_body (c : Dev nD) [IsEmpty (Fin (pinD pcs a c p).W)] (hN : (pinD pcs a c p).N = 1)
    (hbody : ∀ (t : Fin (pinD pcs a c p).N) (κ : GSem nD τ sig → ℕ) (W : Waits sig Unit) (Q : sProp 𝕄),
      iprop((P.records κ ∗ levAts (Plan.lvOn nD τ sig) P.lv ∗ P.hand c ∗ Start c ∗ owes (c : Thread nD τ) (P.owing c P.far) W)
        ∗ (iprop(End c ∗ (bigSep Finset.univ fun k => P.done c k) ∗ ∃ W', owes (c : Thread nD τ) (P.owing c ∅) W') -∗ Q))
      ⊢ wp frame (wpE defs₀ 𝒱₀ (c : Thread nD τ) none) Set.univ (defs₀ .tc (pinD pcs a c p).body ((pinD pcs a c p).bodyArgs t ((pinD pcs a c p).slots t))) fun _ => Q) :
    BodyObligation (onceDat P pcs a p Start End c) defs₀ 𝒱₀ () Set.univ := fun t => by
  have ht : t.val = 0 := by have := t.isLt; omega
  rw [bigSep_none]
  have ht' : t.succ.val ≠ 0 := Nat.succ_ne_zero _
  rw [once_first P pcs a p Start End c t.castSucc ht, once_after P pcs a p Start End c t.succ ht']
  unfold Dat.owesAt owesWithin
  rw [owed_first P pcs a p Start End c t.castSucc ht, owed_after P pcs a p Start End c t.succ ht']
  unfold entering
  iintro ⟨⟨⟨⟨%κ, #HR⟩, #Hlev, Hh, HS⟩, Hsc⟩, ⟨%W, -, HO⟩, -⟩
  iapply wp_fupd
  iapply (hbody t κ W _)
  isplitr [Hsc]
  · isplitr; · iexact HR
    isplitr; · iexact Hlev
    isplitl [Hh]; · iexact Hh
    isplitl [HS]; · iexact HS
    iexact HO
  iintro ⟨HE, Hd, ⟨%W', HO⟩⟩
  imod (P.close_all c κ) $$ [Hd] with Hos
  · isplitr; · iexact HR
    iexact Hd
  imodintro
  isplitl [HE Hos Hsc]
  · isplitl [HE]; · iexact HE
    isplitl [Hos] <;> iassumption
  isplitl [HO]
  · iexists W'
    isplitr; · ipureintro; exact fun _ _ => Or.inl trivial
    rw [P.owing_empty]; iexact HO
  rw [bigSep_none]
  iempintro

/-- THE RUN: @main is the exchanging region and then `k`. -/
theorem θ_run_once [∀ e, Nonempty (Val e)] [∀ c, IsEmpty (Fin (pinD pcs a c p).W)] (hN : ∀ c, (pinD pcs a c p).N = 1)
    (phinj : Function.Injective (PerCore.cellOf (nD := nD) (τ := τ) (pinD pcs a)))
    (hw : WinFacts₀ (pcs p).spec) (ho : OwnSemFacts (pcs p).spec (fun k : Fin K => SemLoc.dma (P.sem k)))
    (hpf : ∀ c : Dev nD, (prefHeld (Ix := Unit) (Name := ℕ) (U := UU nD τ sig) (Lvl := ℕ) (pcs p).pre c (fun _ => fullShare) (a c p).1 : sProp 𝕄) = BI.emp)
    (pdats : (r : R) → (c : Dev nD) → Dat τ Val Unit ℕ (UU nD τ sig) ℕ (pinD pcs a c r) c)
    (hdat : ∀ c, pdats p c = onceDat P pcs a p Start End c)
    (m : (ℓ : Loc nD τ sig) → Buf Val ℓ) (g : Dev nD → PrngReg)
    (main : Dev nD → Prog (TpuEff nD τ sig Val (Sig Λ₀ R fun r => (pcs r).Adm) .tc) PUnit)
    (k : Dev nD → PUnit → Prog (TpuEff nD τ sig Val (Sig Λ₀ R fun r => (pcs r).Adm) .tc) PUnit)
    (hmain : ∀ c, main c = .op (.customCall (entry p) ()) (k c))
    (hstart : (bigSep Finset.univ fun c : Dev nD => (unscopedBufs c (fun b => m ((c.tc : Thread nD τ).loc b)) : sProp 𝕄)) ⊢ bigSep Finset.univ Start)
    (hbody : ∀ (c : Dev nD) (t : Fin (pinD pcs a c p).N) (κ : GSem nD τ sig → ℕ) (W : Waits sig Unit) (Q : sProp 𝕄),
      iprop((P.records κ ∗ levAts (Plan.lvOn nD τ sig) P.lv ∗ P.hand c ∗ Start c ∗ owes (c : Thread nD τ) (P.owing c P.far) W)
        ∗ (iprop(End c ∗ (bigSep Finset.univ fun k => P.done c k) ∗ ∃ W', owes (c : Thread nD τ) (P.owing c ∅) W') -∗ Q))
      ⊢ wp frame (wpE defs₀ 𝒱₀ (c : Thread nD τ) none) Set.univ (defs₀ .tc (pinD pcs a c p).body ((pinD pcs a c p).bodyArgs t ((pinD pcs a c p).slots t))) fun _ => Q)
    (Tₙ : Dev nD → sProp 𝕄)
    (htail : ∀ c, iprop(boundary (c.tc : Thread nD τ) ∗ End c ∗ (∃ W, owes (c.tc : Thread nD τ) (0 : CellTallies nD τ sig Unit) W)
          ∗ levAts (Plan.lvOn nD τ sig) P.lv ∗ PerCore.ghostOn pcs a EP (Finset.univ.erase p) c)
        ⊢ wp frame (wpE 𝔻 𝕍 (c.tc : Thread nD τ) none) Set.univ (k c ⟨⟩)
          (fun _ => iprop(Tₙ c ∗ boundary (c.tc : Thread nD τ) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let own (c : Dev nD) : sProp 𝕄 := opened pcs a phinj p ho c
  let ghosts (c : Dev nD) : sProp 𝕄 := PerCore.ghostOn pcs a EP Finset.univ c
  refine run_dealt (Lvl := ℕ) (Name := ℕ) (U := UU nD τ sig) 𝕍 m g main (fun c => P.owing c P.far) (Plan.lvOn nD τ sig) P.lv Plan.lvOn_of_ne
    (initOf (PerCore.cells (pinD pcs a) phinj) (PerCore.launchToks (pinD pcs a) phinj), P.u₀)
    (fun c => iprop(own c ∗ entering P Start c ∗ owes (c.tc : Thread nD τ) (P.owing c P.far) ∅ ∗ ghosts c)) Tₙ ?_ (fun c => ?_) QY hfin hQ
  · have sort (c : Dev nD) : iprop(boundary (c.tc : Thread nD τ) ∗ unscopedBufs c (fun b => m ((c.tc : Thread nD τ).loc b))
          ∗ unscopedSems0 c ∗ owes (c.tc : Thread nD τ) (P.owing c P.far) ∅ ∗ launchCred (fun d => P.owing d P.far) c ∗ prngReg c (g c))
        ⊢ (iprop(iprop(own c ∗ owes (c.tc : Thread nD τ) (P.owing c P.far) ∅) ∗ unscopedBufs c (fun b => m ((c.tc : Thread nD τ).loc b))
          ∗ iprop(ownSems0 (fun k : Fin K => SemLoc.dma (P.sem k)) c ∗ launchCred (fun d => P.owing d P.far) c)) : sProp 𝕄) := by
      iintro ⟨Hb, Hub, -, HO, Hc, -⟩
      ihave H := (boundary_open pcs a phinj p hw ho c) $$ Hb
      icases H with ⟨Hop, Hos⟩
      isplitl [Hop HO]; · isplitl [Hop] <;> iassumption
      isplitl [Hub]; · iexact Hub
      isplitl [Hos] <;> iassumption
    have sorted : (bigSep Finset.univ fun c : Dev nD => (iprop(boundary (c.tc : Thread nD τ) ∗ unscopedBufs c (fun b => m ((c.tc : Thread nD τ).loc b))
          ∗ unscopedSems0 c ∗ owes (c.tc : Thread nD τ) (P.owing c P.far) ∅ ∗ launchCred (fun d => P.owing d P.far) c ∗ prngReg c (g c)) : sProp 𝕄))
        ⊢ (iprop((bigSep Finset.univ fun c : Dev nD => iprop(own c ∗ owes (c.tc : Thread nD τ) (P.owing c P.far) ∅))
            ∗ (bigSep Finset.univ fun c : Dev nD => unscopedBufs c (fun b => m ((c.tc : Thread nD τ).loc b)))
            ∗ bigSep Finset.univ fun c : Dev nD => iprop(ownSems0 (fun k : Fin K => SemLoc.dma (P.sem k)) c ∗ launchCred (fun d => P.owing d P.far) c)) : sProp 𝕄) :=
      (bigSep_mono fun c _ => sort c).trans (Entails.of_eq ((bigSep_sep' _ _ _).trans (congrArg (fun X => BIBase.sep _ X) (bigSep_sep' _ _ _))))
    have gh : iprop((bigSep Finset.univ fun c : Dev nD => bigSep Finset.univ fun r : R => PerCore.cellsGhost (pinD pcs a) EP r c)
          ∗ bigSep Finset.univ fun c : Dev nD => bigSep Finset.univ fun r : R => PerCore.toksInit (pinD pcs a) EP r c)
        ⊢ (bigSep Finset.univ fun c : Dev nD => ghosts c : sProp 𝕄) :=
      Entails.of_eq (by simp only [ghosts, PerCore.ghostOn, bigSep_sep'])
    have back (κ : GSem nD τ sig → ℕ) : iprop((P.records κ ∗ levAts (Plan.lvOn nD τ sig) P.lv)
          ∗ bigSep Finset.univ fun c : Dev nD => iprop(iprop(own c ∗ owes (c.tc : Thread nD τ) (P.owing c P.far) ∅) ∗ ghosts c ∗ P.hand c ∗ Start c))
        ⊢ (bigSep Finset.univ fun c : Dev nD => iprop(own c ∗ entering P Start c ∗ owes (c.tc : Thread nD τ) (P.owing c P.far) ∅ ∗ ghosts c) : sProp 𝕄) :=
      bigSep_with_persistent fun c _ => by
        unfold entering
        iintro ⟨⟨#HR, #Hlev⟩, ⟨Hop, HO⟩, Hg, Hh, HS⟩
        isplitl [Hop]; · iexact Hop
        isplitl [Hh HS]
        · isplitr; · iexists κ; iexact HR
          isplitr; · iexact Hlev
          isplitl [Hh] <;> iassumption
        isplitl [HO] <;> iassumption
    have join : iprop((bigSep Finset.univ fun c : Dev nD => iprop(own c ∗ owes (c.tc : Thread nD τ) (P.owing c P.far) ∅))
          ∗ (bigSep Finset.univ fun c : Dev nD => ghosts c) ∗ (bigSep Finset.univ fun c : Dev nD => P.hand c) ∗ bigSep Finset.univ Start)
        ⊢ (bigSep Finset.univ fun c : Dev nD => iprop(iprop(own c ∗ owes (c.tc : Thread nD τ) (P.owing c P.far) ∅) ∗ ghosts c ∗ P.hand c ∗ Start c) : sProp 𝕄) :=
      Entails.of_eq ((bigSep_sep' _ _ _).trans (congrArg (fun X => BIBase.sep _ X) ((bigSep_sep' _ _ _).trans (congrArg (fun X => BIBase.sep _ X) (bigSep_sep' _ _ _))))).symm
    iintro ⟨H, #Hlev, Hu⟩
    ihave Hu := (ownU_pair _ _) $$ Hu
    icases Hu with ⟨HP, HR⟩
    imod (PerCore.fund_ghost (pinD pcs a) EP phinj) $$ HP with ⟨Hg, Ht⟩
    ihave Hgh := gh $$ [Hg Ht]
    · isplitl [Hg] <;> iassumption
    ihave H := sorted $$ H
    icases H with ⟨Hop, Hub, Hsc⟩
    ihave HS := hstart $$ Hub
    imod P.deal $$ [Hsc HR] with ⟨%κ, #HRec, Hh⟩
    · isplitl [Hsc] <;> iassumption
    imodintro
    iapply (back κ)
    isplitr
    · isplitr; · iexact HRec
      iexact Hlev
    iapply join
    isplitl [Hop]; · iexact Hop
    isplitl [Hgh]; · iexact Hgh
    isplitl [Hh] <;> iassumption
  · rw [hmain c]
    have hgh : ghosts c = iprop((PerCore.cellsGhost (pinD pcs a) EP p c ∗ PerCore.toksInit (pinD pcs a) EP p c)
        ∗ PerCore.ghostOn pcs a EP (Finset.univ.erase p) c) := PerCore.ghostOn_erase pcs a EP (Finset.mem_univ p) c
    have hΦ0 : (pdats p c).Φ 0 = iprop(entering P Start c ∗ scopedRest (pcs p).spec c) := by
      rw [hdat]; exact once_first P pcs a p Start End c 0 rfl
    have hlast : (Fin.last (pinD pcs a c p).N).val ≠ 0 := by rw [Fin.val_last, hN c]; exact Nat.one_ne_zero
    have hΦ1 : (pdats p c).Φ (Fin.last (pinD pcs a c p).N) = iprop(End c ∗ ownSems0 (fun k : Fin K => SemLoc.dma (P.sem k)) c ∗ scopedRest (pcs p).spec c) := by
      rw [hdat]; exact once_after P pcs a p Start End c _ hlast
    have hO0 : (owes (c.tc : Thread nD τ) (P.owing c P.far) ∅ : sProp 𝕄) ⊢ (pdats p c).owesAt () 0 := by
      rw [hdat]; unfold Dat.owesAt owesWithin
      rw [owed_first P pcs a p Start End c 0 rfl]
      iintro HO
      iexists ∅
      isplitr; · ipureintro; exact fun _ h => absurd h (Finset.notMem_empty _)
      iexact HO
    have hO1 : (pdats p c).owesAt () (Fin.last (pinD pcs a c p).N) ⊢ (iprop(∃ W, owes (c.tc : Thread nD τ) (0 : CellTallies nD τ sig Unit) W) : sProp 𝕄) := by
      rw [hdat]; unfold Dat.owesAt owesWithin
      rw [show (onceDat P pcs a p Start End c).owed (Fin.last (pinD pcs a c p).N) = 0 from owed_after P pcs a p Start End c _ hlast]
      iintro ⟨%W, -, HO⟩
      iexists W; iexact HO
    rw [hgh]
    iintro ⟨Hop, He, HO, ⟨⟨Hcg, Htk⟩, Hrest⟩⟩
    unfold entering
    icases He with ⟨HR, #Hlev, Hh, HS⟩
    iapply (wp_region_dealt pcs a pdats () phinj EP defs₀ 𝒱₀ p hw ho (fun w => isEmptyElim (α := Fin (pinD pcs a c p).W) w)
      (fun w => isEmptyElim (α := Fin (pinD pcs a c p).W) w) c (by rw [hdat]; exact (once_body P pcs a p Start End defs₀ 𝒱₀ c (hN c) (hbody c)).loose)
      (entering P Start c) (End c) (levAts (Plan.lvOn nD τ sig) P.lv)
      (PerCore.cellsWaits_intro (pinD pcs a) pdats () p c fun w => isEmptyElim (α := Fin (pinD pcs a c p).W) w)
      (by rw [hΦ0]; iintro ⟨HX, -, Hs⟩; isplitl [HX] <;> iassumption)
      (by rw [hΦ1]) (k c) _)
    isplitl [Hrest]
    · iintro ⟨Hb, Hpost, HE⟩
      unfold PerCore.EntryPost
      icases Hpost with ⟨-, HO⟩
      ihave HO := hO1 $$ HO
      iapply (htail c)
      isplitl [Hb]; · iexact Hb
      isplitl [HE]; · iexact HE
      isplitl [HO]; · iexact HO
      isplitr; · iexact Hlev
      iexact Hrest
    isplitl [Hop]; · iexact Hop
    isplitl [HR Hh HS HO]
    · isplitr; · rw [show ((pdats p c).arrays ((pdats p c).arrAt · 0) : sProp 𝕄) = BI.emp from bigSep_none (I := Fin (pinD pcs a c p).W) _]; iempintro
      isplitr; · rw [hpf]; iempintro
      isplitl [HO]; · iapply hO0 $$ HO
      unfold entering
      isplitl [HR]; · iexact HR
      isplitr; · iexact Hlev
      isplitl [Hh] <;> iassumption
    isplitr; · iexact Hlev
    isplitl [Hcg] <;> iassumption

end Links

end
-- ==== Proof.Links.Pieces.lean ====
/-
  Buffers in pieces: cutting a whole buffer along disjoint sets of elements, halving a share, and what a piece says of the
  memory at the end. `Pieces` are the elements views of one buffer reach.
-/
module

public import Idealize.ShloMosaic.Lib.Pipeline.Launch
public import Idealize.ShloMosaic.Lib.Pipeline.Kit
public import Idealize.ShloMosaic.Lib.Tactic

@[expose] public section

noncomputable section

namespace Links

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} {U : Type} [URA U]

local notation "𝕄" => MT nD τ sig Unit Val ℕ U ℕ

/-- A buffer held on some elements is held on two disjoint sets of them. -/
theorem carve {ℓ : Loc nD τ sig} {S A B : Finset (Idx ℓ)} {q : PosShare TreeShare} {f : Buf Val ℓ} (hA : A ⊆ S) (hB : B ⊆ S) (h : Disjoint A B) :
    (ℓ ↦[S]{q} f : sProp 𝕄) ⊢ iprop((ℓ ↦[A]{q} f) ∗ ℓ ↦[B]{q} f) := by
  iintro H
  ihave H := (pointsTo_split_subset hA).1 $$ H
  icases H with ⟨HA, H⟩
  ihave H := (pointsTo_split_subset (I := B) (S := S \ A) (Finset.subset_sdiff.mpr ⟨hB, h.symm⟩)).1 $$ H
  icases H with ⟨HB, -⟩
  isplitl [HA] <;> iassumption

/-- A piece gives up a list of parts that do not meet. -/
theorem carve_list {ℓ : Loc nD τ sig} {q : PosShare TreeShare} {f : Buf Val ℓ} : (L : List (Finset (Idx ℓ))) → (S : Finset (Idx ℓ)) → (∀ A ∈ L, A ⊆ S) →
    L.Pairwise Disjoint → (ℓ ↦[S]{q} f : sProp 𝕄) ⊢ L.foldr (fun A X => iprop((ℓ ↦[A]{q} f) ∗ X)) iprop(emp)
  | [], S, _, _ => by
    show _ ⊢ (iprop(emp) : sProp 𝕄)
    iintro -; iempintro
  | A :: L, S, hS, hd => by
    have hd' := List.pairwise_cons.mp hd
    have rest := carve_list (q := q) (f := f) L (S \ A) (fun B hB => Finset.subset_sdiff.mpr ⟨hS B (List.mem_cons_of_mem _ hB), (hd'.1 B hB).symm⟩) hd'.2
    iintro H
    ihave H := (carve (hS A List.mem_cons_self) Finset.sdiff_subset Finset.disjoint_sdiff) $$ H
    icases H with ⟨HA, H⟩
    ihave H := rest $$ H
    simp only [List.foldr_cons]
    isplitl [HA]; · iexact HA
    iexact H

/-- What is left of a buffer beside three sets of its elements. -/
abbrev beside {ℓ : Loc nD τ sig} (A B C : Finset (Idx ℓ)) : Finset (Idx ℓ) := ((Finset.univ \ A) \ B) \ C

/-- A buffer held whole is held on three sets that do not meet, and beside them. -/
theorem carve_three {ℓ : Loc nD τ sig} {A B C : Finset (Idx ℓ)} {q : PosShare TreeShare} {f : Buf Val ℓ} (hAB : Disjoint A B) (hAC : Disjoint A C)
    (hBC : Disjoint B C) : (ℓ ↦{q} f : sProp 𝕄) ⊣⊢ iprop((ℓ ↦[A]{q} f) ∗ (ℓ ↦[B]{q} f) ∗ (ℓ ↦[C]{q} f) ∗ ℓ ↦[beside A B C]{q} f) := by
  have hB : B ⊆ Finset.univ \ A := Finset.subset_sdiff.mpr ⟨Finset.subset_univ _, hAB.symm⟩
  have hC : C ⊆ (Finset.univ \ A) \ B := Finset.subset_sdiff.mpr ⟨Finset.subset_sdiff.mpr ⟨Finset.subset_univ _, hAC.symm⟩, hBC.symm⟩
  constructor
  · iintro H
    ihave H := (pointsTo_split_subset (Finset.subset_univ A)).1 $$ H
    icases H with ⟨HA, H⟩
    ihave H := (pointsTo_split_subset hB).1 $$ H
    icases H with ⟨HB, H⟩
    ihave H := (pointsTo_split_subset hC).1 $$ H
    icases H with ⟨HC, H⟩
    isplitl [HA]; · iexact HA
    isplitl [HB]; · iexact HB
    isplitl [HC] <;> iassumption
  · iintro ⟨HA, HB, HC, H⟩
    iapply (pointsTo_split_subset (Finset.subset_univ A)).2
    isplitl [HA]; · iexact HA
    iapply (pointsTo_split_subset hB).2
    isplitl [HB]; · iexact HB
    iapply (pointsTo_split_subset hC).2
    isplitl [HC] <;> iassumption

/-- Contents given on three sets in turn and beside them. -/
def patched {ℓ : Loc nD τ sig} (A B C : Finset (Idx ℓ)) (f₀ f₁ f₂ f : Buf Val ℓ) : Buf Val ℓ :=
  fun i => if i ∈ A then f₀ i else if i ∈ B then f₁ i else if i ∈ C then f₂ i else f i

section Patched
variable {ℓ : Loc nD τ sig} {A B C : Finset (Idx ℓ)} {f₀ f₁ f₂ f : Buf Val ℓ}

theorem patched_first {i : Idx ℓ} (h : i ∈ A) : patched A B C f₀ f₁ f₂ f i = f₀ i := if_pos h
theorem patched_second (hAB : Disjoint A B) {i : Idx ℓ} (h : i ∈ B) : patched A B C f₀ f₁ f₂ f i = f₁ i :=
  (if_neg (Finset.disjoint_right.mp hAB h)).trans (if_pos h)
theorem patched_third (hAC : Disjoint A C) (hBC : Disjoint B C) {i : Idx ℓ} (h : i ∈ C) : patched A B C f₀ f₁ f₂ f i = f₂ i :=
  (if_neg (Finset.disjoint_right.mp hAC h)).trans ((if_neg (Finset.disjoint_right.mp hBC h)).trans (if_pos h))
theorem patched_beside {i : Idx ℓ} (h : i ∈ beside A B C) : patched A B C f₀ f₁ f₂ f i = f i := by
  obtain ⟨h, hC⟩ := Finset.mem_sdiff.mp h
  obtain ⟨h, hB⟩ := Finset.mem_sdiff.mp h
  exact (if_neg (Finset.mem_sdiff.mp h).2).trans ((if_neg hB).trans (if_neg hC))

/-- Three sets that do not meet and what is beside them, each at its contents, are the buffer at the contents patched. -/
theorem join_three {q : PosShare TreeShare} (hAB : Disjoint A B) (hAC : Disjoint A C) (hBC : Disjoint B C) :
    iprop((ℓ ↦[A]{q} f₀) ∗ (ℓ ↦[B]{q} f₁) ∗ (ℓ ↦[C]{q} f₂) ∗ ℓ ↦[beside A B C]{q} f) ⊢ (ℓ ↦{q} patched A B C f₀ f₁ f₂ f : sProp 𝕄) := by
  refine BIBase.Entails.trans (Entails.of_eq ?_) (carve_three hAB hAC hBC).2
  rw [pointsTo_congr (g := patched A B C f₀ f₁ f₂ f) (fun i h => (patched_first h).symm),
    pointsTo_congr (I := B) (g := patched A B C f₀ f₁ f₂ f) (fun i h => (patched_second hAB h).symm),
    pointsTo_congr (I := C) (g := patched A B C f₀ f₁ f₂ f) (fun i h => (patched_third hAC hBC h).symm),
    pointsTo_congr (I := beside A B C) (g := patched A B C f₀ f₁ f₂ f) (fun i h => (patched_beside h).symm)]
end Patched

/-- A share is its two halves. -/
theorem halve {ℓ : Loc nD τ sig} {I : Finset (Idx ℓ)} {q : PosShare TreeShare} {f : Buf Val ℓ} :
    (ℓ ↦[I]{q} f : sProp 𝕄) ⊣⊢ iprop((ℓ ↦[I]{q.left} f) ∗ ℓ ↦[I]{q.right} f) := pointsTo_share (PosShare.mem_left_op_right q)

/-- What a held piece says of the machine's memory. -/
theorem told {ℓ : Loc nD τ sig} {I : Finset (Idx ℓ)} {q : PosShare TreeShare} {f : Buf Val ℓ} (s : Phys nD τ sig Val) :
    iprop((ℓ ↦[I]{q} f) ∗ SI s) ⊢ (iprop(⌜∀ i ∈ I, s.mem.mem ℓ i = f i⌝ ∗ SI s) : sProp 𝕄) := by
  iintro ⟨H, HS⟩
  icombine HS H gives %hx
  isplitr; · ipureintro; exact hx
  iexact HS

/-- A part of what each device holds, moved along a permutation of the devices. -/
theorem moved (A B : Dev nD → sProp 𝕄) (e : Dev nD ≃ Dev nD) :
    (bigSep Finset.univ fun c : Dev nD => iprop(A c ∗ B c)) ⊢ (bigSep Finset.univ fun c : Dev nD => iprop(A c ∗ B (e c)) : sProp 𝕄) :=
  Entails.of_eq ((bigSep_sep' Finset.univ A B).trans ((congrArg (fun X => BIBase.sep (bigSep Finset.univ A) X) (bigSep_univ_equiv e B)).trans
    (bigSep_sep' Finset.univ A fun c => B (e c)).symm))

end Links

end
-- ==== Proof.Merge.Run.lean ====
/-
  The run of `Merge` (`_sibling_merge`): the two cores of a chip each hold one half of the rows of an array and end with both.
  Device `c` copies its half into its own result at the rows its core names and sends it to the same rows of its sibling's
  result, waits for its send, for its sibling's landing, and for its local copy. Three transfer cells a device. No buffer is
  handed over by a signal, so the launch deals each device the half of its SIBLING's result it is to write.
-/
module

public import proofs.«01_k».proof.Proof.Links.Program
public import proofs.«01_k».proof.Proof.Links.Pieces
public import proofs.«01_k».proof.Proof.Gen.MergeIdeal
public import proofs.«01_k».proof.Proof.Gen.MergeIdeal.Skeleton
public import proofs.«01_k».proof.Proof.Gen.MergeIdeal.Launch

@[expose] public section

noncomputable section

namespace Cert.MergeRun

open Cert.MergeIdeal Cert.MergeIdeal.Gen Links
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-- The other core of the same chip. -/
def peer (c : Dev nD) : Dev nD := ⟨k0_dev1 c, k0_dev1_lt c⟩

theorem peer_val (c : Dev nD) : (peer c).val = (4 * (c.val / 4) + 2 * ((c.val / 2) % 2) + 1) - (c.val % 2) := k0_dev1_eq c
theorem peer_peer (c : Dev nD) : peer (peer c) = c := by
  apply Fin.ext; rw [peer_val, peer_val]; have := c.isLt; revert this; generalize c.val = v; decide +revert
theorem peer_half (c : Dev nD) : (peer c).val % 2 ≠ c.val % 2 := by
  rw [peer_val]; have := c.isLt; revert this; generalize c.val = v; decide +revert

def swap : Dev nD ≃ Dev nD := ⟨peer, peer, peer_peer, peer_peer⟩

/-- The half each device starts with, and the rows of the result that core `c` names. -/
abbrev redM : Memref sig .tc .hbm S5120x1024 .f32 := Memref.whole main_arg0
abbrev half (c : Dev nD) : Memref sig .tc .hbm S5120x1024 .f32 :=
  (Memref.whole main_v1 : Memref sig .tc .hbm S10240x1024 .f32).slice (Rect.unit (s := S10240x1024) (k0_off1 c) S5120x1024.size (k0_off1_inb c)) (fun _ => rfl)

abbrev N : ℕ := (redM : Memref sig .tc .hbm S5120x1024 .f32).view.dmaCredit
theorem N_pos : 0 < N := View.dmaCredit_pos _ (by decide)

theorem half_disjoint (c : Dev nD) : Disjoint (half c).view.set (half (peer c)).view.set := by
  rw [show (half c).view.set = (Rect.unit (s := S10240x1024) (k0_off1 c) S5120x1024.size (k0_off1_inb c)).set from View.set_slice_whole _ _,
    show (half (peer c)).view.set = (Rect.unit (s := S10240x1024) (k0_off1 (peer c)) S5120x1024.size (k0_off1_inb (peer c))).set from View.set_slice_whole _ _]
  refine Rect.unit_disjoint (0 : Fin 2) ?_
  rw [k0_off1_eq, k0_off1_eq]
  have h := peer_half c
  have h1 : c.val % 2 < 2 := Nat.mod_lt _ (by decide)
  have h2 : (peer c).val % 2 < 2 := Nat.mod_lt _ (by decide)
  show 5120 * (c.val % 2) + 5120 ≤ 5120 * ((peer c).val % 2) ∨ 5120 * ((peer c).val % 2) + 5120 ≤ 5120 * (c.val % 2)
  omega

/-! ## Contents -/

/-- The array a device starts with. -/
abbrev red (c : Dev nD) : Buf (Elt F) ((redM).view.loc (c : Thread nD τ)) := m ((c : Thread nD τ).loc main_arg0)
/-- The result of device `c`, the rows of core `d` overwritten by what device `d` starts with. -/
abbrev put (c d : Dev nD) : Buf (Elt F) ((half d).view.loc (c : Thread nD τ)) :=
  (half d).view.write (Elt F) (m ((c : Thread nD τ).loc main_v1)) ((redM).view.read (Elt F) (red m d)) Finset.univ

/-- The array held at half a share. -/
def redPts (q : PosShare TreeShare) (c : Dev nD) : sProp 𝕄 := (redM).view.loc (c : Thread nD τ) ↦[(redM).view.set]{q} red m c
/-- The rows of core `d` of device `c`'s result, as at launch and at the end. -/
def rowsAt (c d : Dev nD) : sProp 𝕄 := (half d).view.loc (c : Thread nD τ) ↦[(half d).view.set]{fullShare} m ((c : Thread nD τ).loc main_v1)
def rowsPut (c d : Dev nD) : sProp 𝕄 := (half d).view.loc (c : Thread nD τ) ↦[(half d).view.set]{fullShare} put m c d

/-- What each landing hands its device. -/
def payOf (c : Dev nD) : Fin 3 → sProp 𝕄
  | 0 => redPts m fullShare.right c
  | 1 => rowsPut m c (peer c)
  | 2 => iprop(rowsPut m c c ∗ redPts m fullShare.left c)

def lanes : Fin 3 → DmaSem sig := fun | 0 => cc0_scratch0.sem | 1 => cc0_scratch1.sem | 2 => cc0_scratch2.sem

/-- The plan: the send's cell, the landing's cell (which the sibling credits), the local copy's cell. -/
def plan : Plan nD τ sig (Elt F) 3 where
  sem := lanes
  inj := by decide
  amt := fun _ => N
  pos := fun _ => N_pos
  tgt := fun | 0 => Equiv.refl _ | 1 => swap | 2 => Equiv.refl _
  far := {1}
  lev := fun _ => 0
  pay := payOf m
  sto := fun c k => by fin_cases k <;> (unfold payOf redPts rowsPut; infer_instance)

theorem lanes_facts : Pipeline.OwnSemFacts cfg0.spec (fun k => SemLoc.dma (lanes k)) := by decide
theorem scoped_all (l : SemLoc sig) : l.isScoped Kind.tc = true := by revert l; decide

def Start (c : Dev nD) : sProp 𝕄 := iprop(redPts m fullShare c ∗ rowsAt m c c ∗ rowsAt m (peer c) c)
def End (c : Dev nD) : sProp 𝕄 := iprop(redPts m fullShare.right c ∗ rowsPut m c c ∗ rowsPut m c (peer c))

theorem bigSep_fin3 (Φ : Fin 3 → sProp 𝕄) : bigSep Finset.univ Φ = iprop(Φ 0 ∗ Φ 1 ∗ Φ 2) := bigSep_univ_eq_bigSepL [0, 1, 2] (by decide) (by decide) Φ

/-- At launch the devices' buffers are dealt so that each holds the rows it is to write, on both cores. -/
theorem start_intro : (bigSep Finset.univ fun c : Dev nD => (unscopedBufs c (fun b => m ((c.tc : Thread nD τ).loc b)) : sProp 𝕄))
    ⊢ bigSep Finset.univ (Start m) := by
  have cut (c : Dev nD) : (unscopedBufs c (fun b => m ((c.tc : Thread nD τ).loc b)) : sProp 𝕄)
      ⊢ iprop((redPts m fullShare c ∗ rowsAt m c c) ∗ rowsAt m c (peer c)) := by
    unfold unscopedBufs
    rw [bigSep_eq_bigSepL_of_eq [main_arg0, main_v1] (by decide) (by decide)]
    unfold redPts rowsAt
    show iprop((((c.tc : Thread nD τ).loc main_arg0) ↦{fullShare} m ((c.tc : Thread nD τ).loc main_arg0))
      ∗ (((c.tc : Thread nD τ).loc main_v1) ↦{fullShare} m ((c.tc : Thread nD τ).loc main_v1))) ⊢ _
    rw [show (redM : Memref sig .tc .hbm S5120x1024 .f32).view.set = Finset.univ from View.set_whole _]
    iintro ⟨Hr, Ho⟩
    ihave Ho := (carve (Finset.subset_univ _) (Finset.subset_univ _) (half_disjoint c)) $$ Ho
    icases Ho with ⟨Ho, Hp⟩
    isplitl [Hr Ho]
    · isplitl [Hr] <;> iassumption
    iexact Hp
  have sort (c : Dev nD) : iprop((redPts m fullShare c ∗ rowsAt m c c) ∗ rowsAt m (swap c) (peer (swap c))) ⊢ (Start m c : sProp 𝕄) := by
    rw [show rowsAt m (swap c) (peer (swap c)) = rowsAt m (peer c) c from congrArg (rowsAt m (peer c)) (peer_peer c)]
    unfold Start
    iintro ⟨⟨Hr, Ho⟩, Hp⟩
    isplitl [Hr]; · iexact Hr
    isplitl [Ho] <;> iassumption
  exact (bigSep_mono fun c _ => cut c).trans ((moved (fun c => iprop(redPts m fullShare c ∗ rowsAt m c c)) (fun c => rowsAt m c (peer c)) swap).trans
    (bigSep_mono fun c _ => sort c))

/-- The body, from one device's share to what it ends with. -/
theorem body_run (c : Dev nD) (κ : GSem nD τ sig → ℕ) (W : Waits sig Unit) (Q : sProp 𝕄) :
    iprop(((plan m).records κ ∗ levAts (Plan.lvOn nD τ sig) (plan m).lv ∗ (plan m).hand c ∗ Start m c ∗ owes (c : Thread nD τ) ((plan m).owing c (plan m).far) W)
        ∗ (iprop(End m c ∗ (bigSep Finset.univ fun k => (plan m).done c k) ∗ ∃ W', owes (c : Thread nD τ) ((plan m).owing c ∅) W') -∗ Q))
      ⊢ wp frame (wpE (defs₀ (F := F)) Variants.none (c : Thread nD τ) none) Set.univ
        (cc0_grad_sibling_merge (Memref.whole main_arg0) (Memref.isWhole_whole _) (Memref.whole main_v1) (Memref.isWhole_whole _) cc0_scratch0 cc0_scratch1 cc0_scratch2) fun _ => Q := by
  simp only [cc0_grad_sibling_merge_eq_skeleton]
  unfold cc0_grad_sibling_merge_skel
  simp only [Prog.lift, Prog.bind_op, Prog.bind_ret, Prog.pure_eq_ret, wp_deviceId]
  unfold Plan.hand
  rw [bigSep_fin3, bigSep_fin3, show (plan m).far = {1} from rfl, bigSep_singleton, bigSep_fin3]
  unfold Start redPts rowsAt
  iintro ⟨⟨#HR, #Hlev, ⟨⟨Hn0, Hn1, Hn2⟩, ⟨Ht0, Ht1, Ht2⟩, Hc1⟩, ⟨Hr, Ho, Hp⟩, HO⟩, HQ⟩
  ihave Hr := halve.1 $$ Hr
  icases Hr with ⟨Hrl, Hrr⟩
  iapply ((plan m).copy_step c 2 Variants.none κ rfl rfl rfl (dst := half c) (src := redM) (fs := red m c) (fd := m ((c : Thread nD τ).loc main_v1))
    (q := fullShare.left) (Entails.of_eq rfl)) $$ [Hrl Ho Ht2]
  · isplitr; · iexact HR
    isplitl [Hrl]; · iexact Hrl
    isplitl [Ho]; · iexact Ho
    iexact Ht2
  iintro Hc2
  iapply ((plan m).send_step c 0 Variants.none κ (k' := 1) (S := ∅) (c' := peer c) rfl rfl rfl rfl (Finset.notMem_empty _) rfl rfl (dst := half c) (src := redM) (fs := red m c) (fd := m ((peer c : Thread nD τ).loc main_v1))
    (q := fullShare.right) (Entails.of_eq rfl) (by
      show _ ⊢ rowsPut m (peer c) (peer (peer c))
      rw [peer_peer]; exact Entails.of_eq rfl)) $$ [Hrr Hp Ht0 Ht1 HO]
  · isplitr; · iexact HR
    isplitl [Hrr]; · iexact Hrr
    isplitl [Hp]; · iexact Hp
    isplitl [Ht0]; · iexact Ht0
    isplitl [Ht1]; · iexact Ht1
    iexact HO
  iintro ⟨Hc0, HO⟩
  iapply ((plan m).wait_step c 0 Variants.none κ (S := ∅) rfl rfl (fun _ h => absurd h (Finset.notMem_empty _))) $$ [Hc0 Hn0 HO]
  · isplitr; · iexact HR
    isplitr; · iexact Hlev
    isplitl [Hc0]; · iexact Hc0
    isplitl [Hn0]; · iexact Hn0
    iexact HO
  iintro ⟨Hp0, Hd0, HO⟩
  iapply ((plan m).wait_step c 1 Variants.none κ (S := ∅) rfl rfl (fun _ h => absurd h (Finset.notMem_empty _))) $$ [Hc1 Hn1 HO]
  · isplitr; · iexact HR
    isplitr; · iexact Hlev
    isplitl [Hc1]; · iexact Hc1
    isplitl [Hn1]; · iexact Hn1
    iexact HO
  iintro ⟨Hp1, Hd1, HO⟩
  iapply ((plan m).wait_step c 2 Variants.none κ (S := ∅) rfl rfl (fun _ h => absurd h (Finset.notMem_empty _))) $$ [Hc2 Hn2 HO]
  · isplitr; · iexact HR
    isplitr; · iexact Hlev
    isplitl [Hc2]; · iexact Hc2
    isplitl [Hn2]; · iexact Hn2
    iexact HO
  iintro ⟨Hp2, Hd2, HO⟩
  rw [wp_ret]
  imodintro
  iapply HQ
  unfold End
  ihave Hp0 := (Entails.of_eq (show (plan m).pay c 0 = redPts m fullShare.right c from rfl)) $$ Hp0
  ihave Hp1 := (Entails.of_eq (show (plan m).pay c 1 = rowsPut m c (peer c) from rfl)) $$ Hp1
  ihave Hp2 := (Entails.of_eq (show (plan m).pay c 2 = iprop(rowsPut m c c ∗ redPts m fullShare.left c) from rfl)) $$ Hp2
  icases Hp2 with ⟨Ho, -⟩
  isplitl [Hp0 Ho Hp1]
  · isplitl [Hp0]; · iexact Hp0
    isplitl [Ho] <;> iassumption
  isplitr [HO]
  · isplitl [Hd0]; · iexact Hd0
    isplitl [Hd1] <;> iassumption
  iexists _; iexact HO

/-- What the final memory of device `c` holds: the array unchanged, and in the result both cores' arrays at their rows. -/
def Ends (c : Dev nD) (μ : MemSt nD τ sig (Elt F)) : Prop :=
  μ.mem ((c : Thread nD τ).loc main_arg0) = m ((c : Thread nD τ).loc main_arg0)
    ∧ ∀ d, (d = c ∨ d = peer c) → (half d).view.read (Elt F) (μ.mem ((c : Thread nD τ).loc main_v1)) = m ((d : Thread nD τ).loc main_arg0)

theorem read_put (c d : Dev nD) (g : Buf (Elt F) ((half d).view.loc (c : Thread nD τ))) (h : ∀ i ∈ (half d).view.set, g i = put m c d i) :
    (half d).view.read (Elt F) g = m ((d : Thread nD τ).loc main_arg0) := by
  have e : (half d).view.read (Elt F) g = (half d).view.read (Elt F) (put m c d) := (half d).view.read_congr h
  rw [e, View.read_write_univ]
  exact View.read_whole _ _

theorem ends_of (c : Dev nD) (s : Phys nD τ sig (Elt F)) : iprop(End m c ∗ SI s) ⊢ |={Set.univ}=> (iprop(⌜Ends m c s.mem⌝ ∗ SI s) : sProp 𝕄) := by
  unfold End redPts rowsPut
  iintro ⟨⟨Hr, Ho, Hp⟩, HS⟩
  ihave H := (told s) $$ [Hr HS]
  · isplitl [Hr] <;> iassumption
  icases H with ⟨%hr, HS⟩
  ihave H := (told s) $$ [Ho HS]
  · isplitl [Ho] <;> iassumption
  icases H with ⟨%ho, HS⟩
  ihave H := (told s) $$ [Hp HS]
  · isplitl [Hp] <;> iassumption
  icases H with ⟨%hp, HS⟩
  imodintro
  isplitr
  · ipureintro
    refine ⟨Buf.eq_of_forall_mem_univ (by rw [View.set_whole] at hr; exact hr), fun d hd => ?_⟩
    rcases hd with rfl | rfl
    · exact read_put m _ _ _ ho
    · exact read_put m _ _ _ hp
  iexact HS

def dats (p : Fin 1) (c : Dev nD) : Pipeline.Dat τ (Elt F) Unit ℕ (UU nD τ sig) ℕ (Pipeline.pin (fun p => (cfgs p).toPCfg (Val := Elt F)) (fun p => (cfgs p).toPCfg_adm) p) c :=
  match p with
  | 0 => onceDat (plan m) (fun p => (cfgs p).toPCfg (Val := Elt F)) (fun _ p => (cfgs p).toPCfg_adm) 0 (Start m) (End m) c

/-- On the mesh, for any float values, from any memory with zero counters: every weakly fair execution of `Merge` ends, each
    device's result holding both cores' arrays, its argument unchanged, every semaphore counter at zero. -/
theorem run_main (g : Dev nD → PrngReg) : θ_run (defs (F := F)) (onTc (τ := τ) (main (F := F))) ⟨m, fun _ => 0, g⟩
    (fun r => (∀ c, Ends m c r.2) ∧ r.2.sem = fun _ => 0) :=
  θ_run_once (plan m) (fun p => (cfgs p).toPCfg) (fun _ p => (cfgs p).toPCfg_adm) 0 (Start m) (End m) defs₀ Variants.none (fun _ => rfl) cellOf_inj winFacts0.to₀
    lanes_facts (fun c => rfl) (dats m) (fun c => rfl) m g main (fun _ _ => pure ⟨⟩) (fun _ => rfl) (start_intro m)
    (fun c t κ W Q => body_run m c κ W Q) (End m)
    (fun c => by
      rw [Prog.pure_eq_ret, wp_ret]
      iintro ⟨Hb, HE, HO, -⟩
      imodintro
      isplitl [HE]; · iexact HE
      isplitl [Hb] <;> iassumption)
    (Ends m) (ends_of m) (fun s h hs => ⟨h, funext fun g' => hs g' (by
      obtain ⟨⟨d, q⟩, l⟩ := g'
      by_cases hq : q = .tc
      · subst hq; exact Or.inr (scoped_all l)
      · exact Or.inl hq)⟩)

end Cert.MergeRun

end
-- ==== Proof.Merge.Value.lean ====
/-
  What `Merge` and its reference say of each other: each device starting with its block of the reference's array, the two
  cores' blocks side by side are the chip's block of it.
-/
module

public import proofs.«01_k».proof.Proof.Merge.Run
public import proofs.«01_k».proof.Proof.Gen.Merge
public import proofs.«01_k».proof.Proof.Gen.MergeRef
public import proofs.«01_k».proof.Proof.Gen.MergeRefIdeal
public import proofs.«01_k».proof.Defs
public import Idealize.ShloMosaic.Lib.Layout
public import Idealize.ShloMosaic.Lib.Quiescent
public import Idealize.ShloMosaic.Lib.StableHlo.RunHlo

@[expose] public section

noncomputable section

namespace Cert.MergeRun

open Cert.MergeIdeal Cert.MergeIdeal.Gen
open Idealize.ShloMosaic Idealize.ShloMosaic.TcCoe
open Idealize.SL.Sem

variable {F : FTy → Type} [FloatOps F]

/-- Where the rows of core `c` of a result are: `5120 (c % 2)` further down. -/
theorem half_emb (c : Dev nD) (j : S5120x1024.Idx) (a : Fin 2) : (((half c).view.emb j : S10240x1024.Idx) a).val = (![5120 * (c.val % 2), 0] : Fin 2 → ℕ) a + (j a).val := by
  have h : (((half c).view.emb j : S10240x1024.Idx) a).val = k0_off1 c a + 1 * (j a).val := rfl
  rw [h, k0_off1_eq, one_mul]

/-- A device whose argument is its block of an array ends with its chip's block of it. -/
theorem whole_of (m : (ℓ : Loc nD τ sig) → Buf (Elt F) ℓ) (v : (⟨2, ![40960, 1024]⟩ : Shape).Idx → Elt F .f32)
    (h : ∀ c : Dev nD, m ((c.tc : Thread nD τ).loc main_arg0) = Layout.block ⟨2, ![5120, 1024]⟩ ⟨2, ![40960, 1024]⟩ 0 8 c v)
    (c : Dev nD) (μ : MemSt nD τ sig (Elt F)) (hE : Ends m c μ) :
    μ.mem ((c.tc : Thread nD τ).loc main_v1) = Layout.blockN ⟨2, ![10240, 1024]⟩ ⟨2, ![40960, 1024]⟩ (Layout.meshBlock [2, 2, 2] ![[0, 1], []] c) v := by
  funext i
  have key (d : Dev nD) (hd : d = c ∨ d = peer c) (hr : (i (0 : Fin 2)).val / 5120 = d.val % 2) (hc : d.val / 2 = c.val / 2) :
      μ.mem ((c.tc : Thread nD τ).loc main_v1) i = (Layout.blockN ⟨2, ![10240, 1024]⟩ ⟨2, ![40960, 1024]⟩ (Layout.meshBlock [2, 2, 2] ![[0, 1], []] c) v) i := by
    have hi : (i (0 : Fin 2)).val < 10240 := (i (0 : Fin 2)).isLt
    let j : S5120x1024.Idx := fun a => match a with
      | ⟨0, _⟩ => ⟨(i (0 : Fin 2)).val % 5120, Nat.mod_lt _ (by decide)⟩
      | ⟨1, _⟩ => i (1 : Fin 2)
    have e : ((half d).view.emb j : S10240x1024.Idx) = i := by
      funext a
      apply Fin.ext
      rw [half_emb]
      fin_cases a
      · show 5120 * (d.val % 2) + (i (0 : Fin 2)).val % 5120 = (i (0 : Fin 2)).val
        rw [← hr]; exact Nat.div_add_mod _ _
      · show 0 + (i (1 : Fin 2)).val = (i (1 : Fin 2)).val
        exact Nat.zero_add _
    have hread := congrFun (hE.2 d hd) j
    have e' : (half d).view.read (Elt F) (μ.mem ((c : Thread nD τ).loc main_v1)) j = μ.mem ((c : Thread nD τ).loc main_v1) i :=
      congrArg (μ.mem ((c : Thread nD τ).loc main_v1)) e
    rw [e'] at hread
    rw [hread, h d]
    refine congrArg v ?_
    funext a
    apply Fin.ext
    have hc8 : c.val < 8 := c.isLt
    fin_cases a
    · show d.val * 5120 + (i (0 : Fin 2)).val % 5120 = (c.val / 4 % 2 * 2 + (c.val / 2 % 2 * 1 + 0)) * 10240 + (i (0 : Fin 2)).val
      omega
    · show (i (1 : Fin 2)).val = 0 * 1024 + (i (1 : Fin 2)).val
      omega
  have hi : (i (0 : Fin 2)).val < 10240 := (i (0 : Fin 2)).isLt
  have hp := peer_val c
  have hc8 : c.val < 8 := c.isLt
  by_cases hr : (i (0 : Fin 2)).val / 5120 = c.val % 2
  · exact key c (Or.inl rfl) hr rfl
  · exact key (peer c) (Or.inr rfl) (by omega) (by omega)

end Cert.MergeRun

namespace Cert.MergeProof

open Idealize.ShloMosaic Idealize.ShloMosaic.TcCoe
open Idealize.SL.Sem

/-- `Merge` ends on all devices with its argument unchanged and no count left. -/
theorem frame : Cert.quiescent_Merge := fun m ρ _ =>
  (θ_run Cert.MergeIdeal.defs _ _).mono (fun _ h => ⟨fun c => (h.1 c).1, h.2⟩) (Cert.MergeRun.run_main (F := Bits) m ρ)

theorem frame_ideal : Cert.quiescent_MergeIdeal := fun m ρ _ =>
  (θ_run Cert.MergeIdeal.defs _ _).mono (fun _ h => ⟨fun c => (h.1 c).1, h.2⟩) (Cert.MergeRun.run_main (F := Ideal) m ρ)

/-- The reference returns its argument. -/
theorem ref_run {F : FTy → Type} [FloatOps F] (m : (ℓ : Loc Cert.MergeRef.nD Cert.MergeRef.τ Cert.MergeRef.sig) → Buf (Elt F) ℓ) (ρ : Dev Cert.MergeRef.nD → PrngReg) :
    θ_run (Cert.MergeRef.defs (F := F)) (onTc (τ := Cert.MergeRef.τ) (Cert.MergeRef.main (F := F))) ⟨m, fun _ => 0, ρ⟩ (fun r =>
      (∀ c : Dev Cert.MergeRef.nD, r.2.mem ((c.tc : Thread Cert.MergeRef.nD Cert.MergeRef.τ).loc Cert.MergeRef.main_arg0) = m ((c.tc : Thread Cert.MergeRef.nD Cert.MergeRef.τ).loc Cert.MergeRef.main_arg0))
        ∧ r.2.sem = fun _ => 0) :=
  (θ_run Cert.MergeRef.defs _ _).mono (fun r h => ⟨fun c => h c Cert.MergeRef.main_arg0, sem_eq_zero_of_no_sems (by decide) r.2⟩)
    (StableHlo.run_hlo (Val := Elt F) Cert.MergeRef.defs Cert.MergeRef.main (ops := []) (fun _ => StableHlo.IsSeq.nil) (by decide) (by decide) trivial
      (fun _ h => absurd h List.not_mem_nil) m ρ)

theorem frame_ref : Cert.quiescent_MergeRef := fun m ρ _ => ref_run (F := Bits) m ρ
theorem frame_ref_ideal : Cert.quiescent_MergeRefIdeal := fun m ρ _ => ref_run (F := Ideal) m ρ

theorem algebraic : Cert.algebraic_MergeIdeal_MergeRefIdeal := fun m g m' g' _ hm =>
  ⟨_, (θ_run Cert.MergeIdeal.defs _ _).mono (fun r h c => ⟨Cert.MergeRun.whole_of m _ hm c r.2 (h.1 c), (h.1 c).1⟩) (Cert.MergeRun.run_main (F := Ideal) m g),
    (θ_run Cert.MergeRef.defs _ _).mono (fun r h => ⟨h.1 0, h.1 0⟩) (ref_run (F := Ideal) m' g')⟩

theorem bitexact : Cert.bitexact_Merge_MergeRef := fun m g m' g' _ hm =>
  ⟨_, (θ_run Cert.MergeIdeal.defs _ _).mono (fun r h c => ⟨Cert.MergeRun.whole_of m _ hm c r.2 (h.1 c), (h.1 c).1⟩) (Cert.MergeRun.run_main (F := Bits) m g),
    (θ_run Cert.MergeRef.defs _ _).mono (fun r h => ⟨h.1 0, h.1 0⟩) (ref_run (F := Bits) m' g')⟩

end Cert.MergeProof

end
-- ==== Proof.Gather.Run.lean ====
/-
  The run of `Gather` (`_all_gather_weights`): each chip starts with a quarter of an array, on both its cores, and every core ends
  with all of it. Device `c` copies its quarter into its own result, sends the half its core names to the same core of the three
  other chips, passes each half that arrives from another chip on to its sibling, and receives the other halves from it.
  Thirteen transfer cells a device: six sends, six landings, the local copy. No buffer is handed over by a signal, so the launch
  deals each device the rows it is to write, on the three other chips and on its sibling.
-/
module

public import proofs.«01_k».proof.Proof.Links.Program
public import proofs.«01_k».proof.Proof.Links.Pieces
public import proofs.«01_k».proof.Proof.Gen.GatherIdeal
public import proofs.«01_k».proof.Proof.Gen.GatherIdeal.Skeleton
public import proofs.«01_k».proof.Proof.Gen.GatherIdeal.Launch
public import Idealize.ShloMosaic.Lib.Exec.Geometry

@[expose] public section

noncomputable section

namespace Cert.GatherRun

open Cert.GatherIdeal Cert.GatherIdeal.Gen Links
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-! ## The devices -/

/-- The other core of the same chip, and the same core of the three other chips. -/
def peer (c : Dev nD) : Dev nD := ⟨k0_dev4 c, k0_dev4_lt c⟩
def oth : Fin 3 → Dev nD → Dev nD
  | 0, c => ⟨k0_dev1 c, k0_dev1_lt c⟩
  | 1, c => ⟨k0_dev2 c, k0_dev2_lt c⟩
  | 2, c => ⟨k0_dev3 c, k0_dev3_lt c⟩

theorem peer_peer : ∀ c : Dev nD, peer (peer c) = c := by decide +kernel
theorem oth_oth : ∀ (j : Fin 3) (c : Dev nD), oth j (oth j c) = c := by decide +kernel
theorem peer_oth : ∀ (j : Fin 3) (c : Dev nD), peer (oth j (peer c)) = oth j c := by decide +kernel
theorem dev5 (c : Dev nD) : (⟨k0_dev5 c, k0_dev5_lt c⟩ : Dev nD) = peer c := rfl
theorem dev6 (c : Dev nD) : (⟨k0_dev6 c, k0_dev6_lt c⟩ : Dev nD) = peer c := rfl

/-- The six devices of the other chips. -/
def others (c : Dev nD) : List (Dev nD) := [oth 0 c, oth 1 c, oth 2 c, peer (oth 0 c), peer (oth 1 c), peer (oth 2 c)]
theorem others_ne : ∀ c : Dev nD, (others c).Pairwise (· ≠ ·) := by decide +kernel
theorem others_chip : ∀ c : Dev nD, ∀ e ∈ others c, e.val / 2 ≠ c.val / 2 := by decide +kernel
theorem others_all : ∀ c e : Dev nD, e.val / 2 ≠ c.val / 2 → e ∈ others c := by decide +kernel

def swap : Dev nD ≃ Dev nD := ⟨peer, peer, peer_peer, peer_peer⟩
def cross (j : Fin 3) : Dev nD ≃ Dev nD := ⟨oth j, oth j, oth_oth j, oth_oth j⟩

/-! ## The rows -/

abbrev xM : Memref sig .tc .hbm S10240x1024 .bf16 := Memref.whole main_arg0
abbrev outM : Memref sig .tc .hbm S4x10240x1024 .bf16 := Memref.whole main_v1
/-- The half of a quarter that core `e` names, in the argument and, at given offsets, in the result. -/
abbrev half (e : Dev nD) : Memref sig .tc .hbm S5120x1024 .bf16 :=
  xM.slice (Rect.unit (s := S10240x1024) (k0_off3 e) S5120x1024.size (k0_off3_inb e)) (fun _ => rfl)
abbrev part (off : Fin 3 → ℕ) (h : ∀ a, off a + S1x5120x1024.size a ≤ S4x10240x1024.size a) : Memref sig .tc .hbm S5120x1024 .bf16 :=
  (outM.slice (Rect.unit (s := S4x10240x1024) off S1x5120x1024.size h) (fun _ => rfl)).squeeze S5120x1024 squeezes_S1x5120x1024_S5120x1024
/-- The rows of the result that device `e`'s half goes to. -/
abbrev partOf (e : Dev nD) : Memref sig .tc .hbm S5120x1024 .bf16 := part (k0_off2 e) (k0_off2_inb e)
/-- The rows of the result that device `e`'s quarter goes to. -/
abbrev ownM (e : Dev nD) : Memref sig .tc .hbm S10240x1024 .bf16 :=
  (outM.slice (Rect.unit (s := S4x10240x1024) (k0_off1 e) S1x10240x1024.size (k0_off1_inb e)) (fun _ => rfl)).squeeze S10240x1024 squeezes_S1x10240x1024_S10240x1024

theorem off4 : ∀ c : Dev nD, k0_off4 c = k0_off2 (oth 0 c) := by decide +kernel
theorem off5 : ∀ c : Dev nD, k0_off5 c = k0_off2 (oth 1 c) := by decide +kernel
theorem off6 : ∀ c : Dev nD, k0_off6 c = k0_off2 (oth 2 c) := by decide +kernel

theorem partOf_set (e : Dev nD) : (partOf e).view.set = (Rect.unit (s := S4x10240x1024) (k0_off2 e) S1x5120x1024.size (k0_off2_inb e)).set :=
  (View.set_reshape _ _).trans (View.set_slice_whole _ _)
theorem ownM_set (e : Dev nD) : (ownM e).view.set = (Rect.unit (s := S4x10240x1024) (k0_off1 e) S1x10240x1024.size (k0_off1_inb e)).set :=
  (View.set_reshape _ _).trans (View.set_slice_whole _ _)

theorem part_disjoint {d e : Dev nD} (h : d ≠ e) : Disjoint (partOf d).view.set (partOf e).view.set := by
  rw [partOf_set, partOf_set]
  have hd : d.val < 8 := d.isLt
  have he : e.val < 8 := e.isLt
  have hne : d.val ≠ e.val := fun h' => h (Fin.ext h')
  by_cases hc : d.val / 2 = e.val / 2
  · refine Rect.unit_disjoint (1 : Fin 3) ?_
    rw [k0_off2_eq, k0_off2_eq]
    show 5120 * (d.val % 2) + 5120 ≤ 5120 * (e.val % 2) ∨ 5120 * (e.val % 2) + 5120 ≤ 5120 * (d.val % 2)
    omega
  · refine Rect.unit_disjoint (0 : Fin 3) ?_
    rw [k0_off2_eq, k0_off2_eq]
    show 2 * (d.val / 4) + ((d.val / 2) % 2) + 1 ≤ 2 * (e.val / 4) + ((e.val / 2) % 2) ∨ 2 * (e.val / 4) + ((e.val / 2) % 2) + 1 ≤ 2 * (d.val / 4) + ((d.val / 2) % 2)
    omega

theorem own_disjoint {d e : Dev nD} (h : e.val / 2 ≠ d.val / 2) : Disjoint (ownM d).view.set (partOf e).view.set := by
  rw [ownM_set, partOf_set]
  have hd : d.val < 8 := d.isLt
  have he : e.val < 8 := e.isLt
  refine Rect.unit_disjoint (0 : Fin 3) ?_
  rw [k0_off1_eq, k0_off2_eq]
  show 2 * (d.val / 4) + ((d.val / 2) % 2) + 1 ≤ 2 * (e.val / 4) + ((e.val / 2) % 2) ∨ 2 * (e.val / 4) + ((e.val / 2) % 2) + 1 ≤ 2 * (d.val / 4) + ((d.val / 2) % 2)
  omega

/-! ## Contents -/

abbrev qtr (c : Dev nD) : Buf (Elt F) ((xM).view.loc (c : Thread nD τ)) := m ((c : Thread nD τ).loc main_arg0)
/-- The result of device `c` with device `e`'s half in place, and with its own quarter in place. -/
abbrev put (c e : Dev nD) : Buf (Elt F) ((partOf e).view.loc (c : Thread nD τ)) :=
  (partOf e).view.write (Elt F) (m ((c : Thread nD τ).loc main_v1)) ((half e).view.read (Elt F) (qtr m e)) Finset.univ
abbrev ownPut (c : Dev nD) : Buf (Elt F) ((ownM c).view.loc (c : Thread nD τ)) :=
  (ownM c).view.write (Elt F) (m ((c : Thread nD τ).loc main_v1)) ((xM).view.read (Elt F) (qtr m c)) Finset.univ

def xPts (q : PosShare TreeShare) (c : Dev nD) : sProp 𝕄 := (xM).view.loc (c : Thread nD τ) ↦[(xM).view.set]{q} qtr m c
def halfPts (q : PosShare TreeShare) (c : Dev nD) : sProp 𝕄 := (half c).view.loc (c : Thread nD τ) ↦[(half c).view.set]{q} qtr m c
def rowsAt (c e : Dev nD) : sProp 𝕄 := (partOf e).view.loc (c : Thread nD τ) ↦[(partOf e).view.set]{fullShare} m ((c : Thread nD τ).loc main_v1)
def rowsPut (c e : Dev nD) : sProp 𝕄 := (partOf e).view.loc (c : Thread nD τ) ↦[(partOf e).view.set]{fullShare} put m c e
def ownAt (c : Dev nD) : sProp 𝕄 := (ownM c).view.loc (c : Thread nD τ) ↦[(ownM c).view.set]{fullShare} m ((c : Thread nD τ).loc main_v1)
def ownHas (c : Dev nD) : sProp 𝕄 := (ownM c).view.loc (c : Thread nD τ) ↦[(ownM c).view.set]{fullShare} ownPut m c

/-- The rows by the offsets the program names them with. -/
theorem rowsPut_off (c e : Dev nD) (off : Fin 3 → ℕ) (h : ∀ a, off a + S1x5120x1024.size a ≤ S4x10240x1024.size a) (he : off = k0_off2 e) :
    (rowsPut m c e : sProp 𝕄) = ((part off h).view.loc (c : Thread nD τ) ↦[(part off h).view.set]{fullShare} put m c e) := by
  subst he; rfl
theorem rowsAt_off (c e : Dev nD) (off : Fin 3 → ℕ) (h : ∀ a, off a + S1x5120x1024.size a ≤ S4x10240x1024.size a) (he : off = k0_off2 e) :
    (rowsAt m c e : sProp 𝕄) = ((part off h).view.loc (c : Thread nD τ) ↦[(part off h).view.set]{fullShare} m ((c : Thread nD τ).loc main_v1)) := by
  subst he; rfl
/-- What a passed-on half leaves with the device it goes to. -/
theorem passed (c c' e : Dev nD) (off : Fin 3 → ℕ) (h : ∀ a, off a + S1x5120x1024.size a ≤ S4x10240x1024.size a) (he : off = k0_off2 e) :
    ((part off h).view.loc (c' : Thread nD τ) ↦[(part off h).view.set]{fullShare}
        ((part off h).view.write (Elt F) (m ((c' : Thread nD τ).loc main_v1)) ((part off h).view.read (Elt F) (put m c e)) Finset.univ))
      ⊢ (rowsPut m c' e : sProp 𝕄) := by
  subst he
  unfold rowsPut put
  rw [View.read_write_univ]

/-- The shares of the half that the three first sends read. -/
abbrev shr : Fin 3 → PosShare TreeShare
  | 0 => fullShare.right.left
  | 1 => fullShare.right.right.left
  | 2 => fullShare.right.right.right

/-- What each landing hands its device. -/
def payOf (c : Dev nD) : Fin 13 → sProp 𝕄
  | 0 => halfPts m (shr 0) c
  | 1 => halfPts m (shr 1) c
  | 2 => halfPts m (shr 2) c
  | 3 => rowsPut m c (oth 0 c)
  | 4 => rowsPut m c (oth 1 c)
  | 5 => rowsPut m c (oth 2 c)
  | 6 => rowsPut m c (oth 0 c)
  | 7 => rowsPut m c (oth 1 c)
  | 8 => rowsPut m c (oth 2 c)
  | 9 => rowsPut m c (peer (oth 0 c))
  | 10 => rowsPut m c (peer (oth 1 c))
  | 11 => rowsPut m c (peer (oth 2 c))
  | 12 => iprop(ownHas m c ∗ xPts m fullShare.left c)

def lanes : Fin 13 → DmaSem sig := fun
  | 0 => ((cc0_scratch0.slice (Rect.unit (s := S6) ![0] S1.size inb_S6_S1_0)).squeeze S_ squeezes_S1_S_).sem
  | 1 => ((cc0_scratch0.slice (Rect.unit (s := S6) ![1] S1.size inb_S6_S1_1)).squeeze S_ squeezes_S1_S_).sem
  | 2 => ((cc0_scratch0.slice (Rect.unit (s := S6) ![2] S1.size inb_S6_S1_2)).squeeze S_ squeezes_S1_S_).sem
  | 3 => ((cc0_scratch0.slice (Rect.unit (s := S6) ![3] S1.size inb_S6_S1_3)).squeeze S_ squeezes_S1_S_).sem
  | 4 => ((cc0_scratch0.slice (Rect.unit (s := S6) ![4] S1.size inb_S6_S1_4)).squeeze S_ squeezes_S1_S_).sem
  | 5 => ((cc0_scratch0.slice (Rect.unit (s := S6) ![5] S1.size inb_S6_S1_5)).squeeze S_ squeezes_S1_S_).sem
  | 6 => ((cc0_scratch1.slice (Rect.unit (s := S6) ![0] S1.size inb_S6_S1_0)).squeeze S_ squeezes_S1_S_).sem
  | 7 => ((cc0_scratch1.slice (Rect.unit (s := S6) ![1] S1.size inb_S6_S1_1)).squeeze S_ squeezes_S1_S_).sem
  | 8 => ((cc0_scratch1.slice (Rect.unit (s := S6) ![2] S1.size inb_S6_S1_2)).squeeze S_ squeezes_S1_S_).sem
  | 9 => ((cc0_scratch1.slice (Rect.unit (s := S6) ![3] S1.size inb_S6_S1_3)).squeeze S_ squeezes_S1_S_).sem
  | 10 => ((cc0_scratch1.slice (Rect.unit (s := S6) ![4] S1.size inb_S6_S1_4)).squeeze S_ squeezes_S1_S_).sem
  | 11 => ((cc0_scratch1.slice (Rect.unit (s := S6) ![5] S1.size inb_S6_S1_5)).squeeze S_ squeezes_S1_S_).sem
  | 12 => cc0_scratch2.sem

abbrev N : ℕ := (half (0 : Dev nD)).view.dmaCredit
abbrev M : ℕ := (xM : Memref sig .tc .hbm S10240x1024 .bf16).view.dmaCredit
def credits (k : Fin 13) : ℕ := if k = 12 then M else N
theorem credits_pos (k : Fin 13) : 0 < credits k := by
  unfold credits; split
  · exact View.dmaCredit_pos _ (by decide)
  · exact View.dmaCredit_pos _ (by decide)
/-- A landing from another chip is waited for while the copies that pass it on are still to be issued. -/
def levels (k : Fin 13) : ℕ := if 9 ≤ k.val ∧ k.val < 12 then 1 else 0

/-- The landings still owed, from the last copy back to the first. -/
abbrev owed6 : Finset (Fin 13) := singleton 11
abbrev owed5 : Finset (Fin 13) := insert 10 owed6
abbrev owed4 : Finset (Fin 13) := insert 9 owed5
abbrev owed3 : Finset (Fin 13) := insert 8 owed4
abbrev owed2 : Finset (Fin 13) := insert 7 owed3
abbrev owed1 : Finset (Fin 13) := insert 6 owed2

/-- The plan. -/
def plan : Plan nD τ sig (Elt F) 13 where
  sem := lanes
  inj := by decide
  amt := credits
  pos := credits_pos
  tgt := fun
    | 0 => Equiv.refl _ | 1 => Equiv.refl _ | 2 => Equiv.refl _ | 3 => Equiv.refl _ | 4 => Equiv.refl _ | 5 => Equiv.refl _
    | 6 => cross 0 | 7 => cross 1 | 8 => cross 2 | 9 => swap | 10 => swap | 11 => swap | 12 => Equiv.refl _
  far := owed1
  lev := levels
  pay := payOf m
  sto := fun c k => by fin_cases k <;> (unfold payOf halfPts rowsPut ownHas xPts; infer_instance)

theorem lanes_facts : Pipeline.OwnSemFacts cfg0.spec (fun k => SemLoc.dma (lanes k)) := by decide
theorem scoped_all (l : SemLoc sig) : l.isScoped Kind.tc = true := by revert l; decide

def Start (c : Dev nD) : sProp 𝕄 :=
  iprop((xPts m fullShare c ∗ ownAt m c) ∗ (rowsAt m (oth 0 c) c ∗ rowsAt m (oth 1 c) c ∗ rowsAt m (oth 2 c) c)
    ∗ (rowsAt m (peer c) (oth 0 c) ∗ rowsAt m (peer c) (oth 1 c) ∗ rowsAt m (peer c) (oth 2 c)))
def End (c : Dev nD) : sProp 𝕄 :=
  iprop((xPts m fullShare.left c ∗ ownHas m c) ∗ (rowsPut m c (oth 0 c) ∗ rowsPut m c (oth 1 c) ∗ rowsPut m c (oth 2 c))
    ∗ (rowsPut m c (peer (oth 0 c)) ∗ rowsPut m c (peer (oth 1 c)) ∗ rowsPut m c (peer (oth 2 c))))

theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_far (Φ : Fin 13 → sProp 𝕄) : bigSep owed1 Φ = iprop(Φ 6 ∗ Φ 7 ∗ Φ 8 ∗ Φ 9 ∗ Φ 10 ∗ Φ 11) :=
  bigSep_eq_bigSepL_of_eq [6, 7, 8, 9, 10, 11] (by decide) (by decide) Φ

/-- A device's buffers at launch: the argument, the rows of its own quarter, and the rows of the six other devices' halves. -/
theorem cut (c : Dev nD) : (unscopedBufs c (fun b => m ((c.tc : Thread nD τ).loc b)) : sProp 𝕄)
    ⊢ iprop((xPts m fullShare c ∗ ownAt m c) ∗ (rowsAt m c (oth 0 c) ∗ rowsAt m c (oth 1 c) ∗ rowsAt m c (oth 2 c))
      ∗ (rowsAt m c (peer (oth 0 c)) ∗ rowsAt m c (peer (oth 1 c)) ∗ rowsAt m c (peer (oth 2 c)))) := by
  have hp : ((ownM c).view.set :: (others c).map fun e => (partOf e).view.set).Pairwise Disjoint := by
    refine List.pairwise_cons.mpr ⟨fun B hB => ?_, List.pairwise_map.mpr ((others_ne c).imp fun h => part_disjoint h)⟩
    obtain ⟨e, he, rfl⟩ := List.mem_map.mp hB
    exact own_disjoint (others_chip c e he)
  have hl := carve_list (Val := Elt F) (U := UU nD τ sig) (ℓ := (c.tc : Thread nD τ).loc main_v1) (q := fullShare) (f := m ((c.tc : Thread nD τ).loc main_v1))
    ((ownM c).view.set :: (others c).map fun e => (partOf e).view.set) Finset.univ (fun _ _ => Finset.subset_univ _) hp
  unfold unscopedBufs
  rw [bigSep_eq_bigSepL_of_eq [main_arg0, main_v1] (by decide) (by decide)]
  show iprop((((c.tc : Thread nD τ).loc main_arg0) ↦{fullShare} m ((c.tc : Thread nD τ).loc main_arg0))
    ∗ (((c.tc : Thread nD τ).loc main_v1) ↦{fullShare} m ((c.tc : Thread nD τ).loc main_v1))) ⊢ _
  have hl' : (((c.tc : Thread nD τ).loc main_v1) ↦{fullShare} m ((c.tc : Thread nD τ).loc main_v1))
      ⊢ (iprop(ownAt m c ∗ rowsAt m c (oth 0 c) ∗ rowsAt m c (oth 1 c) ∗ rowsAt m c (oth 2 c) ∗ rowsAt m c (peer (oth 0 c)) ∗ rowsAt m c (peer (oth 1 c))
        ∗ rowsAt m c (peer (oth 2 c)) ∗ emp) : sProp 𝕄) := hl
  have hx : (((c.tc : Thread nD τ).loc main_arg0) ↦{fullShare} m ((c.tc : Thread nD τ).loc main_arg0)) ⊢ (xPts m fullShare c : sProp 𝕄) := by
    unfold xPts
    rw [show (xM : Memref sig .tc .hbm S10240x1024 .bf16).view.set = Finset.univ from View.set_whole _]
  iintro ⟨Hx, Ho⟩
  ihave Hx := hx $$ Hx
  ihave Ho := hl' $$ Ho
  icases Ho with ⟨Ho, H0, H1, H2, H3, H4, H5, -⟩
  isplitl [Hx Ho]
  · isplitl [Hx] <;> iassumption
  isplitl [H0 H1 H2]
  · isplitl [H0]; · iexact H0
    isplitl [H1] <;> iassumption
  isplitl [H3]; · iexact H3
  isplitl [H4] <;> iassumption

/-- At launch the devices' buffers are dealt so that each holds the rows it is to write: its own half's on the other chips, and
    the halves it passes on, on its sibling. -/
theorem start_intro : (bigSep Finset.univ fun c : Dev nD => (unscopedBufs c (fun b => m ((c.tc : Thread nD τ).loc b)) : sProp 𝕄))
    ⊢ bigSep Finset.univ (Start m) := by
  refine BIBase.Entails.trans (bigSep_mono fun c _ => cut m c) ?_
  unfold Start
  have hc (j : Fin 3) : (bigSep Finset.univ fun c : Dev nD => (rowsAt m c (oth j c) : sProp 𝕄)) = bigSep Finset.univ fun c => rowsAt m (oth j c) c :=
    (bigSep_univ_equiv (cross j) fun c : Dev nD => (rowsAt m c (oth j c) : sProp 𝕄)).trans
      (bigSep_congr fun c _ => congrArg (rowsAt m (oth j c)) (oth_oth j c))
  have hs (j : Fin 3) : (bigSep Finset.univ fun c : Dev nD => (rowsAt m c (peer (oth j c)) : sProp 𝕄)) = bigSep Finset.univ fun c => rowsAt m (peer c) (oth j c) :=
    (bigSep_univ_equiv swap fun c : Dev nD => (rowsAt m c (peer (oth j c)) : sProp 𝕄)).trans
      (bigSep_congr fun c _ => congrArg (rowsAt m (peer c)) (peer_oth j c))
  simp only [bigSep_sep', hc, hs]
  exact Entails.of_eq rfl

/-- The argument, shared out to the local copy and the three sends. -/
theorem split_x (c : Dev nD) : (xPts m fullShare c : sProp 𝕄)
    ⊢ iprop(xPts m fullShare.left c ∗ halfPts m (shr 0) c ∗ halfPts m (shr 1) c ∗ halfPts m (shr 2) c) := by
  unfold xPts halfPts
  iintro H
  ihave H := halve.1 $$ H
  icases H with ⟨Hl, H⟩
  ihave H := (carve (B := ∅) (show (half c).view.set ⊆ (xM).view.set by rw [View.set_whole]; exact Finset.subset_univ _) (Finset.empty_subset _) (Finset.disjoint_empty_right _)) $$ H
  icases H with ⟨H, -⟩
  ihave H := halve.1 $$ H
  icases H with ⟨H0, H⟩
  ihave H := halve.1 $$ H
  icases H with ⟨H1, H2⟩
  isplitl [Hl]; · iexact Hl
  isplitl [H0]; · iexact H0
  isplitl [H1] <;> iassumption

set_option maxRecDepth 65536 in
/-- The body, from one device's share to what it ends with. -/
theorem body_run (c : Dev nD) (κ : GSem nD τ sig → ℕ) (W : Waits sig Unit) (Q : sProp 𝕄) :
    iprop(((plan m).records κ ∗ levAts (Plan.lvOn nD τ sig) (plan m).lv ∗ (plan m).hand c ∗ Start m c ∗ owes (c : Thread nD τ) ((plan m).owing c (plan m).far) W)
        ∗ (iprop(End m c ∗ (bigSep Finset.univ fun k => (plan m).done c k) ∗ ∃ W', owes (c : Thread nD τ) ((plan m).owing c ∅) W') -∗ Q))
      ⊢ wp frame (wpE (defs₀ (F := F)) Variants.none (c : Thread nD τ) none) Set.univ
        (cc0_all_gather_weights (Memref.whole main_arg0) (Memref.isWhole_whole _) (Memref.whole main_v1) (Memref.isWhole_whole _) cc0_scratch0 cc0_scratch1 cc0_scratch2) fun _ => Q := by
  simp only [cc0_all_gather_weights_eq_skeleton]
  unfold cc0_all_gather_weights_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  unfold Plan.hand
  rw [bigSep_fin13, bigSep_fin13, show (plan m).far = owed1 from rfl, bigSep_far, bigSep_fin13]
  unfold Start
  iintro ⟨⟨#HR, #Hlev, ⟨⟨Hn0, Hn1, Hn2, Hn3, Hn4, Hn5, Hn6, Hn7, Hn8, Hn9, Hn10, Hn11, Hn12⟩, ⟨Ht0, Ht1, Ht2, Ht3, Ht4, Ht5, Ht6, Ht7, Ht8, Ht9, Ht10, Ht11, Ht12⟩, ⟨Hc6, Hc7, Hc8, Hc9, Hc10, Hc11⟩⟩, ⟨⟨Hx, Ho⟩, ⟨Ha0, Ha1, Ha2⟩, ⟨Hb0, Hb1, Hb2⟩⟩, HO⟩, HQ⟩
  ihave Hx := (split_x m c) $$ Hx
  icases Hx with ⟨Hx, Hh0, Hh1, Hh2⟩
  unfold xPts halfPts ownAt
  iapply ((plan m).copy_step c 12 Variants.none κ rfl rfl rfl (dst := ownM c) (src := xM) (fs := qtr m c) (fd := m ((c : Thread nD τ).loc main_v1))
    (q := fullShare.left) (Entails.of_eq rfl)) $$ [Hx Ho Ht12]
  · isplitr; · iexact HR
    isplitl [Hx]; · iexact Hx
    isplitl [Ho]; · iexact Ho
    iexact Ht12
  iintro Hc12
  ihave Ha0 := (Entails.of_eq (rowsAt_off m (oth 0 c) c (k0_off2 c) (k0_off2_inb c) rfl)) $$ Ha0
  iapply ((plan m).send_step c 0 Variants.none κ (k' := 6) (S := owed2) (c' := oth 0 c) rfl rfl rfl rfl (by decide : 6 ∉ owed2) rfl rfl (dst := partOf c) (src := half c) (fs := qtr m c)
    (fd := m ((oth 0 c : Thread nD τ).loc main_v1)) (q := shr 0) (Entails.of_eq rfl) (by
      show _ ⊢ rowsPut m (oth 0 c) (oth 0 (oth 0 c))
      rw [oth_oth]; exact Entails.of_eq rfl)) $$ [Hh0 Ha0 Ht0 Ht6 HO]
  · isplitr; · iexact HR
    isplitl [Hh0]; · iexact Hh0
    isplitl [Ha0]; · iexact Ha0
    isplitl [Ht0]; · iexact Ht0
    isplitl [Ht6]; · iexact Ht6
    iexact HO
  iintro ⟨Hc0, HO⟩
  ihave Ha1 := (Entails.of_eq (rowsAt_off m (oth 1 c) c (k0_off2 c) (k0_off2_inb c) rfl)) $$ Ha1
  iapply ((plan m).send_step c 1 Variants.none κ (k' := 7) (S := owed3) (c' := oth 1 c) rfl rfl rfl rfl (by decide : 7 ∉ owed3) rfl rfl (dst := partOf c) (src := half c) (fs := qtr m c)
    (fd := m ((oth 1 c : Thread nD τ).loc main_v1)) (q := shr 1) (Entails.of_eq rfl) (by
      show _ ⊢ rowsPut m (oth 1 c) (oth 1 (oth 1 c))
      rw [oth_oth]; exact Entails.of_eq rfl)) $$ [Hh1 Ha1 Ht1 Ht7 HO]
  · isplitr; · iexact HR
    isplitl [Hh1]; · iexact Hh1
    isplitl [Ha1]; · iexact Ha1
    isplitl [Ht1]; · iexact Ht1
    isplitl [Ht7]; · iexact Ht7
    iexact HO
  iintro ⟨Hc1, HO⟩
  ihave Ha2 := (Entails.of_eq (rowsAt_off m (oth 2 c) c (k0_off2 c) (k0_off2_inb c) rfl)) $$ Ha2
  iapply ((plan m).send_step c 2 Variants.none κ (k' := 8) (S := owed4) (c' := oth 2 c) rfl rfl rfl rfl (by decide : 8 ∉ owed4) rfl rfl (dst := partOf c) (src := half c) (fs := qtr m c)
    (fd := m ((oth 2 c : Thread nD τ).loc main_v1)) (q := shr 2) (Entails.of_eq rfl) (by
      show _ ⊢ rowsPut m (oth 2 c) (oth 2 (oth 2 c))
      rw [oth_oth]; exact Entails.of_eq rfl)) $$ [Hh2 Ha2 Ht2 Ht8 HO]
  · isplitr; · iexact HR
    isplitl [Hh2]; · iexact Hh2
    isplitl [Ha2]; · iexact Ha2
    isplitl [Ht2]; · iexact Ht2
    isplitl [Ht8]; · iexact Ht8
    iexact HO
  iintro ⟨Hc2, HO⟩
  iapply ((plan m).wait_step c 6 Variants.none κ (S := owed4) rfl rfl (by decide : ∀ k' ∈ owed4, levels 6 < levels k')) $$ [Hc6 Hn6 HO]
  · isplitr; · iexact HR
    isplitr; · iexact Hlev
    isplitl [Hc6]; · iexact Hc6
    isplitl [Hn6]; · iexact Hn6
    iexact HO
  iintro ⟨Hp6, Hd6, HO⟩
  ihave Hp6 := (Entails.of_eq ((show (plan m).pay c 6 = rowsPut m c (oth 0 c) from rfl).trans (rowsPut_off m c (oth 0 c) (k0_off4 c) (k0_off4_inb c) (off4 c)))) $$ Hp6
  ihave Hb0 := (Entails.of_eq (rowsAt_off m (peer c) (oth 0 c) (k0_off4 c) (k0_off4_inb c) (off4 c))) $$ Hb0
  iapply ((plan m).send_step c 3 Variants.none κ (k' := 9) (S := owed5) (c' := peer c) rfl rfl rfl rfl (by decide : 9 ∉ owed5) rfl rfl (dst := part (k0_off4 c) (k0_off4_inb c)) (src := part (k0_off4 c) (k0_off4_inb c)) (fs := put m c (oth 0 c))
    (fd := m ((peer c : Thread nD τ).loc main_v1)) (q := fullShare) (Entails.of_eq (rowsPut_off m c (oth 0 c) (k0_off4 c) (k0_off4_inb c) (off4 c)).symm) (by
      show _ ⊢ rowsPut m (peer c) (peer (oth 0 (peer c)))
      rw [peer_oth]; exact passed m c (peer c) (oth 0 c) (k0_off4 c) (k0_off4_inb c) (off4 c))) $$ [Hp6 Hb0 Ht3 Ht9 HO]
  · isplitr; · iexact HR
    isplitl [Hp6]; · iexact Hp6
    isplitl [Hb0]; · iexact Hb0
    isplitl [Ht3]; · iexact Ht3
    isplitl [Ht9]; · iexact Ht9
    iexact HO
  iintro ⟨Hc3, HO⟩
  iapply ((plan m).wait_step c 7 Variants.none κ (S := owed5) rfl rfl (by decide : ∀ k' ∈ owed5, levels 7 < levels k')) $$ [Hc7 Hn7 HO]
  · isplitr; · iexact HR
    isplitr; · iexact Hlev
    isplitl [Hc7]; · iexact Hc7
    isplitl [Hn7]; · iexact Hn7
    iexact HO
  iintro ⟨Hp7, Hd7, HO⟩
  ihave Hp7 := (Entails.of_eq ((show (plan m).pay c 7 = rowsPut m c (oth 1 c) from rfl).trans (rowsPut_off m c (oth 1 c) (k0_off5 c) (k0_off5_inb c) (off5 c)))) $$ Hp7
  ihave Hb1 := (Entails.of_eq (rowsAt_off m (peer c) (oth 1 c) (k0_off5 c) (k0_off5_inb c) (off5 c))) $$ Hb1
  iapply ((plan m).send_step c 4 Variants.none κ (k' := 10) (S := owed6) (c' := peer c) rfl rfl rfl rfl (by decide : 10 ∉ owed6) rfl rfl (dst := part (k0_off5 c) (k0_off5_inb c)) (src := part (k0_off5 c) (k0_off5_inb c)) (fs := put m c (oth 1 c))
    (fd := m ((peer c : Thread nD τ).loc main_v1)) (q := fullShare) (Entails.of_eq (rowsPut_off m c (oth 1 c) (k0_off5 c) (k0_off5_inb c) (off5 c)).symm) (by
      show _ ⊢ rowsPut m (peer c) (peer (oth 1 (peer c)))
      rw [peer_oth]; exact passed m c (peer c) (oth 1 c) (k0_off5 c) (k0_off5_inb c) (off5 c))) $$ [Hp7 Hb1 Ht4 Ht10 HO]
  · isplitr; · iexact HR
    isplitl [Hp7]; · iexact Hp7
    isplitl [Hb1]; · iexact Hb1
    isplitl [Ht4]; · iexact Ht4
    isplitl [Ht10]; · iexact Ht10
    iexact HO
  iintro ⟨Hc4, HO⟩
  iapply ((plan m).wait_step c 8 Variants.none κ (S := owed6) rfl rfl (by decide : ∀ k' ∈ owed6, levels 8 < levels k')) $$ [Hc8 Hn8 HO]
  · isplitr; · iexact HR
    isplitr; · iexact Hlev
    isplitl [Hc8]; · iexact Hc8
    isplitl [Hn8]; · iexact Hn8
    iexact HO
  iintro ⟨Hp8, Hd8, HO⟩
  ihave Hp8 := (Entails.of_eq ((show (plan m).pay c 8 = rowsPut m c (oth 2 c) from rfl).trans (rowsPut_off m c (oth 2 c) (k0_off6 c) (k0_off6_inb c) (off6 c)))) $$ Hp8
  ihave Hb2 := (Entails.of_eq (rowsAt_off m (peer c) (oth 2 c) (k0_off6 c) (k0_off6_inb c) (off6 c))) $$ Hb2
  iapply ((plan m).send_step c 5 Variants.none κ (k' := 11) (S := ∅) (c' := peer c) rfl rfl rfl rfl (Finset.notMem_empty _) rfl rfl (dst := part (k0_off6 c) (k0_off6_inb c)) (src := part (k0_off6 c) (k0_off6_inb c)) (fs := put m c (oth 2 c))
    (fd := m ((peer c : Thread nD τ).loc main_v1)) (q := fullShare) (Entails.of_eq (rowsPut_off m c (oth 2 c) (k0_off6 c) (k0_off6_inb c) (off6 c)).symm) (by
      show _ ⊢ rowsPut m (peer c) (peer (oth 2 (peer c)))
      rw [peer_oth]; exact passed m c (peer c) (oth 2 c) (k0_off6 c) (k0_off6_inb c) (off6 c))) $$ [Hp8 Hb2 Ht5 Ht11 HO]
  · isplitr; · iexact HR
    isplitl [Hp8]; · iexact Hp8
    isplitl [Hb2]; · iexact Hb2
    isplitl [Ht5]; · iexact Ht5
    isplitl [Ht11]; · iexact Ht11
    iexact HO
  iintro ⟨Hc5, HO⟩
  iapply ((plan m).wait_step c 9 Variants.none κ (S := ∅) rfl rfl (fun _ h => absurd h (Finset.notMem_empty _))) $$ [Hc9 Hn9 HO]
  · isplitr; · iexact HR
    isplitr; · iexact Hlev
    isplitl [Hc9]; · iexact Hc9
    isplitl [Hn9]; · iexact Hn9
    iexact HO
  iintro ⟨Hp9, Hd9, HO⟩
  iapply ((plan m).wait_step c 10 Variants.none κ (S := ∅) rfl rfl (fun _ h => absurd h (Finset.notMem_empty _))) $$ [Hc10 Hn10 HO]
  · isplitr; · iexact HR
    isplitr; · iexact Hlev
    isplitl [Hc10]; · iexact Hc10
    isplitl [Hn10]; · iexact Hn10
    iexact HO
  iintro ⟨Hp10, Hd10, HO⟩
  iapply ((plan m).wait_step c 11 Variants.none κ (S := ∅) rfl rfl (fun _ h => absurd h (Finset.notMem_empty _))) $$ [Hc11 Hn11 HO]
  · isplitr; · iexact HR
    isplitr; · iexact Hlev
    isplitl [Hc11]; · iexact Hc11
    isplitl [Hn11]; · iexact Hn11
    iexact HO
  iintro ⟨Hp11, Hd11, HO⟩
  iapply ((plan m).wait_step c 0 Variants.none κ (S := ∅) rfl rfl (fun _ h => absurd h (Finset.notMem_empty _))) $$ [Hc0 Hn0 HO]
  · isplitr; · iexact HR
    isplitr; · iexact Hlev
    isplitl [Hc0]; · iexact Hc0
    isplitl [Hn0]; · iexact Hn0
    iexact HO
  iintro ⟨Hp0, Hd0, HO⟩
  iapply ((plan m).wait_step c 1 Variants.none κ (S := ∅) rfl rfl (fun _ h => absurd h (Finset.notMem_empty _))) $$ [Hc1 Hn1 HO]
  · isplitr; · iexact HR
    isplitr; · iexact Hlev
    isplitl [Hc1]; · iexact Hc1
    isplitl [Hn1]; · iexact Hn1
    iexact HO
  iintro ⟨Hp1, Hd1, HO⟩
  iapply ((plan m).wait_step c 2 Variants.none κ (S := ∅) rfl rfl (fun _ h => absurd h (Finset.notMem_empty _))) $$ [Hc2 Hn2 HO]
  · isplitr; · iexact HR
    isplitr; · iexact Hlev
    isplitl [Hc2]; · iexact Hc2
    isplitl [Hn2]; · iexact Hn2
    iexact HO
  iintro ⟨Hp2, Hd2, HO⟩
  iapply ((plan m).wait_step c 3 Variants.none κ (S := ∅) rfl rfl (fun _ h => absurd h (Finset.notMem_empty _))) $$ [Hc3 Hn3 HO]
  · isplitr; · iexact HR
    isplitr; · iexact Hlev
    isplitl [Hc3]; · iexact Hc3
    isplitl [Hn3]; · iexact Hn3
    iexact HO
  iintro ⟨Hp3, Hd3, HO⟩
  iapply ((plan m).wait_step c 4 Variants.none κ (S := ∅) rfl rfl (fun _ h => absurd h (Finset.notMem_empty _))) $$ [Hc4 Hn4 HO]
  · isplitr; · iexact HR
    isplitr; · iexact Hlev
    isplitl [Hc4]; · iexact Hc4
    isplitl [Hn4]; · iexact Hn4
    iexact HO
  iintro ⟨Hp4, Hd4, HO⟩
  iapply ((plan m).wait_step c 5 Variants.none κ (S := ∅) rfl rfl (fun _ h => absurd h (Finset.notMem_empty _))) $$ [Hc5 Hn5 HO]
  · isplitr; · iexact HR
    isplitr; · iexact Hlev
    isplitl [Hc5]; · iexact Hc5
    isplitl [Hn5]; · iexact Hn5
    iexact HO
  iintro ⟨Hp5, Hd5, HO⟩
  iapply ((plan m).wait_step c 12 Variants.none κ (S := ∅) rfl rfl (fun _ h => absurd h (Finset.notMem_empty _))) $$ [Hc12 Hn12 HO]
  · isplitr; · iexact HR
    isplitr; · iexact Hlev
    isplitl [Hc12]; · iexact Hc12
    isplitl [Hn12]; · iexact Hn12
    iexact HO
  iintro ⟨Hp12, Hd12, HO⟩
  rw [wp_ret]
  imodintro
  iapply HQ
  unfold End
  ihave Hp3 := (Entails.of_eq (show (plan m).pay c 3 = rowsPut m c (oth 0 c) from rfl)) $$ Hp3
  ihave Hp9 := (Entails.of_eq (show (plan m).pay c 9 = rowsPut m c (peer (oth 0 c)) from rfl)) $$ Hp9
  ihave Hp4 := (Entails.of_eq (show (plan m).pay c 4 = rowsPut m c (oth 1 c) from rfl)) $$ Hp4
  ihave Hp10 := (Entails.of_eq (show (plan m).pay c 10 = rowsPut m c (peer (oth 1 c)) from rfl)) $$ Hp10
  ihave Hp5 := (Entails.of_eq (show (plan m).pay c 5 = rowsPut m c (oth 2 c) from rfl)) $$ Hp5
  ihave Hp11 := (Entails.of_eq (show (plan m).pay c 11 = rowsPut m c (peer (oth 2 c)) from rfl)) $$ Hp11
  ihave Hp12 := (Entails.of_eq (show (plan m).pay c 12 = iprop(ownHas m c ∗ xPts m fullShare.left c) from rfl)) $$ Hp12
  icases Hp12 with ⟨Ho, Hx⟩
  isplitl [Ho Hx Hp3 Hp4 Hp5 Hp9 Hp10 Hp11]
  · isplitl [Ho Hx]
    · isplitl [Hx] <;> iassumption
    isplitl [Hp3 Hp4 Hp5]
    · isplitl [Hp3]; · iexact Hp3
      isplitl [Hp4] <;> iassumption
    isplitl [Hp9]; · iexact Hp9
    isplitl [Hp10] <;> iassumption
  isplitr [HO]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    iexact Hd12
  iexists _; iexact HO

/-- What the final memory of device `c` holds: its argument unchanged; in the result its own quarter, and the halves of the six
    devices of the other chips. -/
def Ends (c : Dev nD) (μ : MemSt nD τ sig (Elt F)) : Prop :=
  μ.mem ((c : Thread nD τ).loc main_arg0) = m ((c : Thread nD τ).loc main_arg0)
    ∧ (ownM c).view.read (Elt F) (μ.mem ((c : Thread nD τ).loc main_v1)) = m ((c : Thread nD τ).loc main_arg0)
    ∧ ∀ e ∈ others c, (partOf e).view.read (Elt F) (μ.mem ((c : Thread nD τ).loc main_v1)) = (half e).view.read (Elt F) (qtr m e)

theorem read_put (c e : Dev nD) (g : Buf (Elt F) ((partOf e).view.loc (c : Thread nD τ))) (h : ∀ i ∈ (partOf e).view.set, g i = put m c e i) :
    (partOf e).view.read (Elt F) g = (half e).view.read (Elt F) (qtr m e) := by
  rw [(partOf e).view.read_congr h, View.read_write_univ]

theorem ends_of (c : Dev nD) (s : Phys nD τ sig (Elt F)) : iprop(End m c ∗ SI s) ⊢ |={Set.univ}=> (iprop(⌜Ends m c s.mem⌝ ∗ SI s) : sProp 𝕄) := by
  unfold End xPts ownHas rowsPut
  iintro ⟨⟨⟨Hx, Ho⟩, ⟨H0, H1, H2⟩, ⟨H3, H4, H5⟩⟩, HS⟩
  ihave H := (told s) $$ [Hx HS]
  · isplitl [Hx] <;> iassumption
  icases H with ⟨%hx, HS⟩
  ihave H := (told s) $$ [Ho HS]
  · isplitl [Ho] <;> iassumption
  icases H with ⟨%ho, HS⟩
  ihave H := (told s) $$ [H0 HS]
  · isplitl [H0] <;> iassumption
  icases H with ⟨%h0, HS⟩
  ihave H := (told s) $$ [H1 HS]
  · isplitl [H1] <;> iassumption
  icases H with ⟨%h1, HS⟩
  ihave H := (told s) $$ [H2 HS]
  · isplitl [H2] <;> iassumption
  icases H with ⟨%h2, HS⟩
  ihave H := (told s) $$ [H3 HS]
  · isplitl [H3] <;> iassumption
  icases H with ⟨%h3, HS⟩
  ihave H := (told s) $$ [H4 HS]
  · isplitl [H4] <;> iassumption
  icases H with ⟨%h4, HS⟩
  ihave H := (told s) $$ [H5 HS]
  · isplitl [H5] <;> iassumption
  icases H with ⟨%h5, HS⟩
  imodintro
  isplitr
  · ipureintro
    refine ⟨Buf.eq_of_forall_mem_univ (by rw [View.set_whole] at hx; exact hx), ?_, fun e he => ?_⟩
    · rw [(ownM c).view.read_congr ho, View.read_write_univ]
      exact View.read_whole _ _
    · simp only [others, List.mem_cons, List.not_mem_nil, or_false] at he
      rcases he with rfl | rfl | rfl | rfl | rfl | rfl
      · exact read_put m _ _ _ h0
      · exact read_put m _ _ _ h1
      · exact read_put m _ _ _ h2
      · exact read_put m _ _ _ h3
      · exact read_put m _ _ _ h4
      · exact read_put m _ _ _ h5
  iexact HS

def dats (p : Fin 1) (c : Dev nD) : Pipeline.Dat τ (Elt F) Unit ℕ (UU nD τ sig) ℕ (Pipeline.pin (fun p => (cfgs p).toPCfg (Val := Elt F)) (fun p => (cfgs p).toPCfg_adm) p) c :=
  match p with
  | 0 => onceDat (plan m) (fun p => (cfgs p).toPCfg (Val := Elt F)) (fun _ p => (cfgs p).toPCfg_adm) 0 (Start m) (End m) c

/-- On the mesh, for any float values, from any memory with zero counters: every weakly fair execution of `Gather` ends, each
    device's result holding all quarters, its argument unchanged, every semaphore counter at zero. -/
theorem run_main (g : Dev nD → PrngReg) : θ_run (defs (F := F)) (onTc (τ := τ) (main (F := F))) ⟨m, fun _ => 0, g⟩
    (fun r => (∀ c, Ends m c r.2) ∧ r.2.sem = fun _ => 0) :=
  θ_run_once (plan m) (fun p => (cfgs p).toPCfg) (fun _ p => (cfgs p).toPCfg_adm) 0 (Start m) (End m) defs₀ Variants.none (fun _ => rfl) cellOf_inj winFacts0.to₀
    lanes_facts (fun c => rfl) (dats m) (fun c => rfl) m g main (fun _ _ => pure ⟨⟩) (fun _ => rfl) (start_intro m)
    (fun c t κ W Q => body_run m c κ W Q) (End m)
    (fun c => by
      rw [Prog.pure_eq_ret, wp_ret]
      iintro ⟨Hb, HE, HO, -⟩
      imodintro
      isplitl [HE]; · iexact HE
      isplitl [Hb] <;> iassumption)
    (Ends m) (ends_of m) (fun s h hs => ⟨h, funext fun g' => hs g' (by
      obtain ⟨⟨d, q⟩, l⟩ := g'
      by_cases hq : q = .tc
      · subst hq; exact Or.inr (scoped_all l)
      · exact Or.inl hq)⟩)

end Cert.GatherRun

end
-- ==== Proof.Gather.Value.lean ====
/-
  What `Gather` and its reference say of each other: each chip starting with its quarter of the reference's array, every device
  ends with the whole array, one quarter a slab.
-/
module

public import proofs.«01_k».proof.Proof.Gather.Run
public import proofs.«01_k».proof.Proof.Gen.Gather
public import proofs.«01_k».proof.Proof.Gen.GatherRef
public import proofs.«01_k».proof.Proof.Gen.GatherRefIdeal
public import proofs.«01_k».proof.Proof.Gen.GatherRef.Run
public import proofs.«01_k».proof.Defs
public import Idealize.ShloMosaic.Lib.Layout
public import Idealize.ShloMosaic.Lib.Quiescent
public import Idealize.ShloMosaic.Lib.Pipeline.Value

@[expose] public section

noncomputable section

namespace Cert.GatherRun

open Cert.GatherIdeal Cert.GatherIdeal.Gen
open Idealize.ShloMosaic Idealize.ShloMosaic.TcCoe
open Idealize.SL.Sem

variable {F : FTy → Type} [FloatOps F]

/-- A device's quarter and half of the result, and its half of the argument, at an index. -/
theorem own_read (e c : Dev nD) (g : Buf (Elt F) ((ownM e).view.loc (c : Thread nD τ))) (i : S10240x1024.Idx) (k : S4x10240x1024.Idx)
    (h0 : (k (0 : Fin 3)).val = 2 * (e.val / 4) + ((e.val / 2) % 2)) (h1 : (k (1 : Fin 3)).val = (i (0 : Fin 2)).val)
    (h2 : (k (2 : Fin 3)).val = (i (1 : Fin 2)).val) : (ownM e).view.read (Elt F) g i = g k := by
  let y : S1x10240x1024.Idx := fun a => match a with
    | ⟨0, _⟩ => (⟨0, Nat.one_pos⟩ : Fin 1)
    | ⟨1, _⟩ => i (0 : Fin 2)
    | ⟨2, _⟩ => i (1 : Fin 2)
  have hy : Shape.reshapeEquiv squeezes_S1x10240x1024_S10240x1024.numel_eq i = y := by
    refine Shape.reshapeEquiv_eq_of_rowMajor _ ?_
    rw [Shape.rowMajor_val_two, Shape.rowMajor_val_three]
    show (0 * 10240 + (i (0 : Fin 2)).val) * 1024 + (i (1 : Fin 2)).val = (i (0 : Fin 2)).val * 1024 + (i (1 : Fin 2)).val
    omega
  have e' : ((ownM e).view.emb i : S4x10240x1024.Idx) = k := by
    show (outM.slice (Rect.unit (s := S4x10240x1024) (k0_off1 e) S1x10240x1024.size (k0_off1_inb e)) (fun _ => rfl)).view.emb
      (Shape.reshapeEquiv squeezes_S1x10240x1024_S10240x1024.numel_eq i) = k
    rw [hy]
    funext a
    apply Fin.ext
    show k0_off1 e a + 1 * (y a).val = (k a).val
    rw [k0_off1_eq, one_mul]
    fin_cases a
    · show 2 * (e.val / 4) + ((e.val / 2) % 2) + 0 = (k (0 : Fin 3)).val
      omega
    · show 0 + (i (0 : Fin 2)).val = (k (1 : Fin 3)).val
      omega
    · show 0 + (i (1 : Fin 2)).val = (k (2 : Fin 3)).val
      omega
  exact congrArg g e'

theorem part_read (e c : Dev nD) (g : Buf (Elt F) ((partOf e).view.loc (c : Thread nD τ))) (i : S5120x1024.Idx) (k : S4x10240x1024.Idx)
    (h0 : (k (0 : Fin 3)).val = 2 * (e.val / 4) + ((e.val / 2) % 2)) (h1 : (k (1 : Fin 3)).val = 5120 * (e.val % 2) + (i (0 : Fin 2)).val)
    (h2 : (k (2 : Fin 3)).val = (i (1 : Fin 2)).val) : (partOf e).view.read (Elt F) g i = g k := by
  let y : S1x5120x1024.Idx := fun a => match a with
    | ⟨0, _⟩ => (⟨0, Nat.one_pos⟩ : Fin 1)
    | ⟨1, _⟩ => i (0 : Fin 2)
    | ⟨2, _⟩ => i (1 : Fin 2)
  have hy : Shape.reshapeEquiv squeezes_S1x5120x1024_S5120x1024.numel_eq i = y := by
    refine Shape.reshapeEquiv_eq_of_rowMajor _ ?_
    rw [Shape.rowMajor_val_two, Shape.rowMajor_val_three]
    show (0 * 5120 + (i (0 : Fin 2)).val) * 1024 + (i (1 : Fin 2)).val = (i (0 : Fin 2)).val * 1024 + (i (1 : Fin 2)).val
    omega
  have e' : ((partOf e).view.emb i : S4x10240x1024.Idx) = k := by
    show (outM.slice (Rect.unit (s := S4x10240x1024) (k0_off2 e) S1x5120x1024.size (k0_off2_inb e)) (fun _ => rfl)).view.emb
      (Shape.reshapeEquiv squeezes_S1x5120x1024_S5120x1024.numel_eq i) = k
    rw [hy]
    funext a
    apply Fin.ext
    show k0_off2 e a + 1 * (y a).val = (k a).val
    rw [k0_off2_eq, one_mul]
    fin_cases a
    · show 2 * (e.val / 4) + ((e.val / 2) % 2) + 0 = (k (0 : Fin 3)).val
      omega
    · show 5120 * (e.val % 2) + (i (0 : Fin 2)).val = (k (1 : Fin 3)).val
      omega
    · show 0 + (i (1 : Fin 2)).val = (k (2 : Fin 3)).val
      omega
  exact congrArg g e'

theorem half_read (e : Dev nD) (g : Buf (Elt F) ((xM).view.loc (e : Thread nD τ))) (i : S5120x1024.Idx) (k : S10240x1024.Idx)
    (h0 : (k (0 : Fin 2)).val = 5120 * (e.val % 2) + (i (0 : Fin 2)).val) (h1 : (k (1 : Fin 2)).val = (i (1 : Fin 2)).val) :
    (half e).view.read (Elt F) g i = g k := by
  have e' : ((half e).view.emb i : S10240x1024.Idx) = k := by
    funext a
    apply Fin.ext
    show k0_off3 e a + 1 * (i a).val = (k a).val
    rw [k0_off3_eq, one_mul]
    fin_cases a
    · show 5120 * (e.val % 2) + (i (0 : Fin 2)).val = (k (0 : Fin 2)).val
      omega
    · show 0 + (i (1 : Fin 2)).val = (k (1 : Fin 2)).val
      omega
  exact congrArg g e'

/-- The reference's result, of its argument. -/
abbrev gathered (v : Cert.GatherRef.S40960x1024.Idx → Elt F .bf16) : Cert.GatherRef.S4x10240x1024.Idx → Elt F .bf16 :=
  shapeCast Cert.GatherRef.S4x10240x1024 v Cert.GatherRef.Gen.shapeCasts_S40960x1024_S4x10240x1024

/-- The reference's result on a row of a quarter is the argument's row of that chip's block. -/
theorem gathered_at (v : Cert.GatherRef.S40960x1024.Idx → Elt F .bf16) (e : Dev nD) (k : S4x10240x1024.Idx) (i : S10240x1024.Idx)
    (h0 : (k (0 : Fin 3)).val = 2 * (e.val / 4) + ((e.val / 2) % 2)) (h1 : (k (1 : Fin 3)).val = (i (0 : Fin 2)).val)
    (h2 : (k (2 : Fin 3)).val = (i (1 : Fin 2)).val) :
    gathered v k = (Layout.blockN ⟨2, ![10240, 1024]⟩ ⟨2, ![40960, 1024]⟩ (Layout.meshBlock [2, 2, 2] ![[0, 1], []] e) v : S10240x1024.Idx → Elt F .bf16) i := by
  have he : e.val < 8 := e.isLt
  rw [Layout.blockN_apply]
  refine shapeCast_apply v _ k _ ?_
  rw [Shape.rowMajor_val_two, Shape.rowMajor_val_three]
  show ((e.val / 4 % 2 * 2 + (e.val / 2 % 2 * 1 + 0)) * 10240 + (i (0 : Fin 2)).val) * 1024 + (0 * 1024 + (i (1 : Fin 2)).val)
    = ((k (0 : Fin 3)).val * 10240 + (k (1 : Fin 3)).val) * 1024 + (k (2 : Fin 3)).val
  rw [h0, h1, h2]
  omega

/-- Devices that start with their chip's block of an array end with the reference's result. -/
theorem gathered_of (m : (ℓ : Loc nD τ sig) → Buf (Elt F) ℓ) (v : Cert.GatherRef.S40960x1024.Idx → Elt F .bf16)
    (h : ∀ c : Dev nD, m ((c : Thread nD τ).loc main_arg0) = Layout.blockN ⟨2, ![10240, 1024]⟩ ⟨2, ![40960, 1024]⟩ (Layout.meshBlock [2, 2, 2] ![[0, 1], []] c) v)
    (c : Dev nD) (μ : MemSt nD τ sig (Elt F)) (hμ : Ends m c μ) : μ.mem ((c : Thread nD τ).loc main_v1) = gathered v := by
  obtain ⟨-, ho, hr⟩ := hμ
  funext k
  have hk0 : (k (0 : Fin 3)).val < 4 := (k (0 : Fin 3)).isLt
  have hk1 : (k (1 : Fin 3)).val < 10240 := (k (1 : Fin 3)).isLt
  have hc8 : c.val < 8 := c.isLt
  let i : S10240x1024.Idx := fun a => match a with
    | ⟨0, _⟩ => k (1 : Fin 3)
    | ⟨1, _⟩ => k (2 : Fin 3)
  by_cases hc : c.val / 2 = (k (0 : Fin 3)).val
  · refine (own_read c c _ i k (by omega) rfl rfl).symm.trans ((congrFun ho i).trans ?_)
    rw [h c]
    exact (gathered_at v c k i (by omega) rfl rfl).symm
  · let e : Dev nD := ⟨2 * (k (0 : Fin 3)).val + (k (1 : Fin 3)).val / 5120, by show _ < 8; omega⟩
    have he : e.val = 2 * (k (0 : Fin 3)).val + (k (1 : Fin 3)).val / 5120 := rfl
    let j : S5120x1024.Idx := fun a => match a with
      | ⟨0, _⟩ => ⟨(k (1 : Fin 3)).val % 5120, Nat.mod_lt _ (by decide)⟩
      | ⟨1, _⟩ => k (2 : Fin 3)
    have hj : (j (0 : Fin 2)).val = (k (1 : Fin 3)).val % 5120 := rfl
    have hin := others_all c e (by omega)
    refine (part_read e c _ j k (by omega) (by omega) rfl).symm.trans ((congrFun (hr e hin) j).trans ?_)
    refine (half_read e _ j i (by show (k (1 : Fin 3)).val = _; omega) rfl).trans ?_
    rw [show qtr m e = _ from h e]
    exact (gathered_at v e k i (by omega) rfl rfl).symm

end Cert.GatherRun

namespace Cert.GatherProof

open Idealize.ShloMosaic Idealize.ShloMosaic.TcCoe
open Idealize.SL.Sem

/-- `Gather` ends on all devices with its argument unchanged and no count left. -/
theorem frame : Cert.quiescent_Gather := fun m ρ _ =>
  (θ_run Cert.GatherIdeal.defs _ _).mono (fun _ h => ⟨fun c => (h.1 c).1, h.2⟩) (Cert.GatherRun.run_main (F := Bits) m ρ)

theorem frame_ideal : Cert.quiescent_GatherIdeal := fun m ρ _ =>
  (θ_run Cert.GatherIdeal.defs _ _).mono (fun _ h => ⟨fun c => (h.1 c).1, h.2⟩) (Cert.GatherRun.run_main (F := Ideal) m ρ)

theorem frame_ref : Cert.quiescent_GatherRef := fun m ρ _ =>
  (θ_run Cert.GatherRef.defs _ _).mono (fun r h => ⟨fun c => (h c).2, sem_eq_zero_of_no_sems (by decide) r.2⟩) (Cert.GatherRef.Value.run (F := Bits) m ρ)

theorem frame_ref_ideal : Cert.quiescent_GatherRefIdeal := fun m ρ _ =>
  (θ_run Cert.GatherRef.defs _ _).mono (fun r h => ⟨fun c => (h c).2, sem_eq_zero_of_no_sems (by decide) r.2⟩) (Cert.GatherRef.Value.run (F := Ideal) m ρ)

theorem algebraic : Cert.algebraic_GatherIdeal_GatherRefIdeal := fun m g m' g' _ hm =>
  ⟨_, (θ_run Cert.GatherIdeal.defs _ _).mono (fun r h c => ⟨Cert.GatherRun.gathered_of m _ hm c r.2 (h.1 c), (h.1 c).1⟩) (Cert.GatherRun.run_main (F := Ideal) m g),
    (θ_run Cert.GatherRef.defs _ _).mono (fun r h => h 0) (Cert.GatherRef.Value.run (F := Ideal) m' g')⟩

theorem bitexact : Cert.bitexact_Gather_GatherRef := fun m g m' g' _ hm =>
  ⟨_, (θ_run Cert.GatherIdeal.defs _ _).mono (fun r h c => ⟨Cert.GatherRun.gathered_of m _ hm c r.2 (h.1 c), (h.1 c).1⟩) (Cert.GatherRun.run_main (F := Bits) m g),
    (θ_run Cert.GatherRef.defs _ _).mono (fun r h => h 0) (Cert.GatherRef.Value.run (F := Bits) m' g')⟩

end Cert.GatherProof

end
-- ==== Proof.Exchange.Run.lean ====
/-
  The run of `Exchange` (`_sibling_exchange`): each core of a chip sends its sibling the half of each segment's rows that the
  sibling is to reduce, and its small array whole. Device `c` writes its sibling's two landings, so the launch deals each device
  the landings of its SIBLING. Four transfer cells a device: a send and a landing for each copy.
-/
module

public import proofs.«01_k».proof.Proof.Links.Program
public import proofs.«01_k».proof.Proof.Links.Pieces
public import proofs.«01_k».proof.Proof.Gen.ExchangeIdeal
public import proofs.«01_k».proof.Proof.Gen.ExchangeIdeal.Skeleton
public import proofs.«01_k».proof.Proof.Gen.ExchangeIdeal.Launch

@[expose] public section

noncomputable section

namespace Cert.ExchangeRun

open Cert.ExchangeIdeal Cert.ExchangeIdeal.Gen Links
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-- The other core of the same chip. -/
def peer (c : Dev nD) : Dev nD := ⟨k0_dev1 c, k0_dev1_lt c⟩

theorem peer_val (c : Dev nD) : (peer c).val = (4 * (c.val / 4) + 2 * ((c.val / 2) % 2) + 1) - (c.val % 2) := k0_dev1_eq c
theorem peer_peer (c : Dev nD) : peer (peer c) = c := by
  apply Fin.ext; rw [peer_val, peer_val]; have := c.isLt; revert this; generalize c.val = v; decide +revert
theorem peer_small (c : Dev nD) : (⟨k0_dev2 c, k0_dev2_lt c⟩ : Dev nD) = peer c := rfl

def swap : Dev nD ≃ Dev nD := ⟨peer, peer, peer_peer, peer_peer⟩

/-- A device's arguments, its landings, and the half of the first argument it sends. -/
abbrev bigM : Memref sig .tc .hbm S4x10240x1024 .f32 := Memref.whole main_arg0
abbrev smallM : Memref sig .tc .hbm S296x1024 .f32 := Memref.whole main_arg1
abbrev landM : Memref sig .tc .hbm S4x5120x1024 .f32 := Memref.whole main_v1_0
abbrev slandM : Memref sig .tc .hbm S296x1024 .f32 := Memref.whole main_v1_1
abbrev sent (c : Dev nD) : Memref sig .tc .hbm S4x5120x1024 .f32 :=
  bigM.slice (Rect.unit (s := S4x10240x1024) (k0_off1 c) S4x5120x1024.size (k0_off1_inb c)) (fun _ => rfl)

/-! ## Contents -/

abbrev big (c : Dev nD) : Buf (Elt F) ((bigM).view.loc (c : Thread nD τ)) := m ((c : Thread nD τ).loc main_arg0)
abbrev small (c : Dev nD) : Buf (Elt F) ((smallM).view.loc (c : Thread nD τ)) := m ((c : Thread nD τ).loc main_arg1)
/-- What lands with device `c`: the half its sibling sends it, and the sibling's small array. -/
abbrev landed (c : Dev nD) : Buf (Elt F) ((landM).view.loc (c : Thread nD τ)) :=
  (landM).view.write (Elt F) (m ((c : Thread nD τ).loc main_v1_0)) ((sent (peer c)).view.read (Elt F) (big m (peer c))) Finset.univ
abbrev slanded (c : Dev nD) : Buf (Elt F) ((slandM).view.loc (c : Thread nD τ)) :=
  (slandM).view.write (Elt F) (m ((c : Thread nD τ).loc main_v1_1)) ((smallM).view.read (Elt F) (small m (peer c))) Finset.univ

/-- The first argument: the half that is sent, and the rest. -/
def sentPts (c : Dev nD) : sProp 𝕄 := (sent c).view.loc (c : Thread nD τ) ↦[(sent c).view.set]{fullShare} big m c
def keptPts (c : Dev nD) : sProp 𝕄 := (bigM).view.loc (c : Thread nD τ) ↦[Finset.univ \ (sent c).view.set]{fullShare} big m c
def smallPts (c : Dev nD) : sProp 𝕄 := (smallM).view.loc (c : Thread nD τ) ↦[(smallM).view.set]{fullShare} small m c
/-- The landings, as at launch and at the end. -/
def landAt (c : Dev nD) : sProp 𝕄 := (landM).view.loc (c : Thread nD τ) ↦[(landM).view.set]{fullShare} m ((c : Thread nD τ).loc main_v1_0)
def slandAt (c : Dev nD) : sProp 𝕄 := (slandM).view.loc (c : Thread nD τ) ↦[(slandM).view.set]{fullShare} m ((c : Thread nD τ).loc main_v1_1)
def landPut (c : Dev nD) : sProp 𝕄 := (landM).view.loc (c : Thread nD τ) ↦[(landM).view.set]{fullShare} landed m c
def slandPut (c : Dev nD) : sProp 𝕄 := (slandM).view.loc (c : Thread nD τ) ↦[(slandM).view.set]{fullShare} slanded m c

/-- What each landing hands its device. -/
def payOf (c : Dev nD) : Fin 4 → sProp 𝕄
  | 0 => sentPts m c
  | 1 => landPut m c
  | 2 => smallPts m c
  | 3 => slandPut m c

def lanes : Fin 4 → DmaSem sig := fun
  | 0 => ((cc0_scratch0.slice (Rect.unit (s := S2) ![0] S1.size inb_S2_S1_0)).squeeze S_ squeezes_S1_S_).sem
  | 1 => ((cc0_scratch1.slice (Rect.unit (s := S2) ![0] S1.size inb_S2_S1_0)).squeeze S_ squeezes_S1_S_).sem
  | 2 => ((cc0_scratch0.slice (Rect.unit (s := S2) ![1] S1.size inb_S2_S1_1)).squeeze S_ squeezes_S1_S_).sem
  | 3 => ((cc0_scratch1.slice (Rect.unit (s := S2) ![1] S1.size inb_S2_S1_1)).squeeze S_ squeezes_S1_S_).sem

def credits : Fin 4 → ℕ := fun
  | 0 => landM.view.dmaCredit | 1 => landM.view.dmaCredit | 2 => slandM.view.dmaCredit | 3 => slandM.view.dmaCredit

/-- The landing still owed when the first copy is on its way. -/
abbrev second : Finset (Fin 4) := singleton 3

/-- The plan: two sends' cells, and two landings' cells, which the sibling credits. -/
def plan : Plan nD τ sig (Elt F) 4 where
  sem := lanes
  inj := by decide
  amt := credits
  pos := fun k => by fin_cases k <;> exact View.dmaCredit_pos _ (by decide)
  tgt := fun | 0 => Equiv.refl _ | 1 => swap | 2 => Equiv.refl _ | 3 => swap
  far := {1, 3}
  lev := fun _ => 0
  pay := payOf m
  sto := fun c k => by fin_cases k <;> (unfold payOf sentPts landPut smallPts slandPut; infer_instance)

theorem lanes_facts : Pipeline.OwnSemFacts cfg0.spec (fun k => SemLoc.dma (lanes k)) := by decide
theorem scoped_all (l : SemLoc sig) : l.isScoped Kind.tc = true := by revert l; decide

def Start (c : Dev nD) : sProp 𝕄 := iprop((sentPts m c ∗ keptPts m c ∗ smallPts m c) ∗ landAt m (peer c) ∗ slandAt m (peer c))
def End (c : Dev nD) : sProp 𝕄 := iprop((sentPts m c ∗ keptPts m c ∗ smallPts m c) ∗ landPut m c ∗ slandPut m c)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_far (Φ : Fin 4 → sProp 𝕄) : bigSep ({1, 3} : Finset (Fin 4)) Φ = iprop(Φ 1 ∗ Φ 3) :=
  bigSep_eq_bigSepL_of_eq [1, 3] (by decide) (by decide) Φ

/-- At launch the devices' buffers are dealt so that each holds its sibling's landings. -/
theorem start_intro : (bigSep Finset.univ fun c : Dev nD => (unscopedBufs c (fun b => m ((c.tc : Thread nD τ).loc b)) : sProp 𝕄))
    ⊢ bigSep Finset.univ (Start m) := by
  have cut (c : Dev nD) : (unscopedBufs c (fun b => m ((c.tc : Thread nD τ).loc b)) : sProp 𝕄)
      ⊢ iprop((sentPts m c ∗ keptPts m c ∗ smallPts m c) ∗ (landAt m c ∗ slandAt m c)) := by
    unfold unscopedBufs
    rw [bigSep_eq_bigSepL_of_eq [main_arg0, main_arg1, main_v1_0, main_v1_1] (by decide) (by decide)]
    unfold sentPts keptPts smallPts landAt slandAt
    show iprop((((c.tc : Thread nD τ).loc main_arg0) ↦{fullShare} m ((c.tc : Thread nD τ).loc main_arg0))
      ∗ (((c.tc : Thread nD τ).loc main_arg1) ↦{fullShare} m ((c.tc : Thread nD τ).loc main_arg1))
      ∗ (((c.tc : Thread nD τ).loc main_v1_0) ↦{fullShare} m ((c.tc : Thread nD τ).loc main_v1_0))
      ∗ (((c.tc : Thread nD τ).loc main_v1_1) ↦{fullShare} m ((c.tc : Thread nD τ).loc main_v1_1))) ⊢ _
    rw [show (smallM : Memref sig .tc .hbm S296x1024 .f32).view.set = Finset.univ from View.set_whole _,
      show (landM : Memref sig .tc .hbm S4x5120x1024 .f32).view.set = Finset.univ from View.set_whole _,
      show (slandM : Memref sig .tc .hbm S296x1024 .f32).view.set = Finset.univ from View.set_whole _]
    iintro ⟨Hb, Hs, Hl, Hsl⟩
    ihave Hb := (carve (Finset.subset_univ (sent c).view.set) Finset.sdiff_subset Finset.disjoint_sdiff) $$ Hb
    icases Hb with ⟨Hb, Hk⟩
    isplitl [Hb Hk Hs]
    · isplitl [Hb]; · iexact Hb
      isplitl [Hk] <;> iassumption
    isplitl [Hl] <;> iassumption
  exact (bigSep_mono fun c _ => cut c).trans (moved (fun c => iprop(sentPts m c ∗ keptPts m c ∗ smallPts m c)) (fun c => iprop(landAt m c ∗ slandAt m c)) swap)

set_option maxRecDepth 65536 in
/-- The body, from one device's share to what it ends with. -/
theorem body_run (c : Dev nD) (κ : GSem nD τ sig → ℕ) (W : Waits sig Unit) (Q : sProp 𝕄) :
    iprop(((plan m).records κ ∗ levAts (Plan.lvOn nD τ sig) (plan m).lv ∗ (plan m).hand c ∗ Start m c ∗ owes (c : Thread nD τ) ((plan m).owing c (plan m).far) W)
        ∗ (iprop(End m c ∗ (bigSep Finset.univ fun k => (plan m).done c k) ∗ ∃ W', owes (c : Thread nD τ) ((plan m).owing c ∅) W') -∗ Q))
      ⊢ wp frame (wpE (defs₀ (F := F)) Variants.none (c : Thread nD τ) none) Set.univ
        (cc0_grad_sibling_exchange (Memref.whole main_arg0) (Memref.isWhole_whole _) (Memref.whole main_arg1) (Memref.isWhole_whole _)
          (Memref.whole main_v1_0) (Memref.isWhole_whole _) (Memref.whole main_v1_1) (Memref.isWhole_whole _) cc0_scratch0 cc0_scratch1) fun _ => Q := by
  simp only [cc0_grad_sibling_exchange_eq_skeleton]
  unfold cc0_grad_sibling_exchange_skel
  simp only [k0_part1_eq_skeleton]
  unfold k0_part1_skel
  simp only [Prog.lift, Prog.bind_op, Prog.bind_ret, Prog.pure_eq_ret, wp_deviceId]
  unfold Plan.hand
  rw [bigSep_fin4, bigSep_fin4, show (plan m).far = {1, 3} from rfl, bigSep_far, bigSep_fin4]
  unfold Start sentPts smallPts landAt slandAt
  iintro ⟨⟨#HR, #Hlev, ⟨⟨Hn0, Hn1, Hn2, Hn3⟩, ⟨Ht0, Ht1, Ht2, Ht3⟩, Hc1, Hc3⟩, ⟨⟨Hb, Hk, Hs⟩, Hl, Hsl⟩, HO⟩, HQ⟩
  iapply ((plan m).send_step c 0 Variants.none κ (k' := 1) (S := second) (c' := peer c) rfl rfl rfl rfl (by decide : 1 ∉ second) rfl rfl (dst := landM) (src := sent c) (fs := big m c) (fd := m ((peer c : Thread nD τ).loc main_v1_0))
    (q := fullShare) (Entails.of_eq rfl) (by
      show _ ⊢ landPut m (peer c)
      unfold landPut landed
      rw [peer_peer])) $$ [Hb Hl Ht0 Ht1 HO]
  · isplitr; · iexact HR
    isplitl [Hb]; · iexact Hb
    isplitl [Hl]; · iexact Hl
    isplitl [Ht0]; · iexact Ht0
    isplitl [Ht1]; · iexact Ht1
    iexact HO
  iintro ⟨Hc0, HO⟩
  iapply ((plan m).send_step c 2 Variants.none κ (k' := 3) (S := ∅) (c' := peer c) rfl rfl rfl rfl (Finset.notMem_empty _) rfl rfl (dst := slandM) (src := smallM) (fs := small m c) (fd := m ((peer c : Thread nD τ).loc main_v1_1))
    (q := fullShare) (Entails.of_eq rfl) (by
      show _ ⊢ slandPut m (peer c)
      unfold slandPut slanded
      rw [peer_peer])) $$ [Hs Hsl Ht2 Ht3 HO]
  · isplitr; · iexact HR
    isplitl [Hs]; · iexact Hs
    isplitl [Hsl]; · iexact Hsl
    isplitl [Ht2]; · iexact Ht2
    isplitl [Ht3]; · iexact Ht3
    iexact HO
  iintro ⟨Hc2, HO⟩
  iapply ((plan m).wait_step c 0 Variants.none κ (S := ∅) rfl rfl (fun _ h => absurd h (Finset.notMem_empty _))) $$ [Hc0 Hn0 HO]
  · isplitr; · iexact HR
    isplitr; · iexact Hlev
    isplitl [Hc0]; · iexact Hc0
    isplitl [Hn0]; · iexact Hn0
    iexact HO
  iintro ⟨Hp0, Hd0, HO⟩
  iapply ((plan m).wait_step c 1 Variants.none κ (S := ∅) rfl rfl (fun _ h => absurd h (Finset.notMem_empty _))) $$ [Hc1 Hn1 HO]
  · isplitr; · iexact HR
    isplitr; · iexact Hlev
    isplitl [Hc1]; · iexact Hc1
    isplitl [Hn1]; · iexact Hn1
    iexact HO
  iintro ⟨Hp1, Hd1, HO⟩
  iapply ((plan m).wait_step c 2 Variants.none κ (S := ∅) rfl rfl (fun _ h => absurd h (Finset.notMem_empty _))) $$ [Hc2 Hn2 HO]
  · isplitr; · iexact HR
    isplitr; · iexact Hlev
    isplitl [Hc2]; · iexact Hc2
    isplitl [Hn2]; · iexact Hn2
    iexact HO
  iintro ⟨Hp2, Hd2, HO⟩
  iapply ((plan m).wait_step c 3 Variants.none κ (S := ∅) rfl rfl (fun _ h => absurd h (Finset.notMem_empty _))) $$ [Hc3 Hn3 HO]
  · isplitr; · iexact HR
    isplitr; · iexact Hlev
    isplitl [Hc3]; · iexact Hc3
    isplitl [Hn3]; · iexact Hn3
    iexact HO
  iintro ⟨Hp3, Hd3, HO⟩
  rw [wp_ret]
  imodintro
  iapply HQ
  unfold End
  ihave Hp0 := (Entails.of_eq (show (plan m).pay c 0 = sentPts m c from rfl)) $$ Hp0
  ihave Hp1 := (Entails.of_eq (show (plan m).pay c 1 = landPut m c from rfl)) $$ Hp1
  ihave Hp2 := (Entails.of_eq (show (plan m).pay c 2 = smallPts m c from rfl)) $$ Hp2
  ihave Hp3 := (Entails.of_eq (show (plan m).pay c 3 = slandPut m c from rfl)) $$ Hp3
  isplitl [Hp0 Hk Hp2 Hp1 Hp3]
  · isplitl [Hp0 Hk Hp2]
    · isplitl [Hp0]; · iexact Hp0
      isplitl [Hk] <;> iassumption
    isplitl [Hp1] <;> iassumption
  isplitr [HO]
  · isplitl [Hd0]; · iexact Hd0
    isplitl [Hd1]; · iexact Hd1
    isplitl [Hd2] <;> iassumption
  iexists _; iexact HO

/-- What the final memory of device `c` holds: its arguments unchanged; the half its sibling sent, and its sibling's small array. -/
def Ends (c : Dev nD) (μ : MemSt nD τ sig (Elt F)) : Prop :=
  (μ.mem ((c : Thread nD τ).loc main_arg0) = m ((c : Thread nD τ).loc main_arg0) ∧ μ.mem ((c : Thread nD τ).loc main_arg1) = m ((c : Thread nD τ).loc main_arg1))
    ∧ μ.mem ((c : Thread nD τ).loc main_v1_0) = (sent (peer c)).view.read (Elt F) (big m (peer c))
    ∧ μ.mem ((c : Thread nD τ).loc main_v1_1) = m ((peer c : Thread nD τ).loc main_arg1)

theorem ends_of (c : Dev nD) (s : Phys nD τ sig (Elt F)) : iprop(End m c ∗ SI s) ⊢ |={Set.univ}=> (iprop(⌜Ends m c s.mem⌝ ∗ SI s) : sProp 𝕄) := by
  unfold End sentPts keptPts smallPts landPut slandPut
  iintro ⟨⟨⟨Hb, Hk, Hs⟩, Hl, Hsl⟩, HS⟩
  ihave H := (told s) $$ [Hb HS]
  · isplitl [Hb] <;> iassumption
  icases H with ⟨%hb, HS⟩
  ihave H := (told s) $$ [Hk HS]
  · isplitl [Hk] <;> iassumption
  icases H with ⟨%hk, HS⟩
  ihave H := (told s) $$ [Hs HS]
  · isplitl [Hs] <;> iassumption
  icases H with ⟨%hs, HS⟩
  ihave H := (told s) $$ [Hl HS]
  · isplitl [Hl] <;> iassumption
  icases H with ⟨%hl, HS⟩
  ihave H := (told s) $$ [Hsl HS]
  · isplitl [Hsl] <;> iassumption
  icases H with ⟨%hsl, HS⟩
  imodintro
  isplitr
  · ipureintro
    refine ⟨⟨funext fun i => ?_, Buf.eq_of_forall_mem_univ (by rw [View.set_whole] at hs; exact hs)⟩, ?_, ?_⟩
    · by_cases h : i ∈ (sent c).view.set
      · exact hb i h
      · exact hk i (Finset.mem_sdiff.mpr ⟨Finset.mem_univ _, h⟩)
    · have e : (landM).view.read (Elt F) (s.mem.mem ((c : Thread nD τ).loc main_v1_0)) = (landM).view.read (Elt F) (landed m c) := (landM).view.read_congr hl
      rw [View.read_write_univ] at e
      exact e
    · have e : (slandM).view.read (Elt F) (s.mem.mem ((c : Thread nD τ).loc main_v1_1)) = (slandM).view.read (Elt F) (slanded m c) := (slandM).view.read_congr hsl
      rw [View.read_write_univ] at e
      exact e
  iexact HS

def dats (p : Fin 1) (c : Dev nD) : Pipeline.Dat τ (Elt F) Unit ℕ (UU nD τ sig) ℕ (Pipeline.pin (fun p => (cfgs p).toPCfg (Val := Elt F)) (fun p => (cfgs p).toPCfg_adm) p) c :=
  match p with
  | 0 => onceDat (plan m) (fun p => (cfgs p).toPCfg (Val := Elt F)) (fun _ p => (cfgs p).toPCfg_adm) 0 (Start m) (End m) c

/-- On the mesh, for any float values, from any memory with zero counters: every weakly fair execution of `Exchange` ends, each
    device holding what its sibling sent, its arguments unchanged, every semaphore counter at zero. -/
theorem run_main (g : Dev nD → PrngReg) : θ_run (defs (F := F)) (onTc (τ := τ) (main (F := F))) ⟨m, fun _ => 0, g⟩
    (fun r => (∀ c, Ends m c r.2) ∧ r.2.sem = fun _ => 0) :=
  θ_run_once (plan m) (fun p => (cfgs p).toPCfg) (fun _ p => (cfgs p).toPCfg_adm) 0 (Start m) (End m) defs₀ Variants.none (fun _ => rfl) cellOf_inj winFacts0.to₀
    lanes_facts (fun c => rfl) (dats m) (fun c => rfl) m g main (fun _ _ => pure ⟨⟩) (fun _ => rfl) (start_intro m)
    (fun c t κ W Q => body_run m c κ W Q) (End m)
    (fun c => by
      rw [Prog.pure_eq_ret, wp_ret]
      iintro ⟨Hb, HE, HO, -⟩
      imodintro
      isplitl [HE]; · iexact HE
      isplitl [Hb] <;> iassumption)
    (Ends m) (ends_of m) (fun s h hs => ⟨h, funext fun g' => hs g' (by
      obtain ⟨⟨d, q⟩, l⟩ := g'
      by_cases hq : q = .tc
      · subst hq; exact Or.inr (scoped_all l)
      · exact Or.inl hq)⟩)

end Cert.ExchangeRun

end
-- ==== Proof.Exchange.Value.lean ====
/-
  What `Exchange` and its reference say of each other: each device starting with its block of the reference's arrays, it ends
  with its block of the arrays whose two cores' columns have changed places.
-/
module

public import proofs.«01_k».proof.Proof.Exchange.Run
public import proofs.«01_k».proof.Proof.Gen.Exchange
public import proofs.«01_k».proof.Proof.Gen.ExchangeRef
public import proofs.«01_k».proof.Proof.Gen.ExchangeRefIdeal
public import proofs.«01_k».proof.Proof.Gen.ExchangeRef.Run
public import proofs.«01_k».proof.Defs
public import Idealize.ShloMosaic.Lib.Layout
public import Idealize.ShloMosaic.Lib.Quiescent
public import Idealize.ShloMosaic.Lib.Pipeline.Value

@[expose] public section

noncomputable section

namespace Cert.ExchangeRun

open Cert.ExchangeIdeal Cert.ExchangeIdeal.Gen
open Idealize.ShloMosaic Idealize.ShloMosaic.TcCoe
open Idealize.SL.Sem

variable {F : FTy → Type} [FloatOps F]

/-- The reference's results, of its arguments. -/
abbrev landAll (v : Cert.ExchangeRef.S16x20480x1024.Idx → Elt F .f32) : Cert.ExchangeRef.S16x10240x1024.Idx → Elt F .f32 :=
  concatenate Cert.ExchangeRef.S16x10240x1024 1
    [⟨Cert.ExchangeRef.S16x5120x1024, extractStridedSlice Cert.ExchangeRef.S16x5120x1024 ![0, 10240, 0] v Cert.ExchangeRef.Gen.slices_S16x20480x1024_S16x5120x1024_0_10240_0⟩,
      ⟨Cert.ExchangeRef.S16x5120x1024, extractStridedSlice Cert.ExchangeRef.S16x5120x1024 ![0, 5120, 0] v Cert.ExchangeRef.Gen.slices_S16x20480x1024_S16x5120x1024_0_5120_0⟩]
    Cert.ExchangeRef.Gen.concatenates_S16x5120x1024_S16x5120x1024_S16x10240x1024_d1
abbrev slandAll (v : Cert.ExchangeRef.S1184x2048.Idx → Elt F .f32) : Cert.ExchangeRef.S1184x2048.Idx → Elt F .f32 :=
  concatenate Cert.ExchangeRef.S1184x2048 1
    [⟨Cert.ExchangeRef.S1184x1024, extractStridedSlice Cert.ExchangeRef.S1184x1024 ![0, 1024] v Cert.ExchangeRef.Gen.slices_S1184x2048_S1184x1024_0_1024⟩,
      ⟨Cert.ExchangeRef.S1184x1024, extractStridedSlice Cert.ExchangeRef.S1184x1024 ![0, 0] v Cert.ExchangeRef.Gen.slices_S1184x2048_S1184x1024_0_0⟩]
    Cert.ExchangeRef.Gen.concatenates_S1184x1024_S1184x1024_S1184x2048_d1

/-- The first result at an index: the first half of the rows is the second core's, the second half the first core's. -/
theorem landAll_lo (v : Cert.ExchangeRef.S16x20480x1024.Idx → Elt F .f32) (j : Cert.ExchangeRef.S16x10240x1024.Idx) (k : Cert.ExchangeRef.S16x20480x1024.Idx)
    (h : (j (1 : Fin 3)).val < 5120) (h0 : (k (0 : Fin 3)).val = (j (0 : Fin 3)).val) (h1 : (k (1 : Fin 3)).val = 10240 + (j (1 : Fin 3)).val)
    (h2 : (k (2 : Fin 3)).val = (j (2 : Fin 3)).val) : landAll v j = v k := by
  let i : Cert.ExchangeRef.S16x5120x1024.Idx := fun a => match a with
    | ⟨0, _⟩ => j (0 : Fin 3)
    | ⟨1, _⟩ => ⟨(j (1 : Fin 3)).val, h⟩
    | ⟨2, _⟩ => j (2 : Fin 3)
  refine (concatenate_pair_apply_left (s₁ := Cert.ExchangeRef.S16x5120x1024) (s₂ := Cert.ExchangeRef.S16x5120x1024) 1 _ _ _ j rfl i (fun b => ?_)).trans
    (extractStridedSlice_apply _ v _ i k fun a => ?_)
  · fin_cases b <;> rfl
  · fin_cases a
    · show (k (0 : Fin 3)).val = 0 + (j (0 : Fin 3)).val
      omega
    · show (k (1 : Fin 3)).val = 10240 + (j (1 : Fin 3)).val
      omega
    · show (k (2 : Fin 3)).val = 0 + (j (2 : Fin 3)).val
      omega
theorem landAll_hi (v : Cert.ExchangeRef.S16x20480x1024.Idx → Elt F .f32) (j : Cert.ExchangeRef.S16x10240x1024.Idx) (k : Cert.ExchangeRef.S16x20480x1024.Idx)
    (h : 5120 ≤ (j (1 : Fin 3)).val) (h0 : (k (0 : Fin 3)).val = (j (0 : Fin 3)).val) (h1 : (k (1 : Fin 3)).val = (j (1 : Fin 3)).val)
    (h2 : (k (2 : Fin 3)).val = (j (2 : Fin 3)).val) : landAll v j = v k := by
  have hj : (j (1 : Fin 3)).val < 10240 := (j (1 : Fin 3)).isLt
  let i : Cert.ExchangeRef.S16x5120x1024.Idx := fun a => match a with
    | ⟨0, _⟩ => j (0 : Fin 3)
    | ⟨1, _⟩ => ⟨(j (1 : Fin 3)).val - 5120, by show _ < 5120; omega⟩
    | ⟨2, _⟩ => j (2 : Fin 3)
  refine (concatenate_pair_apply_right (s₁ := Cert.ExchangeRef.S16x5120x1024) (s₂ := Cert.ExchangeRef.S16x5120x1024) 1 _ _ _ j rfl rfl i (fun b hb => ?_) ?_).trans
    (extractStridedSlice_apply _ v _ i k fun a => ?_)
  · fin_cases b
    · rfl
    · exact absurd rfl hb
    · rfl
  · show (j (1 : Fin 3)).val - 5120 + 5120 = (j (1 : Fin 3)).val
    omega
  · fin_cases a
    · show (k (0 : Fin 3)).val = 0 + (j (0 : Fin 3)).val
      omega
    · show (k (1 : Fin 3)).val = 5120 + ((j (1 : Fin 3)).val - 5120)
      omega
    · show (k (2 : Fin 3)).val = 0 + (j (2 : Fin 3)).val
      omega

/-- The second result at an index: the two cores' columns have changed places. -/
theorem slandAll_lo (v : Cert.ExchangeRef.S1184x2048.Idx → Elt F .f32) (j k : Cert.ExchangeRef.S1184x2048.Idx)
    (h : (j (1 : Fin 2)).val < 1024) (h0 : (k (0 : Fin 2)).val = (j (0 : Fin 2)).val) (h1 : (k (1 : Fin 2)).val = 1024 + (j (1 : Fin 2)).val) :
    slandAll v j = v k := by
  let i : Cert.ExchangeRef.S1184x1024.Idx := fun a => match a with
    | ⟨0, _⟩ => j (0 : Fin 2)
    | ⟨1, _⟩ => ⟨(j (1 : Fin 2)).val, h⟩
  refine (concatenate_pair_apply_left (s₁ := Cert.ExchangeRef.S1184x1024) (s₂ := Cert.ExchangeRef.S1184x1024) 1 _ _ _ j rfl i (fun b => ?_)).trans
    (extractStridedSlice_apply _ v _ i k fun a => ?_)
  · fin_cases b <;> rfl
  · fin_cases a
    · show (k (0 : Fin 2)).val = 0 + (j (0 : Fin 2)).val
      omega
    · show (k (1 : Fin 2)).val = 1024 + (j (1 : Fin 2)).val
      omega
theorem slandAll_hi (v : Cert.ExchangeRef.S1184x2048.Idx → Elt F .f32) (j k : Cert.ExchangeRef.S1184x2048.Idx)
    (h : 1024 ≤ (j (1 : Fin 2)).val) (h0 : (k (0 : Fin 2)).val = (j (0 : Fin 2)).val) (h1 : (k (1 : Fin 2)).val + 1024 = (j (1 : Fin 2)).val) :
    slandAll v j = v k := by
  have hj : (j (1 : Fin 2)).val < 2048 := (j (1 : Fin 2)).isLt
  let i : Cert.ExchangeRef.S1184x1024.Idx := fun a => match a with
    | ⟨0, _⟩ => j (0 : Fin 2)
    | ⟨1, _⟩ => ⟨(j (1 : Fin 2)).val - 1024, by show _ < 1024; omega⟩
  refine (concatenate_pair_apply_right (s₁ := Cert.ExchangeRef.S1184x1024) (s₂ := Cert.ExchangeRef.S1184x1024) 1 _ _ _ j rfl rfl i (fun b hb => ?_) ?_).trans
    (extractStridedSlice_apply _ v _ i k fun a => ?_)
  · fin_cases b
    · rfl
    · exact absurd rfl hb
  · show (j (1 : Fin 2)).val - 1024 + 1024 = (j (1 : Fin 2)).val
    omega
  · fin_cases a
    · show (k (0 : Fin 2)).val = 0 + (j (0 : Fin 2)).val
      omega
    · show (k (1 : Fin 2)).val = 0 + ((j (1 : Fin 2)).val - 1024)
      omega

/-- The half device `d` sends, at an index: the rows from 5120 on if it is the first core, else the first rows. -/
theorem sent_read (d : Dev nD) (g : Buf (Elt F) ((bigM).view.loc (d : Thread nD τ))) (i : S4x5120x1024.Idx) (k : S4x10240x1024.Idx)
    (h0 : (k (0 : Fin 3)).val = (i (0 : Fin 3)).val) (h1 : (k (1 : Fin 3)).val = 5120 - 5120 * (d.val % 2) + (i (1 : Fin 3)).val)
    (h2 : (k (2 : Fin 3)).val = (i (2 : Fin 3)).val) : (sent d).view.read (Elt F) g i = g k := by
  have e : ((sent d).view.emb i : S4x10240x1024.Idx) = k := by
    funext a
    apply Fin.ext
    show k0_off1 d a + 1 * (i a).val = (k a).val
    rw [k0_off1_eq, one_mul]
    fin_cases a
    · show 0 + (i (0 : Fin 3)).val = (k (0 : Fin 3)).val
      omega
    · show 5120 - 5120 * (d.val % 2) + (i (1 : Fin 3)).val = (k (1 : Fin 3)).val
      omega
    · show 0 + (i (2 : Fin 3)).val = (k (2 : Fin 3)).val
      omega
  exact congrArg g e

/-- A device whose sibling starts with its block of an array ends with its own block of the reference's result. -/
theorem land_of (v : Cert.ExchangeRef.S16x20480x1024.Idx → Elt F .f32) (c : Dev nD) (g : Buf (Elt F) ((bigM).view.loc (peer c : Thread nD τ)))
    (h : g = Layout.blockN ⟨3, ![4, 10240, 1024]⟩ ⟨3, ![16, 20480, 1024]⟩ (Layout.meshBlock [2, 2, 2] ![[0, 1], [2], []] (peer c)) v) :
    (sent (peer c)).view.read (Elt F) g
      = Layout.blockN ⟨3, ![4, 5120, 1024]⟩ ⟨3, ![16, 10240, 1024]⟩ (Layout.meshBlock [2, 2, 2] ![[0, 1], [2], []] c) (landAll v) := by
  funext i
  have hi0 : (i (0 : Fin 3)).val < 4 := (i (0 : Fin 3)).isLt
  have hi1 : (i (1 : Fin 3)).val < 5120 := (i (1 : Fin 3)).isLt
  have hp := peer_val c
  have hc8 : c.val < 8 := c.isLt
  let k : S4x10240x1024.Idx := fun a => match a with
    | ⟨0, _⟩ => i (0 : Fin 3)
    | ⟨1, _⟩ => ⟨5120 - 5120 * ((peer c).val % 2) + (i (1 : Fin 3)).val, by show _ < 10240; omega⟩
    | ⟨2, _⟩ => i (2 : Fin 3)
  rw [sent_read (peer c) g i k rfl rfl rfl, h, Layout.blockN_apply, Layout.blockN_apply]
  by_cases hc : c.val % 2 = 0
  · refine (landAll_lo v _ _ ?_ ?_ ?_ ?_).symm
    · show (c.val / 1 % 2 * 1 + 0) * 5120 + (i (1 : Fin 3)).val < 5120
      omega
    · show ((peer c).val / 4 % 2 * 2 + ((peer c).val / 2 % 2 * 1 + 0)) * 4 + (i (0 : Fin 3)).val = (c.val / 4 % 2 * 2 + (c.val / 2 % 2 * 1 + 0)) * 4 + (i (0 : Fin 3)).val
      omega
    · show ((peer c).val / 1 % 2 * 1 + 0) * 10240 + (5120 - 5120 * ((peer c).val % 2) + (i (1 : Fin 3)).val) = 10240 + ((c.val / 1 % 2 * 1 + 0) * 5120 + (i (1 : Fin 3)).val)
      omega
    · rfl
  · refine (landAll_hi v _ _ ?_ ?_ ?_ ?_).symm
    · show 5120 ≤ (c.val / 1 % 2 * 1 + 0) * 5120 + (i (1 : Fin 3)).val
      omega
    · show ((peer c).val / 4 % 2 * 2 + ((peer c).val / 2 % 2 * 1 + 0)) * 4 + (i (0 : Fin 3)).val = (c.val / 4 % 2 * 2 + (c.val / 2 % 2 * 1 + 0)) * 4 + (i (0 : Fin 3)).val
      omega
    · show ((peer c).val / 1 % 2 * 1 + 0) * 10240 + (5120 - 5120 * ((peer c).val % 2) + (i (1 : Fin 3)).val) = (c.val / 1 % 2 * 1 + 0) * 5120 + (i (1 : Fin 3)).val
      omega
    · rfl

theorem sland_of (v : Cert.ExchangeRef.S1184x2048.Idx → Elt F .f32) (c : Dev nD) :
    (Layout.blockN ⟨2, ![296, 1024]⟩ ⟨2, ![1184, 2048]⟩ (Layout.meshBlock [2, 2, 2] ![[0, 1], [2]] (peer c)) v : S296x1024.Idx → Elt F .f32)
      = Layout.blockN ⟨2, ![296, 1024]⟩ ⟨2, ![1184, 2048]⟩ (Layout.meshBlock [2, 2, 2] ![[0, 1], [2]] c) (slandAll v) := by
  funext i
  have hi1 : (i (1 : Fin 2)).val < 1024 := (i (1 : Fin 2)).isLt
  have hp := peer_val c
  have hc8 : c.val < 8 := c.isLt
  rw [Layout.blockN_apply, Layout.blockN_apply]
  by_cases hc : c.val % 2 = 0
  · refine (slandAll_lo v _ _ ?_ ?_ ?_).symm
    · show (c.val / 1 % 2 * 1 + 0) * 1024 + (i (1 : Fin 2)).val < 1024
      omega
    · show ((peer c).val / 4 % 2 * 2 + ((peer c).val / 2 % 2 * 1 + 0)) * 296 + (i (0 : Fin 2)).val = (c.val / 4 % 2 * 2 + (c.val / 2 % 2 * 1 + 0)) * 296 + (i (0 : Fin 2)).val
      omega
    · show ((peer c).val / 1 % 2 * 1 + 0) * 1024 + (i (1 : Fin 2)).val = 1024 + ((c.val / 1 % 2 * 1 + 0) * 1024 + (i (1 : Fin 2)).val)
      omega
  · refine (slandAll_hi v _ _ ?_ ?_ ?_).symm
    · show 1024 ≤ (c.val / 1 % 2 * 1 + 0) * 1024 + (i (1 : Fin 2)).val
      omega
    · show ((peer c).val / 4 % 2 * 2 + ((peer c).val / 2 % 2 * 1 + 0)) * 296 + (i (0 : Fin 2)).val = (c.val / 4 % 2 * 2 + (c.val / 2 % 2 * 1 + 0)) * 296 + (i (0 : Fin 2)).val
      omega
    · show ((peer c).val / 1 % 2 * 1 + 0) * 1024 + (i (1 : Fin 2)).val + 1024 = (c.val / 1 % 2 * 1 + 0) * 1024 + (i (1 : Fin 2)).val
      omega

end Cert.ExchangeRun

namespace Cert.ExchangeProof

open Idealize.ShloMosaic Idealize.ShloMosaic.TcCoe
open Idealize.SL.Sem

/-- `Exchange` ends on all devices with its arguments unchanged and no count left. -/
theorem frame : Cert.quiescent_Exchange := fun m ρ _ =>
  (θ_run Cert.ExchangeIdeal.defs _ _).mono (fun _ h => ⟨fun c => (h.1 c).1, h.2⟩) (Cert.ExchangeRun.run_main (F := Bits) m ρ)

theorem frame_ideal : Cert.quiescent_ExchangeIdeal := fun m ρ _ =>
  (θ_run Cert.ExchangeIdeal.defs _ _).mono (fun _ h => ⟨fun c => (h.1 c).1, h.2⟩) (Cert.ExchangeRun.run_main (F := Ideal) m ρ)

theorem frame_ref : Cert.quiescent_ExchangeRef := fun m ρ _ =>
  (θ_run Cert.ExchangeRef.defs _ _).mono (fun r h => ⟨fun c => (h c).2.2, sem_eq_zero_of_no_sems (by decide) r.2⟩) (Cert.ExchangeRef.Value.run (F := Bits) m ρ)

theorem frame_ref_ideal : Cert.quiescent_ExchangeRefIdeal := fun m ρ _ =>
  (θ_run Cert.ExchangeRef.defs _ _).mono (fun r h => ⟨fun c => (h c).2.2, sem_eq_zero_of_no_sems (by decide) r.2⟩) (Cert.ExchangeRef.Value.run (F := Ideal) m ρ)

theorem algebraic : Cert.algebraic_ExchangeIdeal_ExchangeRefIdeal := fun m g m' g' _ hm =>
  ⟨_, _, (θ_run Cert.ExchangeIdeal.defs _ _).mono (fun r h c =>
      ⟨(h.1 c).2.1.trans (Cert.ExchangeRun.land_of _ c _ (hm (Cert.ExchangeRun.peer c)).1),
        ((h.1 c).2.2.trans (hm (Cert.ExchangeRun.peer c)).2).trans (Cert.ExchangeRun.sland_of _ c), (h.1 c).1⟩) (Cert.ExchangeRun.run_main (F := Ideal) m g),
    (θ_run Cert.ExchangeRef.defs _ _).mono (fun r h => h 0) (Cert.ExchangeRef.Value.run (F := Ideal) m' g')⟩

theorem bitexact : Cert.bitexact_Exchange_ExchangeRef := fun m g m' g' _ hm =>
  ⟨_, _, (θ_run Cert.ExchangeIdeal.defs _ _).mono (fun r h c =>
      ⟨(h.1 c).2.1.trans (Cert.ExchangeRun.land_of _ c _ (hm (Cert.ExchangeRun.peer c)).1),
        ((h.1 c).2.2.trans (hm (Cert.ExchangeRun.peer c)).2).trans (Cert.ExchangeRun.sland_of _ c), (h.1 c).1⟩) (Cert.ExchangeRun.run_main (F := Bits) m g),
    (θ_run Cert.ExchangeRef.defs _ _).mono (fun r h => h 0) (Cert.ExchangeRef.Value.run (F := Bits) m' g')⟩

end Cert.ExchangeProof

end
-- ==== Proof.Chips.Exchange.lean ====
/-
  The exchange of `Chips` (`_chip_exchange`): every device holds one block of a gradient for each chip, and the whole of the small
  gradients; it sends each of the three other chips (the device with its own core there) the block that is theirs, and its small
  gradients, into the slot named by its own chip. Twelve transfer cells a device: six sends, six landings. No buffer is handed
  over by a signal, so the launch deals each device the slots it is to write, on the three other chips.
-/
module

public import proofs.«01_k».proof.Proof.Links.Program
public import proofs.«01_k».proof.Proof.Links.Pieces
public import proofs.«01_k».proof.Proof.Gen.ChipsIdeal
public import proofs.«01_k».proof.Proof.Gen.ChipsIdeal.Skeleton
public import proofs.«01_k».proof.Proof.Gen.ChipsIdeal.Launch
public import Idealize.ShloMosaic.Lib.Exec.Geometry
public import Idealize.ShloMosaic.Lib.Pipeline.Frame

@[expose] public section

noncomputable section

namespace Cert.ChipsRun

open Cert.ChipsIdeal Cert.ChipsIdeal.Gen Links
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

variable (m : (ℓ : Loc nD τ sig) → Buf (Elt F) ℓ)

/-! ## The devices -/

/-- The same core of the three other chips. -/
def oth : Fin 3 → Dev nD → Dev nD
  | 0, c => ⟨k0_dev1 c, k0_dev1_lt c⟩
  | 1, c => ⟨k0_dev3 c, k0_dev3_lt c⟩
  | 2, c => ⟨k0_dev5 c, k0_dev5_lt c⟩

theorem oth_oth : ∀ (j : Fin 3) (c : Dev nD), oth j (oth j c) = c := by decide +kernel
theorem oth_chip : ∀ (j : Fin 3) (c : Dev nD), (oth j c).val / 2 ≠ c.val / 2 := by decide +kernel
theorem oth_chips : ∀ (i j : Fin 3) (c : Dev nD), i ≠ j → (oth i c).val / 2 ≠ (oth j c).val / 2 := by decide +kernel
theorem dev2 (c : Dev nD) : (⟨k0_dev2 c, k0_dev2_lt c⟩ : Dev nD) = oth 0 c := rfl
theorem dev4 (c : Dev nD) : (⟨k0_dev4 c, k0_dev4_lt c⟩ : Dev nD) = oth 1 c := rfl
theorem dev6 (c : Dev nD) : (⟨k0_dev6 c, k0_dev6_lt c⟩ : Dev nD) = oth 2 c := rfl

def cross (j : Fin 3) : Dev nD ≃ Dev nD := ⟨oth j, oth j, oth_oth j, oth_oth j⟩

/-! ## The blocks and the slots -/

abbrev gM : Memref sig .tc .hbm S4x5120x1024 .bf16 := Memref.whole main_arg0
abbrev sM : Memref sig .tc .hbm S296x1024 .f32 := Memref.whole main_arg2
abbrev lM : Memref sig .tc .hbm S4x5120x1024 .bf16 := Memref.whole main_v1_0
abbrev tM : Memref sig .tc .hbm S4x296x1024 .f32 := Memref.whole main_v1_1

/-- A chip's block of the gradient, a slot of the landing buffer, and a slot of the small landing buffer, at given offsets. -/
abbrev gpart (off : Fin 3 → ℕ) (h : ∀ a, off a + S1x5120x1024.size a ≤ S4x5120x1024.size a) : Memref sig .tc .hbm S5120x1024 .bf16 :=
  (gM.slice (Rect.unit (s := S4x5120x1024) off S1x5120x1024.size h) (fun _ => rfl)).squeeze S5120x1024 squeezes_S1x5120x1024_S5120x1024
abbrev lpart (off : Fin 3 → ℕ) (h : ∀ a, off a + S1x5120x1024.size a ≤ S4x5120x1024.size a) : Memref sig .tc .hbm S5120x1024 .bf16 :=
  (lM.slice (Rect.unit (s := S4x5120x1024) off S1x5120x1024.size h) (fun _ => rfl)).squeeze S5120x1024 squeezes_S1x5120x1024_S5120x1024
abbrev tpart (off : Fin 3 → ℕ) (h : ∀ a, off a + S1x296x1024.size a ≤ S4x296x1024.size a) : Memref sig .tc .hbm S296x1024 .f32 :=
  (tM.slice (Rect.unit (s := S4x296x1024) off S1x296x1024.size h) (fun _ => rfl)).squeeze S296x1024 squeezes_S1x296x1024_S296x1024
/-- The block for device `e`'s chip, and the slots device `e`'s chip fills. -/
abbrev blk (e : Dev nD) : Memref sig .tc .hbm S5120x1024 .bf16 := gpart (k0_off1 e) (k0_off1_inb e)
abbrev slot (e : Dev nD) : Memref sig .tc .hbm S5120x1024 .bf16 := lpart (k0_off1 e) (k0_off1_inb e)
abbrev tiny (e : Dev nD) : Memref sig .tc .hbm S296x1024 .f32 := tpart (k0_off3 e) (k0_off3_inb e)

theorem off2 : ∀ c : Dev nD, k0_off2 c = k0_off1 (oth 0 c) := by decide +kernel
theorem off4 : ∀ c : Dev nD, k0_off4 c = k0_off1 (oth 1 c) := by decide +kernel
theorem off5 : ∀ c : Dev nD, k0_off5 c = k0_off1 (oth 2 c) := by decide +kernel

theorem blk_set (e : Dev nD) : (blk e).view.set = (Rect.unit (s := S4x5120x1024) (k0_off1 e) S1x5120x1024.size (k0_off1_inb e)).set :=
  (View.set_reshape _ _).trans (View.set_slice_whole _ _)
theorem slot_set (e : Dev nD) : (slot e).view.set = (Rect.unit (s := S4x5120x1024) (k0_off1 e) S1x5120x1024.size (k0_off1_inb e)).set :=
  (View.set_reshape _ _).trans (View.set_slice_whole _ _)
theorem tiny_set (e : Dev nD) : (tiny e).view.set = (Rect.unit (s := S4x296x1024) (k0_off3 e) S1x296x1024.size (k0_off3_inb e)).set :=
  (View.set_reshape _ _).trans (View.set_slice_whole _ _)

/-- Blocks of different chips do not meet. -/
theorem rect_disjoint {d e : Dev nD} (h : d.val / 2 ≠ e.val / 2) :
    Disjoint (Rect.unit (s := S4x5120x1024) (k0_off1 d) S1x5120x1024.size (k0_off1_inb d)).set
      (Rect.unit (s := S4x5120x1024) (k0_off1 e) S1x5120x1024.size (k0_off1_inb e)).set := by
  have hd : d.val < 8 := d.isLt
  have he : e.val < 8 := e.isLt
  refine Rect.unit_disjoint (0 : Fin 3) ?_
  rw [k0_off1_eq, k0_off1_eq]
  show 2 * (d.val / 4) + ((d.val / 2) % 2) + 1 ≤ 2 * (e.val / 4) + ((e.val / 2) % 2) ∨ 2 * (e.val / 4) + ((e.val / 2) % 2) + 1 ≤ 2 * (d.val / 4) + ((d.val / 2) % 2)
  omega
theorem blk_disjoint {d e : Dev nD} (h : d.val / 2 ≠ e.val / 2) : Disjoint (blk d).view.set (blk e).view.set := by
  rw [blk_set, blk_set]; exact rect_disjoint h
theorem slot_disjoint {d e : Dev nD} (h : d.val / 2 ≠ e.val / 2) : Disjoint (slot d).view.set (slot e).view.set := by
  rw [slot_set, slot_set]; exact rect_disjoint h
theorem tiny_disjoint {d e : Dev nD} (h : d.val / 2 ≠ e.val / 2) : Disjoint (tiny d).view.set (tiny e).view.set := by
  rw [tiny_set, tiny_set]
  have hd : d.val < 8 := d.isLt
  have he : e.val < 8 := e.isLt
  refine Rect.unit_disjoint (0 : Fin 3) ?_
  rw [k0_off3_eq, k0_off3_eq]
  show 2 * (d.val / 4) + ((d.val / 2) % 2) + 1 ≤ 2 * (e.val / 4) + ((e.val / 2) % 2) ∨ 2 * (e.val / 4) + ((e.val / 2) % 2) + 1 ≤ 2 * (d.val / 4) + ((d.val / 2) % 2)
  omega

/-! ## Contents -/

abbrev gr (c : Dev nD) : Buf (Elt F) (gM.view.loc (c : Thread nD τ)) := m ((c : Thread nD τ).loc main_arg0)
abbrev sr (c : Dev nD) : Buf (Elt F) (sM.view.loc (c : Thread nD τ)) := m ((c : Thread nD τ).loc main_arg2)
/-- The landing buffers of device `c` with what device `e` sends in place. -/
abbrev put (c e : Dev nD) : Buf (Elt F) ((slot e).view.loc (c : Thread nD τ)) :=
  (slot e).view.write (Elt F) (m ((c : Thread nD τ).loc main_v1_0)) ((blk c).view.read (Elt F) (gr m e)) Finset.univ
abbrev putS (c e : Dev nD) : Buf (Elt F) ((tiny e).view.loc (c : Thread nD τ)) :=
  (tiny e).view.write (Elt F) (m ((c : Thread nD τ).loc main_v1_1)) (sM.view.read (Elt F) (sr m e)) Finset.univ

def blkPts (c e : Dev nD) : sProp 𝕄 := (blk e).view.loc (c : Thread nD τ) ↦[(blk e).view.set]{fullShare} gr m c
def smallPts (q : PosShare TreeShare) (c : Dev nD) : sProp 𝕄 := sM.view.loc (c : Thread nD τ) ↦[sM.view.set]{q} sr m c
def slotAt (c e : Dev nD) : sProp 𝕄 := (slot e).view.loc (c : Thread nD τ) ↦[(slot e).view.set]{fullShare} m ((c : Thread nD τ).loc main_v1_0)
def slotHas (c e : Dev nD) : sProp 𝕄 := (slot e).view.loc (c : Thread nD τ) ↦[(slot e).view.set]{fullShare} put m c e
def tinyAt (c e : Dev nD) : sProp 𝕄 := (tiny e).view.loc (c : Thread nD τ) ↦[(tiny e).view.set]{fullShare} m ((c : Thread nD τ).loc main_v1_1)
def tinyHas (c e : Dev nD) : sProp 𝕄 := (tiny e).view.loc (c : Thread nD τ) ↦[(tiny e).view.set]{fullShare} putS m c e

/-- A block by the offsets the program names it with. -/
theorem blkPts_off (c e : Dev nD) (off : Fin 3 → ℕ) (h : ∀ a, off a + S1x5120x1024.size a ≤ S4x5120x1024.size a) (he : off = k0_off1 e) :
    (blkPts m c e : sProp 𝕄) = ((gpart off h).view.loc (c : Thread nD τ) ↦[(gpart off h).view.set]{fullShare} gr m c) := by
  subst he; rfl
/-- What a block sent by `c` to `e` leaves there. -/
theorem landed_block (c e : Dev nD) (off : Fin 3 → ℕ) (h : ∀ a, off a + S1x5120x1024.size a ≤ S4x5120x1024.size a) (he : off = k0_off1 e) :
    ((slot c).view.loc (e : Thread nD τ) ↦[(slot c).view.set]{fullShare}
        ((slot c).view.write (Elt F) (m ((e : Thread nD τ).loc main_v1_0)) ((gpart off h).view.read (Elt F) (gr m c)) Finset.univ))
      ⊢ (slotHas m e c : sProp 𝕄) := by
  subst he
  exact Entails.of_eq rfl

/-- The shares of the small gradients that the three sends read. -/
abbrev shr : Fin 3 → PosShare TreeShare
  | 0 => fullShare.left
  | 1 => fullShare.right.left
  | 2 => fullShare.right.right

/-- What each landing hands its device. -/
def payOf (c : Dev nD) : Fin 12 → sProp 𝕄
  | 0 => blkPts m c (oth 0 c)
  | 1 => smallPts m (shr 0) c
  | 2 => blkPts m c (oth 1 c)
  | 3 => smallPts m (shr 1) c
  | 4 => blkPts m c (oth 2 c)
  | 5 => smallPts m (shr 2) c
  | 6 => slotHas m c (oth 0 c)
  | 7 => tinyHas m c (oth 0 c)
  | 8 => slotHas m c (oth 1 c)
  | 9 => tinyHas m c (oth 1 c)
  | 10 => slotHas m c (oth 2 c)
  | 11 => tinyHas m c (oth 2 c)

def lanes : Fin 12 → DmaSem sig := fun
  | 0 => ((cc0_scratch0.slice (Rect.unit (s := S6) ![0] S1.size inb_S6_S1_0)).squeeze S_ squeezes_S1_S_).sem
  | 1 => ((cc0_scratch0.slice (Rect.unit (s := S6) ![1] S1.size inb_S6_S1_1)).squeeze S_ squeezes_S1_S_).sem
  | 2 => ((cc0_scratch0.slice (Rect.unit (s := S6) ![2] S1.size inb_S6_S1_2)).squeeze S_ squeezes_S1_S_).sem
  | 3 => ((cc0_scratch0.slice (Rect.unit (s := S6) ![3] S1.size inb_S6_S1_3)).squeeze S_ squeezes_S1_S_).sem
  | 4 => ((cc0_scratch0.slice (Rect.unit (s := S6) ![4] S1.size inb_S6_S1_4)).squeeze S_ squeezes_S1_S_).sem
  | 5 => ((cc0_scratch0.slice (Rect.unit (s := S6) ![5] S1.size inb_S6_S1_5)).squeeze S_ squeezes_S1_S_).sem
  | 6 => ((cc0_scratch1.slice (Rect.unit (s := S6) ![0] S1.size inb_S6_S1_0)).squeeze S_ squeezes_S1_S_).sem
  | 7 => ((cc0_scratch1.slice (Rect.unit (s := S6) ![1] S1.size inb_S6_S1_1)).squeeze S_ squeezes_S1_S_).sem
  | 8 => ((cc0_scratch1.slice (Rect.unit (s := S6) ![2] S1.size inb_S6_S1_2)).squeeze S_ squeezes_S1_S_).sem
  | 9 => ((cc0_scratch1.slice (Rect.unit (s := S6) ![3] S1.size inb_S6_S1_3)).squeeze S_ squeezes_S1_S_).sem
  | 10 => ((cc0_scratch1.slice (Rect.unit (s := S6) ![4] S1.size inb_S6_S1_4)).squeeze S_ squeezes_S1_S_).sem
  | 11 => ((cc0_scratch1.slice (Rect.unit (s := S6) ![5] S1.size inb_S6_S1_5)).squeeze S_ squeezes_S1_S_).sem

abbrev N : ℕ := (blk (0 : Dev nD)).view.dmaCredit
abbrev M : ℕ := (sM : Memref sig .tc .hbm S296x1024 .f32).view.dmaCredit
def credits : Fin 12 → ℕ
  | 0 => N | 1 => M | 2 => N | 3 => M | 4 => N | 5 => M | 6 => N | 7 => M | 8 => N | 9 => M | 10 => N | 11 => M
theorem credits_pos (k : Fin 12) : 0 < credits k := by
  have hN : 0 < N := View.dmaCredit_pos _ (by decide)
  have hM : 0 < M := View.dmaCredit_pos _ (by decide)
  fin_cases k <;> first | exact hN | exact hM

/-- The landings still owed, from the last copy back to the first. -/
abbrev owed6 : Finset (Fin 12) := singleton 11
abbrev owed5 : Finset (Fin 12) := insert 10 owed6
abbrev owed4 : Finset (Fin 12) := insert 9 owed5
abbrev owed3 : Finset (Fin 12) := insert 8 owed4
abbrev owed2 : Finset (Fin 12) := insert 7 owed3
abbrev owed1 : Finset (Fin 12) := insert 6 owed2

/-- The plan. -/
def plan : Plan nD τ sig (Elt F) 12 where
  sem := lanes
  inj := by decide
  amt := credits
  pos := credits_pos
  tgt := fun
    | 0 => Equiv.refl _ | 1 => Equiv.refl _ | 2 => Equiv.refl _ | 3 => Equiv.refl _ | 4 => Equiv.refl _ | 5 => Equiv.refl _
    | 6 => cross 0 | 7 => cross 0 | 8 => cross 1 | 9 => cross 1 | 10 => cross 2 | 11 => cross 2
  far := owed1
  lev := fun _ => 0
  pay := payOf m
  sto := fun c k => by fin_cases k <;> (unfold payOf blkPts smallPts slotHas tinyHas; infer_instance)

theorem lanes_facts : Pipeline.OwnSemFacts cfg0.spec (fun k => SemLoc.dma (lanes k)) := by decide
theorem scoped_all (l : SemLoc sig) : l.isScoped Kind.tc = true := by revert l; decide

/-! ## The shares of the buffers -/

/-- The four buffers the exchange touches. -/
abbrev four : Finset (DevRef τ sig) :=
  {Proc.devRef .tc main_arg0, Proc.devRef .tc main_arg2, Proc.devRef .tc main_v1_0, Proc.devRef .tc main_v1_1}

/-- What the exchange leaves alone: the parts of the buffers that no copy reads or writes, and every other buffer. -/
def Keep (c : Dev nD) : sProp 𝕄 :=
  iprop((((c : Thread nD τ).loc main_arg0) ↦[beside (blk (oth 0 c)).view.set (blk (oth 1 c)).view.set (blk (oth 2 c)).view.set]{fullShare} m ((c : Thread nD τ).loc main_arg0))
    ∗ (((c : Thread nD τ).loc main_v1_0) ↦[beside (slot (oth 0 c)).view.set (slot (oth 1 c)).view.set (slot (oth 2 c)).view.set]{fullShare} m ((c : Thread nD τ).loc main_v1_0))
    ∗ (((c : Thread nD τ).loc main_v1_1) ↦[beside (tiny (oth 0 c)).view.set (tiny (oth 1 c)).view.set (tiny (oth 2 c)).view.set]{fullShare} m ((c : Thread nD τ).loc main_v1_1))
    ∗ StableHlo.held (c : Thread nD τ) (Pipeline.ucRefs τ sig \ four) (fun b => m (c, b)))

def Start (c : Dev nD) : sProp 𝕄 :=
  iprop((blkPts m c (oth 0 c) ∗ blkPts m c (oth 1 c) ∗ blkPts m c (oth 2 c)) ∗ (smallPts m (shr 0) c ∗ smallPts m (shr 1) c ∗ smallPts m (shr 2) c)
    ∗ (slotAt m (oth 0 c) c ∗ slotAt m (oth 1 c) c ∗ slotAt m (oth 2 c) c) ∗ (tinyAt m (oth 0 c) c ∗ tinyAt m (oth 1 c) c ∗ tinyAt m (oth 2 c) c) ∗ Keep m c)
def End (c : Dev nD) : sProp 𝕄 :=
  iprop((blkPts m c (oth 0 c) ∗ blkPts m c (oth 1 c) ∗ blkPts m c (oth 2 c)) ∗ (smallPts m (shr 0) c ∗ smallPts m (shr 1) c ∗ smallPts m (shr 2) c)
    ∗ (slotHas m c (oth 0 c) ∗ slotHas m c (oth 1 c) ∗ slotHas m c (oth 2 c)) ∗ (tinyHas m c (oth 0 c) ∗ tinyHas m c (oth 1 c) ∗ tinyHas m c (oth 2 c)) ∗ Keep m c)

theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep_far (Φ : Fin 12 → sProp 𝕄) : bigSep owed1 Φ = iprop(Φ 6 ∗ Φ 7 ∗ Φ 8 ∗ Φ 9 ∗ Φ 10 ∗ Φ 11) :=
  bigSep_eq_bigSepL_of_eq [6, 7, 8, 9, 10, 11] (by decide) (by decide) Φ

theorem four_sub : four ⊆ Pipeline.ucRefs τ sig := by
  intro b hb
  simp only [four, Finset.mem_insert, Finset.mem_singleton] at hb
  rcases hb with rfl | rfl | rfl | rfl <;> exact Finset.mem_filter.mpr ⟨StableHlo.devRef_mem_tcRefs _, by decide⟩

/-- The four buffers and the others. -/
theorem held_four (c : Dev nD) (V : Valuation τ sig (Elt F)) : (StableHlo.held (c : Thread nD τ) (Pipeline.ucRefs τ sig) V : sProp 𝕄)
    = iprop(((((c : Thread nD τ).loc main_arg0) ↦{fullShare} V main_arg0) ∗ (((c : Thread nD τ).loc main_arg2) ↦{fullShare} V main_arg2)
        ∗ (((c : Thread nD τ).loc main_v1_0) ↦{fullShare} V main_v1_0) ∗ ((c : Thread nD τ).loc main_v1_1) ↦{fullShare} V main_v1_1)
      ∗ StableHlo.held (c : Thread nD τ) (Pipeline.ucRefs τ sig \ four) V) := by
  rw [StableHlo.held_sub_split _ four_sub]
  congr 1
  unfold StableHlo.held
  exact bigSep_eq_bigSepL_of_eq [Proc.devRef .tc main_arg0, Proc.devRef .tc main_arg2, Proc.devRef .tc main_v1_0, Proc.devRef .tc main_v1_1] (by decide) (by decide) _

/-- The small gradients, shared out to the three sends. -/
theorem split_small (c : Dev nD) : (((c : Thread nD τ).loc main_arg2) ↦{fullShare} m ((c : Thread nD τ).loc main_arg2))
    ⊣⊢ (iprop(smallPts m (shr 0) c ∗ smallPts m (shr 1) c ∗ smallPts m (shr 2) c) : sProp 𝕄) := by
  unfold smallPts
  rw [show (sM : Memref sig .tc .hbm S296x1024 .f32).view.set = Finset.univ from View.set_whole _]
  constructor
  · iintro H
    ihave H := halve.1 $$ H
    icases H with ⟨H0, H⟩
    ihave H := halve.1 $$ H
    icases H with ⟨H1, H2⟩
    isplitl [H0]; · iexact H0
    isplitl [H1] <;> iassumption
  · iintro ⟨H0, H1, H2⟩
    iapply halve.2
    isplitl [H0]; · iexact H0
    iapply halve.2
    isplitl [H1] <;> iassumption

theorem blks_apart (c : Dev nD) {i j : Fin 3} (h : i ≠ j) : Disjoint (blk (oth i c)).view.set (blk (oth j c)).view.set := blk_disjoint (oth_chips i j c h)
theorem slots_apart (c : Dev nD) {i j : Fin 3} (h : i ≠ j) : Disjoint (slot (oth i c)).view.set (slot (oth j c)).view.set := slot_disjoint (oth_chips i j c h)
theorem tinies_apart (c : Dev nD) {i j : Fin 3} (h : i ≠ j) : Disjoint (tiny (oth i c)).view.set (tiny (oth j c)).view.set := tiny_disjoint (oth_chips i j c h)

/-- A device's buffers at launch: its blocks for the other chips, its small gradients, the slots the other chips are to fill, the rest. -/
theorem cut (c : Dev nD) : (unscopedBufs c (fun b => m ((c.tc : Thread nD τ).loc b)) : sProp 𝕄)
    ⊢ iprop((blkPts m c (oth 0 c) ∗ blkPts m c (oth 1 c) ∗ blkPts m c (oth 2 c)) ∗ (smallPts m (shr 0) c ∗ smallPts m (shr 1) c ∗ smallPts m (shr 2) c)
      ∗ (slotAt m c (oth 0 c) ∗ slotAt m c (oth 1 c) ∗ slotAt m c (oth 2 c)) ∗ (tinyAt m c (oth 0 c) ∗ tinyAt m c (oth 1 c) ∗ tinyAt m c (oth 2 c)) ∗ Keep m c) := by
  refine BIBase.Entails.trans (Entails.of_eq ((Pipeline.unscopedBufs_held (Ix := Unit) (Name := ℕ) (U := UU nD τ sig) (Lvl := ℕ) c (fun b => m (c, b))).trans
    (held_four c (fun b => m (c, b))))) ?_
  unfold Keep
  iintro ⟨⟨Hg, Hs, Hl, Ht⟩, Hr⟩
  ihave Hg := (carve_three (blks_apart c (show (0 : Fin 3) ≠ 1 by decide)) (blks_apart c (show (0 : Fin 3) ≠ 2 by decide)) (blks_apart c (show (1 : Fin 3) ≠ 2 by decide))).1 $$ Hg
  icases Hg with ⟨Hg0, Hg1, Hg2, Hg⟩
  ihave Hs := (split_small m c).1 $$ Hs
  ihave Hl := (carve_three (slots_apart c (show (0 : Fin 3) ≠ 1 by decide)) (slots_apart c (show (0 : Fin 3) ≠ 2 by decide)) (slots_apart c (show (1 : Fin 3) ≠ 2 by decide))).1 $$ Hl
  icases Hl with ⟨Hl0, Hl1, Hl2, Hl⟩
  ihave Ht := (carve_three (tinies_apart c (show (0 : Fin 3) ≠ 1 by decide)) (tinies_apart c (show (0 : Fin 3) ≠ 2 by decide)) (tinies_apart c (show (1 : Fin 3) ≠ 2 by decide))).1 $$ Ht
  icases Ht with ⟨Ht0, Ht1, Ht2, Ht⟩
  isplitl [Hg0 Hg1 Hg2]
  · unfold blkPts
    isplitl [Hg0]; · iexact Hg0
    isplitl [Hg1] <;> iassumption
  isplitl [Hs]; · iexact Hs
  isplitl [Hl0 Hl1 Hl2]
  · unfold slotAt
    isplitl [Hl0]; · iexact Hl0
    isplitl [Hl1] <;> iassumption
  isplitl [Ht0 Ht1 Ht2]
  · unfold tinyAt
    isplitl [Ht0]; · iexact Ht0
    isplitl [Ht1] <;> iassumption
  isplitl [Hg]; · iexact Hg
  isplitl [Hl]; · iexact Hl
  isplitl [Ht] <;> iassumption

/-- At launch the devices' buffers are dealt so that each holds the slots it is to write, on the other chips. -/
theorem start_intro : (bigSep Finset.univ fun c : Dev nD => (unscopedBufs c (fun b => m ((c.tc : Thread nD τ).loc b)) : sProp 𝕄))
    ⊢ bigSep Finset.univ (Start m) := by
  refine BIBase.Entails.trans (bigSep_mono fun c _ => cut m c) ?_
  unfold Start
  have hl (j : Fin 3) : (bigSep Finset.univ fun c : Dev nD => (slotAt m c (oth j c) : sProp 𝕄)) = bigSep Finset.univ fun c => slotAt m (oth j c) c :=
    (bigSep_univ_equiv (cross j) fun c : Dev nD => (slotAt m c (oth j c) : sProp 𝕄)).trans
      (bigSep_congr fun c _ => congrArg (slotAt m (oth j c)) (oth_oth j c))
  have ht (j : Fin 3) : (bigSep Finset.univ fun c : Dev nD => (tinyAt m c (oth j c) : sProp 𝕄)) = bigSep Finset.univ fun c => tinyAt m (oth j c) c :=
    (bigSep_univ_equiv (cross j) fun c : Dev nD => (tinyAt m c (oth j c) : sProp 𝕄)).trans
      (bigSep_congr fun c _ => congrArg (tinyAt m (oth j c)) (oth_oth j c))
  simp only [bigSep_sep', hl, ht]
  exact Entails.of_eq rfl

/-! ## The buffers after the exchange -/

/-- The landing buffers after the exchange: the other chips' slots as they were sent, the rest as launched. -/
def landing (c : Dev nD) : Buf (Elt F) ((c : Thread nD τ).loc main_v1_0) :=
  patched (slot (oth 0 c)).view.set (slot (oth 1 c)).view.set (slot (oth 2 c)).view.set (put m c (oth 0 c)) (put m c (oth 1 c)) (put m c (oth 2 c))
    (m ((c : Thread nD τ).loc main_v1_0))
def landingS (c : Dev nD) : Buf (Elt F) ((c : Thread nD τ).loc main_v1_1) :=
  patched (tiny (oth 0 c)).view.set (tiny (oth 1 c)).view.set (tiny (oth 2 c)).view.set (putS m c (oth 0 c)) (putS m c (oth 1 c)) (putS m c (oth 2 c))
    (m ((c : Thread nD τ).loc main_v1_1))

/-- A device's buffers after the exchange. -/
def V₁ (c : Dev nD) : Valuation τ sig (Elt F) :=
  Function.update (Function.update (fun b => m (c, b)) (Proc.devRef .tc main_v1_0) (landing m c)) (Proc.devRef .tc main_v1_1) (landingS m c)

theorem V₁_land (c : Dev nD) : V₁ m c main_v1_0 = landing m c :=
  (Function.update_of_ne (StableHlo.devRef_ne_of_ne (by decide)) _ _).trans (Function.update_self _ _ _)
theorem V₁_landS (c : Dev nD) : V₁ m c main_v1_1 = landingS m c := Function.update_self _ _ _
theorem V₁_of (c : Dev nD) {b : DevRef τ sig} (h : b ≠ Proc.devRef .tc main_v1_0) (h' : b ≠ Proc.devRef .tc main_v1_1) : V₁ m c b = m (c, b) :=
  (Function.update_of_ne h' _ _).trans (Function.update_of_ne h _ _)

/-- What the exchange ends with is every buffer whole. -/
theorem end_held (c : Dev nD) : (End m c : sProp 𝕄) ⊢ StableHlo.held (c : Thread nD τ) (Pipeline.ucRefs τ sig) (V₁ m c) := by
  rw [held_four, V₁_land, V₁_landS, V₁_of m c (StableHlo.devRef_ne_of_ne (by decide)) (StableHlo.devRef_ne_of_ne (by decide)),
    V₁_of m c (b := Proc.devRef .tc main_arg2) (StableHlo.devRef_ne_of_ne (by decide)) (StableHlo.devRef_ne_of_ne (by decide)),
    StableHlo.held_congr _ (V := V₁ m c) (V' := fun b => m (c, b)) (fun b hb => by
      have hn := (Finset.mem_sdiff.mp hb).2
      simp only [four, Finset.mem_insert, Finset.mem_singleton, not_or] at hn
      exact V₁_of m c hn.2.2.1 hn.2.2.2)]
  unfold End Keep
  iintro ⟨⟨Hg0, Hg1, Hg2⟩, Hs, ⟨Hl0, Hl1, Hl2⟩, ⟨Ht0, Ht1, Ht2⟩, ⟨Hg, Hl, Ht, Hr⟩⟩
  isplitr [Hr]
  · isplitl [Hg Hg0 Hg1 Hg2]
    · iapply (carve_three (blks_apart c (show (0 : Fin 3) ≠ 1 by decide)) (blks_apart c (show (0 : Fin 3) ≠ 2 by decide)) (blks_apart c (show (1 : Fin 3) ≠ 2 by decide))).2
      unfold blkPts
      isplitl [Hg0]; · iexact Hg0
      isplitl [Hg1]; · iexact Hg1
      isplitl [Hg2] <;> iassumption
    isplitl [Hs]; · iapply (split_small m c).2 $$ Hs
    isplitl [Hl Hl0 Hl1 Hl2]
    · unfold landing slotHas
      iapply (join_three (slots_apart c (show (0 : Fin 3) ≠ 1 by decide)) (slots_apart c (show (0 : Fin 3) ≠ 2 by decide)) (slots_apart c (show (1 : Fin 3) ≠ 2 by decide)))
      isplitl [Hl0]; · iexact Hl0
      isplitl [Hl1]; · iexact Hl1
      isplitl [Hl2] <;> iassumption
    unfold landingS tinyHas
    iapply (join_three (tinies_apart c (show (0 : Fin 3) ≠ 1 by decide)) (tinies_apart c (show (0 : Fin 3) ≠ 2 by decide)) (tinies_apart c (show (1 : Fin 3) ≠ 2 by decide)))
    isplitl [Ht0]; · iexact Ht0
    isplitl [Ht1]; · iexact Ht1
    isplitl [Ht2] <;> iassumption
  iexact Hr

/-! ## The body -/

set_option maxRecDepth 65536 in
/-- The body, from one device's share to what it ends with. -/
theorem body_run (c : Dev nD) (κ : GSem nD τ sig → ℕ) (W : Waits sig Unit) (Q : sProp 𝕄) :
    iprop(((plan m).records κ ∗ levAts (Plan.lvOn nD τ sig) (plan m).lv ∗ (plan m).hand c ∗ Start m c ∗ owes (c : Thread nD τ) ((plan m).owing c (plan m).far) W)
        ∗ (iprop(End m c ∗ (bigSep Finset.univ fun k => (plan m).done c k) ∗ ∃ W', owes (c : Thread nD τ) ((plan m).owing c ∅) W') -∗ Q))
      ⊢ wp frame (wpE (defs₀ (F := F)) Variants.none (c : Thread nD τ) none) Set.univ
        (cc0_grad_chip_exchange (Memref.whole main_arg0) (Memref.isWhole_whole _) (Memref.whole main_arg2) (Memref.isWhole_whole _) (Memref.whole main_v1_0) (Memref.isWhole_whole _) (Memref.whole main_v1_1) (Memref.isWhole_whole _) cc0_scratch0 cc0_scratch1) fun _ => Q := by
  simp only [cc0_grad_chip_exchange_eq_skeleton]
  unfold cc0_grad_chip_exchange_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold Plan.hand
  rw [bigSep_fin12, bigSep_fin12, show (plan m).far = owed1 from rfl, bigSep_far, bigSep_fin12]
  unfold Start smallPts slotAt tinyAt
  iintro ⟨⟨#HR, #Hlev, ⟨⟨Hn0, Hn1, Hn2, Hn3, Hn4, Hn5, Hn6, Hn7, Hn8, Hn9, Hn10, Hn11⟩, ⟨Ht0, Ht1, Ht2, Ht3, Ht4, Ht5, Ht6, Ht7, Ht8, Ht9, Ht10, Ht11⟩, ⟨Hc6, Hc7, Hc8, Hc9, Hc10, Hc11⟩⟩, ⟨⟨Hs0, Hs2, Hs4⟩, ⟨Hs1, Hs3, Hs5⟩, ⟨Hl0, Hl2, Hl4⟩, ⟨Hl1, Hl3, Hl5⟩, HK⟩, HO⟩, HQ⟩
  ihave Hs0 := (Entails.of_eq (blkPts_off m c (oth 0 c) (k0_off2 c) (k0_off2_inb c) (off2 c))) $$ Hs0
  iapply ((plan m).send_step c 0 Variants.none κ (k' := 6) (S := owed2) (c' := oth 0 c) rfl rfl rfl rfl (by decide : 6 ∉ owed2) rfl rfl (dst := slot c) (src := gpart (k0_off2 c) (k0_off2_inb c)) (fs := gr m c)
    (fd := m ((oth 0 c : Thread nD τ).loc main_v1_0)) (q := fullShare) (Entails.of_eq (blkPts_off m c (oth 0 c) (k0_off2 c) (k0_off2_inb c) (off2 c)).symm) (by
      show _ ⊢ slotHas m (oth 0 c) (oth 0 (oth 0 c))
      rw [oth_oth]; exact landed_block m c (oth 0 c) (k0_off2 c) (k0_off2_inb c) (off2 c))) $$ [Hs0 Hl0 Ht0 Ht6 HO]
  · isplitr; · iexact HR
    isplitl [Hs0]; · iexact Hs0
    isplitl [Hl0]; · iexact Hl0
    isplitl [Ht0]; · iexact Ht0
    isplitl [Ht6]; · iexact Ht6
    iexact HO
  iintro ⟨Hc0, HO⟩
  iapply ((plan m).send_step c 1 Variants.none κ (k' := 7) (S := owed3) (c' := oth 0 c) rfl rfl rfl rfl (by decide : 7 ∉ owed3) rfl rfl (dst := tiny c) (src := sM) (fs := sr m c)
    (fd := m ((oth 0 c : Thread nD τ).loc main_v1_1)) (q := shr 0) (Entails.of_eq rfl) (by
      show _ ⊢ tinyHas m (oth 0 c) (oth 0 (oth 0 c))
      rw [oth_oth]; exact Entails.of_eq rfl)) $$ [Hs1 Hl1 Ht1 Ht7 HO]
  · isplitr; · iexact HR
    isplitl [Hs1]; · iexact Hs1
    isplitl [Hl1]; · iexact Hl1
    isplitl [Ht1]; · iexact Ht1
    isplitl [Ht7]; · iexact Ht7
    iexact HO
  iintro ⟨Hc1, HO⟩
  ihave Hs2 := (Entails.of_eq (blkPts_off m c (oth 1 c) (k0_off4 c) (k0_off4_inb c) (off4 c))) $$ Hs2
  iapply ((plan m).send_step c 2 Variants.none κ (k' := 8) (S := owed4) (c' := oth 1 c) rfl rfl rfl rfl (by decide : 8 ∉ owed4) rfl rfl (dst := slot c) (src := gpart (k0_off4 c) (k0_off4_inb c)) (fs := gr m c)
    (fd := m ((oth 1 c : Thread nD τ).loc main_v1_0)) (q := fullShare) (Entails.of_eq (blkPts_off m c (oth 1 c) (k0_off4 c) (k0_off4_inb c) (off4 c)).symm) (by
      show _ ⊢ slotHas m (oth 1 c) (oth 1 (oth 1 c))
      rw [oth_oth]; exact landed_block m c (oth 1 c) (k0_off4 c) (k0_off4_inb c) (off4 c))) $$ [Hs2 Hl2 Ht2 Ht8 HO]
  · isplitr; · iexact HR
    isplitl [Hs2]; · iexact Hs2
    isplitl [Hl2]; · iexact Hl2
    isplitl [Ht2]; · iexact Ht2
    isplitl [Ht8]; · iexact Ht8
    iexact HO
  iintro ⟨Hc2, HO⟩
  iapply ((plan m).send_step c 3 Variants.none κ (k' := 9) (S := owed5) (c' := oth 1 c) rfl rfl rfl rfl (by decide : 9 ∉ owed5) rfl rfl (dst := tiny c) (src := sM) (fs := sr m c)
    (fd := m ((oth 1 c : Thread nD τ).loc main_v1_1)) (q := shr 1) (Entails.of_eq rfl) (by
      show _ ⊢ tinyHas m (oth 1 c) (oth 1 (oth 1 c))
      rw [oth_oth]; exact Entails.of_eq rfl)) $$ [Hs3 Hl3 Ht3 Ht9 HO]
  · isplitr; · iexact HR
    isplitl [Hs3]; · iexact Hs3
    isplitl [Hl3]; · iexact Hl3
    isplitl [Ht3]; · iexact Ht3
    isplitl [Ht9]; · iexact Ht9
    iexact HO
  iintro ⟨Hc3, HO⟩
  ihave Hs4 := (Entails.of_eq (blkPts_off m c (oth 2 c) (k0_off5 c) (k0_off5_inb c) (off5 c))) $$ Hs4
  iapply ((plan m).send_step c 4 Variants.none κ (k' := 10) (S := owed6) (c' := oth 2 c) rfl rfl rfl rfl (by decide : 10 ∉ owed6) rfl rfl (dst := slot c) (src := gpart (k0_off5 c) (k0_off5_inb c)) (fs := gr m c)
    (fd := m ((oth 2 c : Thread nD τ).loc main_v1_0)) (q := fullShare) (Entails.of_eq (blkPts_off m c (oth 2 c) (k0_off5 c) (k0_off5_inb c) (off5 c)).symm) (by
      show _ ⊢ slotHas m (oth 2 c) (oth 2 (oth 2 c))
      rw [oth_oth]; exact landed_block m c (oth 2 c) (k0_off5 c) (k0_off5_inb c) (off5 c))) $$ [Hs4 Hl4 Ht4 Ht10 HO]
  · isplitr; · iexact HR
    isplitl [Hs4]; · iexact Hs4
    isplitl [Hl4]; · iexact Hl4
    isplitl [Ht4]; · iexact Ht4
    isplitl [Ht10]; · iexact Ht10
    iexact HO
  iintro ⟨Hc4, HO⟩
  iapply ((plan m).send_step c 5 Variants.none κ (k' := 11) (S := ∅) (c' := oth 2 c) rfl rfl rfl rfl (Finset.notMem_empty _) rfl rfl (dst := tiny c) (src := sM) (fs := sr m c)
    (fd := m ((oth 2 c : Thread nD τ).loc main_v1_1)) (q := shr 2) (Entails.of_eq rfl) (by
      show _ ⊢ tinyHas m (oth 2 c) (oth 2 (oth 2 c))
      rw [oth_oth]; exact Entails.of_eq rfl)) $$ [Hs5 Hl5 Ht5 Ht11 HO]
  · isplitr; · iexact HR
    isplitl [Hs5]; · iexact Hs5
    isplitl [Hl5]; · iexact Hl5
    isplitl [Ht5]; · iexact Ht5
    isplitl [Ht11]; · iexact Ht11
    iexact HO
  iintro ⟨Hc5, HO⟩
  iapply ((plan m).wait_step c 0 Variants.none κ (S := ∅) rfl rfl (fun _ h => absurd h (Finset.notMem_empty _))) $$ [Hc0 Hn0 HO]
  · isplitr; · iexact HR
    isplitr; · iexact Hlev
    isplitl [Hc0]; · iexact Hc0
    isplitl [Hn0]; · iexact Hn0
    iexact HO
  iintro ⟨Hp0, Hd0, HO⟩
  iapply ((plan m).wait_step c 6 Variants.none κ (S := ∅) rfl rfl (fun _ h => absurd h (Finset.notMem_empty _))) $$ [Hc6 Hn6 HO]
  · isplitr; · iexact HR
    isplitr; · iexact Hlev
    isplitl [Hc6]; · iexact Hc6
    isplitl [Hn6]; · iexact Hn6
    iexact HO
  iintro ⟨Hp6, Hd6, HO⟩
  iapply ((plan m).wait_step c 1 Variants.none κ (S := ∅) rfl rfl (fun _ h => absurd h (Finset.notMem_empty _))) $$ [Hc1 Hn1 HO]
  · isplitr; · iexact HR
    isplitr; · iexact Hlev
    isplitl [Hc1]; · iexact Hc1
    isplitl [Hn1]; · iexact Hn1
    iexact HO
  iintro ⟨Hp1, Hd1, HO⟩
  iapply ((plan m).wait_step c 7 Variants.none κ (S := ∅) rfl rfl (fun _ h => absurd h (Finset.notMem_empty _))) $$ [Hc7 Hn7 HO]
  · isplitr; · iexact HR
    isplitr; · iexact Hlev
    isplitl [Hc7]; · iexact Hc7
    isplitl [Hn7]; · iexact Hn7
    iexact HO
  iintro ⟨Hp7, Hd7, HO⟩
  iapply ((plan m).wait_step c 2 Variants.none κ (S := ∅) rfl rfl (fun _ h => absurd h (Finset.notMem_empty _))) $$ [Hc2 Hn2 HO]
  · isplitr; · iexact HR
    isplitr; · iexact Hlev
    isplitl [Hc2]; · iexact Hc2
    isplitl [Hn2]; · iexact Hn2
    iexact HO
  iintro ⟨Hp2, Hd2, HO⟩
  iapply ((plan m).wait_step c 8 Variants.none κ (S := ∅) rfl rfl (fun _ h => absurd h (Finset.notMem_empty _))) $$ [Hc8 Hn8 HO]
  · isplitr; · iexact HR
    isplitr; · iexact Hlev
    isplitl [Hc8]; · iexact Hc8
    isplitl [Hn8]; · iexact Hn8
    iexact HO
  iintro ⟨Hp8, Hd8, HO⟩
  iapply ((plan m).wait_step c 3 Variants.none κ (S := ∅) rfl rfl (fun _ h => absurd h (Finset.notMem_empty _))) $$ [Hc3 Hn3 HO]
  · isplitr; · iexact HR
    isplitr; · iexact Hlev
    isplitl [Hc3]; · iexact Hc3
    isplitl [Hn3]; · iexact Hn3
    iexact HO
  iintro ⟨Hp3, Hd3, HO⟩
  iapply ((plan m).wait_step c 9 Variants.none κ (S := ∅) rfl rfl (fun _ h => absurd h (Finset.notMem_empty _))) $$ [Hc9 Hn9 HO]
  · isplitr; · iexact HR
    isplitr; · iexact Hlev
    isplitl [Hc9]; · iexact Hc9
    isplitl [Hn9]; · iexact Hn9
    iexact HO
  iintro ⟨Hp9, Hd9, HO⟩
  iapply ((plan m).wait_step c 4 Variants.none κ (S := ∅) rfl rfl (fun _ h => absurd h (Finset.notMem_empty _))) $$ [Hc4 Hn4 HO]
  · isplitr; · iexact HR
    isplitr; · iexact Hlev
    isplitl [Hc4]; · iexact Hc4
    isplitl [Hn4]; · iexact Hn4
    iexact HO
  iintro ⟨Hp4, Hd4, HO⟩
  iapply ((plan m).wait_step c 10 Variants.none κ (S := ∅) rfl rfl (fun _ h => absurd h (Finset.notMem_empty _))) $$ [Hc10 Hn10 HO]
  · isplitr; · iexact HR
    isplitr; · iexact Hlev
    isplitl [Hc10]; · iexact Hc10
    isplitl [Hn10]; · iexact Hn10
    iexact HO
  iintro ⟨Hp10, Hd10, HO⟩
  iapply ((plan m).wait_step c 5 Variants.none κ (S := ∅) rfl rfl (fun _ h => absurd h (Finset.notMem_empty _))) $$ [Hc5 Hn5 HO]
  · isplitr; · iexact HR
    isplitr; · iexact Hlev
    isplitl [Hc5]; · iexact Hc5
    isplitl [Hn5]; · iexact Hn5
    iexact HO
  iintro ⟨Hp5, Hd5, HO⟩
  iapply ((plan m).wait_step c 11 Variants.none κ (S := ∅) rfl rfl (fun _ h => absurd h (Finset.notMem_empty _))) $$ [Hc11 Hn11 HO]
  · isplitr; · iexact HR
    isplitr; · iexact Hlev
    isplitl [Hc11]; · iexact Hc11
    isplitl [Hn11]; · iexact Hn11
    iexact HO
  iintro ⟨Hp11, Hd11, HO⟩
  rw [wp_ret]
  imodintro
  iapply HQ
  unfold End
  ihave Hp0 := (Entails.of_eq (show (plan m).pay c 0 = blkPts m c (oth 0 c) from rfl)) $$ Hp0
  ihave Hp1 := (Entails.of_eq (show (plan m).pay c 1 = smallPts m (shr 0) c from rfl)) $$ Hp1
  ihave Hp2 := (Entails.of_eq (show (plan m).pay c 2 = blkPts m c (oth 1 c) from rfl)) $$ Hp2
  ihave Hp3 := (Entails.of_eq (show (plan m).pay c 3 = smallPts m (shr 1) c from rfl)) $$ Hp3
  ihave Hp4 := (Entails.of_eq (show (plan m).pay c 4 = blkPts m c (oth 2 c) from rfl)) $$ Hp4
  ihave Hp5 := (Entails.of_eq (show (plan m).pay c 5 = smallPts m (shr 2) c from rfl)) $$ Hp5
  ihave Hp6 := (Entails.of_eq (show (plan m).pay c 6 = slotHas m c (oth 0 c) from rfl)) $$ Hp6
  ihave Hp7 := (Entails.of_eq (show (plan m).pay c 7 = tinyHas m c (oth 0 c) from rfl)) $$ Hp7
  ihave Hp8 := (Entails.of_eq (show (plan m).pay c 8 = slotHas m c (oth 1 c) from rfl)) $$ Hp8
  ihave Hp9 := (Entails.of_eq (show (plan m).pay c 9 = tinyHas m c (oth 1 c) from rfl)) $$ Hp9
  ihave Hp10 := (Entails.of_eq (show (plan m).pay c 10 = slotHas m c (oth 2 c) from rfl)) $$ Hp10
  ihave Hp11 := (Entails.of_eq (show (plan m).pay c 11 = tinyHas m c (oth 2 c) from rfl)) $$ Hp11
  isplitl [HK Hp0 Hp1 Hp2 Hp3 Hp4 Hp5 Hp6 Hp7 Hp8 Hp9 Hp10 Hp11]
  · isplitl [Hp0 Hp2 Hp4]
    · isplitl [Hp0]; · iexact Hp0
      isplitl [Hp2] <;> iassumption
    isplitl [Hp1 Hp3 Hp5]
    · isplitl [Hp1]; · iexact Hp1
      isplitl [Hp3] <;> iassumption
    isplitl [Hp6 Hp8 Hp10]
    · isplitl [Hp6]; · iexact Hp6
      isplitl [Hp8] <;> iassumption
    isplitl [Hp7 Hp9 Hp11]
    · isplitl [Hp7]; · iexact Hp7
      isplitl [Hp9] <;> iassumption
    iexact HK
  isplitr [HO]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    iexact Hd11
  iexists _; iexact HO

end Cert.ChipsRun

end
-- ==== Proof.Links.Tables.lean ====
/-
  A kernel region whose pipeline reads small tables, the tables on each device being that device's own: a segment of @main
  that is entered with a set of buffers held at a valuation, and left with the same buffers at that valuation updated at the
  region's arrays. The region's invariant is no more than the tables and the scratch buffers no window stages.
-/
module

public import Idealize.ShloMosaic.Lib.Pipeline.RegionArraysTS

@[expose] public section

noncomputable section

namespace Links

open Idealize.ShloMosaic Idealize.ShloMosaic.TcCoe Idealize.ShloMosaic.Pipeline
open Idealize.SL Idealize.SL.RA
open Idealize.SL.BI (sProp bigSep bigSep_congr bigSep_map)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {R : Type} [Fintype R] (pcs : R → PCfg sig Λ₀ Val) (a : Dev nD → (r : R) → (pcs r).Adm)
  (pdats : (r : R) → (c : Dev nD) → Dat τ Val Ix Name U Lvl (pinD pcs a c r) c) (ι : Ix)
  (defs₀ : Defs nD τ sig Val Λ₀) (𝒱₀ : Variants)
  (L : GSem nD τ sig → Finset Ix) (lv : GSem nD τ sig → Ix → Lvl) (p : R)

local notation "𝕄" => MT nD τ sig Ix Val Name U Lvl

/-- The tables of pipeline `p` on device `c`, whole. -/
abbrev tables (c : Dev nD) : sProp 𝕄 := prefHeld (pcs p).pre c (fun _ => fullShare) (a c p).1

/-- The buffers of `S` that the region neither stages nor reads as tables. -/
abbrev bystanders (S : Finset (DevRef τ sig)) : Finset (DevRef τ sig) := (S \ arrRefs (pcs p).spec) \ tblRefs (pcs p).pre

omit [Fintype R] [Preorder Lvl] in
/-- The arrays of the region on device `c`, as buffers held at a valuation that agrees with their contents. -/
theorem arrays_as_held (kit : PLaunchFacts (nD := nD) (τ := τ) pcs p) (c : Dev nD) (hshare : ∀ w, (pdats p c).share w = fullShare)
    (G : (w : Fin (pinD pcs a c p).W) → Buf Val (((pinD pcs a c p).win w).arr.view.loc (c.tc : Thread nD τ))) (V : Valuation τ sig Val)
    (hG : ∀ w, G w = V (Proc.devRef .tc (arrRef (pcs p).spec w))) :
    ((pdats p c).arrays G : sProp 𝕄) = StableHlo.held (c.tc : Thread nD τ) (arrRefs (pcs p).spec) V := by
  have himg : Finset.univ.image (arrRef (pcs p).spec) = Finset.univ.map ⟨arrRef (pcs p).spec, kit.win.arr_inj⟩ :=
    (Finset.map_eq_image ⟨arrRef (pcs p).spec, kit.win.arr_inj⟩ Finset.univ).symm
  refine (PerCore.arrays_eq (pinD pcs a) pdats p c kit.arr_whole hshare G).trans ?_
  unfold StableHlo.held arrRefs
  rw [bigSep_map, himg, bigSep_map]
  exact bigSep_congr fun w _ => congrArg _ (hG w)

omit [Fintype R] in
/-- A set of buffers that has the region's arrays and tables, at a valuation `V`, is the three: arrays, tables, bystanders — also
    when the bystanders are read at another valuation that agrees with `V` off the arrays. -/
theorem held_in_three (kit : PLaunchFacts (nD := nD) (τ := τ) pcs p) {S : Finset (DevRef τ sig)} (hS : arrRefs (pcs p).spec ⊆ S)
    (hS' : tblRefs (pcs p).pre ⊆ S) (c : Dev nD) (V V' : Valuation τ sig Val) (h : ∀ b ∈ S \ arrRefs (pcs p).spec, V b = V' b) :
    (StableHlo.held (c.tc : Thread nD τ) S V : sProp 𝕄) = iprop(StableHlo.held (c.tc : Thread nD τ) (arrRefs (pcs p).spec) V
      ∗ StableHlo.held (c.tc : Thread nD τ) (tblRefs (pcs p).pre) V' ∗ StableHlo.held (c.tc : Thread nD τ) (bystanders pcs p S) V') := by
  rw [StableHlo.held_sub_split (c.tc : Thread nD τ) hS V, StableHlo.held_congr (c.tc : Thread nD τ) h,
    StableHlo.held_sub_split (c.tc : Thread nD τ) (tblRefs_sub_sdiff (pcs p).spec (pcs p).pre kit.pre.disj hS') V']

set_option backward.isDefEq.respectTransparency.types false in
/-- THE SEGMENT: entered with `S` held at `V c`, left with `S` held at `V c` updated at the region's arrays. -/
def tableSeg (S : Finset (DevRef τ sig)) (kit : PLaunchFacts (nD := nD) (τ := τ) pcs p) (hS : arrRefs (pcs p).spec ⊆ S) (hS' : tblRefs (pcs p).pre ⊆ S)
    (hbody : ∀ c, BodyObligationLoose (pdats p c) defs₀ 𝒱₀ ι Set.univ)
    (howed : ∀ c t, (pdats p c).owed t = 0) (hrec : ∀ c, (pdats p c).recorded 0 = Set.univ) (hshare : ∀ c w, (pdats p c).share w = fullShare)
    (hΦ : ∀ c t, (pdats p c).Φ t = iprop(tables pcs a p c ∗ scopedRest (pcs p).spec c))
    (V : Dev nD → Valuation τ sig Val)
    (hA : ∀ c w, (pdats p c).arrAt w 0 = V c (Proc.devRef .tc (arrRef (pcs p).spec w)))
    (hT : ∀ c k, (a c p).1 k = V c (Proc.devRef .tc ((pcs p).pre.ref k))) :
    PerCore.RegionSeg pcs a pdats ι defs₀ 𝒱₀ L lv p where
  win := kit.win.to₀
  block_pos := kit.block_pos
  stage_whole := kit.stage_whole
  K := PEmpty
  osem k := k.elim
  ho := OwnSemFacts.none _
  hbody := hbody
  hwaits c := PerCore.hwaits_of_owed_zero pcs a pdats ι L lv p howed c
  pre c := iprop(StableHlo.held (c.tc : Thread nD τ) S (V c) ∗ ∃ W, owes (c.tc : Thread nD τ) (0 : CellTallies nD τ sig Ix) W)
  post c := iprop(StableHlo.held (c.tc : Thread nD τ) S (afterRegion (pdats p c) (V c)) ∗ ∃ W, owes (c.tc : Thread nD τ) (0 : CellTallies nD τ sig Ix) W)
  X _ := BI.emp
  Y c := tables pcs a p c
  Z c := StableHlo.held (c.tc : Thread nD τ) (bystanders pcs p S) (V c)
  hentry c := by
    rw [ownSems0_none, held_in_three pcs p kit hS hS' c (V c) (V c) (fun _ _ => rfl)]
    iintro ⟨⟨⟨Ha, Ht, Hz⟩, ⟨%W, HO⟩⟩, -, -⟩
    imodintro
    isplitl [Ha]
    · iapply (Entails.of_eq (arrays_as_held pcs a pdats p kit c (hshare c) _ (V c) (hA c)).symm); iexact Ha
    isplitl [Ht]
    · iapply (Entails.of_eq (prefHeld_held (pcs p).pre kit.pre.inj c (a c p).1 (V c) (hT c)).symm); iexact Ht
    isplitl [HO]
    · unfold Dat.owesAt owesWithin Dat.bound
      rw [howed c 0, hrec c]
      iexists W
      isplitr; · ipureintro; exact fun _ _ => Or.inl trivial
      iexact HO
    isplitr; · iempintro
    iexact Hz
  hin c := by
    rw [hΦ]
    iintro ⟨-, Ht, Hr⟩
    isplitl [Ht] <;> iassumption
  hout c := by
    rw [hΦ, ownSems0_none]
    iintro ⟨Ht, Hr⟩
    isplitl [Ht]; · iexact Ht
    isplitr; · iempintro
    iexact Hr
  hexit c := by
    rw [held_in_three pcs p kit hS hS' c (afterRegion (pdats p c) (V c)) (V c) (afterRegion_off (pdats p c) (V c) S)]
    iintro ⟨Ha, HO, Ht, Hz⟩
    imodintro
    isplitl [Ha Ht Hz]
    · isplitl [Ha]
      · iapply (Entails.of_eq (arrays_as_held pcs a pdats p kit c (hshare c) _ (afterRegion (pdats p c) (V c))
          (fun w => (afterRegion_arr (pdats p c) (V c) kit.win.arr_inj w).symm))); iexact Ha
      isplitl [Ht]
      · iapply (Entails.of_eq (prefHeld_held (pcs p).pre kit.pre.inj c (a c p).1 (V c) (hT c))); iexact Ht
      iexact Hz
    unfold Dat.owesAt owesWithin
    rw [howed c (Fin.last _)]
    icases HO with ⟨%W, -, HO⟩
    iexists W; iexact HO

end Links

end
-- ==== Proof.Chips.Sums.lean ====
/-
  The two sums over the chips of `Chips` (`_chip_sum`): each adds, in the order of the chips, a device's own part and the parts in
  its landing buffer, the place of its own part read from a table that says which chip the device is on.
-/
module

public import proofs.«01_k».proof.Proof.Links.Tables
public import proofs.«01_k».proof.Proof.Links.Once
public import proofs.«01_k».proof.Proof.Gen.ChipsIdeal
public import proofs.«01_k».proof.Proof.Gen.ChipsIdeal.Skeleton
public import proofs.«01_k».proof.Proof.Gen.ChipsIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ChipsRun

open Cert.ChipsIdeal Cert.ChipsIdeal.Gen Links
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-! ## The bodies -/

/-- Where the table holds the number of the chip. -/
def at1 : S2.Idx := fun | 0 => ⟨1, by decide⟩

abbrev r1 : Rect S512x1024 := Rect.unit (s := S512x1024) ![0, 0] S512x1024.size inb_S512x1024_S512x1024_0_0
abbrev r2 : Rect S296x1024 := Rect.unit (s := S296x1024) ![0, 0] S296x1024.size inb_S296x1024_S296x1024_0_0

/-- What the first sum stores, from the number of the chip, the own part and the parts in the landing buffer. -/
def total1 (w : BitVec 32) (x : Vec F S512x1024 .f32) (y : Vec F S4x512x1024 .bf16) : Vec F S512x1024 .f32 :=
  View.canon [⟨r1, k1_pay1
    (k1_pay2 w (View.ld x r1) (View.ld y (Rect.unit (s := S4x512x1024) ![0, 0, 0] S1x512x1024.size inb_S4x512x1024_S1x512x1024_0_0_0))
      (View.ld x r1) (View.ld y (Rect.unit (s := S4x512x1024) ![1, 0, 0] S1x512x1024.size inb_S4x512x1024_S1x512x1024_1_0_0))
      (View.ld x r1) (View.ld y (Rect.unit (s := S4x512x1024) ![2, 0, 0] S1x512x1024.size inb_S4x512x1024_S1x512x1024_2_0_0)))
    (k1_pay3 w (View.ld x r1) (View.ld y (Rect.unit (s := S4x512x1024) ![3, 0, 0] S1x512x1024.size inb_S4x512x1024_S1x512x1024_3_0_0)))⟩]

theorem covers1 (q : Vec F S512x1024 .f32) (y : S512x1024.Idx) : ∃ pc ∈ ([⟨r1, q⟩] : List (View.Piece (Elt F) S512x1024 .f32)), y ∈ pc.1.set :=
  View.cover_of_tiled [⟨r1, q⟩] S512x1024.size (by rfl) y

set_option maxHeartbeats 1000000 in
/-- The first sum runs, from the table, the own part and the landing buffer, to what `total1` says. -/
theorem sum1 (c : Dev nD) (E : Set ℕ) (i : grid1.Coords) (arg1 : Memref sig .tc .smem S2 .i32) (harg1 : arg1.IsWhole) (arg2 : Memref sig .tc .vmem S512x1024 .f32) (harg2 : arg2.IsWhole) (arg3 : Memref sig .tc .vmem S4x512x1024 .bf16) (harg3 : arg3.IsWhole) (arg4 : Memref sig .tc .vmem S512x1024 .f32) (harg4 : arg4.IsWhole)
    (T : Vec F S2 .i32) (x : Vec F S512x1024 .f32) (y : Vec F S4x512x1024 .bf16) (K : PUnit → sProp 𝕄) :
    iprop(owns (c : Thread nD τ) arg1 fullShare T ∗ owns (c : Thread nD τ) arg2 fullShare x ∗ owns (c : Thread nD τ) arg3 fullShare y ∗ (∃ d, owns (c : Thread nD τ) arg4 fullShare d)
        ∗ (iprop(owns (c : Thread nD τ) arg1 fullShare T ∗ owns (c : Thread nD τ) arg2 fullShare x ∗ owns (c : Thread nD τ) arg3 fullShare y ∗ owns (c : Thread nD τ) arg4 fullShare (total1 (T at1) x y)) -∗ K ⟨⟩))
      ⊢ wp frame (wpE (defs₀ (F := F)) Variants.none c none) E (cc1_grad_chip_sum i arg1 harg1 arg2 harg2 arg3 harg3 arg4 harg4) K := by
  simp only [cc1_grad_chip_sum_eq_skeleton]; unfold cc1_grad_chip_sum_skel
  unfold owns
  iintro ⟨⟨%fT, %hfT, HT⟩, ⟨%f0, %hf0, H0⟩, ⟨%f1, %hf1, H1⟩, ⟨%d2, %f2, -, H2⟩, Hk⟩
  subst hfT hf0 hf1
  sl_exec
  sl_step
  iapply Hk
  isplitl [HT]
  · iexists fT; isplitr; · ipureintro; rfl
    iexact HT
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (covers1 _)).trans ?_
  have hw : sum1.sl.r c arg1 fT = arg1.view.read (Elt F) fT at1 := by
    unfold sum1.sl.r
    exact congrArg (arg1.view.read (Elt F) fT) (funext fun a => by fin_cases a; rfl)
  unfold sum1.sl.r_1 sum1.sl.r_2 total1
  rw [hw]
  rfl

/-- What the second sum stores. -/
def total2 (w : BitVec 32) (x : Vec F S296x1024 .f32) (y : Vec F S4x296x1024 .f32) : Vec F S296x1024 .f32 :=
  View.canon [⟨r2,
    k2_pay1 w (View.ld x r2) (View.ld y (Rect.unit (s := S4x296x1024) ![0, 0, 0] S1x296x1024.size inb_S4x296x1024_S1x296x1024_0_0_0))
      (View.ld x r2) (View.ld y (Rect.unit (s := S4x296x1024) ![1, 0, 0] S1x296x1024.size inb_S4x296x1024_S1x296x1024_1_0_0))
      (View.ld x r2) (View.ld y (Rect.unit (s := S4x296x1024) ![2, 0, 0] S1x296x1024.size inb_S4x296x1024_S1x296x1024_2_0_0))
      (View.ld x r2) (View.ld y (Rect.unit (s := S4x296x1024) ![3, 0, 0] S1x296x1024.size inb_S4x296x1024_S1x296x1024_3_0_0))⟩]

theorem covers2 (q : Vec F S296x1024 .f32) (y : S296x1024.Idx) : ∃ pc ∈ ([⟨r2, q⟩] : List (View.Piece (Elt F) S296x1024 .f32)), y ∈ pc.1.set :=
  View.cover_of_tiled [⟨r2, q⟩] S296x1024.size (by rfl) y

set_option maxHeartbeats 1000000 in
/-- The second sum runs, from the table, the own part and the landing buffer, to what `total2` says. -/
theorem sum2 (c : Dev nD) (E : Set ℕ) (i : grid2.Coords) (arg1 : Memref sig .tc .smem S2 .i32) (harg1 : arg1.IsWhole) (arg2 : Memref sig .tc .vmem S296x1024 .f32) (harg2 : arg2.IsWhole) (arg3 : Memref sig .tc .vmem S4x296x1024 .f32) (harg3 : arg3.IsWhole) (arg4 : Memref sig .tc .vmem S296x1024 .f32) (harg4 : arg4.IsWhole)
    (T : Vec F S2 .i32) (x : Vec F S296x1024 .f32) (y : Vec F S4x296x1024 .f32) (K : PUnit → sProp 𝕄) :
    iprop(owns (c : Thread nD τ) arg1 fullShare T ∗ owns (c : Thread nD τ) arg2 fullShare x ∗ owns (c : Thread nD τ) arg3 fullShare y ∗ (∃ d, owns (c : Thread nD τ) arg4 fullShare d)
        ∗ (iprop(owns (c : Thread nD τ) arg1 fullShare T ∗ owns (c : Thread nD τ) arg2 fullShare x ∗ owns (c : Thread nD τ) arg3 fullShare y ∗ owns (c : Thread nD τ) arg4 fullShare (total2 (T at1) x y)) -∗ K ⟨⟩))
      ⊢ wp frame (wpE (defs₀ (F := F)) Variants.none c none) E (cc2_grad_small_chip_sum i arg1 harg1 arg2 harg2 arg3 harg3 arg4 harg4) K := by
  simp only [cc2_grad_small_chip_sum_eq_skeleton]; unfold cc2_grad_small_chip_sum_skel
  unfold owns
  iintro ⟨⟨%fT, %hfT, HT⟩, ⟨%f0, %hf0, H0⟩, ⟨%f1, %hf1, H1⟩, ⟨%d2, %f2, -, H2⟩, Hk⟩
  subst hfT hf0 hf1
  sl_exec
  sl_step
  iapply Hk
  isplitl [HT]
  · iexists fT; isplitr; · ipureintro; rfl
    iexact HT
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (covers2 _)).trans ?_
  have hw : sum2.sl.r c arg1 fT = arg1.view.read (Elt F) fT at1 := by
    unfold sum2.sl.r
    exact congrArg (arg1.view.read (Elt F) fT) (funext fun a => by fin_cases a; rfl)
  unfold sum2.sl.r_1 total2
  rw [hw]
  rfl

/-! ## The regions' data -/

/-- The table, whole, as the bodies read it. -/
theorem table_owned (c : Dev nD) (G : pre1.Contents (Elt F)) :
    (Pipeline.prefHeld pre1 c (fun _ => fullShare) G : sProp 𝕄) ⊣⊢ owns (c : Thread nD τ) (Memref.whole main_v18) fullShare (G 0) := by
  have h : (Pipeline.prefHeld pre1 c (fun _ => fullShare) G : sProp 𝕄) = iprop(((c : Thread nD τ).loc main_v18) ↦{fullShare} G 0) :=
    bigSep_univ_eq_bigSepL [(0 : Fin 1)] (by decide) (by decide) _
  rw [h]
  unfold owns
  rw [View.set_whole]
  constructor
  · iintro H
    iexists G 0
    isplitr; · ipureintro; rfl
    iexact H
  · iintro ⟨%f, %hf, H⟩
    obtain rfl : f = G 0 := hf
    iexact H

section Region1

variable (a : (pcfg1 (F := F)).Adm) (V : Valuation τ sig (Elt F)) (c : Dev nD)

/-- A window's block at a point, read off its array. -/
def part1 (w : Fin 3) (t : Fin (cfg1 a).N) : ((win1 a w).xblock ((cfg1 a).grid.coords t)).Idx → Elt F (win1 a w).elt :=
  ((win1 a w).blk t).view.read (Elt F) (V (Proc.devRef .tc (Pipeline.arrRef spec1 w)))

/-- The first sum's proof data: the own part and the landing buffer are left as they are, the sum is what `total1` says. -/
def dat1 : Pipeline.Dat τ (Elt F) Unit ℕ (UU nD τ sig) ℕ (cfg1 a) c where
  A w := V (Proc.devRef .tc (Pipeline.arrRef spec1 w))
  after w t := match w with
    | ⟨0, _⟩ => part1 a V 0 t
    | ⟨1, _⟩ => part1 a V 1 t
    | ⟨2, _⟩ => total1 (a.1 0 at1) (part1 a V 0 t) (part1 a V 1 t)
  Φ _ := iprop(Pipeline.prefHeld pre1 c (fun _ => fullShare) a.1 ∗ Pipeline.scopedRest spec1 c)
  q _ := fullShare
  owed _ := 0

theorem after1_0 (t : Fin (cfg1 a).N) : (dat1 a V c).after 0 t = part1 a V 0 t := rfl
theorem after1_1 (t : Fin (cfg1 a).N) : (dat1 a V c).after 1 t = part1 a V 1 t := rfl
theorem after1_2 (t : Fin (cfg1 a).N) : (dat1 a V c).after 2 t = total1 (a.1 0 at1) (part1 a V 0 t) (part1 a V 1 t) := by
  show (dat1 a V c).after (⟨2, by decide⟩ : Fin 3) t = _
  dsimp only [dat1]
theorem before1_0 (t : Fin (cfg1 a).N) (d) : (dat1 a V c).before 0 t d = part1 a V 0 t :=
  ((dat1 a V c).before_in_eq_fetched 0 rfl (fun _ => rfl) (fun _ _ _ => rfl) (fun t => by rw [after1_0]; rfl) t d).trans rfl
theorem before1_1 (t : Fin (cfg1 a).N) (d) : (dat1 a V c).before 1 t d = part1 a V 1 t :=
  ((dat1 a V c).before_in_eq_fetched 1 rfl (fun _ => rfl) (fun _ _ _ => rfl) (fun t => by rw [after1_1]; rfl) t d).trans rfl

/-- The first sum at a point, as the region runs it. -/
abbrev at_point1 (t : Fin (cfg1 a).N) : Prog (TpuEff nD τ sig (Elt F) Λ₀ .tc) PUnit :=
  cc1_grad_chip_sum (grid1.coords t) (Memref.whole main_v18) (Memref.isWhole_whole _) (spec1_0.stage ((cfg1 a).slots t 0)) (hstage1_0 (((cfg1 a).slots t 0).cast nbuf1_0))
    (spec1_1.stage ((cfg1 a).slots t 1)) (hstage1_1 (((cfg1 a).slots t 1).cast nbuf1_1)) (spec1_2.stage ((cfg1 a).slots t 2)) (hstage1_2 (((cfg1 a).slots t 2).cast nbuf1_2))

theorem point1 (t : Fin (cfg1 a).N) :
    iprop((dat1 a V c).Φ t.castSucc ∗ (dat1 a V c).owesAt () t.castSucc
      ∗ (∃ d, owns (c : Thread nD τ) ((win1 a 0).stage ((cfg1 a).slots t 0)) fullShare ((dat1 a V c).before 0 t d))
      ∗ (∃ d, owns (c : Thread nD τ) ((win1 a 1).stage ((cfg1 a).slots t 1)) fullShare ((dat1 a V c).before 1 t d))
      ∗ (∃ d, owns (c : Thread nD τ) ((win1 a 2).stage ((cfg1 a).slots t 2)) fullShare ((dat1 a V c).before 2 t d)))
    ⊢ wp frame (wpE (defs₀ (F := F)) Variants.none c none) Set.univ (at_point1 a t) (fun _ =>
      iprop((dat1 a V c).Φ t.succ ∗ (dat1 a V c).owesAt () t.succ
        ∗ owns (c : Thread nD τ) ((win1 a 0).stage ((cfg1 a).slots t 0)) fullShare ((dat1 a V c).after 0 t)
        ∗ owns (c : Thread nD τ) ((win1 a 1).stage ((cfg1 a).slots t 1)) fullShare ((dat1 a V c).after 1 t)
        ∗ owns (c : Thread nD τ) ((win1 a 2).stage ((cfg1 a).slots t 2)) fullShare ((dat1 a V c).after 2 t))) := by
  simp only [before1_0, before1_1]
  rw [after1_0, after1_1, after1_2]
  rw [show (dat1 a V c).Φ t.succ = iprop(Pipeline.prefHeld pre1 c (fun _ => fullShare) a.1 ∗ Pipeline.scopedRest spec1 c) from rfl,
    show (dat1 a V c).Φ t.castSucc = iprop(Pipeline.prefHeld pre1 c (fun _ => fullShare) a.1 ∗ Pipeline.scopedRest spec1 c) from rfl,
    show (dat1 a V c).owesAt () t.succ = (dat1 a V c).owesAt () t.castSucc from rfl]
  iintro ⟨⟨HT, HΦ⟩, Ho, ⟨%d0, H0⟩, ⟨%d1, H1⟩, ⟨%d2, H2⟩⟩
  ihave HT := (table_owned c a.1).1 $$ HT
  iapply (sum1 c Set.univ (grid1.coords t) _ _ _ _ _ _ _ _ (a.1 0) (part1 a V 0 t) (part1 a V 1 t) _)
  isplitl [HT]; · iexact HT
  isplitl [H0]; · iexact H0
  isplitl [H1]; · iexact H1
  isplitl [H2]; · iexists _; iexact H2
  iintro ⟨HT, H0, H1, H2⟩
  ihave HT := (table_owned c a.1).2 $$ HT
  isplitl [HT HΦ]; · isplitl [HT] <;> iassumption
  isplitl [Ho]; · iexact Ho
  isplitl [H0]; · iexact H0
  isplitl [H1]; · iexact H1
  iexact H2

theorem row1 (t : Fin (cfg1 a).N) : defs₀ (F := F) .tc (cfg1 a).body ((cfg1 a).bodyArgs t ((cfg1 a).slots t)) = at_point1 a t := by
  unfold defs₀; rw [Defs.onTc_tc]

theorem body1 : Pipeline.BodyObligation (dat1 a V c) (defs₀ (F := F)) Variants.none () Set.univ := fun t => by
  rw [bigSep_W1, bigSep_W1, row1]
  exact triple_restated (point1 a V c t) rfl .rfl fun _ => .rfl

end Region1

section Region2

variable (a : (pcfg2 (F := F)).Adm) (V : Valuation τ sig (Elt F)) (c : Dev nD)

/-- A window's block at a point, read off its array. -/
def part2 (w : Fin 3) (t : Fin (cfg2 a).N) : ((win2 a w).xblock ((cfg2 a).grid.coords t)).Idx → Elt F (win2 a w).elt :=
  ((win2 a w).blk t).view.read (Elt F) (V (Proc.devRef .tc (Pipeline.arrRef spec2 w)))

/-- The second sum's proof data: the own part and the landing buffer are left as they are, the sum is what `total2` says. -/
def dat2 : Pipeline.Dat τ (Elt F) Unit ℕ (UU nD τ sig) ℕ (cfg2 a) c where
  A w := V (Proc.devRef .tc (Pipeline.arrRef spec2 w))
  after w t := match w with
    | ⟨0, _⟩ => part2 a V 0 t
    | ⟨1, _⟩ => part2 a V 1 t
    | ⟨2, _⟩ => total2 (a.1 0 at1) (part2 a V 0 t) (part2 a V 1 t)
  Φ _ := iprop(Pipeline.prefHeld pre2 c (fun _ => fullShare) a.1 ∗ Pipeline.scopedRest spec2 c)
  q _ := fullShare
  owed _ := 0

theorem after2_0 (t : Fin (cfg2 a).N) : (dat2 a V c).after 0 t = part2 a V 0 t := rfl
theorem after2_1 (t : Fin (cfg2 a).N) : (dat2 a V c).after 1 t = part2 a V 1 t := rfl
theorem after2_2 (t : Fin (cfg2 a).N) : (dat2 a V c).after 2 t = total2 (a.1 0 at1) (part2 a V 0 t) (part2 a V 1 t) := by
  show (dat2 a V c).after (⟨2, by decide⟩ : Fin 3) t = _
  dsimp only [dat2]
theorem before2_0 (t : Fin (cfg2 a).N) (d) : (dat2 a V c).before 0 t d = part2 a V 0 t :=
  ((dat2 a V c).before_in_eq_fetched 0 rfl (fun _ => rfl) (fun _ _ _ => rfl) (fun t => by rw [after2_0]; rfl) t d).trans rfl
theorem before2_1 (t : Fin (cfg2 a).N) (d) : (dat2 a V c).before 1 t d = part2 a V 1 t :=
  ((dat2 a V c).before_in_eq_fetched 1 rfl (fun _ => rfl) (fun _ _ _ => rfl) (fun t => by rw [after2_1]; rfl) t d).trans rfl

/-- The second sum at a point, as the region runs it. -/
abbrev at_point2 (t : Fin (cfg2 a).N) : Prog (TpuEff nD τ sig (Elt F) Λ₀ .tc) PUnit :=
  cc2_grad_small_chip_sum (grid2.coords t) (Memref.whole main_v18) (Memref.isWhole_whole _) (spec2_0.stage ((cfg2 a).slots t 0)) (hstage2_0 (((cfg2 a).slots t 0).cast nbuf2_0))
    (spec2_1.stage ((cfg2 a).slots t 1)) (hstage2_1 (((cfg2 a).slots t 1).cast nbuf2_1)) (spec2_2.stage ((cfg2 a).slots t 2)) (hstage2_2 (((cfg2 a).slots t 2).cast nbuf2_2))

theorem point2 (t : Fin (cfg2 a).N) :
    iprop((dat2 a V c).Φ t.castSucc ∗ (dat2 a V c).owesAt () t.castSucc
      ∗ (∃ d, owns (c : Thread nD τ) ((win2 a 0).stage ((cfg2 a).slots t 0)) fullShare ((dat2 a V c).before 0 t d))
      ∗ (∃ d, owns (c : Thread nD τ) ((win2 a 1).stage ((cfg2 a).slots t 1)) fullShare ((dat2 a V c).before 1 t d))
      ∗ (∃ d, owns (c : Thread nD τ) ((win2 a 2).stage ((cfg2 a).slots t 2)) fullShare ((dat2 a V c).before 2 t d)))
    ⊢ wp frame (wpE (defs₀ (F := F)) Variants.none c none) Set.univ (at_point2 a t) (fun _ =>
      iprop((dat2 a V c).Φ t.succ ∗ (dat2 a V c).owesAt () t.succ
        ∗ owns (c : Thread nD τ) ((win2 a 0).stage ((cfg2 a).slots t 0)) fullShare ((dat2 a V c).after 0 t)
        ∗ owns (c : Thread nD τ) ((win2 a 1).stage ((cfg2 a).slots t 1)) fullShare ((dat2 a V c).after 1 t)
        ∗ owns (c : Thread nD τ) ((win2 a 2).stage ((cfg2 a).slots t 2)) fullShare ((dat2 a V c).after 2 t))) := by
  simp only [before2_0, before2_1]
  rw [after2_0, after2_1, after2_2]
  rw [show (dat2 a V c).Φ t.succ = iprop(Pipeline.prefHeld pre2 c (fun _ => fullShare) a.1 ∗ Pipeline.scopedRest spec2 c) from rfl,
    show (dat2 a V c).Φ t.castSucc = iprop(Pipeline.prefHeld pre2 c (fun _ => fullShare) a.1 ∗ Pipeline.scopedRest spec2 c) from rfl,
    show (dat2 a V c).owesAt () t.succ = (dat2 a V c).owesAt () t.castSucc from rfl]
  iintro ⟨⟨HT, HΦ⟩, Ho, ⟨%d0, H0⟩, ⟨%d1, H1⟩, ⟨%d2, H2⟩⟩
  ihave HT := (table_owned c a.1).1 $$ HT
  iapply (sum2 c Set.univ (grid2.coords t) _ _ _ _ _ _ _ _ (a.1 0) (part2 a V 0 t) (part2 a V 1 t) _)
  isplitl [HT]; · iexact HT
  isplitl [H0]; · iexact H0
  isplitl [H1]; · iexact H1
  isplitl [H2]; · iexists _; iexact H2
  iintro ⟨HT, H0, H1, H2⟩
  ihave HT := (table_owned c a.1).2 $$ HT
  isplitl [HT HΦ]; · isplitl [HT] <;> iassumption
  isplitl [Ho]; · iexact Ho
  isplitl [H0]; · iexact H0
  isplitl [H1]; · iexact H1
  iexact H2

theorem row2 (t : Fin (cfg2 a).N) : defs₀ (F := F) .tc (cfg2 a).body ((cfg2 a).bodyArgs t ((cfg2 a).slots t)) = at_point2 a t := by
  unfold defs₀; rw [Defs.onTc_tc]

theorem body2 : Pipeline.BodyObligation (dat2 a V c) (defs₀ (F := F)) Variants.none () Set.univ := fun t => by
  rw [bigSep_W2, bigSep_W2, row2]
  exact triple_restated (point2 a V c t) rfl .rfl fun _ => .rfl

end Region2

end Cert.ChipsRun

end
-- ==== Proof.Chips.Run.lean ====
/-
  The whole program `Chips`: the exchange over the chips, the table that says which chip a device is on, and the two sums over the
  chips, each entered with what the one before it left.
-/
module

public import proofs.«01_k».proof.Proof.Chips.Exchange
public import proofs.«01_k».proof.Proof.Chips.Sums
public import Idealize.ShloMosaic.Lib.Pipeline.Regions

@[expose] public section

noncomputable section

namespace Cert.ChipsRun

open Cert.ChipsIdeal Cert.ChipsIdeal.Gen Links
open Idealize.ShloMosaic Idealize.ShloMosaic.TcCoe
open Idealize.ShloMosaic.Pipeline (pinD)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

local notation "𝕄" => MT nD τ sig Unit (Elt F) ℕ (UU nD τ sig) ℕ

/-! ## The buffers between the program's parts -/

/-- The buffers once the table is computed. -/
def V₂ (c : Dev nD) : Valuation τ sig (Elt F) := StableHlo.after (hostOps1 c) (V₁ m c)

/-- The tables each region reads on each device: the exchange none, the sums the one that was computed there. -/
def adm (c : Dev nD) : (p : Fin 3) → (pcfgs (F := F) p).Adm
  | ⟨0, _⟩ => cfg0.toPCfg_adm
  | ⟨1, _⟩ => ⟨fun k => V₂ m c (Proc.devRef .tc (pre1.ref k)), trivial⟩
  | ⟨2, _⟩ => ⟨fun k => V₂ m c (Proc.devRef .tc (pre2.ref k)), trivial⟩
  | ⟨_ + 3, h⟩ => absurd h (by omega)

/-- The buffers after the first sum. -/
def V₃ (c : Dev nD) : Valuation τ sig (Elt F) := Pipeline.afterRegion (dat1 (adm m c 1) (V₂ m c) c) (V₂ m c)

/-- The buffers after the second sum. -/
def V₄ (c : Dev nD) : Valuation τ sig (Elt F) := Pipeline.afterRegion (dat2 (adm m c 2) (V₃ m c) c) (V₃ m c)

instance no_window (c : Dev nD) : IsEmpty (Fin (pinD (pcfgs (F := F)) (adm m) c 0).W) := Fin.isEmpty'

/-- The three regions' data. -/
def dats : (p : Fin 3) → (c : Dev nD) → Pipeline.Dat τ (Elt F) Unit ℕ (UU nD τ sig) ℕ (pinD (pcfgs (F := F)) (adm m) c p) c
  | ⟨0, _⟩, c => onceDat (plan m) (pcfgs (F := F)) (adm m) 0 (Start m) (End m) c
  | ⟨1, _⟩, c => dat1 (adm m c 1) (V₂ m c) c
  | ⟨2, _⟩, c => dat2 (adm m c 2) (V₃ m c) c
  | ⟨_ + 3, h⟩, _ => absurd h (by omega)

/-- No two staging semaphores of the program are the same cell. -/
theorem cells_apart : Function.Injective (Pipeline.PerCore.cellOf (nD := nD) (τ := τ) (pinD (pcfgs (F := F)) (adm m))) := by
  have htab : ∀ (c : Dev nD) (p : Fin 3), Pipeline.specSems (pinD (pcfgs (F := F)) (adm m) c p).spec = semTab p := fun c p =>
    match p with
    | ⟨0, _⟩ => rfl
    | ⟨1, _⟩ => rfl
    | ⟨2, _⟩ => rfl
  exact Pipeline.PerCore.cellOf_injective (pinD (pcfgs (F := F)) (adm m))
    (fun c p => Pipeline.specSemsDistinct_of_nodup _ ((htab c p).symm ▸ semsDistinct p)) fun c p p' h =>
    Pipeline.specSemsDisjoint_of_disjoint _ _
      ((htab c p).symm ▸ (htab c p').symm ▸ fun _ hd hd' => List.forall_iff_forall_mem.1 (semsDisjoint p p' h) _ hd hd')

/-- The buffers no region uses as scratch. -/
abbrev held (c : Dev nD) (V : Valuation τ sig (Elt F)) : sProp 𝕄 := StableHlo.held (c.tc : Thread nD τ) (Pipeline.ucRefs τ sig) V

/-- No landing is owed. -/
abbrev settled (c : Dev nD) : sProp 𝕄 := iprop(∃ W, owes (c.tc : Thread nD τ) (0 : CellTallies nD τ sig Unit) W)

theorem arrays1 : Pipeline.arrRefs spec1 ⊆ Pipeline.ucRefs τ sig := by decide
theorem tables1 : Pipeline.tblRefs pre1 ⊆ Pipeline.ucRefs τ sig := by decide
theorem arrays2 : Pipeline.arrRefs spec2 ⊆ Pipeline.ucRefs τ sig := by decide
theorem tables2 : Pipeline.tblRefs pre2 ⊆ Pipeline.ucRefs τ sig := by decide
theorem table_apart : ∀ (k : Fin 1) (w : Fin 3), Pipeline.arrRef spec1 w = pre2.ref k → (spec1 w).isOut = false := by decide
theorem share1 (a : (pcfg1 (F := F)).Adm) (V : Valuation τ sig (Elt F)) (c : Dev nD) (w) : (dat1 a V c).share w = fullShare := by
  unfold Pipeline.Dat.share; exact ite_self _
theorem share2 (a : (pcfg2 (F := F)).Adm) (V : Valuation τ sig (Elt F)) (c : Dev nD) (w) : (dat2 a V c).share w = fullShare := by
  unfold Pipeline.Dat.share; exact ite_self _

/-- The first sum as a part of @main. -/
def seg1 : Pipeline.PerCore.RegionSeg (pcfgs (F := F)) (adm m) (dats m) () defs₀ Variants.none (Plan.lvOn nD τ sig) (plan m).lv 1 :=
  tableSeg (pcfgs (F := F)) (adm m) (dats m) () defs₀ Variants.none (Plan.lvOn nD τ sig) (plan m).lv 1 (Pipeline.ucRefs τ sig) launch1 arrays1 tables1
    (fun c => (body1 (adm m c 1) (V₂ m c) c).loose) (fun _ _ => rfl) (fun _ => rfl) (fun c w => share1 _ _ c w) (fun _ _ => rfl) (V₂ m)
    (fun _ _ => rfl) (fun _ _ => rfl)

theorem V₃_of (c : Dev nD) (r : Ref sig .tc) (h : ∀ w, Pipeline.arrRef spec1 w = r → (spec1 w).isOut = false) :
    V₃ m c (Proc.devRef .tc r) = V₂ m c (Proc.devRef .tc r) :=
  Pipeline.afterRegion_keeps (dat1 (adm m c 1) (V₂ m c) c) (V₂ m c) winFacts1.arr_inj (fun _ => rfl) r h

theorem V₄_of (c : Dev nD) (r : Ref sig .tc) (h : ∀ w, Pipeline.arrRef spec2 w = r → (spec2 w).isOut = false) :
    V₄ m c (Proc.devRef .tc r) = V₃ m c (Proc.devRef .tc r) :=
  Pipeline.afterRegion_keeps (dat2 (adm m c 2) (V₃ m c) c) (V₃ m c) winFacts2.arr_inj (fun _ => rfl) r h

/-- The second sum as a part of @main. -/
def seg2 : Pipeline.PerCore.RegionSeg (pcfgs (F := F)) (adm m) (dats m) () defs₀ Variants.none (Plan.lvOn nD τ sig) (plan m).lv 2 :=
  tableSeg (pcfgs (F := F)) (adm m) (dats m) () defs₀ Variants.none (Plan.lvOn nD τ sig) (plan m).lv 2 (Pipeline.ucRefs τ sig) launch2 arrays2 tables2
    (fun c => (body2 (adm m c 2) (V₃ m c) c).loose) (fun _ _ => rfl) (fun _ => rfl) (fun c w => share2 _ _ c w) (fun _ _ => rfl) (V₃ m)
    (fun _ _ => rfl) (fun c k => (V₃_of m c (pre2.ref k) (table_apart k)).symm)

/-- The host's part, on device `c`. -/
def hostSeg (c : Dev nD) : Pipeline.HostSeg (Ix := Unit) (Name := ℕ) (U := UU nD τ sig) (Lvl := ℕ) (pcfgs (F := F)) defs₀ Variants.none (Plan.lvOn nD τ sig) (plan m).lv :=
  .ofOps (pcfgs (F := F)) defs₀ Variants.none (Plan.lvOn nD τ sig) (plan m).lv (Pipeline.ucRefs τ sig) (hostOps1 c)
    (fun op h => Pipeline.sub_ucRefs op ((List.forall_iff_forall_mem.mp (hostOps1_sub c)) op h))
    (List.forall_iff_forall_mem.mp (by simp only [List.Forall]; repeat' constructor)) (V₁ m) settled

/-- What follows the exchange, on device `c`. -/
abbrev parts (c : Dev nD) : List (Pipeline.PerCore.Seg (pcfgs (F := F)) (adm m) (dats m) () defs₀ Variants.none (Plan.lvOn nD τ sig) (plan m).lv) :=
  [.host (hostSeg m c), .region (seg1 m), .region (seg2 m)]

/-- @main is the exchange and then the parts. -/
theorem main_parts (c : Dev nD) : main (F := F) c = .op (.customCall (Pipeline.entry 0) ()) (fun _ => Pipeline.PerCore.Seg.run (parts m c)) := by
  rw [main_chain, Pipeline.PerCore.Seg.run_eq_chain]
  rfl

/-! ## The end -/

/-- What device `c` ends with: its arguments as launched, and the two sums. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v19) = (dat1 (adm m c 1) (V₂ m c) c).arrAt 2 (cfg1 (adm m c 1)).N
  ∧ s.mem ((c : Thread nD τ).loc main_v20) = (dat2 (adm m c 2) (V₃ m c) c).arrAt 2 (cfg2 (adm m c 2)).N

theorem unscoped : ∀ r ∈ [main_arg0, main_arg1, main_arg2, main_v19, main_v20], (Proc.devRef .tc r : DevRef τ sig) ∈ Pipeline.ucRefs τ sig := by decide

theorem args_kept1 : ∀ r ∈ [main_arg0, main_arg1, main_arg2, main_v20], ∀ w, Pipeline.arrRef spec1 w = r → (spec1 w).isOut = false := by decide
theorem args_kept2 : ∀ r ∈ [main_arg0, main_arg1, main_arg2, main_v19], ∀ w, Pipeline.arrRef spec2 w = r → (spec2 w).isOut = false := by decide
theorem host_keeps : ∀ r ∈ [main_arg0, main_arg1, main_arg2, main_v1_0, main_v1_1], r ∉
    [main_c, main_c_0, main_v2, main_v3, main_v4, main_v5, main_c_1, main_v6, main_c_2, main_c_3, main_v7, main_v8, main_v9, main_v10, main_v11, main_c_4, main_c_5, main_v12, main_v13, main_v14, main_v15, main_v16, main_v17, main_v18] := by decide
theorem not_landing : ∀ r ∈ [main_arg0, main_arg1, main_arg2], (Proc.devRef .tc r : DevRef τ sig) ≠ Proc.devRef .tc main_v1_0 ∧ (Proc.devRef .tc r : DevRef τ sig) ≠ Proc.devRef .tc main_v1_1 := by decide

/-- The host's operations leave the arguments and the landing buffers. -/
theorem V₂_of (c : Dev nD) (r : Ref sig .tc) (h : r ∈ [main_arg0, main_arg1, main_arg2, main_v1_0, main_v1_1]) :
    V₂ m c (Proc.devRef .tc r) = V₁ m c (Proc.devRef .tc r) :=
  StableHlo.after_of_writes_sub (hostOps1 c) _ (StableHlo.forall_writes_sub_of_map rfl) (host_keeps r h)

/-- Nothing changes an argument. -/
theorem arg_kept (c : Dev nD) (r : Ref sig .tc) (h : r ∈ [main_arg0, main_arg1, main_arg2]) : V₄ m c (Proc.devRef .tc r) = m (c, Proc.devRef .tc r) := by
  have h1 : r ∈ [main_arg0, main_arg1, main_arg2, main_v20] := List.mem_append_left [main_v20] h
  have h2 : r ∈ [main_arg0, main_arg1, main_arg2, main_v19] := List.mem_append_left [main_v19] h
  have h3 : r ∈ [main_arg0, main_arg1, main_arg2, main_v1_0, main_v1_1] := List.mem_append_left [main_v1_0, main_v1_1] h
  exact (V₄_of m c r (args_kept2 r h2)).trans ((V₃_of m c r (args_kept1 r h1)).trans ((V₂_of m c r h3).trans (V₁_of m c (not_landing r h).1 (not_landing r h).2)))

/-- The end, read off the buffers held. -/
theorem ends_of (c : Dev nD) (s : Phys nD τ sig (Elt F)) : iprop(held c (V₄ m c) ∗ SI s) ⊢ |={Set.univ}=> iprop(⌜Ends m c s.mem⌝ ∗ SI s) := by
  unfold held StableHlo.held
  iintro ⟨Hh, HSI⟩
  ihave Hr := (pointsTo_read_all (Pipeline.ucRefs τ sig) (fun b => ((c : Thread nD τ).1, b)) (V₄ m c) s) $$ [Hh HSI]
  · isplitl [Hh] <;> iassumption
  icases Hr with ⟨%h, HSI⟩
  imodintro
  isplitr
  · ipureintro
    have hr (r : Ref sig .tc) (hm : r ∈ [main_arg0, main_arg1, main_arg2, main_v19, main_v20]) :
      s.mem.mem ((c : Thread nD τ).loc r) = V₄ m c (Proc.devRef .tc r) := h _ (unscoped r hm)
    refine ⟨⟨?_, ?_, ?_⟩, ?_, ?_⟩
    · exact (hr main_arg0 (by decide)).trans (arg_kept m c main_arg0 (by decide))
    · exact (hr main_arg1 (by decide)).trans (arg_kept m c main_arg1 (by decide))
    · exact (hr main_arg2 (by decide)).trans (arg_kept m c main_arg2 (by decide))
    · exact (hr main_v19 (by decide)).trans ((V₄_of m c main_v19 (args_kept2 main_v19 (by decide))).trans
        (Pipeline.afterRegion_arr (dat1 (adm m c 1) (V₂ m c) c) (V₂ m c) winFacts1.arr_inj 2))
    · exact (hr main_v20 (by decide)).trans (Pipeline.afterRegion_arr (dat2 (adm m c 2) (V₃ m c) c) (V₃ m c) winFacts2.arr_inj 2)
  iexact HSI

theorem entered_once : ([1, 2] : List (Fin 3)).Nodup := by decide
theorem entered_later : ∀ p ∈ ([1, 2] : List (Fin 3)), p ∈ (Finset.univ.erase 0 : Finset (Fin 3)) := by decide

set_option backward.isDefEq.respectTransparency.types false in
/-- The program after the exchange, on device `c`, from what the exchange leaves. -/
theorem tail_run (c : Dev nD) : iprop(boundary (c.tc : Thread nD τ) ∗ End m c ∗ settled c
      ∗ levAts (Plan.lvOn nD τ sig) (plan m).lv ∗ Pipeline.PerCore.ghostOn (pcfgs (F := F)) (adm m) EP (Finset.univ.erase 0) c)
    ⊢ wp frame (wpE (Pipeline.defs (pcfgs (F := F)) defs₀) (Variants.lift Variants.none) (c.tc : Thread nD τ) none) Set.univ (Pipeline.PerCore.Seg.run (parts m c))
      (fun _ => iprop(held c (V₄ m c) ∗ boundary (c.tc : Thread nD τ) ∗ settled c)) := by
  have hch : Pipeline.PerCore.Seg.ChainsAt c
      (fun d => iprop(held d (V₁ m d) ∗ settled d)) (parts m c) (fun d => iprop(held d (V₄ m d) ∗ settled d)) :=
    ⟨.rfl, .rfl, .rfl, .rfl⟩
  iintro ⟨Hb, HE, HO, #Hlev, Hg⟩
  ihave HE := (end_held m c) $$ HE
  iapply (Pipeline.PerCore.wp_segs (pcfgs (F := F)) (adm m) (dats m) () (cells_apart m) EP defs₀ Variants.none (Plan.lvOn nD τ sig) (plan m).lv c
    (parts m c) (Finset.univ.erase 0) (fun d => iprop(held d (V₁ m d) ∗ settled d)) (fun d => iprop(held d (V₄ m d) ∗ settled d))
    entered_once entered_later hch)
  isplitr
  · iintro ⟨Hb, Hh, HO⟩
    isplitl [Hh]; · iexact Hh
    isplitl [Hb] <;> iassumption
  isplitl [Hb]; · iexact Hb
  isplitl [HE HO]; · isplitl [HE] <;> iassumption
  isplitr; · iexact Hlev
  iexact Hg

/-- On the mesh, for any float values, from any memory with zero counters: every weakly fair execution of `Chips` ends, each device
    holding the two sums, its arguments unchanged, every semaphore counter at zero. -/
theorem run_main (g : Dev nD → PrngReg) : θ_run (defs (F := F)) (onTc (τ := τ) (main (F := F))) ⟨m, fun _ => 0, g⟩
    (fun r => (∀ c, Ends m c r.2) ∧ r.2.sem = fun _ => 0) :=
  θ_run_once (plan m) (pcfgs (F := F)) (adm m) 0 (Start m) (End m) defs₀ Variants.none (fun _ => rfl) (cells_apart m) winFacts0.to₀
    lanes_facts (fun c => rfl) (dats m) (fun c => rfl) m g main (fun c _ => Pipeline.PerCore.Seg.run (parts m c)) (main_parts m) (start_intro m)
    (fun c t κ W Q => body_run m c κ W Q) (fun c => held c (V₄ m c)) (tail_run m)
    (Ends m) (ends_of m) (fun s h hs => ⟨h, funext fun g' => hs g' (by
      obtain ⟨⟨d, q⟩, l⟩ := g'
      by_cases hq : q = .tc
      · subst hq; exact Or.inr (scoped_all l)
      · exact Or.inl hq)⟩)

end Cert.ChipsRun

end
-- ==== Proof.Chips.Reference.lean ====
/-
  The two sums of `Chips` at an index, and its reference's results at an index: each the sum of four terms, one for each chip.
-/
module

public import proofs.«01_k».proof.Proof.Chips.Sums
public import proofs.«01_k».proof.Proof.Gen.ChipsRefIdeal
public import Idealize.ShloMosaic.Lib.Pointwise

@[expose] public section

set_option maxRecDepth 16384

noncomputable section

namespace Cert.ChipsRun

open Idealize.ShloMosaic Idealize.ShloMosaic.TcCoe

/-! ## The reference -/

section
open Cert.ChipsRefIdeal Cert.ChipsRefIdeal.Gen

/-- The reference's results, of its arguments. -/
abbrev bigAll (g : FVec Ideal S16x10240x1024 .bf16) (o : FVec Ideal S40960x1024 .f32) : FVec Ideal S40960x1024 .f32 :=
  addf o (shapeCast S40960x1024 (Host.reduceAdd (select (broadcastInDim S4x4x10240x1024 ![0, 1, 2, 3] bcast_S4x4x1x1_S4x4x10240x1024_0_1_2_3
    (broadcastInDim S4x4x1x1 ![0, 1] bcast_S4x4_S4x4x1x1_0_1 (cmpi .eq (addi (iotaInDim S4x4 32 0) (broadcastInDim S4x4 ![] bcast_S_S4x4 (constantI S_ 32 0#32))) (iotaInDim S4x4 32 1))))
    (broadcastInDim S4x4x10240x1024 ![] bcast_S_S4x4x10240x1024 (id (constant S_ .f32 0x00000000#32)))
    (extf .f32 (shapeCast S4x4x10240x1024 g shapeCasts_S16x10240x1024_S4x4x10240x1024) bitsLt_bf16_f32)) (constant S_ .f32 0x00000000#32) reducesTo_S4x4x10240x1024_S4x10240x1024_d0 h_S_) shapeCasts_S4x10240x1024_S40960x1024)
abbrev smallAll (s : FVec Ideal S1184x2048 .f32) : FVec Ideal S296x2048 .f32 :=
  Host.reduceAdd (shapeCast S4x296x2048 s shapeCasts_S1184x2048_S4x296x2048) (constant S_ .f32 0x00000000#32) reducesTo_S4x296x2048_S296x2048_d0 h_S_

/-- The small result at an index: the sum of the four chips' blocks there. -/
theorem smallAll_apply (s : FVec Ideal S1184x2048 .f32) (i : S296x2048.Idx) :
    smallAll s i = ∑ k : Fin 4, s (fun a => match a with | 0 => ⟨k.val * 296 + (i 0).val, by have : (i 0).val < 296 := (i 0).isLt; show _ < 1184; omega⟩ | 1 => i 1) := by
  unfold smallAll
  pointwise
  refine Finset.sum_congr rfl fun k _ => congrArg s (funext fun a => ?_)
  fin_cases a <;> rfl

/-- Comparing two small numbers as words. -/
theorem pick {α : Type} (a b : ℕ) (ha : a < 4) (hb : b < 4) (x y : α) :
    Scalar.select (IntOp.cmpi .eq (BitVec.ofNat 32 a) (BitVec.ofNat 32 b)) x y = if a = b then x else y := by
  interval_cases a <;> interval_cases b <;> rfl

/-- The large result at an index: the row's own part and the parts the other chips have for the row's chip. -/
theorem bigAll_apply (g : FVec Ideal S16x10240x1024 .bf16) (o : FVec Ideal S40960x1024 .f32) (i : S40960x1024.Idx) :
    bigAll g o i = o i + ∑ k : Fin 4, if k.val = (i 0).val / 10240 then 0
      else g (fun a => match a with
        | 0 => ⟨k.val * 4 + (i 0).val / 10240, by have : (i 0).val < 40960 := (i 0).isLt; show _ < 16; omega⟩
        | 1 => ⟨(i 0).val % 10240, Nat.mod_lt _ (by decide)⟩
        | 2 => i 1) := by
  have hi : (i 0).val < 40960 := (i 0).isLt
  unfold bigAll
  pointwise
  congr 1
  refine Finset.sum_congr rfl fun k _ => ?_
  rw [show IntOp.addi (BitVec.ofNat 32 k.val) 0#32 = BitVec.ofNat 32 k.val from BitVec.add_zero _]
  refine (pick k.val ((i 0).val / 10240) k.isLt (by omega) _ _).trans ?_
  rw [show id (constant (F := Ideal) S_ .f32 0x00000000#32) ix0 = (0 : EReal) from Ideal.ofBits_zero_f32]
  refine congrArg (fun z : EReal => if k.val = (i 0).val / 10240 then 0 else z) (congrArg g (funext fun a => ?_))
  fin_cases a <;> rfl
end

/-! ## The sums -/

section
open Cert.ChipsIdeal Cert.ChipsIdeal.Gen

/-- Comparing a word with the number of a chip. -/
theorem pick_word {α : Type} (q k : ℕ) (hq : q < 4) (hk : k < 4) (x y : α) :
    Scalar.select (Scalar.cmpi .eq (BitVec.ofNat 32 q) (BitVec.ofNat 32 k)) x y = if k = q then x else y := by
  interval_cases q <;> interval_cases k <;> rfl

/-- What the first sum stores at an index: the own part where the chip is the device's own, and what is in the chip's slot elsewhere. -/
theorem total1_apply (q : ℕ) (hq : q < 4) (x : FVec Ideal S512x1024 .f32) (y : FVec Ideal S4x512x1024 .bf16) (i : S512x1024.Idx) :
    total1 (F := Ideal) (BitVec.ofNat 32 q) x y i
      = ∑ k : Fin 4, if k.val = q then x i else y (ix3 k (i 0) (i 1)) := by
  unfold total1 r1
  rw [View.canon_unit_zero (funext fun a => by fin_cases a <;> rfl)]
  pointwise [k1_pay1, k1_pay2, k1_pay3]
  rw [Fin.sum_univ_four]
  refine congrArg₂ (· + ·) (congrArg₂ (· + ·) (congrArg₂ (· + ·) ?_ ?_) ?_) ?_
  all_goals
    exact pick_word q _ hq (by decide) _ _

/-- What the second sum stores at an index. -/
theorem total2_apply (q : ℕ) (hq : q < 4) (x : FVec Ideal S296x1024 .f32) (y : FVec Ideal S4x296x1024 .f32) (i : S296x1024.Idx) :
    total2 (F := Ideal) (BitVec.ofNat 32 q) x y i
      = ∑ k : Fin 4, if k.val = q then x i else y (ix3 k (i 0) (i 1)) := by
  unfold total2 r2
  rw [View.canon_unit_zero (funext fun a => by fin_cases a <;> rfl)]
  pointwise [k2_pay1]
  rw [Fin.sum_univ_four]
  refine congrArg₂ (· + ·) (congrArg₂ (· + ·) (congrArg₂ (· + ·) ?_ ?_) ?_) ?_
  all_goals
    exact pick_word q _ hq (by decide) _ _

/-- One term of a sum over the chips, taken out. -/
theorem take_out (q : ℕ) (hq : q < 4) (x : EReal) (f : Fin 4 → EReal) :
    (∑ k : Fin 4, if k.val = q then x else f k) = x + ∑ k : Fin 4, if k.val = q then 0 else f k := by
  rw [Fin.sum_univ_four, Fin.sum_univ_four]
  interval_cases q
  all_goals
    simp
    try ac_rfl
end

end Cert.ChipsRun

end
-- ==== Proof.Chips.Arrays.lean ====
/-
  The arrays the two sums of `Chips` leave, of the arrays they are entered with, and the number of the chip in their table.
-/
module

public import proofs.«01_k».proof.Proof.Chips.Run
public import proofs.«01_k».proof.Proof.Chips.Reference
public import Idealize.ShloMosaic.Lib.Pipeline.Value

@[expose] public section

set_option maxRecDepth 16384

noncomputable section

namespace Cert.ChipsRun

open Cert.ChipsIdeal Cert.ChipsIdeal.Gen
open Idealize.ShloMosaic Idealize.ShloMosaic.TcCoe Idealize.ShloMosaic.StableHlo
open Idealize.SL.Sem

/-! ## The table -/

/-- The table's two numbers, of the number of the device. -/
def table (c : Dev nD) : S2.Idx → BitVec 32 := concatenate S2 0
  [⟨S1, broadcastInDim S1 ![] bcast_S_S1 (id (Host.remui (Host.divui (constantI S_ 32 (Dev.word c)) (constantI S_ 32 1#32)) (constantI S_ 32 2#32)))⟩,
    ⟨S1, broadcastInDim S1 ![] bcast_S_S1 (addi (muli (constantI S_ 32 2#32) (id (Host.remui (Host.divui (constantI S_ 32 (Dev.word c)) (constantI S_ 32 4#32)) (constantI S_ 32 2#32))))
      (id (Host.remui (Host.divui (constantI S_ 32 (Dev.word c)) (constantI S_ 32 2#32)) (constantI S_ 32 2#32))))⟩] concatenates_S1_S1_S2_d0

/-- The second of them is the number of the device's chip. -/
theorem table_chip : ∀ c : Dev nD, table c at1 = BitVec.ofNat 32 (c.val / 2) := by decide +kernel

section Table
variable {F : FTy → Type} [FloatOps F]

/-- The host computes the table. -/
theorem word_eq (c : Dev nD) (V : Valuation τ sig (Elt F)) : StableHlo.after (hostOps1 c) V main_v18 at1 = BitVec.ofNat 32 (c.val / 2) := by
  have h : StableHlo.after (hostOps1 c) V main_v18 = table c := by
    unfold table
    after_results <;> rfl
  exact (congrFun h at1).trans (table_chip c)

end Table

/-! ## The first sum -/

/-- The first sum of whole arrays: at each index the own part where the chip is number `q`, else what is in the chip's slot. -/
def sumOf1 (q : ℕ) (X : FVec Ideal S5120x1024 .f32) (Y : FVec Ideal S4x5120x1024 .bf16) : FVec Ideal S5120x1024 .f32 := fun i =>
  ∑ k : Fin 4, if k.val = q then X i else Y (ix3 k (i 0) (i 1))

/-- Where the windows' blocks are. -/
theorem places1 : ∀ t : Fin grid1.N, cc1_transform_0 (grid1.coords t) = ![t.val, 0] ∧ cc1_transform_1 (grid1.coords t) = ![0, t.val, 0]
    ∧ cc1_transform_2 (grid1.coords t) = ![t.val, 0] := by decide +kernel
/-- The result is written back at every point. -/
theorem flushes1 : ∀ t : Fin grid1.N, Pipeline.Window.flushOf grid1 true cc1_transform_2 t = true := by decide +kernel

section
variable (a : (pcfg1 (F := Ideal)).Adm) (V : Valuation τ sig (Elt Ideal)) (c : Dev nD)

theorem flushed1 (q : ℕ) (hq : q < 4) (hw : a.1 0 at1 = BitVec.ofNat 32 q) (t : Fin (cfg1 a).N) :
    (dat1 a V c).flushed 2 t = ((win1 a 2).blk t).view.read (Elt Ideal) (sumOf1 q (V main_arg1) (V main_v1_0)) := by
  obtain ⟨e0, e1, e2⟩ := places1 t
  show (win1 a 2).cut (grid1.coords t) ((dat1 a V c).after 2 t) = _
  rw [after1_2, hw]
  funext j
  refine (total1_apply q hq (part1 a V 0 t) (part1 a V 1 t) j).trans ?_
  show _ = sumOf1 q (V main_arg1) (V main_v1_0) (((win1 a 2).blk t).view.emb j)
  have h0 : ((win1 a 0).blk t).view.emb j = ((win1 a 2).blk t).view.emb j := by
    funext b; apply Fin.ext
    match b with
    | ⟨0, _⟩ =>
      show cc1_transform_0 (grid1.coords t) (0 : Fin 2) * 512 + 1 * (j (0 : Fin 2)).val = cc1_transform_2 (grid1.coords t) (0 : Fin 2) * 512 + 1 * (j (0 : Fin 2)).val
      rw [e0, e2]
    | ⟨1, _⟩ =>
      show cc1_transform_0 (grid1.coords t) (1 : Fin 2) * 1024 + 1 * (j (1 : Fin 2)).val = cc1_transform_2 (grid1.coords t) (1 : Fin 2) * 1024 + 1 * (j (1 : Fin 2)).val
      rw [e0, e2]
  have h1 (k : Fin 4) : ((win1 a 1).blk t).view.emb (ix3 k (j 0) (j 1))
      = (ix3 k (((win1 a 2).blk t).view.emb j 0) (((win1 a 2).blk t).view.emb j 1) : S4x5120x1024.Idx) := by
    funext b; apply Fin.ext
    match b with
    | ⟨0, _⟩ =>
      show cc1_transform_1 (grid1.coords t) (0 : Fin 3) * 4 + 1 * k.val = k.val
      rw [e1]
      show 0 * 4 + 1 * k.val = k.val
      omega
    | ⟨1, _⟩ =>
      show cc1_transform_1 (grid1.coords t) (1 : Fin 3) * 512 + 1 * (j (0 : Fin 2)).val = cc1_transform_2 (grid1.coords t) (0 : Fin 2) * 512 + 1 * (j (0 : Fin 2)).val
      rw [e1, e2]; rfl
    | ⟨2, _⟩ =>
      show cc1_transform_1 (grid1.coords t) (2 : Fin 3) * 1024 + 1 * (j (1 : Fin 2)).val = cc1_transform_2 (grid1.coords t) (1 : Fin 2) * 1024 + 1 * (j (1 : Fin 2)).val
      rw [e1, e2]; rfl
  refine Finset.sum_congr rfl fun k _ => ?_
  rw [← h1 k, ← h0]
  rfl

theorem covered1 (i : S5120x1024.Idx) : ∃ t : Fin (cfg1 a).N, (win1 a 2).flush t = true ∧ i ∈ ((win1 a 2).blk t).view.set := by
  have hi0 : (i 0).val < 5120 := (i 0).isLt
  have hi1 : (i 1).val < 1024 := (i 1).isLt
  let t : Fin grid1.N := ⟨(i 0).val / 512, by show _ < 10; omega⟩
  have ht : t.val = (i 0).val / 512 := rfl
  obtain ⟨-, -, e2⟩ := places1 t
  refine ⟨t, flushes1 t, ?_⟩
  show i ∈ ((View.whole main_v19).slice ((win1 a 2).rect t)).set
  rw [View.set_slice_whole, Rect.mem_set_unit]
  intro b
  match b with
  | ⟨0, _⟩ =>
    show cc1_transform_2 (grid1.coords t) (0 : Fin 2) * 512 ≤ (i 0).val ∧ (i 0).val < cc1_transform_2 (grid1.coords t) (0 : Fin 2) * 512 + 512
    rw [e2]
    show t.val * 512 ≤ (i 0).val ∧ (i 0).val < t.val * 512 + 512
    omega
  | ⟨1, _⟩ =>
    show cc1_transform_2 (grid1.coords t) (1 : Fin 2) * 1024 ≤ (i 1).val ∧ (i 1).val < cc1_transform_2 (grid1.coords t) (1 : Fin 2) * 1024 + 1024
    rw [e2]
    show 0 * 1024 ≤ (i 1).val ∧ (i 1).val < 0 * 1024 + 1024
    omega

/-- The first sum's array at the end, of the own parts and the landing buffer it is entered with. -/
theorem array1 (q : ℕ) (hq : q < 4) (hw : a.1 0 at1 = BitVec.ofNat 32 q) :
    (dat1 a V c).arrAt 2 (cfg1 a).N = sumOf1 q (V main_arg1) (V main_v1_0) :=
  (dat1 a V c).arrAt_eq_of_cover 2 _ (fun t _ => flushed1 a V c q hq hw t) (fun i => covered1 a i)
end

/-! ## The second sum -/

/-- The second sum of whole arrays. -/
def sumOf2 (q : ℕ) (X : FVec Ideal S296x1024 .f32) (Y : FVec Ideal S4x296x1024 .f32) : FVec Ideal S296x1024 .f32 := fun i =>
  ∑ k : Fin 4, if k.val = q then X i else Y (ix3 k (i 0) (i 1))

theorem places2 : ∀ t : Fin grid2.N, cc2_transform_0 (grid2.coords t) = ![0, 0] ∧ cc2_transform_1 (grid2.coords t) = ![0, 0, 0]
    ∧ cc2_transform_2 (grid2.coords t) = ![0, 0] := by decide +kernel
theorem flushes2 : ∀ t : Fin grid2.N, Pipeline.Window.flushOf grid2 true cc2_transform_2 t = true := by decide +kernel

section
variable (a : (pcfg2 (F := Ideal)).Adm) (V : Valuation τ sig (Elt Ideal)) (c : Dev nD)

theorem flushed2 (q : ℕ) (hq : q < 4) (hw : a.1 0 at1 = BitVec.ofNat 32 q) (t : Fin (cfg2 a).N) :
    (dat2 a V c).flushed 2 t = ((win2 a 2).blk t).view.read (Elt Ideal) (sumOf2 q (V main_arg2) (V main_v1_1)) := by
  obtain ⟨e0, e1, e2⟩ := places2 t
  show (win2 a 2).cut (grid2.coords t) ((dat2 a V c).after 2 t) = _
  rw [after2_2, hw]
  funext j
  refine (total2_apply q hq (part2 a V 0 t) (part2 a V 1 t) j).trans ?_
  show _ = sumOf2 q (V main_arg2) (V main_v1_1) (((win2 a 2).blk t).view.emb j)
  have h0 : ((win2 a 0).blk t).view.emb j = ((win2 a 2).blk t).view.emb j := by
    funext b; apply Fin.ext
    match b with
    | ⟨0, _⟩ =>
      show cc2_transform_0 (grid2.coords t) (0 : Fin 2) * 296 + 1 * (j (0 : Fin 2)).val = cc2_transform_2 (grid2.coords t) (0 : Fin 2) * 296 + 1 * (j (0 : Fin 2)).val
      rw [e0, e2]
    | ⟨1, _⟩ =>
      show cc2_transform_0 (grid2.coords t) (1 : Fin 2) * 1024 + 1 * (j (1 : Fin 2)).val = cc2_transform_2 (grid2.coords t) (1 : Fin 2) * 1024 + 1 * (j (1 : Fin 2)).val
      rw [e0, e2]
  have h1 (k : Fin 4) : ((win2 a 1).blk t).view.emb (ix3 k (j 0) (j 1))
      = (ix3 k (((win2 a 2).blk t).view.emb j 0) (((win2 a 2).blk t).view.emb j 1) : S4x296x1024.Idx) := by
    funext b; apply Fin.ext
    match b with
    | ⟨0, _⟩ =>
      show cc2_transform_1 (grid2.coords t) (0 : Fin 3) * 4 + 1 * k.val = k.val
      rw [e1]
      show 0 * 4 + 1 * k.val = k.val
      omega
    | ⟨1, _⟩ =>
      show cc2_transform_1 (grid2.coords t) (1 : Fin 3) * 296 + 1 * (j (0 : Fin 2)).val = cc2_transform_2 (grid2.coords t) (0 : Fin 2) * 296 + 1 * (j (0 : Fin 2)).val
      rw [e1, e2]; rfl
    | ⟨2, _⟩ =>
      show cc2_transform_1 (grid2.coords t) (2 : Fin 3) * 1024 + 1 * (j (1 : Fin 2)).val = cc2_transform_2 (grid2.coords t) (1 : Fin 2) * 1024 + 1 * (j (1 : Fin 2)).val
      rw [e1, e2]; rfl
  refine Finset.sum_congr rfl fun k _ => ?_
  rw [← h1 k, ← h0]
  rfl

theorem covered2 (i : S296x1024.Idx) : ∃ t : Fin (cfg2 a).N, (win2 a 2).flush t = true ∧ i ∈ ((win2 a 2).blk t).view.set := by
  have hi0 : (i 0).val < 296 := (i 0).isLt
  have hi1 : (i 1).val < 1024 := (i 1).isLt
  let t : Fin grid2.N := ⟨0, by decide⟩
  obtain ⟨-, -, e2⟩ := places2 t
  refine ⟨t, flushes2 t, ?_⟩
  show i ∈ ((View.whole main_v20).slice ((win2 a 2).rect t)).set
  rw [View.set_slice_whole, Rect.mem_set_unit]
  intro b
  match b with
  | ⟨0, _⟩ =>
    show cc2_transform_2 (grid2.coords t) (0 : Fin 2) * 296 ≤ (i 0).val ∧ (i 0).val < cc2_transform_2 (grid2.coords t) (0 : Fin 2) * 296 + 296
    rw [e2]
    show 0 * 296 ≤ (i 0).val ∧ (i 0).val < 0 * 296 + 296
    omega
  | ⟨1, _⟩ =>
    show cc2_transform_2 (grid2.coords t) (1 : Fin 2) * 1024 ≤ (i 1).val ∧ (i 1).val < cc2_transform_2 (grid2.coords t) (1 : Fin 2) * 1024 + 1024
    rw [e2]
    show 0 * 1024 ≤ (i 1).val ∧ (i 1).val < 0 * 1024 + 1024
    omega

/-- The second sum's array at the end. -/
theorem array2 (q : ℕ) (hq : q < 4) (hw : a.1 0 at1 = BitVec.ofNat 32 q) :
    (dat2 a V c).arrAt 2 (cfg2 a).N = sumOf2 q (V main_arg2) (V main_v1_1) :=
  (dat2 a V c).arrAt_eq_of_cover 2 _ (fun t _ => flushed2 a V c q hq hw t) (fun i => covered2 a i)
end

end Cert.ChipsRun

end
-- ==== Proof.Chips.Same.lean ====
module

/-
The programs `Chips` and `ChipsIdeal` are one program: equal kernels' tables, equal pipelines, equal host operations. So what holds of
every run of the one holds of every run of the other.
-/

public import proofs.«01_k».proof.Proof.Gen.Chips
public import proofs.«01_k».proof.Proof.Gen.Chips.Launch
public import proofs.«01_k».proof.Proof.Gen.ChipsIdeal
public import proofs.«01_k».proof.Proof.Gen.ChipsIdeal.Launch

@[expose] public section

noncomputable section

namespace Cert.ChipsSame

open Idealize.ShloMosaic Idealize.ShloMosaic.TcCoe
open Idealize.SL.Sem

variable {F : FTy → Type} [FloatOps F]

/-- The two programs' kernels are the same. -/
theorem kernels : Cert.Chips.defs₀ (F := F) = Cert.ChipsIdeal.defs₀ (F := F) := by
  unfold Cert.Chips.defs₀ Cert.ChipsIdeal.defs₀
  refine congrArg Defs.onTc (funext fun l => ?_)
  rcases l with ⟨_ | _ | _ | n, h⟩
  · funext a; rfl
  · funext a; rfl
  · funext a; rfl
  · exact absurd h (by omega)

/-- Their pipelines are the same. -/
theorem pipelines : Cert.Chips.pcfgs (F := F) = Cert.ChipsIdeal.pcfgs (F := F) := rfl

/-- Their host operations are the same. -/
theorem host (c : Dev Cert.Chips.nD) : Cert.Chips.Gen.hostOps1 (F := F) c = Cert.ChipsIdeal.Gen.hostOps1 (F := F) c := rfl

/-- A host program over any pipelines: the first call, host operations, the two other calls. -/
def chain {nD : Nat} {τ : Topo} {sig : RefSig} {Λ₀ : Labels} (P : Fin 3 → Pipeline.PCfg sig Λ₀ (Elt F)) (ops : Dev nD → List (HloOp τ sig (Elt F))) (c : Dev nD) :
    Prog (TpuEff nD τ sig (Elt F) (Pipeline.Sig Λ₀ (Fin 3) fun p => (P p).Adm) .tc) PUnit :=
  Pipeline.chain [Prog.lift (.customCall (Pipeline.entry 0) ()), StableHlo.seq (ops c), Prog.lift (.customCall (Pipeline.entry 1) ()),
    Prog.lift (.customCall (Pipeline.entry 2) ())]

/-- Equal pipelines, equal kernels and equal host operations have the same runs. -/
theorem runs {nD : Nat} {τ : Topo} {sig : RefSig} {Λ₀ : Labels} {P P' : Fin 3 → Pipeline.PCfg sig Λ₀ (Elt F)} {D D' : Defs nD τ sig (Elt F) Λ₀}
    {ops ops' : Dev nD → List (HloOp τ sig (Elt F))} (hP : P = P') (hD : D = D') (ho : ops = ops') (σ : MemSt nD τ sig (Elt F)) (Q)
    (h : θ_run (Pipeline.defs P' D') (onTc (τ := τ) (chain P' ops')) σ Q) : θ_run (Pipeline.defs P D) (onTc (τ := τ) (chain P ops)) σ Q := by
  subst hP hD ho
  exact h

end Cert.ChipsSame

end
-- ==== Proof.Chips.Value.lean ====
/-
  What `Chips` and its reference say of each other: each device starting with its block of the reference's arrays, it ends with its
  block of the reference's two sums.
-/
module

public import proofs.«01_k».proof.Proof.Chips.Arrays
public import proofs.«01_k».proof.Proof.Chips.Same
public import proofs.«01_k».proof.Proof.Gen.Chips
public import proofs.«01_k».proof.Proof.Gen.ChipsRefIdeal
public import proofs.«01_k».proof.Proof.Gen.ChipsRefIdeal.Run
public import proofs.«01_k».proof.Defs
public import Idealize.ShloMosaic.Lib.Layout
public import Idealize.ShloMosaic.Lib.Quiescent

@[expose] public section

set_option maxRecDepth 16384

noncomputable section

namespace Cert.ChipsRun

open Cert.ChipsIdeal Cert.ChipsIdeal.Gen Links
open Idealize.ShloMosaic Idealize.ShloMosaic.TcCoe
open Idealize.SL.Sem

/-! ## The landing buffers at an index -/

section Landing
variable {F : FTy → Type} [FloatOps F]
variable (m : (ℓ : Loc nD τ sig) → Buf (Elt F) ℓ)

/-- The chip a device is on, and the device of the same core on a given chip. -/
def chip (e : Dev nD) : Fin 4 := ⟨e.val / 2, by have : e.val < 8 := e.isLt; omega⟩
def same (c : Dev nD) (k : Fin 4) : Dev nD := ⟨2 * k.val + c.val % 2, by show _ < 8; omega⟩

theorem same_chip (c : Dev nD) : same c (chip c) = c := Fin.ext (show 2 * (c.val / 2) + c.val % 2 = c.val by omega)
theorem oth_same : ∀ (j : Fin 3) (c : Dev nD), oth j c = same c (chip (oth j c)) := by decide +kernel
theorem oth_all : ∀ (c : Dev nD) (k : Fin 4), k ≠ chip c → ∃ j : Fin 3, chip (oth j c) = k := by decide +kernel

theorem three : ∀ j : Fin 3, j = 0 ∨ j = 1 ∨ j = 2 := by decide
theorem zero_one : (0 : Fin 3) ≠ 1 := by decide
theorem zero_two : (0 : Fin 3) ≠ 2 := by decide
theorem one_two : (1 : Fin 3) ≠ 2 := by decide

theorem flat_block (x : S5120x1024.Idx) : Shape.reshapeEquiv squeezes_S1x5120x1024_S5120x1024.numel_eq x = (ix3 (⟨0, Nat.one_pos⟩ : Fin 1) (x 0) (x 1) : S1x5120x1024.Idx) := by
  refine Shape.reshapeEquiv_eq_of_rowMajor _ ?_
  rw [Shape.rowMajor_val_two, Shape.rowMajor_val_three]
  show (0 * 5120 + (x (0 : Fin 2)).val) * 1024 + (x (1 : Fin 2)).val = (x (0 : Fin 2)).val * 1024 + (x (1 : Fin 2)).val
  omega
theorem flat_small (x : S296x1024.Idx) : Shape.reshapeEquiv squeezes_S1x296x1024_S296x1024.numel_eq x = (ix3 (⟨0, Nat.one_pos⟩ : Fin 1) (x 0) (x 1) : S1x296x1024.Idx) := by
  refine Shape.reshapeEquiv_eq_of_rowMajor _ ?_
  rw [Shape.rowMajor_val_two, Shape.rowMajor_val_three]
  show (0 * 296 + (x (0 : Fin 2)).val) * 1024 + (x (1 : Fin 2)).val = (x (0 : Fin 2)).val * 1024 + (x (1 : Fin 2)).val
  omega

/-- Where a chip's block of the large arrays is. -/
theorem place_big (e : Dev nD) (x : S5120x1024.Idx) :
    (Rect.unit (s := S4x5120x1024) (k0_off1 e) S1x5120x1024.size (k0_off1_inb e)).emb (ix3 (⟨0, Nat.one_pos⟩ : Fin 1) (x 0) (x 1)) = (ix3 (chip e) (x 0) (x 1) : S4x5120x1024.Idx) := by
  have he : e.val < 8 := e.isLt
  funext a
  apply Fin.ext
  match a with
  | ⟨0, _⟩ =>
    show k0_off1 e (0 : Fin 3) + 1 * 0 = e.val / 2
    rw [k0_off1_eq]
    show 2 * (e.val / 4) + (e.val / 2) % 2 + 1 * 0 = e.val / 2
    omega
  | ⟨1, _⟩ =>
    show k0_off1 e (1 : Fin 3) + 1 * (x (0 : Fin 2)).val = (x (0 : Fin 2)).val
    rw [k0_off1_eq]
    show 0 + 1 * (x (0 : Fin 2)).val = (x (0 : Fin 2)).val
    omega
  | ⟨2, _⟩ =>
    show k0_off1 e (2 : Fin 3) + 1 * (x (1 : Fin 2)).val = (x (1 : Fin 2)).val
    rw [k0_off1_eq]
    show 0 + 1 * (x (1 : Fin 2)).val = (x (1 : Fin 2)).val
    omega
theorem slot_emb (e : Dev nD) (x : S5120x1024.Idx) : (slot e).view.emb x = (ix3 (chip e) (x 0) (x 1) : S4x5120x1024.Idx) := by
  show (Rect.unit (s := S4x5120x1024) (k0_off1 e) S1x5120x1024.size (k0_off1_inb e)).emb (Shape.reshapeEquiv squeezes_S1x5120x1024_S5120x1024.numel_eq x) = _
  rw [flat_block, place_big]
theorem blk_emb (e : Dev nD) (x : S5120x1024.Idx) : (blk e).view.emb x = (ix3 (chip e) (x 0) (x 1) : S4x5120x1024.Idx) := slot_emb e x
theorem tiny_emb (e : Dev nD) (x : S296x1024.Idx) : (tiny e).view.emb x = (ix3 (chip e) (x 0) (x 1) : S4x296x1024.Idx) := by
  have he : e.val < 8 := e.isLt
  show (Rect.unit (s := S4x296x1024) (k0_off3 e) S1x296x1024.size (k0_off3_inb e)).emb (Shape.reshapeEquiv squeezes_S1x296x1024_S296x1024.numel_eq x) = _
  rw [flat_small]
  funext a
  apply Fin.ext
  match a with
  | ⟨0, _⟩ =>
    show k0_off3 e (0 : Fin 3) + 1 * 0 = e.val / 2
    rw [k0_off3_eq]
    show 2 * (e.val / 4) + (e.val / 2) % 2 + 1 * 0 = e.val / 2
    omega
  | ⟨1, _⟩ =>
    show k0_off3 e (1 : Fin 3) + 1 * (x (0 : Fin 2)).val = (x (0 : Fin 2)).val
    rw [k0_off3_eq]
    show 0 + 1 * (x (0 : Fin 2)).val = (x (0 : Fin 2)).val
    omega
  | ⟨2, _⟩ =>
    show k0_off3 e (2 : Fin 3) + 1 * (x (1 : Fin 2)).val = (x (1 : Fin 2)).val
    rw [k0_off3_eq]
    show 0 + 1 * (x (1 : Fin 2)).val = (x (1 : Fin 2)).val
    omega

/-- What device `e` sends to device `c`, at an index of its slot there. -/
theorem put_apply (c e : Dev nD) (x : S5120x1024.Idx) : put m c e (ix3 (chip e) (x 0) (x 1)) = gr m e (ix3 (chip c) (x 0) (x 1)) := by
  rw [← slot_emb e x]
  refine (View.write_emb_of_mem _ _ (Finset.mem_univ x)).trans ?_
  exact congrArg (gr m e) (blk_emb c x)
theorem putS_apply (c e : Dev nD) (x : S296x1024.Idx) : putS m c e (ix3 (chip e) (x 0) (x 1)) = sr m e x := by
  rw [← tiny_emb e x]
  exact View.write_emb_of_mem _ _ (Finset.mem_univ x)

/-- In a slot of another chip the landing buffer holds what the same core of that chip has for this chip. -/
theorem landing_apply (c : Dev nD) (k : Fin 4) (h : k ≠ chip c) (x : S5120x1024.Idx) :
    landing m c (ix3 k (x 0) (x 1)) = gr m (same c k) (ix3 (chip c) (x 0) (x 1)) := by
  obtain ⟨j, rfl⟩ := oth_all c k h
  rw [← oth_same j c]
  have hm : (ix3 (chip (oth j c)) (x 0) (x 1) : S4x5120x1024.Idx) ∈ (slot (oth j c)).view.set := by
    rw [← slot_emb]; exact View.emb_mem_set _ x
  refine Eq.trans ?_ (put_apply m c (oth j c) x)
  unfold landing
  rcases three j with rfl | rfl | rfl
  · exact patched_first hm
  · exact patched_second (slots_apart c zero_one) hm
  · exact patched_third (slots_apart c zero_two) (slots_apart c one_two) hm
theorem landingS_apply (c : Dev nD) (k : Fin 4) (h : k ≠ chip c) (x : S296x1024.Idx) :
    landingS m c (ix3 k (x 0) (x 1)) = sr m (same c k) x := by
  obtain ⟨j, rfl⟩ := oth_all c k h
  rw [← oth_same j c]
  have hm : (ix3 (chip (oth j c)) (x 0) (x 1) : S4x296x1024.Idx) ∈ (tiny (oth j c)).view.set := by
    rw [← tiny_emb]; exact View.emb_mem_set _ x
  refine Eq.trans ?_ (putS_apply m c (oth j c) x)
  unfold landingS
  rcases three j with rfl | rfl | rfl
  · exact patched_first hm
  · exact patched_second (tinies_apart c zero_one) hm
  · exact patched_third (tinies_apart c zero_two) (tinies_apart c one_two) hm

end Landing

/-! ## The sums of the parts -/

section Sum
variable (m : (ℓ : Loc nD τ sig) → Buf (Elt Ideal) ℓ)

theorem keeps1 : ∀ w, Pipeline.arrRef spec1 w = main_v1_1 → (spec1 w).isOut = false := by decide

/-- The first sum, of what a device starts with. -/
theorem big_sum (c : Dev nD) : (dat1 (adm m c 1) (V₂ m c) c).arrAt 2 (cfg1 (adm m c 1)).N
    = sumOf1 (c.val / 2) (m ((c : Thread nD τ).loc main_arg1)) (landing m c) := by
  have hc : c.val < 8 := c.isLt
  rw [array1 (adm m c 1) (V₂ m c) c (c.val / 2) (by omega) (word_eq c (V₁ m c)), V₂_of m c main_arg1 (by decide), V₂_of m c main_v1_0 (by decide), V₁_land,
    V₁_of m c (b := Proc.devRef .tc main_arg1) (StableHlo.devRef_ne_of_ne (by decide)) (StableHlo.devRef_ne_of_ne (by decide))]
theorem small_sum (c : Dev nD) : (dat2 (adm m c 2) (V₃ m c) c).arrAt 2 (cfg2 (adm m c 2)).N
    = sumOf2 (c.val / 2) (m ((c : Thread nD τ).loc main_arg2)) (landingS m c) := by
  have hc : c.val < 8 := c.isLt
  rw [array2 (adm m c 2) (V₃ m c) c (c.val / 2) (by omega) (word_eq c (V₁ m c)), V₃_of m c main_arg2 (args_kept1 main_arg2 (by decide)), V₃_of m c main_v1_1 keeps1,
    V₂_of m c main_arg2 (by decide), V₂_of m c main_v1_1 (by decide), V₁_landS,
    V₁_of m c (b := Proc.devRef .tc main_arg2) (StableHlo.devRef_ne_of_ne (by decide)) (StableHlo.devRef_ne_of_ne (by decide))]

/-- From the devices' blocks of the reference's arrays, the first sum is the device's block of the reference's first result. -/
theorem big_of (g : FVec Ideal Cert.ChipsRefIdeal.S16x10240x1024 .bf16) (o : FVec Ideal Cert.ChipsRefIdeal.S40960x1024 .f32)
    (hg : ∀ d : Dev nD, m ((d : Thread nD τ).loc main_arg0) = Layout.blockN ⟨3, ![4, 5120, 1024]⟩ ⟨3, ![16, 10240, 1024]⟩ (Layout.meshBlock [2, 2, 2] ![[0, 1], [2], []] d) g)
    (c : Dev nD) (ho : m ((c : Thread nD τ).loc main_arg1) = Layout.block ⟨2, ![5120, 1024]⟩ ⟨2, ![40960, 1024]⟩ 0 8 c o) :
    (dat1 (adm m c 1) (V₂ m c) c).arrAt 2 (cfg1 (adm m c 1)).N = Layout.block ⟨2, ![5120, 1024]⟩ ⟨2, ![40960, 1024]⟩ 0 8 c (bigAll g o) := by
  have hc : c.val < 8 := c.isLt
  rw [big_sum, ho]
  funext i
  have hi0 : (i (0 : Fin 2)).val < 5120 := (i (0 : Fin 2)).isLt
  refine (take_out (c.val / 2) (by omega) _ _).trans ?_
  rw [Layout.block_apply, Layout.block_apply, bigAll_apply]
  congr 1
  refine Finset.sum_congr rfl fun k _ => ?_
  have hrow : (c.val * 5120 + (i (0 : Fin 2)).val) / 10240 = c.val / 2 := by omega
  show _ = if k.val = (c.val * 5120 + (i (0 : Fin 2)).val) / 10240 then (0 : EReal) else _
  rw [hrow]
  by_cases hk : k.val = c.val / 2
  · rw [if_pos hk, if_pos hk]
  · rw [if_neg hk, if_neg hk]
    refine (landing_apply m c k (fun h => hk (congrArg Fin.val h)) i).trans ?_
    show m (((same c k : Dev nD) : Thread nD τ).loc main_arg0) _ = _
    rw [hg, Layout.blockN_apply]
    refine congrArg g (funext fun a => Fin.ext ?_)
    match a with
    | ⟨0, _⟩ =>
      show ((2 * k.val + c.val % 2) / 4 % 2 * 2 + ((2 * k.val + c.val % 2) / 2 % 2 * 1 + 0)) * 4 + c.val / 2 = k.val * 4 + (c.val * 5120 + (i (0 : Fin 2)).val) / 10240
      omega
    | ⟨1, _⟩ =>
      show ((2 * k.val + c.val % 2) / 1 % 2 * 1 + 0) * 5120 + (i (0 : Fin 2)).val = (c.val * 5120 + (i (0 : Fin 2)).val) % 10240
      omega
    | ⟨2, _⟩ =>
      show 0 * 1024 + (i (1 : Fin 2)).val = (i (1 : Fin 2)).val
      omega

/-- The second sum likewise. -/
theorem small_of (s : FVec Ideal Cert.ChipsRefIdeal.S1184x2048 .f32)
    (hs : ∀ d : Dev nD, m ((d : Thread nD τ).loc main_arg2) = Layout.blockN ⟨2, ![296, 1024]⟩ ⟨2, ![1184, 2048]⟩ (Layout.meshBlock [2, 2, 2] ![[0, 1], [2]] d) s)
    (c : Dev nD) : (dat2 (adm m c 2) (V₃ m c) c).arrAt 2 (cfg2 (adm m c 2)).N
      = Layout.blockN ⟨2, ![296, 1024]⟩ ⟨2, ![296, 2048]⟩ (Layout.meshBlock [2, 2, 2] ![[], [2]] c) (smallAll s) := by
  have hc : c.val < 8 := c.isLt
  rw [small_sum]
  funext i
  have hi0 : (i (0 : Fin 2)).val < 296 := (i (0 : Fin 2)).isLt
  rw [Layout.blockN_apply, smallAll_apply]
  refine Finset.sum_congr rfl fun k _ => ?_
  have hx : (if k.val = c.val / 2 then m ((c : Thread nD τ).loc main_arg2) i else landingS m c (ix3 k (i 0) (i 1))) = m (((same c k : Dev nD) : Thread nD τ).loc main_arg2) i := by
    by_cases hk : k = chip c
    · subst hk
      rw [same_chip]
      exact if_pos rfl
    · exact (if_neg fun h => hk (Fin.ext h)).trans (landingS_apply m c k hk i)
  refine hx.trans ?_
  rw [hs, Layout.blockN_apply]
  refine congrArg s (funext fun a => Fin.ext ?_)
  match a with
  | ⟨0, _⟩ =>
    show ((2 * k.val + c.val % 2) / 4 % 2 * 2 + ((2 * k.val + c.val % 2) / 2 % 2 * 1 + 0)) * 296 + (i (0 : Fin 2)).val = k.val * 296 + (0 * 296 + (i (0 : Fin 2)).val)
    omega
  | ⟨1, _⟩ =>
    show ((2 * k.val + c.val % 2) / 1 % 2 * 1 + 0) * 1024 + (i (1 : Fin 2)).val = (c.val / 1 % 2 * 1 + 0) * 1024 + (i (1 : Fin 2)).val
    omega
end Sum

end Cert.ChipsRun

namespace Cert.ChipsProof

open Idealize.ShloMosaic Idealize.ShloMosaic.TcCoe
open Idealize.SL.Sem

/-- For any float values: the program ends on all devices with its arguments unchanged and no count left. -/
theorem ends {F : FTy → Type} [FloatOps F] (m : (ℓ : Loc Cert.ChipsIdeal.nD Cert.ChipsIdeal.τ Cert.ChipsIdeal.sig) → Buf (Elt F) ℓ) (g : Dev Cert.ChipsIdeal.nD → PrngReg) :
    θ_run (Cert.ChipsIdeal.defs (F := F)) (onTc (τ := Cert.ChipsIdeal.τ) (Cert.ChipsIdeal.main (F := F))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2))
      ∧ r.2.sem = fun _ => 0) :=
  (θ_run Cert.ChipsIdeal.defs _ _).mono (fun _ h => ⟨fun c => (h.1 c).1, h.2⟩) (Cert.ChipsRun.run_main (F := F) m g)

/-- `Chips` ends on all devices with its arguments unchanged and no count left. -/
theorem frame : Cert.quiescent_Chips := fun m ρ _ => by
  have h := ends (F := Bits) m ρ
  rw [show Cert.ChipsIdeal.main (F := Bits) = Cert.ChipsSame.chain Cert.ChipsIdeal.pcfgs Cert.ChipsIdeal.Gen.hostOps1 from funext Cert.ChipsIdeal.Gen.main_chain] at h
  rw [show Cert.Chips.main (F := Bits) = Cert.ChipsSame.chain Cert.Chips.pcfgs Cert.Chips.Gen.hostOps1 from funext Cert.Chips.Gen.main_chain]
  exact Cert.ChipsSame.runs Cert.ChipsSame.pipelines Cert.ChipsSame.kernels (funext Cert.ChipsSame.host) _ _ h

theorem frame_ideal : Cert.quiescent_ChipsIdeal := fun m ρ _ => ends (F := Ideal) m ρ

theorem frame_ref_ideal : Cert.quiescent_ChipsRefIdeal := fun m ρ _ =>
  (θ_run Cert.ChipsRefIdeal.defs _ _).mono (fun r h => ⟨fun c => (h c).2.2, sem_eq_zero_of_no_sems (by decide) r.2⟩) (Cert.ChipsRefIdeal.Value.run (F := Ideal) m ρ)

/-- The kernel's side: the devices end with their blocks of the reference's results. -/
theorem kernel_side (m : (ℓ : Loc Cert.ChipsIdeal.nD Cert.ChipsIdeal.τ Cert.ChipsIdeal.sig) → Buf (Elt Ideal) ℓ) (g : Dev Cert.ChipsIdeal.nD → PrngReg)
    (G : FVec Ideal Cert.ChipsRefIdeal.S16x10240x1024 .bf16) (O : FVec Ideal Cert.ChipsRefIdeal.S40960x1024 .f32) (S : FVec Ideal Cert.ChipsRefIdeal.S1184x2048 .f32)
    (hm : ∀ c : Dev Cert.ChipsIdeal.nD,
      m ((c.tc : Thread Cert.ChipsIdeal.nD Cert.ChipsIdeal.τ).loc Cert.ChipsIdeal.main_arg0) = Layout.blockN ⟨3, ![4, 5120, 1024]⟩ ⟨3, ![16, 10240, 1024]⟩ (Layout.meshBlock [2, 2, 2] ![[0, 1], [2], []] c) G
      ∧ m ((c.tc : Thread Cert.ChipsIdeal.nD Cert.ChipsIdeal.τ).loc Cert.ChipsIdeal.main_arg1) = Layout.block ⟨2, ![5120, 1024]⟩ ⟨2, ![40960, 1024]⟩ 0 8 c O
      ∧ m ((c.tc : Thread Cert.ChipsIdeal.nD Cert.ChipsIdeal.τ).loc Cert.ChipsIdeal.main_arg2) = Layout.blockN ⟨2, ![296, 1024]⟩ ⟨2, ![1184, 2048]⟩ (Layout.meshBlock [2, 2, 2] ![[0, 1], [2]] c) S) :
    θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
      r.2.mem ((c.tc : Thread Cert.ChipsIdeal.nD Cert.ChipsIdeal.τ).loc Cert.ChipsIdeal.main_v19) = Layout.block ⟨2, ![5120, 1024]⟩ ⟨2, ![40960, 1024]⟩ 0 8 c (Cert.ChipsRun.bigAll G O)
      ∧ r.2.mem ((c.tc : Thread Cert.ChipsIdeal.nD Cert.ChipsIdeal.τ).loc Cert.ChipsIdeal.main_v20) = Layout.blockN ⟨2, ![296, 1024]⟩ ⟨2, ![296, 2048]⟩ (Layout.meshBlock [2, 2, 2] ![[], [2]] c) (Cert.ChipsRun.smallAll S)
      ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)) :=
  (θ_run Cert.ChipsIdeal.defs _ _).mono (fun r h c =>
      ⟨(h.1 c).2.1.trans (Cert.ChipsRun.big_of m G O (fun d => (hm d).1) c (hm c).2.1),
        (h.1 c).2.2.trans (Cert.ChipsRun.small_of m S (fun d => (hm d).2.2) c), (h.1 c).1⟩) (Cert.ChipsRun.run_main (F := Ideal) m g)

/-- `Chips` and its reference, over the extended reals: the devices end with their blocks of the reference's results. -/
theorem algebraic : Cert.algebraic_ChipsIdeal_ChipsRefIdeal := fun m g m' g' _ hm =>
  ⟨Cert.ChipsRun.bigAll (m' (((0 : Dev Cert.ChipsRefIdeal.nD).tc : Thread Cert.ChipsRefIdeal.nD Cert.ChipsRefIdeal.τ).loc Cert.ChipsRefIdeal.main_arg0))
      (m' (((0 : Dev Cert.ChipsRefIdeal.nD).tc : Thread Cert.ChipsRefIdeal.nD Cert.ChipsRefIdeal.τ).loc Cert.ChipsRefIdeal.main_arg1)),
    Cert.ChipsRun.smallAll (m' (((0 : Dev Cert.ChipsRefIdeal.nD).tc : Thread Cert.ChipsRefIdeal.nD Cert.ChipsRefIdeal.τ).loc Cert.ChipsRefIdeal.main_arg2)),
    kernel_side m g _ _ _ hm, (θ_run Cert.ChipsRefIdeal.defs _ _).mono (fun r h => h 0) (Cert.ChipsRefIdeal.Value.run (F := Ideal) m' g')⟩

end Cert.ChipsProof

end
-- ==== Proof.Add2.Value.lean ====
/- The sum of two arrays of the packed small weights: block by block, and as one addition. -/
module

public import proofs.«01_k».proof.Defs
public import proofs.«01_k».proof.Proof.Gen.Add2.Frame
public import proofs.«01_k».proof.Proof.Gen.Add2Ideal.Value
public import proofs.«01_k».proof.Proof.Gen.Add2RefIdeal.Run
public import Idealize.ShloMosaic.Lib.Quiescent

@[expose] public section

noncomputable section

open Idealize.ShloMosaic Idealize.ShloMosaic.TcCoe
open Idealize.SL.Sem

namespace Cert.Add2Proof

theorem frame : Cert.quiescent_Add2 := fun m ρ _ => Cert.Add2.Gen.frame (F := Bits) m ρ

theorem frame_ideal : Cert.quiescent_Add2Ideal := fun m ρ _ => Cert.Add2Ideal.Gen.frame (F := Ideal) m ρ

theorem frame_ref_ideal : Cert.quiescent_Add2RefIdeal := fun m ρ _ =>
  (θ_run Cert.Add2RefIdeal.defs _ _).mono (fun r h => ⟨fun c => (h c).2, sem_eq_zero_of_no_sems (by decide) r.2⟩)
    (Cert.Add2RefIdeal.Value.run (F := Ideal) m ρ)

theorem algebraic : Cert.algebraic_Add2Ideal_Add2RefIdeal := fun m g m' g' _ hm =>
  ⟨_, Cert.Add2Ideal.Value.run (F := Ideal) m g, (θ_run Cert.Add2RefIdeal.defs _ _).mono
    (fun _ h c => ⟨(h c).1.trans (by rw [(hm c).1, (hm c).2]; rfl), (h c).2⟩) (Cert.Add2RefIdeal.Value.run (F := Ideal) m' g')⟩

end Cert.Add2Proof

end
-- ==== Proof.Loss.Body.lean ====
/-
  The kernel that ends the forward pass (`_loss_head` of `Loss`): at every block it leaves the difference times the constant, and
  adds the squares of the difference to the eight rows of partial sums, which the first block sets to zero before it adds.
-/
module

public import proofs.«01_k».proof.Proof.Gen.LossIdeal
public import proofs.«01_k».proof.Proof.Gen.LossIdeal.Points
public import proofs.«01_k».proof.Proof.Gen.LossIdeal.Skeleton
public import proofs.«01_k».proof.Proof.Gen.LossIdeal.Launch
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.LossRun

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The tokens the program's proof keeps: the pipeline's, and the sum over the devices'. -/
abbrev UU : Type := UR sig nD τ × Sites.UC

local notation "𝕄" => MT nD τ sig ℕ (Elt F) ℕ UU ℕ

/-- The test the body makes of its place in the grid. -/
abbrev IsFirst (i : grid0.Coords) : Prop :=
  (Scalar.cmpi .ne (Scalar.extui (Scalar.cmpi .eq (BitVec.ofNat 32 (i 0).val) 0#32)) 0#32) = 1#1

/-- It holds at the first point alone. -/
theorem isFirst_iff (t : Fin grid0.N) : IsFirst (grid0.coords t) ↔ t.val = 0 := by
  have ht : t.val < 32 := Nat.lt_of_lt_of_eq t.isLt N_0
  have e0 : (grid0.coords t 0).val = t.val / 1 % 32 := Pipeline.Grid.coords_val t 0 (by decide) rfl
  have h : IsFirst (grid0.coords t) ↔ t.val % 32 = 0 := by
    simp only [IsFirst, e0]
    word_cmp
  rw [h]; omega

theorem origin : (![0, 0] : Fin 2 → Nat) = fun _ => 0 := funext fun a => by fin_cases a <;> rfl

abbrev rBlock : Rect S256x1024 := Rect.unit (s := S256x1024) ![0, 0] S256x1024.size inb_S256x1024_S256x1024_0_0
abbrev rSums : Rect S8x128 := Rect.unit (s := S8x128) ![0, 0] S8x128.size inb_S8x128_S8x128_0_0

theorem block_covered (q : Vec F S256x1024 .f32) (y : S256x1024.Idx) :
    ∃ pc ∈ ([⟨rBlock, q⟩] : List (View.Piece (Elt F) S256x1024 .f32)), y ∈ pc.1.set :=
  View.cover_of_tiled [⟨rBlock, q⟩] S256x1024.size (by rfl) y
theorem sums_covered (q : Vec F S8x128 .f32) (L : List (View.Piece (Elt F) S8x128 .f32)) (y : S8x128.Idx) :
    ∃ pc ∈ ((⟨rSums, q⟩ : View.Piece (Elt F) S8x128 .f32) :: L), y ∈ pc.1.set := by
  obtain ⟨pc, hpc, hy⟩ := View.cover_of_tiled (Val := Elt F) (e := .f32) [⟨rSums, q⟩] S8x128.size (by rfl) y
  exact ⟨pc, by rw [List.mem_singleton.mp hpc]; exact List.mem_cons_self, hy⟩

set_option maxHeartbeats 1000000 in
/-- The first block: the partial sums start from zero. -/
theorem first (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x128 .f32) (harg4 : arg4.IsWhole)
    (hi : IsFirst i) (x y : Vec F S256x1024 .f32) (K : PUnit → sProp 𝕄) :
    iprop(owns (c : Thread nD τ) arg1 fullShare x ∗ owns (c : Thread nD τ) arg2 fullShare y ∗ (∃ d, owns (c : Thread nD τ) arg3 fullShare d) ∗ (∃ d, owns (c : Thread nD τ) arg4 fullShare d)
        ∗ (iprop(owns (c : Thread nD τ) arg1 fullShare x ∗ owns (c : Thread nD τ) arg2 fullShare y ∗ owns (c : Thread nD τ) arg3 fullShare (k0_pay3 x y) ∗ owns (c : Thread nD τ) arg4 fullShare (k0_pay4 x y k0_pay1)) -∗ K ⟨⟩))
      ⊢ wp frame (wpE (defs₀ (F := F)) Variants.none c none) E (cc0_loss_head i arg1 harg1 arg2 harg2 arg3 harg3 arg4 harg4) K := by
  simp only [cc0_loss_head_eq_skeleton]; unfold cc0_loss_head_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hi)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (block_covered _)).trans ?_
    sl_unfold_words
    rw [View.canon_unit_zero origin]
    simp only [View.readAt_eq_ld, View.ld_unit_zero (S := S256x1024) origin]
  iexists _; isplitr
  swap; · iexact H3
  ipureintro
  refine (View.read_writes_eq_canon _ _ _ (sums_covered _ _)).trans ?_
  sl_unfold_words
  rw [View.canon_cons_unit_zero origin]
  simp only [View.readCov_unit_zero (S := S8x128) _ origin, View.readAt_eq_ld, View.ld_unit_zero (S := S256x1024) origin]

set_option maxHeartbeats 1000000 in
/-- A later block: the partial sums go on from what the blocks before left. -/
theorem later (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S8x128 .f32) (harg4 : arg4.IsWhole)
    (hi : ¬IsFirst i) (x y : Vec F S256x1024 .f32) (s : Vec F S8x128 .f32) (K : PUnit → sProp 𝕄) :
    iprop(owns (c : Thread nD τ) arg1 fullShare x ∗ owns (c : Thread nD τ) arg2 fullShare y ∗ (∃ d, owns (c : Thread nD τ) arg3 fullShare d) ∗ owns (c : Thread nD τ) arg4 fullShare s
        ∗ (iprop(owns (c : Thread nD τ) arg1 fullShare x ∗ owns (c : Thread nD τ) arg2 fullShare y ∗ owns (c : Thread nD τ) arg3 fullShare (k0_pay3 x y) ∗ owns (c : Thread nD τ) arg4 fullShare (k0_pay4 x y s)) -∗ K ⟨⟩))
      ⊢ wp frame (wpE (defs₀ (F := F)) Variants.none c none) E (cc0_loss_head i arg1 harg1 arg2 harg2 arg3 harg3 arg4 harg4) K := by
  simp only [cc0_loss_head_eq_skeleton]; unfold cc0_loss_head_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | sl_exact hi)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (block_covered _)).trans ?_
    sl_unfold_words
    rw [View.canon_unit_zero origin]
    simp only [View.readAt_eq_ld, View.ld_unit_zero (S := S256x1024) origin]
  iexists _; isplitr
  swap; · iexact H3
  ipureintro
  refine (View.read_writes_eq_canon _ _ _ (sums_covered _ _)).trans ?_
  sl_unfold_words
  rw [View.canon_cons_unit_zero origin]
  simp only [View.readAt_eq_ld, View.ld_unit_zero (S := S256x1024) origin, View.ld_unit_zero (S := S8x128) origin]

/-! ## The region's data -/

section Region

variable (V : Valuation τ sig (Elt F)) (c : Dev nD)

/-- A window's block at a point, read off its array. -/
def part (w : Fin 4) (t : Fin cfg0.N) : ((cfg0.win w).xblock (cfg0.grid.coords t)).Idx → Elt F (cfg0.win w).elt :=
  ((cfg0.win w).blk t).view.read (Elt F) (V (Proc.devRef .tc (Pipeline.arrRef spec0 w)))

/-- The partial sums after a point. -/
def sums : (n : ℕ) → n < cfg0.N → Vec F S8x128 .f32
  | 0, h => k0_pay4 (part V 0 ⟨0, h⟩) (part V 1 ⟨0, h⟩) k0_pay1
  | n + 1, h => k0_pay4 (part V 0 ⟨n + 1, h⟩) (part V 1 ⟨n + 1, h⟩) (sums n (Nat.lt_of_succ_lt h))

/-- The pipeline's proof data: the inputs are left as they are, the difference times the constant is left in its block, the partial sums
    go on; the landings of the sum over the devices are owed throughout. -/
def dat0 : Dat τ (Elt F) ℕ ℕ UU ℕ cfg0 c where
  A w := V (Proc.devRef .tc (Pipeline.arrRef spec0 w))
  after w t := match w with
    | ⟨0, _⟩ => part V 0 t
    | ⟨1, _⟩ => part V 1 t
    | ⟨2, _⟩ => k0_pay3 (part V 0 t) (part V 1 t)
    | ⟨3, _⟩ => sums V t.val t.isLt
  Φ _ := iprop(emp)
  q _ := fullShare
  owed _ := Sites.O0 (F := F) c

theorem after_0 (t : Fin cfg0.N) : (dat0 V c).after 0 t = part V 0 t := rfl
theorem after_1 (t : Fin cfg0.N) : (dat0 V c).after 1 t = part V 1 t := rfl
theorem after_2 (t : Fin cfg0.N) : (dat0 V c).after 2 t = k0_pay3 (part V 0 t) (part V 1 t) := by
  show (dat0 V c).after (⟨2, by decide⟩ : Fin 4) t = _
  dsimp only [dat0]
theorem after_3 (t : Fin cfg0.N) : (dat0 V c).after 3 t = sums V t.val t.isLt := by
  show (dat0 V c).after (⟨3, by decide⟩ : Fin 4) t = _
  dsimp only [dat0]
theorem before_0 (t : Fin cfg0.N) (d) : (dat0 V c).before 0 t d = part V 0 t :=
  ((dat0 V c).before_in_eq_fetched 0 rfl (fun _ => rfl) (fun _ _ _ => rfl) (fun t => by rw [after_0]; rfl) t d).trans rfl
theorem before_1 (t : Fin cfg0.N) (d) : (dat0 V c).before 1 t d = part V 1 t :=
  ((dat0 V c).before_in_eq_fetched 1 rfl (fun _ => rfl) (fun _ _ _ => rfl) (fun t => by rw [after_1]; rfl) t d).trans rfl
/-- The partial sums are kept from one point to the next. -/
theorem before_3 (n : ℕ) (h : n + 1 < cfg0.N) (d) : (dat0 V c).before 3 ⟨n + 1, h⟩ d = sums V n (Nat.lt_of_succ_lt h) := by
  have hN : n + 1 < 32 := lt_of_lt_of_eq h (show cfg0.N = 32 from N_0)
  rw [Dat.before_out_kept _ 3 rfl ⟨n + 1, h⟩ (Nat.succ_ne_zero n) (Bool.eq_false_iff.mpr fun h => by have := (flush0_3 _).mp h; dsimp only at this; omega)
    (fun _ => rfl) (fun _ _ => rfl)]
  exact after_3 V c _

/-- What the body is called with at a point, -/
def entered (t : Fin cfg0.N) : sProp 𝕄 :=
  iprop((dat0 V c).Φ t.castSucc ∗ (dat0 V c).owesAt Sites.ιp t.castSucc
    ∗ (∃ d, owns (c : Thread nD τ) ((cfg0.win 0).stage (cfg0.slots t 0)) fullShare ((dat0 V c).before 0 t d))
    ∗ (∃ d, owns (c : Thread nD τ) ((cfg0.win 1).stage (cfg0.slots t 1)) fullShare ((dat0 V c).before 1 t d))
    ∗ (∃ d, owns (c : Thread nD τ) ((cfg0.win 2).stage (cfg0.slots t 2)) fullShare ((dat0 V c).before 2 t d))
    ∗ (∃ d, owns (c : Thread nD τ) ((cfg0.win 3).stage (cfg0.slots t 3)) fullShare ((dat0 V c).before 3 t d)))

/-- and what it leaves. -/
def left (t : Fin cfg0.N) : sProp 𝕄 :=
  iprop((dat0 V c).Φ t.succ ∗ (dat0 V c).owesAt Sites.ιp t.succ
    ∗ owns (c : Thread nD τ) ((cfg0.win 0).stage (cfg0.slots t 0)) fullShare ((dat0 V c).after 0 t)
    ∗ owns (c : Thread nD τ) ((cfg0.win 1).stage (cfg0.slots t 1)) fullShare ((dat0 V c).after 1 t)
    ∗ owns (c : Thread nD τ) ((cfg0.win 2).stage (cfg0.slots t 2)) fullShare ((dat0 V c).after 2 t)
    ∗ owns (c : Thread nD τ) ((cfg0.win 3).stage (cfg0.slots t 3)) fullShare ((dat0 V c).after 3 t))

set_option maxHeartbeats 800000 in
theorem point (t : Fin cfg0.N) : entered V c t ⊢ wp frame (wpE (defs₀ (F := F)) Variants.none c none) Set.univ (bodyAt0 t) (fun _ => left V c t) := by
  unfold entered left bodyAt0
  simp only [before_0, before_1]
  rw [show (dat0 V c).Φ t.succ = (dat0 V c).Φ t.castSucc from rfl,
    show (dat0 V c).owesAt Sites.ιp t.succ = (dat0 V c).owesAt Sites.ιp t.castSucc from rfl,
    after_0, after_1, after_2, after_3]
  obtain ⟨n, hn⟩ := t
  cases n with
  | zero =>
    iintro ⟨HΦ, Ho, ⟨%d0, H0⟩, ⟨%d1, H1⟩, ⟨%d2, H2⟩, ⟨%d3, H3⟩⟩
    iapply (first c Set.univ (grid0.coords ⟨0, hn⟩) _ _ _ _ _ _ _ _ ((isFirst_iff ⟨0, hn⟩).mpr rfl) (part V 0 ⟨0, hn⟩) (part V 1 ⟨0, hn⟩) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  | succ n =>
    simp only [before_3]
    iintro ⟨HΦ, Ho, ⟨%d0, H0⟩, ⟨%d1, H1⟩, ⟨%d2, H2⟩, ⟨%d3, H3⟩⟩
    iapply (later c Set.univ (grid0.coords ⟨n + 1, hn⟩) _ _ _ _ _ _ _ _ (fun h => Nat.succ_ne_zero n ((isFirst_iff ⟨n + 1, hn⟩).mp h)) (part V 0 ⟨n + 1, hn⟩) (part V 1 ⟨n + 1, hn⟩) (sums V n (Nat.lt_of_succ_lt hn)) _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row (t : Fin cfg0.N) : defs₀ (F := F) .tc cfg0.body (cfg0.bodyArgs t (cfg0.slots t)) = bodyAt0 t := by
  unfold defs₀; rw [Defs.onTc_tc]

theorem body : Pipeline.BodyObligation (dat0 V c) (defs₀ (F := F)) Variants.none Sites.ιp Set.univ := fun t => by
  rw [bigSep_W0, bigSep_W0, row]
  exact triple_restated (point V c t) rfl .rfl fun _ => .rfl

end Region

end Cert.LossRun

end
-- ==== Proof.Loss.Run.lean ====
/-
  The whole program `Loss`: the kernel, the sum of its partial sums, the sum over the devices, and the two operations that make the
  loss of it, each entered with what the one before it left.
-/
module

public import proofs.«01_k».proof.Proof.Loss.Body
public import Idealize.ShloMosaic.Lib.StableHlo.CollectiveRules
public import Idealize.ShloMosaic.Lib.Pipeline.Regions
public import Idealize.ShloMosaic.Lib.Pipeline.RegionArrays
public import Idealize.ShloMosaic.Lib.Pipeline.RegionArraysS
public import Idealize.ShloMosaic.Lib.Pipeline.FrameTail
public import Idealize.ShloMosaic.Lib.Pipeline.CollectiveSegs
public import Idealize.ShloMosaic.Lib.Pipeline.Kit

@[expose] public section

noncomputable section

namespace Cert.LossRun

open Cert.LossIdeal Cert.LossIdeal.Gen
open Cert.LossIdeal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Where the pipeline's tokens and those of the sum over the devices are kept. -/
abbrev EP : Emb (UR sig nD τ) (MT nD τ sig ℕ (Elt F) ℕ UU ℕ) := embL
abbrev EC : Emb Sites.UC (MT nD τ sig ℕ (Elt F) ℕ UU ℕ) := embR

variable (m : (ℓ : Loc nD τ sig) → Buf (Elt F) ℓ) (ρ : Dev nD → PrngReg)

/-! ## The buffers between the program's parts -/

/-- As launched, -/
abbrev V₀ (c : Dev nD) : Valuation τ sig (Elt F) := fun b => m (c, b)
/-- after the kernel, -/
def Vr (c : Dev nD) : Valuation τ sig (Elt F) := Pipeline.afterRegion (dat0 (V₀ m c) c) (V₀ m c)
/-- after the sum of the partial sums, -/
def V₁ (c : Dev nD) : Valuation τ sig (Elt F) := StableHlo.after hostOps1 (Vr m c)
/-- after the sum over the devices, -/
def V₂ (c : Dev nD) : Valuation τ sig (Elt F) := (ar0 (F := F)).after₀ (V₁ m) c
/-- at the end. -/
def V₃ (c : Dev nD) : Valuation τ sig (Elt F) := StableHlo.after hostOps2 (V₂ m c)

abbrev adm : (p : Fin 1) → (pcfgs (F := F) p).Adm := fun p => (cfgs p).toPCfg_adm

abbrev pdats : (p : Fin 1) → (c : Dev nD) → Pipeline.Dat τ (Elt F) ℕ ℕ UU ℕ (Pipeline.pin (pcfgs (F := F)) adm p) c
  | ⟨0, _⟩, c => dat0 (V₀ m c) c
  | ⟨_ + 1, h⟩, _ => absurd h (by omega)

/-! ## The parts -/

/-- The buffers no region uses as scratch. -/
abbrev held (c : Dev nD) (V : Valuation τ sig (Elt F)) : sProp 𝕄 := StableHlo.held (c.tc : Thread nD τ) (Pipeline.ucRefs τ sig) V

/-- The cells of the sum over the devices are under their invariants. -/
abbrev invs : sProp 𝕄 := iprop(∃ κ, (AllReduce.Dat.once (ar0 (F := F)) (V₁ m)).cellInvs (Sites.E0 EC) κ)

/-- What rides beside the kernel. -/
abbrev beside (c : Dev nD) : sProp 𝕄 :=
  iprop(StableHlo.held (c.tc : Thread nD τ) (Pipeline.ucRefs τ sig \ Pipeline.arrRefs spec0) (V₀ m c) ∗ (∃ r, prngReg c r) ∗ Sites.rides0 EC (V₁ m) c)

/-- The kernel's own waits come before everything that is owed. -/
theorem cut : Pipeline.LevelCut (pcfgs (F := F)) adm Sites.ιp L lv 0 (fun c => Sites.O0 (F := F) c) (fun _ => 0) :=
  ⟨fun _ _ _ => Sites.mem_L _ _ (by decide), fun _ _ _ => le_refl _, fun _ _ _ hg => ⟨(Sites.O0_pos hg).1, (Sites.O0_pos hg).2⟩⟩

set_option backward.isDefEq.respectTransparency.types false in
/-- The kernel as a part of @main. -/
def reg0 : Pipeline.RegionSeg (pcfgs (F := F)) adm (pdats m) Sites.ιp defs₀ Variants.none L lv 0 :=
  Pipeline.RegionSeg.ofHeld (pcfgs (F := F)) adm (pdats m) Sites.ιp defs₀ Variants.none L lv 0 (fun c => Sites.O0 (F := F) c)
    (fun _ => iprop(emp)) (fun _ => iprop(emp)) launch0.toP rfl
    (fun c => (body (V₀ m c) c).loose) (fun _ _ => rfl) (fun _ => rfl) (fun c w => (dat0 (V₀ m c) c).share_full (fun _ => rfl) w)
    (fun c => by
      rw [show Pipeline.scopedRest (Pipeline.pin (pcfgs (F := F)) adm 0).spec c = _ from scopedRest0_eq c]
      iintro -; iempintro)
    (fun c => by
      rw [show Pipeline.scopedRest (Pipeline.pin (pcfgs (F := F)) adm 0).spec c = _ from scopedRest0_eq c]
      iintro -
      isplitr <;> iempintro)
    (fun _ => 0) cut (beside m) (V₀ m) (Vr m) (fun _ _ => rfl)
    (fun c w => (Pipeline.afterRegion_arr (dat0 (V₀ m c) c) (V₀ m c) winFacts0.arr_inj w).symm)

abbrev Host : Type _ := Pipeline.HostSeg (Ix := ℕ) (Name := ℕ) (U := UU) (Lvl := ℕ) (pcfgs (F := F)) defs₀ Variants.none L lv

/-- The sum of the partial sums. -/
def seg1 : Host (F := F) :=
  .ofOps (pcfgs (F := F)) defs₀ Variants.none L lv (Pipeline.ucRefs τ sig) hostOps1
    (fun op h => Pipeline.sub_ucRefs op ((List.forall_iff_forall_mem.mp hostOps1_sub) op h))
    (List.forall_iff_forall_mem.mp (by simp only [List.Forall]; repeat' constructor)) (Vr m) (fun c => Sites.Es EC (V₁ m) 0 c)

/-- The sum over the devices. -/
def seg2 : Host (F := F) := Sites.seg0 EC Variants.none (V₁ m) (Sites.Rest0 (V₁ m) (fun _ => invs m))

/-- The last two operations. -/
def seg3 : Host (F := F) :=
  .ofOps (pcfgs (F := F)) defs₀ Variants.none L lv (Pipeline.ucRefs τ sig) hostOps2
    (fun op h => Pipeline.sub_ucRefs op ((List.forall_iff_forall_mem.mp hostOps2_sub) op h))
    (List.forall_iff_forall_mem.mp (by simp only [List.Forall]; repeat' constructor)) (V₂ m)
    (fun c => iprop(Sites.Es EC (V₁ m) 1 c ∗ Sites.Ghost0 EC c ∗ invs m))

/-- @main in its parts. -/
def parts : List (Pipeline.Seg (pcfgs (F := F)) adm (pdats m) Sites.ιp defs₀ Variants.none L lv) :=
  [.region (reg0 m), .host (seg1 m), .host (seg2 m), .host (seg3 m)]

theorem main_parts (c : Dev nD) : main (F := F) c = Pipeline.Seg.run (parts m) :=
  main_segs adm (pdats m) Sites.ιp Variants.none L lv (seg1 m) (seg3 m) (seg2 m) (reg0 m) rfl rfl rfl c

/-! ## From one part to the next -/

theorem arrays_unscoped : Pipeline.arrRefs (τ := τ) spec0 ⊆ Pipeline.ucRefs τ sig := by decide

/-- What the launch gives each device. -/
abbrev T₀ (c : Dev nD) : sProp 𝕄 := iprop(held c (V₀ m c) ∗ Sites.Es EC (V₁ m) 0 c)
/-- What each device ends with. -/
abbrev Tₙ (c : Dev nD) : sProp 𝕄 := iprop(held c (V₃ m c) ∗ Sites.Ghost0 EC c ∗ invs m)

theorem into_kernel (c : Dev nD) : T₀ m c ⊢ (reg0 m).pre c := by
  show _ ⊢ iprop(StableHlo.held (c.tc : Thread nD τ) (Pipeline.arrRefs spec0) (V₀ m c) ∗ emp ∗ beside m c ∗ ∃ W, owes (c : Thread nD τ) (Sites.O0 (F := F) c) W)
  unfold T₀ held beside
  rw [Sites.Es_0, StableHlo.held_sub_split (c.tc : Thread nD τ) arrays_unscoped (V₀ m c)]
  iintro ⟨⟨Ha, Hb⟩, HO, Hp, Hr⟩
  isplitl [Ha]; · iexact Ha
  isplitr; · iempintro
  isplitl [Hb Hp Hr]
  · isplitl [Hb]; · iexact Hb
    isplitl [Hp] <;> iassumption
  iexact HO

theorem out_of_kernel (c : Dev nD) : (reg0 m).post c ⊢ (seg1 m).pre c := by
  show iprop(StableHlo.held (c.tc : Thread nD τ) (Pipeline.arrRefs spec0) (Vr m c) ∗ emp ∗ beside m c ∗ ∃ W, owes (c : Thread nD τ) (Sites.O0 (F := F) c) W)
    ⊢ iprop(held c (Vr m c) ∗ Sites.Es EC (V₁ m) 0 c)
  have hb : (StableHlo.held (c.tc : Thread nD τ) (Pipeline.ucRefs τ sig \ Pipeline.arrRefs spec0) (Vr m c) : sProp 𝕄)
      = StableHlo.held (c.tc : Thread nD τ) (Pipeline.ucRefs τ sig \ Pipeline.arrRefs spec0) (V₀ m c) :=
    StableHlo.held_congr (c.tc : Thread nD τ) (Pipeline.afterRegion_off (dat0 (V₀ m c) c) (V₀ m c) (Pipeline.ucRefs τ sig))
  unfold held beside
  rw [Sites.Es_0, StableHlo.held_sub_split (c.tc : Thread nD τ) arrays_unscoped (Vr m c), hb]
  iintro ⟨Ha, -, ⟨Hb, Hp, Hr⟩, HO⟩
  isplitl [Ha Hb]; · isplitl [Ha] <;> iassumption
  isplitl [HO]; · iexact HO
  isplitl [Hp] <;> iassumption

theorem into_sum (c : Dev nD) : (seg1 m).post c ⊢ (seg2 m).pre c := by
  show iprop(held c (V₁ m c) ∗ Sites.Es EC (V₁ m) 0 c) ⊢ _
  refine BIBase.Entails.trans ?_ (Sites.pre0 EC Variants.none (V₁ m) (fun _ => invs m) c)
  rw [Sites.Es_0]
  iintro ⟨Hh, HO, Hp, Hr⟩
  ihave #Hi := (show (AllReduce.Dat.once (ar0 (F := F)) (V₁ m)).rides (Sites.E0 EC) c 1 2 ⊢ invs m from by unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

theorem out_of_sum (c : Dev nD) : (seg2 m).post c ⊢ (seg3 m).pre c :=
  Sites.post0 EC Variants.none (V₁ m) (fun _ => invs m) c

theorem to_end (c : Dev nD) : (seg3 m).post c ⊢ iprop(Tₙ m c ∗ ∃ W, owes (c : Thread nD τ) (0 : CellTallies nD τ sig ℕ) W) := by
  show iprop(held c (V₃ m c) ∗ Sites.Es EC (V₁ m) 1 c ∗ Sites.Ghost0 EC c ∗ invs m) ⊢ _
  iintro ⟨Hh, HE, Hg, Hi⟩
  ihave HO := (Sites.hE_last EC (V₁ m) c) $$ HE
  isplitr [HO]
  · isplitl [Hh]; · iexact Hh
    isplitl [Hg] <;> iassumption
  iexact HO

/-! ## The launch -/

theorem launched :
    iprop((bigSep Finset.univ fun c : Dev nD => iprop(unscopedBufs c (fun b => m ((c.tc : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts L lv)
      ⊢ (|={Set.univ}=> bigSep Finset.univ (T₀ m) : sProp 𝕄) := by
  have h1 (c : Dev nD) : (unscopedBufs c (fun b => m ((c.tc : Thread nD τ).loc b)) : sProp 𝕄) = held c (V₀ m c) :=
    Pipeline.unscopedBufs_held (Ix := ℕ) (Name := ℕ) (U := UU) (Lvl := ℕ) c (V₀ m c)
  simp only [h1]
  rw [bigSep_sep']
  iintro ⟨⟨Hh, H⟩, Hl⟩
  imod (Sites.hE0 EC (V₁ m) ρ) $$ [H Hl] with HE
  · isplitl [H] <;> iassumption
  imodintro
  unfold T₀
  rw [bigSep_sep']
  isplitl [Hh] <;> iassumption

/-- What device `c` ends with. -/
def Ends (c : Dev nD) (s : MemSt nD τ sig (Elt F)) : Prop := ∀ b ∈ Pipeline.ucRefs τ sig, s.mem (c, b) = V₃ m c b

set_option backward.isDefEq.respectTransparency.types false in
/-- On the mesh, for any float values, from any memory with zero counters: every weakly fair execution of `Loss` ends, each device's
    buffers as the last operation leaves them, every semaphore counter at zero. -/
theorem run_main : θ_run (defs (F := F)) (onTc (τ := τ) (main (F := F))) ⟨m, fun _ => 0, ρ⟩
    (fun r => (∀ c, Ends m c r.2) ∧ r.2.sem = fun _ => 0) :=
  Pipeline.θ_run_regions_kit_sems (pcfgs (F := F)) adm (pdats m) Sites.ιp cellOf_inj EP defs₀ Variants.none L lv m ρ main (parts m)
    (fun c Q => by rw [main_parts m c])
    (by simp only [parts, Pipeline.Seg.pipes_host, Pipeline.Seg.pipes_region, Pipeline.Seg.pipes_nil]; decide)
    (O₀ := Sites.O0 (F := F)) (hL := Sites.hL) (G := Sites.G EC (V₁ m))
    (u₀ := (initOf (Pipeline.cells (Pipeline.pin (pcfgs (F := F)) adm) cellOf_inj) (Pipeline.launchToks (Pipeline.pin (pcfgs (F := F)) adm) cellOf_inj),
      Sites.uC (U := UU) (V₁ m)))
    (hu₀ := by
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨into_kernel m, out_of_kernel m, into_sum m, out_of_sum m, to_end m⟩)
    (hinit := launched m ρ)
    (QY := fun c s => Ends m c s
      ∧ s.sem ((ar0 (F := F)).barrierCell c) = 0 ∧ s.sem ((ar0 (F := F)).recvCell c) = 0 ∧ s.sem ((ar0 (F := F)).sendCell c) = 0)
    (hfin := fun c s' => by
      iintro ⟨⟨Hh, Hg, Hi⟩, HSI⟩
      imod ((AllReduce.Dat.once (ar0 (F := F)) (V₁ m)).ghostAfter_read (Sites.E0 EC) c (k := 0) le_rfl s') $$ [Hi Hg HSI] with ⟨%ha, HSI⟩
      · isplitr [HSI]; swap; · iexact HSI
        isplitl [Hi] <;> iassumption
      unfold held StableHlo.held
      ihave Hr := (pointsTo_read_all (Pipeline.ucRefs τ sig) (fun b => ((c.tc : Thread nD τ).1, b)) (V₃ m c) s') $$ [Hh HSI]
      · isplitl [Hh] <;> iassumption
      icases Hr with ⟨%h, HSI⟩
      imodintro
      isplitr; · ipureintro; exact ⟨h, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.LossRun

end
-- ==== Proof.Loss.Sums.lean ====
/-
  Over the extended reals: what the kernel of `Loss` adds to its partial sums at a block is, all told, the sum of the squares of the
  block's differences; and to scale every term of a sum by the constant is to scale the sum.
-/
module

public import proofs.«01_k».proof.Proof.Loss.Body
public import Idealize.ShloMosaic.Lib.Pointwise
public import Idealize.ShloMosaic.Lib.IdealHost

@[expose] public section

set_option maxRecDepth 16384

noncomputable section

namespace Cert.LossRun

open Cert.LossIdeal Cert.LossIdeal.Gen
open Idealize.ShloMosaic Idealize.ShloMosaic.TcCoe
open Idealize.SL.Sem

/-- A sum is the sum over consecutive blocks of the sums over the blocks. -/
theorem sum_split {M : Type*} [AddCommMonoid M] (m n N : ℕ) (h : m * n = N) (f : Fin N → M) :
    ∑ i, f i = ∑ p : Fin m, ∑ a : Fin n, f ⟨n * p.val + a.val, by
      have hp := p.isLt; have ha := a.isLt
      calc n * p.val + a.val < n * p.val + n := by omega
        _ = n * (p.val + 1) := by ring
        _ ≤ n * m := Nat.mul_le_mul_left _ hp
        _ = N := by rw [Nat.mul_comm, h]⟩ := by
  subst h
  rw [← Fintype.sum_prod_type']
  exact (finProdFinEquiv.sum_comp f).symm.trans (Finset.sum_congr rfl fun x _ => congrArg f (Fin.ext (Nat.add_comm _ _)))

/-- The constant the differences are scaled by, and the number it is the inverse of. -/
abbrev scale : EReal := Ideal.ofBits .f32 0x3A800000#32
abbrev width : EReal := Ideal.ofBits .f32 0x44800000#32
abbrev half : EReal := Ideal.ofBits .f32 0x3F000000#32

theorem scale_eq : scale = ((1 / 1024 : ℝ) : EReal) := by
  unfold scale
  simp [Ideal.ofBits, Ideal.ieee, -EReal.coe_mul]; norm_num
theorem width_eq : width = ((1024 : ℝ) : EReal) := by
  unfold width
  simp [Ideal.ofBits, Ideal.ieee, -EReal.coe_mul]; norm_num

/-- To divide by the number is to scale by the constant. -/
theorem div_width (x : EReal) : Ideal.div x width = x * scale := by
  unfold Ideal.div
  rw [width_eq, scale_eq, if_neg (by exact_mod_cast (by norm_num : (1024 : ℝ) ≠ 0)), ← EReal.coe_inv, one_div]

theorem sum_scaled {ι : Type*} (s : Finset ι) (f : ι → EReal) : ∑ i ∈ s, f i * scale = (∑ i ∈ s, f i) * scale := by
  classical
  have h0 : (0 : EReal) ≤ scale := by rw [scale_eq]; exact_mod_cast (by norm_num : (0 : ℝ) ≤ 1 / 1024)
  have h1 : scale ≠ ⊤ := by rw [scale_eq]; exact EReal.coe_ne_top _
  induction s using Finset.induction_on with
  | empty => simp
  | insert a s ha ih => rw [Finset.sum_insert ha, Finset.sum_insert ha, ih, EReal.right_distrib_of_nonneg_of_ne_top h0 h1]

/-- The square of a difference, at an index. -/
def sq {s : Shape} (x y : s.Idx → EReal) (i : s.Idx) : EReal := (x i - y i) * (x i - y i)

theorem scaled (x y : Vec Ideal S256x1024 .f32) (i : S256x1024.Idx) : k0_pay3 (F := Ideal) x y i = ((x i : EReal) - y i) * scale := by
  unfold k0_pay3 k0_pay2
  pointwise

theorem zeroed (i : S8x128.Idx) : k0_pay1 (F := Ideal) i = (0 : EReal) := by
  unfold k0_pay1
  pointwise

theorem at_same (x y : Vec Ideal S256x1024 .f32) {r r' : Fin 256} {k k' : Fin 1024} (hr : r.val = r'.val) (hk : k.val = k'.val) :
    ((x (ix2 r k) : EReal) - y (ix2 r k)) * ((x (ix2 r k) : EReal) - y (ix2 r k)) = sq (s := S256x1024) x y (ix2 r' k') := by
  rw [Fin.ext hr, Fin.ext hk]; rfl

/-- What a block adds to the partial sums, at an index: every eighth row's squares, in every 128th column. -/
theorem added_at (x y : Vec Ideal S256x1024 .f32) (s : Vec Ideal S8x128 .f32) (a : Fin 8) (b : Fin 128) :
    k0_pay4 (F := Ideal) x y s (ix2 a b) = (s (ix2 a b) : EReal)
      + ∑ j : Fin 8, ∑ p : Fin 32, sq (s := S256x1024) x y (ix2 (⟨8 * p.val + a.val, by omega⟩ : Fin 256) (⟨128 * j.val + b.val, by omega⟩ : Fin 1024)) := by
  unfold k0_pay4 k0_pay2
  pointwise
  rw [Fin.sum_univ_eight]
  refine congrArg (fun z : EReal => s (ix2 a b) + z) ?_
  have h (j : Fin 8) (k : Fin 1024) (hk : k.val = 128 * j.val + b.val) (r : Fin 32 → Fin 256) (hr : ∀ p, (r p).val = p.val * 8 + a.val) :
      ∑ p : Fin 32, ((x (ix2 (r p) k) : EReal) - y (ix2 (r p) k)) * ((x (ix2 (r p) k) : EReal) - y (ix2 (r p) k))
        = ∑ p : Fin 32, sq (s := S256x1024) x y (ix2 (⟨8 * p.val + a.val, by omega⟩ : Fin 256) (⟨128 * j.val + b.val, by omega⟩ : Fin 1024)) :=
    Finset.sum_congr rfl fun p _ => at_same x y (by rw [hr]; dsimp only; omega) hk
  refine congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) ?_ ?_) ?_) ?_) ?_) ?_) ?_) ?_
  · exact h 0 ⟨b.val, by omega⟩ (by simp) (fun p => ⟨p.val * 8 + a.val, by omega⟩) fun _ => rfl
  · exact h 1 ⟨128 + b.val, by omega⟩ (by simp) (fun p => ⟨p.val * 8 + a.val, by omega⟩) fun _ => rfl
  · exact h 2 ⟨256 + b.val, by omega⟩ (by simp) (fun p => ⟨p.val * 8 + a.val, by omega⟩) fun _ => rfl
  · exact h 3 ⟨384 + b.val, by omega⟩ (by simp) (fun p => ⟨p.val * 8 + a.val, by omega⟩) fun _ => rfl
  · exact h 4 ⟨512 + b.val, by omega⟩ (by simp) (fun p => ⟨p.val * 8 + a.val, by omega⟩) fun _ => rfl
  · exact h 5 ⟨640 + b.val, by omega⟩ (by simp) (fun p => ⟨p.val * 8 + a.val, by omega⟩) fun _ => rfl
  · exact h 6 ⟨768 + b.val, by omega⟩ (by simp) (fun p => ⟨p.val * 8 + a.val, by omega⟩) fun _ => rfl
  · exact h 7 ⟨896 + b.val, by omega⟩ (by simp) (fun p => ⟨p.val * 8 + a.val, by omega⟩) fun _ => rfl

/-- All told, a block adds the squares of all its differences. -/
theorem added (x y : Vec Ideal S256x1024 .f32) (s : Vec Ideal S8x128 .f32) :
    ∑ a : Fin 8, ∑ b : Fin 128, (k0_pay4 (F := Ideal) x y s (ix2 a b) : EReal)
      = (∑ a : Fin 8, ∑ b : Fin 128, (s (ix2 a b) : EReal)) + ∑ r : Fin 256, ∑ k : Fin 1024, sq (s := S256x1024) x y (ix2 r k) := by
  rw [sum_split 32 8 256 rfl, Finset.sum_comm (γ := Fin 32), ← Finset.sum_add_distrib]
  refine Finset.sum_congr rfl fun a _ => ?_
  simp only [added_at, Finset.sum_add_distrib]
  refine congrArg (fun z : EReal => (∑ b : Fin 128, (s (ix2 a b) : EReal)) + z) ?_
  simp only [sum_split 8 128 1024 rfl]
  rw [Finset.sum_comm (γ := Fin 128), Finset.sum_comm (γ := Fin 32)]
  exact Finset.sum_congr rfl fun j _ => Finset.sum_comm

section Points
variable (V : Valuation τ sig (Elt Ideal))

/-- The squares of a block's differences, added up. -/
def blockSum (t : Fin cfg0.N) : EReal :=
  ∑ r : Fin 256, ∑ k : Fin 1024, sq (s := S256x1024) (part V 0 t : Vec Ideal S256x1024 .f32) (part V 1 t : Vec Ideal S256x1024 .f32) (ix2 r k)

/-- After a point the partial sums add up to the squares of the differences of all blocks so far. -/
theorem sums_total : ∀ (n : ℕ) (h : n < cfg0.N), ∑ a : Fin 8, ∑ b : Fin 128, (sums V n h (ix2 a b) : EReal)
    = ∑ t : Fin (n + 1), blockSum V ⟨t.val, lt_of_lt_of_le t.isLt h⟩
  | 0, h => by
    unfold sums
    rw [added]
    simp only [zeroed, Finset.sum_const_zero, zero_add]
    exact (Fin.sum_univ_one fun t : Fin 1 => blockSum V ⟨t.val, lt_of_lt_of_le t.isLt h⟩).symm
  | n + 1, h => by
    unfold sums
    rw [added, sums_total n, Fin.sum_univ_castSucc (n := n + 1)]
    rfl

/-- Where the blocks are. -/
theorem places : ∀ t : Fin grid0.N, cc0_transform_0 (grid0.coords t) = ![t.val, 0] ∧ cc0_transform_1 (grid0.coords t) = ![t.val, 0]
    ∧ cc0_transform_2 (grid0.coords t) = ![t.val, 0] ∧ cc0_transform_3 (grid0.coords t) = ![0, 0] := by decide +kernel

/-- The two arrays the kernel reads. -/
abbrev output : FVec Ideal S8192x1024 .f32 := V (Proc.devRef .tc main_arg0)
abbrev target : FVec Ideal S8192x1024 .f32 := V (Proc.devRef .tc main_arg1)

theorem part_0 (t : Fin cfg0.N) (r : Fin 256) (k : Fin 1024) (i : Fin 8192) (hi : i.val = 256 * t.val + r.val) :
    (part V 0 t : Vec Ideal S256x1024 .f32) (ix2 r k) = output V (ix2 i k) := by
  unfold part
  rw [View.read_apply]
  show V (Proc.devRef .tc main_arg0) _ = _
  congr 1
  funext a
  apply Fin.ext
  match a with
  | ⟨0, _⟩ => show cc0_transform_0 (grid0.coords t) (0 : Fin 2) * 256 + 1 * r.val = i.val; rw [(places t).1]; show t.val * 256 + 1 * r.val = i.val; omega
  | ⟨1, _⟩ => show cc0_transform_0 (grid0.coords t) (1 : Fin 2) * 1024 + 1 * k.val = k.val; rw [(places t).1]; show 0 * 1024 + 1 * k.val = k.val; omega
theorem part_1 (t : Fin cfg0.N) (r : Fin 256) (k : Fin 1024) (i : Fin 8192) (hi : i.val = 256 * t.val + r.val) :
    (part V 1 t : Vec Ideal S256x1024 .f32) (ix2 r k) = target V (ix2 i k) := by
  unfold part
  rw [View.read_apply]
  show V (Proc.devRef .tc main_arg1) _ = _
  congr 1
  funext a
  apply Fin.ext
  match a with
  | ⟨0, _⟩ => show cc0_transform_1 (grid0.coords t) (0 : Fin 2) * 256 + 1 * r.val = i.val; rw [(places t).2.1]; show t.val * 256 + 1 * r.val = i.val; omega
  | ⟨1, _⟩ => show cc0_transform_1 (grid0.coords t) (1 : Fin 2) * 1024 + 1 * k.val = k.val; rw [(places t).2.1]; show 0 * 1024 + 1 * k.val = k.val; omega

/-- A device's squares, added up. -/
def squares : EReal := ∑ i : Fin 8192, ∑ k : Fin 1024, sq (s := S8192x1024) (output V) (target V) (ix2 i k)

/-- The partial sums after the last point add up to the squares of all the device's differences. -/
theorem sums_last (h : 31 < cfg0.N) : ∑ a : Fin 8, ∑ b : Fin 128, (sums V 31 h (ix2 a b) : EReal) = squares V := by
  rw [sums_total]
  unfold squares
  rw [sum_split 32 256 8192 rfl]
  refine Finset.sum_congr rfl fun t _ => Finset.sum_congr rfl fun r _ => Finset.sum_congr rfl fun k _ => ?_
  have hi : 256 * t.val + r.val < 8192 := by have := t.isLt; have := r.isLt; omega
  have ht : t.val < cfg0.N := lt_of_lt_of_le t.isLt h
  have e := congrArg₂ (fun u v : EReal => u - v) (part_0 V ⟨t.val, ht⟩ r k ⟨_, hi⟩ rfl) (part_1 V ⟨t.val, ht⟩ r k ⟨_, hi⟩ rfl)
  exact congrArg₂ (fun u v : EReal => u * v) e e

/-! ## The arrays at the end -/

variable (c : Dev nD)

/-- The differences times the constant, of whole arrays. -/
def scaledAll : FVec Ideal S8192x1024 .f32 := fun i => ((output V i : EReal) - target V i) * scale

theorem flushed_2 (t : Fin cfg0.N) : (dat0 V c).flushed 2 t = ((cfg0.win 2).blk t).view.read (Elt Ideal) (scaledAll V) := by
  show (cfg0.win 2).cut (grid0.coords t) ((dat0 V c).after 2 t) = _
  rw [after_2]
  funext j
  have ht : t.val < 32 := Nat.lt_of_lt_of_eq t.isLt N_0
  have h0 : (j (0 : Fin 2)).val < 256 := (j (0 : Fin 2)).isLt
  refine (scaled (part V 0 t) (part V 1 t) j).trans ?_
  show _ = scaledAll V (((cfg0.win 2).blk t).view.emb j)
  have hj : ((cfg0.win 2).blk t).view.emb j = (ix2 (⟨256 * t.val + (j (0 : Fin 2)).val, by omega⟩ : Fin 8192) (j (1 : Fin 2)) : S8192x1024.Idx) := by
    funext a
    apply Fin.ext
    match a with
    | ⟨0, _⟩ =>
      show cc0_transform_2 (grid0.coords t) (0 : Fin 2) * 256 + 1 * (j (0 : Fin 2)).val = 256 * t.val + (j (0 : Fin 2)).val
      rw [(places t).2.2.1]
      show t.val * 256 + 1 * (j (0 : Fin 2)).val = 256 * t.val + (j (0 : Fin 2)).val
      omega
    | ⟨1, _⟩ =>
      show cc0_transform_2 (grid0.coords t) (1 : Fin 2) * 1024 + 1 * (j (1 : Fin 2)).val = (j (1 : Fin 2)).val
      rw [(places t).2.2.1]
      show 0 * 1024 + 1 * (j (1 : Fin 2)).val = (j (1 : Fin 2)).val
      omega
  rw [hj]
  unfold scaledAll
  rw [← part_0 V t (j (0 : Fin 2)) (j (1 : Fin 2)) ⟨256 * t.val + (j (0 : Fin 2)).val, by omega⟩ rfl,
    ← part_1 V t (j (0 : Fin 2)) (j (1 : Fin 2)) ⟨256 * t.val + (j (0 : Fin 2)).val, by omega⟩ rfl]
  rw [← eq_ix2 (j : S256x1024.Idx)]

theorem covered_2 (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  let t : Fin grid0.N := ⟨(i 0).val / 256, by rw [N_0]; omega⟩
  have e2 := (places t).2.2.1
  refine ⟨t, flush0_2 t, ?_⟩
  show i ∈ ((View.whole main_v1_0).slice ((cfg0.win 2).rect t)).set
  rw [View.set_slice_whole, Rect.mem_set_unit]
  intro b
  match b with
  | ⟨0, _⟩ =>
    show cc0_transform_2 (grid0.coords t) (0 : Fin 2) * 256 ≤ (i 0).val ∧ (i 0).val < cc0_transform_2 (grid0.coords t) (0 : Fin 2) * 256 + 256
    rw [e2]
    show (i 0).val / 256 * 256 ≤ (i 0).val ∧ (i 0).val < (i 0).val / 256 * 256 + 256
    omega
  | ⟨1, _⟩ =>
    show cc0_transform_2 (grid0.coords t) (1 : Fin 2) * 1024 ≤ (i 1).val ∧ (i 1).val < cc0_transform_2 (grid0.coords t) (1 : Fin 2) * 1024 + 1024
    rw [e2]
    show 0 * 1024 ≤ (i 1).val ∧ (i 1).val < 0 * 1024 + 1024
    omega

/-- The array of the scaled differences at the end. -/
theorem array_2 : (dat0 V c).arrAt 2 cfg0.N = scaledAll V :=
  (dat0 V c).arrAt_eq_of_cover 2 _ (fun t _ => flushed_2 V c t) covered_2

theorem last_point : 31 < cfg0.N := by rw [show cfg0.N = 32 from N_0]; decide

theorem whole_3 (t : Fin cfg0.N) (j : S8x128.Idx) : ((cfg0.win 3).blk t).view.emb j = j := by
  funext a
  apply Fin.ext
  match a with
  | ⟨0, _⟩ =>
    show cc0_transform_3 (grid0.coords t) (0 : Fin 2) * 8 + 1 * (j (0 : Fin 2)).val = (j (0 : Fin 2)).val
    rw [(places t).2.2.2]
    show 0 * 8 + 1 * (j (0 : Fin 2)).val = (j (0 : Fin 2)).val
    omega
  | ⟨1, _⟩ =>
    show cc0_transform_3 (grid0.coords t) (1 : Fin 2) * 128 + 1 * (j (1 : Fin 2)).val = (j (1 : Fin 2)).val
    rw [(places t).2.2.2]
    show 0 * 128 + 1 * (j (1 : Fin 2)).val = (j (1 : Fin 2)).val
    omega

/-- The array of the partial sums at the end. -/
theorem array_3 : (dat0 V c).arrAt 3 cfg0.N = sums V 31 last_point :=
  (dat0 V c).arrAt_eq_of_cover 3 _ (fun t ht => by
    have h31 : t.val = 31 := by have := (flush0_3 t).mp ht; have := Nat.lt_of_lt_of_eq t.isLt (show cfg0.N = 32 from N_0); omega
    obtain ⟨n, hn⟩ := t
    dsimp only at h31
    subst h31
    show (cfg0.win 3).cut (grid0.coords ⟨31, hn⟩) ((dat0 V c).after 3 ⟨31, hn⟩) = _
    rw [after_3]
    funext j
    show sums V 31 hn j = sums V 31 last_point (((cfg0.win 3).blk ⟨31, hn⟩).view.emb j)
    rw [whole_3]) fun i => ⟨⟨31, last_point⟩, (flush0_3 _).mpr rfl, by
      have h := View.emb_mem_set ((cfg0.win 3).blk ⟨31, last_point⟩).view i
      rwa [whole_3 ⟨31, last_point⟩ i] at h⟩

end Points

end Cert.LossRun

end
-- ==== Proof.Loss.Same.lean ====
module

/-
The programs `Loss` and `LossIdeal` are one program: one kernel, one pipeline, one list of host operations, one sum over the devices. So
what holds of every run of the one holds of every run of the other.
-/

public import proofs.«01_k».proof.Proof.Gen.Loss
public import proofs.«01_k».proof.Proof.Gen.Loss.Launch
public import proofs.«01_k».proof.Proof.Gen.LossIdeal
public import proofs.«01_k».proof.Proof.Gen.LossIdeal.Launch

@[expose] public section

noncomputable section

namespace Cert.LossSame

open Idealize.ShloMosaic Idealize.ShloMosaic.TcCoe Idealize.ShloMosaic.StableHlo
open Idealize.SL.Sem

variable {F : FTy → Type} [FloatOps F]

theorem kernels : Cert.Loss.defs₀ (F := F) = Cert.LossIdeal.defs₀ (F := F) := by
  unfold Cert.Loss.defs₀ Cert.LossIdeal.defs₀
  refine congrArg Defs.onTc (funext fun l => ?_)
  rcases l with ⟨_ | n, h⟩
  · funext a; rfl
  · exact absurd h (by omega)

theorem pipelines : Cert.Loss.pcfgs (F := F) = Cert.LossIdeal.pcfgs (F := F) := rfl

theorem total : Cert.Loss.ar0 (F := F) = Cert.LossIdeal.ar0 (F := F) := rfl

theorem before : Cert.Loss.Gen.hostOps1 (F := F) = Cert.LossIdeal.Gen.hostOps1 (F := F) := rfl

theorem after : Cert.Loss.Gen.hostOps2 (F := F) = Cert.LossIdeal.Gen.hostOps2 (F := F) := rfl

/-- A host program over any pipeline: the call, host operations, a sum over the devices, host operations. -/
def line {nD : Nat} {τ : Topo} {sig : RefSig} {Λ₀ : Labels} (P : Fin 1 → Pipeline.PCfg sig Λ₀ (Elt F)) (a b : List (HloOp τ sig (Elt F)))
    (s : AllReduce.Cfg nD τ sig (Elt F)) : Prog (TpuEff nD τ sig (Elt F) (Pipeline.Sig Λ₀ (Fin 1) fun p => (P p).Adm) .tc) PUnit :=
  Pipeline.chain [Prog.lift (.customCall (Pipeline.entry 0) ()), StableHlo.seq a, StableHlo.allReduce s, StableHlo.seq b]

/-- Equal parts have the same runs. -/
theorem runs {nD : Nat} {τ : Topo} {sig : RefSig} {Λ₀ : Labels} {P P' : Fin 1 → Pipeline.PCfg sig Λ₀ (Elt F)} {D D' : Defs nD τ sig (Elt F) Λ₀}
    {a a' b b' : List (HloOp τ sig (Elt F))} {s s' : AllReduce.Cfg nD τ sig (Elt F)} (hP : P = P') (hD : D = D') (ha : a = a') (hb : b = b') (hs : s = s')
    (σ : MemSt nD τ sig (Elt F)) (Q) (h : θ_run (Pipeline.defs P' D') (onTc (τ := τ) fun _ => line P' a' b' s') σ Q) :
    θ_run (Pipeline.defs P D) (onTc (τ := τ) fun _ => line P a b s) σ Q := by
  subst hP hD ha hb hs
  exact h

end Cert.LossSame

end
-- ==== Proof.Loss.Value.lean ====
/-
  What `Loss` and its reference say of each other: each device starting with its rows of the reference's arrays, it ends with its rows
  of the reference's scaled differences, and with the reference's loss.
-/
module

public import proofs.«01_k».proof.Proof.Loss.Run
public import proofs.«01_k».proof.Proof.Loss.Sums
public import proofs.«01_k».proof.Proof.Loss.Same
public import proofs.«01_k».proof.Proof.Gen.Loss
public import proofs.«01_k».proof.Proof.Gen.LossRefIdeal
public import proofs.«01_k».proof.Proof.Gen.LossRefIdeal.Run
public import proofs.«01_k».proof.Defs
public import Idealize.ShloMosaic.Lib.Layout
public import Idealize.ShloMosaic.Lib.Quiescent

@[expose] public section

set_option maxRecDepth 16384

noncomputable section

namespace Cert.LossRun

open Cert.LossIdeal Cert.LossIdeal.Gen
open Idealize.ShloMosaic Idealize.ShloMosaic.TcCoe Idealize.ShloMosaic.StableHlo
open Idealize.SL.Sem

/-! ## What is kept -/

section Kept
variable {F : FTy → Type} [FloatOps F]
variable (m : (ℓ : Loc nD τ sig) → Buf (Elt F) ℓ)

theorem unscoped : ∀ r ∈ [main_arg0, main_arg1, main_v1_0, main_v5], (Proc.devRef .tc r : DevRef τ sig) ∈ Pipeline.ucRefs τ sig := by decide
theorem kept_1 : ∀ r ∈ [main_arg0, main_arg1, main_v1_0], r ∉ [main_cst, main_v2] := by decide
theorem kept_2 : ∀ r ∈ [main_arg0, main_arg1, main_v1_0], r ≠ main_v3 ∧ ∀ j : Fin 8, ar0_stage j ≠ r := by decide
theorem kept_3 : ∀ r ∈ [main_arg0, main_arg1, main_v1_0], r ∉ [main_cst_0, main_v4, main_cst_1, main_v5] := by decide
theorem args_kept : ∀ r ∈ [main_arg0, main_arg1], ∀ w, Pipeline.arrRef spec0 w = r → (spec0 w).isOut = false := by decide

/-- After the kernel nothing changes the arguments or the scaled differences. -/
theorem V₃_of (c : Dev nD) (r : Ref sig .tc) (h : r ∈ [main_arg0, main_arg1, main_v1_0]) : V₃ m c (Proc.devRef .tc r) = Vr m c (Proc.devRef .tc r) := by
  have e3 : V₃ m c (Proc.devRef .tc r) = V₂ m c (Proc.devRef .tc r) :=
    StableHlo.after_of_writes_sub hostOps2 _ (StableHlo.forall_writes_sub_of_map rfl) (kept_3 r h)
  have e2 : V₂ m c (Proc.devRef .tc r) = V₁ m c (Proc.devRef .tc r) := by
    refine (ar0 (F := F)).after₀_of_notMem (V₁ m) c fun hm => ?_
    rcases Finset.mem_insert.mp hm with hm | hm
    · exact (kept_2 r h).1 (Proc.devRef_injective _ hm)
    · obtain ⟨j, hj⟩ := (ar0 (F := F)).mem_stageRefs.mp hm
      exact (kept_2 r h).2 j (Proc.devRef_injective _ hj.symm)
  have e1 : V₁ m c (Proc.devRef .tc r) = Vr m c (Proc.devRef .tc r) :=
    StableHlo.after_of_writes_sub hostOps1 _ (StableHlo.forall_writes_sub_of_map rfl) (kept_1 r h)
  exact e3.trans (e2.trans e1)

/-- Nothing changes the arguments. -/
theorem arg_of (c : Dev nD) (r : Ref sig .tc) (h : r ∈ [main_arg0, main_arg1]) : V₃ m c (Proc.devRef .tc r) = m (c, Proc.devRef .tc r) :=
  (V₃_of m c r (List.mem_append_left [main_v1_0] h)).trans
    (Pipeline.afterRegion_keeps (dat0 (V₀ m c) c) (V₀ m c) winFacts0.arr_inj (fun _ => rfl) r (args_kept r h))

theorem ends_at (c : Dev nD) (s : MemSt nD τ sig (Elt F)) (h : Ends m c s) (r : Ref sig .tc) (hr : r ∈ [main_arg0, main_arg1, main_v1_0, main_v5]) :
    s.mem ((c.tc : Thread nD τ).loc r) = V₃ m c (Proc.devRef .tc r) := h _ (unscoped r hr)

/-- The arguments at the end. -/
theorem ends_args (c : Dev nD) (s : MemSt nD τ sig (Elt F)) (h : Ends m c s) :
    s.mem ((c.tc : Thread nD τ).loc main_arg0) = m ((c.tc : Thread nD τ).loc main_arg0)
      ∧ s.mem ((c.tc : Thread nD τ).loc main_arg1) = m ((c.tc : Thread nD τ).loc main_arg1) :=
  ⟨(ends_at m c s h main_arg0 (by decide)).trans (arg_of m c main_arg0 (by decide)),
    (ends_at m c s h main_arg1 (by decide)).trans (arg_of m c main_arg1 (by decide))⟩

end Kept

/-! ## The results -/

section Results
variable (m : (ℓ : Loc nD τ sig) → Buf (Elt Ideal) ℓ)

/-- The scaled differences at the end. -/
theorem scaled_end (c : Dev nD) : V₃ m c (Proc.devRef .tc main_v1_0) = scaledAll (V₀ m c) :=
  (V₃_of m c main_v1_0 (by decide)).trans
    ((Pipeline.afterRegion_arr (dat0 (V₀ m c) c) (V₀ m c) winFacts0.arr_inj 2).trans (array_2 (V₀ m c) c))

theorem one : ∀ b, S_.size b = 1 := by decide

/-- A device's partial sums, summed. -/
theorem device_sum (c : Dev nD) (i : S_.Idx) : (V₁ m c (Proc.devRef .tc main_v2) i : EReal) = squares (V₀ m c) := by
  have h : V₁ m c (Proc.devRef .tc main_v2)
      = Host.reduceAdd (F := Ideal) (φ := .f32) (Vr m c (Proc.devRef .tc main_v1_1)) (constant S_ .f32 0x00000000#32) reducesTo_S8x128_S_d0_1 h_S_ := by
    show StableHlo.after hostOps1 (Vr m c) (Proc.devRef .tc main_v2) = _
    after_results
  rw [h, show Vr m c (Proc.devRef .tc main_v1_1) = sums (V₀ m c) 31 last_point from
    (Pipeline.afterRegion_arr (dat0 (V₀ m c) c) (V₀ m c) winFacts0.arr_inj 3).trans (array_3 (V₀ m c) c)]
  show Ideal.hostReduceAdd _ _ _ i = _
  rw [Ideal.hostReduceAdd_total _ one]
  rw [show constant (F := Ideal) S_ .f32 0x00000000#32 (Shape.Idx.first h_S_) = (0 : EReal) from Ideal.ofBits_zero .f32, zero_add]
  exact (sum_idx2 _).trans (sums_last (V₀ m c) last_point)

/-- The devices of the sum, in order. -/
theorem members : ∀ (c : Dev nD) (j : Fin 8), ar0_mem ((ar0_pos c).1, j) = (j : Dev nD) := by decide

/-- The fold over the devices is the sum. -/
theorem fold_sum (v : Fin 8 → FVec Ideal S_ .f32) (i : S_.Idx) : ((ar0 (F := Ideal)).foldGroup v i : EReal) = ∑ d : Fin 8, (v d i : EReal) :=
  (Fin.sum_univ_eight fun d : Fin 8 => (v d i : EReal)).symm

/-- One entry of a one-element array. -/
abbrev entry (v : FVec Ideal S_ .f32) (i : S_.Idx) : EReal := v i

/-- What the sum over the devices leaves, whatever the devices held. -/
theorem sum_after (W : Dev nD → Valuation τ sig (Elt Ideal)) (c : Dev nD) (i : S_.Idx) :
    ((ar0 (F := Ideal)).after₀ W c (Proc.devRef .tc main_v3) i : EReal) = ∑ d : Fin 8, entry (W d (Proc.devRef .tc main_v2)) i := by
  have h := (ar0 (F := Ideal)).after₀_result W c
  have hs (u : Fin 8 → FVec Ideal S_ .f32) : ((ar0 (F := Ideal)).toResult ((ar0 (F := Ideal)).foldGroup u) : FVec Ideal S_ .f32) i = (∑ d : Fin 8, (u d i : EReal) : EReal) :=
    fold_sum u i
  refine (congrFun h i).trans ((hs _).trans (Fintype.sum_congr (fun d : Fin 8 => entry (W ((ar0 (F := Ideal)).peer c d) (Proc.devRef .tc main_v2)) i)
    (fun d : Fin 8 => entry (W d (Proc.devRef .tc main_v2)) i) fun d => ?_))
  have hp : (ar0 (F := Ideal)).peer c d = (d : Dev nD) := members c d
  exact congrArg (fun e : Dev nD => entry (W e (Proc.devRef .tc main_v2)) i) hp

/-- All devices' squares, added up, after the sum over the devices. -/
theorem all_sum (c : Dev nD) (i : S_.Idx) : (V₂ m c (Proc.devRef .tc main_v3) i : EReal) = ∑ d : Fin 8, squares (V₀ m d) :=
  (sum_after (V₁ m) c i).trans (Fintype.sum_congr (fun d : Fin 8 => entry (V₁ m d (Proc.devRef .tc main_v2)) i) (fun d : Fin 8 => squares (V₀ m d)) fun d => device_sum m d i)

/-- The loss of whole arrays: half the squares of all differences, times the constant. -/
def lossAll (y t : FVec Ideal Cert.LossRefIdeal.S65536x1024 .f32) : FVec Ideal S_ .f32 := fun _ =>
  half * ((∑ r : Fin 65536, ∑ k : Fin 1024, sq (s := Cert.LossRefIdeal.S65536x1024) y t (ix2 r k)) * scale)

/-- The scaled differences of whole arrays. -/
def diffAll (y t : FVec Ideal Cert.LossRefIdeal.S65536x1024 .f32) : FVec Ideal Cert.LossRefIdeal.S65536x1024 .f32 := fun i => ((y i : EReal) - t i) * scale

theorem loss_end (c : Dev nD) (i : S_.Idx) : (V₃ m c (Proc.devRef .tc main_v5) i : EReal) = half * ((∑ d : Fin 8, squares (V₀ m d)) * scale) := by
  have h : V₃ m c (Proc.devRef .tc main_v5) = Host.divf (F := Ideal) (φ := .f32) (mulf (F := Ideal) (φ := .f32) (constant S_ .f32 0x3F000000#32) (V₂ m c (Proc.devRef .tc main_v3)))
      (constant S_ .f32 0x44800000#32) := by
    show StableHlo.after hostOps2 (V₂ m c) (Proc.devRef .tc main_v5) = _
    after_results
  rw [h]
  show Ideal.div (half * (V₂ m c (Proc.devRef .tc main_v3) i : EReal)) width = _
  rw [div_width, all_sum, mul_assoc]

end Results

/-! ## From the reference's arrays -/

section Whole
variable (m : (ℓ : Loc nD τ sig) → Buf (Elt Ideal) ℓ) (y t : FVec Ideal Cert.LossRefIdeal.S65536x1024 .f32)

theorem rows (c : Dev nD) (x : FVec Ideal Cert.LossRefIdeal.S65536x1024 .f32) (i : Fin 8192) (k : Fin 1024) :
    (Layout.block ⟨2, ![8192, 1024]⟩ ⟨2, ![65536, 1024]⟩ 0 8 c x : FVec Ideal S8192x1024 .f32) (ix2 i k)
      = x (ix2 (⟨8192 * c.val + i.val, by have hc : c.val < 8 := c.isLt; have := i.isLt; omega⟩ : Fin 65536) k) := by
  rw [Layout.block_apply]
  refine congrArg x (funext fun a => Fin.ext ?_)
  match a with
  | ⟨0, _⟩ => show c.val * 8192 + i.val = 8192 * c.val + i.val; omega
  | ⟨1, _⟩ => rfl

variable (hm : ∀ c : Dev nD, m ((c.tc : Thread nD τ).loc main_arg0) = Layout.block ⟨2, ![8192, 1024]⟩ ⟨2, ![65536, 1024]⟩ 0 8 c y
  ∧ m ((c.tc : Thread nD τ).loc main_arg1) = Layout.block ⟨2, ![8192, 1024]⟩ ⟨2, ![65536, 1024]⟩ 0 8 c t)
include hm

/-- The devices' squares are the squares of the whole arrays. -/
theorem squares_all : ∑ d : Fin 8, squares (V₀ m d) = ∑ r : Fin 65536, ∑ k : Fin 1024, sq (s := Cert.LossRefIdeal.S65536x1024) y t (ix2 r k) := by
  rw [sum_split 8 8192 65536 rfl]
  refine Finset.sum_congr rfl fun d _ => ?_
  unfold squares
  refine Finset.sum_congr rfl fun i _ => Finset.sum_congr rfl fun k _ => ?_
  have e := congrArg₂ (fun u v : EReal => u - v) ((congrFun (hm d).1 (ix2 i k)).trans (rows d y i k)) ((congrFun (hm d).2 (ix2 i k)).trans (rows d t i k))
  exact congrArg₂ (fun u v : EReal => u * v) e e

theorem loss_of (c : Dev nD) : V₃ m c (Proc.devRef .tc main_v5) = lossAll y t := by
  funext i
  refine (loss_end m c i).trans ?_
  rw [squares_all m y t hm]
  rfl

theorem diff_of (c : Dev nD) : V₃ m c (Proc.devRef .tc main_v1_0) = Layout.block ⟨2, ![8192, 1024]⟩ ⟨2, ![65536, 1024]⟩ 0 8 c (diffAll y t) := by
  rw [scaled_end]
  funext i
  rw [Layout.block_apply]
  have e := congrArg₂ (fun u v : EReal => u - v) ((congrFun (hm c).1 i).trans (Layout.block_apply ..)) ((congrFun (hm c).2 i).trans (Layout.block_apply ..))
  exact congrArg (fun z : EReal => z * scale) e

end Whole

end Cert.LossRun

namespace Cert.LossProof

open Idealize.ShloMosaic Idealize.ShloMosaic.TcCoe
open Idealize.SL.Sem
open Cert.LossRun (half scale width sq lossAll diffAll)

/-- The reference's scaled differences, -/
theorem ref_diff (y t : FVec Ideal Cert.LossRefIdeal.S65536x1024 .f32) :
    Host.divf (subf y t) (broadcastInDim Cert.LossRefIdeal.S65536x1024 ![] Cert.LossRefIdeal.Gen.bcast_S_S65536x1024 (constant Cert.LossRefIdeal.S_ .f32 0x44800000#32)) = diffAll y t := by
  funext i
  exact Cert.LossRun.div_width _

theorem one : ∀ b, Cert.LossRefIdeal.S_.size b = 1 := by decide

/-- and its loss. -/
theorem ref_loss (y t : FVec Ideal Cert.LossRefIdeal.S65536x1024 .f32) :
    mulf (constant (F := Ideal) Cert.LossRefIdeal.S_ .f32 0x3F000000#32) (Host.reduceAdd (Host.divf (Host.reduceAdd (mulf (subf y t) (subf y t)) (constant Cert.LossRefIdeal.S_ .f32 0x00000000#32)
      Cert.LossRefIdeal.Gen.reducesTo_S65536x1024_S65536_d1 Cert.LossRefIdeal.Gen.h_S_) (broadcastInDim Cert.LossRefIdeal.S65536 ![] Cert.LossRefIdeal.Gen.bcast_S_S65536 (constant Cert.LossRefIdeal.S_ .f32 0x44800000#32)))
      (constant Cert.LossRefIdeal.S_ .f32 0x00000000#32) Cert.LossRefIdeal.Gen.reducesTo_S65536_S_d0 Cert.LossRefIdeal.Gen.h_S_) = lossAll y t := by
  funext i
  show half * Ideal.hostReduceAdd _ _ _ i = half * _
  rw [Ideal.hostReduceAdd_total _ one]
  rw [show constant (F := Ideal) Cert.LossRefIdeal.S_ .f32 0x00000000#32 (Shape.Idx.first Cert.LossRefIdeal.Gen.h_S_) = (0 : EReal) from Ideal.ofBits_zero .f32, zero_add,
    ← Cert.LossRun.sum_scaled]
  refine congrArg (fun z : EReal => half * z) ((sum_idx1 _).trans (Finset.sum_congr rfl fun r _ => ?_))
  refine (Cert.LossRun.div_width _).trans (congrArg (fun z : EReal => z * scale) ?_)
  show Ideal.hostReduceAdd _ _ _ _ = _
  rw [Ideal.hostReduceAdd_r2_a1, show constant (F := Ideal) Cert.LossRefIdeal.S_ .f32 0x00000000#32 (Shape.Idx.first Cert.LossRefIdeal.Gen.h_S_) = (0 : EReal) from Ideal.ofBits_zero .f32, zero_add]
  rfl

/-- For any float values: the program ends on all devices with its arguments unchanged and no count left. -/
theorem ends {F : FTy → Type} [FloatOps F] (m : (ℓ : Loc Cert.LossIdeal.nD Cert.LossIdeal.τ Cert.LossIdeal.sig) → Buf (Elt F) ℓ) (g : Dev Cert.LossIdeal.nD → PrngReg) :
    θ_run (Cert.LossIdeal.defs (F := F)) (onTc (τ := Cert.LossIdeal.τ) (Cert.LossIdeal.main (F := F))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0) :=
  (θ_run Cert.LossIdeal.defs _ _).mono (fun r h => ⟨fun c => Cert.LossRun.ends_args m c r.2 (h.1 c), h.2⟩) (Cert.LossRun.run_main (F := F) m g)

/-- `Loss` ends on all devices with its arguments unchanged and no count left. -/
theorem frame : Cert.quiescent_Loss := fun m ρ _ => by
  have h := ends (F := Bits) m ρ
  rw [show Cert.LossIdeal.main (F := Bits) = fun _ => Cert.LossSame.line Cert.LossIdeal.pcfgs Cert.LossIdeal.Gen.hostOps1 Cert.LossIdeal.Gen.hostOps2 Cert.LossIdeal.ar0 from funext Cert.LossIdeal.Gen.main_chain] at h
  rw [show Cert.Loss.main (F := Bits) = fun _ => Cert.LossSame.line Cert.Loss.pcfgs Cert.Loss.Gen.hostOps1 Cert.Loss.Gen.hostOps2 Cert.Loss.ar0 from funext Cert.Loss.Gen.main_chain]
  exact Cert.LossSame.runs Cert.LossSame.pipelines Cert.LossSame.kernels Cert.LossSame.before Cert.LossSame.after Cert.LossSame.total _ _ h

theorem frame_ideal : Cert.quiescent_LossIdeal := fun m ρ _ => ends (F := Ideal) m ρ

theorem frame_ref_ideal : Cert.quiescent_LossRefIdeal := fun m ρ _ =>
  (θ_run Cert.LossRefIdeal.defs _ _).mono (fun r h => ⟨fun c => (h c).2.2, sem_eq_zero_of_no_sems (by decide) r.2⟩) (Cert.LossRefIdeal.Value.run (F := Ideal) m ρ)

/-- `Loss` and its reference, over the extended reals: the devices end with their rows of the reference's scaled differences and with
    its loss. -/
theorem algebraic : Cert.algebraic_LossIdeal_LossRefIdeal := fun m g m' g' _ hm =>
  ⟨diffAll (m' (((0 : Dev Cert.LossRefIdeal.nD).tc : Thread Cert.LossRefIdeal.nD Cert.LossRefIdeal.τ).loc Cert.LossRefIdeal.main_arg0)) (m' (((0 : Dev Cert.LossRefIdeal.nD).tc : Thread Cert.LossRefIdeal.nD Cert.LossRefIdeal.τ).loc Cert.LossRefIdeal.main_arg1)),
    lossAll (m' (((0 : Dev Cert.LossRefIdeal.nD).tc : Thread Cert.LossRefIdeal.nD Cert.LossRefIdeal.τ).loc Cert.LossRefIdeal.main_arg0)) (m' (((0 : Dev Cert.LossRefIdeal.nD).tc : Thread Cert.LossRefIdeal.nD Cert.LossRefIdeal.τ).loc Cert.LossRefIdeal.main_arg1)),
    (θ_run Cert.LossIdeal.defs _ _).mono (fun r h c =>
      ⟨(Cert.LossRun.ends_at m c r.2 (h.1 c) Cert.LossIdeal.main_v1_0 (by decide)).trans (Cert.LossRun.diff_of m _ _ hm c),
        (Cert.LossRun.ends_at m c r.2 (h.1 c) Cert.LossIdeal.main_v5 (by decide)).trans (Cert.LossRun.loss_of m _ _ hm c),
        Cert.LossRun.ends_args m c r.2 (h.1 c)⟩) (Cert.LossRun.run_main (F := Ideal) m g),
    (θ_run Cert.LossRefIdeal.defs _ _).mono (fun _ h => ⟨(h 0).1.trans (ref_diff _ _), (h 0).2.1.trans (ref_loss _ _), (h 0).2.2⟩)
      (Cert.LossRefIdeal.Value.run (F := Ideal) m' g')⟩

end Cert.LossProof

end
-- ==== Proof.GradX.Value.lean ====
/- The product that ends the gradient of the input: eight blocks of the contracted axis added up in turn, then the
   residual's gradient, make the residual's gradient plus the whole product. -/
module

public import proofs.«01_k».proof.Defs
public import proofs.«01_k».proof.Proof.Gen.GradX.Frame
public import proofs.«01_k».proof.Proof.Gen.GradXIdeal.Value
public import proofs.«01_k».proof.Proof.Gen.GradXRefIdeal.Run
public import Idealize.ShloMosaic.Lib.Pipeline.Value
public import Idealize.ShloMosaic.Lib.Pointwise
public import Idealize.ShloMosaic.Lib.Tactic
public import Idealize.ShloMosaic.Lib.Quiescent

@[expose] public section

noncomputable section

open Idealize.ShloMosaic Idealize.ShloMosaic.TcCoe
open Idealize.SL.Sem
open Idealize.ShloMosaic.Pipeline (Dat)

namespace Cert.GradXProof

/-- A sum over blocks of consecutive terms is the sum over all of them. -/
theorem sum_blocks {M : Type*} [AddCommMonoid M] (f : ℕ → M) (w : ℕ) : ∀ n : ℕ,
    ∑ j ∈ Finset.range n, ∑ k ∈ Finset.range w, f (w * j + k) = ∑ k ∈ Finset.range (w * n), f k
  | 0 => by simp
  | n + 1 => by rw [Finset.sum_range_succ, sum_blocks f w n, Nat.mul_succ, Finset.sum_range_add]

section

open Cert.GradXIdeal Cert.GradXIdeal.Gen Cert.GradXIdeal.Value

theorem origin : (![0, 0] : Fin 2 → Nat) = fun _ => 0 := funext fun a => by fin_cases a <;> rfl

/-- The first block of a row of blocks leaves its product. -/
theorem first {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (k0 : cond0_0 i) (k1 : ¬cond0_1 i) (k2 : ¬cond0_2 i) (x0 x1 : Vec F S1024x1024 .bf16) (x2 : Vec F S1024x1024 .f32) :
    sout0_A_0 c i a3 h3 a4 h4 a5 h5 a6 h6 a7 h7 k0 k1 k2 x0 x1 x2 = k0_pay1 x0 x1 := by
  unfold sout0_A_0
  rw [View.read_writes_eq_canon _ _ _ (scover0_A_0 c i a3 h3 a4 h4 a5 h5 a6 h6 a7 h7 k0 k1 k2 x0 x1 x2)]
  unfold kernelRun0_A
  dsimp only
  sl_unfold_words
  rw [View.canon_unit_zero origin]
  unfold k0_pay2
  simp only [View.readAt_eq_ld, h3.read_unread, h4.read_unread, View.ld_unit_zero (S := S1024x1024) origin, shapeCast_self]

/-- Every later block but the last adds its product. -/
theorem next {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (k0 : ¬cond0_0 i) (k1 : cond0_1 i) (k2 : ¬cond0_2 i) (x0 x1 : Vec F S1024x1024 .bf16) (x2 s : Vec F S1024x1024 .f32) :
    sout0_B_0 c i a3 h3 a4 h4 a5 h5 a6 h6 a7 h7 k0 k1 k2 x0 x1 x2 s = addf s (k0_pay1 x0 x1) := by
  unfold sout0_B_0
  rw [View.read_writes_eq_canon _ _ _ (scover0_B_0 c i a3 h3 a4 h4 a5 h5 a6 h6 a7 h7 k0 k1 k2 x0 x1 x2 s)]
  unfold kernelRun0_B
  dsimp only
  sl_unfold_words
  rw [View.canon_unit_zero origin]
  unfold k0_pay3
  simp only [View.readAt_eq_ld, h3.read_unread, h4.read_unread, h7.read_unread, View.ld_unit_zero (S := S1024x1024) origin, shapeCast_self]

/-- The last block adds its product, and the residual's gradient. -/
theorem last {F : FTy → Type} [FloatOps F] (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (a7 : Memref sig .tc .vmem S1024x1024 .f32) (h7 : a7.IsWhole)
    (k0 : ¬cond0_0 i) (k1 : cond0_1 i) (k2 : cond0_2 i) (x0 x1 : Vec F S1024x1024 .bf16) (x2 s : Vec F S1024x1024 .f32) :
    out0_C_3 c i a3 h3 a4 h4 a5 h5 a6 h6 a7 h7 k0 k1 k2 x0 x1 x2 s = k0_pay4 (addf s (k0_pay1 x0 x1)) x2 := by
  unfold out0_C_3
  rw [View.read_writes_eq_canon _ _ _ (cover0_C_3 c i a3 h3 a4 h4 a5 h5 a6 h6 a7 h7 k0 k1 k2 x0 x1 x2 s)]
  unfold kernelRun0_C
  dsimp only
  sl_unfold_words
  rw [View.canon_unit_zero origin]
  simp only [View.readCov_unit_zero (S := S1024x1024) _ origin, View.readAt_eq_ld, h3.read_unread, h4.read_unread, h5.read_unread, h7.read_unread, View.ld_unit_zero (S := S1024x1024) origin, shapeCast_self, k0_pay3]

variable (m : (ℓ : Loc nD τ sig) → Buf (Elt Ideal) ℓ)

/-- The gradient of the projections, the projections' weights and the residual's gradient, as launched. -/
abbrev left (c : Dev nD) : Vec Ideal S8192x8192 .bf16 := m (c.tc.loc main_arg0)
abbrev right (c : Dev nD) : Vec Ideal S1024x8192 .bf16 := m (c.tc.loc main_arg1)
abbrev rest (c : Dev nD) : Vec Ideal S8192x1024 .f32 := m (c.tc.loc main_arg2)

/-- Where each window stands at a point. -/
theorem places : ∀ t : Fin cfg0.N, (win0_0.index t 0 = t.val / 8 ∧ win0_0.index t 1 = t.val % 8)
    ∧ (win0_1.index t 0 = 0 ∧ win0_1.index t 1 = t.val % 8) ∧ win0_2.index t 0 = t.val / 8 ∧ win0_2.index t 1 = 0 :=
  (by decide +kernel : ∀ t : Fin grid0.N, _)

/-- One product of the whole contraction, and nothing past its end. -/
def term (c : Dev nD) (r : Fin 8192) (d : Fin 1024) (k : ℕ) : EReal :=
  if h : k < 8192 then (left m c (ix2 r ⟨k, h⟩) : EReal) * right m c (ix2 d ⟨k, h⟩) else 0

/-- The residual's gradient plus the whole contraction. -/
def whole (c : Dev nD) : Vec Ideal S8192x1024 .f32 := fun i =>
  (rest m c i : EReal) + ∑ k : Fin 8192, (left m c (ix2 (i 0) k) : EReal) * right m c (ix2 (i 1) k)

/-- The whole contraction, counted by the naturals below its length. -/
theorem terms (c : Dev nD) (r : Fin 8192) (d : Fin 1024) :
    ∑ k ∈ Finset.range 8192, term m c r d k = ∑ k : Fin 8192, (left m c (ix2 r k) : EReal) * right m c (ix2 d k) := by
  rw [← Fin.sum_univ_eq_sum_range]
  exact Finset.sum_congr rfl fun k _ => dif_pos k.isLt

/-- The left block at a point. -/
theorem left_at (c : Dev nD) (t : Fin cfg0.N) (y k : Fin 1024) (r : Fin 8192) (hr : r.val = 1024 * (t.val / 8) + y.val)
    (n : Fin 8192) (hn : n.val = 1024 * (t.val % 8) + k.val) :
    (iblk m c 0 t : Vec Ideal S1024x1024 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1024 + 1 * k.val = n.val; rw [(places t).1.2]; omega

/-- The right block at a point. -/
theorem right_at (c : Dev nD) (t : Fin cfg0.N) (d k : Fin 1024) (n : Fin 8192) (hn : n.val = 1024 * (t.val % 8) + k.val) :
    (iblk m c 1 t : Vec Ideal S1024x1024 .bf16) (ix2 d k) = right m c (ix2 d n) := by
  unfold iblk
  rw [View.read_apply]
  show m (c.tc.loc main_arg1) _ = _
  congr 1
  funext a
  apply Fin.ext
  match a with
  | ⟨0, _⟩ => show win0_1.index t 0 * 1024 + 1 * d.val = d.val; rw [(places t).2.1.1]; omega
  | ⟨1, _⟩ => show win0_1.index t 1 * 1024 + 1 * k.val = n.val; rw [(places t).2.1.2]; omega

/-- The residual's block at a point. -/
theorem rest_at (c : Dev nD) (t : Fin cfg0.N) (y d : Fin 1024) (r : Fin 8192) (hr : r.val = 1024 * (t.val / 8) + y.val) :
    (iblk m c 2 t : Vec Ideal S1024x1024 .f32) (ix2 y d) = rest m c (ix2 r d) := by
  unfold iblk
  rw [View.read_apply]
  show m (c.tc.loc main_arg2) _ = _
  congr 1
  funext a
  apply Fin.ext
  match a with
  | ⟨0, _⟩ => show win0_2.index t 0 * 1024 + 1 * y.val = r.val; rw [(places t).2.2.1]; omega
  | ⟨1, _⟩ => show win0_2.index t 1 * 1024 + 1 * d.val = d.val; rw [(places t).2.2.2]; omega

/-- The product of two blocks, at an index. -/
theorem product (x0 x1 : Vec Ideal S1024x1024 .bf16) (y d : Fin 1024) :
    k0_pay1 (F := Ideal) x0 x1 (ix2 y d) = ∑ k : Fin 1024, (x0 (ix2 y k) : EReal) * x1 (ix2 d k) := by
  unfold k0_pay1
  pointwise

/-- The residual's gradient is added as it is. -/
theorem added (s x : Vec Ideal S1024x1024 .f32) (j : S1024x1024.Idx) : k0_pay4 (F := Ideal) s x j = (s j : EReal) + x j := by
  unfold k0_pay4
  pointwise

/-- A block's product is its part of the contraction. -/
theorem part (c : Dev nD) (t : Fin cfg0.N) (y d : Fin 1024) (r : Fin 8192) (hr : r.val = 1024 * (t.val / 8) + y.val) :
    k0_pay1 (F := Ideal) (iblk m c 0 t) (iblk m c 1 t) (ix2 y d) = ∑ k ∈ Finset.range 1024, term m c r d (1024 * (t.val % 8) + k) := by
  rw [product, ← Fin.sum_univ_eq_sum_range]
  refine Finset.sum_congr rfl fun k _ => ?_
  have hb : 1024 * (t.val % 8) + k.val < 8192 := by have := k.isLt; omega
  rw [left_at m c t y k r hr ⟨_, hb⟩ rfl, right_at m c t d k ⟨_, hb⟩ rfl]
  unfold term
  rw [dif_pos hb]

/-- What the running total holds after the first blocks of a row of blocks. -/
theorem running (c : Dev nD) (q : ℕ) : ∀ (j : ℕ) (hj : j < 7) (h : 8 * q + j < cfg0.N) (y d : Fin 1024) (r : Fin 8192) (hr : r.val = 1024 * q + y.val),
    (outsAt0 m c (8 * q + j) h).2 (ix2 y d) = ∑ s ∈ Finset.range (j + 1), ∑ k ∈ Finset.range 1024, term m c r d (1024 * s + k)
  | 0, hj, h, y, d, r, hr => by
    have e0 : (8 * q + 0) % 8 = 0 := by omega
    have ed : (8 * q + 0) / 8 = q := by omega
    have e := outsAt0_A m c ⟨8 * q + 0, h⟩ e0 (by dsimp only; omega) (by dsimp only; omega)
    dsimp only at e
    rw [e]
    dsimp only
    rw [first, part m c ⟨8 * q + 0, h⟩ y d r (by dsimp only; rw [ed]; exact hr), Finset.sum_range_one]
    dsimp only
    rw [e0]
  | j + 1, hj, h, y, d, r, hr => by
    have e0 : (8 * q + (j + 1)) % 8 = j + 1 := by omega
    have ed : (8 * q + (j + 1)) / 8 = q := by omega
    have e := outsAt0_B m c ⟨8 * q + (j + 1), h⟩ (by dsimp only; omega) (by dsimp only; omega) (by dsimp only; omega)
    dsimp only at e
    rw [e]
    dsimp only
    rw [next, Finset.sum_range_succ]
    refine congrArg₂ (· + ·) (running c q j (by omega) (by omega) y d r hr) ?_
    rw [part m c ⟨8 * q + (j + 1), h⟩ y d r (by dsimp only; rw [ed]; exact hr)]
    dsimp only
    rw [e0]

/-- What the last block of a row of blocks writes back. -/
theorem written (c : Dev nD) (q : ℕ) (h : 8 * q + 7 < cfg0.N) (y d : Fin 1024) (r : Fin 8192) (hr : r.val = 1024 * q + y.val) :
    (outsAt0 m c (8 * q + 7) h).1 (ix2 y d) = whole m c (ix2 r d) := by
  have e0 : (8 * q + 7) % 8 = 7 := by omega
  have ed : (8 * q + 7) / 8 = q := by omega
  have e := outsAt0_C m c ⟨8 * q + 7, h⟩ (by dsimp only; omega) (by dsimp only; omega) e0
  dsimp only at e
  rw [e]
  dsimp only
  rw [last]
  have hs : ∀ h', (outsAt0 m c (8 * q + 7 - 1) h').2 (ix2 y d) = ∑ s ∈ Finset.range 7, ∑ k ∈ Finset.range 1024, term m c r d (1024 * s + k) :=
    fun h' => running m c q 6 (by omega) h' y d r hr
  have hp := part m c ⟨8 * q + 7, h⟩ y d r (by dsimp only; rw [ed]; exact hr)
  have hx := rest_at m c ⟨8 * q + 7, h⟩ y d r (by dsimp only; rw [ed]; exact hr)
  dsimp only at hp
  rw [e0] at hp
  rw [added, hx]
  show (_ + _ : EReal) + _ = _
  rw [hs, hp, ← Finset.sum_range_succ (fun s => ∑ k ∈ Finset.range 1024, term m c r d (1024 * s + k)), sum_blocks, terms, add_comm]
  rfl

/-- The array the product ends in. -/
theorem folded (c : Dev nD) : G3 m c = whole m c := by
  funext i
  have h0 : (i 0).val < 8192 := (i 0).isLt
  have h1 : (i 1).val < 1024 := (i 1).isLt
  have hq : run3Of i = (i 0).val / 1024 := by unfold run3Of; omega
  have hN : pt3Of i < cfg0.N := by rw [show cfg0.N = 64 from N_0]; unfold pt3Of; omega
  unfold G3
  rw [dif_pos hN, ← outsAt0_sweep m c (pt3Of i) hN]
  have hl : loc3Of i = ix2 ⟨(i 0).val % 1024, Nat.mod_lt _ (by decide)⟩ (i 1) := by
    funext a; apply Fin.ext
    match a with
    | ⟨0, _⟩ => rfl
    | ⟨1, _⟩ => exact Nat.mod_eq_of_lt h1
  rw [hl]
  refine (written m c (run3Of i) hN _ (i 1) (i 0) ?_).trans (congrArg (whole m c) (eq_ix2 i).symm)
  rw [hq]
  dsimp only
  omega

end

theorem frame : Cert.quiescent_GradX := fun m ρ _ => Cert.GradX.Gen.frame (F := Bits) m ρ

theorem frame_ideal : Cert.quiescent_GradXIdeal := fun m ρ _ => Cert.GradXIdeal.Gen.frame (F := Ideal) m ρ

theorem frame_ref_ideal : Cert.quiescent_GradXRefIdeal := fun m ρ _ =>
  (θ_run Cert.GradXRefIdeal.defs _ _).mono (fun r h => ⟨fun c => (h c).2, sem_eq_zero_of_no_sems (by decide) r.2⟩)
    (Cert.GradXRefIdeal.Value.run (F := Ideal) m ρ)

/-- The plain product added to the residual's gradient, at an index. -/
theorem plain (a : FVec Ideal Cert.GradXRefIdeal.S8192x8192 .bf16) (b : FVec Ideal Cert.GradXRefIdeal.S1024x8192 .bf16)
    (x : FVec Ideal Cert.GradXRefIdeal.S8192x1024 .f32) (i : Cert.GradXRefIdeal.S8192x1024.Idx) :
    (addf x (Host.dotGeneral Cert.GradXRefIdeal.dot_S8192x8192_S1024x8192_S8192x1024_1_1_0_0_n_n none a b) : FVec Ideal Cert.GradXRefIdeal.S8192x1024 .f32) i
      = (x i : EReal) + ∑ k : Fin 8192, (a (ix2 (i 0) k) : EReal) * b (ix2 (i 1) k) := by
  pointwise

theorem algebraic : Cert.algebraic_GradXIdeal_GradXRefIdeal := fun m g m' g' _ hm =>
  ⟨fun c => whole m c, (θ_run Cert.GradXIdeal.defs _ _).mono (fun _ h c => ⟨(h c).1.trans (folded m c), (h c).2⟩)
      (Cert.GradXIdeal.Value.run (F := Ideal) m g),
    (θ_run Cert.GradXRefIdeal.defs _ _).mono (fun _ h c => ⟨(h c).1.trans (by
      funext i
      refine (plain _ _ _ i).trans ?_
      rw [(hm c).1, (hm c).2.1, (hm c).2.2]
      rfl), (h c).2⟩) (Cert.GradXRefIdeal.Value.run (F := Ideal) m' g')⟩

end Cert.GradXProof

end
-- ==== Proof.Products.ProjMain.lean ====
/- The product with the main columns of the input projection: block by block, the whole product. -/
module

public import proofs.«01_k».proof.Proof.GradX.Value
public import proofs.«01_k».proof.Proof.Gen.ProjMain.Frame
public import proofs.«01_k».proof.Proof.Gen.ProjMainIdeal.Value
public import proofs.«01_k».proof.Proof.Gen.ProjMainRefIdeal.Run

@[expose] public section

noncomputable section

open Idealize.ShloMosaic Idealize.ShloMosaic.TcCoe
open Idealize.SL.Sem
open Idealize.ShloMosaic.Pipeline (Dat)
open Cert.GradXProof (origin sum_blocks)

namespace Cert.ProjMainProof

section

open Cert.ProjMainIdeal Cert.ProjMainIdeal.Gen Cert.ProjMainIdeal.Value

/-- What a point leaves in its block. -/
theorem block {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S8x128 .f32) (h6 : a6.IsWhole) (x0 : Vec F S1024x1024 .bf16) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero origin]
  simp only [View.readAt_eq_ld, h3.read_unread, h4.read_unread, View.ld_unit_zero (S := S1024x1024) origin, shapeCast_self]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S1024x8192 .bf16 := m (c.tc.loc main_arg1)

/-- Where each window stands at a point. -/
theorem places : ∀ t : Fin cfg0.N, (win0_0.index t 0 = t.val / 1 % 8 ∧ win0_0.index t 1 = t.val % 1) ∧ (win0_1.index t 0 = t.val % 1 ∧ win0_1.index t 1 = t.val / 1 / 8) ∧ (win0_2.index t 0 = t.val / 1 % 8 ∧ win0_2.index t 1 = t.val / 1 / 8) :=
  (by decide +kernel : ∀ t : Fin grid0.N, _)

/-- The whole product. -/
def whole (c : Dev nD) : Vec Ideal S8192x8192 .f32 := fun i =>
  ∑ k : Fin 1024, (left m c (ix2 (i 0) k) : EReal) * right m c (ix2 k (i 1))

/-- The blocks at a point. -/
theorem left_at (c : Dev nD) (t : Fin cfg0.N) (y : Fin 1024) (k : Fin 1024) (r : Fin 8192) (hr : r.val = 1024 * (t.val / 1 % 8) + y.val) (n : Fin 1024) (hn : n.val = 1024 * (t.val % 1) + k.val) :
    (iblk m c 0 t : Vec Ideal S1024x1024 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1024 + 1 * k.val = n.val; rw [(places t).1.2]; omega

theorem right_at (c : Dev nD) (t : Fin cfg0.N) (k : Fin 1024) (d : Fin 1024) (n : Fin 1024) (hn : n.val = 1024 * (t.val % 1) + k.val) (e : Fin 8192) (he : e.val = 1024 * (t.val / 1 / 8) + d.val) :
    (iblk m c 1 t : Vec Ideal S1024x1024 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 1024 + 1 * d.val = e.val; rw [(places t).2.1.2]; omega

/-- A block's product, at an index. -/
theorem product (x0 : Vec Ideal S1024x1024 .bf16) (x1 : Vec Ideal S1024x1024 .bf16) (y : Fin 1024) (d : Fin 1024) :
    k0_pay1 (F := Ideal) x0 x1 (ix2 y d) = ∑ k : Fin 1024, (x0 (ix2 y k) : EReal) * x1 (ix2 k d) := by
  unfold k0_pay1
  pointwise

/-- What a point writes back. -/
theorem written (c : Dev nD) (t : Fin cfg0.N) (y : Fin 1024) (d : Fin 1024) (r : Fin 8192) (hr : r.val = 1024 * (t.val / 1 % 8) + y.val) (e : Fin 8192) (he : e.val = 1024 * (t.val / 1 / 8) + d.val) :
    outsAt0 m c t (ix2 y d) = whole m c (ix2 r e) := by
  unfold outsAt0
  rw [block, product]
  unfold whole
  refine Finset.sum_congr rfl fun k _ => ?_
  rw [left_at m c t y k r hr k (by omega), right_at m c t k d k (by omega) e he]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 64 := Nat.lt_of_lt_of_eq t.isLt N_0
    have h0 : (j 0).val < 1024 := (j 0).isLt
    have h1 : (j 1).val < 1024 := (j 1).isLt
    have hj : ((cfg0.win 2).blk t).view.emb j = (ix2 (⟨1024 * (t.val / 1 % 8) + (j 0).val, by omega⟩ : Fin 8192) (⟨1024 * (t.val / 1 / 8) + (j 1).val, by omega⟩ : Fin 8192) : S8192x8192.Idx) := by
      funext a
      apply Fin.ext
      match a with
      | ⟨0, _⟩ => show win0_2.index t 0 * 1024 + 1 * (j 0).val = 1024 * (t.val / 1 % 8) + (j 0).val; rw [(places t).2.2.1]; omega
      | ⟨1, _⟩ => show win0_2.index t 1 * 1024 + 1 * (j 1).val = 1024 * (t.val / 1 / 8) + (j 1).val; rw [(places t).2.2.2]; omega
    have hc : ∀ o : Vec Ideal S1024x1024 .f32, (cfg0.win 2).cut (grid0.coords t) o j = o j := fun _ => rfl
    have hG : ∀ G : Vec Ideal S8192x8192 .f32, G (ix2 (⟨1024 * (t.val / 1 % 8) + (j 0).val, by omega⟩ : Fin 8192) (⟨1024 * (t.val / 1 / 8) + (j 1).val, by omega⟩ : Fin 8192)) = ((cfg0.win 2).blk t).view.read (Elt Ideal) G j := fun G => by
      rw [View.read_apply]
      exact congrArg G hj.symm
    exact (hc _).trans (((congrArg (outsAt0 m c t) (eq_ix2 (j : S1024x1024.Idx))).trans (written m c t (j 0) (j 1) ⟨1024 * (t.val / 1 % 8) + (j 0).val, by omega⟩ rfl ⟨1024 * (t.val / 1 / 8) + (j 1).val, by omega⟩ rfl)).trans (hG _))) fun i => by
    have h0 : (i 0).val < 8192 := (i 0).isLt
    have h1 : (i 1).val < 8192 := (i 1).isLt
    let t : Fin cfg0.N := ⟨1 * ((i 1).val / 1024 * 8 + (i 0).val / 1024) + 0, by rw [show cfg0.N = 64 from N_0]; omega⟩
    have e0 : win0_2.index t 0 = (1 * ((i 1).val / 1024 * 8 + (i 0).val / 1024) + 0) / 1 % 8 := (places t).2.2.1
    have e1 : win0_2.index t 1 = (1 * ((i 1).val / 1024 * 8 + (i 0).val / 1024) + 0) / 1 / 8 := (places t).2.2.2
    refine ⟨t, flush0_2 t, ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 1024 ≤ (i 1).val ∧ (i 1).val < win0_2.index t 1 * 1024 + 1024; rw [e1]; omega

end

theorem frame : Cert.quiescent_ProjMain := fun m ρ _ => Cert.ProjMain.Gen.frame (F := Bits) m ρ

theorem frame_ideal : Cert.quiescent_ProjMainIdeal := fun m ρ _ => Cert.ProjMainIdeal.Gen.frame (F := Ideal) m ρ

theorem frame_ref_ideal : Cert.quiescent_ProjMainRefIdeal := fun m ρ _ =>
  (θ_run Cert.ProjMainRefIdeal.defs _ _).mono (fun r h => ⟨fun c => (h c).2, sem_eq_zero_of_no_sems (by decide) r.2⟩)
    (Cert.ProjMainRefIdeal.Value.run (F := Ideal) m ρ)

section

open Cert.ProjMainRefIdeal Cert.ProjMainRefIdeal.Gen

/-- The plain product, at an index. -/
theorem plain (a : FVec Ideal S8192x1024 .bf16) (b : FVec Ideal S1024x8192 .bf16) (i : S8192x8192.Idx) :
    (Host.dotGeneral dot_S8192x1024_S1024x8192_S8192x8192_1_0_0_1_n_n none a b : FVec Ideal S8192x8192 .f32) i = ∑ k : Fin 1024, (a (ix2 (i 0) k) : EReal) * b (ix2 k (i 1)) := by
  pointwise

end

theorem algebraic : Cert.algebraic_ProjMainIdeal_ProjMainRefIdeal := fun m g m' g' _ hm =>
  ⟨fun c => whole m c, (θ_run Cert.ProjMainIdeal.defs _ _).mono (fun _ h c => ⟨(h c).1.trans (array m c), (h c).2⟩)
      (Cert.ProjMainIdeal.Value.run_blocks (F := Ideal) m g),
    (θ_run Cert.ProjMainRefIdeal.defs _ _).mono (fun _ h c => ⟨(h c).1.trans (by
      funext i
      refine (plain _ _ i).trans ?_
      rw [(hm c).1, (hm c).2]
      rfl), (h c).2⟩) (Cert.ProjMainRefIdeal.Value.run (F := Ideal) m' g')⟩

end Cert.ProjMainProof

end
-- ==== Proof.Products.ProjGates.lean ====
/- The product with the gate columns of the input projection: block by block, the whole product. -/
module

public import proofs.«01_k».proof.Proof.GradX.Value
public import proofs.«01_k».proof.Proof.Gen.ProjGates.Frame
public import proofs.«01_k».proof.Proof.Gen.ProjGatesIdeal.Value
public import proofs.«01_k».proof.Proof.Gen.ProjGatesRefIdeal.Run

@[expose] public section

noncomputable section

open Idealize.ShloMosaic Idealize.ShloMosaic.TcCoe
open Idealize.SL.Sem
open Idealize.ShloMosaic.Pipeline (Dat)
open Cert.GradXProof (origin sum_blocks)

namespace Cert.ProjGatesProof

section

open Cert.ProjGatesIdeal Cert.ProjGatesIdeal.Gen Cert.ProjGatesIdeal.Value

/-- What a point leaves in its block. -/
theorem block {F : FTy → Type} [FloatOps F] (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S8x128 .f32) (h6 : a6.IsWhole) (x0 : Vec F S1024x1024 .bf16) (x1 : Vec F S1024x256 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero origin]
  simp only [View.readAt_eq_ld, h3.read_unread, h4.read_unread, View.ld_unit_zero (S := S1024x1024) origin, View.ld_unit_zero (S := S1024x256) origin, shapeCast_self]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S1024x256 .bf16 := m (c.tc.loc main_arg1)

/-- Where each window stands at a point. -/
theorem places : ∀ t : Fin cfg0.N, (win0_0.index t 0 = t.val / 1 % 8 ∧ win0_0.index t 1 = t.val % 1) ∧ (win0_1.index t 0 = t.val % 1 ∧ win0_1.index t 1 = t.val / 1 / 8) ∧ (win0_2.index t 0 = t.val / 1 % 8 ∧ win0_2.index t 1 = t.val / 1 / 8) :=
  (by decide +kernel : ∀ t : Fin grid0.N, _)

/-- The whole product. -/
def whole (c : Dev nD) : Vec Ideal S8192x256 .f32 := fun i =>
  ∑ k : Fin 1024, (left m c (ix2 (i 0) k) : EReal) * right m c (ix2 k (i 1))

/-- The blocks at a point. -/
theorem left_at (c : Dev nD) (t : Fin cfg0.N) (y : Fin 1024) (k : Fin 1024) (r : Fin 8192) (hr : r.val = 1024 * (t.val / 1 % 8) + y.val) (n : Fin 1024) (hn : n.val = 1024 * (t.val % 1) + k.val) :
    (iblk m c 0 t : Vec Ideal S1024x1024 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1024 + 1 * k.val = n.val; rw [(places t).1.2]; omega

theorem right_at (c : Dev nD) (t : Fin cfg0.N) (k : Fin 1024) (d : Fin 256) (n : Fin 1024) (hn : n.val = 1024 * (t.val % 1) + k.val) (e : Fin 256) (he : e.val = 256 * (t.val / 1 / 8) + d.val) :
    (iblk m c 1 t : Vec Ideal S1024x256 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 256 + 1 * d.val = e.val; rw [(places t).2.1.2]; omega

/-- A block's product, at an index. -/
theorem product (x0 : Vec Ideal S1024x1024 .bf16) (x1 : Vec Ideal S1024x256 .bf16) (y : Fin 1024) (d : Fin 256) :
    k0_pay1 (F := Ideal) x0 x1 (ix2 y d) = ∑ k : Fin 1024, (x0 (ix2 y k) : EReal) * x1 (ix2 k d) := by
  unfold k0_pay1
  pointwise

/-- What a point writes back. -/
theorem written (c : Dev nD) (t : Fin cfg0.N) (y : Fin 1024) (d : Fin 256) (r : Fin 8192) (hr : r.val = 1024 * (t.val / 1 % 8) + y.val) (e : Fin 256) (he : e.val = 256 * (t.val / 1 / 8) + d.val) :
    outsAt0 m c t (ix2 y d) = whole m c (ix2 r e) := by
  unfold outsAt0
  rw [block, product]
  unfold whole
  refine Finset.sum_congr rfl fun k _ => ?_
  rw [left_at m c t y k r hr k (by omega), right_at m c t k d k (by omega) e he]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 8 := Nat.lt_of_lt_of_eq t.isLt N_0
    have h0 : (j 0).val < 1024 := (j 0).isLt
    have h1 : (j 1).val < 256 := (j 1).isLt
    have hj : ((cfg0.win 2).blk t).view.emb j = (ix2 (⟨1024 * (t.val / 1 % 8) + (j 0).val, by omega⟩ : Fin 8192) (⟨256 * (t.val / 1 / 8) + (j 1).val, by omega⟩ : Fin 256) : S8192x256.Idx) := by
      funext a
      apply Fin.ext
      match a with
      | ⟨0, _⟩ => show win0_2.index t 0 * 1024 + 1 * (j 0).val = 1024 * (t.val / 1 % 8) + (j 0).val; rw [(places t).2.2.1]; omega
      | ⟨1, _⟩ => show win0_2.index t 1 * 256 + 1 * (j 1).val = 256 * (t.val / 1 / 8) + (j 1).val; rw [(places t).2.2.2]; omega
    have hc : ∀ o : Vec Ideal S1024x256 .f32, (cfg0.win 2).cut (grid0.coords t) o j = o j := fun _ => rfl
    have hG : ∀ G : Vec Ideal S8192x256 .f32, G (ix2 (⟨1024 * (t.val / 1 % 8) + (j 0).val, by omega⟩ : Fin 8192) (⟨256 * (t.val / 1 / 8) + (j 1).val, by omega⟩ : Fin 256)) = ((cfg0.win 2).blk t).view.read (Elt Ideal) G j := fun G => by
      rw [View.read_apply]
      exact congrArg G hj.symm
    exact (hc _).trans (((congrArg (outsAt0 m c t) (eq_ix2 (j : S1024x256.Idx))).trans (written m c t (j 0) (j 1) ⟨1024 * (t.val / 1 % 8) + (j 0).val, by omega⟩ rfl ⟨256 * (t.val / 1 / 8) + (j 1).val, by omega⟩ rfl)).trans (hG _))) fun i => by
    have h0 : (i 0).val < 8192 := (i 0).isLt
    have h1 : (i 1).val < 256 := (i 1).isLt
    let t : Fin cfg0.N := ⟨1 * ((i 1).val / 256 * 8 + (i 0).val / 1024) + 0, by rw [show cfg0.N = 8 from N_0]; omega⟩
    have e0 : win0_2.index t 0 = (1 * ((i 1).val / 256 * 8 + (i 0).val / 1024) + 0) / 1 % 8 := (places t).2.2.1
    have e1 : win0_2.index t 1 = (1 * ((i 1).val / 256 * 8 + (i 0).val / 1024) + 0) / 1 / 8 := (places t).2.2.2
    refine ⟨t, flush0_2 t, ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 256 ≤ (i 1).val ∧ (i 1).val < win0_2.index t 1 * 256 + 256; rw [e1]; omega

end

theorem frame : Cert.quiescent_ProjGates := fun m ρ _ => Cert.ProjGates.Gen.frame (F := Bits) m ρ

theorem frame_ideal : Cert.quiescent_ProjGatesIdeal := fun m ρ _ => Cert.ProjGatesIdeal.Gen.frame (F := Ideal) m ρ

theorem frame_ref_ideal : Cert.quiescent_ProjGatesRefIdeal := fun m ρ _ =>
  (θ_run Cert.ProjGatesRefIdeal.defs _ _).mono (fun r h => ⟨fun c => (h c).2, sem_eq_zero_of_no_sems (by decide) r.2⟩)
    (Cert.ProjGatesRefIdeal.Value.run (F := Ideal) m ρ)

section

open Cert.ProjGatesRefIdeal Cert.ProjGatesRefIdeal.Gen

/-- The plain product, at an index. -/
theorem plain (a : FVec Ideal S8192x1024 .bf16) (b : FVec Ideal S1024x256 .bf16) (i : S8192x256.Idx) :
    (Host.dotGeneral dot_S8192x1024_S1024x256_S8192x256_1_0_0_1_n_n none a b : FVec Ideal S8192x256 .f32) i = ∑ k : Fin 1024, (a (ix2 (i 0) k) : EReal) * b (ix2 k (i 1)) := by
  pointwise

end

theorem algebraic : Cert.algebraic_ProjGatesIdeal_ProjGatesRefIdeal := fun m g m' g' _ hm =>
  ⟨fun c => whole m c, (θ_run Cert.ProjGatesIdeal.defs _ _).mono (fun _ h c => ⟨(h c).1.trans (array m c), (h c).2⟩)
      (Cert.ProjGatesIdeal.Value.run_blocks (F := Ideal) m g),
    (θ_run Cert.ProjGatesRefIdeal.defs _ _).mono (fun _ h c => ⟨(h c).1.trans (by
      funext i
      refine (plain _ _ i).trans ?_
      rw [(hm c).1, (hm c).2]
      rfl), (h c).2⟩) (Cert.ProjGatesRefIdeal.Value.run (F := Ideal) m' g')⟩

end Cert.ProjGatesProof

end
-- ==== Proof.Products.FfnIn.lean ====
/- The product with the gate and up weights of the feed-forward block: block by block, the whole product. -/
module

public import proofs.«01_k».proof.Proof.GradX.Value
public import proofs.«01_k».proof.Proof.Gen.FfnIn.Frame
public import proofs.«01_k».proof.Proof.Gen.FfnInIdeal.Value
public import proofs.«01_k».proof.Proof.Gen.FfnInRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnInProof

section

open Cert.FfnInIdeal Cert.FfnInIdeal.Gen Cert.FfnInIdeal.Value

/-- What a point leaves in its block. -/
theorem block {F : FTy → Type} [FloatOps F] (c : Dev nD) (i : grid0.Coords) (a3 : Memref sig .tc .vmem S1024x1024 .bf16) (h3 : a3.IsWhole) (a4 : Memref sig .tc .vmem S1024x512 .bf16) (h4 : a4.IsWhole) (a5 : Memref sig .tc .vmem S1024x512 .f32) (h5 : a5.IsWhole) (a6 : Memref sig .tc .vmem S8x128 .f32) (h6 : a6.IsWhole) (x0 : Vec F S1024x1024 .bf16) (x1 : Vec F S1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero origin]
  simp only [View.readAt_eq_ld, h3.read_unread, h4.read_unread, View.ld_unit_zero (S := S1024x1024) origin, View.ld_unit_zero (S := S1024x512) origin, shapeCast_self]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S1024x5632 .bf16 := m (c.tc.loc main_arg1)

/-- Where each window stands at a point. -/
theorem places : ∀ t : Fin cfg0.N, (win0_0.index t 0 = t.val / 1 % 8 ∧ win0_0.index t 1 = t.val % 1) ∧ (win0_1.index t 0 = t.val % 1 ∧ win0_1.index t 1 = t.val / 1 / 8) ∧ (win0_2.index t 0 = t.val / 1 % 8 ∧ win0_2.index t 1 = t.val / 1 / 8) :=
  (by decide +kernel : ∀ t : Fin grid0.N, _)

/-- The whole product. -/
def whole (c : Dev nD) : Vec Ideal S8192x5632 .f32 := fun i =>
  ∑ k : Fin 1024, (left m c (ix2 (i 0) k) : EReal) * right m c (ix2 k (i 1))

/-- The blocks at a point. -/
theorem left_at (c : Dev nD) (t : Fin cfg0.N) (y : Fin 1024) (k : Fin 1024) (r : Fin 8192) (hr : r.val = 1024 * (t.val / 1 % 8) + y.val) (n : Fin 1024) (hn : n.val = 1024 * (t.val % 1) + k.val) :
    (iblk m c 0 t : Vec Ideal S1024x1024 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1024 + 1 * k.val = n.val; rw [(places t).1.2]; omega

theorem right_at (c : Dev nD) (t : Fin cfg0.N) (k : Fin 1024) (d : Fin 512) (n : Fin 1024) (hn : n.val = 1024 * (t.val % 1) + k.val) (e : Fin 5632) (he : e.val = 512 * (t.val / 1 / 8) + d.val) :
    (iblk m c 1 t : Vec Ideal S1024x512 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 512 + 1 * d.val = e.val; rw [(places t).2.1.2]; omega

/-- A block's product, at an index. -/
theorem product (x0 : Vec Ideal S1024x1024 .bf16) (x1 : Vec Ideal S1024x512 .bf16) (y : Fin 1024) (d : Fin 512) :
    k0_pay1 (F := Ideal) x0 x1 (ix2 y d) = ∑ k : Fin 1024, (x0 (ix2 y k) : EReal) * x1 (ix2 k d) := by
  unfold k0_pay1
  pointwise

/-- What a point writes back. -/
theorem written (c : Dev nD) (t : Fin cfg0.N) (y : Fin 1024) (d : Fin 512) (r : Fin 8192) (hr : r.val = 1024 * (t.val / 1 % 8) + y.val) (e : Fin 5632) (he : e.val = 512 * (t.val / 1 / 8) + d.val) :
    outsAt0 m c t (ix2 y d) = whole m c (ix2 r e) := by
  unfold outsAt0
  rw [block, product]
  unfold whole
  refine Finset.sum_congr rfl fun k _ => ?_
  rw [left_at m c t y k r hr k (by omega), right_at m c t k d k (by omega) e he]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 88 := Nat.lt_of_lt_of_eq t.isLt N_0
    have h0 : (j 0).val < 1024 := (j 0).isLt
    have h1 : (j 1).val < 512 := (j 1).isLt
    have hj : ((cfg0.win 2).blk t).view.emb j = (ix2 (⟨1024 * (t.val / 1 % 8) + (j 0).val, by omega⟩ : Fin 8192) (⟨512 * (t.val / 1 / 8) + (j 1).val, by omega⟩ : Fin 5632) : S8192x5632.Idx) := by
      funext a
      apply Fin.ext
      match a with
      | ⟨0, _⟩ => show win0_2.index t 0 * 1024 + 1 * (j 0).val = 1024 * (t.val / 1 % 8) + (j 0).val; rw [(places t).2.2.1]; omega
      | ⟨1, _⟩ => show win0_2.index t 1 * 512 + 1 * (j 1).val = 512 * (t.val / 1 / 8) + (j 1).val; rw [(places t).2.2.2]; omega
    have hc : ∀ o : Vec Ideal S1024x512 .f32, (cfg0.win 2).cut (grid0.coords t) o j = o j := fun _ => rfl
    have hG : ∀ G : Vec Ideal S8192x5632 .f32, G (ix2 (⟨1024 * (t.val / 1 % 8) + (j 0).val, by omega⟩ : Fin 8192) (⟨512 * (t.val / 1 / 8) + (j 1).val, by omega⟩ : Fin 5632)) = ((cfg0.win 2).blk t).view.read (Elt Ideal) G j := fun G => by
      rw [View.read_apply]
      exact congrArg G hj.symm
    exact (hc _).trans (((congrArg (outsAt0 m c t) (eq_ix2 (j : S1024x512.Idx))).trans (written m c t (j 0) (j 1) ⟨1024 * (t.val / 1 % 8) + (j 0).val, by omega⟩ rfl ⟨512 * (t.val / 1 / 8) + (j 1).val, by omega⟩ rfl)).trans (hG _))) fun i => by
    have h0 : (i 0).val < 8192 := (i 0).isLt
    have h1 : (i 1).val < 5632 := (i 1).isLt
    let t : Fin cfg0.N := ⟨1 * ((i 1).val / 512 * 8 + (i 0).val / 1024) + 0, by rw [show cfg0.N = 88 from N_0]; omega⟩
    have e0 : win0_2.index t 0 = (1 * ((i 1).val / 512 * 8 + (i 0).val / 1024) + 0) / 1 % 8 := (places t).2.2.1
    have e1 : win0_2.index t 1 = (1 * ((i 1).val / 512 * 8 + (i 0).val / 1024) + 0) / 1 / 8 := (places t).2.2.2
    refine ⟨t, flush0_2 t, ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 512 ≤ (i 1).val ∧ (i 1).val < win0_2.index t 1 * 512 + 512; rw [e1]; omega

end

theorem frame : Cert.quiescent_FfnIn := fun m ρ _ => Cert.FfnIn.Gen.frame (F := Bits) m ρ

theorem frame_ideal : Cert.quiescent_FfnInIdeal := fun m ρ _ => Cert.FfnInIdeal.Gen.frame (F := Ideal) m ρ

theorem frame_ref_ideal : Cert.quiescent_FfnInRefIdeal := fun m ρ _ =>
  (θ_run Cert.FfnInRefIdeal.defs _ _).mono (fun r h => ⟨fun c => (h c).2, sem_eq_zero_of_no_sems (by decide) r.2⟩)
    (Cert.FfnInRefIdeal.Value.run (F := Ideal) m ρ)

section

open Cert.FfnInRefIdeal Cert.FfnInRefIdeal.Gen

/-- The plain product, at an index. -/
theorem plain (a : FVec Ideal S8192x1024 .bf16) (b : FVec Ideal S1024x5632 .bf16) (i : S8192x5632.Idx) :
    (Host.dotGeneral dot_S8192x1024_S1024x5632_S8192x5632_1_0_0_1_n_n none a b : FVec Ideal S8192x5632 .f32) i = ∑ k : Fin 1024, (a (ix2 (i 0) k) : EReal) * b (ix2 k (i 1)) := by
  pointwise

end

theorem algebraic : Cert.algebraic_FfnInIdeal_FfnInRefIdeal := fun m g m' g' _ hm =>
  ⟨fun c => whole m c, (θ_run Cert.FfnInIdeal.defs _ _).mono (fun _ h c => ⟨(h c).1.trans (array m c), (h c).2⟩)
      (Cert.FfnInIdeal.Value.run_blocks (F := Ideal) m g),
    (θ_run Cert.FfnInRefIdeal.defs _ _).mono (fun _ h c => ⟨(h c).1.trans (by
      funext i
      refine (plain _ _ i).trans ?_
      rw [(hm c).1, (hm c).2]
      rfl), (h c).2⟩) (Cert.FfnInRefIdeal.Value.run (F := Ideal) m' g')⟩

end Cert.FfnInProof

end
-- ==== Proof.Products.FfnOutDx.lean ====
/- The gradient of the feed-forward block's activations: block by block, the whole product. -/
module

public import proofs.«01_k».proof.Proof.GradX.Value
public import proofs.«01_k».proof.Proof.Gen.FfnOutDx.Frame
public import proofs.«01_k».proof.Proof.Gen.FfnOutDxIdeal.Value
public import proofs.«01_k».proof.Proof.Gen.FfnOutDxRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnOutDxProof

section

open Cert.FfnOutDxIdeal Cert.FfnOutDxIdeal.Gen Cert.FfnOutDxIdeal.Value

/-- What a point leaves in its block. -/
theorem block {F : FTy → Type} [FloatOps F] (c : Dev nD) (i : grid0.Coords) (a3 : Memref sig .tc .vmem S1024x1024 .bf16) (h3 : a3.IsWhole) (a4 : Memref sig .tc .vmem S256x1024 .bf16) (h4 : a4.IsWhole) (a5 : Memref sig .tc .vmem S1024x256 .f32) (h5 : a5.IsWhole) (a6 : Memref sig .tc .vmem S8x128 .f32) (h6 : a6.IsWhole) (x0 : Vec F S1024x1024 .bf16) (x1 : Vec F S256x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero origin]
  simp only [View.readAt_eq_ld, h3.read_unread, h4.read_unread, View.ld_unit_zero (S := S1024x1024) origin, View.ld_unit_zero (S := S256x1024) origin, View.ld_unit_zero (S := S1024x256) origin, shapeCast_self]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S2816x1024 .bf16 := m (c.tc.loc main_arg1)

/-- Where each window stands at a point. -/
theorem places : ∀ t : Fin cfg0.N, (win0_0.index t 0 = t.val / 1 % 8 ∧ win0_0.index t 1 = t.val % 1) ∧ (win0_1.index t 0 = t.val / 1 / 8 ∧ win0_1.index t 1 = t.val % 1) ∧ (win0_2.index t 0 = t.val / 1 % 8 ∧ win0_2.index t 1 = t.val / 1 / 8) :=
  (by decide +kernel : ∀ t : Fin grid0.N, _)

/-- The whole product. -/
def whole (c : Dev nD) : Vec Ideal S8192x2816 .f32 := fun i =>
  ∑ k : Fin 1024, (left m c (ix2 (i 0) k) : EReal) * right m c (ix2 (i 1) k)

/-- The blocks at a point. -/
theorem left_at (c : Dev nD) (t : Fin cfg0.N) (y : Fin 1024) (k : Fin 1024) (r : Fin 8192) (hr : r.val = 1024 * (t.val / 1 % 8) + y.val) (n : Fin 1024) (hn : n.val = 1024 * (t.val % 1) + k.val) :
    (iblk m c 0 t : Vec Ideal S1024x1024 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1024 + 1 * k.val = n.val; rw [(places t).1.2]; omega

theorem right_at (c : Dev nD) (t : Fin cfg0.N) (d : Fin 256) (k : Fin 1024) (e : Fin 2816) (he : e.val = 256 * (t.val / 1 / 8) + d.val) (n : Fin 1024) (hn : n.val = 1024 * (t.val % 1) + k.val) :
    (iblk m c 1 t : Vec Ideal S256x1024 .bf16) (ix2 d k) = right m c (ix2 e n) := by
  unfold iblk
  rw [View.read_apply]
  show m (c.tc.loc main_arg1) _ = _
  congr 1
  funext a
  apply Fin.ext
  match a with
  | ⟨0, _⟩ => show win0_1.index t 0 * 256 + 1 * d.val = e.val; rw [(places t).2.1.1]; omega
  | ⟨1, _⟩ => show win0_1.index t 1 * 1024 + 1 * k.val = n.val; rw [(places t).2.1.2]; omega

/-- A block's product, at an index. -/
theorem product (x0 : Vec Ideal S1024x1024 .bf16) (x1 : Vec Ideal S256x1024 .bf16) (y : Fin 1024) (d : Fin 256) :
    k0_pay1 (F := Ideal) x0 x1 (ix2 y d) = ∑ k : Fin 1024, (x0 (ix2 y k) : EReal) * x1 (ix2 d k) := by
  unfold k0_pay1
  pointwise

/-- What a point writes back. -/
theorem written (c : Dev nD) (t : Fin cfg0.N) (y : Fin 1024) (d : Fin 256) (r : Fin 8192) (hr : r.val = 1024 * (t.val / 1 % 8) + y.val) (e : Fin 2816) (he : e.val = 256 * (t.val / 1 / 8) + d.val) :
    outsAt0 m c t (ix2 y d) = whole m c (ix2 r e) := by
  unfold outsAt0
  rw [block, product]
  unfold whole
  refine Finset.sum_congr rfl fun k _ => ?_
  rw [left_at m c t y k r hr k (by omega), right_at m c t d k e he k (by omega)]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 88 := Nat.lt_of_lt_of_eq t.isLt N_0
    have h0 : (j 0).val < 1024 := (j 0).isLt
    have h1 : (j 1).val < 256 := (j 1).isLt
    have hj : ((cfg0.win 2).blk t).view.emb j = (ix2 (⟨1024 * (t.val / 1 % 8) + (j 0).val, by omega⟩ : Fin 8192) (⟨256 * (t.val / 1 / 8) + (j 1).val, by omega⟩ : Fin 2816) : S8192x2816.Idx) := by
      funext a
      apply Fin.ext
      match a with
      | ⟨0, _⟩ => show win0_2.index t 0 * 1024 + 1 * (j 0).val = 1024 * (t.val / 1 % 8) + (j 0).val; rw [(places t).2.2.1]; omega
      | ⟨1, _⟩ => show win0_2.index t 1 * 256 + 1 * (j 1).val = 256 * (t.val / 1 / 8) + (j 1).val; rw [(places t).2.2.2]; omega
    have hc : ∀ o : Vec Ideal S1024x256 .f32, (cfg0.win 2).cut (grid0.coords t) o j = o j := fun _ => rfl
    have hG : ∀ G : Vec Ideal S8192x2816 .f32, G (ix2 (⟨1024 * (t.val / 1 % 8) + (j 0).val, by omega⟩ : Fin 8192) (⟨256 * (t.val / 1 / 8) + (j 1).val, by omega⟩ : Fin 2816)) = ((cfg0.win 2).blk t).view.read (Elt Ideal) G j := fun G => by
      rw [View.read_apply]
      exact congrArg G hj.symm
    exact (hc _).trans (((congrArg (outsAt0 m c t) (eq_ix2 (j : S1024x256.Idx))).trans (written m c t (j 0) (j 1) ⟨1024 * (t.val / 1 % 8) + (j 0).val, by omega⟩ rfl ⟨256 * (t.val / 1 / 8) + (j 1).val, by omega⟩ rfl)).trans (hG _))) fun i => by
    have h0 : (i 0).val < 8192 := (i 0).isLt
    have h1 : (i 1).val < 2816 := (i 1).isLt
    let t : Fin cfg0.N := ⟨1 * ((i 1).val / 256 * 8 + (i 0).val / 1024) + 0, by rw [show cfg0.N = 88 from N_0]; omega⟩
    have e0 : win0_2.index t 0 = (1 * ((i 1).val / 256 * 8 + (i 0).val / 1024) + 0) / 1 % 8 := (places t).2.2.1
    have e1 : win0_2.index t 1 = (1 * ((i 1).val / 256 * 8 + (i 0).val / 1024) + 0) / 1 / 8 := (places t).2.2.2
    refine ⟨t, flush0_2 t, ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 256 ≤ (i 1).val ∧ (i 1).val < win0_2.index t 1 * 256 + 256; rw [e1]; omega

end

theorem frame : Cert.quiescent_FfnOutDx := fun m ρ _ => Cert.FfnOutDx.Gen.frame (F := Bits) m ρ

theorem frame_ideal : Cert.quiescent_FfnOutDxIdeal := fun m ρ _ => Cert.FfnOutDxIdeal.Gen.frame (F := Ideal) m ρ

theorem frame_ref_ideal : Cert.quiescent_FfnOutDxRefIdeal := fun m ρ _ =>
  (θ_run Cert.FfnOutDxRefIdeal.defs _ _).mono (fun r h => ⟨fun c => (h c).2, sem_eq_zero_of_no_sems (by decide) r.2⟩)
    (Cert.FfnOutDxRefIdeal.Value.run (F := Ideal) m ρ)

section

open Cert.FfnOutDxRefIdeal Cert.FfnOutDxRefIdeal.Gen

/-- The plain product, at an index. -/
theorem plain (a : FVec Ideal S8192x1024 .bf16) (b : FVec Ideal S2816x1024 .bf16) (i : S8192x2816.Idx) :
    (Host.dotGeneral dot_S8192x1024_S2816x1024_S8192x2816_1_1_0_0_n_n none a b : FVec Ideal S8192x2816 .f32) i = ∑ k : Fin 1024, (a (ix2 (i 0) k) : EReal) * b (ix2 (i 1) k) := by
  pointwise

end

theorem algebraic : Cert.algebraic_FfnOutDxIdeal_FfnOutDxRefIdeal := fun m g m' g' _ hm =>
  ⟨fun c => whole m c, (θ_run Cert.FfnOutDxIdeal.defs _ _).mono (fun _ h c => ⟨(h c).1.trans (array m c), (h c).2⟩)
      (Cert.FfnOutDxIdeal.Value.run_blocks (F := Ideal) m g),
    (θ_run Cert.FfnOutDxRefIdeal.defs _ _).mono (fun _ h c => ⟨(h c).1.trans (by
      funext i
      refine (plain _ _ i).trans ?_
      rw [(hm c).1, (hm c).2]
      rfl), (h c).2⟩) (Cert.FfnOutDxRefIdeal.Value.run (F := Ideal) m' g')⟩

end Cert.FfnOutDxProof

end
-- ==== Proof.Products.ProjGatesDx.lean ====
/- The gate columns' part of a layer's input gradient, on top of the scaled residual's gradient: block by block, the whole product. -/
module

public import proofs.«01_k».proof.Proof.GradX.Value
public import proofs.«01_k».proof.Proof.Gen.ProjGatesDx.Frame
public import proofs.«01_k».proof.Proof.Gen.ProjGatesDxIdeal.Value
public import proofs.«01_k».proof.Proof.Gen.ProjGatesDxRefIdeal.Run

@[expose] public section

noncomputable section

open Idealize.ShloMosaic Idealize.ShloMosaic.TcCoe
open Idealize.SL.Sem
open Idealize.ShloMosaic.Pipeline (Dat)
open Cert.GradXProof (origin sum_blocks)

namespace Cert.ProjGatesDxProof

section

open Cert.ProjGatesDxIdeal Cert.ProjGatesDxIdeal.Gen Cert.ProjGatesDxIdeal.Value

/-- What a point leaves in its block. -/
theorem block {F : FTy → Type} [FloatOps F] (c : Dev nD) (i : grid0.Coords) (a3 : Memref sig .tc .vmem S1024x256 .bf16) (h3 : a3.IsWhole) (a4 : Memref sig .tc .vmem S1024x256 .bf16) (h4 : a4.IsWhole) (a5 : Memref sig .tc .vmem S1024x1024 .f32) (h5 : a5.IsWhole) (a6 : Memref sig .tc .vmem S1024x1024 .f32) (h6 : a6.IsWhole) (a7 : Memref sig .tc .vmem S8x128 .f32) (h7 : a7.IsWhole) (x0 : Vec F S1024x256 .bf16) (x1 : Vec F S1024x256 .bf16) (x2 : Vec F S1024x1024 .f32) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  sl_unfold_words
  rw [View.canon_unit_zero origin]
  simp only [View.readAt_eq_ld, h3.read_unread, h4.read_unread, h5.read_unread, View.ld_unit_zero (S := S1024x256) origin, View.ld_unit_zero (S := S1024x1024) origin, shapeCast_self]

variable (m : (ℓ : Loc nD τ sig) → Buf (Elt Ideal) ℓ)

/-- The arrays as launched. -/
abbrev left (c : Dev nD) : Vec Ideal S8192x256 .bf16 := m (c.tc.loc main_arg0)
abbrev right (c : Dev nD) : Vec Ideal S1024x256 .bf16 := m (c.tc.loc main_arg1)
abbrev rest (c : Dev nD) : Vec Ideal S8192x1024 .f32 := m (c.tc.loc main_arg2)

/-- The factor of the residual's gradient. -/
abbrev coef : EReal := Scalar.ofBits (F := Ideal) .f32 0x3FB504F3#32

/-- Where each window stands at a point. -/
theorem places : ∀ t : Fin cfg0.N, (win0_0.index t 0 = t.val / 1 % 8 ∧ win0_0.index t 1 = t.val % 1) ∧ (win0_1.index t 0 = t.val / 1 / 8 ∧ win0_1.index t 1 = t.val % 1) ∧ (win0_2.index t 0 = t.val / 1 % 8 ∧ win0_2.index t 1 = t.val / 1 / 8) ∧ (win0_3.index t 0 = t.val / 1 % 8 ∧ win0_3.index t 1 = t.val / 1 / 8) :=
  (by decide +kernel : ∀ t : Fin grid0.N, _)

/-- The whole product, on top of the scaled residual's gradient. -/
def whole (c : Dev nD) : Vec Ideal S8192x1024 .f32 := fun i =>
  coef * (rest m c i : EReal) + ∑ k : Fin 256, (left m c (ix2 (i 0) k) : EReal) * right m c (ix2 (i 1) k)

/-- The blocks at a point. -/
theorem left_at (c : Dev nD) (t : Fin cfg0.N) (y : Fin 1024) (k : Fin 256) (r : Fin 8192) (hr : r.val = 1024 * (t.val / 1 % 8) + y.val) (n : Fin 256) (hn : n.val = 256 * (t.val % 1) + k.val) :
    (iblk m c 0 t : Vec Ideal S1024x256 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 256 + 1 * k.val = n.val; rw [(places t).1.2]; omega

theorem right_at (c : Dev nD) (t : Fin cfg0.N) (d : Fin 1024) (k : Fin 256) (e : Fin 1024) (he : e.val = 1024 * (t.val / 1 / 8) + d.val) (n : Fin 256) (hn : n.val = 256 * (t.val % 1) + k.val) :
    (iblk m c 1 t : Vec Ideal S1024x256 .bf16) (ix2 d k) = right m c (ix2 e n) := by
  unfold iblk
  rw [View.read_apply]
  show m (c.tc.loc main_arg1) _ = _
  congr 1
  funext a
  apply Fin.ext
  match a with
  | ⟨0, _⟩ => show win0_1.index t 0 * 1024 + 1 * d.val = e.val; rw [(places t).2.1.1]; omega
  | ⟨1, _⟩ => show win0_1.index t 1 * 256 + 1 * k.val = n.val; rw [(places t).2.1.2]; omega

theorem rest_at (c : Dev nD) (t : Fin cfg0.N) (y : Fin 1024) (d : Fin 1024) (r : Fin 8192) (hr : r.val = 1024 * (t.val / 1 % 8) + y.val) (e : Fin 1024) (he : e.val = 1024 * (t.val / 1 / 8) + d.val) :
    (iblk m c 2 t : Vec Ideal S1024x1024 .f32) (ix2 y d) = rest m c (ix2 r e) := by
  unfold iblk
  rw [View.read_apply]
  show m (c.tc.loc main_arg2) _ = _
  congr 1
  funext a
  apply Fin.ext
  match a with
  | ⟨0, _⟩ => show win0_2.index t 0 * 1024 + 1 * y.val = r.val; rw [(places t).2.2.1.1]; omega
  | ⟨1, _⟩ => show win0_2.index t 1 * 1024 + 1 * d.val = e.val; rw [(places t).2.2.1.2]; omega

/-- A block's product, at an index. -/
theorem product (x0 : Vec Ideal S1024x256 .bf16) (x1 : Vec Ideal S1024x256 .bf16) (x2 : Vec Ideal S1024x1024 .f32) (y : Fin 1024) (d : Fin 1024) :
    k0_pay1 (F := Ideal) x0 x1 x2 (ix2 y d) = coef * (x2 (ix2 y d) : EReal) + ∑ k : Fin 256, (x0 (ix2 y k) : EReal) * x1 (ix2 d k) := by
  unfold k0_pay1
  refine Eq.trans ?_ (add_comm _ _)
  pointwise

/-- What a point writes back. -/
theorem written (c : Dev nD) (t : Fin cfg0.N) (y : Fin 1024) (d : Fin 1024) (r : Fin 8192) (hr : r.val = 1024 * (t.val / 1 % 8) + y.val) (e : Fin 1024) (he : e.val = 1024 * (t.val / 1 / 8) + d.val) :
    outsAt0 m c t (ix2 y d) = whole m c (ix2 r e) := by
  unfold outsAt0
  rw [block, product]
  unfold whole
  rw [rest_at m c t y d r hr e he]
  refine congrArg (fun z : EReal => coef * (rest m c (ix2 r e) : EReal) + z) (Finset.sum_congr rfl fun k _ => ?_)
  rw [left_at m c t y k r hr k (by omega), right_at m c t d k e he k (by omega)]
  rfl

/-- The array that the product ends in. -/
theorem array (c : Dev nD) : (dats m 0 c).arrAt 3 cfg0.N = whole m c :=
  (dats m 0 c).arrAt_eq_of_cover 3 _ (fun t hf => by
    rw [flushed3]
    funext j
    have ht : t.val < 8 := Nat.lt_of_lt_of_eq t.isLt N_0
    have h0 : (j 0).val < 1024 := (j 0).isLt
    have h1 : (j 1).val < 1024 := (j 1).isLt
    have hj : ((cfg0.win 3).blk t).view.emb j = (ix2 (⟨1024 * (t.val / 1 % 8) + (j 0).val, by omega⟩ : Fin 8192) (⟨1024 * (t.val / 1 / 8) + (j 1).val, by omega⟩ : Fin 1024) : S8192x1024.Idx) := by
      funext a
      apply Fin.ext
      match a with
      | ⟨0, _⟩ => show win0_3.index t 0 * 1024 + 1 * (j 0).val = 1024 * (t.val / 1 % 8) + (j 0).val; rw [(places t).2.2.2.1]; omega
      | ⟨1, _⟩ => show win0_3.index t 1 * 1024 + 1 * (j 1).val = 1024 * (t.val / 1 / 8) + (j 1).val; rw [(places t).2.2.2.2]; omega
    have hc : ∀ o : Vec Ideal S1024x1024 .f32, (cfg0.win 3).cut (grid0.coords t) o j = o j := fun _ => rfl
    have hG : ∀ G : Vec Ideal S8192x1024 .f32, G (ix2 (⟨1024 * (t.val / 1 % 8) + (j 0).val, by omega⟩ : Fin 8192) (⟨1024 * (t.val / 1 / 8) + (j 1).val, by omega⟩ : Fin 1024)) = ((cfg0.win 3).blk t).view.read (Elt Ideal) G j := fun G => by
      rw [View.read_apply]
      exact congrArg G hj.symm
    exact (hc _).trans (((congrArg (outsAt0 m c t) (eq_ix2 (j : S1024x1024.Idx))).trans (written m c t (j 0) (j 1) ⟨1024 * (t.val / 1 % 8) + (j 0).val, by omega⟩ rfl ⟨1024 * (t.val / 1 / 8) + (j 1).val, by omega⟩ rfl)).trans (hG _))) fun i => by
    have h0 : (i 0).val < 8192 := (i 0).isLt
    have h1 : (i 1).val < 1024 := (i 1).isLt
    let t : Fin cfg0.N := ⟨1 * ((i 1).val / 1024 * 8 + (i 0).val / 1024) + 0, by rw [show cfg0.N = 8 from N_0]; omega⟩
    have e0 : win0_3.index t 0 = (1 * ((i 1).val / 1024 * 8 + (i 0).val / 1024) + 0) / 1 % 8 := (places t).2.2.2.1
    have e1 : win0_3.index t 1 = (1 * ((i 1).val / 1024 * 8 + (i 0).val / 1024) + 0) / 1 / 8 := (places t).2.2.2.2
    refine ⟨t, flush0_3 t, ?_⟩
    show i ∈ ((View.whole main_v0).slice ((cfg0.win 3).rect t)).set
    rw [View.set_slice_whole, Rect.mem_set_unit]
    intro b
    match b with
    | ⟨0, _⟩ => show win0_3.index t 0 * 1024 ≤ (i 0).val ∧ (i 0).val < win0_3.index t 0 * 1024 + 1024; rw [e0]; omega
    | ⟨1, _⟩ => show win0_3.index t 1 * 1024 ≤ (i 1).val ∧ (i 1).val < win0_3.index t 1 * 1024 + 1024; rw [e1]; omega

end

theorem frame : Cert.quiescent_ProjGatesDx := fun m ρ _ => Cert.ProjGatesDx.Gen.frame (F := Bits) m ρ

theorem frame_ideal : Cert.quiescent_ProjGatesDxIdeal := fun m ρ _ => Cert.ProjGatesDxIdeal.Gen.frame (F := Ideal) m ρ

theorem frame_ref_ideal : Cert.quiescent_ProjGatesDxRefIdeal := fun m ρ _ =>
  (θ_run Cert.ProjGatesDxRefIdeal.defs _ _).mono (fun r h => ⟨fun c => (h c).2, sem_eq_zero_of_no_sems (by decide) r.2⟩)
    (Cert.ProjGatesDxRefIdeal.Value.run (F := Ideal) m ρ)

section

open Cert.ProjGatesDxRefIdeal Cert.ProjGatesDxRefIdeal.Gen

/-- The plain product, at an index. -/
theorem plain (a : FVec Ideal S8192x256 .bf16) (b : FVec Ideal S1024x256 .bf16) (x : FVec Ideal S8192x1024 .f32) (i : S8192x1024.Idx) :
    (addf (mulf (broadcastInDim S8192x1024 ![] bcast_S_S8192x1024 (constant S_ .f32 0x3FB504F3#32)) x) (Host.dotGeneral dot_S8192x256_S1024x256_S8192x1024_1_1_0_0_n_n none a b) : FVec Ideal S8192x1024 .f32) i = coef * (x i : EReal) + ∑ k : Fin 256, (a (ix2 (i 0) k) : EReal) * b (ix2 (i 1) k) := by
  pointwise

end

theorem algebraic : Cert.algebraic_ProjGatesDxIdeal_ProjGatesDxRefIdeal := fun m g m' g' _ hm =>
  ⟨fun c => whole m c, (θ_run Cert.ProjGatesDxIdeal.defs _ _).mono (fun _ h c => ⟨(h c).1.trans (array m c), (h c).2⟩)
      (Cert.ProjGatesDxIdeal.Value.run_blocks (F := Ideal) m g),
    (θ_run Cert.ProjGatesDxRefIdeal.defs _ _).mono (fun _ h c => ⟨(h c).1.trans (by
      funext i
      refine (plain _ _ _ i).trans ?_
      rw [(hm c).1, (hm c).2.1, (hm c).2.2]
      rfl), (h c).2⟩) (Cert.ProjGatesDxRefIdeal.Value.run (F := Ideal) m' g')⟩

end Cert.ProjGatesDxProof

end
-- ==== Proof.Products.FfnOut.lean ====
/- The product with the down weights of the feed-forward block: the blocks of the contracted axis, added up in turn, make the whole product. -/
module

public import proofs.«01_k».proof.Proof.GradX.Value
public import proofs.«01_k».proof.Proof.Gen.FfnOut.Frame
public import proofs.«01_k».proof.Proof.Gen.FfnOutIdeal.Value
public import proofs.«01_k».proof.Proof.Gen.FfnOutRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnOutProof

section

open Cert.FfnOutIdeal Cert.FfnOutIdeal.Gen Cert.FfnOutIdeal.Value

/-- The first block of a row of blocks leaves its product. -/
theorem first {F : FTy → Type} [FloatOps F] (c : Dev nD) (i : grid0.Coords) (a3 : Memref sig .tc .vmem S512x1408 .bf16) (h3 : a3.IsWhole) (a4 : Memref sig .tc .vmem S1408x1024 .bf16) (h4 : a4.IsWhole) (a5 : Memref sig .tc .vmem S512x1024 .f32) (h5 : a5.IsWhole) (a6 : Memref sig .tc .vmem S512x1024 .f32) (h6 : a6.IsWhole) (k0 : cond0_0 i) (k1 : ¬cond0_1 i) (k2 : ¬cond0_2 i) (x0 : Vec F S512x1408 .bf16) (x1 : Vec F S1408x1024 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S512x1408) origin, View.ld_unit_zero (S := S1408x1024) origin, View.ld_unit_zero (S := S512x1024) origin, shapeCast_self]

/-- The last block adds its product. -/
theorem last {F : FTy → Type} [FloatOps F] (c : Dev nD) (i : grid0.Coords) (a3 : Memref sig .tc .vmem S512x1408 .bf16) (h3 : a3.IsWhole) (a4 : Memref sig .tc .vmem S1408x1024 .bf16) (h4 : a4.IsWhole) (a5 : Memref sig .tc .vmem S512x1024 .f32) (h5 : a5.IsWhole) (a6 : Memref sig .tc .vmem S512x1024 .f32) (h6 : a6.IsWhole) (k0 : ¬cond0_0 i) (k1 : cond0_1 i) (k2 : cond0_2 i) (x0 : Vec F S512x1408 .bf16) (x1 : Vec F S1408x1024 .bf16) (s : Vec F S512x1024 .f32) :
    out0_B_2 c i a3 h3 a4 h4 a5 h5 a6 h6 k0 k1 k2 x0 x1 s = addf s (k0_pay1 x0 x1) := by
  unfold out0_B_2
  rw [View.read_writes_eq_canon _ _ _ (cover0_B_2 c i a3 h3 a4 h4 a5 h5 a6 h6 k0 k1 k2 x0 x1 s)]
  unfold kernelRun0_B
  dsimp only
  sl_unfold_words
  rw [View.canon_unit_zero origin]
  simp only [View.readCov_unit_zero (S := S512x1024) _ origin, View.readAt_eq_ld, h3.read_unread, h4.read_unread, View.ld_unit_zero (S := S512x1408) origin, View.ld_unit_zero (S := S1408x1024) origin, View.ld_unit_zero (S := S512x1024) origin, shapeCast_self, h6.read_unread, k0_pay3]

variable (m : (ℓ : Loc nD τ sig) → Buf (Elt Ideal) ℓ)

/-- The arrays as launched. -/
abbrev left (c : Dev nD) : Vec Ideal S8192x2816 .bf16 := m (c.tc.loc main_arg0)
abbrev right (c : Dev nD) : Vec Ideal S2816x1024 .bf16 := m (c.tc.loc main_arg1)

/-- Where each window stands at a point. -/
theorem places : ∀ t : Fin cfg0.N, (win0_0.index t 0 = t.val / 2 % 16 ∧ win0_0.index t 1 = t.val % 2) ∧ (win0_1.index t 0 = t.val % 2 ∧ win0_1.index t 1 = t.val / 2 / 16) ∧ (win0_2.index t 0 = t.val / 2 % 16 ∧ win0_2.index t 1 = t.val / 2 / 16) :=
  (by decide +kernel : ∀ t : Fin grid0.N, _)

/-- The whole product. -/
def whole (c : Dev nD) : Vec Ideal S8192x1024 .f32 := fun i =>
  ∑ k : Fin 2816, (left m c (ix2 (i 0) k) : EReal) * right m c (ix2 k (i 1))

/-- The blocks at a point. -/
theorem left_at (c : Dev nD) (t : Fin cfg0.N) (y : Fin 512) (k : Fin 1408) (r : Fin 8192) (hr : r.val = 512 * (t.val / 2 % 16) + y.val) (n : Fin 2816) (hn : n.val = 1408 * (t.val % 2) + k.val) :
    (iblk m c 0 t : Vec Ideal S512x1408 .bf16) (ix2 y k) = left m c (ix2 r n) := by
  unfold iblk
  rw [View.read_apply]
  show m (c.tc.loc main_arg0) _ = _
  congr 1
  funext a
  apply Fin.ext
  match a with
  | ⟨0, _⟩ => show win0_0.index t 0 * 512 + 1 * y.val = r.val; rw [(places t).1.1]; omega
  | ⟨1, _⟩ => show win0_0.index t 1 * 1408 + 1 * k.val = n.val; rw [(places t).1.2]; omega

theorem right_at (c : Dev nD) (t : Fin cfg0.N) (k : Fin 1408) (d : Fin 1024) (n : Fin 2816) (hn : n.val = 1408 * (t.val % 2) + k.val) (e : Fin 1024) (he : e.val = 1024 * (t.val / 2 / 16) + d.val) :
    (iblk m c 1 t : Vec Ideal S1408x1024 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1408 + 1 * k.val = n.val; rw [(places t).2.1.1]; omega
  | ⟨1, _⟩ => show win0_1.index t 1 * 1024 + 1 * d.val = e.val; rw [(places t).2.1.2]; omega

/-- One product of the whole contraction, and nothing past its end. -/
def term (c : Dev nD) (r : Fin 8192) (e : Fin 1024) (k : ℕ) : EReal :=
  if h : k < 2816 then (left m c (ix2 r ⟨k, h⟩) : EReal) * right m c (ix2 ⟨k, h⟩ e) else 0

/-- The whole contraction, counted by the naturals below its length. -/
theorem terms (c : Dev nD) (r : Fin 8192) (e : Fin 1024) :
    ∑ k ∈ Finset.range 2816, term m c r e k = ∑ k : Fin 2816, (left m c (ix2 r k) : EReal) * right m c (ix2 k e) := by
  rw [← Fin.sum_univ_eq_sum_range]
  exact Finset.sum_congr rfl fun k _ => dif_pos k.isLt

/-- The product of two blocks, at an index. -/
theorem product (x0 : Vec Ideal S512x1408 .bf16) (x1 : Vec Ideal S1408x1024 .bf16) (y : Fin 512) (d : Fin 1024) :
    k0_pay1 (F := Ideal) x0 x1 (ix2 y d) = ∑ k : Fin 1408, (x0 (ix2 y k) : EReal) * x1 (ix2 k d) := by
  unfold k0_pay1
  pointwise

/-- A block's product is its part of the contraction. -/
theorem part (c : Dev nD) (t : Fin cfg0.N) (y : Fin 512) (d : Fin 1024) (r : Fin 8192) (hr : r.val = 512 * (t.val / 2 % 16) + y.val) (e : Fin 1024) (he : e.val = 1024 * (t.val / 2 / 16) + d.val) :
    k0_pay1 (F := Ideal) (iblk m c 0 t) (iblk m c 1 t) (ix2 y d) = ∑ k ∈ Finset.range 1408, term m c r e (1408 * (t.val % 2) + k) := by
  rw [product, ← Fin.sum_univ_eq_sum_range]
  refine Finset.sum_congr rfl fun k _ => ?_
  have hb : 1408 * (t.val % 2) + k.val < 2816 := by have := k.isLt; omega
  rw [left_at m c t y k r hr ⟨_, hb⟩ rfl, right_at m c t k d ⟨_, hb⟩ rfl e he]
  unfold term
  rw [dif_pos hb]

/-- What the running total holds after the first blocks of a row of blocks. -/
theorem running (c : Dev nD) : ∀ (j n : ℕ) (h : n < cfg0.N) (_ : n % 2 = j) (_ : j < 1) (y : Fin 512) (d : Fin 1024) (r : Fin 8192) (hr : r.val = 512 * (n / 2 % 16) + y.val) (e : Fin 1024) (he : e.val = 1024 * (n / 2 / 16) + d.val),
    (outsAt0 m c n h).2 (ix2 y d) = ∑ s ∈ Finset.range (j + 1), ∑ k ∈ Finset.range 1408, term m c r e (1408 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, _, _, _, hj, _, _, _, _, _, _ => absurd hj (by omega)

/-- What the last block of a row of blocks writes back. -/
theorem written (c : Dev nD) (n : ℕ) (h : n < cfg0.N) (hn : n % 2 = 1) (y : Fin 512) (d : Fin 1024) (r : Fin 8192) (hr : r.val = 512 * (n / 2 % 16) + y.val) (e : Fin 1024) (he : e.val = 1024 * (n / 2 / 16) + d.val) :
    (outsAt0 m c n h).1 (ix2 y d) = whole m c (ix2 r e) := by
  have o := outsAt0_B m c ⟨n, h⟩ (by dsimp only; omega) (by dsimp only; omega) hn
  have hq : (n - 1) / 2 = n / 2 := by omega
  dsimp only at o
  rw [o]
  dsimp only
  rw [last]
  have hs : ∀ h', (outsAt0 m c (n - 1) h').2 (ix2 y d) = ∑ s ∈ Finset.range 1, ∑ k ∈ Finset.range 1408, term m c r e (1408 * s + k) :=
    fun h' => running m c 0 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1408, term m c r e (1408 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 32 := Nat.lt_of_lt_of_eq t.isLt N_0
    have h0 : (j 0).val < 512 := (j 0).isLt
    have h1 : (j 1).val < 1024 := (j 1).isLt
    have hj : ((cfg0.win 2).blk t).view.emb j = (ix2 (⟨512 * (t.val / 2 % 16) + (j 0).val, by omega⟩ : Fin 8192) (⟨1024 * (t.val / 2 / 16) + (j 1).val, by omega⟩ : Fin 1024) : S8192x1024.Idx) := by
      funext a
      apply Fin.ext
      match a with
      | ⟨0, _⟩ => show win0_2.index t 0 * 512 + 1 * (j 0).val = 512 * (t.val / 2 % 16) + (j 0).val; rw [(places t).2.2.1]; omega
      | ⟨1, _⟩ => show win0_2.index t 1 * 1024 + 1 * (j 1).val = 1024 * (t.val / 2 / 16) + (j 1).val; rw [(places t).2.2.2]; omega
    have hc : ∀ o : Vec Ideal S512x1024 .f32, (cfg0.win 2).cut (grid0.coords t) o j = o j := fun _ => rfl
    have hG : ∀ G : Vec Ideal S8192x1024 .f32, G (ix2 (⟨512 * (t.val / 2 % 16) + (j 0).val, by omega⟩ : Fin 8192) (⟨1024 * (t.val / 2 / 16) + (j 1).val, by omega⟩ : Fin 1024)) = ((cfg0.win 2).blk t).view.read (Elt Ideal) G j := fun G => by
      rw [View.read_apply]
      exact congrArg G hj.symm
    exact (hc _).trans (((congrArg ((outsAt0 m c t.val t.isLt).1) (eq_ix2 (j : S512x1024.Idx))).trans (written m c t.val t.isLt ((flush0_2 t).mp hf) (j 0) (j 1) ⟨512 * (t.val / 2 % 16) + (j 0).val, by omega⟩ rfl ⟨1024 * (t.val / 2 / 16) + (j 1).val, by omega⟩ rfl)).trans (hG _))) fun i => by
    have h0 : (i 0).val < 8192 := (i 0).isLt
    have h1 : (i 1).val < 1024 := (i 1).isLt
    let t : Fin cfg0.N := ⟨2 * ((i 1).val / 1024 * 16 + (i 0).val / 512) + 1, by rw [show cfg0.N = 32 from N_0]; omega⟩
    have e0 : win0_2.index t 0 = (2 * ((i 1).val / 1024 * 16 + (i 0).val / 512) + 1) / 2 % 16 := (places t).2.2.1
    have e1 : win0_2.index t 1 = (2 * ((i 1).val / 1024 * 16 + (i 0).val / 512) + 1) / 2 / 16 := (places t).2.2.2
    refine ⟨t, (flush0_2 t).mpr (by show (2 * ((i 1).val / 1024 * 16 + (i 0).val / 512) + 1) % 2 = 1; omega), ?_⟩
    show i ∈ ((View.whole main_v0).slice ((cfg0.win 2).rect t)).set
    rw [View.set_slice_whole, Rect.mem_set_unit]
    intro b
    match b with
    | ⟨0, _⟩ => show win0_2.index t 0 * 512 ≤ (i 0).val ∧ (i 0).val < win0_2.index t 0 * 512 + 512; rw [e0]; omega
    | ⟨1, _⟩ => show win0_2.index t 1 * 1024 ≤ (i 1).val ∧ (i 1).val < win0_2.index t 1 * 1024 + 1024; rw [e1]; omega

end

theorem frame : Cert.quiescent_FfnOut := fun m ρ _ => Cert.FfnOut.Gen.frame (F := Bits) m ρ

theorem frame_ideal : Cert.quiescent_FfnOutIdeal := fun m ρ _ => Cert.FfnOutIdeal.Gen.frame (F := Ideal) m ρ

theorem frame_ref_ideal : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)

section

open Cert.FfnOutRefIdeal Cert.FfnOutRefIdeal.Gen

/-- The plain product, at an index. -/
theorem plain (a : FVec Ideal S8192x2816 .bf16) (b : FVec Ideal S2816x1024 .bf16) (i : S8192x1024.Idx) :
    (Host.dotGeneral dot_S8192x2816_S2816x1024_S8192x1024_1_0_0_1_n_n none a b : FVec Ideal S8192x1024 .f32) i = ∑ k : Fin 2816, (a (ix2 (i 0) k) : EReal) * b (ix2 k (i 1)) := by
  pointwise

end

theorem algebraic : Cert.algebraic_FfnOutIdeal_FfnOutRefIdeal := fun m g m' g' _ hm =>
  ⟨fun c => whole m c, (θ_run Cert.FfnOutIdeal.defs _ _).mono (fun _ h c => ⟨(h c).1.trans (array m c), (h c).2⟩)
      (Cert.FfnOutIdeal.Value.run_blocks (F := Ideal) m g),
    (θ_run Cert.FfnOutRefIdeal.defs _ _).mono (fun _ h c => ⟨(h c).1.trans (by
      funext i
      refine (plain _ _ i).trans ?_
      rw [(hm c).1, (hm c).2]
      rfl), (h c).2⟩) (Cert.FfnOutRefIdeal.Value.run (F := Ideal) m' g')⟩

end Cert.FfnOutProof

end
-- ==== Proof.Products.FfnInDx.lean ====
/- The gradient of the feed-forward block's input, on top of the scaled residual's gradient: the blocks of the contracted axis, added up in turn, make the whole product. -/
module

public import proofs.«01_k».proof.Proof.GradX.Value
public import proofs.«01_k».proof.Proof.Gen.FfnInDx.Frame
public import proofs.«01_k».proof.Proof.Gen.FfnInDxIdeal.Value
public import proofs.«01_k».proof.Proof.Gen.FfnInDxRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnInDxProof

section

open Cert.FfnInDxIdeal Cert.FfnInDxIdeal.Gen Cert.FfnInDxIdeal.Value

/-- The first block of a row of blocks leaves its product. -/
theorem first {F : FTy → Type} [FloatOps F] (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (k0 : cond0_0 i) (k1 : ¬cond0_1 i) (k2 : ¬cond0_2 i) (x0 : Vec F S1024x1408 .bf16) (x1 : Vec F S1024x1408 .bf16) (x2 : Vec F S1024x1024 .f32) :
    sout0_A_0 c i a3 h3 a4 h4 a5 h5 a6 h6 a7 h7 k0 k1 k2 x0 x1 x2 = k0_pay1 x0 x1 := by
  unfold sout0_A_0
  rw [View.read_writes_eq_canon _ _ _ (scover0_A_0 c i a3 h3 a4 h4 a5 h5 a6 h6 a7 h7 k0 k1 k2 x0 x1 x2)]
  unfold kernelRun0_A
  dsimp only
  sl_unfold_words
  rw [View.canon_unit_zero origin]
  unfold k0_pay2
  simp only [View.readAt_eq_ld, h3.read_unread, h4.read_unread, h5.read_unread, View.ld_unit_zero (S := S1024x1408) origin, View.ld_unit_zero (S := S1024x1024) origin, shapeCast_self]

/-- Every later block but the last adds its product. -/
theorem next {F : FTy → Type} [FloatOps F] (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (k0 : ¬cond0_0 i) (k1 : cond0_1 i) (k2 : ¬cond0_2 i) (x0 : Vec F S1024x1408 .bf16) (x1 : Vec F S1024x1408 .bf16) (x2 : Vec F S1024x1024 .f32) (s : Vec F S1024x1024 .f32) :
    sout0_B_0 c i a3 h3 a4 h4 a5 h5 a6 h6 a7 h7 k0 k1 k2 x0 x1 x2 s = addf s (k0_pay1 x0 x1) := by
  unfold sout0_B_0
  rw [View.read_writes_eq_canon _ _ _ (scover0_B_0 c i a3 h3 a4 h4 a5 h5 a6 h6 a7 h7 k0 k1 k2 x0 x1 x2 s)]
  unfold kernelRun0_B
  dsimp only
  sl_unfold_words
  rw [View.canon_unit_zero origin]
  unfold k0_pay3
  simp only [View.readAt_eq_ld, h3.read_unread, h4.read_unread, h5.read_unread, View.ld_unit_zero (S := S1024x1408) origin, View.ld_unit_zero (S := S1024x1024) origin, shapeCast_self, h7.read_unread]

/-- The last block adds its product, and the scaled residual's gradient. -/
theorem last {F : FTy → Type} [FloatOps F] (c : Dev nD) (i : grid0.Coords) (a3 : Memref sig .tc .vmem S1024x1408 .bf16) (h3 : a3.IsWhole) (a4 : Memref sig .tc .vmem S1024x1408 .bf16) (h4 : a4.IsWhole) (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (k0 : ¬cond0_0 i) (k1 : cond0_1 i) (k2 : cond0_2 i) (x0 : Vec F S1024x1408 .bf16) (x1 : Vec F S1024x1408 .bf16) (x2 : Vec F S1024x1024 .f32) (s : Vec F S1024x1024 .f32) :
    out0_C_3 c i a3 h3 a4 h4 a5 h5 a6 h6 a7 h7 k0 k1 k2 x0 x1 x2 s = k0_pay4 (addf s (k0_pay1 x0 x1)) x2 := by
  unfold out0_C_3
  rw [View.read_writes_eq_canon _ _ _ (cover0_C_3 c i a3 h3 a4 h4 a5 h5 a6 h6 a7 h7 k0 k1 k2 x0 x1 x2 s)]
  unfold kernelRun0_C
  dsimp only
  sl_unfold_words
  rw [View.canon_unit_zero origin]
  simp only [View.readCov_unit_zero (S := S1024x1024) _ origin, View.readAt_eq_ld, h3.read_unread, h4.read_unread, h5.read_unread, View.ld_unit_zero (S := S1024x1408) origin, View.ld_unit_zero (S := S1024x1024) origin, shapeCast_self, h7.read_unread, k0_pay3]

variable (m : (ℓ : Loc nD τ sig) → Buf (Elt Ideal) ℓ)

/-- The arrays as launched. -/
abbrev left (c : Dev nD) : Vec Ideal S8192x5632 .bf16 := m (c.tc.loc main_arg0)
abbrev right (c : Dev nD) : Vec Ideal S1024x5632 .bf16 := m (c.tc.loc main_arg1)
abbrev rest (c : Dev nD) : Vec Ideal S8192x1024 .f32 := m (c.tc.loc main_arg2)

/-- The factor of the residual's gradient. -/
abbrev coef : EReal := Scalar.ofBits (F := Ideal) .f32 0x3FB504F3#32

/-- Where each window stands at a point. -/
theorem places : ∀ t : Fin cfg0.N, (win0_0.index t 0 = t.val / 4 % 8 ∧ win0_0.index t 1 = t.val % 4) ∧ (win0_1.index t 0 = t.val / 4 / 8 ∧ win0_1.index t 1 = t.val % 4) ∧ (win0_2.index t 0 = t.val / 4 % 8 ∧ win0_2.index t 1 = t.val / 4 / 8) ∧ (win0_3.index t 0 = t.val / 4 % 8 ∧ win0_3.index t 1 = t.val / 4 / 8) :=
  (by decide +kernel : ∀ t : Fin grid0.N, _)

/-- The whole product, on top of the scaled residual's gradient. -/
def whole (c : Dev nD) : Vec Ideal S8192x1024 .f32 := fun i =>
  coef * (rest m c i : EReal) + ∑ k : Fin 5632, (left m c (ix2 (i 0) k) : EReal) * right m c (ix2 (i 1) k)

/-- The blocks at a point. -/
theorem left_at (c : Dev nD) (t : Fin cfg0.N) (y : Fin 1024) (k : Fin 1408) (r : Fin 8192) (hr : r.val = 1024 * (t.val / 4 % 8) + y.val) (n : Fin 5632) (hn : n.val = 1408 * (t.val % 4) + k.val) :
    (iblk m c 0 t : Vec Ideal S1024x1408 .bf16) (ix2 y k) = left m c (ix2 r n) := by
  unfold iblk
  rw [View.read_apply]
  show m (c.tc.loc main_arg0) _ = _
  congr 1
  funext a
  apply Fin.ext
  match a with
  | ⟨0, _⟩ => show win0_0.index t 0 * 1024 + 1 * y.val = r.val; rw [(places t).1.1]; omega
  | ⟨1, _⟩ => show win0_0.index t 1 * 1408 + 1 * k.val = n.val; rw [(places t).1.2]; omega

theorem right_at (c : Dev nD) (t : Fin cfg0.N) (d : Fin 1024) (k : Fin 1408) (e : Fin 1024) (he : e.val = 1024 * (t.val / 4 / 8) + d.val) (n : Fin 5632) (hn : n.val = 1408 * (t.val % 4) + k.val) :
    (iblk m c 1 t : Vec Ideal S1024x1408 .bf16) (ix2 d k) = right m c (ix2 e n) := by
  unfold iblk
  rw [View.read_apply]
  show m (c.tc.loc main_arg1) _ = _
  congr 1
  funext a
  apply Fin.ext
  match a with
  | ⟨0, _⟩ => show win0_1.index t 0 * 1024 + 1 * d.val = e.val; rw [(places t).2.1.1]; omega
  | ⟨1, _⟩ => show win0_1.index t 1 * 1408 + 1 * k.val = n.val; rw [(places t).2.1.2]; omega

theorem rest_at (c : Dev nD) (t : Fin cfg0.N) (y : Fin 1024) (d : Fin 1024) (r : Fin 8192) (hr : r.val = 1024 * (t.val / 4 % 8) + y.val) (e : Fin 1024) (he : e.val = 1024 * (t.val / 4 / 8) + d.val) :
    (iblk m c 2 t : Vec Ideal S1024x1024 .f32) (ix2 y d) = rest m c (ix2 r e) := by
  unfold iblk
  rw [View.read_apply]
  show m (c.tc.loc main_arg2) _ = _
  congr 1
  funext a
  apply Fin.ext
  match a with
  | ⟨0, _⟩ => show win0_2.index t 0 * 1024 + 1 * y.val = r.val; rw [(places t).2.2.1.1]; omega
  | ⟨1, _⟩ => show win0_2.index t 1 * 1024 + 1 * d.val = e.val; rw [(places t).2.2.1.2]; omega

/-- One product of the whole contraction, and nothing past its end. -/
def term (c : Dev nD) (r : Fin 8192) (e : Fin 1024) (k : ℕ) : EReal :=
  if h : k < 5632 then (left m c (ix2 r ⟨k, h⟩) : EReal) * right m c (ix2 e ⟨k, h⟩) else 0

/-- The whole contraction, counted by the naturals below its length. -/
theorem terms (c : Dev nD) (r : Fin 8192) (e : Fin 1024) :
    ∑ k ∈ Finset.range 5632, term m c r e k = ∑ k : Fin 5632, (left m c (ix2 r k) : EReal) * right m c (ix2 e k) := by
  rw [← Fin.sum_univ_eq_sum_range]
  exact Finset.sum_congr rfl fun k _ => dif_pos k.isLt

/-- The product of two blocks, at an index. -/
theorem product (x0 : Vec Ideal S1024x1408 .bf16) (x1 : Vec Ideal S1024x1408 .bf16) (y : Fin 1024) (d : Fin 1024) :
    k0_pay1 (F := Ideal) x0 x1 (ix2 y d) = ∑ k : Fin 1408, (x0 (ix2 y k) : EReal) * x1 (ix2 d k) := by
  unfold k0_pay1
  pointwise

/-- The residual's gradient is added with its factor. -/
theorem added (s x : Vec Ideal S1024x1024 .f32) (j : S1024x1024.Idx) : k0_pay4 (F := Ideal) s x j = (s j : EReal) + coef * x j := by
  unfold k0_pay4
  pointwise

/-- A block's product is its part of the contraction. -/
theorem part (c : Dev nD) (t : Fin cfg0.N) (y : Fin 1024) (d : Fin 1024) (r : Fin 8192) (hr : r.val = 1024 * (t.val / 4 % 8) + y.val) (e : Fin 1024) (he : e.val = 1024 * (t.val / 4 / 8) + d.val) :
    k0_pay1 (F := Ideal) (iblk m c 0 t) (iblk m c 1 t) (ix2 y d) = ∑ k ∈ Finset.range 1408, term m c r e (1408 * (t.val % 4) + k) := by
  rw [product, ← Fin.sum_univ_eq_sum_range]
  refine Finset.sum_congr rfl fun k _ => ?_
  have hb : 1408 * (t.val % 4) + k.val < 5632 := by have := k.isLt; omega
  rw [left_at m c t y k r hr ⟨_, hb⟩ rfl, right_at m c t d k e he ⟨_, hb⟩ rfl]
  unfold term
  rw [dif_pos hb]

/-- What the running total holds after the first blocks of a row of blocks. -/
theorem running (c : Dev nD) : ∀ (j n : ℕ) (h : n < cfg0.N) (_ : n % 4 = j) (_ : j < 3) (y : Fin 1024) (d : Fin 1024) (r : Fin 8192) (hr : r.val = 1024 * (n / 4 % 8) + y.val) (e : Fin 1024) (he : e.val = 1024 * (n / 4 / 8) + d.val),
    (outsAt0 m c n h).2 (ix2 y d) = ∑ s ∈ Finset.range (j + 1), ∑ k ∈ Finset.range 1408, term m c r e (1408 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 4 = n / 4 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 4 = 3) (y : Fin 1024) (d : Fin 1024) (r : Fin 8192) (hr : r.val = 1024 * (n / 4 % 8) + y.val) (e : Fin 1024) (he : e.val = 1024 * (n / 4 / 8) + d.val) :
    (outsAt0 m c n h).1 (ix2 y d) = whole m c (ix2 r e) := by
  have o := outsAt0_C m c ⟨n, h⟩ (by dsimp only; omega) (by dsimp only; omega) hn
  have hq : (n - 1) / 4 = n / 4 := by omega
  dsimp only at o
  rw [o]
  dsimp only
  rw [last]
  have hs : ∀ h', (outsAt0 m c (n - 1) h').2 (ix2 y d) = ∑ s ∈ Finset.range 3, ∑ k ∈ Finset.range 1408, term m c r e (1408 * s + k) :=
    fun h' => running m c 2 (n - 1) h' (by omega) (by omega) y d r (by rw [hq]; exact hr) e (by rw [hq]; exact he)
  have hp := part m c ⟨n, h⟩ y d r hr e he
  dsimp only at hp
  rw [hn] at hp
  have hx := rest_at m c ⟨n, h⟩ y d r hr e he
  rw [added, hx]
  show (_ + _ : EReal) + _ = _
  rw [hs, hp, ← Finset.sum_range_succ (fun s => ∑ k ∈ Finset.range 1408, term m c r e (1408 * s + k)), sum_blocks, terms, add_comm]
  rfl

/-- The array that the product ends in. -/
theorem array (c : Dev nD) : (dats m 0 c).arrAt 3 cfg0.N = whole m c :=
  (dats m 0 c).arrAt_eq_of_cover 3 _ (fun t hf => by
    rw [flushed3]
    funext j
    have ht : t.val < 32 := Nat.lt_of_lt_of_eq t.isLt N_0
    have h0 : (j 0).val < 1024 := (j 0).isLt
    have h1 : (j 1).val < 1024 := (j 1).isLt
    have hj : ((cfg0.win 3).blk t).view.emb j = (ix2 (⟨1024 * (t.val / 4 % 8) + (j 0).val, by omega⟩ : Fin 8192) (⟨1024 * (t.val / 4 / 8) + (j 1).val, by omega⟩ : Fin 1024) : S8192x1024.Idx) := by
      funext a
      apply Fin.ext
      match a with
      | ⟨0, _⟩ => show win0_3.index t 0 * 1024 + 1 * (j 0).val = 1024 * (t.val / 4 % 8) + (j 0).val; rw [(places t).2.2.2.1]; omega
      | ⟨1, _⟩ => show win0_3.index t 1 * 1024 + 1 * (j 1).val = 1024 * (t.val / 4 / 8) + (j 1).val; rw [(places t).2.2.2.2]; omega
    have hc : ∀ o : Vec Ideal S1024x1024 .f32, (cfg0.win 3).cut (grid0.coords t) o j = o j := fun _ => rfl
    have hG : ∀ G : Vec Ideal S8192x1024 .f32, G (ix2 (⟨1024 * (t.val / 4 % 8) + (j 0).val, by omega⟩ : Fin 8192) (⟨1024 * (t.val / 4 / 8) + (j 1).val, by omega⟩ : Fin 1024)) = ((cfg0.win 3).blk t).view.read (Elt Ideal) G j := fun G => by
      rw [View.read_apply]
      exact congrArg G hj.symm
    exact (hc _).trans (((congrArg ((outsAt0 m c t.val t.isLt).1) (eq_ix2 (j : S1024x1024.Idx))).trans (written m c t.val t.isLt ((flush0_3 t).mp hf) (j 0) (j 1) ⟨1024 * (t.val / 4 % 8) + (j 0).val, by omega⟩ rfl ⟨1024 * (t.val / 4 / 8) + (j 1).val, by omega⟩ rfl)).trans (hG _))) fun i => by
    have h0 : (i 0).val < 8192 := (i 0).isLt
    have h1 : (i 1).val < 1024 := (i 1).isLt
    let t : Fin cfg0.N := ⟨4 * ((i 1).val / 1024 * 8 + (i 0).val / 1024) + 3, by rw [show cfg0.N = 32 from N_0]; omega⟩
    have e0 : win0_3.index t 0 = (4 * ((i 1).val / 1024 * 8 + (i 0).val / 1024) + 3) / 4 % 8 := (places t).2.2.2.1
    have e1 : win0_3.index t 1 = (4 * ((i 1).val / 1024 * 8 + (i 0).val / 1024) + 3) / 4 / 8 := (places t).2.2.2.2
    refine ⟨t, (flush0_3 t).mpr (by show (4 * ((i 1).val / 1024 * 8 + (i 0).val / 1024) + 3) % 4 = 3; omega), ?_⟩
    show i ∈ ((View.whole main_v0).slice ((cfg0.win 3).rect t)).set
    rw [View.set_slice_whole, Rect.mem_set_unit]
    intro b
    match b with
    | ⟨0, _⟩ => show win0_3.index t 0 * 1024 ≤ (i 0).val ∧ (i 0).val < win0_3.index t 0 * 1024 + 1024; rw [e0]; omega
    | ⟨1, _⟩ => show win0_3.index t 1 * 1024 ≤ (i 1).val ∧ (i 1).val < win0_3.index t 1 * 1024 + 1024; rw [e1]; omega

end

theorem frame : Cert.quiescent_FfnInDx := fun m ρ _ => Cert.FfnInDx.Gen.frame (F := Bits) m ρ

theorem frame_ideal : Cert.quiescent_FfnInDxIdeal := fun m ρ _ => Cert.FfnInDxIdeal.Gen.frame (F := Ideal) m ρ

theorem frame_ref_ideal : Cert.quiescent_FfnInDxRefIdeal := fun m ρ _ =>
  (θ_run Cert.FfnInDxRefIdeal.defs _ _).mono (fun r h => ⟨fun c => (h c).2, sem_eq_zero_of_no_sems (by decide) r.2⟩)
    (Cert.FfnInDxRefIdeal.Value.run (F := Ideal) m ρ)

section

open Cert.FfnInDxRefIdeal Cert.FfnInDxRefIdeal.Gen

/-- The plain product, at an index. -/
theorem plain (a : FVec Ideal S8192x5632 .bf16) (b : FVec Ideal S1024x5632 .bf16) (x : FVec Ideal S8192x1024 .f32) (i : S8192x1024.Idx) :
    (addf (mulf (broadcastInDim S8192x1024 ![] bcast_S_S8192x1024 (constant S_ .f32 0x3FB504F3#32)) x) (Host.dotGeneral dot_S8192x5632_S1024x5632_S8192x1024_1_1_0_0_n_n none a b) : FVec Ideal S8192x1024 .f32) i = coef * (x i : EReal) + ∑ k : Fin 5632, (a (ix2 (i 0) k) : EReal) * b (ix2 (i 1) k) := by
  pointwise

end

theorem algebraic : Cert.algebraic_FfnInDxIdeal_FfnInDxRefIdeal := fun m g m' g' _ hm =>
  ⟨fun c => whole m c, (θ_run Cert.FfnInDxIdeal.defs _ _).mono (fun _ h c => ⟨(h c).1.trans (array m c), (h c).2⟩)
      (Cert.FfnInDxIdeal.Value.run_blocks (F := Ideal) m g),
    (θ_run Cert.FfnInDxRefIdeal.defs _ _).mono (fun _ h c => ⟨(h c).1.trans (by
      funext i
      refine (plain _ _ _ i).trans ?_
      rw [(hm c).1, (hm c).2.1, (hm c).2.2]
      rfl), (h c).2⟩) (Cert.FfnInDxRefIdeal.Value.run (F := Ideal) m' g')⟩

end Cert.FfnInDxProof

end
-- ==== Proof.Products.FfnOutDw.lean ====
/- The gradient of the down weights: the blocks of the contracted axis, added up in turn, make the whole product. -/
module

public import proofs.«01_k».proof.Proof.GradX.Value
public import proofs.«01_k».proof.Proof.Gen.FfnOutDw.Frame
public import proofs.«01_k».proof.Proof.Gen.FfnOutDwIdeal.Value
public import proofs.«01_k».proof.Proof.Gen.FfnOutDwRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnOutDwProof

section

open Cert.FfnOutDwIdeal Cert.FfnOutDwIdeal.Gen Cert.FfnOutDwIdeal.Value

/-- The first block of a row of blocks leaves its product. -/
theorem first {F : FTy → Type} [FloatOps F] (c : Dev nD) (i : grid0.Coords) (a3 : Memref sig .tc .vmem S1024x256 .bf16) (h3 : a3.IsWhole) (a4 : Memref sig .tc .vmem S1024x1024 .bf16) (h4 : a4.IsWhole) (a5 : Memref sig .tc .vmem S256x1024 .f32) (h5 : a5.IsWhole) (a6 : Memref sig .tc .vmem S256x1024 .f32) (h6 : a6.IsWhole) (k0 : cond0_0 i) (k1 : ¬cond0_1 i) (k2 : ¬cond0_2 i) (x0 : Vec F S1024x256 .bf16) (x1 : Vec F S1024x1024 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S1024x256) origin, View.ld_unit_zero (S := S1024x1024) origin, View.ld_unit_zero (S := S256x1024) origin, shapeCast_self]

/-- Every later block but the last adds its product. -/
theorem next {F : FTy → Type} [FloatOps F] (c : Dev nD) (i : grid0.Coords) (a3 : Memref sig .tc .vmem S1024x256 .bf16) (h3 : a3.IsWhole) (a4 : Memref sig .tc .vmem S1024x1024 .bf16) (h4 : a4.IsWhole) (a5 : Memref sig .tc .vmem S256x1024 .f32) (h5 : a5.IsWhole) (a6 : Memref sig .tc .vmem S256x1024 .f32) (h6 : a6.IsWhole) (k0 : ¬cond0_0 i) (k1 : cond0_1 i) (k2 : ¬cond0_2 i) (x0 : Vec F S1024x256 .bf16) (x1 : Vec F S1024x1024 .bf16) (s : Vec F S256x1024 .f32) :
    sout0_B_0 c i a3 h3 a4 h4 a5 h5 a6 h6 k0 k1 k2 x0 x1 s = addf s (k0_pay1 x0 x1) := by
  unfold sout0_B_0
  rw [View.read_writes_eq_canon _ _ _ (scover0_B_0 c i a3 h3 a4 h4 a5 h5 a6 h6 k0 k1 k2 x0 x1 s)]
  unfold kernelRun0_B
  dsimp only
  sl_unfold_words
  rw [View.canon_unit_zero origin]
  unfold k0_pay3
  simp only [View.readAt_eq_ld, h3.read_unread, h4.read_unread, View.ld_unit_zero (S := S1024x256) origin, View.ld_unit_zero (S := S1024x1024) origin, View.ld_unit_zero (S := S256x1024) origin, shapeCast_self, h6.read_unread]

/-- The last block adds its product. -/
theorem last {F : FTy → Type} [FloatOps F] (c : Dev nD) (i : grid0.Coords) (a3 : Memref sig .tc .vmem S1024x256 .bf16) (h3 : a3.IsWhole) (a4 : Memref sig .tc .vmem S1024x1024 .bf16) (h4 : a4.IsWhole) (a5 : Memref sig .tc .vmem S256x1024 .f32) (h5 : a5.IsWhole) (a6 : Memref sig .tc .vmem S256x1024 .f32) (h6 : a6.IsWhole) (k0 : ¬cond0_0 i) (k1 : cond0_1 i) (k2 : cond0_2 i) (x0 : Vec F S1024x256 .bf16) (x1 : Vec F S1024x1024 .bf16) (s : Vec F S256x1024 .f32) :
    out0_C_2 c i a3 h3 a4 h4 a5 h5 a6 h6 k0 k1 k2 x0 x1 s = addf s (k0_pay1 x0 x1) := by
  unfold out0_C_2
  rw [View.read_writes_eq_canon _ _ _ (cover0_C_2 c i a3 h3 a4 h4 a5 h5 a6 h6 k0 k1 k2 x0 x1 s)]
  unfold kernelRun0_C
  dsimp only
  sl_unfold_words
  rw [View.canon_unit_zero origin]
  simp only [View.readCov_unit_zero (S := S256x1024) _ origin, View.readAt_eq_ld, h3.read_unread, h4.read_unread, View.ld_unit_zero (S := S1024x256) origin, View.ld_unit_zero (S := S1024x1024) origin, View.ld_unit_zero (S := S256x1024) origin, shapeCast_self, h6.read_unread, k0_pay3]

variable (m : (ℓ : Loc nD τ sig) → Buf (Elt Ideal) ℓ)

/-- The arrays as launched. -/
abbrev left (c : Dev nD) : Vec Ideal S8192x2816 .bf16 := m (c.tc.loc main_arg0)
abbrev right (c : Dev nD) : Vec Ideal S8192x1024 .bf16 := m (c.tc.loc main_arg1)

/-- Where each window stands at a point. -/
theorem places : ∀ t : Fin cfg0.N, (win0_0.index t 0 = t.val % 8 ∧ win0_0.index t 1 = t.val / 8 % 11) ∧ (win0_1.index t 0 = t.val % 8 ∧ win0_1.index t 1 = t.val / 8 / 11) ∧ (win0_2.index t 0 = t.val / 8 % 11 ∧ win0_2.index t 1 = t.val / 8 / 11) :=
  (by decide +kernel : ∀ t : Fin grid0.N, _)

/-- The whole product. -/
def whole (c : Dev nD) : Vec Ideal S2816x1024 .f32 := fun i =>
  ∑ k : Fin 8192, (left m c (ix2 k (i 0)) : EReal) * right m c (ix2 k (i 1))

/-- The blocks at a point. -/
theorem left_at (c : Dev nD) (t : Fin cfg0.N) (k : Fin 1024) (y : Fin 256) (n : Fin 8192) (hn : n.val = 1024 * (t.val % 8) + k.val) (r : Fin 2816) (hr : r.val = 256 * (t.val / 8 % 11) + y.val) :
    (iblk m c 0 t : Vec Ideal S1024x256 .bf16) (ix2 k y) = left m c (ix2 n r) := by
  unfold iblk
  rw [View.read_apply]
  show m (c.tc.loc main_arg0) _ = _
  congr 1
  funext a
  apply Fin.ext
  match a with
  | ⟨0, _⟩ => show win0_0.index t 0 * 1024 + 1 * k.val = n.val; rw [(places t).1.1]; omega
  | ⟨1, _⟩ => show win0_0.index t 1 * 256 + 1 * y.val = r.val; rw [(places t).1.2]; omega

theorem right_at (c : Dev nD) (t : Fin cfg0.N) (k : Fin 1024) (d : Fin 1024) (n : Fin 8192) (hn : n.val = 1024 * (t.val % 8) + k.val) (e : Fin 1024) (he : e.val = 1024 * (t.val / 8 / 11) + d.val) :
    (iblk m c 1 t : Vec Ideal S1024x1024 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 1024 + 1 * d.val = e.val; rw [(places t).2.1.2]; omega

/-- One product of the whole contraction, and nothing past its end. -/
def term (c : Dev nD) (r : Fin 2816) (e : Fin 1024) (k : ℕ) : EReal :=
  if h : k < 8192 then (left m c (ix2 ⟨k, h⟩ r) : EReal) * right m c (ix2 ⟨k, h⟩ e) else 0

/-- The whole contraction, counted by the naturals below its length. -/
theorem terms (c : Dev nD) (r : Fin 2816) (e : Fin 1024) :
    ∑ k ∈ Finset.range 8192, term m c r e k = ∑ k : Fin 8192, (left m c (ix2 k r) : EReal) * right m c (ix2 k e) := by
  rw [← Fin.sum_univ_eq_sum_range]
  exact Finset.sum_congr rfl fun k _ => dif_pos k.isLt

/-- The product of two blocks, at an index. -/
theorem product (x0 : Vec Ideal S1024x256 .bf16) (x1 : Vec Ideal S1024x1024 .bf16) (y : Fin 256) (d : Fin 1024) :
    k0_pay1 (F := Ideal) x0 x1 (ix2 y d) = ∑ k : Fin 1024, (x0 (ix2 k y) : EReal) * x1 (ix2 k d) := by
  unfold k0_pay1
  pointwise

/-- A block's product is its part of the contraction. -/
theorem part (c : Dev nD) (t : Fin cfg0.N) (y : Fin 256) (d : Fin 1024) (r : Fin 2816) (hr : r.val = 256 * (t.val / 8 % 11) + y.val) (e : Fin 1024) (he : e.val = 1024 * (t.val / 8 / 11) + d.val) :
    k0_pay1 (F := Ideal) (iblk m c 0 t) (iblk m c 1 t) (ix2 y d) = ∑ k ∈ Finset.range 1024, term m c r e (1024 * (t.val % 8) + k) := by
  rw [product, ← Fin.sum_univ_eq_sum_range]
  refine Finset.sum_congr rfl fun k _ => ?_
  have hb : 1024 * (t.val % 8) + k.val < 8192 := by have := k.isLt; omega
  rw [left_at m c t k y ⟨_, hb⟩ rfl r hr, right_at m c t k d ⟨_, hb⟩ rfl e he]
  unfold term
  rw [dif_pos hb]

/-- What the running total holds after the first blocks of a row of blocks. -/
theorem running (c : Dev nD) : ∀ (j n : ℕ) (h : n < cfg0.N) (_ : n % 8 = j) (_ : j < 7) (y : Fin 256) (d : Fin 1024) (r : Fin 2816) (hr : r.val = 256 * (n / 8 % 11) + y.val) (e : Fin 1024) (he : e.val = 1024 * (n / 8 / 11) + d.val),
    (outsAt0 m c n h).2 (ix2 y d) = ∑ s ∈ Finset.range (j + 1), ∑ k ∈ Finset.range 1024, term m c r e (1024 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 8 = n / 8 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 8 = 7) (y : Fin 256) (d : Fin 1024) (r : Fin 2816) (hr : r.val = 256 * (n / 8 % 11) + y.val) (e : Fin 1024) (he : e.val = 1024 * (n / 8 / 11) + d.val) :
    (outsAt0 m c n h).1 (ix2 y d) = whole m c (ix2 r e) := by
  have o := outsAt0_C m c ⟨n, h⟩ (by dsimp only; omega) (by dsimp only; omega) hn
  have hq : (n - 1) / 8 = n / 8 := by omega
  dsimp only at o
  rw [o]
  dsimp only
  rw [last]
  have hs : ∀ h', (outsAt0 m c (n - 1) h').2 (ix2 y d) = ∑ s ∈ Finset.range 7, ∑ k ∈ Finset.range 1024, term m c r e (1024 * s + k) :=
    fun h' => running m c 6 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1024, term m c r e (1024 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 88 := Nat.lt_of_lt_of_eq t.isLt N_0
    have h0 : (j 0).val < 256 := (j 0).isLt
    have h1 : (j 1).val < 1024 := (j 1).isLt
    have hj : ((cfg0.win 2).blk t).view.emb j = (ix2 (⟨256 * (t.val / 8 % 11) + (j 0).val, by omega⟩ : Fin 2816) (⟨1024 * (t.val / 8 / 11) + (j 1).val, by omega⟩ : Fin 1024) : S2816x1024.Idx) := by
      funext a
      apply Fin.ext
      match a with
      | ⟨0, _⟩ => show win0_2.index t 0 * 256 + 1 * (j 0).val = 256 * (t.val / 8 % 11) + (j 0).val; rw [(places t).2.2.1]; omega
      | ⟨1, _⟩ => show win0_2.index t 1 * 1024 + 1 * (j 1).val = 1024 * (t.val / 8 / 11) + (j 1).val; rw [(places t).2.2.2]; omega
    have hc : ∀ o : Vec Ideal S256x1024 .f32, (cfg0.win 2).cut (grid0.coords t) o j = o j := fun _ => rfl
    have hG : ∀ G : Vec Ideal S2816x1024 .f32, G (ix2 (⟨256 * (t.val / 8 % 11) + (j 0).val, by omega⟩ : Fin 2816) (⟨1024 * (t.val / 8 / 11) + (j 1).val, by omega⟩ : Fin 1024)) = ((cfg0.win 2).blk t).view.read (Elt Ideal) G j := fun G => by
      rw [View.read_apply]
      exact congrArg G hj.symm
    exact (hc _).trans (((congrArg ((outsAt0 m c t.val t.isLt).1) (eq_ix2 (j : S256x1024.Idx))).trans (written m c t.val t.isLt ((flush0_2 t).mp hf) (j 0) (j 1) ⟨256 * (t.val / 8 % 11) + (j 0).val, by omega⟩ rfl ⟨1024 * (t.val / 8 / 11) + (j 1).val, by omega⟩ rfl)).trans (hG _))) fun i => by
    have h0 : (i 0).val < 2816 := (i 0).isLt
    have h1 : (i 1).val < 1024 := (i 1).isLt
    let t : Fin cfg0.N := ⟨8 * ((i 1).val / 1024 * 11 + (i 0).val / 256) + 7, by rw [show cfg0.N = 88 from N_0]; omega⟩
    have e0 : win0_2.index t 0 = (8 * ((i 1).val / 1024 * 11 + (i 0).val / 256) + 7) / 8 % 11 := (places t).2.2.1
    have e1 : win0_2.index t 1 = (8 * ((i 1).val / 1024 * 11 + (i 0).val / 256) + 7) / 8 / 11 := (places t).2.2.2
    refine ⟨t, (flush0_2 t).mpr (by show (8 * ((i 1).val / 1024 * 11 + (i 0).val / 256) + 7) % 8 = 7; omega), ?_⟩
    show i ∈ ((View.whole main_v0).slice ((cfg0.win 2).rect t)).set
    rw [View.set_slice_whole, Rect.mem_set_unit]
    intro b
    match b with
    | ⟨0, _⟩ => show win0_2.index t 0 * 256 ≤ (i 0).val ∧ (i 0).val < win0_2.index t 0 * 256 + 256; rw [e0]; omega
    | ⟨1, _⟩ => show win0_2.index t 1 * 1024 ≤ (i 1).val ∧ (i 1).val < win0_2.index t 1 * 1024 + 1024; rw [e1]; omega

end

theorem frame : Cert.quiescent_FfnOutDw := fun m ρ _ => Cert.FfnOutDw.Gen.frame (F := Bits) m ρ

theorem frame_ideal : Cert.quiescent_FfnOutDwIdeal := fun m ρ _ => Cert.FfnOutDwIdeal.Gen.frame (F := Ideal) m ρ

theorem frame_ref_ideal : Cert.quiescent_FfnOutDwRefIdeal := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)

section

open Cert.FfnOutDwRefIdeal Cert.FfnOutDwRefIdeal.Gen

/-- The plain product, at an index. -/
theorem plain (a : FVec Ideal S8192x2816 .bf16) (b : FVec Ideal S8192x1024 .bf16) (i : S2816x1024.Idx) :
    (Host.dotGeneral dot_S8192x2816_S8192x1024_S2816x1024_0_0_1_1_n_n none a b : FVec Ideal S2816x1024 .f32) i = ∑ k : Fin 8192, (a (ix2 k (i 0)) : EReal) * b (ix2 k (i 1)) := by
  pointwise

end

theorem algebraic : Cert.algebraic_FfnOutDwIdeal_FfnOutDwRefIdeal := fun m g m' g' _ hm =>
  ⟨fun c => whole m c, (θ_run Cert.FfnOutDwIdeal.defs _ _).mono (fun _ h c => ⟨(h c).1.trans (array m c), (h c).2⟩)
      (Cert.FfnOutDwIdeal.Value.run_blocks (F := Ideal) m g),
    (θ_run Cert.FfnOutDwRefIdeal.defs _ _).mono (fun _ h c => ⟨(h c).1.trans (by
      funext i
      refine (plain _ _ i).trans ?_
      rw [(hm c).1, (hm c).2]
      rfl), (h c).2⟩) (Cert.FfnOutDwRefIdeal.Value.run (F := Ideal) m' g')⟩

end Cert.FfnOutDwProof

end
-- ==== Proof.Products.FfnInDw.lean ====
/- The gradient of the gate and up weights: the blocks of the contracted axis, added up in turn, make the whole product. -/
module

public import proofs.«01_k».proof.Proof.GradX.Value
public import proofs.«01_k».proof.Proof.Gen.FfnInDw.Frame
public import proofs.«01_k».proof.Proof.Gen.FfnInDwIdeal.Value
public import proofs.«01_k».proof.Proof.Gen.FfnInDwRefIdeal.Run

@[expose] public section

noncomputable section

open Idealize.ShloMosaic Idealize.ShloMosaic.TcCoe
open Idealize.SL.Sem
open Idealize.ShloMosaic.Pipeline (Dat)
open Cert.GradXProof (origin sum_blocks)

namespace Cert.FfnInDwProof

section

open Cert.FfnInDwIdeal Cert.FfnInDwIdeal.Gen Cert.FfnInDwIdeal.Value

/-- The first block of a row of blocks leaves its product. -/
theorem first {F : FTy → Type} [FloatOps F] (c : Dev nD) (i : grid0.Coords) (a3 : Memref sig .tc .vmem S1024x1024 .bf16) (h3 : a3.IsWhole) (a4 : Memref sig .tc .vmem S1024x512 .bf16) (h4 : a4.IsWhole) (a5 : Memref sig .tc .vmem S1024x512 .f32) (h5 : a5.IsWhole) (a6 : Memref sig .tc .vmem S1024x512 .f32) (h6 : a6.IsWhole) (k0 : cond0_0 i) (k1 : ¬cond0_1 i) (k2 : ¬cond0_2 i) (x0 : Vec F S1024x1024 .bf16) (x1 : Vec F S1024x512 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S1024x1024) origin, View.ld_unit_zero (S := S1024x512) origin, shapeCast_self]

/-- Every later block but the last adds its product. -/
theorem next {F : FTy → Type} [FloatOps F] (c : Dev nD) (i : grid0.Coords) (a3 : Memref sig .tc .vmem S1024x1024 .bf16) (h3 : a3.IsWhole) (a4 : Memref sig .tc .vmem S1024x512 .bf16) (h4 : a4.IsWhole) (a5 : Memref sig .tc .vmem S1024x512 .f32) (h5 : a5.IsWhole) (a6 : Memref sig .tc .vmem S1024x512 .f32) (h6 : a6.IsWhole) (k0 : ¬cond0_0 i) (k1 : cond0_1 i) (k2 : ¬cond0_2 i) (x0 : Vec F S1024x1024 .bf16) (x1 : Vec F S1024x512 .bf16) (s : Vec F S1024x512 .f32) :
    sout0_B_0 c i a3 h3 a4 h4 a5 h5 a6 h6 k0 k1 k2 x0 x1 s = addf s (k0_pay1 x0 x1) := by
  unfold sout0_B_0
  rw [View.read_writes_eq_canon _ _ _ (scover0_B_0 c i a3 h3 a4 h4 a5 h5 a6 h6 k0 k1 k2 x0 x1 s)]
  unfold kernelRun0_B
  dsimp only
  sl_unfold_words
  rw [View.canon_unit_zero origin]
  unfold k0_pay3
  simp only [View.readAt_eq_ld, h3.read_unread, h4.read_unread, View.ld_unit_zero (S := S1024x1024) origin, View.ld_unit_zero (S := S1024x512) origin, shapeCast_self, h6.read_unread]

/-- The last block adds its product. -/
theorem last {F : FTy → Type} [FloatOps F] (c : Dev nD) (i : grid0.Coords) (a3 : Memref sig .tc .vmem S1024x1024 .bf16) (h3 : a3.IsWhole) (a4 : Memref sig .tc .vmem S1024x512 .bf16) (h4 : a4.IsWhole) (a5 : Memref sig .tc .vmem S1024x512 .f32) (h5 : a5.IsWhole) (a6 : Memref sig .tc .vmem S1024x512 .f32) (h6 : a6.IsWhole) (k0 : ¬cond0_0 i) (k1 : cond0_1 i) (k2 : cond0_2 i) (x0 : Vec F S1024x1024 .bf16) (x1 : Vec F S1024x512 .bf16) (s : Vec F S1024x512 .f32) :
    out0_C_2 c i a3 h3 a4 h4 a5 h5 a6 h6 k0 k1 k2 x0 x1 s = addf s (k0_pay1 x0 x1) := by
  unfold out0_C_2
  rw [View.read_writes_eq_canon _ _ _ (cover0_C_2 c i a3 h3 a4 h4 a5 h5 a6 h6 k0 k1 k2 x0 x1 s)]
  unfold kernelRun0_C
  dsimp only
  sl_unfold_words
  rw [View.canon_unit_zero origin]
  simp only [View.readCov_unit_zero (S := S1024x512) _ origin, View.readAt_eq_ld, h3.read_unread, h4.read_unread, View.ld_unit_zero (S := S1024x1024) origin, View.ld_unit_zero (S := S1024x512) origin, shapeCast_self, h6.read_unread, k0_pay3]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S8192x5632 .bf16 := m (c.tc.loc main_arg1)

/-- Where each window stands at a point. -/
theorem places : ∀ t : Fin cfg0.N, (win0_0.index t 0 = t.val % 8 ∧ win0_0.index t 1 = t.val / 8 % 1) ∧ (win0_1.index t 0 = t.val % 8 ∧ win0_1.index t 1 = t.val / 8 / 1) ∧ (win0_2.index t 0 = t.val / 8 % 1 ∧ win0_2.index t 1 = t.val / 8 / 1) :=
  (by decide +kernel : ∀ t : Fin grid0.N, _)

/-- The whole product. -/
def whole (c : Dev nD) : Vec Ideal S1024x5632 .f32 := fun i =>
  ∑ k : Fin 8192, (left m c (ix2 k (i 0)) : EReal) * right m c (ix2 k (i 1))

/-- The blocks at a point. -/
theorem left_at (c : Dev nD) (t : Fin cfg0.N) (k : Fin 1024) (y : Fin 1024) (n : Fin 8192) (hn : n.val = 1024 * (t.val % 8) + k.val) (r : Fin 1024) (hr : r.val = 1024 * (t.val / 8 % 1) + y.val) :
    (iblk m c 0 t : Vec Ideal S1024x1024 .bf16) (ix2 k y) = left m c (ix2 n r) := by
  unfold iblk
  rw [View.read_apply]
  show m (c.tc.loc main_arg0) _ = _
  congr 1
  funext a
  apply Fin.ext
  match a with
  | ⟨0, _⟩ => show win0_0.index t 0 * 1024 + 1 * k.val = n.val; rw [(places t).1.1]; omega
  | ⟨1, _⟩ => show win0_0.index t 1 * 1024 + 1 * y.val = r.val; rw [(places t).1.2]; omega

theorem right_at (c : Dev nD) (t : Fin cfg0.N) (k : Fin 1024) (d : Fin 512) (n : Fin 8192) (hn : n.val = 1024 * (t.val % 8) + k.val) (e : Fin 5632) (he : e.val = 512 * (t.val / 8 / 1) + d.val) :
    (iblk m c 1 t : Vec Ideal S1024x512 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 512 + 1 * d.val = e.val; rw [(places t).2.1.2]; omega

/-- One product of the whole contraction, and nothing past its end. -/
def term (c : Dev nD) (r : Fin 1024) (e : Fin 5632) (k : ℕ) : EReal :=
  if h : k < 8192 then (left m c (ix2 ⟨k, h⟩ r) : EReal) * right m c (ix2 ⟨k, h⟩ e) else 0

/-- The whole contraction, counted by the naturals below its length. -/
theorem terms (c : Dev nD) (r : Fin 1024) (e : Fin 5632) :
    ∑ k ∈ Finset.range 8192, term m c r e k = ∑ k : Fin 8192, (left m c (ix2 k r) : EReal) * right m c (ix2 k e) := by
  rw [← Fin.sum_univ_eq_sum_range]
  exact Finset.sum_congr rfl fun k _ => dif_pos k.isLt

/-- The product of two blocks, at an index. -/
theorem product (x0 : Vec Ideal S1024x1024 .bf16) (x1 : Vec Ideal S1024x512 .bf16) (y : Fin 1024) (d : Fin 512) :
    k0_pay1 (F := Ideal) x0 x1 (ix2 y d) = ∑ k : Fin 1024, (x0 (ix2 k y) : EReal) * x1 (ix2 k d) := by
  unfold k0_pay1
  pointwise

/-- A block's product is its part of the contraction. -/
theorem part (c : Dev nD) (t : Fin cfg0.N) (y : Fin 1024) (d : Fin 512) (r : Fin 1024) (hr : r.val = 1024 * (t.val / 8 % 1) + y.val) (e : Fin 5632) (he : e.val = 512 * (t.val / 8 / 1) + d.val) :
    k0_pay1 (F := Ideal) (iblk m c 0 t) (iblk m c 1 t) (ix2 y d) = ∑ k ∈ Finset.range 1024, term m c r e (1024 * (t.val % 8) + k) := by
  rw [product, ← Fin.sum_univ_eq_sum_range]
  refine Finset.sum_congr rfl fun k _ => ?_
  have hb : 1024 * (t.val % 8) + k.val < 8192 := by have := k.isLt; omega
  rw [left_at m c t k y ⟨_, hb⟩ rfl r hr, right_at m c t k d ⟨_, hb⟩ rfl e he]
  unfold term
  rw [dif_pos hb]

/-- What the running total holds after the first blocks of a row of blocks. -/
theorem running (c : Dev nD) : ∀ (j n : ℕ) (h : n < cfg0.N) (_ : n % 8 = j) (_ : j < 7) (y : Fin 1024) (d : Fin 512) (r : Fin 1024) (hr : r.val = 1024 * (n / 8 % 1) + y.val) (e : Fin 5632) (he : e.val = 512 * (n / 8 / 1) + d.val),
    (outsAt0 m c n h).2 (ix2 y d) = ∑ s ∈ Finset.range (j + 1), ∑ k ∈ Finset.range 1024, term m c r e (1024 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 8 = n / 8 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 8 = 7) (y : Fin 1024) (d : Fin 512) (r : Fin 1024) (hr : r.val = 1024 * (n / 8 % 1) + y.val) (e : Fin 5632) (he : e.val = 512 * (n / 8 / 1) + d.val) :
    (outsAt0 m c n h).1 (ix2 y d) = whole m c (ix2 r e) := by
  have o := outsAt0_C m c ⟨n, h⟩ (by dsimp only; omega) (by dsimp only; omega) hn
  have hq : (n - 1) / 8 = n / 8 := by omega
  dsimp only at o
  rw [o]
  dsimp only
  rw [last]
  have hs : ∀ h', (outsAt0 m c (n - 1) h').2 (ix2 y d) = ∑ s ∈ Finset.range 7, ∑ k ∈ Finset.range 1024, term m c r e (1024 * s + k) :=
    fun h' => running m c 6 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1024, term m c r e (1024 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 88 := Nat.lt_of_lt_of_eq t.isLt N_0
    have h0 : (j 0).val < 1024 := (j 0).isLt
    have h1 : (j 1).val < 512 := (j 1).isLt
    have hj : ((cfg0.win 2).blk t).view.emb j = (ix2 (⟨1024 * (t.val / 8 % 1) + (j 0).val, by omega⟩ : Fin 1024) (⟨512 * (t.val / 8 / 1) + (j 1).val, by omega⟩ : Fin 5632) : S1024x5632.Idx) := by
      funext a
      apply Fin.ext
      match a with
      | ⟨0, _⟩ => show win0_2.index t 0 * 1024 + 1 * (j 0).val = 1024 * (t.val / 8 % 1) + (j 0).val; rw [(places t).2.2.1]; omega
      | ⟨1, _⟩ => show win0_2.index t 1 * 512 + 1 * (j 1).val = 512 * (t.val / 8 / 1) + (j 1).val; rw [(places t).2.2.2]; omega
    have hc : ∀ o : Vec Ideal S1024x512 .f32, (cfg0.win 2).cut (grid0.coords t) o j = o j := fun _ => rfl
    have hG : ∀ G : Vec Ideal S1024x5632 .f32, G (ix2 (⟨1024 * (t.val / 8 % 1) + (j 0).val, by omega⟩ : Fin 1024) (⟨512 * (t.val / 8 / 1) + (j 1).val, by omega⟩ : Fin 5632)) = ((cfg0.win 2).blk t).view.read (Elt Ideal) G j := fun G => by
      rw [View.read_apply]
      exact congrArg G hj.symm
    exact (hc _).trans (((congrArg ((outsAt0 m c t.val t.isLt).1) (eq_ix2 (j : S1024x512.Idx))).trans (written m c t.val t.isLt ((flush0_2 t).mp hf) (j 0) (j 1) ⟨1024 * (t.val / 8 % 1) + (j 0).val, by omega⟩ rfl ⟨512 * (t.val / 8 / 1) + (j 1).val, by omega⟩ rfl)).trans (hG _))) fun i => by
    have h0 : (i 0).val < 1024 := (i 0).isLt
    have h1 : (i 1).val < 5632 := (i 1).isLt
    let t : Fin cfg0.N := ⟨8 * ((i 1).val / 512 * 1 + (i 0).val / 1024) + 7, by rw [show cfg0.N = 88 from N_0]; omega⟩
    have e0 : win0_2.index t 0 = (8 * ((i 1).val / 512 * 1 + (i 0).val / 1024) + 7) / 8 % 1 := (places t).2.2.1
    have e1 : win0_2.index t 1 = (8 * ((i 1).val / 512 * 1 + (i 0).val / 1024) + 7) / 8 / 1 := (places t).2.2.2
    refine ⟨t, (flush0_2 t).mpr (by show (8 * ((i 1).val / 512 * 1 + (i 0).val / 1024) + 7) % 8 = 7; omega), ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 512 ≤ (i 1).val ∧ (i 1).val < win0_2.index t 1 * 512 + 512; rw [e1]; omega

end

theorem frame : Cert.quiescent_FfnInDw := fun m ρ _ => Cert.FfnInDw.Gen.frame (F := Bits) m ρ

theorem frame_ideal : Cert.quiescent_FfnInDwIdeal := fun m ρ _ => Cert.FfnInDwIdeal.Gen.frame (F := Ideal) m ρ

theorem frame_ref_ideal : Cert.quiescent_FfnInDwRefIdeal := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

section

open Cert.FfnInDwRefIdeal Cert.FfnInDwRefIdeal.Gen

/-- The plain product, at an index. -/
theorem plain (a : FVec Ideal S8192x1024 .bf16) (b : FVec Ideal S8192x5632 .bf16) (i : S1024x5632.Idx) :
    (Host.dotGeneral dot_S8192x1024_S8192x5632_S1024x5632_0_0_1_1_n_n none a b : FVec Ideal S1024x5632 .f32) i = ∑ k : Fin 8192, (a (ix2 k (i 0)) : EReal) * b (ix2 k (i 1)) := by
  pointwise

end

theorem algebraic : Cert.algebraic_FfnInDwIdeal_FfnInDwRefIdeal := fun m g m' g' _ hm =>
  ⟨fun c => whole m c, (θ_run Cert.FfnInDwIdeal.defs _ _).mono (fun _ h c => ⟨(h c).1.trans (array m c), (h c).2⟩)
      (Cert.FfnInDwIdeal.Value.run_blocks (F := Ideal) m g),
    (θ_run Cert.FfnInDwRefIdeal.defs _ _).mono (fun _ h c => ⟨(h c).1.trans (by
      funext i
      refine (plain _ _ i).trans ?_
      rw [(hm c).1, (hm c).2]
      rfl), (h c).2⟩) (Cert.FfnInDwRefIdeal.Value.run (F := Ideal) m' g')⟩

end Cert.FfnInDwProof

end
-- ==== Proof.Products.MixDw.lean ====
/- The gradient of a square weight of the mixer: the blocks of the contracted axis, added up in turn, make the whole product. -/
module

public import proofs.«01_k».proof.Proof.GradX.Value
public import proofs.«01_k».proof.Proof.Gen.MixDw.Frame
public import proofs.«01_k».proof.Proof.Gen.MixDwIdeal.Value
public import proofs.«01_k».proof.Proof.Gen.MixDwRefIdeal.Run

@[expose] public section

noncomputable section

open Idealize.ShloMosaic Idealize.ShloMosaic.TcCoe
open Idealize.SL.Sem
open Idealize.ShloMosaic.Pipeline (Dat)
open Cert.GradXProof (origin sum_blocks)

namespace Cert.MixDwProof

section

open Cert.MixDwIdeal Cert.MixDwIdeal.Gen Cert.MixDwIdeal.Value

/-- The first block of a row of blocks leaves its product. -/
theorem first {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : cond0_0 i) (k1 : ¬cond0_1 i) (k2 : ¬cond0_2 i) (x0 : Vec F S1024x1024 .bf16) (x1 : Vec F S1024x1024 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S1024x1024) origin, shapeCast_self]

/-- Every later block but the last adds its product. -/
theorem next {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : ¬cond0_0 i) (k1 : cond0_1 i) (k2 : ¬cond0_2 i) (x0 : Vec F S1024x1024 .bf16) (x1 : Vec F S1024x1024 .bf16) (s : Vec F S1024x1024 .f32) :
    sout0_B_0 c i a3 h3 a4 h4 a5 h5 a6 h6 k0 k1 k2 x0 x1 s = addf s (k0_pay1 x0 x1) := by
  unfold sout0_B_0
  rw [View.read_writes_eq_canon _ _ _ (scover0_B_0 c i a3 h3 a4 h4 a5 h5 a6 h6 k0 k1 k2 x0 x1 s)]
  unfold kernelRun0_B
  dsimp only
  sl_unfold_words
  rw [View.canon_unit_zero origin]
  unfold k0_pay3
  simp only [View.readAt_eq_ld, h3.read_unread, h4.read_unread, View.ld_unit_zero (S := S1024x1024) origin, shapeCast_self, h6.read_unread]

/-- The last block adds its product. -/
theorem last {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : ¬cond0_0 i) (k1 : cond0_1 i) (k2 : cond0_2 i) (x0 : Vec F S1024x1024 .bf16) (x1 : Vec F S1024x1024 .bf16) (s : Vec F S1024x1024 .f32) :
    out0_C_2 c i a3 h3 a4 h4 a5 h5 a6 h6 k0 k1 k2 x0 x1 s = addf s (k0_pay1 x0 x1) := by
  unfold out0_C_2
  rw [View.read_writes_eq_canon _ _ _ (cover0_C_2 c i a3 h3 a4 h4 a5 h5 a6 h6 k0 k1 k2 x0 x1 s)]
  unfold kernelRun0_C
  dsimp only
  sl_unfold_words
  rw [View.canon_unit_zero origin]
  simp only [View.readCov_unit_zero (S := S1024x1024) _ origin, View.readAt_eq_ld, h3.read_unread, h4.read_unread, View.ld_unit_zero (S := S1024x1024) origin, shapeCast_self, h6.read_unread, k0_pay3]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S8192x1024 .bf16 := m (c.tc.loc main_arg1)

/-- Where each window stands at a point. -/
theorem places : ∀ t : Fin cfg0.N, (win0_0.index t 0 = t.val % 8 ∧ win0_0.index t 1 = t.val / 8 % 1) ∧ (win0_1.index t 0 = t.val % 8 ∧ win0_1.index t 1 = t.val / 8 / 1) ∧ (win0_2.index t 0 = t.val / 8 % 1 ∧ win0_2.index t 1 = t.val / 8 / 1) :=
  (by decide +kernel : ∀ t : Fin grid0.N, _)

/-- The whole product. -/
def whole (c : Dev nD) : Vec Ideal S1024x1024 .f32 := fun i =>
  ∑ k : Fin 8192, (left m c (ix2 k (i 0)) : EReal) * right m c (ix2 k (i 1))

/-- The blocks at a point. -/
theorem left_at (c : Dev nD) (t : Fin cfg0.N) (k : Fin 1024) (y : Fin 1024) (n : Fin 8192) (hn : n.val = 1024 * (t.val % 8) + k.val) (r : Fin 1024) (hr : r.val = 1024 * (t.val / 8 % 1) + y.val) :
    (iblk m c 0 t : Vec Ideal S1024x1024 .bf16) (ix2 k y) = left m c (ix2 n r) := by
  unfold iblk
  rw [View.read_apply]
  show m (c.tc.loc main_arg0) _ = _
  congr 1
  funext a
  apply Fin.ext
  match a with
  | ⟨0, _⟩ => show win0_0.index t 0 * 1024 + 1 * k.val = n.val; rw [(places t).1.1]; omega
  | ⟨1, _⟩ => show win0_0.index t 1 * 1024 + 1 * y.val = r.val; rw [(places t).1.2]; omega

theorem right_at (c : Dev nD) (t : Fin cfg0.N) (k : Fin 1024) (d : Fin 1024) (n : Fin 8192) (hn : n.val = 1024 * (t.val % 8) + k.val) (e : Fin 1024) (he : e.val = 1024 * (t.val / 8 / 1) + d.val) :
    (iblk m c 1 t : Vec Ideal S1024x1024 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 1024 + 1 * d.val = e.val; rw [(places t).2.1.2]; omega

/-- One product of the whole contraction, and nothing past its end. -/
def term (c : Dev nD) (r : Fin 1024) (e : Fin 1024) (k : ℕ) : EReal :=
  if h : k < 8192 then (left m c (ix2 ⟨k, h⟩ r) : EReal) * right m c (ix2 ⟨k, h⟩ e) else 0

/-- The whole contraction, counted by the naturals below its length. -/
theorem terms (c : Dev nD) (r : Fin 1024) (e : Fin 1024) :
    ∑ k ∈ Finset.range 8192, term m c r e k = ∑ k : Fin 8192, (left m c (ix2 k r) : EReal) * right m c (ix2 k e) := by
  rw [← Fin.sum_univ_eq_sum_range]
  exact Finset.sum_congr rfl fun k _ => dif_pos k.isLt

/-- The product of two blocks, at an index. -/
theorem product (x0 : Vec Ideal S1024x1024 .bf16) (x1 : Vec Ideal S1024x1024 .bf16) (y : Fin 1024) (d : Fin 1024) :
    k0_pay1 (F := Ideal) x0 x1 (ix2 y d) = ∑ k : Fin 1024, (x0 (ix2 k y) : EReal) * x1 (ix2 k d) := by
  unfold k0_pay1
  pointwise

/-- A block's product is its part of the contraction. -/
theorem part (c : Dev nD) (t : Fin cfg0.N) (y : Fin 1024) (d : Fin 1024) (r : Fin 1024) (hr : r.val = 1024 * (t.val / 8 % 1) + y.val) (e : Fin 1024) (he : e.val = 1024 * (t.val / 8 / 1) + d.val) :
    k0_pay1 (F := Ideal) (iblk m c 0 t) (iblk m c 1 t) (ix2 y d) = ∑ k ∈ Finset.range 1024, term m c r e (1024 * (t.val % 8) + k) := by
  rw [product, ← Fin.sum_univ_eq_sum_range]
  refine Finset.sum_congr rfl fun k _ => ?_
  have hb : 1024 * (t.val % 8) + k.val < 8192 := by have := k.isLt; omega
  rw [left_at m c t k y ⟨_, hb⟩ rfl r hr, right_at m c t k d ⟨_, hb⟩ rfl e he]
  unfold term
  rw [dif_pos hb]

/-- What the running total holds after the first blocks of a row of blocks. -/
theorem running (c : Dev nD) : ∀ (j n : ℕ) (h : n < cfg0.N) (_ : n % 8 = j) (_ : j < 7) (y : Fin 1024) (d : Fin 1024) (r : Fin 1024) (hr : r.val = 1024 * (n / 8 % 1) + y.val) (e : Fin 1024) (he : e.val = 1024 * (n / 8 / 1) + d.val),
    (outsAt0 m c n h).2 (ix2 y d) = ∑ s ∈ Finset.range (j + 1), ∑ k ∈ Finset.range 1024, term m c r e (1024 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 8 = n / 8 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 8 = 7) (y : Fin 1024) (d : Fin 1024) (r : Fin 1024) (hr : r.val = 1024 * (n / 8 % 1) + y.val) (e : Fin 1024) (he : e.val = 1024 * (n / 8 / 1) + d.val) :
    (outsAt0 m c n h).1 (ix2 y d) = whole m c (ix2 r e) := by
  have o := outsAt0_C m c ⟨n, h⟩ (by dsimp only; omega) (by dsimp only; omega) hn
  have hq : (n - 1) / 8 = n / 8 := by omega
  dsimp only at o
  rw [o]
  dsimp only
  rw [last]
  have hs : ∀ h', (outsAt0 m c (n - 1) h').2 (ix2 y d) = ∑ s ∈ Finset.range 7, ∑ k ∈ Finset.range 1024, term m c r e (1024 * s + k) :=
    fun h' => running m c 6 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1024, term m c r e (1024 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 8 := Nat.lt_of_lt_of_eq t.isLt N_0
    have h0 : (j 0).val < 1024 := (j 0).isLt
    have h1 : (j 1).val < 1024 := (j 1).isLt
    have hj : ((cfg0.win 2).blk t).view.emb j = (ix2 (⟨1024 * (t.val / 8 % 1) + (j 0).val, by omega⟩ : Fin 1024) (⟨1024 * (t.val / 8 / 1) + (j 1).val, by omega⟩ : Fin 1024) : S1024x1024.Idx) := by
      funext a
      apply Fin.ext
      match a with
      | ⟨0, _⟩ => show win0_2.index t 0 * 1024 + 1 * (j 0).val = 1024 * (t.val / 8 % 1) + (j 0).val; rw [(places t).2.2.1]; omega
      | ⟨1, _⟩ => show win0_2.index t 1 * 1024 + 1 * (j 1).val = 1024 * (t.val / 8 / 1) + (j 1).val; rw [(places t).2.2.2]; omega
    have hc : ∀ o : Vec Ideal S1024x1024 .f32, (cfg0.win 2).cut (grid0.coords t) o j = o j := fun _ => rfl
    have hG : ∀ G : Vec Ideal S1024x1024 .f32, G (ix2 (⟨1024 * (t.val / 8 % 1) + (j 0).val, by omega⟩ : Fin 1024) (⟨1024 * (t.val / 8 / 1) + (j 1).val, by omega⟩ : Fin 1024)) = ((cfg0.win 2).blk t).view.read (Elt Ideal) G j := fun G => by
      rw [View.read_apply]
      exact congrArg G hj.symm
    exact (hc _).trans (((congrArg ((outsAt0 m c t.val t.isLt).1) (eq_ix2 (j : S1024x1024.Idx))).trans (written m c t.val t.isLt ((flush0_2 t).mp hf) (j 0) (j 1) ⟨1024 * (t.val / 8 % 1) + (j 0).val, by omega⟩ rfl ⟨1024 * (t.val / 8 / 1) + (j 1).val, by omega⟩ rfl)).trans (hG _))) fun i => by
    have h0 : (i 0).val < 1024 := (i 0).isLt
    have h1 : (i 1).val < 1024 := (i 1).isLt
    let t : Fin cfg0.N := ⟨8 * ((i 1).val / 1024 * 1 + (i 0).val / 1024) + 7, by rw [show cfg0.N = 8 from N_0]; omega⟩
    have e0 : win0_2.index t 0 = (8 * ((i 1).val / 1024 * 1 + (i 0).val / 1024) + 7) / 8 % 1 := (places t).2.2.1
    have e1 : win0_2.index t 1 = (8 * ((i 1).val / 1024 * 1 + (i 0).val / 1024) + 7) / 8 / 1 := (places t).2.2.2
    refine ⟨t, (flush0_2 t).mpr (by show (8 * ((i 1).val / 1024 * 1 + (i 0).val / 1024) + 7) % 8 = 7; omega), ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 1024 ≤ (i 1).val ∧ (i 1).val < win0_2.index t 1 * 1024 + 1024; rw [e1]; omega

end

theorem frame : Cert.quiescent_MixDw := fun m ρ _ => Cert.MixDw.Gen.frame (F := Bits) m ρ

theorem frame_ideal : Cert.quiescent_MixDwIdeal := fun m ρ _ => Cert.MixDwIdeal.Gen.frame (F := Ideal) m ρ

theorem frame_ref_ideal : Cert.quiescent_MixDwRefIdeal := fun m ρ _ =>
  (θ_run Cert.MixDwRefIdeal.defs _ _).mono (fun r h => ⟨fun c => (h c).2, sem_eq_zero_of_no_sems (by decide) r.2⟩)
    (Cert.MixDwRefIdeal.Value.run (F := Ideal) m ρ)

section

open Cert.MixDwRefIdeal Cert.MixDwRefIdeal.Gen

/-- The plain product, at an index. -/
theorem plain (a : FVec Ideal S8192x1024 .bf16) (b : FVec Ideal S8192x1024 .bf16) (i : S1024x1024.Idx) :
    (Host.dotGeneral dot_S8192x1024_S8192x1024_S1024x1024_0_0_1_1_n_n none a b : FVec Ideal S1024x1024 .f32) i = ∑ k : Fin 8192, (a (ix2 k (i 0)) : EReal) * b (ix2 k (i 1)) := by
  pointwise

end

theorem algebraic : Cert.algebraic_MixDwIdeal_MixDwRefIdeal := fun m g m' g' _ hm =>
  ⟨fun c => whole m c, (θ_run Cert.MixDwIdeal.defs _ _).mono (fun _ h c => ⟨(h c).1.trans (array m c), (h c).2⟩)
      (Cert.MixDwIdeal.Value.run_blocks (F := Ideal) m g),
    (θ_run Cert.MixDwRefIdeal.defs _ _).mono (fun _ h c => ⟨(h c).1.trans (by
      funext i
      refine (plain _ _ i).trans ?_
      rw [(hm c).1, (hm c).2]
      rfl), (h c).2⟩) (Cert.MixDwRefIdeal.Value.run (F := Ideal) m' g')⟩

end Cert.MixDwProof

end
-- ==== Proof.Products.ProjMainDw.lean ====
/- The gradient of the main columns of the input projection: the blocks of the contracted axis, added up in turn, make the whole product. -/
module

public import proofs.«01_k».proof.Proof.GradX.Value
public import proofs.«01_k».proof.Proof.Gen.ProjMainDw.Frame
public import proofs.«01_k».proof.Proof.Gen.ProjMainDwIdeal.Value
public import proofs.«01_k».proof.Proof.Gen.ProjMainDwRefIdeal.Run

@[expose] public section

noncomputable section

open Idealize.ShloMosaic Idealize.ShloMosaic.TcCoe
open Idealize.SL.Sem
open Idealize.ShloMosaic.Pipeline (Dat)
open Cert.GradXProof (origin sum_blocks)

namespace Cert.ProjMainDwProof

section

open Cert.ProjMainDwIdeal Cert.ProjMainDwIdeal.Gen Cert.ProjMainDwIdeal.Value

/-- The first block of a row of blocks leaves its product. -/
theorem first {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : cond0_0 i) (k1 : ¬cond0_1 i) (k2 : ¬cond0_2 i) (x0 : Vec F S1024x1024 .bf16) (x1 : Vec F S1024x1024 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S1024x1024) origin, shapeCast_self]

/-- Every later block but the last adds its product. -/
theorem next {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : ¬cond0_0 i) (k1 : cond0_1 i) (k2 : ¬cond0_2 i) (x0 : Vec F S1024x1024 .bf16) (x1 : Vec F S1024x1024 .bf16) (s : Vec F S1024x1024 .f32) :
    sout0_B_0 c i a3 h3 a4 h4 a5 h5 a6 h6 k0 k1 k2 x0 x1 s = addf s (k0_pay1 x0 x1) := by
  unfold sout0_B_0
  rw [View.read_writes_eq_canon _ _ _ (scover0_B_0 c i a3 h3 a4 h4 a5 h5 a6 h6 k0 k1 k2 x0 x1 s)]
  unfold kernelRun0_B
  dsimp only
  sl_unfold_words
  rw [View.canon_unit_zero origin]
  unfold k0_pay3
  simp only [View.readAt_eq_ld, h3.read_unread, h4.read_unread, View.ld_unit_zero (S := S1024x1024) origin, shapeCast_self, h6.read_unread]

/-- The last block adds its product. -/
theorem last {F : FTy → Type} [FloatOps F] (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (k0 : ¬cond0_0 i) (k1 : cond0_1 i) (k2 : cond0_2 i) (x0 : Vec F S1024x1024 .bf16) (x1 : Vec F S1024x1024 .bf16) (s : Vec F S1024x1024 .f32) :
    out0_C_2 c i a3 h3 a4 h4 a5 h5 a6 h6 k0 k1 k2 x0 x1 s = addf s (k0_pay1 x0 x1) := by
  unfold out0_C_2
  rw [View.read_writes_eq_canon _ _ _ (cover0_C_2 c i a3 h3 a4 h4 a5 h5 a6 h6 k0 k1 k2 x0 x1 s)]
  unfold kernelRun0_C
  dsimp only
  sl_unfold_words
  rw [View.canon_unit_zero origin]
  simp only [View.readCov_unit_zero (S := S1024x1024) _ origin, View.readAt_eq_ld, h3.read_unread, h4.read_unread, View.ld_unit_zero (S := S1024x1024) origin, shapeCast_self, h6.read_unread, k0_pay3]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S8192x8192 .bf16 := m (c.tc.loc main_arg1)

/-- Where each window stands at a point. -/
theorem places : ∀ t : Fin cfg0.N, (win0_0.index t 0 = t.val % 8 ∧ win0_0.index t 1 = t.val / 8 % 1) ∧ (win0_1.index t 0 = t.val % 8 ∧ win0_1.index t 1 = t.val / 8 / 1) ∧ (win0_2.index t 0 = t.val / 8 % 1 ∧ win0_2.index t 1 = t.val / 8 / 1) :=
  (by decide +kernel : ∀ t : Fin grid0.N, _)

/-- The whole product. -/
def whole (c : Dev nD) : Vec Ideal S1024x8192 .f32 := fun i =>
  ∑ k : Fin 8192, (left m c (ix2 k (i 0)) : EReal) * right m c (ix2 k (i 1))

/-- The blocks at a point. -/
theorem left_at (c : Dev nD) (t : Fin cfg0.N) (k : Fin 1024) (y : Fin 1024) (n : Fin 8192) (hn : n.val = 1024 * (t.val % 8) + k.val) (r : Fin 1024) (hr : r.val = 1024 * (t.val / 8 % 1) + y.val) :
    (iblk m c 0 t : Vec Ideal S1024x1024 .bf16) (ix2 k y) = left m c (ix2 n r) := by
  unfold iblk
  rw [View.read_apply]
  show m (c.tc.loc main_arg0) _ = _
  congr 1
  funext a
  apply Fin.ext
  match a with
  | ⟨0, _⟩ => show win0_0.index t 0 * 1024 + 1 * k.val = n.val; rw [(places t).1.1]; omega
  | ⟨1, _⟩ => show win0_0.index t 1 * 1024 + 1 * y.val = r.val; rw [(places t).1.2]; omega

theorem right_at (c : Dev nD) (t : Fin cfg0.N) (k : Fin 1024) (d : Fin 1024) (n : Fin 8192) (hn : n.val = 1024 * (t.val % 8) + k.val) (e : Fin 8192) (he : e.val = 1024 * (t.val / 8 / 1) + d.val) :
    (iblk m c 1 t : Vec Ideal S1024x1024 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 1024 + 1 * d.val = e.val; rw [(places t).2.1.2]; omega

/-- One product of the whole contraction, and nothing past its end. -/
def term (c : Dev nD) (r : Fin 1024) (e : Fin 8192) (k : ℕ) : EReal :=
  if h : k < 8192 then (left m c (ix2 ⟨k, h⟩ r) : EReal) * right m c (ix2 ⟨k, h⟩ e) else 0

/-- The whole contraction, counted by the naturals below its length. -/
theorem terms (c : Dev nD) (r : Fin 1024) (e : Fin 8192) :
    ∑ k ∈ Finset.range 8192, term m c r e k = ∑ k : Fin 8192, (left m c (ix2 k r) : EReal) * right m c (ix2 k e) := by
  rw [← Fin.sum_univ_eq_sum_range]
  exact Finset.sum_congr rfl fun k _ => dif_pos k.isLt

/-- The product of two blocks, at an index. -/
theorem product (x0 : Vec Ideal S1024x1024 .bf16) (x1 : Vec Ideal S1024x1024 .bf16) (y : Fin 1024) (d : Fin 1024) :
    k0_pay1 (F := Ideal) x0 x1 (ix2 y d) = ∑ k : Fin 1024, (x0 (ix2 k y) : EReal) * x1 (ix2 k d) := by
  unfold k0_pay1
  pointwise

/-- A block's product is its part of the contraction. -/
theorem part (c : Dev nD) (t : Fin cfg0.N) (y : Fin 1024) (d : Fin 1024) (r : Fin 1024) (hr : r.val = 1024 * (t.val / 8 % 1) + y.val) (e : Fin 8192) (he : e.val = 1024 * (t.val / 8 / 1) + d.val) :
    k0_pay1 (F := Ideal) (iblk m c 0 t) (iblk m c 1 t) (ix2 y d) = ∑ k ∈ Finset.range 1024, term m c r e (1024 * (t.val % 8) + k) := by
  rw [product, ← Fin.sum_univ_eq_sum_range]
  refine Finset.sum_congr rfl fun k _ => ?_
  have hb : 1024 * (t.val % 8) + k.val < 8192 := by have := k.isLt; omega
  rw [left_at m c t k y ⟨_, hb⟩ rfl r hr, right_at m c t k d ⟨_, hb⟩ rfl e he]
  unfold term
  rw [dif_pos hb]

/-- What the running total holds after the first blocks of a row of blocks. -/
theorem running (c : Dev nD) : ∀ (j n : ℕ) (h : n < cfg0.N) (_ : n % 8 = j) (_ : j < 7) (y : Fin 1024) (d : Fin 1024) (r : Fin 1024) (hr : r.val = 1024 * (n / 8 % 1) + y.val) (e : Fin 8192) (he : e.val = 1024 * (n / 8 / 1) + d.val),
    (outsAt0 m c n h).2 (ix2 y d) = ∑ s ∈ Finset.range (j + 1), ∑ k ∈ Finset.range 1024, term m c r e (1024 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 8 = n / 8 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 8 = 7) (y : Fin 1024) (d : Fin 1024) (r : Fin 1024) (hr : r.val = 1024 * (n / 8 % 1) + y.val) (e : Fin 8192) (he : e.val = 1024 * (n / 8 / 1) + d.val) :
    (outsAt0 m c n h).1 (ix2 y d) = whole m c (ix2 r e) := by
  have o := outsAt0_C m c ⟨n, h⟩ (by dsimp only; omega) (by dsimp only; omega) hn
  have hq : (n - 1) / 8 = n / 8 := by omega
  dsimp only at o
  rw [o]
  dsimp only
  rw [last]
  have hs : ∀ h', (outsAt0 m c (n - 1) h').2 (ix2 y d) = ∑ s ∈ Finset.range 7, ∑ k ∈ Finset.range 1024, term m c r e (1024 * s + k) :=
    fun h' => running m c 6 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1024, term m c r e (1024 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 64 := Nat.lt_of_lt_of_eq t.isLt N_0
    have h0 : (j 0).val < 1024 := (j 0).isLt
    have h1 : (j 1).val < 1024 := (j 1).isLt
    have hj : ((cfg0.win 2).blk t).view.emb j = (ix2 (⟨1024 * (t.val / 8 % 1) + (j 0).val, by omega⟩ : Fin 1024) (⟨1024 * (t.val / 8 / 1) + (j 1).val, by omega⟩ : Fin 8192) : S1024x8192.Idx) := by
      funext a
      apply Fin.ext
      match a with
      | ⟨0, _⟩ => show win0_2.index t 0 * 1024 + 1 * (j 0).val = 1024 * (t.val / 8 % 1) + (j 0).val; rw [(places t).2.2.1]; omega
      | ⟨1, _⟩ => show win0_2.index t 1 * 1024 + 1 * (j 1).val = 1024 * (t.val / 8 / 1) + (j 1).val; rw [(places t).2.2.2]; omega
    have hc : ∀ o : Vec Ideal S1024x1024 .f32, (cfg0.win 2).cut (grid0.coords t) o j = o j := fun _ => rfl
    have hG : ∀ G : Vec Ideal S1024x8192 .f32, G (ix2 (⟨1024 * (t.val / 8 % 1) + (j 0).val, by omega⟩ : Fin 1024) (⟨1024 * (t.val / 8 / 1) + (j 1).val, by omega⟩ : Fin 8192)) = ((cfg0.win 2).blk t).view.read (Elt Ideal) G j := fun G => by
      rw [View.read_apply]
      exact congrArg G hj.symm
    exact (hc _).trans (((congrArg ((outsAt0 m c t.val t.isLt).1) (eq_ix2 (j : S1024x1024.Idx))).trans (written m c t.val t.isLt ((flush0_2 t).mp hf) (j 0) (j 1) ⟨1024 * (t.val / 8 % 1) + (j 0).val, by omega⟩ rfl ⟨1024 * (t.val / 8 / 1) + (j 1).val, by omega⟩ rfl)).trans (hG _))) fun i => by
    have h0 : (i 0).val < 1024 := (i 0).isLt
    have h1 : (i 1).val < 8192 := (i 1).isLt
    let t : Fin cfg0.N := ⟨8 * ((i 1).val / 1024 * 1 + (i 0).val / 1024) + 7, by rw [show cfg0.N = 64 from N_0]; omega⟩
    have e0 : win0_2.index t 0 = (8 * ((i 1).val / 1024 * 1 + (i 0).val / 1024) + 7) / 8 % 1 := (places t).2.2.1
    have e1 : win0_2.index t 1 = (8 * ((i 1).val / 1024 * 1 + (i 0).val / 1024) + 7) / 8 / 1 := (places t).2.2.2
    refine ⟨t, (flush0_2 t).mpr (by show (8 * ((i 1).val / 1024 * 1 + (i 0).val / 1024) + 7) % 8 = 7; omega), ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 1024 ≤ (i 1).val ∧ (i 1).val < win0_2.index t 1 * 1024 + 1024; rw [e1]; omega

end

theorem frame : Cert.quiescent_ProjMainDw := fun m ρ _ => Cert.ProjMainDw.Gen.frame (F := Bits) m ρ

theorem frame_ideal : Cert.quiescent_ProjMainDwIdeal := fun m ρ _ => Cert.ProjMainDwIdeal.Gen.frame (F := Ideal) m ρ

theorem frame_ref_ideal : Cert.quiescent_ProjMainDwRefIdeal := fun m ρ _ =>
  (θ_run Cert.ProjMainDwRefIdeal.defs _ _).mono (fun r h => ⟨fun c => (h c).2, sem_eq_zero_of_no_sems (by decide) r.2⟩)
    (Cert.ProjMainDwRefIdeal.Value.run (F := Ideal) m ρ)

section

open Cert.ProjMainDwRefIdeal Cert.ProjMainDwRefIdeal.Gen

/-- The plain product, at an index. -/
theorem plain (a : FVec Ideal S8192x1024 .bf16) (b : FVec Ideal S8192x8192 .bf16) (i : S1024x8192.Idx) :
    (Host.dotGeneral dot_S8192x1024_S8192x8192_S1024x8192_0_0_1_1_n_n none a b : FVec Ideal S1024x8192 .f32) i = ∑ k : Fin 8192, (a (ix2 k (i 0)) : EReal) * b (ix2 k (i 1)) := by
  pointwise

end

theorem algebraic : Cert.algebraic_ProjMainDwIdeal_ProjMainDwRefIdeal := fun m g m' g' _ hm =>
  ⟨fun c => whole m c, (θ_run Cert.ProjMainDwIdeal.defs _ _).mono (fun _ h c => ⟨(h c).1.trans (array m c), (h c).2⟩)
      (Cert.ProjMainDwIdeal.Value.run_blocks (F := Ideal) m g),
    (θ_run Cert.ProjMainDwRefIdeal.defs _ _).mono (fun _ h c => ⟨(h c).1.trans (by
      funext i
      refine (plain _ _ i).trans ?_
      rw [(hm c).1, (hm c).2]
      rfl), (h c).2⟩) (Cert.ProjMainDwRefIdeal.Value.run (F := Ideal) m' g')⟩

end Cert.ProjMainDwProof

end
-- ==== Proof.Products.ProjGatesDw.lean ====
/- The gradient of the gate columns of the input projection: the blocks of the contracted axis, added up in turn, make the whole product. -/
module

public import proofs.«01_k».proof.Proof.GradX.Value
public import proofs.«01_k».proof.Proof.Gen.ProjGatesDw.Frame
public import proofs.«01_k».proof.Proof.Gen.ProjGatesDwIdeal.Value
public import proofs.«01_k».proof.Proof.Gen.ProjGatesDwRefIdeal.Run

@[expose] public section

noncomputable section

open Idealize.ShloMosaic Idealize.ShloMosaic.TcCoe
open Idealize.SL.Sem
open Idealize.ShloMosaic.Pipeline (Dat)
open Cert.GradXProof (origin sum_blocks)

namespace Cert.ProjGatesDwProof

section

open Cert.ProjGatesDwIdeal Cert.ProjGatesDwIdeal.Gen Cert.ProjGatesDwIdeal.Value

/-- The first block of a row of blocks leaves its product. -/
theorem first {F : FTy → Type} [FloatOps F] (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole) (k0 : cond0_0 i) (k1 : ¬cond0_1 i) (k2 : ¬cond0_2 i) (x0 : Vec F S1024x1024 .bf16) (x1 : Vec F S1024x256 .bf16) :
    sout0_A_0 c i a3 h3 a4 h4 a5 h5 a6 h6 k0 k1 k2 x0 x1 = k0_pay1 x0 x1 := by
  unfold sout0_A_0
  rw [View.read_writes_eq_canon _ _ _ (scover0_A_0 c i a3 h3 a4 h4 a5 h5 a6 h6 k0 k1 k2 x0 x1)]
  unfold kernelRun0_A
  dsimp only
  sl_unfold_words
  rw [View.canon_unit_zero origin]
  unfold k0_pay2
  simp only [View.readAt_eq_ld, h3.read_unread, h4.read_unread, View.ld_unit_zero (S := S1024x1024) origin, View.ld_unit_zero (S := S1024x256) origin, shapeCast_self]

/-- Every later block but the last adds its product. -/
theorem next {F : FTy → Type} [FloatOps F] (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole) (k0 : ¬cond0_0 i) (k1 : cond0_1 i) (k2 : ¬cond0_2 i) (x0 : Vec F S1024x1024 .bf16) (x1 : Vec F S1024x256 .bf16) (s : Vec F S1024x256 .f32) :
    sout0_B_0 c i a3 h3 a4 h4 a5 h5 a6 h6 k0 k1 k2 x0 x1 s = addf s (k0_pay1 x0 x1) := by
  unfold sout0_B_0
  rw [View.read_writes_eq_canon _ _ _ (scover0_B_0 c i a3 h3 a4 h4 a5 h5 a6 h6 k0 k1 k2 x0 x1 s)]
  unfold kernelRun0_B
  dsimp only
  sl_unfold_words
  rw [View.canon_unit_zero origin]
  unfold k0_pay3
  simp only [View.readAt_eq_ld, h3.read_unread, h4.read_unread, View.ld_unit_zero (S := S1024x1024) origin, View.ld_unit_zero (S := S1024x256) origin, shapeCast_self, h6.read_unread]

/-- The last block adds its product. -/
theorem last {F : FTy → Type} [FloatOps F] (c : Dev nD) (i : grid0.Coords) (a3 : Memref sig .tc .vmem S1024x1024 .bf16) (h3 : a3.IsWhole) (a4 : Memref sig .tc .vmem S1024x256 .bf16) (h4 : a4.IsWhole) (a5 : Memref sig .tc .vmem S1024x256 .f32) (h5 : a5.IsWhole) (a6 : Memref sig .tc .vmem S1024x256 .f32) (h6 : a6.IsWhole) (k0 : ¬cond0_0 i) (k1 : cond0_1 i) (k2 : cond0_2 i) (x0 : Vec F S1024x1024 .bf16) (x1 : Vec F S1024x256 .bf16) (s : Vec F S1024x256 .f32) :
    out0_C_2 c i a3 h3 a4 h4 a5 h5 a6 h6 k0 k1 k2 x0 x1 s = addf s (k0_pay1 x0 x1) := by
  unfold out0_C_2
  rw [View.read_writes_eq_canon _ _ _ (cover0_C_2 c i a3 h3 a4 h4 a5 h5 a6 h6 k0 k1 k2 x0 x1 s)]
  unfold kernelRun0_C
  dsimp only
  sl_unfold_words
  rw [View.canon_unit_zero origin]
  simp only [View.readCov_unit_zero (S := S1024x256) _ origin, View.readAt_eq_ld, h3.read_unread, h4.read_unread, View.ld_unit_zero (S := S1024x1024) origin, View.ld_unit_zero (S := S1024x256) origin, shapeCast_self, h6.read_unread, k0_pay3]

variable (m : (ℓ : Loc nD τ sig) → Buf (Elt Ideal) ℓ)

/-- The arrays as launched. -/
abbrev left (c : Dev nD) : Vec Ideal S8192x1024 .bf16 := m (c.tc.loc main_arg0)
abbrev right (c : Dev nD) : Vec Ideal S8192x256 .bf16 := m (c.tc.loc main_arg1)

/-- Where each window stands at a point. -/
theorem places : ∀ t : Fin cfg0.N, (win0_0.index t 0 = t.val % 8 ∧ win0_0.index t 1 = t.val / 8 % 1) ∧ (win0_1.index t 0 = t.val % 8 ∧ win0_1.index t 1 = t.val / 8 / 1) ∧ (win0_2.index t 0 = t.val / 8 % 1 ∧ win0_2.index t 1 = t.val / 8 / 1) :=
  (by decide +kernel : ∀ t : Fin grid0.N, _)

/-- The whole product. -/
def whole (c : Dev nD) : Vec Ideal S1024x256 .f32 := fun i =>
  ∑ k : Fin 8192, (left m c (ix2 k (i 0)) : EReal) * right m c (ix2 k (i 1))

/-- The blocks at a point. -/
theorem left_at (c : Dev nD) (t : Fin cfg0.N) (k : Fin 1024) (y : Fin 1024) (n : Fin 8192) (hn : n.val = 1024 * (t.val % 8) + k.val) (r : Fin 1024) (hr : r.val = 1024 * (t.val / 8 % 1) + y.val) :
    (iblk m c 0 t : Vec Ideal S1024x1024 .bf16) (ix2 k y) = left m c (ix2 n r) := by
  unfold iblk
  rw [View.read_apply]
  show m (c.tc.loc main_arg0) _ = _
  congr 1
  funext a
  apply Fin.ext
  match a with
  | ⟨0, _⟩ => show win0_0.index t 0 * 1024 + 1 * k.val = n.val; rw [(places t).1.1]; omega
  | ⟨1, _⟩ => show win0_0.index t 1 * 1024 + 1 * y.val = r.val; rw [(places t).1.2]; omega

theorem right_at (c : Dev nD) (t : Fin cfg0.N) (k : Fin 1024) (d : Fin 256) (n : Fin 8192) (hn : n.val = 1024 * (t.val % 8) + k.val) (e : Fin 256) (he : e.val = 256 * (t.val / 8 / 1) + d.val) :
    (iblk m c 1 t : Vec Ideal S1024x256 .bf16) (ix2 k d) = right m c (ix2 n e) := by
  unfold iblk
  rw [View.read_apply]
  show m (c.tc.loc main_arg1) _ = _
  congr 1
  funext a
  apply Fin.ext
  match a with
  | ⟨0, _⟩ => show win0_1.index t 0 * 1024 + 1 * k.val = n.val; rw [(places t).2.1.1]; omega
  | ⟨1, _⟩ => show win0_1.index t 1 * 256 + 1 * d.val = e.val; rw [(places t).2.1.2]; omega

/-- One product of the whole contraction, and nothing past its end. -/
def term (c : Dev nD) (r : Fin 1024) (e : Fin 256) (k : ℕ) : EReal :=
  if h : k < 8192 then (left m c (ix2 ⟨k, h⟩ r) : EReal) * right m c (ix2 ⟨k, h⟩ e) else 0

/-- The whole contraction, counted by the naturals below its length. -/
theorem terms (c : Dev nD) (r : Fin 1024) (e : Fin 256) :
    ∑ k ∈ Finset.range 8192, term m c r e k = ∑ k : Fin 8192, (left m c (ix2 k r) : EReal) * right m c (ix2 k e) := by
  rw [← Fin.sum_univ_eq_sum_range]
  exact Finset.sum_congr rfl fun k _ => dif_pos k.isLt

/-- The product of two blocks, at an index. -/
theorem product (x0 : Vec Ideal S1024x1024 .bf16) (x1 : Vec Ideal S1024x256 .bf16) (y : Fin 1024) (d : Fin 256) :
    k0_pay1 (F := Ideal) x0 x1 (ix2 y d) = ∑ k : Fin 1024, (x0 (ix2 k y) : EReal) * x1 (ix2 k d) := by
  unfold k0_pay1
  pointwise

/-- A block's product is its part of the contraction. -/
theorem part (c : Dev nD) (t : Fin cfg0.N) (y : Fin 1024) (d : Fin 256) (r : Fin 1024) (hr : r.val = 1024 * (t.val / 8 % 1) + y.val) (e : Fin 256) (he : e.val = 256 * (t.val / 8 / 1) + d.val) :
    k0_pay1 (F := Ideal) (iblk m c 0 t) (iblk m c 1 t) (ix2 y d) = ∑ k ∈ Finset.range 1024, term m c r e (1024 * (t.val % 8) + k) := by
  rw [product, ← Fin.sum_univ_eq_sum_range]
  refine Finset.sum_congr rfl fun k _ => ?_
  have hb : 1024 * (t.val % 8) + k.val < 8192 := by have := k.isLt; omega
  rw [left_at m c t k y ⟨_, hb⟩ rfl r hr, right_at m c t k d ⟨_, hb⟩ rfl e he]
  unfold term
  rw [dif_pos hb]

/-- What the running total holds after the first blocks of a row of blocks. -/
theorem running (c : Dev nD) : ∀ (j n : ℕ) (h : n < cfg0.N) (_ : n % 8 = j) (_ : j < 7) (y : Fin 1024) (d : Fin 256) (r : Fin 1024) (hr : r.val = 1024 * (n / 8 % 1) + y.val) (e : Fin 256) (he : e.val = 256 * (n / 8 / 1) + d.val),
    (outsAt0 m c n h).2 (ix2 y d) = ∑ s ∈ Finset.range (j + 1), ∑ k ∈ Finset.range 1024, term m c r e (1024 * s + k)
  | 0, n, h, hn, _, y, d, r, hr, e, he => by
    have o := outsAt0_A m c ⟨n, h⟩ hn (by dsimp only; omega) (by dsimp only; omega)
    dsimp only at o
    rw [o]
    dsimp only
    rw [first, part m c ⟨n, h⟩ y d r hr e he, Finset.sum_range_one]
    dsimp only
    rw [hn]
  | j + 1, n, h, hn, hj, y, d, r, hr, e, he => by
    have o := outsAt0_B m c ⟨n, h⟩ (by dsimp only; omega) (by dsimp only; omega) (by dsimp only; omega)
    have hq : (n - 1) / 8 = n / 8 := by omega
    dsimp only at o
    rw [o]
    dsimp only
    rw [next, Finset.sum_range_succ]
    refine congrArg₂ (· + ·) (running c j (n - 1) (by omega) (by omega) (by omega) y d r (by rw [hq]; exact hr) e (by rw [hq]; exact he)) ?_
    rw [part m c ⟨n, h⟩ y d r hr e he]
    dsimp only
    rw [hn]

/-- What the last block of a row of blocks writes back. -/
theorem written (c : Dev nD) (n : ℕ) (h : n < cfg0.N) (hn : n % 8 = 7) (y : Fin 1024) (d : Fin 256) (r : Fin 1024) (hr : r.val = 1024 * (n / 8 % 1) + y.val) (e : Fin 256) (he : e.val = 256 * (n / 8 / 1) + d.val) :
    (outsAt0 m c n h).1 (ix2 y d) = whole m c (ix2 r e) := by
  have o := outsAt0_C m c ⟨n, h⟩ (by dsimp only; omega) (by dsimp only; omega) hn
  have hq : (n - 1) / 8 = n / 8 := by omega
  dsimp only at o
  rw [o]
  dsimp only
  rw [last]
  have hs : ∀ h', (outsAt0 m c (n - 1) h').2 (ix2 y d) = ∑ s ∈ Finset.range 7, ∑ k ∈ Finset.range 1024, term m c r e (1024 * s + k) :=
    fun h' => running m c 6 (n - 1) h' (by omega) (by omega) y d r (by rw [hq]; exact hr) e (by rw [hq]; exact he)
  have hp := part m c ⟨n, h⟩ y d r hr e he
  dsimp only at hp
  rw [hn] at hp
  show (_ + _ : EReal) = _
  rw [hs, hp, ← Finset.sum_range_succ (fun s => ∑ k ∈ Finset.range 1024, term m c r e (1024 * s + k)), sum_blocks, terms]
  rfl

/-- The array that the product ends in. -/
theorem array (c : Dev nD) : (dats m 0 c).arrAt 2 cfg0.N = whole m c :=
  (dats m 0 c).arrAt_eq_of_cover 2 _ (fun t hf => by
    rw [flushed2]
    funext j
    have ht : t.val < 8 := Nat.lt_of_lt_of_eq t.isLt N_0
    have h0 : (j 0).val < 1024 := (j 0).isLt
    have h1 : (j 1).val < 256 := (j 1).isLt
    have hj : ((cfg0.win 2).blk t).view.emb j = (ix2 (⟨1024 * (t.val / 8 % 1) + (j 0).val, by omega⟩ : Fin 1024) (⟨256 * (t.val / 8 / 1) + (j 1).val, by omega⟩ : Fin 256) : S1024x256.Idx) := by
      funext a
      apply Fin.ext
      match a with
      | ⟨0, _⟩ => show win0_2.index t 0 * 1024 + 1 * (j 0).val = 1024 * (t.val / 8 % 1) + (j 0).val; rw [(places t).2.2.1]; omega
      | ⟨1, _⟩ => show win0_2.index t 1 * 256 + 1 * (j 1).val = 256 * (t.val / 8 / 1) + (j 1).val; rw [(places t).2.2.2]; omega
    have hc : ∀ o : Vec Ideal S1024x256 .f32, (cfg0.win 2).cut (grid0.coords t) o j = o j := fun _ => rfl
    have hG : ∀ G : Vec Ideal S1024x256 .f32, G (ix2 (⟨1024 * (t.val / 8 % 1) + (j 0).val, by omega⟩ : Fin 1024) (⟨256 * (t.val / 8 / 1) + (j 1).val, by omega⟩ : Fin 256)) = ((cfg0.win 2).blk t).view.read (Elt Ideal) G j := fun G => by
      rw [View.read_apply]
      exact congrArg G hj.symm
    exact (hc _).trans (((congrArg ((outsAt0 m c t.val t.isLt).1) (eq_ix2 (j : S1024x256.Idx))).trans (written m c t.val t.isLt ((flush0_2 t).mp hf) (j 0) (j 1) ⟨1024 * (t.val / 8 % 1) + (j 0).val, by omega⟩ rfl ⟨256 * (t.val / 8 / 1) + (j 1).val, by omega⟩ rfl)).trans (hG _))) fun i => by
    have h0 : (i 0).val < 1024 := (i 0).isLt
    have h1 : (i 1).val < 256 := (i 1).isLt
    let t : Fin cfg0.N := ⟨8 * ((i 1).val / 256 * 1 + (i 0).val / 1024) + 7, by rw [show cfg0.N = 8 from N_0]; omega⟩
    have e0 : win0_2.index t 0 = (8 * ((i 1).val / 256 * 1 + (i 0).val / 1024) + 7) / 8 % 1 := (places t).2.2.1
    have e1 : win0_2.index t 1 = (8 * ((i 1).val / 256 * 1 + (i 0).val / 1024) + 7) / 8 / 1 := (places t).2.2.2
    refine ⟨t, (flush0_2 t).mpr (by show (8 * ((i 1).val / 256 * 1 + (i 0).val / 1024) + 7) % 8 = 7; omega), ?_⟩
    show i ∈ ((View.whole main_v0).slice ((cfg0.win 2).rect t)).set
    rw [View.set_slice_whole, Rect.mem_set_unit]
    intro b
    match b with
    | ⟨0, _⟩ => show win0_2.index t 0 * 1024 ≤ (i 0).val ∧ (i 0).val < win0_2.index t 0 * 1024 + 1024; rw [e0]; omega
    | ⟨1, _⟩ => show win0_2.index t 1 * 256 ≤ (i 1).val ∧ (i 1).val < win0_2.index t 1 * 256 + 256; rw [e1]; omega

end

theorem frame : Cert.quiescent_ProjGatesDw := fun m ρ _ => Cert.ProjGatesDw.Gen.frame (F := Bits) m ρ

theorem frame_ideal : Cert.quiescent_ProjGatesDwIdeal := fun m ρ _ => Cert.ProjGatesDwIdeal.Gen.frame (F := Ideal) m ρ

theorem frame_ref_ideal : Cert.quiescent_ProjGatesDwRefIdeal := fun m ρ _ =>
  (θ_run Cert.ProjGatesDwRefIdeal.defs _ _).mono (fun r h => ⟨fun c => (h c).2, sem_eq_zero_of_no_sems (by decide) r.2⟩)
    (Cert.ProjGatesDwRefIdeal.Value.run (F := Ideal) m ρ)

section

open Cert.ProjGatesDwRefIdeal Cert.ProjGatesDwRefIdeal.Gen

/-- The plain product, at an index. -/
theorem plain (a : FVec Ideal S8192x1024 .bf16) (b : FVec Ideal S8192x256 .bf16) (i : S1024x256.Idx) :
    (Host.dotGeneral dot_S8192x1024_S8192x256_S1024x256_0_0_1_1_n_n none a b : FVec Ideal S1024x256 .f32) i = ∑ k : Fin 8192, (a (ix2 k (i 0)) : EReal) * b (ix2 k (i 1)) := by
  pointwise

end

theorem algebraic : Cert.algebraic_ProjGatesDwIdeal_ProjGatesDwRefIdeal := fun m g m' g' _ hm =>
  ⟨fun c => whole m c, (θ_run Cert.ProjGatesDwIdeal.defs _ _).mono (fun _ h c => ⟨(h c).1.trans (array m c), (h c).2⟩)
      (Cert.ProjGatesDwIdeal.Value.run_blocks (F := Ideal) m g),
    (θ_run Cert.ProjGatesDwRefIdeal.defs _ _).mono (fun _ h c => ⟨(h c).1.trans (by
      funext i
      refine (plain _ _ i).trans ?_
      rw [(hm c).1, (hm c).2]
      rfl), (h c).2⟩) (Cert.ProjGatesDwRefIdeal.Value.run (F := Ideal) m' g')⟩

end Cert.ProjGatesDwProof

end
-- ==== Proof.Layers.Rows.lean ====
/- The functions that a layer applies to the row of one token. -/
module

public import proofs.«01_k».proof.Proof.GradX.Value

@[expose] public section

noncomputable section

open Idealize.ShloMosaic

namespace Cert.LayerProof

/-- The factor of the residual, the number of columns, and what the norm adds under its root. -/
abbrev coef : EReal := Scalar.ofBits (F := Ideal) .f32 0x3FB504F3#32
abbrev count : EReal := Scalar.ofBits (F := Ideal) .f32 0x44800000#32
abbrev eps : EReal := Scalar.ofBits (F := Ideal) .f32 0x3727C5AC#32

/-- The logistic function. -/
def gateOf (x : EReal) : EReal := Ideal.div 1 (1 + Ideal.exp (-x))

/-- The mean of a row. -/
def mean (h : Fin 1024 → EReal) : EReal := Ideal.div (∑ k, h k) count

/-- The layer norm of a row, with its gain and its shift at the column. -/
def layerNorm (h : Fin 1024 → EReal) (g b : EReal) (d : Fin 1024) : EReal :=
  (h d - mean h) * Ideal.rsqrt (mean (fun k => (h k - mean h) * (h k - mean h)) + eps) * g + b

/-- A row times a matrix, and times its transpose. -/
def dot (a : Fin 1024 → EReal) (w : Fin 1024 → Fin 1024 → EReal) (d : Fin 1024) : EReal := ∑ k, a k * w k d
def dotT (a : Fin 1024 → EReal) (w : Fin 1024 → Fin 1024 → EReal) (d : Fin 1024) : EReal := ∑ k, a k * w d k

/-- The gated sum of two branches. -/
def mix (a b ga gb : Fin 1024 → EReal) (wa wb : Fin 1024 → Fin 1024 → EReal) (d : Fin 1024) : EReal :=
  gateOf (ga d) * dot a wa d + gateOf (gb d) * dot b wb d

/-- A row added to the scaled residual. -/
def resid (x f : Fin 1024 → EReal) (d : Fin 1024) : EReal := coef * x d + f d

/-- What the merge returns to a branch: the gradient through the output product, times the branch's gate. -/
def back (m g : Fin 1024 → EReal) (wo : Fin 1024 → Fin 1024 → EReal) (d : Fin 1024) : EReal := dotT m wo d * gateOf (g d)

/-- The inverse deviation of a row, the row normed by it, and the gradient of the row through its layer norm. -/
def invDev (h : Fin 1024 → EReal) : EReal := Ideal.rsqrt (mean (fun k => (h k - mean h) * (h k - mean h)) + eps)
def hat (h : Fin 1024 → EReal) (d : Fin 1024) : EReal := (h d - mean h) * invDev h
def normBack (a h g : Fin 1024 → EReal) (d : Fin 1024) : EReal :=
  invDev h * (a d * g d - mean (fun k => a k * g k) - hat h d * mean (fun k => a k * g k * hat h k))

/-- The gradient of a row through SwiGLU: the gate's columns, then the up columns. -/
def grad (a g u : Fin 2816 → EReal) (d : Fin 5632) : EReal :=
  if h : d.val < 2816 then a ⟨d.val, h⟩ * u ⟨d.val, h⟩ * (gateOf (g ⟨d.val, h⟩) * (1 + g ⟨d.val, h⟩ * (1 - gateOf (g ⟨d.val, h⟩))))
  else a ⟨d.val - 2816, by omega⟩ * (g ⟨d.val - 2816, by omega⟩ * gateOf (g ⟨d.val - 2816, by omega⟩))

/-- At a gate column. -/
theorem grad_gate (a g u : Fin 2816 → EReal) (d : Fin 5632) (e : Fin 2816) (h : d.val = e.val) :
    grad a g u d = a e * u e * (gateOf (g e) * (1 + g e * (1 - gateOf (g e)))) := by
  obtain ⟨d, hd⟩ := d
  obtain ⟨e, he⟩ := e
  obtain rfl : d = e := h
  exact dif_pos he

/-- At an up column. -/
theorem grad_up (a g u : Fin 2816 → EReal) (d : Fin 5632) (e : Fin 2816) (h : d.val = 2816 + e.val) :
    grad a g u d = a e * (g e * gateOf (g e)) := by
  have he : e = ⟨d.val - 2816, by omega⟩ := Fin.ext (show e.val = d.val - 2816 by omega)
  rw [he]
  exact dif_neg (by omega)

end Cert.LayerProof

end
-- ==== Proof.Layers.SwigluFwd.lean ====
/- SwiGLU forward: the gate columns through their logistic function, times the up columns. -/
module

public import proofs.«01_k».proof.Proof.Layers.Rows
public import proofs.«01_k».proof.Proof.Gen.SwigluFwd.Frame
public import proofs.«01_k».proof.Proof.Gen.SwigluFwdIdeal.Value
public import proofs.«01_k».proof.Proof.Gen.SwigluFwdRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.SwigluFwdProof

section

open Cert.SwigluFwdIdeal Cert.SwigluFwdIdeal.Gen Cert.SwigluFwdIdeal.Value

/-- Where each window stands at a point. -/
theorem places : ∀ t : Fin cfg0.N, (win0_0.index t 0 = t.val ∧ win0_0.index t 1 = 0) ∧ (win0_1.index t 0 = t.val ∧ win0_1.index t 1 = 1) ∧ (win0_2.index t 0 = t.val ∧ win0_2.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 2816) :
    (iblk m c 0 t : Vec Ideal S256x2816 .f32) (ix2 y d) = (m (c.tc.loc main_arg0) : Vec Ideal S8192x5632 .f32) (ix2 r ⟨d.val, by have := d.isLt; omega⟩) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 2816 + 1 * d.val = d.val; rw [(places t).1.2]; omega

theorem at_1 (c : Dev nD) (t : Fin cfg0.N) (y : Fin 256) (r : Fin 8192) (hr : r.val = 256 * t.val + y.val) (d : Fin 2816) :
    (iblk m c 1 t : Vec Ideal S256x2816 .f32) (ix2 y d) = (m (c.tc.loc main_arg0) : Vec Ideal S8192x5632 .f32) (ix2 r ⟨2816 + d.val, by have := d.isLt; omega⟩) := by
  unfold iblk
  rw [View.read_apply]
  show m (c.tc.loc main_arg0) _ = _
  congr 1
  funext a
  apply Fin.ext
  match a with
  | ⟨0, _⟩ => show win0_1.index t 0 * 256 + 1 * y.val = r.val; rw [(places t).2.1.1]; omega
  | ⟨1, _⟩ => show win0_1.index t 1 * 2816 + 1 * d.val = 2816 + d.val; rw [(places t).2.1.2]; omega

/-! ## Output window 2 -/

/-- What the array ends with, as a function of the argument arrays. -/
def out_2 (a0 : Vec Ideal S8192x5632 .f32) : Vec Ideal S8192x2816 .bf16 := fun i =>
  (fun k : Fin 2816 => (a0 (ix2 (i 0) ⟨k.val, by have := k.isLt; omega⟩) : EReal)) (i 1) * gateOf ((fun k : Fin 2816 => (a0 (ix2 (i 0) ⟨k.val, by have := k.isLt; omega⟩) : EReal)) (i 1)) * (fun k : Fin 2816 => (a0 (ix2 (i 0) ⟨2816 + k.val, by have := k.isLt; omega⟩) : EReal)) (i 1)

/-- What a point leaves in its block, from the rows of its blocks. -/
theorem block_2 (x0 : Vec Ideal S256x2816 .f32) (x1 : Vec Ideal S256x2816 .f32) (y : Fin 256) (R0 : Fin 2816 → EReal) (h0 : ∀ k, (x0 (ix2 y k) : EReal) = R0 k) (R1 : Fin 2816 → EReal) (h1 : ∀ k, (x1 (ix2 y k) : EReal) = R1 k) (d : Fin 2816) :
    out0_2 (F := Ideal) x0 x1 (ix2 y d) = R0 d * gateOf (R0 d) * R1 d := by
  obtain rfl : R0 = fun k => x0 (ix2 y k) := funext fun k => (h0 k).symm
  obtain rfl : R1 = fun k => x1 (ix2 y k) := funext fun k => (h1 k).symm
  unfold out0_2
  rw [View.canon_unit_zero origin]
  simp only [View.ld_unit_zero (S := S256x2816) origin]
  unfold k0_pay1 gateOf
  pointwise
  simp only [zero_sub]

/-- The array after the run. -/
theorem array_2 (c : Dev nD) : (dats m 0 c).arrAt 2 cfg0.N = out_2 (m (c.tc.loc main_arg0)) :=
  (dats m 0 c).arrAt_eq_of_cover 2 _ (fun t hf => by
    rw [flushed2]
    funext j
    have ht : t.val < 32 := Nat.lt_of_lt_of_eq t.isLt N_0
    have h0 : (j 0).val < 256 := (j 0).isLt
    have hj : ((cfg0.win 2).blk t).view.emb j = (ix2 (⟨256 * t.val + (j 0).val, by omega⟩ : Fin 8192) (j 1 : Fin 2816) : S8192x2816.Idx) := by
      funext a
      apply Fin.ext
      match a with
      | ⟨0, _⟩ => show win0_2.index t 0 * 256 + 1 * (j 0).val = 256 * t.val + (j 0).val; rw [(places t).2.2.1]; omega
      | ⟨1, _⟩ => show win0_2.index t 1 * 2816 + 1 * (j 1).val = (j 1).val; rw [(places t).2.2.2]; omega
    have hc : ∀ o : Vec Ideal S256x2816 .bf16, (cfg0.win 2).cut (grid0.coords t) o j = o j := fun _ => rfl
    have hG : ∀ G : Vec Ideal S8192x2816 .bf16, G (ix2 (⟨256 * t.val + (j 0).val, by omega⟩ : Fin 8192) (j 1 : Fin 2816)) = ((cfg0.win 2).blk t).view.read (Elt Ideal) G j := fun G => by
      rw [View.read_apply]
      exact congrArg G hj.symm
    have hw : ∀ (y : Fin 256) (r : Fin 8192) (hr : r.val = 256 * t.val + y.val) (d : Fin 2816),
        out0_2 (F := Ideal) (iblk m c 0 t) (iblk m c 1 t) (ix2 y d) = out_2 (m (c.tc.loc main_arg0)) (ix2 r d) := fun y r hr d =>
      block_2 _ _ y _ (at_0 m c t y r hr) _ (at_1 m c t y r hr) d
    exact (hc _).trans (((congrArg (out0_2 (F := Ideal) (iblk m c 0 t) (iblk m c 1 t)) (eq_ix2 (j : S256x2816.Idx))).trans (hw (j 0) ⟨256 * t.val + (j 0).val, by omega⟩ rfl (j 1))).trans (hG _))) fun i => by
    have h0 : (i 0).val < 8192 := (i 0).isLt
    have h1 : (i 1).val < 2816 := (i 1).isLt
    let t : Fin cfg0.N := ⟨(i 0).val / 256, by rw [show cfg0.N = 32 from N_0]; omega⟩
    have e0 : win0_2.index t 0 = (i 0).val / 256 := (places t).2.2.1
    have e1 : win0_2.index t 1 = 0 := (places t).2.2.2
    refine ⟨t, flush0_2 t, ?_⟩
    show i ∈ ((View.whole main_v0).slice ((cfg0.win 2).rect t)).set
    rw [View.set_slice_whole, Rect.mem_set_unit]
    intro b
    match b with
    | ⟨0, _⟩ => show win0_2.index t 0 * 256 ≤ (i 0).val ∧ (i 0).val < win0_2.index t 0 * 256 + 256; rw [e0]; omega
    | ⟨1, _⟩ => show win0_2.index t 1 * 2816 ≤ (i 1).val ∧ (i 1).val < win0_2.index t 1 * 2816 + 2816; rw [e1]; omega

end

theorem frame : Cert.quiescent_SwigluFwd := fun m ρ _ => Cert.SwigluFwd.Gen.frame (F := Bits) m ρ

theorem frame_ideal : Cert.quiescent_SwigluFwdIdeal := fun m ρ _ => Cert.SwigluFwdIdeal.Gen.frame (F := Ideal) m ρ

theorem frame_ref_ideal : Cert.quiescent_SwigluFwdRefIdeal := fun m ρ _ =>
  (θ_run Cert.SwigluFwdRefIdeal.defs _ _).mono (fun r h => ⟨fun c => (h c).2, sem_eq_zero_of_no_sems (by decide) r.2⟩)
    (Cert.SwigluFwdRefIdeal.Value.run (F := Ideal) m ρ)

section

open Cert.SwigluFwdRefIdeal Cert.SwigluFwdRefIdeal.Gen Cert.SwigluFwdRefIdeal.Value

/-! ## The plain formulas -/

theorem plain_2 (a0 : Vec Ideal S8192x5632 .f32) :
    (truncf .bf16 (mulf (mulf (extractStridedSlice S8192x2816 ![0, 0] a0 slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] a0 slices_S8192x5632_S8192x2816_0_0)))))) (extractStridedSlice S8192x2816 ![0, 2816] a0 slices_S8192x5632_S8192x2816_0_2816)) bitsLt_bf16_f32 : FVec Ideal S8192x2816 .bf16) = out_2 a0 := by
  funext i
  unfold out_2 gateOf
  pointwise

end

theorem algebraic : Cert.algebraic_SwigluFwdIdeal_SwigluFwdRefIdeal := fun m g m' g' _ hm =>
  ⟨fun c => out_2 (m (c.tc.loc Cert.SwigluFwdIdeal.main_arg0)),
    (θ_run Cert.SwigluFwdIdeal.defs _ _).mono (fun _ h c => ⟨(h c).1.trans (array_2 m c), (h c).2⟩) (Cert.SwigluFwdIdeal.Value.run_blocks (F := Ideal) m g),
    (θ_run Cert.SwigluFwdRefIdeal.defs _ _).mono (fun _ h c => ⟨(h c).1.trans ((plain_2 _).trans (by rw [hm c])), (h c).2⟩) (Cert.SwigluFwdRefIdeal.Value.run (F := Ideal) m' g')⟩

end Cert.SwigluFwdProof

end
-- ==== Proof.Layers.SwigluBwd.lean ====
/- SwiGLU backward: the gradient of the gate columns and of the up columns, side by side. -/
module

public import proofs.«01_k».proof.Proof.Layers.Rows
public import proofs.«01_k».proof.Proof.Gen.SwigluBwd.Frame
public import proofs.«01_k».proof.Proof.Gen.SwigluBwdIdeal.Value
public import proofs.«01_k».proof.Proof.Gen.SwigluBwdRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.SwigluBwdProof

section

open Cert.SwigluBwdIdeal Cert.SwigluBwdIdeal.Gen Cert.SwigluBwdIdeal.Value

/-- Where each window stands at a point. -/
theorem places : ∀ t : Fin cfg0.N, (win0_0.index t 0 = t.val ∧ win0_0.index t 1 = 0) ∧ (win0_1.index t 0 = t.val ∧ win0_1.index t 1 = 0) ∧ (win0_2.index t 0 = t.val ∧ win0_2.index t 1 = 1) ∧ (win0_3.index t 0 = t.val ∧ win0_3.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 2816) :
    (iblk m c 0 t : Vec Ideal S256x2816 .f32) (ix2 y d) = (m (c.tc.loc main_arg0) : Vec Ideal S8192x2816 .f32) (ix2 r d) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 2816 + 1 * d.val = d.val; rw [(places t).1.2]; omega

theorem at_1 (c : Dev nD) (t : Fin cfg0.N) (y : Fin 256) (r : Fin 8192) (hr : r.val = 256 * t.val + y.val) (d : Fin 2816) :
    (iblk m c 1 t : Vec Ideal S256x2816 .f32) (ix2 y d) = (m (c.tc.loc main_arg1) : Vec Ideal S8192x5632 .f32) (ix2 r ⟨d.val, by have := d.isLt; omega⟩) := by
  unfold iblk
  rw [View.read_apply]
  show m (c.tc.loc main_arg1) _ = _
  congr 1
  funext a
  apply Fin.ext
  match a with
  | ⟨0, _⟩ => show win0_1.index t 0 * 256 + 1 * y.val = r.val; rw [(places t).2.1.1]; omega
  | ⟨1, _⟩ => show win0_1.index t 1 * 2816 + 1 * d.val = d.val; rw [(places t).2.1.2]; omega

theorem at_2 (c : Dev nD) (t : Fin cfg0.N) (y : Fin 256) (r : Fin 8192) (hr : r.val = 256 * t.val + y.val) (d : Fin 2816) :
    (iblk m c 2 t : Vec Ideal S256x2816 .f32) (ix2 y d) = (m (c.tc.loc main_arg1) : Vec Ideal S8192x5632 .f32) (ix2 r ⟨2816 + d.val, by have := d.isLt; omega⟩) := by
  unfold iblk
  rw [View.read_apply]
  show m (c.tc.loc main_arg1) _ = _
  congr 1
  funext a
  apply Fin.ext
  match a with
  | ⟨0, _⟩ => show win0_2.index t 0 * 256 + 1 * y.val = r.val; rw [(places t).2.2.1.1]; omega
  | ⟨1, _⟩ => show win0_2.index t 1 * 2816 + 1 * d.val = 2816 + d.val; rw [(places t).2.2.1.2]; omega

/-! ## Output window 3 -/

/-- What the array ends with, as a function of the argument arrays. -/
def out_3 (a0 : Vec Ideal S8192x2816 .f32) (a1 : Vec Ideal S8192x5632 .f32) : Vec Ideal S8192x5632 .bf16 := fun i =>
  grad (fun k : Fin 2816 => (a0 (ix2 (i 0) k) : EReal)) (fun k : Fin 2816 => (a1 (ix2 (i 0) ⟨k.val, by have := k.isLt; omega⟩) : EReal)) (fun k : Fin 2816 => (a1 (ix2 (i 0) ⟨2816 + k.val, by have := k.isLt; omega⟩) : EReal)) (i 1)

/-- The two stores of a point, at an index. -/
theorem up_at (x0 x1 : Vec Ideal S256x2816 .f32) (y : Fin 256) (d : Fin 2816) :
    k0_pay3 (F := Ideal) x1 x0 (ix2 y d) = ((x0 (ix2 y d) : EReal) * (x1 (ix2 y d) * gateOf (x1 (ix2 y d))) : EReal) := by
  unfold k0_pay3 k0_pay1 gateOf
  pointwise
  simp only [zero_sub, mul_assoc]

theorem gate_at (x0 x1 x2 : Vec Ideal S256x2816 .f32) (y : Fin 256) (d : Fin 2816) :
    k0_pay2 (F := Ideal) x1 x0 x2 (ix2 y d) = ((x0 (ix2 y d) : EReal) * x2 (ix2 y d) * (gateOf (x1 (ix2 y d)) * (1 + x1 (ix2 y d) * (1 - gateOf (x1 (ix2 y d))))) : EReal) := by
  unfold k0_pay2 k0_pay1 gateOf
  pointwise
  simp only [zero_sub, mul_assoc]

/-- What a point leaves in its block, from the rows of its blocks. -/
theorem block_3 (x0 : Vec Ideal S256x2816 .f32) (x1 : Vec Ideal S256x2816 .f32) (x2 : Vec Ideal S256x2816 .f32) (y : Fin 256) (R0 : Fin 2816 → EReal) (h0 : ∀ k, (x0 (ix2 y k) : EReal) = R0 k) (R1 : Fin 2816 → EReal) (h1 : ∀ k, (x1 (ix2 y k) : EReal) = R1 k) (R2 : Fin 2816 → EReal) (h2 : ∀ k, (x2 (ix2 y k) : EReal) = R2 k) (d : Fin 5632) :
    out0_3 (F := Ideal) x0 x1 x2 (ix2 y d) = grad R0 R1 R2 d := by
  obtain rfl : R0 = fun k => x0 (ix2 y k) := funext fun k => (h0 k).symm
  obtain rfl : R1 = fun k => x1 (ix2 y k) := funext fun k => (h1 k).symm
  obtain rfl : R2 = fun k => x2 (ix2 y k) := funext fun k => (h2 k).symm
  unfold out0_3
  simp only [View.ld_unit_zero (S := S256x2816) origin]
  refine (View.canon_apply_of_pieces (Val := Elt Ideal) (S := S256x5632) (e := .bf16)
    (fun j : S256x5632.Idx => (grad (fun k => x0 (ix2 (j 0) k)) (fun k => x1 (ix2 (j 0) k)) (fun k => x2 (ix2 (j 0) k)) (j 1) : EReal))
    _ ?_ (ix2 y d) (cover0_3 _ _ _))
  intro pc hpc j
  rcases List.mem_cons.mp hpc with rfl | hpc
  · have h0 : ((r0_2.emb j) 0 : Fin 256) = (j 0 : Fin 256) := Fin.ext (show 0 + 1 * (j 0).val = (j 0).val by omega)
    show _ = (fun r : Fin 256 => grad (fun k => x0 (ix2 r k)) (fun k => x1 (ix2 r k)) (fun k => x2 (ix2 r k)) ((r0_2.emb j) 1)) ((r0_2.emb j) 0)
    rw [h0]
    exact ((congrArg (k0_pay3 (F := Ideal) x1 x0) (eq_ix2 (j : S256x2816.Idx))).trans (up_at x0 x1 (j 0) (j 1))).trans
      (grad_up (fun k : Fin 2816 => (x0 (ix2 (j 0 : Fin 256) k) : EReal)) (fun k : Fin 2816 => (x1 (ix2 (j 0 : Fin 256) k) : EReal)) (fun k : Fin 2816 => (x2 (ix2 (j 0 : Fin 256) k) : EReal))
        ((r0_2.emb j) 1) (j 1) (show 2816 + 1 * (j 1).val = 2816 + (j 1).val by omega)).symm
  obtain rfl := List.mem_singleton.mp hpc
  have h0 : ((r0_1.emb j) 0 : Fin 256) = (j 0 : Fin 256) := Fin.ext (show 0 + 1 * (j 0).val = (j 0).val by omega)
  show _ = (fun r : Fin 256 => grad (fun k => x0 (ix2 r k)) (fun k => x1 (ix2 r k)) (fun k => x2 (ix2 r k)) ((r0_1.emb j) 1)) ((r0_1.emb j) 0)
  rw [h0]
  exact ((congrArg (k0_pay2 (F := Ideal) x1 x0 x2) (eq_ix2 (j : S256x2816.Idx))).trans (gate_at x0 x1 x2 (j 0) (j 1))).trans
    (grad_gate (fun k : Fin 2816 => (x0 (ix2 (j 0 : Fin 256) k) : EReal)) (fun k : Fin 2816 => (x1 (ix2 (j 0 : Fin 256) k) : EReal)) (fun k : Fin 2816 => (x2 (ix2 (j 0 : Fin 256) k) : EReal))
        ((r0_1.emb j) 1) (j 1) (show 0 + 1 * (j 1).val = (j 1).val by omega)).symm

/-- The array after the run. -/
theorem array_3 (c : Dev nD) : (dats m 0 c).arrAt 3 cfg0.N = out_3 (m (c.tc.loc main_arg0)) (m (c.tc.loc main_arg1)) :=
  (dats m 0 c).arrAt_eq_of_cover 3 _ (fun t hf => by
    rw [flushed3]
    funext j
    have ht : t.val < 32 := Nat.lt_of_lt_of_eq t.isLt N_0
    have h0 : (j 0).val < 256 := (j 0).isLt
    have hj : ((cfg0.win 3).blk t).view.emb j = (ix2 (⟨256 * t.val + (j 0).val, by omega⟩ : Fin 8192) (j 1 : Fin 5632) : S8192x5632.Idx) := by
      funext a
      apply Fin.ext
      match a with
      | ⟨0, _⟩ => show win0_3.index t 0 * 256 + 1 * (j 0).val = 256 * t.val + (j 0).val; rw [(places t).2.2.2.1]; omega
      | ⟨1, _⟩ => show win0_3.index t 1 * 5632 + 1 * (j 1).val = (j 1).val; rw [(places t).2.2.2.2]; omega
    have hc : ∀ o : Vec Ideal S256x5632 .bf16, (cfg0.win 3).cut (grid0.coords t) o j = o j := fun _ => rfl
    have hG : ∀ G : Vec Ideal S8192x5632 .bf16, G (ix2 (⟨256 * t.val + (j 0).val, by omega⟩ : Fin 8192) (j 1 : Fin 5632)) = ((cfg0.win 3).blk t).view.read (Elt Ideal) G j := fun G => by
      rw [View.read_apply]
      exact congrArg G hj.symm
    have hw : ∀ (y : Fin 256) (r : Fin 8192) (hr : r.val = 256 * t.val + y.val) (d : Fin 5632),
        out0_3 (F := Ideal) (iblk m c 0 t) (iblk m c 1 t) (iblk m c 2 t) (ix2 y d) = out_3 (m (c.tc.loc main_arg0)) (m (c.tc.loc main_arg1)) (ix2 r d) := fun y r hr d =>
      block_3 _ _ _ y _ (at_0 m c t y r hr) _ (at_1 m c t y r hr) _ (at_2 m c t y r hr) d
    exact (hc _).trans (((congrArg (out0_3 (F := Ideal) (iblk m c 0 t) (iblk m c 1 t) (iblk m c 2 t)) (eq_ix2 (j : S256x5632.Idx))).trans (hw (j 0) ⟨256 * t.val + (j 0).val, by omega⟩ rfl (j 1))).trans (hG _))) fun i => by
    have h0 : (i 0).val < 8192 := (i 0).isLt
    have h1 : (i 1).val < 5632 := (i 1).isLt
    let t : Fin cfg0.N := ⟨(i 0).val / 256, by rw [show cfg0.N = 32 from N_0]; omega⟩
    have e0 : win0_3.index t 0 = (i 0).val / 256 := (places t).2.2.2.1
    have e1 : win0_3.index t 1 = 0 := (places t).2.2.2.2
    refine ⟨t, flush0_3 t, ?_⟩
    show i ∈ ((View.whole main_v0).slice ((cfg0.win 3).rect t)).set
    rw [View.set_slice_whole, Rect.mem_set_unit]
    intro b
    match b with
    | ⟨0, _⟩ => show win0_3.index t 0 * 256 ≤ (i 0).val ∧ (i 0).val < win0_3.index t 0 * 256 + 256; rw [e0]; omega
    | ⟨1, _⟩ => show win0_3.index t 1 * 5632 ≤ (i 1).val ∧ (i 1).val < win0_3.index t 1 * 5632 + 5632; rw [e1]; omega

end

theorem frame : Cert.quiescent_SwigluBwd := fun m ρ _ => Cert.SwigluBwd.Gen.frame (F := Bits) m ρ

theorem frame_ideal : Cert.quiescent_SwigluBwdIdeal := fun m ρ _ => Cert.SwigluBwdIdeal.Gen.frame (F := Ideal) m ρ

theorem frame_ref_ideal : Cert.quiescent_SwigluBwdRefIdeal := fun m ρ _ =>
  (θ_run Cert.SwigluBwdRefIdeal.defs _ _).mono (fun r h => ⟨fun c => (h c).2, sem_eq_zero_of_no_sems (by decide) r.2⟩)
    (Cert.SwigluBwdRefIdeal.Value.run (F := Ideal) m ρ)

section

open Cert.SwigluBwdRefIdeal Cert.SwigluBwdRefIdeal.Gen Cert.SwigluBwdRefIdeal.Value

/-! ## The plain formulas -/

theorem plain_3 (a0 : Vec Ideal S8192x2816 .f32) (a1 : Vec Ideal S8192x5632 .f32) :
    (truncf .bf16 (concatenate S8192x5632 1 [⟨S8192x2816, (mulf (mulf a0 (extractStridedSlice S8192x2816 ![0, 2816] a1 slices_S8192x5632_S8192x2816_0_2816)) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] a1 slices_S8192x5632_S8192x2816_0_0))))) (addf (broadcastInDim S8192x2816 ![] bcast_S_S8192x2816 (constant S_ .f32 0x3F800000#32)) (mulf (extractStridedSlice S8192x2816 ![0, 0] a1 slices_S8192x5632_S8192x2816_0_0) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] a1 slices_S8192x5632_S8192x2816_0_0))))))))))⟩, ⟨S8192x2816, (mulf a0 (mulf (extractStridedSlice S8192x2816 ![0, 0] a1 slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] a1 slices_S8192x5632_S8192x2816_0_0)))))))⟩] concatenates_S8192x2816_S8192x2816_S8192x5632_d1) bitsLt_bf16_f32 : FVec Ideal S8192x5632 .bf16) = out_3 a0 a1 := by
  funext i
  unfold out_3
  have h1 : (i 1).val < 5632 := (i 1).isLt
  by_cases h : (i 1).val < 2816
  · refine ((concatenate_pair_apply_left (t := S8192x5632) 1 _ _ concatenates_S8192x2816_S8192x2816_S8192x5632_d1 i rfl
      (ix2 (i 0 : Fin 8192) (⟨(i 1).val, h⟩ : Fin 2816)) (fun b => match b with | ⟨0, _⟩ => rfl | ⟨1, _⟩ => rfl))).trans
      (Eq.trans ?_ (grad_gate _ _ _ _ ⟨(i 1).val, h⟩ rfl).symm)
    unfold gateOf
    pointwise
  · refine ((concatenate_pair_apply_right (t := S8192x5632) 1 _ _ concatenates_S8192x2816_S8192x2816_S8192x5632_d1 i rfl rfl
      (ix2 (i 0 : Fin 8192) (⟨(i 1).val - 2816, by omega⟩ : Fin 2816)) (fun b hb => match b, hb with | ⟨0, _⟩, _ => rfl | ⟨1, _⟩, hb => absurd rfl hb)
      (show (i 1).val - 2816 + 2816 = (i 1).val by omega))).trans
      (Eq.trans ?_ (grad_up _ _ _ _ ⟨(i 1).val - 2816, by omega⟩ (show (i 1).val = 2816 + ((i 1).val - 2816) by omega)).symm)
    unfold gateOf
    pointwise

end

theorem algebraic : Cert.algebraic_SwigluBwdIdeal_SwigluBwdRefIdeal := fun m g m' g' _ hm =>
  ⟨fun c => out_3 (m (c.tc.loc Cert.SwigluBwdIdeal.main_arg0)) (m (c.tc.loc Cert.SwigluBwdIdeal.main_arg1)),
    (θ_run Cert.SwigluBwdIdeal.defs _ _).mono (fun _ h c => ⟨(h c).1.trans (array_3 m c), (h c).2⟩) (Cert.SwigluBwdIdeal.Value.run_blocks (F := Ideal) m g),
    (θ_run Cert.SwigluBwdRefIdeal.defs _ _).mono (fun _ h c => ⟨(h c).1.trans ((plain_3 _ _).trans (by rw [(hm c).1, (hm c).2])), (h c).2⟩) (Cert.SwigluBwdRefIdeal.Value.run (F := Ideal) m' g')⟩

end Cert.SwigluBwdProof

end
-- ==== Proof.Layers.ResLn.lean ====
/- The second norm of a layer: the scaled residual plus the feed-forward block, and its layer norm. -/
module

public import proofs.«01_k».proof.Proof.Layers.Rows
public import proofs.«01_k».proof.Proof.Gen.ResLn.Frame
public import proofs.«01_k».proof.Proof.Gen.ResLnIdeal.Value
public import proofs.«01_k».proof.Proof.Gen.ResLnRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.ResLnProof

section

open Cert.ResLnIdeal Cert.ResLnIdeal.Gen Cert.ResLnIdeal.Value

/-- Where each window stands at a point. -/
theorem places : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 1024) :
    (iblk m c 0 t : Vec Ideal S256x1024 .f32) (ix2 y d) = (m (c.tc.loc main_arg0) : Vec Ideal S8192x1024 .f32) (ix2 r d) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 1024 + 1 * d.val = d.val; rw [(places t).1.2]; omega

theorem at_1 (c : Dev nD) (t : Fin cfg0.N) (y : Fin 256) (r : Fin 8192) (hr : r.val = 256 * t.val + y.val) (d : Fin 1024) :
    (iblk m c 1 t : Vec Ideal S256x1024 .f32) (ix2 y d) = (m (c.tc.loc main_arg1) : Vec Ideal S8192x1024 .f32) (ix2 r d) := by
  unfold iblk
  rw [View.read_apply]
  show m (c.tc.loc main_arg1) _ = _
  congr 1
  funext a
  apply Fin.ext
  match a with
  | ⟨0, _⟩ => show win0_1.index t 0 * 256 + 1 * y.val = r.val; rw [(places t).2.1.1]; omega
  | ⟨1, _⟩ => show win0_1.index t 1 * 1024 + 1 * d.val = d.val; rw [(places t).2.1.2]; omega

theorem at_2 (c : Dev nD) (t : Fin cfg0.N) (y : Fin 1)  (d : Fin 1024) :
    (iblk m c 2 t : Vec Ideal S1x1024 .f32) (ix2 y d) = (m (c.tc.loc main_arg2) : Vec Ideal S1x1024 .f32) (ix2 y d) := by
  unfold iblk
  rw [View.read_apply]
  show m (c.tc.loc main_arg2) _ = _
  congr 1
  funext a
  apply Fin.ext
  match a with
  | ⟨0, _⟩ => show win0_2.index t 0 * 1 + 1 * y.val = y.val; rw [(places t).2.2.1.1]; omega
  | ⟨1, _⟩ => show win0_2.index t 1 * 1024 + 1 * d.val = d.val; rw [(places t).2.2.1.2]; omega

theorem at_3 (c : Dev nD) (t : Fin cfg0.N) (y : Fin 1)  (d : Fin 1024) :
    (iblk m c 3 t : Vec Ideal S1x1024 .f32) (ix2 y d) = (m (c.tc.loc main_arg3) : Vec Ideal S1x1024 .f32) (ix2 y d) := by
  unfold iblk
  rw [View.read_apply]
  show m (c.tc.loc main_arg3) _ = _
  congr 1
  funext a
  apply Fin.ext
  match a with
  | ⟨0, _⟩ => show win0_3.index t 0 * 1 + 1 * y.val = y.val; rw [(places t).2.2.2.1.1]; omega
  | ⟨1, _⟩ => show win0_3.index t 1 * 1024 + 1 * d.val = d.val; rw [(places t).2.2.2.1.2]; omega

/-! ## Output window 4 -/

/-- What the array ends with, as a function of the argument arrays. -/
def out_4 (a0 : Vec Ideal S8192x1024 .f32) (a1 : Vec Ideal S8192x1024 .f32) : Vec Ideal S8192x1024 .f32 := fun i =>
  resid (fun k : Fin 1024 => (a0 (ix2 (i 0) k) : EReal)) (fun k : Fin 1024 => (a1 (ix2 (i 0) k) : EReal)) (i 1)

/-- What a point leaves in its block, from the rows of its blocks. -/
theorem block_4 (x0 : Vec Ideal S256x1024 .f32) (x1 : Vec Ideal S256x1024 .f32) (x2 : Vec Ideal S1x1024 .f32) (x3 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (d : Fin 1024) :
    out0_4 (F := Ideal) x0 x1 x2 x3 (ix2 y d) = resid R0 R1 d := by
  obtain rfl : R0 = fun k => x0 (ix2 y k) := funext fun k => (h0 k).symm
  obtain rfl : R1 = fun k => x1 (ix2 y k) := funext fun k => (h1 k).symm
  unfold out0_4
  rw [View.canon_unit_zero origin]
  simp only [View.ld_unit_zero (S := S256x1024) origin, View.ld_unit_zero (S := S1x1024) origin]
  unfold k0_pay1 resid
  pointwise

/-- The array after the run. -/
theorem array_4 (c : Dev nD) : (dats m 0 c).arrAt 4 cfg0.N = out_4 (m (c.tc.loc main_arg0)) (m (c.tc.loc main_arg1)) :=
  (dats m 0 c).arrAt_eq_of_cover 4 _ (fun t hf => by
    rw [flushed4]
    funext j
    have ht : t.val < 32 := Nat.lt_of_lt_of_eq t.isLt N_0
    have h0 : (j 0).val < 256 := (j 0).isLt
    have hj : ((cfg0.win 4).blk t).view.emb j = (ix2 (⟨256 * t.val + (j 0).val, by omega⟩ : Fin 8192) (j 1 : Fin 1024) : S8192x1024.Idx) := by
      funext a
      apply Fin.ext
      match a with
      | ⟨0, _⟩ => show win0_4.index t 0 * 256 + 1 * (j 0).val = 256 * t.val + (j 0).val; rw [(places t).2.2.2.2.1.1]; omega
      | ⟨1, _⟩ => show win0_4.index t 1 * 1024 + 1 * (j 1).val = (j 1).val; rw [(places t).2.2.2.2.1.2]; omega
    have hc : ∀ o : Vec Ideal S256x1024 .f32, (cfg0.win 4).cut (grid0.coords t) o j = o j := fun _ => rfl
    have hG : ∀ G : Vec Ideal S8192x1024 .f32, G (ix2 (⟨256 * t.val + (j 0).val, by omega⟩ : Fin 8192) (j 1 : Fin 1024)) = ((cfg0.win 4).blk t).view.read (Elt Ideal) G j := fun G => by
      rw [View.read_apply]
      exact congrArg G hj.symm
    have hw : ∀ (y : Fin 256) (r : Fin 8192) (hr : r.val = 256 * t.val + y.val) (d : Fin 1024),
        out0_4 (F := Ideal) (iblk m c 0 t) (iblk m c 1 t) (iblk m c 2 t) (iblk m c 3 t) (ix2 y d) = out_4 (m (c.tc.loc main_arg0)) (m (c.tc.loc main_arg1)) (ix2 r d) := fun y r hr d =>
      block_4 _ _ _ _ y _ (at_0 m c t y r hr) _ (at_1 m c t y r hr) d
    exact (hc _).trans (((congrArg (out0_4 (F := Ideal) (iblk m c 0 t) (iblk m c 1 t) (iblk m c 2 t) (iblk m c 3 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_4.index t 0 = (i 0).val / 256 := (places t).2.2.2.2.1.1
    have e1 : win0_4.index t 1 = 0 := (places t).2.2.2.2.1.2
    refine ⟨t, flush0_4 t, ?_⟩
    show i ∈ ((View.whole main_v0_0).slice ((cfg0.win 4).rect t)).set
    rw [View.set_slice_whole, Rect.mem_set_unit]
    intro b
    match b with
    | ⟨0, _⟩ => show win0_4.index t 0 * 256 ≤ (i 0).val ∧ (i 0).val < win0_4.index t 0 * 256 + 256; rw [e0]; omega
    | ⟨1, _⟩ => show win0_4.index t 1 * 1024 ≤ (i 1).val ∧ (i 1).val < win0_4.index t 1 * 1024 + 1024; rw [e1]; omega

/-! ## Output window 5 -/

/-- What the array ends with, as a function of the argument arrays. -/
def out_5 (a0 : Vec Ideal S8192x1024 .f32) (a1 : Vec Ideal S8192x1024 .f32) (a2 : Vec Ideal S1x1024 .f32) (a3 : Vec Ideal S1x1024 .f32) : Vec Ideal S8192x1024 .f32 := fun i =>
  layerNorm (resid (fun k : Fin 1024 => (a0 (ix2 (i 0) k) : EReal)) (fun k : Fin 1024 => (a1 (ix2 (i 0) k) : EReal))) ((fun k : Fin 1024 => (a2 (ix2 0 k) : EReal)) (i 1)) ((fun k : Fin 1024 => (a3 (ix2 0 k) : EReal)) (i 1)) (i 1)

/-- What a point leaves in its block, from the rows of its blocks. -/
theorem block_5 (x0 : Vec Ideal S256x1024 .f32) (x1 : Vec Ideal S256x1024 .f32) (x2 : Vec Ideal S1x1024 .f32) (x3 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 0 k) : EReal) = R2 k) (R3 : Fin 1024 → EReal) (h3 : ∀ k, (x3 (ix2 0 k) : EReal) = R3 k) (d : Fin 1024) :
    out0_5 (F := Ideal) x0 x1 x2 x3 (ix2 y d) = layerNorm (resid R0 R1) (R2 d) (R3 d) d := by
  obtain rfl : R0 = fun k => x0 (ix2 y k) := funext fun k => (h0 k).symm
  obtain rfl : R1 = fun k => x1 (ix2 y k) := funext fun k => (h1 k).symm
  obtain rfl : R2 = fun k => x2 (ix2 0 k) := funext fun k => (h2 k).symm
  obtain rfl : R3 = fun k => x3 (ix2 0 k) := funext fun k => (h3 k).symm
  unfold out0_5
  rw [View.canon_unit_zero origin]
  simp only [View.ld_unit_zero (S := S256x1024) origin, View.ld_unit_zero (S := S1x1024) origin]
  unfold k0_pay2 k0_pay1 layerNorm mean resid
  pointwise

/-- The array after the run. -/
theorem array_5 (c : Dev nD) : (dats m 0 c).arrAt 5 cfg0.N = out_5 (m (c.tc.loc main_arg0)) (m (c.tc.loc main_arg1)) (m (c.tc.loc main_arg2)) (m (c.tc.loc main_arg3)) :=
  (dats m 0 c).arrAt_eq_of_cover 5 _ (fun t hf => by
    rw [flushed5]
    funext j
    have ht : t.val < 32 := Nat.lt_of_lt_of_eq t.isLt N_0
    have h0 : (j 0).val < 256 := (j 0).isLt
    have hj : ((cfg0.win 5).blk t).view.emb j = (ix2 (⟨256 * t.val + (j 0).val, by omega⟩ : Fin 8192) (j 1 : Fin 1024) : S8192x1024.Idx) := by
      funext a
      apply Fin.ext
      match a with
      | ⟨0, _⟩ => show win0_5.index t 0 * 256 + 1 * (j 0).val = 256 * t.val + (j 0).val; rw [(places t).2.2.2.2.2.1.1]; omega
      | ⟨1, _⟩ => show win0_5.index t 1 * 1024 + 1 * (j 1).val = (j 1).val; rw [(places t).2.2.2.2.2.1.2]; omega
    have hc : ∀ o : Vec Ideal S256x1024 .f32, (cfg0.win 5).cut (grid0.coords t) o j = o j := fun _ => rfl
    have hG : ∀ G : Vec Ideal S8192x1024 .f32, G (ix2 (⟨256 * t.val + (j 0).val, by omega⟩ : Fin 8192) (j 1 : Fin 1024)) = ((cfg0.win 5).blk t).view.read (Elt Ideal) G j := fun G => by
      rw [View.read_apply]
      exact congrArg G hj.symm
    have hw : ∀ (y : Fin 256) (r : Fin 8192) (hr : r.val = 256 * t.val + y.val) (d : Fin 1024),
        out0_5 (F := Ideal) (iblk m c 0 t) (iblk m c 1 t) (iblk m c 2 t) (iblk m c 3 t) (ix2 y d) = out_5 (m (c.tc.loc main_arg0)) (m (c.tc.loc main_arg1)) (m (c.tc.loc main_arg2)) (m (c.tc.loc main_arg3)) (ix2 r d) := fun y r hr d =>
      block_5 _ _ _ _ y _ (at_0 m c t y r hr) _ (at_1 m c t y r hr) _ (at_2 m c t 0) _ (at_3 m c t 0) d
    exact (hc _).trans (((congrArg (out0_5 (F := Ideal) (iblk m c 0 t) (iblk m c 1 t) (iblk m c 2 t) (iblk m c 3 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_5.index t 0 = (i 0).val / 256 := (places t).2.2.2.2.2.1.1
    have e1 : win0_5.index t 1 = 0 := (places t).2.2.2.2.2.1.2
    refine ⟨t, flush0_5 t, ?_⟩
    show i ∈ ((View.whole main_v0_1).slice ((cfg0.win 5).rect t)).set
    rw [View.set_slice_whole, Rect.mem_set_unit]
    intro b
    match b with
    | ⟨0, _⟩ => show win0_5.index t 0 * 256 ≤ (i 0).val ∧ (i 0).val < win0_5.index t 0 * 256 + 256; rw [e0]; omega
    | ⟨1, _⟩ => show win0_5.index t 1 * 1024 ≤ (i 1).val ∧ (i 1).val < win0_5.index t 1 * 1024 + 1024; rw [e1]; omega

/-! ## Output window 6 -/

/-- What the array ends with, as a function of the argument arrays. -/
def out_6 (a0 : Vec Ideal S8192x1024 .f32) (a1 : Vec Ideal S8192x1024 .f32) (a2 : Vec Ideal S1x1024 .f32) (a3 : Vec Ideal S1x1024 .f32) : Vec Ideal S8192x1024 .bf16 := fun i =>
  layerNorm (resid (fun k : Fin 1024 => (a0 (ix2 (i 0) k) : EReal)) (fun k : Fin 1024 => (a1 (ix2 (i 0) k) : EReal))) ((fun k : Fin 1024 => (a2 (ix2 0 k) : EReal)) (i 1)) ((fun k : Fin 1024 => (a3 (ix2 0 k) : EReal)) (i 1)) (i 1)

/-- What a point leaves in its block, from the rows of its blocks. -/
theorem block_6 (x0 : Vec Ideal S256x1024 .f32) (x1 : Vec Ideal S256x1024 .f32) (x2 : Vec Ideal S1x1024 .f32) (x3 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 0 k) : EReal) = R2 k) (R3 : Fin 1024 → EReal) (h3 : ∀ k, (x3 (ix2 0 k) : EReal) = R3 k) (d : Fin 1024) :
    out0_6 (F := Ideal) x0 x1 x2 x3 (ix2 y d) = layerNorm (resid R0 R1) (R2 d) (R3 d) d := by
  obtain rfl : R0 = fun k => x0 (ix2 y k) := funext fun k => (h0 k).symm
  obtain rfl : R1 = fun k => x1 (ix2 y k) := funext fun k => (h1 k).symm
  obtain rfl : R2 = fun k => x2 (ix2 0 k) := funext fun k => (h2 k).symm
  obtain rfl : R3 = fun k => x3 (ix2 0 k) := funext fun k => (h3 k).symm
  unfold out0_6
  rw [View.canon_unit_zero origin]
  simp only [View.ld_unit_zero (S := S256x1024) origin, View.ld_unit_zero (S := S1x1024) origin]
  unfold k0_pay3 k0_pay2 k0_pay1 layerNorm mean resid
  pointwise

/-- The array after the run. -/
theorem array_6 (c : Dev nD) : (dats m 0 c).arrAt 6 cfg0.N = out_6 (m (c.tc.loc main_arg0)) (m (c.tc.loc main_arg1)) (m (c.tc.loc main_arg2)) (m (c.tc.loc main_arg3)) :=
  (dats m 0 c).arrAt_eq_of_cover 6 _ (fun t hf => by
    rw [flushed6]
    funext j
    have ht : t.val < 32 := Nat.lt_of_lt_of_eq t.isLt N_0
    have h0 : (j 0).val < 256 := (j 0).isLt
    have hj : ((cfg0.win 6).blk t).view.emb j = (ix2 (⟨256 * t.val + (j 0).val, by omega⟩ : Fin 8192) (j 1 : Fin 1024) : S8192x1024.Idx) := by
      funext a
      apply Fin.ext
      match a with
      | ⟨0, _⟩ => show win0_6.index t 0 * 256 + 1 * (j 0).val = 256 * t.val + (j 0).val; rw [(places t).2.2.2.2.2.2.1]; omega
      | ⟨1, _⟩ => show win0_6.index t 1 * 1024 + 1 * (j 1).val = (j 1).val; rw [(places t).2.2.2.2.2.2.2]; omega
    have hc : ∀ o : Vec Ideal S256x1024 .bf16, (cfg0.win 6).cut (grid0.coords t) o j = o j := fun _ => rfl
    have hG : ∀ G : Vec Ideal S8192x1024 .bf16, G (ix2 (⟨256 * t.val + (j 0).val, by omega⟩ : Fin 8192) (j 1 : Fin 1024)) = ((cfg0.win 6).blk t).view.read (Elt Ideal) G j := fun G => by
      rw [View.read_apply]
      exact congrArg G hj.symm
    have hw : ∀ (y : Fin 256) (r : Fin 8192) (hr : r.val = 256 * t.val + y.val) (d : Fin 1024),
        out0_6 (F := Ideal) (iblk m c 0 t) (iblk m c 1 t) (iblk m c 2 t) (iblk m c 3 t) (ix2 y d) = out_6 (m (c.tc.loc main_arg0)) (m (c.tc.loc main_arg1)) (m (c.tc.loc main_arg2)) (m (c.tc.loc main_arg3)) (ix2 r d) := fun y r hr d =>
      block_6 _ _ _ _ y _ (at_0 m c t y r hr) _ (at_1 m c t y r hr) _ (at_2 m c t 0) _ (at_3 m c t 0) d
    exact (hc _).trans (((congrArg (out0_6 (F := Ideal) (iblk m c 0 t) (iblk m c 1 t) (iblk m c 2 t) (iblk m c 3 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_6.index t 0 = (i 0).val / 256 := (places t).2.2.2.2.2.2.1
    have e1 : win0_6.index t 1 = 0 := (places t).2.2.2.2.2.2.2
    refine ⟨t, flush0_6 t, ?_⟩
    show i ∈ ((View.whole main_v0_2).slice ((cfg0.win 6).rect t)).set
    rw [View.set_slice_whole, Rect.mem_set_unit]
    intro b
    match b with
    | ⟨0, _⟩ => show win0_6.index t 0 * 256 ≤ (i 0).val ∧ (i 0).val < win0_6.index t 0 * 256 + 256; rw [e0]; omega
    | ⟨1, _⟩ => show win0_6.index t 1 * 1024 ≤ (i 1).val ∧ (i 1).val < win0_6.index t 1 * 1024 + 1024; rw [e1]; omega

end

theorem frame : Cert.quiescent_ResLn := fun m ρ _ => Cert.ResLn.Gen.frame (F := Bits) m ρ

theorem frame_ideal : Cert.quiescent_ResLnIdeal := fun m ρ _ => Cert.ResLnIdeal.Gen.frame (F := Ideal) m ρ

theorem frame_ref_ideal : Cert.quiescent_ResLnRefIdeal := fun m ρ _ =>
  (θ_run Cert.ResLnRefIdeal.defs _ _).mono (fun r h => ⟨fun c => (h c).2.2.2, sem_eq_zero_of_no_sems (by decide) r.2⟩)
    (Cert.ResLnRefIdeal.Value.run (F := Ideal) m ρ)

section

open Cert.ResLnRefIdeal Cert.ResLnRefIdeal.Gen Cert.ResLnRefIdeal.Value

/-! ## The plain formulas -/

theorem plain_4 (a0 : Vec Ideal S8192x1024 .f32) (a1 : Vec Ideal S8192x1024 .f32) :
    (addf (mulf (broadcastInDim S8192x1024 ![] bcast_S_S8192x1024 (constant S_ .f32 0x3FB504F3#32)) a0) a1 : FVec Ideal S8192x1024 .f32) = out_4 a0 a1 := by
  funext i
  unfold out_4 resid
  pointwise

theorem plain_5 (a0 : Vec Ideal S8192x1024 .f32) (a1 : Vec Ideal S8192x1024 .f32) (a2 : Vec Ideal S1x1024 .f32) (a3 : Vec Ideal S1x1024 .f32) :
    (addf (mulf (mulf (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32))))) (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 a2)) (broadcastInDim S8192x1024 ![0, 1] bcast_S1x1024_S8192x1024_0_1 a3) : FVec Ideal S8192x1024 .f32) = out_5 a0 a1 a2 a3 := by
  funext i
  unfold out_5 layerNorm mean resid
  pointwise

theorem plain_6 (a0 : Vec Ideal S8192x1024 .f32) (a1 : Vec Ideal S8192x1024 .f32) (a2 : Vec Ideal S1x1024 .f32) (a3 : Vec Ideal S1x1024 .f32) :
    (truncf .bf16 (addf (mulf (mulf (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32))))) (subf (addf (mulf (broadcastInDim S8192x1024 ![] bcast_S_S8192x1024 (constant S_ .f32 0x3FB504F3#32)) a0) a1) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a0) a1) (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 a2)) (broadcastInDim S8192x1024 ![0, 1] bcast_S1x1024_S8192x1024_0_1 a3)) bitsLt_bf16_f32 : FVec Ideal S8192x1024 .bf16) = out_6 a0 a1 a2 a3 := by
  funext i
  unfold out_6 layerNorm mean resid
  pointwise

end

theorem algebraic : Cert.algebraic_ResLnIdeal_ResLnRefIdeal := fun m g m' g' _ hm =>
  ⟨fun c => out_4 (m (c.tc.loc Cert.ResLnIdeal.main_arg0)) (m (c.tc.loc Cert.ResLnIdeal.main_arg1)), fun c => out_5 (m (c.tc.loc Cert.ResLnIdeal.main_arg0)) (m (c.tc.loc Cert.ResLnIdeal.main_arg1)) (m (c.tc.loc Cert.ResLnIdeal.main_arg2)) (m (c.tc.loc Cert.ResLnIdeal.main_arg3)), fun c => out_6 (m (c.tc.loc Cert.ResLnIdeal.main_arg0)) (m (c.tc.loc Cert.ResLnIdeal.main_arg1)) (m (c.tc.loc Cert.ResLnIdeal.main_arg2)) (m (c.tc.loc Cert.ResLnIdeal.main_arg3)),
    (θ_run Cert.ResLnIdeal.defs _ _).mono (fun _ h c => ⟨(h c).1.trans (array_4 m c), (h c).2.1.trans (array_5 m c), (h c).2.2.1.trans (array_6 m c), (h c).2.2.2⟩) (Cert.ResLnIdeal.Value.run_blocks (F := Ideal) m g),
    (θ_run Cert.ResLnRefIdeal.defs _ _).mono (fun _ h c => ⟨(h c).1.trans ((plain_4 _ _).trans (by rw [(hm c).1, (hm c).2.1])), (h c).2.1.trans ((plain_5 _ _ _ _).trans (by rw [(hm c).1, (hm c).2.1, (hm c).2.2.1, (hm c).2.2.2])), (h c).2.2.1.trans ((plain_6 _ _ _ _).trans (by rw [(hm c).1, (hm c).2.1, (hm c).2.2.1, (hm c).2.2.2])), (h c).2.2.2⟩) (Cert.ResLnRefIdeal.Value.run (F := Ideal) m' g')⟩

end Cert.ResLnProof

end
-- ==== Proof.Layers.LnBwd.lean ====
/- The backward step of a layer norm: the gradient of its argument. -/
module

public import proofs.«01_k».proof.Proof.Layers.Rows
public import proofs.«01_k».proof.Proof.Gen.LnBwd.Frame
public import proofs.«01_k».proof.Proof.Gen.LnBwdIdeal.Value
public import proofs.«01_k».proof.Proof.Gen.LnBwdRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.LnBwdProof

section

open Cert.LnBwdIdeal Cert.LnBwdIdeal.Gen Cert.LnBwdIdeal.Value

/-- Where each window stands at a point. -/
theorem places : ∀ t : Fin cfg0.N, (win0_0.index t 0 = t.val ∧ win0_0.index t 1 = 0) ∧ (win0_1.index t 0 = t.val ∧ win0_1.index t 1 = 0) ∧ (win0_2.index t 0 = 0 ∧ win0_2.index t 1 = 0) ∧ (win0_3.index t 0 = t.val ∧ win0_3.index t 1 = 0) ∧ (win0_4.index t 0 = t.val ∧ win0_4.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 1024) :
    (iblk m c 0 t : Vec Ideal S256x1024 .f32) (ix2 y d) = (m (c.tc.loc main_arg0) : Vec Ideal S8192x1024 .f32) (ix2 r d) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 1024 + 1 * d.val = d.val; rw [(places t).1.2]; omega

theorem at_1 (c : Dev nD) (t : Fin cfg0.N) (y : Fin 256) (r : Fin 8192) (hr : r.val = 256 * t.val + y.val) (d : Fin 1024) :
    (iblk m c 1 t : Vec Ideal S256x1024 .f32) (ix2 y d) = (m (c.tc.loc main_arg1) : Vec Ideal S8192x1024 .f32) (ix2 r d) := by
  unfold iblk
  rw [View.read_apply]
  show m (c.tc.loc main_arg1) _ = _
  congr 1
  funext a
  apply Fin.ext
  match a with
  | ⟨0, _⟩ => show win0_1.index t 0 * 256 + 1 * y.val = r.val; rw [(places t).2.1.1]; omega
  | ⟨1, _⟩ => show win0_1.index t 1 * 1024 + 1 * d.val = d.val; rw [(places t).2.1.2]; omega

theorem at_2 (c : Dev nD) (t : Fin cfg0.N) (y : Fin 1)  (d : Fin 1024) :
    (iblk m c 2 t : Vec Ideal S1x1024 .f32) (ix2 y d) = (m (c.tc.loc main_arg2) : Vec Ideal S1x1024 .f32) (ix2 y d) := by
  unfold iblk
  rw [View.read_apply]
  show m (c.tc.loc main_arg2) _ = _
  congr 1
  funext a
  apply Fin.ext
  match a with
  | ⟨0, _⟩ => show win0_2.index t 0 * 1 + 1 * y.val = y.val; rw [(places t).2.2.1.1]; omega
  | ⟨1, _⟩ => show win0_2.index t 1 * 1024 + 1 * d.val = d.val; rw [(places t).2.2.1.2]; omega

/-! ## Output window 3 -/

/-- What a point stores there. -/
theorem store_A_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S8x1024 .f32) (harg6 : arg6.IsWhole) (arg7 : Memref sig .tc .vmem S8x1024 .f32) (harg7 : arg7.IsWhole) (hc0 : cond0_0 i) (x0 : Vec Ideal S256x1024 .f32) (x1 : Vec Ideal S256x1024 .f32) (x2 : Vec Ideal S1x1024 .f32) :
    out0_A_3 (F := Ideal) c i arg1 harg1 arg2 harg2 arg3 harg3 arg4 harg4 arg5 harg5 arg6 harg6 arg7 harg7 hc0 x0 x1 x2 = k0_pay9 (F := Ideal) x0 x1 x2 := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero origin]
  simp only [View.readAt_eq_ld, harg1.read_unread, harg2.read_unread, harg3.read_unread, View.ld_unit_zero (S := S256x1024) origin, View.ld_unit_zero (S := S1x1024) origin, shapeCast_self]

/-- What a point stores there. -/
theorem store_B_3 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S8x1024 .f32) (harg6 : arg6.IsWhole) (arg7 : Memref sig .tc .vmem S8x1024 .f32) (harg7 : arg7.IsWhole) (hc0 : ¬cond0_0 i) (x0 : Vec Ideal S256x1024 .f32) (x1 : Vec Ideal S256x1024 .f32) (x2 : Vec Ideal S1x1024 .f32) (xo5 : Vec Ideal S8x1024 .f32) (xo6 : Vec Ideal S8x1024 .f32) :
    out0_B_3 (F := Ideal) c i arg1 harg1 arg2 harg2 arg3 harg3 arg4 harg4 arg5 harg5 arg6 harg6 arg7 harg7 hc0 x0 x1 x2 xo5 xo6 = k0_pay9 (F := Ideal) x0 x1 x2 := by
  unfold out0_B_3
  rw [View.read_writes_eq_canon _ _ _ (cover0_B_3 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero origin]
  simp only [View.readAt_eq_ld, harg1.read_unread, harg2.read_unread, harg3.read_unread, View.ld_unit_zero (S := S256x1024) origin, View.ld_unit_zero (S := S1x1024) origin, shapeCast_self]

theorem left_3 (c : Dev nD) (t : Fin cfg0.N) :
    (outsAt0 m c t.val t.isLt).1 = k0_pay9 (F := Ideal) (iblk m c 0 t) (iblk m c 1 t) (iblk m c 2 t) := by
  by_cases h0 : t.val % 32 = 0
  · rw [outsAt0_A m c t h0]
    dsimp only
    rw [store_A_3]
  · rw [outsAt0_B m c t h0]
    dsimp only
    rw [store_B_3]

/-- What the array ends with, as a function of the argument arrays. -/
def out_3 (a0 : Vec Ideal S8192x1024 .f32) (a1 : Vec Ideal S8192x1024 .f32) (a2 : Vec Ideal S1x1024 .f32) : Vec Ideal S8192x1024 .f32 := fun i =>
  normBack (fun k : Fin 1024 => (a0 (ix2 (i 0) k) : EReal)) (fun k : Fin 1024 => (a1 (ix2 (i 0) k) : EReal)) (fun k : Fin 1024 => (a2 (ix2 0 k) : EReal)) (i 1)

/-- What a point leaves in its block, from the rows of its blocks. -/
theorem block_3 (x0 : Vec Ideal S256x1024 .f32) (x1 : Vec Ideal S256x1024 .f32) (x2 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 0 k) : EReal) = R2 k) (d : Fin 1024) :
    (k0_pay9 (F := Ideal) x0 x1 x2) (ix2 y d) = normBack R0 R1 R2 d := by
  obtain rfl : R0 = fun k => x0 (ix2 y k) := funext fun k => (h0 k).symm
  obtain rfl : R1 = fun k => x1 (ix2 y k) := funext fun k => (h1 k).symm
  obtain rfl : R2 = fun k => x2 (ix2 0 k) := funext fun k => (h2 k).symm
  unfold k0_pay9 k0_pay8 k0_pay7 k0_pay6 normBack hat invDev mean
  pointwise

/-- The array after the run. -/
theorem array_3 (c : Dev nD) : (dats m 0 c).arrAt 3 cfg0.N = out_3 (m (c.tc.loc main_arg0)) (m (c.tc.loc main_arg1)) (m (c.tc.loc main_arg2)) :=
  (dats m 0 c).arrAt_eq_of_cover 3 _ (fun t hf => by
    rw [flushed3, left_3]
    funext j
    have ht : t.val < 32 := Nat.lt_of_lt_of_eq t.isLt N_0
    have h0 : (j 0).val < 256 := (j 0).isLt
    have hj : ((cfg0.win 3).blk t).view.emb j = (ix2 (⟨256 * t.val + (j 0).val, by omega⟩ : Fin 8192) (j 1 : Fin 1024) : S8192x1024.Idx) := by
      funext a
      apply Fin.ext
      match a with
      | ⟨0, _⟩ => show win0_3.index t 0 * 256 + 1 * (j 0).val = 256 * t.val + (j 0).val; rw [(places t).2.2.2.1.1]; omega
      | ⟨1, _⟩ => show win0_3.index t 1 * 1024 + 1 * (j 1).val = (j 1).val; rw [(places t).2.2.2.1.2]; omega
    have hc : ∀ o : Vec Ideal S256x1024 .f32, (cfg0.win 3).cut (grid0.coords t) o j = o j := fun _ => rfl
    have hG : ∀ G : Vec Ideal S8192x1024 .f32, G (ix2 (⟨256 * t.val + (j 0).val, by omega⟩ : Fin 8192) (j 1 : Fin 1024)) = ((cfg0.win 3).blk t).view.read (Elt Ideal) G j := fun G => by
      rw [View.read_apply]
      exact congrArg G hj.symm
    have hw : ∀ (y : Fin 256) (r : Fin 8192) (hr : r.val = 256 * t.val + y.val) (d : Fin 1024),
        (k0_pay9 (F := Ideal) (iblk m c 0 t) (iblk m c 1 t) (iblk m c 2 t)) (ix2 y d) = out_3 (m (c.tc.loc main_arg0)) (m (c.tc.loc main_arg1)) (m (c.tc.loc main_arg2)) (ix2 r d) := fun y r hr d =>
      block_3 _ _ _ y _ (at_0 m c t y r hr) _ (at_1 m c t y r hr) _ (at_2 m c t 0) d
    exact (hc _).trans (((congrArg (k0_pay9 (F := Ideal) (iblk m c 0 t) (iblk m c 1 t) (iblk m c 2 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_3.index t 0 = (i 0).val / 256 := (places t).2.2.2.1.1
    have e1 : win0_3.index t 1 = 0 := (places t).2.2.2.1.2
    refine ⟨t, flush0_3 t, ?_⟩
    show i ∈ ((View.whole main_v0_0).slice ((cfg0.win 3).rect t)).set
    rw [View.set_slice_whole, Rect.mem_set_unit]
    intro b
    match b with
    | ⟨0, _⟩ => show win0_3.index t 0 * 256 ≤ (i 0).val ∧ (i 0).val < win0_3.index t 0 * 256 + 256; rw [e0]; omega
    | ⟨1, _⟩ => show win0_3.index t 1 * 1024 ≤ (i 1).val ∧ (i 1).val < win0_3.index t 1 * 1024 + 1024; rw [e1]; omega

/-! ## Output window 4 -/

/-- What a point stores there. -/
theorem store_A_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S8x1024 .f32) (harg6 : arg6.IsWhole) (arg7 : Memref sig .tc .vmem S8x1024 .f32) (harg7 : arg7.IsWhole) (hc0 : cond0_0 i) (x0 : Vec Ideal S256x1024 .f32) (x1 : Vec Ideal S256x1024 .f32) (x2 : Vec Ideal S1x1024 .f32) :
    out0_A_4 (F := Ideal) c i arg1 harg1 arg2 harg2 arg3 harg3 arg4 harg4 arg5 harg5 arg6 harg6 arg7 harg7 hc0 x0 x1 x2 = k0_pay1 (F := Ideal) (k0_pay9 (F := Ideal) x0 x1 x2) := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_unit_zero origin]
  simp only [View.readAt_eq_ld, harg1.read_unread, harg2.read_unread, harg3.read_unread, View.ld_unit_zero (S := S256x1024) origin, View.ld_unit_zero (S := S1x1024) origin, shapeCast_self]

/-- What a point stores there. -/
theorem store_B_4 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .bf16) (harg5 : arg5.IsWhole) (arg6 : Memref sig .tc .vmem S8x1024 .f32) (harg6 : arg6.IsWhole) (arg7 : Memref sig .tc .vmem S8x1024 .f32) (harg7 : arg7.IsWhole) (hc0 : ¬cond0_0 i) (x0 : Vec Ideal S256x1024 .f32) (x1 : Vec Ideal S256x1024 .f32) (x2 : Vec Ideal S1x1024 .f32) (xo5 : Vec Ideal S8x1024 .f32) (xo6 : Vec Ideal S8x1024 .f32) :
    out0_B_4 (F := Ideal) c i arg1 harg1 arg2 harg2 arg3 harg3 arg4 harg4 arg5 harg5 arg6 harg6 arg7 harg7 hc0 x0 x1 x2 xo5 xo6 = k0_pay1 (F := Ideal) (k0_pay9 (F := Ideal) x0 x1 x2) := by
  unfold out0_B_4
  rw [View.read_writes_eq_canon _ _ _ (cover0_B_4 c i arg1 harg1 arg2 harg2 arg3 harg3 arg4 harg4 arg5 harg5 arg6 harg6 arg7 harg7 hc0 x0 x1 x2 xo5 xo6)]
  unfold kernelRun0_B
  dsimp only
  sl_unfold_words
  rw [View.canon_unit_zero origin]
  simp only [View.readAt_eq_ld, harg1.read_unread, harg2.read_unread, harg3.read_unread, View.ld_unit_zero (S := S256x1024) origin, View.ld_unit_zero (S := S1x1024) origin, shapeCast_self]

theorem left_4 (c : Dev nD) (t : Fin cfg0.N) :
    (outsAt0 m c t.val t.isLt).2.1 = k0_pay1 (F := Ideal) (k0_pay9 (F := Ideal) (iblk m c 0 t) (iblk m c 1 t) (iblk m c 2 t)) := by
  by_cases h0 : t.val % 32 = 0
  · rw [outsAt0_A m c t h0]
    dsimp only
    rw [store_A_4]
  · rw [outsAt0_B m c t h0]
    dsimp only
    rw [store_B_4]

/-- What the array ends with, as a function of the argument arrays. -/
def out_4 (a0 : Vec Ideal S8192x1024 .f32) (a1 : Vec Ideal S8192x1024 .f32) (a2 : Vec Ideal S1x1024 .f32) : Vec Ideal S8192x1024 .bf16 := fun i =>
  normBack (fun k : Fin 1024 => (a0 (ix2 (i 0) k) : EReal)) (fun k : Fin 1024 => (a1 (ix2 (i 0) k) : EReal)) (fun k : Fin 1024 => (a2 (ix2 0 k) : EReal)) (i 1)

/-- What a point leaves in its block, from the rows of its blocks. -/
theorem block_4 (x0 : Vec Ideal S256x1024 .f32) (x1 : Vec Ideal S256x1024 .f32) (x2 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 0 k) : EReal) = R2 k) (d : Fin 1024) :
    (k0_pay1 (F := Ideal) (k0_pay9 (F := Ideal) x0 x1 x2)) (ix2 y d) = normBack R0 R1 R2 d := by
  obtain rfl : R0 = fun k => x0 (ix2 y k) := funext fun k => (h0 k).symm
  obtain rfl : R1 = fun k => x1 (ix2 y k) := funext fun k => (h1 k).symm
  obtain rfl : R2 = fun k => x2 (ix2 0 k) := funext fun k => (h2 k).symm
  unfold k0_pay9 k0_pay1 k0_pay8 k0_pay7 k0_pay6 normBack hat invDev mean
  pointwise

/-- The array after the run. -/
theorem array_4 (c : Dev nD) : (dats m 0 c).arrAt 4 cfg0.N = out_4 (m (c.tc.loc main_arg0)) (m (c.tc.loc main_arg1)) (m (c.tc.loc main_arg2)) :=
  (dats m 0 c).arrAt_eq_of_cover 4 _ (fun t hf => by
    rw [flushed4, left_4]
    funext j
    have ht : t.val < 32 := Nat.lt_of_lt_of_eq t.isLt N_0
    have h0 : (j 0).val < 256 := (j 0).isLt
    have hj : ((cfg0.win 4).blk t).view.emb j = (ix2 (⟨256 * t.val + (j 0).val, by omega⟩ : Fin 8192) (j 1 : Fin 1024) : S8192x1024.Idx) := by
      funext a
      apply Fin.ext
      match a with
      | ⟨0, _⟩ => show win0_4.index t 0 * 256 + 1 * (j 0).val = 256 * t.val + (j 0).val; rw [(places t).2.2.2.2.1]; omega
      | ⟨1, _⟩ => show win0_4.index t 1 * 1024 + 1 * (j 1).val = (j 1).val; rw [(places t).2.2.2.2.2]; omega
    have hc : ∀ o : Vec Ideal S256x1024 .bf16, (cfg0.win 4).cut (grid0.coords t) o j = o j := fun _ => rfl
    have hG : ∀ G : Vec Ideal S8192x1024 .bf16, G (ix2 (⟨256 * t.val + (j 0).val, by omega⟩ : Fin 8192) (j 1 : Fin 1024)) = ((cfg0.win 4).blk t).view.read (Elt Ideal) G j := fun G => by
      rw [View.read_apply]
      exact congrArg G hj.symm
    have hw : ∀ (y : Fin 256) (r : Fin 8192) (hr : r.val = 256 * t.val + y.val) (d : Fin 1024),
        (k0_pay1 (F := Ideal) (k0_pay9 (F := Ideal) (iblk m c 0 t) (iblk m c 1 t) (iblk m c 2 t))) (ix2 y d) = out_4 (m (c.tc.loc main_arg0)) (m (c.tc.loc main_arg1)) (m (c.tc.loc main_arg2)) (ix2 r d) := fun y r hr d =>
      block_4 _ _ _ y _ (at_0 m c t y r hr) _ (at_1 m c t y r hr) _ (at_2 m c t 0) d
    exact (hc _).trans (((congrArg (k0_pay1 (F := Ideal) (k0_pay9 (F := Ideal) (iblk m c 0 t) (iblk m c 1 t) (iblk m c 2 t))) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_4.index t 0 = (i 0).val / 256 := (places t).2.2.2.2.1
    have e1 : win0_4.index t 1 = 0 := (places t).2.2.2.2.2
    refine ⟨t, flush0_4 t, ?_⟩
    show i ∈ ((View.whole main_v0_1).slice ((cfg0.win 4).rect t)).set
    rw [View.set_slice_whole, Rect.mem_set_unit]
    intro b
    match b with
    | ⟨0, _⟩ => show win0_4.index t 0 * 256 ≤ (i 0).val ∧ (i 0).val < win0_4.index t 0 * 256 + 256; rw [e0]; omega
    | ⟨1, _⟩ => show win0_4.index t 1 * 1024 ≤ (i 1).val ∧ (i 1).val < win0_4.index t 1 * 1024 + 1024; rw [e1]; omega

end

theorem frame : Cert.quiescent_LnBwd := fun m ρ _ => Cert.LnBwd.Gen.frame (F := Bits) m ρ

theorem frame_ideal : Cert.quiescent_LnBwdIdeal := fun m ρ _ => Cert.LnBwdIdeal.Gen.frame (F := Ideal) m ρ

theorem frame_ref_ideal : Cert.quiescent_LnBwdRefIdeal := fun m ρ _ =>
  (θ_run Cert.LnBwdRefIdeal.defs _ _).mono (fun r h => ⟨fun c => (h c).2.2, sem_eq_zero_of_no_sems (by decide) r.2⟩)
    (Cert.LnBwdRefIdeal.Value.run (F := Ideal) m ρ)

section

open Cert.LnBwdRefIdeal Cert.LnBwdRefIdeal.Gen Cert.LnBwdRefIdeal.Value

/-! ## The plain formulas -/

theorem plain_3 (a0 : Vec Ideal S8192x1024 .f32) (a1 : Vec Ideal S8192x1024 .f32) (a2 : Vec Ideal S1x1024 .f32) :
    (mulf (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))))) (subf (subf (mulf a0 (broadcastInDim S8192x1024 ![0, 1] bcast_S1x1024_S8192x1024_0_1 a2)) (broadcastInDim S8192x1024 ![0, 1] bcast_S8192x1_S8192x1024_0_1 (Host.divf (broadcastInDim S8192x1 ![0] bcast_S8192_S8192x1_0 (Host.reduceAdd (mulf a0 (broadcastInDim S8192x1024 ![0, 1] bcast_S1x1024_S8192x1024_0_1 a2)) (constant S_ .f32 0x00000000#32) reducesTo_S8192x1024_S8192_d1 h_S_)) (broadcastInDim S8192x1 ![] bcast_S_S8192x1 (constant S_ .f32 0x44800000#32))))) (mulf (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S8192x1_S8192x1024_0_1 (Host.divf (broadcastInDim S8192x1 ![0] bcast_S8192_S8192x1_0 (Host.reduceAdd (mulf (mulf a0 (broadcastInDim S8192x1024 ![0, 1] bcast_S1x1024_S8192x1024_0_1 a2)) (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))))))) (constant S_ .f32 0x00000000#32) reducesTo_S8192x1024_S8192_d1 h_S_)) (broadcastInDim S8192x1 ![] bcast_S_S8192x1 (constant S_ .f32 0x44800000#32)))))) : FVec Ideal S8192x1024 .f32) = out_3 a0 a1 a2 := by
  funext i
  unfold out_3 normBack hat invDev mean
  pointwise

theorem plain_4 (a0 : Vec Ideal S8192x1024 .f32) (a1 : Vec Ideal S8192x1024 .f32) (a2 : Vec Ideal S1x1024 .f32) :
    (truncf .bf16 (mulf (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))))) (subf (subf (mulf a0 (broadcastInDim S8192x1024 ![0, 1] bcast_S1x1024_S8192x1024_0_1 a2)) (broadcastInDim S8192x1024 ![0, 1] bcast_S8192x1_S8192x1024_0_1 (Host.divf (broadcastInDim S8192x1 ![0] bcast_S8192_S8192x1_0 (Host.reduceAdd (mulf a0 (broadcastInDim S8192x1024 ![0, 1] bcast_S1x1024_S8192x1024_0_1 a2)) (constant S_ .f32 0x00000000#32) reducesTo_S8192x1024_S8192_d1 h_S_)) (broadcastInDim S8192x1 ![] bcast_S_S8192x1 (constant S_ .f32 0x44800000#32))))) (mulf (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S8192x1_S8192x1024_0_1 (Host.divf (broadcastInDim S8192x1 ![0] bcast_S8192_S8192x1_0 (Host.reduceAdd (mulf (mulf a0 (broadcastInDim S8192x1024 ![0, 1] bcast_S1x1024_S8192x1024_0_1 a2)) (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32))))) (subf a1 (broadcastInDim S8192x1024 ![0, 1] bcast_S8192x1_S8192x1024_0_1 (Host.divf (broadcastInDim S8192x1 ![0] bcast_S8192_S8192x1_0 (Host.reduceAdd a1 (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))))))) (constant S_ .f32 0x00000000#32) reducesTo_S8192x1024_S8192_d1 h_S_)) (broadcastInDim S8192x1 ![] bcast_S_S8192x1 (constant S_ .f32 0x44800000#32))))))) bitsLt_bf16_f32 : FVec Ideal S8192x1024 .bf16) = out_4 a0 a1 a2 := by
  funext i
  unfold out_4 normBack hat invDev mean
  pointwise

end

theorem algebraic : Cert.algebraic_LnBwdIdeal_LnBwdRefIdeal := fun m g m' g' _ hm =>
  ⟨fun c => out_3 (m (c.tc.loc Cert.LnBwdIdeal.main_arg0)) (m (c.tc.loc Cert.LnBwdIdeal.main_arg1)) (m (c.tc.loc Cert.LnBwdIdeal.main_arg2)), fun c => out_4 (m (c.tc.loc Cert.LnBwdIdeal.main_arg0)) (m (c.tc.loc Cert.LnBwdIdeal.main_arg1)) (m (c.tc.loc Cert.LnBwdIdeal.main_arg2)),
    (θ_run Cert.LnBwdIdeal.defs _ _).mono (fun _ h c => ⟨(h c).1.trans (array_3 m c), (h c).2.1.trans (array_4 m c), (h c).2.2.2.2⟩) (Cert.LnBwdIdeal.Value.run_blocks (F := Ideal) m g),
    (θ_run Cert.LnBwdRefIdeal.defs _ _).mono (fun _ h c => ⟨(h c).1.trans ((plain_3 _ _ _).trans (by rw [(hm c).1, (hm c).2.1, (hm c).2.2])), (h c).2.1.trans ((plain_4 _ _ _).trans (by rw [(hm c).1, (hm c).2.1, (hm c).2.2])), (h c).2.2⟩) (Cert.LnBwdRefIdeal.Value.run (F := Ideal) m' g')⟩

end Cert.LnBwdProof

end
-- ==== Proof.Layers.MixFwd.lean ====
/- The mixer's gated merge, its three products, and the first norm of a layer. -/
module

public import proofs.«01_k».proof.Proof.Layers.Rows
public import proofs.«01_k».proof.Proof.Gen.MixFwd.Frame
public import proofs.«01_k».proof.Proof.Gen.MixFwdIdeal.Value
public import proofs.«01_k».proof.Proof.Gen.MixFwdRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.MixFwdProof

section

open Cert.MixFwdIdeal Cert.MixFwdIdeal.Gen Cert.MixFwdIdeal.Value

/-- Where each window stands at a point. -/
theorem places : ∀ t : Fin cfg0.N, (win0_0.index t 0 = t.val ∧ win0_0.index t 1 = 0) ∧ (win0_1.index t 0 = t.val ∧ win0_1.index t 1 = 0) ∧ (win0_2.index t 0 = t.val ∧ win0_2.index t 1 = 6) ∧ (win0_3.index t 0 = t.val ∧ win0_3.index t 1 = 7) ∧ (win0_4.index t 0 = t.val ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 1024) :
    (iblk m c 0 t : Vec Ideal S256x1024 .bf16) (ix2 y d) = (m (c.tc.loc main_arg0) : Vec Ideal S8192x1024 .bf16) (ix2 r d) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 1024 + 1 * d.val = d.val; rw [(places t).1.2]; omega

theorem at_1 (c : Dev nD) (t : Fin cfg0.N) (y : Fin 256) (r : Fin 8192) (hr : r.val = 256 * t.val + y.val) (d : Fin 1024) :
    (iblk m c 1 t : Vec Ideal S256x1024 .bf16) (ix2 y d) = (m (c.tc.loc main_arg1) : Vec Ideal S8192x1024 .bf16) (ix2 r d) := by
  unfold iblk
  rw [View.read_apply]
  show m (c.tc.loc main_arg1) _ = _
  congr 1
  funext a
  apply Fin.ext
  match a with
  | ⟨0, _⟩ => show win0_1.index t 0 * 256 + 1 * y.val = r.val; rw [(places t).2.1.1]; omega
  | ⟨1, _⟩ => show win0_1.index t 1 * 1024 + 1 * d.val = d.val; rw [(places t).2.1.2]; omega

theorem at_2 (c : Dev nD) (t : Fin cfg0.N) (y : Fin 256) (r : Fin 8192) (hr : r.val = 256 * t.val + y.val) (d : Fin 1024) :
    (iblk m c 2 t : Vec Ideal S256x1024 .f32) (ix2 y d) = (m (c.tc.loc main_arg2) : Vec Ideal S8192x8192 .f32) (ix2 r ⟨6144 + d.val, by have := d.isLt; omega⟩) := by
  unfold iblk
  rw [View.read_apply]
  show m (c.tc.loc main_arg2) _ = _
  congr 1
  funext a
  apply Fin.ext
  match a with
  | ⟨0, _⟩ => show win0_2.index t 0 * 256 + 1 * y.val = r.val; rw [(places t).2.2.1.1]; omega
  | ⟨1, _⟩ => show win0_2.index t 1 * 1024 + 1 * d.val = 6144 + d.val; rw [(places t).2.2.1.2]; omega

theorem at_3 (c : Dev nD) (t : Fin cfg0.N) (y : Fin 256) (r : Fin 8192) (hr : r.val = 256 * t.val + y.val) (d : Fin 1024) :
    (iblk m c 3 t : Vec Ideal S256x1024 .f32) (ix2 y d) = (m (c.tc.loc main_arg2) : Vec Ideal S8192x8192 .f32) (ix2 r ⟨7168 + d.val, by have := d.isLt; omega⟩) := by
  unfold iblk
  rw [View.read_apply]
  show m (c.tc.loc main_arg2) _ = _
  congr 1
  funext a
  apply Fin.ext
  match a with
  | ⟨0, _⟩ => show win0_3.index t 0 * 256 + 1 * y.val = r.val; rw [(places t).2.2.2.1.1]; omega
  | ⟨1, _⟩ => show win0_3.index t 1 * 1024 + 1 * d.val = 7168 + d.val; rw [(places t).2.2.2.1.2]; omega

theorem at_4 (c : Dev nD) (t : Fin cfg0.N) (y : Fin 256) (r : Fin 8192) (hr : r.val = 256 * t.val + y.val) (d : Fin 1024) :
    (iblk m c 4 t : Vec Ideal S256x1024 .f32) (ix2 y d) = (m (c.tc.loc main_arg3) : Vec Ideal S8192x1024 .f32) (ix2 r d) := by
  unfold iblk
  rw [View.read_apply]
  show m (c.tc.loc main_arg3) _ = _
  congr 1
  funext a
  apply Fin.ext
  match a with
  | ⟨0, _⟩ => show win0_4.index t 0 * 256 + 1 * y.val = r.val; rw [(places t).2.2.2.2.1.1]; omega
  | ⟨1, _⟩ => show win0_4.index t 1 * 1024 + 1 * d.val = d.val; rw [(places t).2.2.2.2.1.2]; omega

theorem at_5 (c : Dev nD) (t : Fin cfg0.N) (y : Fin 1024)  (d : Fin 1024) :
    (iblk m c 5 t : Vec Ideal S1024x1024 .bf16) (ix2 y d) = (m (c.tc.loc main_arg4) : Vec Ideal S1024x1024 .bf16) (ix2 y d) := by
  unfold iblk
  rw [View.read_apply]
  show m (c.tc.loc main_arg4) _ = _
  congr 1
  funext a
  apply Fin.ext
  match a with
  | ⟨0, _⟩ => show win0_5.index t 0 * 1024 + 1 * y.val = y.val; rw [(places t).2.2.2.2.2.1.1]; omega
  | ⟨1, _⟩ => show win0_5.index t 1 * 1024 + 1 * d.val = d.val; rw [(places t).2.2.2.2.2.1.2]; omega

theorem at_6 (c : Dev nD) (t : Fin cfg0.N) (y : Fin 1024)  (d : Fin 1024) :
    (iblk m c 6 t : Vec Ideal S1024x1024 .bf16) (ix2 y d) = (m (c.tc.loc main_arg5) : Vec Ideal S1024x1024 .bf16) (ix2 y d) := by
  unfold iblk
  rw [View.read_apply]
  show m (c.tc.loc main_arg5) _ = _
  congr 1
  funext a
  apply Fin.ext
  match a with
  | ⟨0, _⟩ => show win0_6.index t 0 * 1024 + 1 * y.val = y.val; rw [(places t).2.2.2.2.2.2.1.1]; omega
  | ⟨1, _⟩ => show win0_6.index t 1 * 1024 + 1 * d.val = d.val; rw [(places t).2.2.2.2.2.2.1.2]; omega

theorem at_7 (c : Dev nD) (t : Fin cfg0.N) (y : Fin 1024)  (d : Fin 1024) :
    (iblk m c 7 t : Vec Ideal S1024x1024 .bf16) (ix2 y d) = (m (c.tc.loc main_arg6) : Vec Ideal S1024x1024 .bf16) (ix2 y d) := by
  unfold iblk
  rw [View.read_apply]
  show m (c.tc.loc main_arg6) _ = _
  congr 1
  funext a
  apply Fin.ext
  match a with
  | ⟨0, _⟩ => show win0_7.index t 0 * 1024 + 1 * y.val = y.val; rw [(places t).2.2.2.2.2.2.2.1.1]; omega
  | ⟨1, _⟩ => show win0_7.index t 1 * 1024 + 1 * d.val = d.val; rw [(places t).2.2.2.2.2.2.2.1.2]; omega

theorem at_8 (c : Dev nD) (t : Fin cfg0.N) (y : Fin 1)  (d : Fin 1024) :
    (iblk m c 8 t : Vec Ideal S1x1024 .f32) (ix2 y d) = (m (c.tc.loc main_arg7) : Vec Ideal S1x1024 .f32) (ix2 y d) := by
  unfold iblk
  rw [View.read_apply]
  show m (c.tc.loc main_arg7) _ = _
  congr 1
  funext a
  apply Fin.ext
  match a with
  | ⟨0, _⟩ => show win0_8.index t 0 * 1 + 1 * y.val = y.val; rw [(places t).2.2.2.2.2.2.2.2.1.1]; omega
  | ⟨1, _⟩ => show win0_8.index t 1 * 1024 + 1 * d.val = d.val; rw [(places t).2.2.2.2.2.2.2.2.1.2]; omega

theorem at_9 (c : Dev nD) (t : Fin cfg0.N) (y : Fin 1)  (d : Fin 1024) :
    (iblk m c 9 t : Vec Ideal S1x1024 .f32) (ix2 y d) = (m (c.tc.loc main_arg8) : Vec Ideal S1x1024 .f32) (ix2 y d) := by
  unfold iblk
  rw [View.read_apply]
  show m (c.tc.loc main_arg8) _ = _
  congr 1
  funext a
  apply Fin.ext
  match a with
  | ⟨0, _⟩ => show win0_9.index t 0 * 1 + 1 * y.val = y.val; rw [(places t).2.2.2.2.2.2.2.2.2.1.1]; omega
  | ⟨1, _⟩ => show win0_9.index t 1 * 1024 + 1 * d.val = d.val; rw [(places t).2.2.2.2.2.2.2.2.2.1.2]; omega

/-! ## Output window 10 -/

/-- What the array ends with, as a function of the argument arrays. -/
def out_10 (a0 : Vec Ideal S8192x1024 .bf16) (a4 : Vec Ideal S1024x1024 .bf16) : Vec Ideal S8192x1024 .f32 := fun i =>
  dot (fun k : Fin 1024 => (a0 (ix2 (i 0) k) : EReal)) (fun k l : Fin 1024 => (a4 (ix2 k l) : EReal)) (i 1)

/-- What a point leaves in its block, from the rows of its blocks. -/
theorem block_10 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R0 : Fin 1024 → EReal) (h0 : ∀ k, (x0 (ix2 y k) : EReal) = R0 k) (R5 : Fin 1024 → Fin 1024 → EReal) (h5 : ∀ k l, (x5 (ix2 k l) : EReal) = R5 k l) (d : Fin 1024) :
    out0_10 (F := Ideal) x0 x1 x2 x3 x4 x5 x6 x7 x8 x9 (ix2 y d) = dot R0 R5 d := by
  obtain rfl : R0 = fun k => x0 (ix2 y k) := funext fun k => (h0 k).symm
  obtain rfl : R5 = fun k l => x5 (ix2 k l) := funext fun k => funext fun l => (h5 k l).symm
  unfold out0_10
  rw [View.canon_unit_zero origin]
  simp only [View.ld_unit_zero (S := S256x1024) origin, View.ld_unit_zero (S := S1024x1024) origin, View.ld_unit_zero (S := S1x1024) origin]
  unfold k0_pay4 dot
  pointwise

/-- The array after the run. -/
theorem array_10 (c : Dev nD) : (dats m 0 c).arrAt 10 cfg0.N = out_10 (m (c.tc.loc main_arg0)) (m (c.tc.loc main_arg4)) :=
  (dats m 0 c).arrAt_eq_of_cover 10 _ (fun t hf => by
    rw [flushed10]
    funext j
    have ht : t.val < 32 := Nat.lt_of_lt_of_eq t.isLt N_0
    have h0 : (j 0).val < 256 := (j 0).isLt
    have hj : ((cfg0.win 10).blk t).view.emb j = (ix2 (⟨256 * t.val + (j 0).val, by omega⟩ : Fin 8192) (j 1 : Fin 1024) : S8192x1024.Idx) := by
      funext a
      apply Fin.ext
      match a with
      | ⟨0, _⟩ => show win0_10.index t 0 * 256 + 1 * (j 0).val = 256 * t.val + (j 0).val; rw [(places t).2.2.2.2.2.2.2.2.2.2.1.1]; omega
      | ⟨1, _⟩ => show win0_10.index t 1 * 1024 + 1 * (j 1).val = (j 1).val; rw [(places t).2.2.2.2.2.2.2.2.2.2.1.2]; omega
    have hc : ∀ o : Vec Ideal S256x1024 .f32, (cfg0.win 10).cut (grid0.coords t) o j = o j := fun _ => rfl
    have hG : ∀ G : Vec Ideal S8192x1024 .f32, G (ix2 (⟨256 * t.val + (j 0).val, by omega⟩ : Fin 8192) (j 1 : Fin 1024)) = ((cfg0.win 10).blk t).view.read (Elt Ideal) G j := fun G => by
      rw [View.read_apply]
      exact congrArg G hj.symm
    have hw : ∀ (y : Fin 256) (r : Fin 8192) (hr : r.val = 256 * t.val + y.val) (d : Fin 1024),
        out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_10 (m (c.tc.loc main_arg0)) (m (c.tc.loc main_arg4)) (ix2 r d) := fun y r hr d =>
      block_10 _ _ _ _ _ _ _ _ _ _ y _ (at_0 m c t y r hr) _ (at_5 m c t) d
    exact (hc _).trans (((congrArg (out0_10 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_10.index t 0 = (i 0).val / 256 := (places t).2.2.2.2.2.2.2.2.2.2.1.1
    have e1 : win0_10.index t 1 = 0 := (places t).2.2.2.2.2.2.2.2.2.2.1.2
    refine ⟨t, flush0_10 t, ?_⟩
    show i ∈ ((View.whole main_v0_0).slice ((cfg0.win 10).rect t)).set
    rw [View.set_slice_whole, Rect.mem_set_unit]
    intro b
    match b with
    | ⟨0, _⟩ => show win0_10.index t 0 * 256 ≤ (i 0).val ∧ (i 0).val < win0_10.index t 0 * 256 + 256; rw [e0]; omega
    | ⟨1, _⟩ => show win0_10.index t 1 * 1024 ≤ (i 1).val ∧ (i 1).val < win0_10.index t 1 * 1024 + 1024; rw [e1]; omega

/-! ## Output window 11 -/

/-- What the array ends with, as a function of the argument arrays. -/
def out_11 (a1 : Vec Ideal S8192x1024 .bf16) (a5 : Vec Ideal S1024x1024 .bf16) : Vec Ideal S8192x1024 .f32 := fun i =>
  dot (fun k : Fin 1024 => (a1 (ix2 (i 0) k) : EReal)) (fun k l : Fin 1024 => (a5 (ix2 k l) : EReal)) (i 1)

/-- What a point leaves in its block, from the rows of its blocks. -/
theorem block_11 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R1 : Fin 1024 → EReal) (h1 : ∀ k, (x1 (ix2 y k) : EReal) = R1 k) (R6 : Fin 1024 → Fin 1024 → EReal) (h6 : ∀ k l, (x6 (ix2 k l) : EReal) = R6 k l) (d : Fin 1024) :
    out0_11 (F := Ideal) x0 x1 x2 x3 x4 x5 x6 x7 x8 x9 (ix2 y d) = dot R1 R6 d := by
  obtain rfl : R1 = fun k => x1 (ix2 y k) := funext fun k => (h1 k).symm
  obtain rfl : R6 = fun k l => x6 (ix2 k l) := funext fun k => funext fun l => (h6 k l).symm
  unfold out0_11
  rw [View.canon_unit_zero origin]
  simp only [View.ld_unit_zero (S := S256x1024) origin, View.ld_unit_zero (S := S1024x1024) origin, View.ld_unit_zero (S := S1x1024) origin]
  unfold k0_pay5 dot
  pointwise

/-- The array after the run. -/
theorem array_11 (c : Dev nD) : (dats m 0 c).arrAt 11 cfg0.N = out_11 (m (c.tc.loc main_arg1)) (m (c.tc.loc main_arg5)) :=
  (dats m 0 c).arrAt_eq_of_cover 11 _ (fun t hf => by
    rw [flushed11]
    funext j
    have ht : t.val < 32 := Nat.lt_of_lt_of_eq t.isLt N_0
    have h0 : (j 0).val < 256 := (j 0).isLt
    have hj : ((cfg0.win 11).blk t).view.emb j = (ix2 (⟨256 * t.val + (j 0).val, by omega⟩ : Fin 8192) (j 1 : Fin 1024) : S8192x1024.Idx) := by
      funext a
      apply Fin.ext
      match a with
      | ⟨0, _⟩ => show win0_11.index t 0 * 256 + 1 * (j 0).val = 256 * t.val + (j 0).val; rw [(places t).2.2.2.2.2.2.2.2.2.2.2.1.1]; omega
      | ⟨1, _⟩ => show win0_11.index t 1 * 1024 + 1 * (j 1).val = (j 1).val; rw [(places t).2.2.2.2.2.2.2.2.2.2.2.1.2]; omega
    have hc : ∀ o : Vec Ideal S256x1024 .f32, (cfg0.win 11).cut (grid0.coords t) o j = o j := fun _ => rfl
    have hG : ∀ G : Vec Ideal S8192x1024 .f32, G (ix2 (⟨256 * t.val + (j 0).val, by omega⟩ : Fin 8192) (j 1 : Fin 1024)) = ((cfg0.win 11).blk t).view.read (Elt Ideal) G j := fun G => by
      rw [View.read_apply]
      exact congrArg G hj.symm
    have hw : ∀ (y : Fin 256) (r : Fin 8192) (hr : r.val = 256 * t.val + y.val) (d : Fin 1024),
        out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_11 (m (c.tc.loc main_arg1)) (m (c.tc.loc main_arg5)) (ix2 r d) := fun y r hr d =>
      block_11 _ _ _ _ _ _ _ _ _ _ y _ (at_1 m c t y r hr) _ (at_6 m c t) d
    exact (hc _).trans (((congrArg (out0_11 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_11.index t 0 = (i 0).val / 256 := (places t).2.2.2.2.2.2.2.2.2.2.2.1.1
    have e1 : win0_11.index t 1 = 0 := (places t).2.2.2.2.2.2.2.2.2.2.2.1.2
    refine ⟨t, flush0_11 t, ?_⟩
    show i ∈ ((View.whole main_v0_1).slice ((cfg0.win 11).rect t)).set
    rw [View.set_slice_whole, Rect.mem_set_unit]
    intro b
    match b with
    | ⟨0, _⟩ => show win0_11.index t 0 * 256 ≤ (i 0).val ∧ (i 0).val < win0_11.index t 0 * 256 + 256; rw [e0]; omega
    | ⟨1, _⟩ => show win0_11.index t 1 * 1024 ≤ (i 1).val ∧ (i 1).val < win0_11.index t 1 * 1024 + 1024; rw [e1]; omega

/-! ## Output window 12 -/

/-- What the array ends with, as a function of the argument arrays. -/
def out_12 (a0 : Vec Ideal S8192x1024 .bf16) (a1 : Vec Ideal S8192x1024 .bf16) (a2 : Vec Ideal S8192x8192 .f32) (a4 : Vec Ideal S1024x1024 .bf16) (a5 : Vec Ideal S1024x1024 .bf16) : Vec Ideal S8192x1024 .bf16 := fun i =>
  mix (fun k : Fin 1024 => (a0 (ix2 (i 0) k) : EReal)) (fun k : Fin 1024 => (a1 (ix2 (i 0) k) : EReal)) (fun k : Fin 1024 => (a2 (ix2 (i 0) ⟨6144 + k.val, by have := k.isLt; omega⟩) : EReal)) (fun k : Fin 1024 => (a2 (ix2 (i 0) ⟨7168 + k.val, by have := k.isLt; omega⟩) : EReal)) (fun k l : Fin 1024 => (a4 (ix2 k l) : EReal)) (fun k l : Fin 1024 => (a5 (ix2 k l) : EReal)) (i 1)

/-- What a point leaves in its block, from the rows of its blocks. -/
theorem block_12 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 y k) : EReal) = R2 k) (R3 : Fin 1024 → EReal) (h3 : ∀ k, (x3 (ix2 y k) : EReal) = R3 k) (R5 : Fin 1024 → Fin 1024 → EReal) (h5 : ∀ k l, (x5 (ix2 k l) : EReal) = R5 k l) (R6 : Fin 1024 → Fin 1024 → EReal) (h6 : ∀ k l, (x6 (ix2 k l) : EReal) = R6 k l) (d : Fin 1024) :
    out0_12 (F := Ideal) x0 x1 x2 x3 x4 x5 x6 x7 x8 x9 (ix2 y d) = mix R0 R1 R2 R3 R5 R6 d := by
  obtain rfl : R0 = fun k => x0 (ix2 y k) := funext fun k => (h0 k).symm
  obtain rfl : R1 = fun k => x1 (ix2 y k) := funext fun k => (h1 k).symm
  obtain rfl : R2 = fun k => x2 (ix2 y k) := funext fun k => (h2 k).symm
  obtain rfl : R3 = fun k => x3 (ix2 y k) := funext fun k => (h3 k).symm
  obtain rfl : R5 = fun k l => x5 (ix2 k l) := funext fun k => funext fun l => (h5 k l).symm
  obtain rfl : R6 = fun k l => x6 (ix2 k l) := funext fun k => funext fun l => (h6 k l).symm
  unfold out0_12
  rw [View.canon_unit_zero origin]
  simp only [View.ld_unit_zero (S := S256x1024) origin, View.ld_unit_zero (S := S1024x1024) origin, View.ld_unit_zero (S := S1x1024) origin]
  unfold k0_pay2 k0_pay6 k0_pay4 k0_pay5 mix dot gateOf
  pointwise
  simp only [zero_sub]

/-- The array after the run. -/
theorem array_12 (c : Dev nD) : (dats m 0 c).arrAt 12 cfg0.N = out_12 (m (c.tc.loc main_arg0)) (m (c.tc.loc main_arg1)) (m (c.tc.loc main_arg2)) (m (c.tc.loc main_arg4)) (m (c.tc.loc main_arg5)) :=
  (dats m 0 c).arrAt_eq_of_cover 12 _ (fun t hf => by
    rw [flushed12]
    funext j
    have ht : t.val < 32 := Nat.lt_of_lt_of_eq t.isLt N_0
    have h0 : (j 0).val < 256 := (j 0).isLt
    have hj : ((cfg0.win 12).blk t).view.emb j = (ix2 (⟨256 * t.val + (j 0).val, by omega⟩ : Fin 8192) (j 1 : Fin 1024) : S8192x1024.Idx) := by
      funext a
      apply Fin.ext
      match a with
      | ⟨0, _⟩ => show win0_12.index t 0 * 256 + 1 * (j 0).val = 256 * t.val + (j 0).val; rw [(places t).2.2.2.2.2.2.2.2.2.2.2.2.1.1]; omega
      | ⟨1, _⟩ => show win0_12.index t 1 * 1024 + 1 * (j 1).val = (j 1).val; rw [(places t).2.2.2.2.2.2.2.2.2.2.2.2.1.2]; omega
    have hc : ∀ o : Vec Ideal S256x1024 .bf16, (cfg0.win 12).cut (grid0.coords t) o j = o j := fun _ => rfl
    have hG : ∀ G : Vec Ideal S8192x1024 .bf16, G (ix2 (⟨256 * t.val + (j 0).val, by omega⟩ : Fin 8192) (j 1 : Fin 1024)) = ((cfg0.win 12).blk t).view.read (Elt Ideal) G j := fun G => by
      rw [View.read_apply]
      exact congrArg G hj.symm
    have hw : ∀ (y : Fin 256) (r : Fin 8192) (hr : r.val = 256 * t.val + y.val) (d : Fin 1024),
        out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_12 (m (c.tc.loc main_arg0)) (m (c.tc.loc main_arg1)) (m (c.tc.loc main_arg2)) (m (c.tc.loc main_arg4)) (m (c.tc.loc main_arg5)) (ix2 r d) := fun y r hr d =>
      block_12 _ _ _ _ _ _ _ _ _ _ y _ (at_0 m c t y r hr) _ (at_1 m c t y r hr) _ (at_2 m c t y r hr) _ (at_3 m c t y r hr) _ (at_5 m c t) _ (at_6 m c t) d
    exact (hc _).trans (((congrArg (out0_12 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_12.index t 0 = (i 0).val / 256 := (places t).2.2.2.2.2.2.2.2.2.2.2.2.1.1
    have e1 : win0_12.index t 1 = 0 := (places t).2.2.2.2.2.2.2.2.2.2.2.2.1.2
    refine ⟨t, flush0_12 t, ?_⟩
    show i ∈ ((View.whole main_v0_2).slice ((cfg0.win 12).rect t)).set
    rw [View.set_slice_whole, Rect.mem_set_unit]
    intro b
    match b with
    | ⟨0, _⟩ => show win0_12.index t 0 * 256 ≤ (i 0).val ∧ (i 0).val < win0_12.index t 0 * 256 + 256; rw [e0]; omega
    | ⟨1, _⟩ => show win0_12.index t 1 * 1024 ≤ (i 1).val ∧ (i 1).val < win0_12.index t 1 * 1024 + 1024; rw [e1]; omega

/-! ## Output window 13 -/

/-- What the array ends with, as a function of the argument arrays. -/
def out_13 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) : Vec Ideal S8192x1024 .f32 := fun i =>
  resid (fun k : Fin 1024 => (a3 (ix2 (i 0) k) : EReal)) (dot (mix (fun k : Fin 1024 => (a0 (ix2 (i 0) k) : EReal)) (fun k : Fin 1024 => (a1 (ix2 (i 0) k) : EReal)) (fun k : Fin 1024 => (a2 (ix2 (i 0) ⟨6144 + k.val, by have := k.isLt; omega⟩) : EReal)) (fun k : Fin 1024 => (a2 (ix2 (i 0) ⟨7168 + k.val, by have := k.isLt; omega⟩) : EReal)) (fun k l : Fin 1024 => (a4 (ix2 k l) : EReal)) (fun k l : Fin 1024 => (a5 (ix2 k l) : EReal))) (fun k l : Fin 1024 => (a6 (ix2 k l) : EReal))) (i 1)

/-- What a point leaves in its block, from the rows of its blocks. -/
theorem block_13 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 y k) : EReal) = R2 k) (R3 : Fin 1024 → EReal) (h3 : ∀ k, (x3 (ix2 y k) : EReal) = R3 k) (R4 : Fin 1024 → EReal) (h4 : ∀ k, (x4 (ix2 y k) : EReal) = R4 k) (R5 : Fin 1024 → Fin 1024 → EReal) (h5 : ∀ k l, (x5 (ix2 k l) : EReal) = R5 k l) (R6 : Fin 1024 → Fin 1024 → EReal) (h6 : ∀ k l, (x6 (ix2 k l) : EReal) = R6 k l) (R7 : Fin 1024 → Fin 1024 → EReal) (h7 : ∀ k l, (x7 (ix2 k l) : EReal) = R7 k l) (d : Fin 1024) :
    out0_13 (F := Ideal) x0 x1 x2 x3 x4 x5 x6 x7 x8 x9 (ix2 y d) = resid R4 (dot (mix R0 R1 R2 R3 R5 R6) R7) d := by
  obtain rfl : R0 = fun k => x0 (ix2 y k) := funext fun k => (h0 k).symm
  obtain rfl : R1 = fun k => x1 (ix2 y k) := funext fun k => (h1 k).symm
  obtain rfl : R2 = fun k => x2 (ix2 y k) := funext fun k => (h2 k).symm
  obtain rfl : R3 = fun k => x3 (ix2 y k) := funext fun k => (h3 k).symm
  obtain rfl : R4 = fun k => x4 (ix2 y k) := funext fun k => (h4 k).symm
  obtain rfl : R5 = fun k l => x5 (ix2 k l) := funext fun k => funext fun l => (h5 k l).symm
  obtain rfl : R6 = fun k l => x6 (ix2 k l) := funext fun k => funext fun l => (h6 k l).symm
  obtain rfl : R7 = fun k l => x7 (ix2 k l) := funext fun k => funext fun l => (h7 k l).symm
  unfold out0_13 k0_pay8
  rw [View.canon_unit_zero origin]
  simp only [View.ld_unit_zero (S := S256x1024) origin, View.ld_unit_zero (S := S1024x1024) origin, View.ld_unit_zero (S := S1x1024) origin]
  unfold k0_pay7 k0_pay6 k0_pay4 k0_pay5 resid mix dot gateOf
  pointwise
  simp only [zero_sub]

/-- The array after the run. -/
theorem array_13 (c : Dev nD) : (dats m 0 c).arrAt 13 cfg0.N = out_13 (m (c.tc.loc main_arg0)) (m (c.tc.loc main_arg1)) (m (c.tc.loc main_arg2)) (m (c.tc.loc main_arg3)) (m (c.tc.loc main_arg4)) (m (c.tc.loc main_arg5)) (m (c.tc.loc main_arg6)) :=
  (dats m 0 c).arrAt_eq_of_cover 13 _ (fun t hf => by
    rw [flushed13]
    funext j
    have ht : t.val < 32 := Nat.lt_of_lt_of_eq t.isLt N_0
    have h0 : (j 0).val < 256 := (j 0).isLt
    have hj : ((cfg0.win 13).blk t).view.emb j = (ix2 (⟨256 * t.val + (j 0).val, by omega⟩ : Fin 8192) (j 1 : Fin 1024) : S8192x1024.Idx) := by
      funext a
      apply Fin.ext
      match a with
      | ⟨0, _⟩ => show win0_13.index t 0 * 256 + 1 * (j 0).val = 256 * t.val + (j 0).val; rw [(places t).2.2.2.2.2.2.2.2.2.2.2.2.2.1.1]; omega
      | ⟨1, _⟩ => show win0_13.index t 1 * 1024 + 1 * (j 1).val = (j 1).val; rw [(places t).2.2.2.2.2.2.2.2.2.2.2.2.2.1.2]; omega
    have hc : ∀ o : Vec Ideal S256x1024 .f32, (cfg0.win 13).cut (grid0.coords t) o j = o j := fun _ => rfl
    have hG : ∀ G : Vec Ideal S8192x1024 .f32, G (ix2 (⟨256 * t.val + (j 0).val, by omega⟩ : Fin 8192) (j 1 : Fin 1024)) = ((cfg0.win 13).blk t).view.read (Elt Ideal) G j := fun G => by
      rw [View.read_apply]
      exact congrArg G hj.symm
    have hw : ∀ (y : Fin 256) (r : Fin 8192) (hr : r.val = 256 * t.val + y.val) (d : Fin 1024),
        out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_13 (m (c.tc.loc main_arg0)) (m (c.tc.loc main_arg1)) (m (c.tc.loc main_arg2)) (m (c.tc.loc main_arg3)) (m (c.tc.loc main_arg4)) (m (c.tc.loc main_arg5)) (m (c.tc.loc main_arg6)) (ix2 r d) := fun y r hr d =>
      block_13 _ _ _ _ _ _ _ _ _ _ y _ (at_0 m c t y r hr) _ (at_1 m c t y r hr) _ (at_2 m c t y r hr) _ (at_3 m c t y r hr) _ (at_4 m c t y r hr) _ (at_5 m c t) _ (at_6 m c t) _ (at_7 m c t) d
    exact (hc _).trans (((congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_13.index t 0 = (i 0).val / 256 := (places t).2.2.2.2.2.2.2.2.2.2.2.2.2.1.1
    have e1 : win0_13.index t 1 = 0 := (places t).2.2.2.2.2.2.2.2.2.2.2.2.2.1.2
    refine ⟨t, flush0_13 t, ?_⟩
    show i ∈ ((View.whole main_v0_3).slice ((cfg0.win 13).rect t)).set
    rw [View.set_slice_whole, Rect.mem_set_unit]
    intro b
    match b with
    | ⟨0, _⟩ => show win0_13.index t 0 * 256 ≤ (i 0).val ∧ (i 0).val < win0_13.index t 0 * 256 + 256; rw [e0]; omega
    | ⟨1, _⟩ => show win0_13.index t 1 * 1024 ≤ (i 1).val ∧ (i 1).val < win0_13.index t 1 * 1024 + 1024; rw [e1]; omega

/-! ## Output window 14 -/

/-- What the array ends with, as a function of the argument arrays. -/
def out_14 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) (a7 : Vec Ideal S1x1024 .f32) (a8 : Vec Ideal S1x1024 .f32) : Vec Ideal S8192x1024 .f32 := fun i =>
  layerNorm (resid (fun k : Fin 1024 => (a3 (ix2 (i 0) k) : EReal)) (dot (mix (fun k : Fin 1024 => (a0 (ix2 (i 0) k) : EReal)) (fun k : Fin 1024 => (a1 (ix2 (i 0) k) : EReal)) (fun k : Fin 1024 => (a2 (ix2 (i 0) ⟨6144 + k.val, by have := k.isLt; omega⟩) : EReal)) (fun k : Fin 1024 => (a2 (ix2 (i 0) ⟨7168 + k.val, by have := k.isLt; omega⟩) : EReal)) (fun k l : Fin 1024 => (a4 (ix2 k l) : EReal)) (fun k l : Fin 1024 => (a5 (ix2 k l) : EReal))) (fun k l : Fin 1024 => (a6 (ix2 k l) : EReal)))) ((fun k : Fin 1024 => (a7 (ix2 0 k) : EReal)) (i 1)) ((fun k : Fin 1024 => (a8 (ix2 0 k) : EReal)) (i 1)) (i 1)

/-- What a point leaves in its block, from the rows of its blocks. -/
theorem block_14 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 y k) : EReal) = R2 k) (R3 : Fin 1024 → EReal) (h3 : ∀ k, (x3 (ix2 y k) : EReal) = R3 k) (R4 : Fin 1024 → EReal) (h4 : ∀ k, (x4 (ix2 y k) : EReal) = R4 k) (R5 : Fin 1024 → Fin 1024 → EReal) (h5 : ∀ k l, (x5 (ix2 k l) : EReal) = R5 k l) (R6 : Fin 1024 → Fin 1024 → EReal) (h6 : ∀ k l, (x6 (ix2 k l) : EReal) = R6 k l) (R7 : Fin 1024 → Fin 1024 → EReal) (h7 : ∀ k l, (x7 (ix2 k l) : EReal) = R7 k l) (R8 : Fin 1024 → EReal) (h8 : ∀ k, (x8 (ix2 0 k) : EReal) = R8 k) (R9 : Fin 1024 → EReal) (h9 : ∀ k, (x9 (ix2 0 k) : EReal) = R9 k) (d : Fin 1024) :
    out0_14 (F := Ideal) x0 x1 x2 x3 x4 x5 x6 x7 x8 x9 (ix2 y d) = layerNorm (resid R4 (dot (mix R0 R1 R2 R3 R5 R6) R7)) (R8 d) (R9 d) d := by
  obtain rfl : R0 = fun k => x0 (ix2 y k) := funext fun k => (h0 k).symm
  obtain rfl : R1 = fun k => x1 (ix2 y k) := funext fun k => (h1 k).symm
  obtain rfl : R2 = fun k => x2 (ix2 y k) := funext fun k => (h2 k).symm
  obtain rfl : R3 = fun k => x3 (ix2 y k) := funext fun k => (h3 k).symm
  obtain rfl : R4 = fun k => x4 (ix2 y k) := funext fun k => (h4 k).symm
  obtain rfl : R5 = fun k l => x5 (ix2 k l) := funext fun k => funext fun l => (h5 k l).symm
  obtain rfl : R6 = fun k l => x6 (ix2 k l) := funext fun k => funext fun l => (h6 k l).symm
  obtain rfl : R7 = fun k l => x7 (ix2 k l) := funext fun k => funext fun l => (h7 k l).symm
  obtain rfl : R8 = fun k => x8 (ix2 0 k) := funext fun k => (h8 k).symm
  obtain rfl : R9 = fun k => x9 (ix2 0 k) := funext fun k => (h9 k).symm
  unfold out0_14 k0_pay8
  rw [View.canon_unit_zero origin]
  simp only [View.ld_unit_zero (S := S256x1024) origin, View.ld_unit_zero (S := S1024x1024) origin, View.ld_unit_zero (S := S1x1024) origin]
  unfold k0_pay1 k0_pay7 k0_pay6 k0_pay4 k0_pay5 layerNorm mean resid mix dot gateOf
  pointwise
  simp only [zero_sub]

/-- The array after the run. -/
theorem array_14 (c : Dev nD) : (dats m 0 c).arrAt 14 cfg0.N = out_14 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) :=
  (dats m 0 c).arrAt_eq_of_cover 14 _ (fun t hf => by
    rw [flushed14]
    funext j
    have ht : t.val < 32 := Nat.lt_of_lt_of_eq t.isLt N_0
    have h0 : (j 0).val < 256 := (j 0).isLt
    have hj : ((cfg0.win 14).blk t).view.emb j = (ix2 (⟨256 * t.val + (j 0).val, by omega⟩ : Fin 8192) (j 1 : Fin 1024) : S8192x1024.Idx) := by
      funext a
      apply Fin.ext
      match a with
      | ⟨0, _⟩ => show win0_14.index t 0 * 256 + 1 * (j 0).val = 256 * t.val + (j 0).val; rw [(places t).2.2.2.2.2.2.2.2.2.2.2.2.2.2.1.1]; omega
      | ⟨1, _⟩ => show win0_14.index t 1 * 1024 + 1 * (j 1).val = (j 1).val; rw [(places t).2.2.2.2.2.2.2.2.2.2.2.2.2.2.1.2]; omega
    have hc : ∀ o : Vec Ideal S256x1024 .f32, (cfg0.win 14).cut (grid0.coords t) o j = o j := fun _ => rfl
    have hG : ∀ G : Vec Ideal S8192x1024 .f32, G (ix2 (⟨256 * t.val + (j 0).val, by omega⟩ : Fin 8192) (j 1 : Fin 1024)) = ((cfg0.win 14).blk t).view.read (Elt Ideal) G j := fun G => by
      rw [View.read_apply]
      exact congrArg G hj.symm
    have hw : ∀ (y : Fin 256) (r : Fin 8192) (hr : r.val = 256 * t.val + y.val) (d : Fin 1024),
        out0_14 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_14 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (ix2 r d) := fun y r hr d =>
      block_14 _ _ _ _ _ _ _ _ _ _ y _ (at_0 m c t y r hr) _ (at_1 m c t y r hr) _ (at_2 m c t y r hr) _ (at_3 m c t y r hr) _ (at_4 m c t y r hr) _ (at_5 m c t) _ (at_6 m c t) _ (at_7 m c t) _ (at_8 m c t 0) _ (at_9 m c t 0) d
    exact (hc _).trans (((congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_14.index t 0 = (i 0).val / 256 := (places t).2.2.2.2.2.2.2.2.2.2.2.2.2.2.1.1
    have e1 : win0_14.index t 1 = 0 := (places t).2.2.2.2.2.2.2.2.2.2.2.2.2.2.1.2
    refine ⟨t, flush0_14 t, ?_⟩
    show i ∈ ((View.whole main_v0_4).slice ((cfg0.win 14).rect t)).set
    rw [View.set_slice_whole, Rect.mem_set_unit]
    intro b
    match b with
    | ⟨0, _⟩ => show win0_14.index t 0 * 256 ≤ (i 0).val ∧ (i 0).val < win0_14.index t 0 * 256 + 256; rw [e0]; omega
    | ⟨1, _⟩ => show win0_14.index t 1 * 1024 ≤ (i 1).val ∧ (i 1).val < win0_14.index t 1 * 1024 + 1024; rw [e1]; omega

/-! ## Output window 15 -/

/-- What the array ends with, as a function of the argument arrays. -/
def out_15 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) (a7 : Vec Ideal S1x1024 .f32) (a8 : Vec Ideal S1x1024 .f32) : Vec Ideal S8192x1024 .bf16 := fun i =>
  layerNorm (resid (fun k : Fin 1024 => (a3 (ix2 (i 0) k) : EReal)) (dot (mix (fun k : Fin 1024 => (a0 (ix2 (i 0) k) : EReal)) (fun k : Fin 1024 => (a1 (ix2 (i 0) k) : EReal)) (fun k : Fin 1024 => (a2 (ix2 (i 0) ⟨6144 + k.val, by have := k.isLt; omega⟩) : EReal)) (fun k : Fin 1024 => (a2 (ix2 (i 0) ⟨7168 + k.val, by have := k.isLt; omega⟩) : EReal)) (fun k l : Fin 1024 => (a4 (ix2 k l) : EReal)) (fun k l : Fin 1024 => (a5 (ix2 k l) : EReal))) (fun k l : Fin 1024 => (a6 (ix2 k l) : EReal)))) ((fun k : Fin 1024 => (a7 (ix2 0 k) : EReal)) (i 1)) ((fun k : Fin 1024 => (a8 (ix2 0 k) : EReal)) (i 1)) (i 1)

/-- What a point leaves in its block, from the rows of its blocks. -/
theorem block_15 (x0 : Vec Ideal S256x1024 .bf16) (x1 : Vec Ideal S256x1024 .bf16) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (x8 : Vec Ideal S1x1024 .f32) (x9 : Vec Ideal S1x1024 .f32) (y : Fin 256) (R0 : Fin 1024 → EReal) (h0 : ∀ k, (x0 (ix2 y k) : EReal) = R0 k) (R1 : Fin 1024 → EReal) (h1 : ∀ k, (x1 (ix2 y k) : EReal) = R1 k) (R2 : Fin 1024 → EReal) (h2 : ∀ k, (x2 (ix2 y k) : EReal) = R2 k) (R3 : Fin 1024 → EReal) (h3 : ∀ k, (x3 (ix2 y k) : EReal) = R3 k) (R4 : Fin 1024 → EReal) (h4 : ∀ k, (x4 (ix2 y k) : EReal) = R4 k) (R5 : Fin 1024 → Fin 1024 → EReal) (h5 : ∀ k l, (x5 (ix2 k l) : EReal) = R5 k l) (R6 : Fin 1024 → Fin 1024 → EReal) (h6 : ∀ k l, (x6 (ix2 k l) : EReal) = R6 k l) (R7 : Fin 1024 → Fin 1024 → EReal) (h7 : ∀ k l, (x7 (ix2 k l) : EReal) = R7 k l) (R8 : Fin 1024 → EReal) (h8 : ∀ k, (x8 (ix2 0 k) : EReal) = R8 k) (R9 : Fin 1024 → EReal) (h9 : ∀ k, (x9 (ix2 0 k) : EReal) = R9 k) (d : Fin 1024) :
    out0_15 (F := Ideal) x0 x1 x2 x3 x4 x5 x6 x7 x8 x9 (ix2 y d) = layerNorm (resid R4 (dot (mix R0 R1 R2 R3 R5 R6) R7)) (R8 d) (R9 d) d := by
  obtain rfl : R0 = fun k => x0 (ix2 y k) := funext fun k => (h0 k).symm
  obtain rfl : R1 = fun k => x1 (ix2 y k) := funext fun k => (h1 k).symm
  obtain rfl : R2 = fun k => x2 (ix2 y k) := funext fun k => (h2 k).symm
  obtain rfl : R3 = fun k => x3 (ix2 y k) := funext fun k => (h3 k).symm
  obtain rfl : R4 = fun k => x4 (ix2 y k) := funext fun k => (h4 k).symm
  obtain rfl : R5 = fun k l => x5 (ix2 k l) := funext fun k => funext fun l => (h5 k l).symm
  obtain rfl : R6 = fun k l => x6 (ix2 k l) := funext fun k => funext fun l => (h6 k l).symm
  obtain rfl : R7 = fun k l => x7 (ix2 k l) := funext fun k => funext fun l => (h7 k l).symm
  obtain rfl : R8 = fun k => x8 (ix2 0 k) := funext fun k => (h8 k).symm
  obtain rfl : R9 = fun k => x9 (ix2 0 k) := funext fun k => (h9 k).symm
  unfold out0_15 k0_pay8
  rw [View.canon_unit_zero origin]
  simp only [View.ld_unit_zero (S := S256x1024) origin, View.ld_unit_zero (S := S1024x1024) origin, View.ld_unit_zero (S := S1x1024) origin]
  unfold k0_pay3 k0_pay1 k0_pay7 k0_pay6 k0_pay4 k0_pay5 layerNorm mean resid mix dot gateOf
  pointwise
  simp only [zero_sub]

/-- The array after the run. -/
theorem array_15 (c : Dev nD) : (dats m 0 c).arrAt 15 cfg0.N = out_15 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) :=
  (dats m 0 c).arrAt_eq_of_cover 15 _ (fun t hf => by
    rw [flushed15]
    funext j
    have ht : t.val < 32 := Nat.lt_of_lt_of_eq t.isLt N_0
    have h0 : (j 0).val < 256 := (j 0).isLt
    have hj : ((cfg0.win 15).blk t).view.emb j = (ix2 (⟨256 * t.val + (j 0).val, by omega⟩ : Fin 8192) (j 1 : Fin 1024) : S8192x1024.Idx) := by
      funext a
      apply Fin.ext
      match a with
      | ⟨0, _⟩ => show win0_15.index t 0 * 256 + 1 * (j 0).val = 256 * t.val + (j 0).val; rw [(places t).2.2.2.2.2.2.2.2.2.2.2.2.2.2.2.1]; omega
      | ⟨1, _⟩ => show win0_15.index t 1 * 1024 + 1 * (j 1).val = (j 1).val; rw [(places t).2.2.2.2.2.2.2.2.2.2.2.2.2.2.2.2]; omega
    have hc : ∀ o : Vec Ideal S256x1024 .bf16, (cfg0.win 15).cut (grid0.coords t) o j = o j := fun _ => rfl
    have hG : ∀ G : Vec Ideal S8192x1024 .bf16, G (ix2 (⟨256 * t.val + (j 0).val, by omega⟩ : Fin 8192) (j 1 : Fin 1024)) = ((cfg0.win 15).blk t).view.read (Elt Ideal) G j := fun G => by
      rw [View.read_apply]
      exact congrArg G hj.symm
    have hw : ∀ (y : Fin 256) (r : Fin 8192) (hr : r.val = 256 * t.val + y.val) (d : Fin 1024),
        out0_15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 y d) = out_15 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (ix2 r d) := fun y r hr d =>
      block_15 _ _ _ _ _ _ _ _ _ _ y _ (at_0 m c t y r hr) _ (at_1 m c t y r hr) _ (at_2 m c t y r hr) _ (at_3 m c t y r hr) _ (at_4 m c t y r hr) _ (at_5 m c t) _ (at_6 m c t) _ (at_7 m c t) _ (at_8 m c t 0) _ (at_9 m c t 0) d
    exact (hc _).trans (((congrArg (out0_15 (F := Ideal) (iblk m c 0 t) (iblk m c 1 t) (iblk m c 2 t) (iblk m c 3 t) (iblk m c 4 t) (iblk m c 5 t) (iblk m c 6 t) (iblk m c 7 t) (iblk m c 8 t) (iblk m c 9 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_15.index t 0 = (i 0).val / 256 := (places t).2.2.2.2.2.2.2.2.2.2.2.2.2.2.2.1
    have e1 : win0_15.index t 1 = 0 := (places t).2.2.2.2.2.2.2.2.2.2.2.2.2.2.2.2
    refine ⟨t, flush0_15 t, ?_⟩
    show i ∈ ((View.whole main_v0_5).slice ((cfg0.win 15).rect t)).set
    rw [View.set_slice_whole, Rect.mem_set_unit]
    intro b
    match b with
    | ⟨0, _⟩ => show win0_15.index t 0 * 256 ≤ (i 0).val ∧ (i 0).val < win0_15.index t 0 * 256 + 256; rw [e0]; omega
    | ⟨1, _⟩ => show win0_15.index t 1 * 1024 ≤ (i 1).val ∧ (i 1).val < win0_15.index t 1 * 1024 + 1024; rw [e1]; omega

end

theorem frame : Cert.quiescent_MixFwd := fun m ρ _ => Cert.MixFwd.Gen.frame (F := Bits) m ρ

theorem frame_ideal : Cert.quiescent_MixFwdIdeal := fun m ρ _ => Cert.MixFwdIdeal.Gen.frame (F := Ideal) m ρ

theorem frame_ref_ideal : Cert.quiescent_MixFwdRefIdeal := fun m ρ _ =>
  (θ_run Cert.MixFwdRefIdeal.defs _ _).mono (fun r h => ⟨fun c => (h c).2.2.2.2.2.2, sem_eq_zero_of_no_sems (by decide) r.2⟩)
    (Cert.MixFwdRefIdeal.Value.run (F := Ideal) m ρ)

section

open Cert.MixFwdRefIdeal Cert.MixFwdRefIdeal.Gen Cert.MixFwdRefIdeal.Value

/-! ## The plain formulas -/

theorem plain_10 (a0 : Vec Ideal S8192x1024 .bf16) (a4 : Vec Ideal S1024x1024 .bf16) :
    (Host.dotGeneral (φ₁ := .bf16) (φ₂ := .bf16) dot_S8192x1024_S1024x1024_S8192x1024_1_0_0_1_n_n none a0 a4 : FVec Ideal S8192x1024 .f32) = out_10 a0 a4 := by
  funext i
  unfold out_10 dot
  pointwise

theorem plain_11 (a1 : Vec Ideal S8192x1024 .bf16) (a5 : Vec Ideal S1024x1024 .bf16) :
    (Host.dotGeneral (φ₁ := .bf16) (φ₂ := .bf16) dot_S8192x1024_S1024x1024_S8192x1024_1_0_0_1_n_n none a1 a5 : FVec Ideal S8192x1024 .f32) = out_11 a1 a5 := by
  funext i
  unfold out_11 dot
  pointwise

theorem plain_12 (a0 : Vec Ideal S8192x1024 .bf16) (a1 : Vec Ideal S8192x1024 .bf16) (a2 : Vec Ideal S8192x8192 .f32) (a4 : Vec Ideal S1024x1024 .bf16) (a5 : Vec Ideal S1024x1024 .bf16) :
    (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32 : FVec Ideal S8192x1024 .bf16) = out_12 a0 a1 a2 a4 a5 := by
  funext i
  unfold out_12 mix dot gateOf
  pointwise

theorem plain_13 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) :
    (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6) : FVec Ideal S8192x1024 .f32) = out_13 a0 a1 a2 a3 a4 a5 a6 := by
  funext i
  unfold out_13 resid mix dot gateOf
  pointwise

theorem plain_14 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) (a7 : Vec Ideal S1x1024 .f32) (a8 : Vec Ideal S1x1024 .f32) :
    (addf (mulf (mulf (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32))))) (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 a7)) (broadcastInDim S8192x1024 ![0, 1] bcast_S1x1024_S8192x1024_0_1 a8) : FVec Ideal S8192x1024 .f32) = out_14 a0 a1 a2 a3 a4 a5 a6 a7 a8 := by
  funext i
  unfold out_14 layerNorm mean resid mix dot gateOf
  pointwise

theorem plain_15 (a0 : Vec Ideal S8192x1024 .bf16) (a1 : Vec Ideal S8192x1024 .bf16) (a2 : Vec Ideal S8192x8192 .f32) (a3 : Vec Ideal S8192x1024 .f32) (a4 : Vec Ideal S1024x1024 .bf16) (a5 : Vec Ideal S1024x1024 .bf16) (a6 : Vec Ideal S1024x1024 .bf16) (a7 : Vec Ideal S1x1024 .f32) (a8 : Vec Ideal S1x1024 .f32) :
    (truncf .bf16 (addf (mulf (mulf (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32))))) (broadcastInDim S8192x1024 ![0, 1] bcast_S8192x1_S8192x1024_0_1 (Host.rsqrt (addf (Host.divf (broadcastInDim S8192x1 ![0] bcast_S8192_S8192x1_0 (Host.reduceAdd (mulf (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32))))) (subf (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (broadcastInDim S8192x1024 ![0, 1] bcast_S8192x1_S8192x1024_0_1 (Host.divf (broadcastInDim S8192x1 ![0] bcast_S8192_S8192x1_0 (Host.reduceAdd (addf (mulf (broadcastInDim S8192x1024 ![] bcast_S_S8192x1024 (constant S_ .f32 0x3FB504F3#32)) a3) (Host.dotGeneral (φ₁ := .bf16) (φ₂ := .bf16) dot_S8192x1024_S1024x1024_S8192x1024_1_0_0_1_n_n none (truncf .bf16 (addf (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a2 slices_S8192x8192_S8192x1024_0_6144))))) (Host.dotGeneral (φ₁ := .bf16) (φ₂ := .bf16) dot_S8192x1024_S1024x1024_S8192x1024_1_0_0_1_n_n none a0 a4)) (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a2 slices_S8192x8192_S8192x1024_0_7168))))) (Host.dotGeneral (φ₁ := .bf16) (φ₂ := .bf16) dot_S8192x1024_S1024x1024_S8192x1024_1_0_0_1_n_n none a1 a5))) bitsLt_bf16_f32) a6)) (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim S8192x1024 ![0, 1] bcast_S1x1024_S8192x1024_0_1 a7)) (broadcastInDim S8192x1024 ![0, 1] bcast_S1x1024_S8192x1024_0_1 a8)) bitsLt_bf16_f32 : FVec Ideal S8192x1024 .bf16) = out_15 a0 a1 a2 a3 a4 a5 a6 a7 a8 := by
  funext i
  unfold out_15 layerNorm mean resid mix dot gateOf
  pointwise

end

theorem algebraic : Cert.algebraic_MixFwdIdeal_MixFwdRefIdeal := fun m g m' g' _ hm =>
  ⟨fun c => out_10 (m (c.tc.loc Cert.MixFwdIdeal.main_arg0)) (m (c.tc.loc Cert.MixFwdIdeal.main_arg4)), fun c => out_11 (m (c.tc.loc Cert.MixFwdIdeal.main_arg1)) (m (c.tc.loc Cert.MixFwdIdeal.main_arg5)), fun c => out_12 (m (c.tc.loc Cert.MixFwdIdeal.main_arg0)) (m (c.tc.loc Cert.MixFwdIdeal.main_arg1)) (m (c.tc.loc Cert.MixFwdIdeal.main_arg2)) (m (c.tc.loc Cert.MixFwdIdeal.main_arg4)) (m (c.tc.loc Cert.MixFwdIdeal.main_arg5)), fun c => out_13 (m (c.tc.loc Cert.MixFwdIdeal.main_arg0)) (m (c.tc.loc Cert.MixFwdIdeal.main_arg1)) (m (c.tc.loc Cert.MixFwdIdeal.main_arg2)) (m (c.tc.loc Cert.MixFwdIdeal.main_arg3)) (m (c.tc.loc Cert.MixFwdIdeal.main_arg4)) (m (c.tc.loc Cert.MixFwdIdeal.main_arg5)) (m (c.tc.loc Cert.MixFwdIdeal.main_arg6)), fun c => out_14 (m (c.tc.loc Cert.MixFwdIdeal.main_arg0)) (m (c.tc.loc Cert.MixFwdIdeal.main_arg1)) (m (c.tc.loc Cert.MixFwdIdeal.main_arg2)) (m (c.tc.loc Cert.MixFwdIdeal.main_arg3)) (m (c.tc.loc Cert.MixFwdIdeal.main_arg4)) (m (c.tc.loc Cert.MixFwdIdeal.main_arg5)) (m (c.tc.loc Cert.MixFwdIdeal.main_arg6)) (m (c.tc.loc Cert.MixFwdIdeal.main_arg7)) (m (c.tc.loc Cert.MixFwdIdeal.main_arg8)), fun c => out_15 (m (c.tc.loc Cert.MixFwdIdeal.main_arg0)) (m (c.tc.loc Cert.MixFwdIdeal.main_arg1)) (m (c.tc.loc Cert.MixFwdIdeal.main_arg2)) (m (c.tc.loc Cert.MixFwdIdeal.main_arg3)) (m (c.tc.loc Cert.MixFwdIdeal.main_arg4)) (m (c.tc.loc Cert.MixFwdIdeal.main_arg5)) (m (c.tc.loc Cert.MixFwdIdeal.main_arg6)) (m (c.tc.loc Cert.MixFwdIdeal.main_arg7)) (m (c.tc.loc Cert.MixFwdIdeal.main_arg8)),
    (θ_run Cert.MixFwdIdeal.defs _ _).mono (fun _ h c => ⟨(h c).1.trans (array_10 m c), (h c).2.1.trans (array_11 m c), (h c).2.2.1.trans (array_12 m c), (h c).2.2.2.1.trans (array_13 m c), (h c).2.2.2.2.1.trans (array_14 m c), (h c).2.2.2.2.2.1.trans (array_15 m c), (h c).2.2.2.2.2.2⟩) (Cert.MixFwdIdeal.Value.run_blocks (F := Ideal) m g),
    (θ_run Cert.MixFwdRefIdeal.defs _ _).mono (fun _ h c => ⟨(h c).1.trans ((plain_10 _ _).trans (by rw [(hm c).1, (hm c).2.2.2.2.1])), (h c).2.1.trans ((plain_11 _ _).trans (by rw [(hm c).2.1, (hm c).2.2.2.2.2.1])), (h c).2.2.1.trans ((plain_12 _ _ _ _ _).trans (by rw [(hm c).1, (hm c).2.1, (hm c).2.2.1, (hm c).2.2.2.2.1, (hm c).2.2.2.2.2.1])), (h c).2.2.2.1.trans ((plain_13 _ _ _ _ _ _ _).trans (by rw [(hm c).1, (hm c).2.1, (hm c).2.2.1, (hm c).2.2.2.1, (hm c).2.2.2.2.1, (hm c).2.2.2.2.2.1, (hm c).2.2.2.2.2.2.1])), (h c).2.2.2.2.1.trans ((plain_14 _ _ _ _ _ _ _ _ _).trans (by rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2])), (h c).2.2.2.2.2.1.trans ((plain_15 _ _ _ _ _ _ _ _ _).trans (by rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2])), (h c).2.2.2.2.2.2⟩) (Cert.MixFwdRefIdeal.Value.run (F := Ideal) m' g')⟩

end Cert.MixFwdProof

end
-- ==== Proof.Layers.GateSgu.lean ====
/- The gated norm of the heads, and the spatial gating unit. -/
module

public import proofs.«01_k».proof.Proof.Layers.Rows
public import proofs.«01_k».proof.Proof.Gen.GateSgu.Frame
public import proofs.«01_k».proof.Proof.Gen.GateSguIdeal.Value
public import proofs.«01_k».proof.Proof.Gen.GateSguRefIdeal.Run
public import Idealize.ShloMosaic.Lib.Pipeline.ValueKit.Tiles

@[expose] public section

noncomputable section

open Idealize.ShloMosaic Idealize.ShloMosaic.TcCoe
open Idealize.SL.Sem
open Idealize.ShloMosaic.Pipeline (Dat)
open Cert.GradXProof (origin)
open Cert.LayerProof

namespace Cert.GateSguProof

/-! ## The functions of a row -/

/-- The number of columns of a head, what its norm adds under the root, and the constants of the error function's gate. -/
abbrev width : EReal := Scalar.ofBits (F := Ideal) .f32 0x43000000#32
abbrev tiny : EReal := Scalar.ofBits (F := Ideal) .f32 0x358637BD#32
abbrev half : EReal := Scalar.ofBits (F := Ideal) .f32 0x3F000000#32
abbrev root : EReal := Scalar.ofBits (F := Ideal) .f32 0x3F3504F3#32

/-- A column of a head. -/
def col (h : Fin 8) (k : Fin 128) : Fin 1024 := ⟨128 * h.val + k.val, by omega⟩

/-- The head of a column. -/
def head (d : Fin 1024) : Fin 8 := ⟨d.val / 128, by omega⟩

theorem head_col (h : Fin 8) (k : Fin 128) : head (col h k) = h := Fin.ext (show (128 * h.val + k.val) / 128 = h.val by omega)

/-- A row normed within each head, with its gain, times the gate's logistic product. -/
def gated (o z w : Fin 1024 → EReal) (d : Fin 1024) : EReal :=
  o d * Ideal.rsqrt (Ideal.div (∑ k, o (col (head d) k) * o (col (head d) k)) width + tiny) * w d * (z d * gateOf (z d))

/-- The gate of the error function. -/
def gelu (x : EReal) : EReal := half * x * (1 + Ideal.erf (x * root))

/-- The spatial gating unit at row `y` of a block of 128 tokens: every row of the block, normed, is mixed by the head's matrix, of which
    the entries to later halves are left out. -/
def unit (y : Fin 128) (u : EReal) (v : Fin 128 → Fin 1024 → EReal) (g b : EReal) (w : Fin 128 → EReal) (s : EReal) (d : Fin 1024) : EReal :=
  gelu u * (∑ j : Fin 128, (if j.val / 64 ≤ y.val / 64 then w j else 0) * layerNorm (fun k => gelu (v j k)) g b d + s)

/-- A head's number among the lanes. -/
def lane (h : Fin 8) : Fin 128 := ⟨h.val, by omega⟩

/-! ## The words of the mask and of the lane's choice -/

/-- A selection by a comparison of halves. -/
theorem select_half (a b : Nat) (ha : a < 2) (hb : b < 2) (x z : EReal) :
    Scalar.select (IntOp.cmpi CmpIPredicate.sge (BitVec.ofNat 32 a) (BitVec.ofNat 32 b)) x z = if b ≤ a then x else z := by
  match a, ha, b, hb with
  | 0, _, 0, _ => rfl
  | 0, _, 1, _ => rfl
  | 1, _, 0, _ => rfl
  | 1, _, 1, _ => rfl

/-- The kernel's half of a row: a shift by six. -/
theorem shift_half : ∀ y : Fin 128, IntOp.shrui ArithUnit.vector (BitVec.ofNat 32 y.val) 6#32 = BitVec.ofNat 32 (y.val / 64) := by
  decide +kernel

/-- The kernel's comparison of a lane with a head's number. -/
theorem eq_lane : ∀ (x : Fin 128) (h : Fin 8), IntOp.cmpi CmpIPredicate.eq (BitVec.ofNat 32 x.val) (BitVec.ofNat 32 h.val) = if x = lane h then 1#1 else 0#1 := by
  decide +kernel

/-- The host's quotient of a word by 64, rounded down. -/
abbrev quot (n : BitVec 32) : BitVec 32 :=
  Scalar.select (IntOp.andi (IntOp.cmpi CmpIPredicate.ne (if n = 0 then 0 else if n.msb = true then -1 else 1 : BitVec 32)
      (if (64#32 : BitVec 32) = 0 then 0 else if (64#32 : BitVec 32).msb = true then -1 else 1 : BitVec 32))
      (IntOp.cmpi CmpIPredicate.ne (IntOp.remsi ArithUnit.host n 64#32) 0#32))
    (IntOp.subi (IntOp.divsi ArithUnit.host n 64#32) 1#32) (IntOp.divsi ArithUnit.host n 64#32)

/-- The reference's half of a row: the quotient by 64. -/
theorem quot_half : ∀ y : Fin 128, quot (BitVec.ofNat 32 y.val) = BitVec.ofNat 32 (y.val / 64) := by
  decide +kernel

section

open Cert.GateSguIdeal Cert.GateSguIdeal.Gen Cert.GateSguIdeal.Value

/-! ## The stores of a point, at an index -/

/-- One head's store of the gated norm. -/
theorem head_at (a b : Vec Ideal S128x128 .f32) (w : Vec Ideal S1x128 .f32) (y k : Fin 128) :
    k0_pay2 (F := Ideal) a b w (ix2 y k) = ((a (ix2 y k) : EReal) * Ideal.rsqrt (Ideal.div (∑ l : Fin 128, (a (ix2 y l) : EReal) * a (ix2 y l)) width + tiny)
      * w (ix2 0 k) * (b (ix2 y k) * gateOf (b (ix2 y k))) : EReal) := by
  unfold k0_pay2 gateOf
  pointwise
  simp only [zero_sub]

/-- The spatial gating unit's store for the head whose columns start at `o`. -/
def store (o : Nat) (hs : S128x1024.Slices ![0, o] S128x128) (g : BitVec 32) (v : FVec Ideal S128x1024 .f32) (bst : Vec Ideal S128x128 .f32)
    (ws : Vec Ideal S1x128x128 .f32) (u : Vec Ideal S128x128 .f32) : FVec Ideal S128x128 .bf16 :=
  k0_pay1 (addf (matmul dot_S128x128_S128x128_S128x128_1_0_0_1_n_n none
      (truncf .bf16 (select k0_pay21 (shapeCast S128x128 ws shapeCasts_S1x128x128_S128x128) (broadcast S128x128 (Scalar.ofBits .f32 0x00000000#32))) bitsLt_bf16_f32)
      (truncf .bf16 (extractStridedSlice S128x128 ![0, o] v hs) bitsLt_bf16_f32) (constant S128x128 .f32 0x00000000#32))
    (broadcastTo S128x128 (shapeCast S128x1 (multiReduction .add [1] S128
      (select (cmpi .eq (iota .tc S128x128 32 [1] iota_S128x128_d1_w32) (broadcast S128x128 g)) bst (broadcast S128x128 (Scalar.ofBits .f32 0x00000000#32)))
      0x00000000#32 reduces_S128x128_S128 (.inl rfl) rfl) shapeCasts_S128_S128x1) broadcasts_S128x1_S128x128)) u

/-- The normed block. -/
theorem norm_at (v : Vec Ideal S128x1024 .f32) (g b : Vec Ideal S1x1024 .f32) (y : Fin 128) (d : Fin 1024) :
    k0_pay20 (F := Ideal) (k0_pay17 v) (k0_pay18 v) k0_pay19 g b (ix2 y d) = layerNorm (fun k => gelu (v (ix2 y k))) (g (ix2 0 d)) (b (ix2 0 d)) d := by
  unfold k0_pay20 k0_pay18 k0_pay19 k0_pay17 layerNorm mean gelu
  pointwise
  simp only [Ideal.erf_def]

/-- The store, at an index: the gate times the masked product with the normed rows, the bias added. -/
theorem store_at (h : Fin 8) (o : Nat) (ho : o = 128 * h.val) (hs : S128x1024.Slices ![0, o] S128x128) (v : FVec Ideal S128x1024 .f32)
    (bst : Vec Ideal S128x128 .f32) (ws : Vec Ideal S1x128x128 .f32) (u : Vec Ideal S128x128 .f32) (y k : Fin 128) :
    store o hs (BitVec.ofNat 32 h.val) v bst ws u (ix2 y k) = (gelu (u (ix2 y k)) * (∑ j : Fin 128, (if j.val / 64 ≤ y.val / 64 then (ws (ix3 0 y j) : EReal) else 0)
      * v (ix2 j (col h k)) + bst (ix2 y (lane h))) : EReal) := by
  subst ho
  have hl : (∑ x : Fin 128, Scalar.select (if x = lane h then 1#1 else 0#1) (bst (ix2 y x) : EReal) 0) = bst (ix2 y (lane h)) := by
    rw [Finset.sum_eq_single (lane h) (fun x _ hx => by rw [if_neg hx]; rfl) (fun hx => absurd (Finset.mem_univ _) hx), if_pos rfl]
    rfl
  unfold store k0_pay1 k0_pay21 gelu
  pointwise
  simp only [Ideal.erf_def, shift_half, eq_lane]
  rw [hl]
  congr 2
  refine Finset.sum_congr rfl fun j _ => ?_
  rw [select_half _ _ (by omega) (by omega)]
  show (if j.val / 64 ≤ y.val / 64 then (ws (ix3 0 y j) : EReal) * v (ix2 j (col h k)) else 0) = _
  split
  · rfl
  · rw [zero_mul]

/-! ## A head's columns of a block -/

/-- A load of a head's columns, at an index. -/
theorem ld_col {n : Nat} (x : Vec Ideal ⟨_, ![n, 1024]⟩ .f32) (h : Fin 8) (o : Nat) (ho : o = 128 * h.val)
    (hi : ∀ a, (![0, o] : Fin 2 → Nat) a + (⟨_, ![n, 128]⟩ : Shape).size a ≤ (⟨_, ![n, 1024]⟩ : Shape).size a) (y : Fin n) (k : Fin 128) :
    View.ld (Val := Elt Ideal) (S := ⟨_, ![n, 1024]⟩) x (Rect.unit (s := ⟨_, ![n, 1024]⟩) ![0, o] (⟨_, ![n, 128]⟩ : Shape).size hi) (ix2 y k) = x (ix2 y (col h k)) :=
  View.ld_unit_apply_of (Val := Elt Ideal) (S := ⟨_, ![n, 1024]⟩) x _ _ _ _ _ fun a => match a with
    | ⟨0, _⟩ => (Nat.zero_add _).symm
    | ⟨1, _⟩ => by subst ho; rfl

/-- Where a head's store stands in the block. -/
theorem emb_col (h : Fin 8) (o : Nat) (ho : o = 128 * h.val) (hi : ∀ a, (![0, o] : Fin 2 → Nat) a + S128x128.size a ≤ S128x1024.size a) (j : S128x128.Idx) :
    ((Rect.unit (s := S128x1024) ![0, o] S128x128.size hi).emb j : S128x1024.Idx) = ix2 (j 0) (col h (j 1)) := by
  subst ho
  funext a
  apply Fin.ext
  match a with
  | ⟨0, _⟩ => show 0 + 1 * (j 0).val = (j 0).val; omega
  | ⟨1, _⟩ => show 128 * h.val + 1 * (j 1).val = 128 * h.val + (j 1).val; omega

/-- A block's rows through the gated norm, and through the spatial gating unit. -/
def gatedOf (x0 x1 : Vec Ideal S128x1024 .f32) (x4 : Vec Ideal S1x1024 .f32) (i : S128x1024.Idx) : EReal :=
  gated (fun k => x0 (ix2 (i 0) k)) (fun k => x1 (ix2 (i 0) k)) (fun k => x4 (ix2 0 k)) (i 1)
def unitOf (x2 x3 : Vec Ideal S128x1024 .f32) (x5 x6 : Vec Ideal S1x1024 .f32) (x7 : Vec Ideal S8x128x128 .f32) (x8 : Vec Ideal S128x128 .f32)
    (i : S128x1024.Idx) : EReal :=
  unit (i 0) (x2 (ix2 (i 0) (i 1))) (fun j k => x3 (ix2 j k)) (x5 (ix2 0 (i 1))) (x6 (ix2 0 (i 1))) (fun j => x7 (ix3 (head (i 1)) (i 0) j))
    (x8 (ix2 (i 0) (lane (head (i 1))))) (i 1)

/-- Each head's store holds the block's gated norm. -/
theorem head_piece_at (x0 x1 : Vec Ideal S128x1024 .f32) (x4 : Vec Ideal S1x1024 .f32) (h : Fin 8) (o : Nat) (ho : o = 128 * h.val)
    (hi : ∀ a, (![0, o] : Fin 2 → Nat) a + S128x128.size a ≤ S128x1024.size a) (hj : ∀ a, (![0, o] : Fin 2 → Nat) a + S1x128.size a ≤ S1x1024.size a)
    (y k : Fin 128) :
    k0_pay2 (F := Ideal) (View.ld x0 (Rect.unit (s := S128x1024) ![0, o] S128x128.size hi)) (View.ld x1 (Rect.unit (s := S128x1024) ![0, o] S128x128.size hi))
      (View.ld x4 (Rect.unit (s := S1x1024) ![0, o] S1x128.size hj)) (ix2 y k) = gatedOf x0 x1 x4 (ix2 y (col h k)) := by
  have e0 : ∀ k : Fin 128, View.ld (Val := Elt Ideal) x0 (Rect.unit (s := S128x1024) ![0, o] S128x128.size hi) (ix2 y k) = x0 (ix2 y (col h k)) := fun k => ld_col x0 h o ho hi y k
  have e1 : ∀ k : Fin 128, View.ld (Val := Elt Ideal) x1 (Rect.unit (s := S128x1024) ![0, o] S128x128.size hi) (ix2 y k) = x1 (ix2 y (col h k)) := fun k => ld_col x1 h o ho hi y k
  have e4 : ∀ k : Fin 128, View.ld (Val := Elt Ideal) x4 (Rect.unit (s := S1x1024) ![0, o] S1x128.size hj) (ix2 (0 : Fin 1) k) = x4 (ix2 0 (col h k)) := fun k => ld_col x4 h o ho hj 0 k
  refine (head_at _ _ _ y k).trans ?_
  show _ = gated (fun k => x0 (ix2 y k)) (fun k => x1 (ix2 y k)) (fun k => x4 (ix2 0 k)) (col h k)
  simp only [gated, head_col, e0, e1, e4]

theorem head_piece (x0 x1 : Vec Ideal S128x1024 .f32) (x4 : Vec Ideal S1x1024 .f32) (h : Fin 8) (o : Nat) (ho : o = 128 * h.val)
    (hi : ∀ a, (![0, o] : Fin 2 → Nat) a + S128x128.size a ≤ S128x1024.size a) (hj : ∀ a, (![0, o] : Fin 2 → Nat) a + S1x128.size a ≤ S1x1024.size a)
    (j : S128x128.Idx) :
    k0_pay2 (F := Ideal) (View.ld x0 (Rect.unit (s := S128x1024) ![0, o] S128x128.size hi)) (View.ld x1 (Rect.unit (s := S128x1024) ![0, o] S128x128.size hi))
      (View.ld x4 (Rect.unit (s := S1x1024) ![0, o] S1x128.size hj)) j = gatedOf x0 x1 x4 ((Rect.unit (s := S128x1024) ![0, o] S128x128.size hi).emb j) :=
  (congrArg _ (eq_ix2 (j : S128x128.Idx))).trans ((head_piece_at x0 x1 x4 h o ho hi hj (j 0) (j 1)).trans (congrArg (gatedOf x0 x1 x4) (emb_col h o ho hi j).symm))

/-- Each head's store holds the block's spatial gating unit. -/
theorem unit_piece_at (x2 x3 : Vec Ideal S128x1024 .f32) (x5 x6 : Vec Ideal S1x1024 .f32) (x7 : Vec Ideal S8x128x128 .f32) (x8 : Vec Ideal S128x128 .f32)
    (h : Fin 8) (o : Nat) (ho : o = 128 * h.val) (n : Nat) (hn : n = h.val) (hs : S128x1024.Slices ![0, o] S128x128)
    (hi : ∀ a, (![0, o] : Fin 2 → Nat) a + S128x128.size a ≤ S128x1024.size a)
    (hj : ∀ a, (![n, 0, 0] : Fin 3 → Nat) a + S1x128x128.size a ≤ S8x128x128.size a) (y k : Fin 128) :
    store o hs (BitVec.ofNat 32 n) (k0_pay20 (F := Ideal) (k0_pay17 x3) (k0_pay18 x3) k0_pay19 x5 x6) x8
      (View.ld x7 (Rect.unit (s := S8x128x128) ![n, 0, 0] S1x128x128.size hj)) (View.ld x2 (Rect.unit (s := S128x1024) ![0, o] S128x128.size hi)) (ix2 y k)
      = unitOf x2 x3 x5 x6 x7 x8 (ix2 y (col h k)) := by
  subst hn
  have e2 : ∀ k : Fin 128, View.ld (Val := Elt Ideal) x2 (Rect.unit (s := S128x1024) ![0, o] S128x128.size hi) (ix2 y k) = x2 (ix2 y (col h k)) := fun k => ld_col x2 h o ho hi y k
  have e7 : ∀ l : Fin 128, View.ld (Val := Elt Ideal) x7 (Rect.unit (s := S8x128x128) ![h.val, 0, 0] S1x128x128.size hj) (ix3 (0 : Fin 1) y l) = x7 (ix3 h y l) := fun l =>
    View.ld_unit_apply_of (Val := Elt Ideal) (S := S8x128x128) x7 _ _ _ _ _ fun a => match a with
      | ⟨0, _⟩ => rfl
      | ⟨1, _⟩ => (Nat.zero_add _).symm
      | ⟨2, _⟩ => (Nat.zero_add _).symm
  refine (store_at h o ho hs _ _ _ _ y k).trans ?_
  show _ = unit y (x2 (ix2 y (col h k))) (fun l k => x3 (ix2 l k)) (x5 (ix2 0 (col h k))) (x6 (ix2 0 (col h k)))
    (fun l => x7 (ix3 (head (col h k)) y l)) (x8 (ix2 y (lane (head (col h k))))) (col h k)
  simp only [unit, head_col, e2, e7, norm_at]

theorem unit_piece (x2 x3 : Vec Ideal S128x1024 .f32) (x5 x6 : Vec Ideal S1x1024 .f32) (x7 : Vec Ideal S8x128x128 .f32) (x8 : Vec Ideal S128x128 .f32)
    (h : Fin 8) (o : Nat) (ho : o = 128 * h.val) (n : Nat) (hn : n = h.val) (hs : S128x1024.Slices ![0, o] S128x128)
    (hi : ∀ a, (![0, o] : Fin 2 → Nat) a + S128x128.size a ≤ S128x1024.size a)
    (hj : ∀ a, (![n, 0, 0] : Fin 3 → Nat) a + S1x128x128.size a ≤ S8x128x128.size a) (j : S128x128.Idx) :
    store o hs (BitVec.ofNat 32 n) (k0_pay20 (F := Ideal) (k0_pay17 x3) (k0_pay18 x3) k0_pay19 x5 x6) x8
      (View.ld x7 (Rect.unit (s := S8x128x128) ![n, 0, 0] S1x128x128.size hj)) (View.ld x2 (Rect.unit (s := S128x1024) ![0, o] S128x128.size hi)) j
      = unitOf x2 x3 x5 x6 x7 x8 ((Rect.unit (s := S128x1024) ![0, o] S128x128.size hi).emb j) :=
  (congrArg _ (eq_ix2 (j : S128x128.Idx))).trans ((unit_piece_at x2 x3 x5 x6 x7 x8 h o ho n hn hs hi hj (j 0) (j 1)).trans
    (congrArg (unitOf x2 x3 x5 x6 x7 x8) (emb_col h o ho hi j).symm))

/-- What a point leaves in its two blocks. -/
theorem block_9 (x0 x1 x2 x3 : Vec Ideal S128x1024 .f32) (x4 x5 x6 : Vec Ideal S1x1024 .f32) (x7 : Vec Ideal S8x128x128 .f32) (x8 : Vec Ideal S128x128 .f32)
    (i : S128x1024.Idx) : out0_9 (F := Ideal) x0 x1 x2 x3 x4 x5 x6 x7 x8 i = gatedOf x0 x1 x4 i := by
  unfold out0_9
  refine View.canon_apply_of_pieces (Val := Elt Ideal) (S := S128x1024) (e := .bf16) (gatedOf x0 x1 x4) _ ?_ i (cover0_9 _ _ _ _ _ _ _ _ i)
  intro pc hpc j
  simp only [List.mem_cons, List.not_mem_nil, or_false] at hpc
  rcases hpc with rfl | rfl | rfl | rfl | rfl | rfl | rfl | rfl
  · exact head_piece x0 x1 x4 7 896 rfl inb_S128x1024_S128x128_0_896 inb_S1x1024_S1x128_0_896 j
  · exact head_piece x0 x1 x4 6 768 rfl inb_S128x1024_S128x128_0_768 inb_S1x1024_S1x128_0_768 j
  · exact head_piece x0 x1 x4 5 640 rfl inb_S128x1024_S128x128_0_640 inb_S1x1024_S1x128_0_640 j
  · exact head_piece x0 x1 x4 4 512 rfl inb_S128x1024_S128x128_0_512 inb_S1x1024_S1x128_0_512 j
  · exact head_piece x0 x1 x4 3 384 rfl inb_S128x1024_S128x128_0_384 inb_S1x1024_S1x128_0_384 j
  · exact head_piece x0 x1 x4 2 256 rfl inb_S128x1024_S128x128_0_256 inb_S1x1024_S1x128_0_256 j
  · exact head_piece x0 x1 x4 1 128 rfl inb_S128x1024_S128x128_0_128 inb_S1x1024_S1x128_0_128 j
  · exact head_piece x0 x1 x4 0 0 rfl inb_S128x1024_S128x128_0_0 inb_S1x1024_S1x128_0_0 j

theorem block_10 (x0 x1 x2 x3 : Vec Ideal S128x1024 .f32) (x4 x5 x6 : Vec Ideal S1x1024 .f32) (x7 : Vec Ideal S8x128x128 .f32) (x8 : Vec Ideal S128x128 .f32)
    (i : S128x1024.Idx) : out0_10 (F := Ideal) x0 x1 x2 x3 x4 x5 x6 x7 x8 i = unitOf x2 x3 x5 x6 x7 x8 i := by
  unfold out0_10 k0_pay46 k0_pay45 k0_pay44 k0_pay43 k0_pay42 k0_pay41
  simp only [View.ld_unit_zero (S := S128x1024) origin, View.ld_unit_zero (S := S1x1024) origin, View.ld_unit_zero (S := S128x128) origin]
  refine View.canon_apply_of_pieces (Val := Elt Ideal) (S := S128x1024) (e := .bf16) (unitOf x2 x3 x5 x6 x7 x8) _ ?_ i (cover0_10 _ _ _ _ _ _ _ _ i)
  intro pc hpc j
  simp only [List.mem_cons, List.not_mem_nil, or_false] at hpc
  rcases hpc with rfl | rfl | rfl | rfl | rfl | rfl | rfl | rfl
  · exact unit_piece x2 x3 x5 x6 x7 x8 7 896 rfl 7 rfl slices_S128x1024_o0_896_S128x128 inb_S128x1024_S128x128_0_896 inb_S8x128x128_S1x128x128_7_0_0 j
  · exact unit_piece x2 x3 x5 x6 x7 x8 6 768 rfl 6 rfl slices_S128x1024_o0_768_S128x128 inb_S128x1024_S128x128_0_768 inb_S8x128x128_S1x128x128_6_0_0 j
  · exact unit_piece x2 x3 x5 x6 x7 x8 5 640 rfl 5 rfl slices_S128x1024_o0_640_S128x128 inb_S128x1024_S128x128_0_640 inb_S8x128x128_S1x128x128_5_0_0 j
  · exact unit_piece x2 x3 x5 x6 x7 x8 4 512 rfl 4 rfl slices_S128x1024_o0_512_S128x128 inb_S128x1024_S128x128_0_512 inb_S8x128x128_S1x128x128_4_0_0 j
  · exact unit_piece x2 x3 x5 x6 x7 x8 3 384 rfl 3 rfl slices_S128x1024_o0_384_S128x128 inb_S128x1024_S128x128_0_384 inb_S8x128x128_S1x128x128_3_0_0 j
  · exact unit_piece x2 x3 x5 x6 x7 x8 2 256 rfl 2 rfl slices_S128x1024_o0_256_S128x128 inb_S128x1024_S128x128_0_256 inb_S8x128x128_S1x128x128_2_0_0 j
  · exact unit_piece x2 x3 x5 x6 x7 x8 1 128 rfl 1 rfl slices_S128x1024_o0_128_S128x128 inb_S128x1024_S128x128_0_128 inb_S8x128x128_S1x128x128_1_0_0 j
  · exact unit_piece x2 x3 x5 x6 x7 x8 0 0 rfl 0 rfl slices_S128x1024_o0_0_S128x128 inb_S128x1024_S128x128_0_0 inb_S8x128x128_S1x128x128_0_0_0 j

/-! ## The arrays -/

/-- Where each window stands at a point. -/
theorem places : ∀ t : Fin cfg0.N, (win0_0.index t 0 = t.val ∧ win0_0.index t 1 = 0) ∧ (win0_1.index t 0 = t.val ∧ win0_1.index t 1 = 3) ∧ (win0_2.index t 0 = t.val ∧ win0_2.index t 1 = 4) ∧ (win0_3.index t 0 = t.val ∧ win0_3.index t 1 = 5) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0 ∧ win0_7.index t 2 = 0) ∧ (win0_8.index t 0 = 0 ∧ win0_8.index t 1 = 0) ∧ (win0_9.index t 0 = t.val ∧ win0_9.index t 1 = 0) ∧ (win0_10.index t 0 = t.val ∧ win0_10.index t 1 = 0) :=
  (by decide +kernel : ∀ t : Fin grid0.N, _)

variable (m : (ℓ : Loc nD τ sig) → Buf (Elt Ideal) ℓ)

theorem at_0 (c : Dev nD) (t : Fin cfg0.N) (y : Fin 128) (r : Fin 8192) (hr : r.val = 128 * t.val + y.val) (d : Fin 1024) :
    (iblk m c 0 t : Vec Ideal S128x1024 .f32) (ix2 y d) = (m (c.tc.loc main_arg0) : Vec Ideal S8192x1024 .f32) (ix2 r d) := by
  unfold iblk
  rw [View.read_apply]
  show m (c.tc.loc main_arg0) _ = _
  congr 1
  funext a
  apply Fin.ext
  match a with
  | ⟨0, _⟩ => show win0_0.index t 0 * 128 + 1 * y.val = r.val; rw [(places t).1.1]; omega
  | ⟨1, _⟩ => show win0_0.index t 1 * 1024 + 1 * d.val = d.val; rw [(places t).1.2]; omega

theorem at_1 (c : Dev nD) (t : Fin cfg0.N) (y : Fin 128) (r : Fin 8192) (hr : r.val = 128 * t.val + y.val) (d : Fin 1024) :
    (iblk m c 1 t : Vec Ideal S128x1024 .f32) (ix2 y d) = (m (c.tc.loc main_arg1) : Vec Ideal S8192x8192 .f32) (ix2 r ⟨3072 + d.val, by omega⟩) := by
  unfold iblk
  rw [View.read_apply]
  show m (c.tc.loc main_arg1) _ = _
  congr 1
  funext a
  apply Fin.ext
  match a with
  | ⟨0, _⟩ => show win0_1.index t 0 * 128 + 1 * y.val = r.val; rw [(places t).2.1.1]; omega
  | ⟨1, _⟩ => show win0_1.index t 1 * 1024 + 1 * d.val = 3072 + d.val; rw [(places t).2.1.2]; omega

theorem at_2 (c : Dev nD) (t : Fin cfg0.N) (y : Fin 128) (r : Fin 8192) (hr : r.val = 128 * t.val + y.val) (d : Fin 1024) :
    (iblk m c 2 t : Vec Ideal S128x1024 .f32) (ix2 y d) = (m (c.tc.loc main_arg1) : Vec Ideal S8192x8192 .f32) (ix2 r ⟨4096 + d.val, by omega⟩) := by
  unfold iblk
  rw [View.read_apply]
  show m (c.tc.loc main_arg1) _ = _
  congr 1
  funext a
  apply Fin.ext
  match a with
  | ⟨0, _⟩ => show win0_2.index t 0 * 128 + 1 * y.val = r.val; rw [(places t).2.2.1.1]; omega
  | ⟨1, _⟩ => show win0_2.index t 1 * 1024 + 1 * d.val = 4096 + d.val; rw [(places t).2.2.1.2]; omega

theorem at_3 (c : Dev nD) (t : Fin cfg0.N) (y : Fin 128) (r : Fin 8192) (hr : r.val = 128 * t.val + y.val) (d : Fin 1024) :
    (iblk m c 3 t : Vec Ideal S128x1024 .f32) (ix2 y d) = (m (c.tc.loc main_arg1) : Vec Ideal S8192x8192 .f32) (ix2 r ⟨5120 + d.val, by omega⟩) := by
  unfold iblk
  rw [View.read_apply]
  show m (c.tc.loc main_arg1) _ = _
  congr 1
  funext a
  apply Fin.ext
  match a with
  | ⟨0, _⟩ => show win0_3.index t 0 * 128 + 1 * y.val = r.val; rw [(places t).2.2.2.1.1]; omega
  | ⟨1, _⟩ => show win0_3.index t 1 * 1024 + 1 * d.val = 5120 + d.val; rw [(places t).2.2.2.1.2]; omega

theorem at_4 (c : Dev nD) (t : Fin cfg0.N) (y : Fin 1) (d : Fin 1024) :
    (iblk m c 4 t : Vec Ideal S1x1024 .f32) (ix2 y d) = (m (c.tc.loc main_arg2) : Vec Ideal S1x1024 .f32) (ix2 y d) := by
  unfold iblk
  rw [View.read_apply]
  show m (c.tc.loc main_arg2) _ = _
  congr 1
  funext a
  apply Fin.ext
  match a with
  | ⟨0, _⟩ => show win0_4.index t 0 * 1 + 1 * y.val = y.val; rw [(places t).2.2.2.2.1.1]; omega
  | ⟨1, _⟩ => show win0_4.index t 1 * 1024 + 1 * d.val = d.val; rw [(places t).2.2.2.2.1.2]; omega

theorem at_5 (c : Dev nD) (t : Fin cfg0.N) (y : Fin 1) (d : Fin 1024) :
    (iblk m c 5 t : Vec Ideal S1x1024 .f32) (ix2 y d) = (m (c.tc.loc main_arg3) : Vec Ideal S1x1024 .f32) (ix2 y d) := by
  unfold iblk
  rw [View.read_apply]
  show m (c.tc.loc main_arg3) _ = _
  congr 1
  funext a
  apply Fin.ext
  match a with
  | ⟨0, _⟩ => show win0_5.index t 0 * 1 + 1 * y.val = y.val; rw [(places t).2.2.2.2.2.1.1]; omega
  | ⟨1, _⟩ => show win0_5.index t 1 * 1024 + 1 * d.val = d.val; rw [(places t).2.2.2.2.2.1.2]; omega

theorem at_6 (c : Dev nD) (t : Fin cfg0.N) (y : Fin 1) (d : Fin 1024) :
    (iblk m c 6 t : Vec Ideal S1x1024 .f32) (ix2 y d) = (m (c.tc.loc main_arg4) : Vec Ideal S1x1024 .f32) (ix2 y d) := by
  unfold iblk
  rw [View.read_apply]
  show m (c.tc.loc main_arg4) _ = _
  congr 1
  funext a
  apply Fin.ext
  match a with
  | ⟨0, _⟩ => show win0_6.index t 0 * 1 + 1 * y.val = y.val; rw [(places t).2.2.2.2.2.2.1.1]; omega
  | ⟨1, _⟩ => show win0_6.index t 1 * 1024 + 1 * d.val = d.val; rw [(places t).2.2.2.2.2.2.1.2]; omega

theorem at_7 (c : Dev nD) (t : Fin cfg0.N) (h : Fin 8) (y d : Fin 128) :
    (iblk m c 7 t : Vec Ideal S8x128x128 .f32) (ix3 h y d) = (m (c.tc.loc main_arg5) : Vec Ideal S8x128x128 .f32) (ix3 h y d) := by
  unfold iblk
  rw [View.read_apply]
  show m (c.tc.loc main_arg5) _ = _
  congr 1
  funext a
  apply Fin.ext
  match a with
  | ⟨0, _⟩ => show win0_7.index t 0 * 8 + 1 * h.val = h.val; rw [(places t).2.2.2.2.2.2.2.1.1]; omega
  | ⟨1, _⟩ => show win0_7.index t 1 * 128 + 1 * y.val = y.val; rw [(places t).2.2.2.2.2.2.2.1.2.1]; omega
  | ⟨2, _⟩ => show win0_7.index t 2 * 128 + 1 * d.val = d.val; rw [(places t).2.2.2.2.2.2.2.1.2.2]; omega

theorem at_8 (c : Dev nD) (t : Fin cfg0.N) (y d : Fin 128) :
    (iblk m c 8 t : Vec Ideal S128x128 .f32) (ix2 y d) = (m (c.tc.loc main_arg6) : Vec Ideal S128x128 .f32) (ix2 y d) := by
  unfold iblk
  rw [View.read_apply]
  show m (c.tc.loc main_arg6) _ = _
  congr 1
  funext a
  apply Fin.ext
  match a with
  | ⟨0, _⟩ => show win0_8.index t 0 * 128 + 1 * y.val = y.val; rw [(places t).2.2.2.2.2.2.2.2.1.1]; omega
  | ⟨1, _⟩ => show win0_8.index t 1 * 128 + 1 * d.val = d.val; rw [(places t).2.2.2.2.2.2.2.2.1.2]; omega

/-- What the two arrays end with, as functions of the argument arrays. -/
def out_9 (a0 : Vec Ideal S8192x1024 .f32) (a1 : Vec Ideal S8192x8192 .f32) (a2 : Vec Ideal S1x1024 .f32) : Vec Ideal S8192x1024 .bf16 := fun i =>
  gated (fun k => a0 (ix2 (i 0) k)) (fun k => a1 (ix2 (i 0) ⟨3072 + k.val, by omega⟩)) (fun k => a2 (ix2 0 k)) (i 1)
def unitRow (a1 : Vec Ideal S8192x8192 .f32) (a3 a4 : Vec Ideal S1x1024 .f32) (a5 : Vec Ideal S8x128x128 .f32) (a6 : Vec Ideal S128x128 .f32)
    (r : Fin 8192) (d : Fin 1024) : EReal :=
  unit ⟨r.val % 128, by omega⟩ (a1 (ix2 r ⟨4096 + d.val, by omega⟩)) (fun j k => a1 (ix2 ⟨r.val / 128 * 128 + j.val, by omega⟩ ⟨5120 + k.val, by omega⟩))
    (a3 (ix2 0 d)) (a4 (ix2 0 d)) (fun j => a5 (ix3 (head d) ⟨r.val % 128, by omega⟩ j)) (a6 (ix2 ⟨r.val % 128, by omega⟩ (lane (head d)))) d
def out_10 (a1 : Vec Ideal S8192x8192 .f32) (a3 a4 : Vec Ideal S1x1024 .f32) (a5 : Vec Ideal S8x128x128 .f32) (a6 : Vec Ideal S128x128 .f32) :
    Vec Ideal S8192x1024 .bf16 := fun i => unitRow a1 a3 a4 a5 a6 (i 0) (i 1)

theorem array_9 (c : Dev nD) : (dats m 0 c).arrAt 9 cfg0.N = out_9 (m (c.tc.loc main_arg0)) (m (c.tc.loc main_arg1)) (m (c.tc.loc main_arg2)) :=
  (dats m 0 c).arrAt_eq_of_cover 9 _ (fun t hf => by
    rw [flushed9]
    funext j
    have ht : t.val < 64 := Nat.lt_of_lt_of_eq t.isLt N_0
    have h0 : (j 0).val < 128 := (j 0).isLt
    have hj : ((cfg0.win 9).blk t).view.emb j = (ix2 (⟨128 * t.val + (j 0).val, by omega⟩ : Fin 8192) (j 1 : Fin 1024) : S8192x1024.Idx) := by
      funext a
      apply Fin.ext
      match a with
      | ⟨0, _⟩ => show win0_9.index t 0 * 128 + 1 * (j 0).val = 128 * t.val + (j 0).val; rw [(places t).2.2.2.2.2.2.2.2.2.1.1]; omega
      | ⟨1, _⟩ => show win0_9.index t 1 * 1024 + 1 * (j 1).val = (j 1).val; rw [(places t).2.2.2.2.2.2.2.2.2.1.2]; omega
    have hc : ∀ o : Vec Ideal S128x1024 .bf16, (cfg0.win 9).cut (grid0.coords t) o j = o j := fun _ => rfl
    have hG : ∀ G : Vec Ideal S8192x1024 .bf16, G (ix2 (⟨128 * t.val + (j 0).val, by omega⟩ : Fin 8192) (j 1 : Fin 1024)) = ((cfg0.win 9).blk t).view.read (Elt Ideal) G j := fun G => by
      rw [View.read_apply]
      exact congrArg G hj.symm
    have hw : ∀ (y : Fin 128) (r : Fin 8192) (hr : r.val = 128 * t.val + y.val) (d : Fin 1024),
        out0_9 (F := Ideal) (iblk m c 0 t) (iblk m c 1 t) (iblk m c 2 t) (iblk m c 3 t) (iblk m c 4 t) (iblk m c 5 t) (iblk m c 6 t) (iblk m c 7 t) (iblk m c 8 t) (ix2 y d) = out_9 (m (c.tc.loc main_arg0)) (m (c.tc.loc main_arg1)) (m (c.tc.loc main_arg2)) (ix2 r d) := fun y r hr d => by
      rw [block_9]
      show gated (fun k => (iblk m c 0 t : Vec Ideal S128x1024 .f32) (ix2 y k)) (fun k => (iblk m c 1 t : Vec Ideal S128x1024 .f32) (ix2 y k))
        (fun k => (iblk m c 4 t : Vec Ideal S1x1024 .f32) (ix2 0 k)) d = _
      simp only [at_0 m c t y r hr, at_1 m c t y r hr, at_4 m c t]
      rfl
    exact (hc _).trans (((congrArg (out0_9 (F := Ideal) (iblk m c 0 t) (iblk m c 1 t) (iblk m c 2 t) (iblk m c 3 t) (iblk m c 4 t) (iblk m c 5 t) (iblk m c 6 t) (iblk m c 7 t) (iblk m c 8 t)) (eq_ix2 (j : S128x1024.Idx))).trans (hw (j 0) ⟨128 * t.val + (j 0).val, by omega⟩ rfl (j 1))).trans (hG _))) fun i => by
    have h0 : (i 0).val < 8192 := (i 0).isLt
    have h1 : (i 1).val < 1024 := (i 1).isLt
    let t : Fin cfg0.N := ⟨(i 0).val / 128, by rw [show cfg0.N = 64 from N_0]; omega⟩
    have e0 : win0_9.index t 0 = (i 0).val / 128 := (places t).2.2.2.2.2.2.2.2.2.1.1
    have e1 : win0_9.index t 1 = 0 := (places t).2.2.2.2.2.2.2.2.2.1.2
    refine ⟨t, flush0_9 t, ?_⟩
    show i ∈ ((View.whole main_v0_0).slice ((cfg0.win 9).rect t)).set
    rw [View.set_slice_whole, Rect.mem_set_unit]
    intro b
    match b with
    | ⟨0, _⟩ => show win0_9.index t 0 * 128 ≤ (i 0).val ∧ (i 0).val < win0_9.index t 0 * 128 + 128; rw [e0]; omega
    | ⟨1, _⟩ => show win0_9.index t 1 * 1024 ≤ (i 1).val ∧ (i 1).val < win0_9.index t 1 * 1024 + 1024; rw [e1]; omega

theorem array_10 (c : Dev nD) : (dats m 0 c).arrAt 10 cfg0.N = out_10 (m (c.tc.loc main_arg1)) (m (c.tc.loc main_arg3)) (m (c.tc.loc main_arg4)) (m (c.tc.loc main_arg5)) (m (c.tc.loc main_arg6)) :=
  (dats m 0 c).arrAt_eq_of_cover 10 _ (fun t hf => by
    rw [flushed10]
    funext j
    have ht : t.val < 64 := Nat.lt_of_lt_of_eq t.isLt N_0
    have h0 : (j 0).val < 128 := (j 0).isLt
    have hj : ((cfg0.win 10).blk t).view.emb j = (ix2 (⟨128 * t.val + (j 0).val, by omega⟩ : Fin 8192) (j 1 : Fin 1024) : S8192x1024.Idx) := by
      funext a
      apply Fin.ext
      match a with
      | ⟨0, _⟩ => show win0_10.index t 0 * 128 + 1 * (j 0).val = 128 * t.val + (j 0).val; rw [(places t).2.2.2.2.2.2.2.2.2.2.1]; omega
      | ⟨1, _⟩ => show win0_10.index t 1 * 1024 + 1 * (j 1).val = (j 1).val; rw [(places t).2.2.2.2.2.2.2.2.2.2.2]; omega
    have hc : ∀ o : Vec Ideal S128x1024 .bf16, (cfg0.win 10).cut (grid0.coords t) o j = o j := fun _ => rfl
    have hG : ∀ G : Vec Ideal S8192x1024 .bf16, G (ix2 (⟨128 * t.val + (j 0).val, by omega⟩ : Fin 8192) (j 1 : Fin 1024)) = ((cfg0.win 10).blk t).view.read (Elt Ideal) G j := fun G => by
      rw [View.read_apply]
      exact congrArg G hj.symm
    have hw : ∀ (y : Fin 128) (r : Fin 8192) (hr : r.val = 128 * t.val + y.val) (d : Fin 1024),
        out0_10 (F := Ideal) (iblk m c 0 t) (iblk m c 1 t) (iblk m c 2 t) (iblk m c 3 t) (iblk m c 4 t) (iblk m c 5 t) (iblk m c 6 t) (iblk m c 7 t) (iblk m c 8 t) (ix2 y d) = out_10 (m (c.tc.loc main_arg1)) (m (c.tc.loc main_arg3)) (m (c.tc.loc main_arg4)) (m (c.tc.loc main_arg5)) (m (c.tc.loc main_arg6)) (ix2 r d) := fun y r hr d => by
      rw [block_10]
      have hy : (⟨r.val % 128, by omega⟩ : Fin 128) = y := Fin.ext (show r.val % 128 = y.val by omega)
      have e3 : ∀ (j : Fin 128) (k : Fin 1024), (iblk m c 3 t : Vec Ideal S128x1024 .f32) (ix2 j k)
          = (m (c.tc.loc main_arg1) : Vec Ideal S8192x8192 .f32) (ix2 ⟨r.val / 128 * 128 + j.val, by omega⟩ ⟨5120 + k.val, by omega⟩) := fun j k =>
        at_3 m c t j _ (show r.val / 128 * 128 + j.val = 128 * t.val + j.val by omega) k
      show unit y ((iblk m c 2 t : Vec Ideal S128x1024 .f32) (ix2 y d)) (fun j k => (iblk m c 3 t : Vec Ideal S128x1024 .f32) (ix2 j k))
        ((iblk m c 5 t : Vec Ideal S1x1024 .f32) (ix2 0 d)) ((iblk m c 6 t : Vec Ideal S1x1024 .f32) (ix2 0 d))
        (fun j => (iblk m c 7 t : Vec Ideal S8x128x128 .f32) (ix3 (head d) y j)) ((iblk m c 8 t : Vec Ideal S128x128 .f32) (ix2 y (lane (head d)))) d = _
      simp only [at_2 m c t y r hr, e3, at_5 m c t, at_6 m c t, at_7 m c t, at_8 m c t]
      show _ = unitRow _ _ _ _ _ r d
      unfold unitRow
      rw [hy]
    exact (hc _).trans (((congrArg (out0_10 (F := Ideal) (iblk m c 0 t) (iblk m c 1 t) (iblk m c 2 t) (iblk m c 3 t) (iblk m c 4 t) (iblk m c 5 t) (iblk m c 6 t) (iblk m c 7 t) (iblk m c 8 t)) (eq_ix2 (j : S128x1024.Idx))).trans (hw (j 0) ⟨128 * t.val + (j 0).val, by omega⟩ rfl (j 1))).trans (hG _))) fun i => by
    have h0 : (i 0).val < 8192 := (i 0).isLt
    have h1 : (i 1).val < 1024 := (i 1).isLt
    let t : Fin cfg0.N := ⟨(i 0).val / 128, by rw [show cfg0.N = 64 from N_0]; omega⟩
    have e0 : win0_10.index t 0 = (i 0).val / 128 := (places t).2.2.2.2.2.2.2.2.2.2.1
    have e1 : win0_10.index t 1 = 0 := (places t).2.2.2.2.2.2.2.2.2.2.2
    refine ⟨t, flush0_10 t, ?_⟩
    show i ∈ ((View.whole main_v0_1).slice ((cfg0.win 10).rect t)).set
    rw [View.set_slice_whole, Rect.mem_set_unit]
    intro b
    match b with
    | ⟨0, _⟩ => show win0_10.index t 0 * 128 ≤ (i 0).val ∧ (i 0).val < win0_10.index t 0 * 128 + 128; rw [e0]; omega
    | ⟨1, _⟩ => show win0_10.index t 1 * 1024 ≤ (i 1).val ∧ (i 1).val < win0_10.index t 1 * 1024 + 1024; rw [e1]; omega

end

theorem frame : Cert.quiescent_GateSgu := fun m ρ _ => Cert.GateSgu.Gen.frame (F := Bits) m ρ

theorem frame_ideal : Cert.quiescent_GateSguIdeal := fun m ρ _ => Cert.GateSguIdeal.Gen.frame (F := Ideal) m ρ

theorem frame_ref_ideal : Cert.quiescent_GateSguRefIdeal := fun m ρ _ =>
  (θ_run Cert.GateSguRefIdeal.defs _ _).mono (fun r h => ⟨fun c => (h c).2.2, sem_eq_zero_of_no_sems (by decide) r.2⟩)
    (Cert.GateSguRefIdeal.Value.run (F := Ideal) m ρ)

section

open Cert.GateSguRefIdeal Cert.GateSguRefIdeal.Gen Cert.GateSguRefIdeal.Value

/-! ## The plain formulas -/

theorem plain_9 (a0 : Vec Ideal S8192x1024 .f32) (a1 : Vec Ideal S8192x8192 .f32) (a2 : Vec Ideal S1x1024 .f32) :
    (truncf .bf16 (mulf (shapeCast _ (mulf (mulf (shapeCast S8192x8x128 a0 shapeCasts_S8192x1024_S8192x8x128) (broadcastInDim S8192x8x128 ![0, 1, 2] bcast_S8192x8x1_S8192x8x128_0_1_2 (Host.rsqrt (addf (Host.divf (broadcastInDim S8192x8x1 ![0, 1] bcast_S8192x8_S8192x8x1_0_1 (Host.reduceAdd (mulf (shapeCast S8192x8x128 a0 shapeCasts_S8192x1024_S8192x8x128) (shapeCast S8192x8x128 a0 shapeCasts_S8192x1024_S8192x8x128)) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x358637BD#32)))))) (broadcastInDim S8192x8x128 ![0, 1, 2] bcast_S1x8x128_S8192x8x128_0_1_2 (broadcastInDim S1x8x128 ![1, 2] bcast_S8x128_S1x8x128_1_2 (shapeCast S8x128 a2 shapeCasts_S1x1024_S8x128)))) shapeCasts_S8192x8x128_S8192x1024) (mulf (extractStridedSlice S8192x1024 ![0, 3072] a1 slices_S8192x8192_S8192x1024_0_3072) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 3072] a1 slices_S8192x8192_S8192x1024_0_3072))))))) bitsLt_bf16_f32 : FVec Ideal S8192x1024 .bf16) = out_9 a0 a1 a2 := by
  funext i
  have hm : 128 * ((i 1).val / 128) = (i 1).val / 128 * 128 := Nat.mul_comm _ _
  unfold out_9 gated gateOf head col
  pointwise
  simp only [hm]

/-- The reference's sum in the order of the formula. -/
theorem plain_10 (m : (ℓ : Loc nD τ sig) → Buf (Elt Ideal) ℓ) (c : Dev nD) :
    res_main_v77 (F := Ideal) m c = out_10 (m (c.tc.loc main_arg1)) (m (c.tc.loc main_arg3)) (m (c.tc.loc main_arg4)) (m (c.tc.loc main_arg5)) (m (c.tc.loc main_arg6)) := by
  funext i
  have hq : ∀ x : Fin 128, quot (BitVec.ofNat 32 x.val) = BitVec.ofNat 32 (x.val / 64) := quot_half
  have hi : quot (BitVec.ofNat 32 ((i 0).val % 128)) = BitVec.ofNat 32 ((i 0).val % 128 / 64) := quot_half ⟨(i 0).val % 128, by omega⟩
  have hk : id (constantI S_ 32 64#32) ix0 = 64#32 := rfl
  have hz : (id (constant (F := Ideal) S_ .f32 0x00000000#32) ix0 : EReal) = 0 := Ideal.ofBits_zero_f32
  unfold out_10 unitRow unit layerNorm mean gelu head lane res_main_v77
  pointwise
  simp only [hk, hz, neg_mul, Ideal.erfc_neg]
  congr 2
  refine Finset.sum_congr rfl fun j _ => ?_
  rw [mul_comm]
  refine congrArg (· * _) ?_
  have hs : ∀ p : EReal, Scalar.select (IntOp.cmpi CmpIPredicate.sge (quot (BitVec.ofNat 32 ((i 0).val % 128))) (quot (BitVec.ofNat 32 j.val))) p 0
      = if j.val / 64 ≤ (i 0).val % 128 / 64 then p else 0 := fun p => by
    rw [hi, hq j, select_half _ _ (by omega) (by omega)]
  exact hs _

end

theorem algebraic : Cert.algebraic_GateSguIdeal_GateSguRefIdeal := fun m g m' g' _ hm =>
  ⟨fun c => out_9 (m (c.tc.loc Cert.GateSguIdeal.main_arg0)) (m (c.tc.loc Cert.GateSguIdeal.main_arg1)) (m (c.tc.loc Cert.GateSguIdeal.main_arg2)),
    fun c => out_10 (m (c.tc.loc Cert.GateSguIdeal.main_arg1)) (m (c.tc.loc Cert.GateSguIdeal.main_arg3)) (m (c.tc.loc Cert.GateSguIdeal.main_arg4)) (m (c.tc.loc Cert.GateSguIdeal.main_arg5)) (m (c.tc.loc Cert.GateSguIdeal.main_arg6)),
    (θ_run Cert.GateSguIdeal.defs _ _).mono (fun _ h c => ⟨(h c).1.trans (array_9 m c), (h c).2.1.trans (array_10 m c), (h c).2.2⟩) (Cert.GateSguIdeal.Value.run_blocks (F := Ideal) m g),
    (θ_run Cert.GateSguRefIdeal.defs _ _).mono (fun _ h c => ⟨(h c).1.trans ((plain_9 _ _ _).trans (by rw [(hm c).1, (hm c).2.1, (hm c).2.2.1])),
      (h c).2.1.trans ((plain_10 m' c).trans (by rw [(hm c).2.1, (hm c).2.2.2.1, (hm c).2.2.2.2.1, (hm c).2.2.2.2.2.1, (hm c).2.2.2.2.2.2])), (h c).2.2⟩) (Cert.GateSguRefIdeal.Value.run (F := Ideal) m' g')⟩

end Cert.GateSguProof

end
-- ==== Proof.Layers.MixBwd.lean ====
/- The backward step of the mixer's gated merge: what returns to the two branches. -/
module

public import proofs.«01_k».proof.Proof.Layers.Rows
public import proofs.«01_k».proof.Proof.Gen.MixBwd.Frame
public import proofs.«01_k».proof.Proof.Gen.MixBwdIdeal.Value
public import proofs.«01_k».proof.Proof.Gen.MixBwdRefIdeal.Run

@[expose] public section

noncomputable section

open Idealize.ShloMosaic Idealize.ShloMosaic.TcCoe
open Idealize.SL.Sem
open Idealize.ShloMosaic.Pipeline (Dat)
open Cert.GradXProof (origin)
open Cert.LayerProof

namespace Cert.MixBwdProof

section

open Cert.MixBwdIdeal Cert.MixBwdIdeal.Gen Cert.MixBwdIdeal.Value

/-- Where each window stands at a point. -/
theorem places : ∀ t : Fin cfg0.N, (win0_0.index t 0 = t.val ∧ win0_0.index t 1 = 0) ∧ (win0_3.index t 0 = t.val ∧ win0_3.index t 1 = 6) ∧ (win0_4.index t 0 = t.val ∧ win0_4.index t 1 = 7) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0) ∧ (win0_11.index t 0 = t.val ∧ win0_11.index t 1 = 0) :=
  (by decide +kernel : ∀ t : Fin grid0.N, _)

variable (m : (ℓ : Loc nD τ sig) → Buf (Elt Ideal) ℓ)

/-! ## The blocks at a point -/

theorem at_0 (c : Dev nD) (t : Fin cfg0.N) (y : Fin 256) (r : Fin 8192) (hr : r.val = 256 * t.val + y.val) (d : Fin 1024) :
    (iblk m c 0 t : Vec Ideal S256x1024 .bf16) (ix2 y d) = (m (c.tc.loc main_arg0) : Vec Ideal S8192x1024 .bf16) (ix2 r d) := by
  unfold iblk
  rw [View.read_apply]
  show m (c.tc.loc main_arg0) _ = _
  congr 1
  funext a
  apply Fin.ext
  match a with
  | ⟨0, _⟩ => show win0_0.index t 0 * 256 + 1 * y.val = r.val; rw [(places t).1.1]; omega
  | ⟨1, _⟩ => show win0_0.index t 1 * 1024 + 1 * d.val = d.val; rw [(places t).1.2]; omega

theorem at_3 (c : Dev nD) (t : Fin cfg0.N) (y : Fin 256) (r : Fin 8192) (hr : r.val = 256 * t.val + y.val) (d : Fin 1024) :
    (iblk m c 3 t : Vec Ideal S256x1024 .f32) (ix2 y d) = (m (c.tc.loc main_arg3) : Vec Ideal S8192x8192 .f32) (ix2 r ⟨6144 + d.val, by have := d.isLt; omega⟩) := by
  unfold iblk
  rw [View.read_apply]
  show m (c.tc.loc main_arg3) _ = _
  congr 1
  funext a
  apply Fin.ext
  match a with
  | ⟨0, _⟩ => show win0_3.index t 0 * 256 + 1 * y.val = r.val; rw [(places t).2.1.1]; omega
  | ⟨1, _⟩ => show win0_3.index t 1 * 1024 + 1 * d.val = 6144 + d.val; rw [(places t).2.1.2]; omega

theorem at_4 (c : Dev nD) (t : Fin cfg0.N) (y : Fin 256) (r : Fin 8192) (hr : r.val = 256 * t.val + y.val) (d : Fin 1024) :
    (iblk m c 4 t : Vec Ideal S256x1024 .f32) (ix2 y d) = (m (c.tc.loc main_arg3) : Vec Ideal S8192x8192 .f32) (ix2 r ⟨7168 + d.val, by have := d.isLt; omega⟩) := by
  unfold iblk
  rw [View.read_apply]
  show m (c.tc.loc main_arg3) _ = _
  congr 1
  funext a
  apply Fin.ext
  match a with
  | ⟨0, _⟩ => show win0_4.index t 0 * 256 + 1 * y.val = r.val; rw [(places t).2.2.1.1]; omega
  | ⟨1, _⟩ => show win0_4.index t 1 * 1024 + 1 * d.val = 7168 + d.val; rw [(places t).2.2.1.2]; omega

theorem at_5 (c : Dev nD) (t : Fin cfg0.N) (y : Fin 1024)  (d : Fin 1024) :
    (iblk m c 5 t : Vec Ideal S1024x1024 .bf16) (ix2 y d) = (m (c.tc.loc main_arg4) : Vec Ideal S1024x1024 .bf16) (ix2 y d) := by
  unfold iblk
  rw [View.read_apply]
  show m (c.tc.loc main_arg4) _ = _
  congr 1
  funext a
  apply Fin.ext
  match a with
  | ⟨0, _⟩ => show win0_5.index t 0 * 1024 + 1 * y.val = y.val; rw [(places t).2.2.2.1.1]; omega
  | ⟨1, _⟩ => show win0_5.index t 1 * 1024 + 1 * d.val = d.val; rw [(places t).2.2.2.1.2]; omega

theorem at_6 (c : Dev nD) (t : Fin cfg0.N) (y : Fin 1024)  (d : Fin 1024) :
    (iblk m c 6 t : Vec Ideal S1024x1024 .bf16) (ix2 y d) = (m (c.tc.loc main_arg5) : Vec Ideal S1024x1024 .bf16) (ix2 y d) := by
  unfold iblk
  rw [View.read_apply]
  show m (c.tc.loc main_arg5) _ = _
  congr 1
  funext a
  apply Fin.ext
  match a with
  | ⟨0, _⟩ => show win0_6.index t 0 * 1024 + 1 * y.val = y.val; rw [(places t).2.2.2.2.1.1]; omega
  | ⟨1, _⟩ => show win0_6.index t 1 * 1024 + 1 * d.val = d.val; rw [(places t).2.2.2.2.1.2]; omega

theorem at_7 (c : Dev nD) (t : Fin cfg0.N) (y : Fin 1024)  (d : Fin 1024) :
    (iblk m c 7 t : Vec Ideal S1024x1024 .bf16) (ix2 y d) = (m (c.tc.loc main_arg6) : Vec Ideal S1024x1024 .bf16) (ix2 y d) := by
  unfold iblk
  rw [View.read_apply]
  show m (c.tc.loc main_arg6) _ = _
  congr 1
  funext a
  apply Fin.ext
  match a with
  | ⟨0, _⟩ => show win0_7.index t 0 * 1024 + 1 * y.val = y.val; rw [(places t).2.2.2.2.2.1.1]; omega
  | ⟨1, _⟩ => show win0_7.index t 1 * 1024 + 1 * d.val = d.val; rw [(places t).2.2.2.2.2.1.2]; omega

/-! ## Output window 8 -/

/-- What the array ends with, as a function of the argument arrays. -/
def out_8 (a0 : Vec Ideal S8192x1024 .bf16) (a3 : Vec Ideal S8192x8192 .f32) (a6 : Vec Ideal S1024x1024 .bf16) : Vec Ideal S8192x1024 .bf16 := fun i =>
  back (fun k : Fin 1024 => (a0 (ix2 (i 0) k) : EReal)) (fun k : Fin 1024 => (a3 (ix2 (i 0) ⟨6144 + k.val, by have := k.isLt; omega⟩) : EReal)) (fun k l : Fin 1024 => (a6 (ix2 k l) : EReal)) (i 1)

/-- What a point leaves in its block, from the rows of its blocks. -/
theorem block_8 (x0 : Vec Ideal S256x1024 .bf16) (x1 : Vec Ideal S256x1024 .f32) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (y : Fin 256) (R0 : Fin 1024 → EReal) (h0 : ∀ k, (x0 (ix2 y k) : EReal) = R0 k) (R3 : Fin 1024 → EReal) (h3 : ∀ k, (x3 (ix2 y k) : EReal) = R3 k) (R7 : Fin 1024 → Fin 1024 → EReal) (h7 : ∀ k l, (x7 (ix2 k l) : EReal) = R7 k l) (d : Fin 1024) :
    out0_8 (F := Ideal) x0 x1 x2 x3 x4 x5 x6 x7 (ix2 y d) = back R0 R3 R7 d := by
  obtain rfl : R0 = fun k => x0 (ix2 y k) := funext fun k => (h0 k).symm
  obtain rfl : R3 = fun k => x3 (ix2 y k) := funext fun k => (h3 k).symm
  obtain rfl : R7 = fun k l => x7 (ix2 k l) := funext fun k => funext fun l => (h7 k l).symm
  unfold out0_8
  rw [View.canon_unit_zero origin]
  simp only [View.ld_unit_zero (S := S256x1024) origin, View.ld_unit_zero (S := S1024x1024) origin]
  unfold k0_pay9 k0_pay7 k0_pay4 k0_pay5 back dotT gateOf
  pointwise
  simp only [zero_sub]

/-- The array after the run. -/
theorem array_8 (c : Dev nD) : (dats m 0 c).arrAt 8 cfg0.N = out_8 (m (c.tc.loc main_arg0)) (m (c.tc.loc main_arg3)) (m (c.tc.loc main_arg6)) :=
  (dats m 0 c).arrAt_eq_of_cover 8 _ (fun t hf => by
    rw [flushed8]
    funext j
    have ht : t.val < 32 := Nat.lt_of_lt_of_eq t.isLt N_0
    have h0 : (j 0).val < 256 := (j 0).isLt
    have hj : ((cfg0.win 8).blk t).view.emb j = (ix2 (⟨256 * t.val + (j 0).val, by omega⟩ : Fin 8192) (j 1 : Fin 1024) : S8192x1024.Idx) := by
      funext a
      apply Fin.ext
      match a with
      | ⟨0, _⟩ => show win0_8.index t 0 * 256 + 1 * (j 0).val = 256 * t.val + (j 0).val; rw [(places t).2.2.2.2.2.2.1.1]; omega
      | ⟨1, _⟩ => show win0_8.index t 1 * 1024 + 1 * (j 1).val = (j 1).val; rw [(places t).2.2.2.2.2.2.1.2]; omega
    have hc : ∀ o : Vec Ideal S256x1024 .bf16, (cfg0.win 8).cut (grid0.coords t) o j = o j := fun _ => rfl
    have hG : ∀ G : Vec Ideal S8192x1024 .bf16, G (ix2 (⟨256 * t.val + (j 0).val, by omega⟩ : Fin 8192) (j 1 : Fin 1024)) = ((cfg0.win 8).blk t).view.read (Elt Ideal) G j := fun G => by
      rw [View.read_apply]
      exact congrArg G hj.symm
    have hw : ∀ (y : Fin 256) (r : Fin 8192) (hr : r.val = 256 * t.val + y.val) (d : Fin 1024),
        out0_8 (F := Ideal) (iblk m c 0 t) (iblk m c 1 t) (iblk m c 2 t) (iblk m c 3 t) (iblk m c 4 t) (iblk m c 5 t) (iblk m c 6 t) (iblk m c 7 t) (ix2 y d) = out_8 (m (c.tc.loc main_arg0)) (m (c.tc.loc main_arg3)) (m (c.tc.loc main_arg6)) (ix2 r d) := fun y r hr d =>
      block_8 _ _ _ _ _ _ _ _ y _ (at_0 m c t y r hr) _ (at_3 m c t y r hr) _ (at_7 m c t) d
    exact (hc _).trans (((congrArg (out0_8 (F := Ideal) (iblk m c 0 t) (iblk m c 1 t) (iblk m c 2 t) (iblk m c 3 t) (iblk m c 4 t) (iblk m c 5 t) (iblk m c 6 t) (iblk m c 7 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_8.index t 0 = (i 0).val / 256 := (places t).2.2.2.2.2.2.1.1
    have e1 : win0_8.index t 1 = 0 := (places t).2.2.2.2.2.2.1.2
    refine ⟨t, flush0_8 t, ?_⟩
    show i ∈ ((View.whole main_v0_0).slice ((cfg0.win 8).rect t)).set
    rw [View.set_slice_whole, Rect.mem_set_unit]
    intro b
    match b with
    | ⟨0, _⟩ => show win0_8.index t 0 * 256 ≤ (i 0).val ∧ (i 0).val < win0_8.index t 0 * 256 + 256; rw [e0]; omega
    | ⟨1, _⟩ => show win0_8.index t 1 * 1024 ≤ (i 1).val ∧ (i 1).val < win0_8.index t 1 * 1024 + 1024; rw [e1]; omega

/-! ## Output window 9 -/

/-- What the array ends with, as a function of the argument arrays. -/
def out_9 (a0 : Vec Ideal S8192x1024 .bf16) (a3 : Vec Ideal S8192x8192 .f32) (a6 : Vec Ideal S1024x1024 .bf16) : Vec Ideal S8192x1024 .bf16 := fun i =>
  back (fun k : Fin 1024 => (a0 (ix2 (i 0) k) : EReal)) (fun k : Fin 1024 => (a3 (ix2 (i 0) ⟨7168 + k.val, by have := k.isLt; omega⟩) : EReal)) (fun k l : Fin 1024 => (a6 (ix2 k l) : EReal)) (i 1)

/-- What a point leaves in its block, from the rows of its blocks. -/
theorem block_9 (x0 : Vec Ideal S256x1024 .bf16) (x1 : Vec Ideal S256x1024 .f32) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (y : Fin 256) (R0 : Fin 1024 → EReal) (h0 : ∀ k, (x0 (ix2 y k) : EReal) = R0 k) (R4 : Fin 1024 → EReal) (h4 : ∀ k, (x4 (ix2 y k) : EReal) = R4 k) (R7 : Fin 1024 → Fin 1024 → EReal) (h7 : ∀ k l, (x7 (ix2 k l) : EReal) = R7 k l) (d : Fin 1024) :
    out0_9 (F := Ideal) x0 x1 x2 x3 x4 x5 x6 x7 (ix2 y d) = back R0 R4 R7 d := by
  obtain rfl : R0 = fun k => x0 (ix2 y k) := funext fun k => (h0 k).symm
  obtain rfl : R4 = fun k => x4 (ix2 y k) := funext fun k => (h4 k).symm
  obtain rfl : R7 = fun k l => x7 (ix2 k l) := funext fun k => funext fun l => (h7 k l).symm
  unfold out0_9
  rw [View.canon_unit_zero origin]
  simp only [View.ld_unit_zero (S := S256x1024) origin, View.ld_unit_zero (S := S1024x1024) origin]
  unfold k0_pay10 k0_pay8 k0_pay4 k0_pay6 back dotT gateOf
  pointwise
  simp only [zero_sub]

/-- The array after the run. -/
theorem array_9 (c : Dev nD) : (dats m 0 c).arrAt 9 cfg0.N = out_9 (m (c.tc.loc main_arg0)) (m (c.tc.loc main_arg3)) (m (c.tc.loc main_arg6)) :=
  (dats m 0 c).arrAt_eq_of_cover 9 _ (fun t hf => by
    rw [flushed9]
    funext j
    have ht : t.val < 32 := Nat.lt_of_lt_of_eq t.isLt N_0
    have h0 : (j 0).val < 256 := (j 0).isLt
    have hj : ((cfg0.win 9).blk t).view.emb j = (ix2 (⟨256 * t.val + (j 0).val, by omega⟩ : Fin 8192) (j 1 : Fin 1024) : S8192x1024.Idx) := by
      funext a
      apply Fin.ext
      match a with
      | ⟨0, _⟩ => show win0_9.index t 0 * 256 + 1 * (j 0).val = 256 * t.val + (j 0).val; rw [(places t).2.2.2.2.2.2.2.1.1]; omega
      | ⟨1, _⟩ => show win0_9.index t 1 * 1024 + 1 * (j 1).val = (j 1).val; rw [(places t).2.2.2.2.2.2.2.1.2]; omega
    have hc : ∀ o : Vec Ideal S256x1024 .bf16, (cfg0.win 9).cut (grid0.coords t) o j = o j := fun _ => rfl
    have hG : ∀ G : Vec Ideal S8192x1024 .bf16, G (ix2 (⟨256 * t.val + (j 0).val, by omega⟩ : Fin 8192) (j 1 : Fin 1024)) = ((cfg0.win 9).blk t).view.read (Elt Ideal) G j := fun G => by
      rw [View.read_apply]
      exact congrArg G hj.symm
    have hw : ∀ (y : Fin 256) (r : Fin 8192) (hr : r.val = 256 * t.val + y.val) (d : Fin 1024),
        out0_9 (F := Ideal) (iblk m c 0 t) (iblk m c 1 t) (iblk m c 2 t) (iblk m c 3 t) (iblk m c 4 t) (iblk m c 5 t) (iblk m c 6 t) (iblk m c 7 t) (ix2 y d) = out_9 (m (c.tc.loc main_arg0)) (m (c.tc.loc main_arg3)) (m (c.tc.loc main_arg6)) (ix2 r d) := fun y r hr d =>
      block_9 _ _ _ _ _ _ _ _ y _ (at_0 m c t y r hr) _ (at_4 m c t y r hr) _ (at_7 m c t) d
    exact (hc _).trans (((congrArg (out0_9 (F := Ideal) (iblk m c 0 t) (iblk m c 1 t) (iblk m c 2 t) (iblk m c 3 t) (iblk m c 4 t) (iblk m c 5 t) (iblk m c 6 t) (iblk m c 7 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_9.index t 0 = (i 0).val / 256 := (places t).2.2.2.2.2.2.2.1.1
    have e1 : win0_9.index t 1 = 0 := (places t).2.2.2.2.2.2.2.1.2
    refine ⟨t, flush0_9 t, ?_⟩
    show i ∈ ((View.whole main_v0_1).slice ((cfg0.win 9).rect t)).set
    rw [View.set_slice_whole, Rect.mem_set_unit]
    intro b
    match b with
    | ⟨0, _⟩ => show win0_9.index t 0 * 256 ≤ (i 0).val ∧ (i 0).val < win0_9.index t 0 * 256 + 256; rw [e0]; omega
    | ⟨1, _⟩ => show win0_9.index t 1 * 1024 ≤ (i 1).val ∧ (i 1).val < win0_9.index t 1 * 1024 + 1024; rw [e1]; omega

/-! ## Output window 10 -/

/-- What the array ends with, as a function of the argument arrays. -/
def out_10 (a0 : Vec Ideal S8192x1024 .bf16) (a3 : Vec Ideal S8192x8192 .f32) (a4 : Vec Ideal S1024x1024 .bf16) (a6 : Vec Ideal S1024x1024 .bf16) : Vec Ideal S8192x1024 .f32 := fun i =>
  dotT (back (fun k : Fin 1024 => (a0 (ix2 (i 0) k) : EReal)) (fun k : Fin 1024 => (a3 (ix2 (i 0) ⟨6144 + k.val, by have := k.isLt; omega⟩) : EReal)) (fun k l : Fin 1024 => (a6 (ix2 k l) : EReal))) (fun k l : Fin 1024 => (a4 (ix2 k l) : EReal)) (i 1)

/-- What a point leaves in its block, from the rows of its blocks. -/
theorem block_10 (x0 : Vec Ideal S256x1024 .bf16) (x1 : Vec Ideal S256x1024 .f32) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (y : Fin 256) (R0 : Fin 1024 → EReal) (h0 : ∀ k, (x0 (ix2 y k) : EReal) = R0 k) (R3 : Fin 1024 → EReal) (h3 : ∀ k, (x3 (ix2 y k) : EReal) = R3 k) (R5 : Fin 1024 → Fin 1024 → EReal) (h5 : ∀ k l, (x5 (ix2 k l) : EReal) = R5 k l) (R7 : Fin 1024 → Fin 1024 → EReal) (h7 : ∀ k l, (x7 (ix2 k l) : EReal) = R7 k l) (d : Fin 1024) :
    out0_10 (F := Ideal) x0 x1 x2 x3 x4 x5 x6 x7 (ix2 y d) = dotT (back R0 R3 R7) R5 d := by
  obtain rfl : R0 = fun k => x0 (ix2 y k) := funext fun k => (h0 k).symm
  obtain rfl : R3 = fun k => x3 (ix2 y k) := funext fun k => (h3 k).symm
  obtain rfl : R5 = fun k l => x5 (ix2 k l) := funext fun k => funext fun l => (h5 k l).symm
  obtain rfl : R7 = fun k l => x7 (ix2 k l) := funext fun k => funext fun l => (h7 k l).symm
  unfold out0_10
  rw [View.canon_unit_zero origin]
  simp only [View.ld_unit_zero (S := S256x1024) origin, View.ld_unit_zero (S := S1024x1024) origin]
  unfold k0_pay2 k0_pay7 k0_pay4 k0_pay5 back dotT gateOf
  pointwise
  simp only [zero_sub]

/-- The array after the run. -/
theorem array_10 (c : Dev nD) : (dats m 0 c).arrAt 10 cfg0.N = out_10 (m (c.tc.loc main_arg0)) (m (c.tc.loc main_arg3)) (m (c.tc.loc main_arg4)) (m (c.tc.loc main_arg6)) :=
  (dats m 0 c).arrAt_eq_of_cover 10 _ (fun t hf => by
    rw [flushed10]
    funext j
    have ht : t.val < 32 := Nat.lt_of_lt_of_eq t.isLt N_0
    have h0 : (j 0).val < 256 := (j 0).isLt
    have hj : ((cfg0.win 10).blk t).view.emb j = (ix2 (⟨256 * t.val + (j 0).val, by omega⟩ : Fin 8192) (j 1 : Fin 1024) : S8192x1024.Idx) := by
      funext a
      apply Fin.ext
      match a with
      | ⟨0, _⟩ => show win0_10.index t 0 * 256 + 1 * (j 0).val = 256 * t.val + (j 0).val; rw [(places t).2.2.2.2.2.2.2.2.1.1]; omega
      | ⟨1, _⟩ => show win0_10.index t 1 * 1024 + 1 * (j 1).val = (j 1).val; rw [(places t).2.2.2.2.2.2.2.2.1.2]; omega
    have hc : ∀ o : Vec Ideal S256x1024 .f32, (cfg0.win 10).cut (grid0.coords t) o j = o j := fun _ => rfl
    have hG : ∀ G : Vec Ideal S8192x1024 .f32, G (ix2 (⟨256 * t.val + (j 0).val, by omega⟩ : Fin 8192) (j 1 : Fin 1024)) = ((cfg0.win 10).blk t).view.read (Elt Ideal) G j := fun G => by
      rw [View.read_apply]
      exact congrArg G hj.symm
    have hw : ∀ (y : Fin 256) (r : Fin 8192) (hr : r.val = 256 * t.val + y.val) (d : Fin 1024),
        out0_10 (F := Ideal) (iblk m c 0 t) (iblk m c 1 t) (iblk m c 2 t) (iblk m c 3 t) (iblk m c 4 t) (iblk m c 5 t) (iblk m c 6 t) (iblk m c 7 t) (ix2 y d) = out_10 (m (c.tc.loc main_arg0)) (m (c.tc.loc main_arg3)) (m (c.tc.loc main_arg4)) (m (c.tc.loc main_arg6)) (ix2 r d) := fun y r hr d =>
      block_10 _ _ _ _ _ _ _ _ y _ (at_0 m c t y r hr) _ (at_3 m c t y r hr) _ (at_5 m c t) _ (at_7 m c t) d
    exact (hc _).trans (((congrArg (out0_10 (F := Ideal) (iblk m c 0 t) (iblk m c 1 t) (iblk m c 2 t) (iblk m c 3 t) (iblk m c 4 t) (iblk m c 5 t) (iblk m c 6 t) (iblk m c 7 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_10.index t 0 = (i 0).val / 256 := (places t).2.2.2.2.2.2.2.2.1.1
    have e1 : win0_10.index t 1 = 0 := (places t).2.2.2.2.2.2.2.2.1.2
    refine ⟨t, flush0_10 t, ?_⟩
    show i ∈ ((View.whole main_v0_2).slice ((cfg0.win 10).rect t)).set
    rw [View.set_slice_whole, Rect.mem_set_unit]
    intro b
    match b with
    | ⟨0, _⟩ => show win0_10.index t 0 * 256 ≤ (i 0).val ∧ (i 0).val < win0_10.index t 0 * 256 + 256; rw [e0]; omega
    | ⟨1, _⟩ => show win0_10.index t 1 * 1024 ≤ (i 1).val ∧ (i 1).val < win0_10.index t 1 * 1024 + 1024; rw [e1]; omega

/-! ## Output window 11 -/

/-- What the array ends with, as a function of the argument arrays. -/
def out_11 (a0 : Vec Ideal S8192x1024 .bf16) (a3 : Vec Ideal S8192x8192 .f32) (a5 : Vec Ideal S1024x1024 .bf16) (a6 : Vec Ideal S1024x1024 .bf16) : Vec Ideal S8192x1024 .f32 := fun i =>
  dotT (back (fun k : Fin 1024 => (a0 (ix2 (i 0) k) : EReal)) (fun k : Fin 1024 => (a3 (ix2 (i 0) ⟨7168 + k.val, by have := k.isLt; omega⟩) : EReal)) (fun k l : Fin 1024 => (a6 (ix2 k l) : EReal))) (fun k l : Fin 1024 => (a5 (ix2 k l) : EReal)) (i 1)

/-- What a point leaves in its block, from the rows of its blocks. -/
theorem block_11 (x0 : Vec Ideal S256x1024 .bf16) (x1 : Vec Ideal S256x1024 .f32) (x2 : Vec Ideal S256x1024 .f32) (x3 : Vec Ideal S256x1024 .f32) (x4 : Vec Ideal S256x1024 .f32) (x5 : Vec Ideal S1024x1024 .bf16) (x6 : Vec Ideal S1024x1024 .bf16) (x7 : Vec Ideal S1024x1024 .bf16) (y : Fin 256) (R0 : Fin 1024 → EReal) (h0 : ∀ k, (x0 (ix2 y k) : EReal) = R0 k) (R4 : Fin 1024 → EReal) (h4 : ∀ k, (x4 (ix2 y k) : EReal) = R4 k) (R6 : Fin 1024 → Fin 1024 → EReal) (h6 : ∀ k l, (x6 (ix2 k l) : EReal) = R6 k l) (R7 : Fin 1024 → Fin 1024 → EReal) (h7 : ∀ k l, (x7 (ix2 k l) : EReal) = R7 k l) (d : Fin 1024) :
    out0_11 (F := Ideal) x0 x1 x2 x3 x4 x5 x6 x7 (ix2 y d) = dotT (back R0 R4 R7) R6 d := by
  obtain rfl : R0 = fun k => x0 (ix2 y k) := funext fun k => (h0 k).symm
  obtain rfl : R4 = fun k => x4 (ix2 y k) := funext fun k => (h4 k).symm
  obtain rfl : R6 = fun k l => x6 (ix2 k l) := funext fun k => funext fun l => (h6 k l).symm
  obtain rfl : R7 = fun k l => x7 (ix2 k l) := funext fun k => funext fun l => (h7 k l).symm
  unfold out0_11
  rw [View.canon_unit_zero origin]
  simp only [View.ld_unit_zero (S := S256x1024) origin, View.ld_unit_zero (S := S1024x1024) origin]
  unfold k0_pay3 k0_pay8 k0_pay4 k0_pay6 back dotT gateOf
  pointwise
  simp only [zero_sub]

/-- The array after the run. -/
theorem array_11 (c : Dev nD) : (dats m 0 c).arrAt 11 cfg0.N = out_11 (m (c.tc.loc main_arg0)) (m (c.tc.loc main_arg3)) (m (c.tc.loc main_arg5)) (m (c.tc.loc main_arg6)) :=
  (dats m 0 c).arrAt_eq_of_cover 11 _ (fun t hf => by
    rw [flushed11]
    funext j
    have ht : t.val < 32 := Nat.lt_of_lt_of_eq t.isLt N_0
    have h0 : (j 0).val < 256 := (j 0).isLt
    have hj : ((cfg0.win 11).blk t).view.emb j = (ix2 (⟨256 * t.val + (j 0).val, by omega⟩ : Fin 8192) (j 1 : Fin 1024) : S8192x1024.Idx) := by
      funext a
      apply Fin.ext
      match a with
      | ⟨0, _⟩ => show win0_11.index t 0 * 256 + 1 * (j 0).val = 256 * t.val + (j 0).val; rw [(places t).2.2.2.2.2.2.2.2.2.1]; omega
      | ⟨1, _⟩ => show win0_11.index t 1 * 1024 + 1 * (j 1).val = (j 1).val; rw [(places t).2.2.2.2.2.2.2.2.2.2]; omega
    have hc : ∀ o : Vec Ideal S256x1024 .f32, (cfg0.win 11).cut (grid0.coords t) o j = o j := fun _ => rfl
    have hG : ∀ G : Vec Ideal S8192x1024 .f32, G (ix2 (⟨256 * t.val + (j 0).val, by omega⟩ : Fin 8192) (j 1 : Fin 1024)) = ((cfg0.win 11).blk t).view.read (Elt Ideal) G j := fun G => by
      rw [View.read_apply]
      exact congrArg G hj.symm
    have hw : ∀ (y : Fin 256) (r : Fin 8192) (hr : r.val = 256 * t.val + y.val) (d : Fin 1024),
        out0_11 (F := Ideal) (iblk m c 0 t) (iblk m c 1 t) (iblk m c 2 t) (iblk m c 3 t) (iblk m c 4 t) (iblk m c 5 t) (iblk m c 6 t) (iblk m c 7 t) (ix2 y d) = out_11 (m (c.tc.loc main_arg0)) (m (c.tc.loc main_arg3)) (m (c.tc.loc main_arg5)) (m (c.tc.loc main_arg6)) (ix2 r d) := fun y r hr d =>
      block_11 _ _ _ _ _ _ _ _ y _ (at_0 m c t y r hr) _ (at_4 m c t y r hr) _ (at_6 m c t) _ (at_7 m c t) d
    exact (hc _).trans (((congrArg (out0_11 (F := Ideal) (iblk m c 0 t) (iblk m c 1 t) (iblk m c 2 t) (iblk m c 3 t) (iblk m c 4 t) (iblk m c 5 t) (iblk m c 6 t) (iblk m c 7 t)) (eq_ix2 (j : S256x1024.Idx))).trans (hw (j 0) ⟨256 * t.val + (j 0).val, by omega⟩ rfl (j 1))).trans (hG _))) fun i => by
    have h0 : (i 0).val < 8192 := (i 0).isLt
    have h1 : (i 1).val < 1024 := (i 1).isLt
    let t : Fin cfg0.N := ⟨(i 0).val / 256, by rw [show cfg0.N = 32 from N_0]; omega⟩
    have e0 : win0_11.index t 0 = (i 0).val / 256 := (places t).2.2.2.2.2.2.2.2.2.1
    have e1 : win0_11.index t 1 = 0 := (places t).2.2.2.2.2.2.2.2.2.2
    refine ⟨t, flush0_11 t, ?_⟩
    show i ∈ ((View.whole main_v0_3).slice ((cfg0.win 11).rect t)).set
    rw [View.set_slice_whole, Rect.mem_set_unit]
    intro b
    match b with
    | ⟨0, _⟩ => show win0_11.index t 0 * 256 ≤ (i 0).val ∧ (i 0).val < win0_11.index t 0 * 256 + 256; rw [e0]; omega
    | ⟨1, _⟩ => show win0_11.index t 1 * 1024 ≤ (i 1).val ∧ (i 1).val < win0_11.index t 1 * 1024 + 1024; rw [e1]; omega

end

theorem frame : Cert.quiescent_MixBwd := fun m ρ _ => Cert.MixBwd.Gen.frame (F := Bits) m ρ

theorem frame_ideal : Cert.quiescent_MixBwdIdeal := fun m ρ _ => Cert.MixBwdIdeal.Gen.frame (F := Ideal) m ρ

theorem frame_ref_ideal : Cert.quiescent_MixBwdRefIdeal := fun m ρ _ =>
  (θ_run Cert.MixBwdRefIdeal.defs _ _).mono (fun r h => ⟨fun c => (h c).2.2.2.2, sem_eq_zero_of_no_sems (by decide) r.2⟩)
    (Cert.MixBwdRefIdeal.Value.run (F := Ideal) m ρ)

section

open Cert.MixBwdRefIdeal Cert.MixBwdRefIdeal.Gen Cert.MixBwdRefIdeal.Value

/-! ## The plain formulas -/

theorem plain_8 (a0 : Vec Ideal S8192x1024 .bf16) (a3 : Vec Ideal S8192x8192 .f32) (a6 : Vec Ideal S1024x1024 .bf16) :
    (truncf .bf16 (mulf (Host.dotGeneral (φ₁ := .bf16) (φ₂ := .bf16) dot_S8192x1024_S1024x1024_S8192x1024_1_1_0_0_n_n none a0 a6) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a3 slices_S8192x8192_S8192x1024_0_6144)))))) bitsLt_bf16_f32 : FVec Ideal S8192x1024 .bf16) = out_8 a0 a3 a6 := by
  funext i
  unfold out_8 back dotT gateOf
  pointwise

theorem plain_9 (a0 : Vec Ideal S8192x1024 .bf16) (a3 : Vec Ideal S8192x8192 .f32) (a6 : Vec Ideal S1024x1024 .bf16) :
    (truncf .bf16 (mulf (Host.dotGeneral (φ₁ := .bf16) (φ₂ := .bf16) dot_S8192x1024_S1024x1024_S8192x1024_1_1_0_0_n_n none a0 a6) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a3 slices_S8192x8192_S8192x1024_0_7168)))))) bitsLt_bf16_f32 : FVec Ideal S8192x1024 .bf16) = out_9 a0 a3 a6 := by
  funext i
  unfold out_9 back dotT gateOf
  pointwise

theorem plain_10 (a0 : Vec Ideal S8192x1024 .bf16) (a3 : Vec Ideal S8192x8192 .f32) (a4 : Vec Ideal S1024x1024 .bf16) (a6 : Vec Ideal S1024x1024 .bf16) :
    (Host.dotGeneral (φ₁ := .bf16) (φ₂ := .bf16) dot_S8192x1024_S1024x1024_S8192x1024_1_1_0_0_n_n none (truncf .bf16 (mulf (Host.dotGeneral (φ₁ := .bf16) (φ₂ := .bf16) dot_S8192x1024_S1024x1024_S8192x1024_1_1_0_0_n_n none a0 a6) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 6144] a3 slices_S8192x8192_S8192x1024_0_6144)))))) bitsLt_bf16_f32) a4 : FVec Ideal S8192x1024 .f32) = out_10 a0 a3 a4 a6 := by
  funext i
  unfold out_10 back dotT gateOf
  pointwise

theorem plain_11 (a0 : Vec Ideal S8192x1024 .bf16) (a3 : Vec Ideal S8192x8192 .f32) (a5 : Vec Ideal S1024x1024 .bf16) (a6 : Vec Ideal S1024x1024 .bf16) :
    (Host.dotGeneral (φ₁ := .bf16) (φ₂ := .bf16) dot_S8192x1024_S1024x1024_S8192x1024_1_1_0_0_n_n none (truncf .bf16 (mulf (Host.dotGeneral (φ₁ := .bf16) (φ₂ := .bf16) dot_S8192x1024_S1024x1024_S8192x1024_1_1_0_0_n_n none a0 a6) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 7168] a3 slices_S8192x8192_S8192x1024_0_7168)))))) bitsLt_bf16_f32) a5 : FVec Ideal S8192x1024 .f32) = out_11 a0 a3 a5 a6 := by
  funext i
  unfold out_11 back dotT gateOf
  pointwise

end

theorem algebraic : Cert.algebraic_MixBwdIdeal_MixBwdRefIdeal := fun m g m' g' _ hm =>
  ⟨fun c => out_8 (m (c.tc.loc Cert.MixBwdIdeal.main_arg0)) (m (c.tc.loc Cert.MixBwdIdeal.main_arg3)) (m (c.tc.loc Cert.MixBwdIdeal.main_arg6)), fun c => out_9 (m (c.tc.loc Cert.MixBwdIdeal.main_arg0)) (m (c.tc.loc Cert.MixBwdIdeal.main_arg3)) (m (c.tc.loc Cert.MixBwdIdeal.main_arg6)), fun c => out_10 (m (c.tc.loc Cert.MixBwdIdeal.main_arg0)) (m (c.tc.loc Cert.MixBwdIdeal.main_arg3)) (m (c.tc.loc Cert.MixBwdIdeal.main_arg4)) (m (c.tc.loc Cert.MixBwdIdeal.main_arg6)), fun c => out_11 (m (c.tc.loc Cert.MixBwdIdeal.main_arg0)) (m (c.tc.loc Cert.MixBwdIdeal.main_arg3)) (m (c.tc.loc Cert.MixBwdIdeal.main_arg5)) (m (c.tc.loc Cert.MixBwdIdeal.main_arg6)),
    (θ_run Cert.MixBwdIdeal.defs _ _).mono (fun _ h c => ⟨(h c).1.trans (array_8 m c), (h c).2.1.trans (array_9 m c), (h c).2.2.1.trans (array_10 m c), (h c).2.2.2.1.trans (array_11 m c), (h c).2.2.2.2.2⟩) (Cert.MixBwdIdeal.Value.run_blocks (F := Ideal) m g),
    (θ_run Cert.MixBwdRefIdeal.defs _ _).mono (fun _ h c => ⟨(h c).1.trans ((plain_8 _ _ _).trans (by rw [(hm c).1, (hm c).2.2.2.1, (hm c).2.2.2.2.2.2])), (h c).2.1.trans ((plain_9 _ _ _).trans (by rw [(hm c).1, (hm c).2.2.2.1, (hm c).2.2.2.2.2.2])), (h c).2.2.1.trans ((plain_10 _ _ _ _).trans (by rw [(hm c).1, (hm c).2.2.2.1, (hm c).2.2.2.2.1, (hm c).2.2.2.2.2.2])), (h c).2.2.2.1.trans ((plain_11 _ _ _ _).trans (by rw [(hm c).1, (hm c).2.2.2.1, (hm c).2.2.2.2.2.1, (hm c).2.2.2.2.2.2])), (h c).2.2.2.2⟩) (Cert.MixBwdRefIdeal.Value.run (F := Ideal) m' g')⟩

end Cert.MixBwdProof

end
-- ==== Proof.lean ====
module

public import proofs.«01_k».proof.Proof.Gen.LossIdeal.Points
public import proofs.«01_k».proof.Proof.Gen.LossIdeal
public import proofs.«01_k».proof.Proof.Gen.LossRefIdeal
public import proofs.«01_k».proof.Proof.Gen.LossRefIdeal.Run
public import proofs.«01_k».proof.Proof.Gen.Loss.Launch
public import proofs.«01_k».proof.Proof.Gen.LossIdeal.Launch
public import proofs.«01_k».proof.Proof.Gen.LossIdeal.Skeleton
public import proofs.«01_k».proof.Proof.Gen.Loss
public import proofs.«01_k».proof.Defs
public import proofs.«01_k».proof.Proof.Gen.Chips
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points
public import proofs.«01_k».proof.Proof.Gen.ChipsRefIdeal
public import proofs.«01_k».proof.Proof.Gen.ChipsRefIdeal.Run
public import proofs.«01_k».proof.Proof.Gen.Add2
public import proofs.«01_k».proof.Proof.Gen.Add2.Frame
public import proofs.«01_k».proof.Proof.Gen.Add2Ideal
public import proofs.«01_k».proof.Proof.Gen.Add2Ideal.Frame
public import proofs.«01_k».proof.Proof.Gen.Add2Ideal.Value
public import proofs.«01_k».proof.Proof.Gen.Add2RefIdeal
public import proofs.«01_k».proof.Proof.Gen.Add2RefIdeal.Run
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.GradXRefIdeal
public import proofs.«01_k».proof.Proof.Gen.GradXRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamProj
public import proofs.«01_k».proof.Proof.Gen.AdamProj.Frame
public import proofs.«01_k».proof.Proof.Gen.AdamProjIdeal
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Adam.Value
public import proofs.«01_k».proof.Proof.Gen.Merge
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeRefIdeal
public import proofs.«01_k».proof.Proof.Gen.MergeRef
public import proofs.«01_k».proof.Proof.Merge.Value
public import proofs.«01_k».proof.Proof.Gather.Value
public import proofs.«01_k».proof.Proof.Exchange.Value
public import proofs.«01_k».proof.Proof.Chips.Value
public import proofs.«01_k».proof.Proof.Add2.Value
public import proofs.«01_k».proof.Proof.Loss.Value
public import proofs.«01_k».proof.Proof.GradX.Value
public import proofs.«01_k».proof.Proof.Gen.ProjMain
public import proofs.«01_k».proof.Proof.Gen.ProjMain.Frame
public import proofs.«01_k».proof.Proof.Gen.ProjMainIdeal
public import proofs.«01_k».proof.Proof.Gen.ProjMainIdeal.Value
public import proofs.«01_k».proof.Proof.Gen.ProjMainRefIdeal
public import proofs.«01_k».proof.Proof.Gen.ProjMainRefIdeal.Run
public import proofs.«01_k».proof.Proof.Gen.ProjGates
public import proofs.«01_k».proof.Proof.Gen.ProjGates.Frame
public import proofs.«01_k».proof.Proof.Gen.ProjGatesIdeal
public import proofs.«01_k».proof.Proof.Gen.ProjGatesIdeal.Value
public import proofs.«01_k».proof.Proof.Gen.ProjGatesRefIdeal
public import proofs.«01_k».proof.Proof.Gen.ProjGatesRefIdeal.Run
public import proofs.«01_k».proof.Proof.Gen.FfnIn
public import proofs.«01_k».proof.Proof.Gen.FfnIn.Frame
public import proofs.«01_k».proof.Proof.Gen.FfnInIdeal
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnOutDx
public import proofs.«01_k».proof.Proof.Gen.FfnOutDx.Frame
public import proofs.«01_k».proof.Proof.Gen.FfnOutDxIdeal
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.ProjGatesDx
public import proofs.«01_k».proof.Proof.Gen.ProjGatesDx.Frame
public import proofs.«01_k».proof.Proof.Gen.ProjGatesDxIdeal
public import proofs.«01_k».proof.Proof.Gen.ProjGatesDxIdeal.Value
public import proofs.«01_k».proof.Proof.Gen.ProjGatesDxRefIdeal
public import proofs.«01_k».proof.Proof.Gen.ProjGatesDxRefIdeal.Run
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.MixDw
public import proofs.«01_k».proof.Proof.Gen.MixDw.Frame
public import proofs.«01_k».proof.Proof.Gen.MixDwIdeal
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.ProjMainDw
public import proofs.«01_k».proof.Proof.Gen.ProjMainDw.Frame
public import proofs.«01_k».proof.Proof.Gen.ProjMainDwIdeal
public import proofs.«01_k».proof.Proof.Gen.ProjMainDwIdeal.Value
public import proofs.«01_k».proof.Proof.Gen.ProjMainDwRefIdeal
public import proofs.«01_k».proof.Proof.Gen.ProjMainDwRefIdeal.Run
public import proofs.«01_k».proof.Proof.Gen.ProjGatesDw
public import proofs.«01_k».proof.Proof.Gen.ProjGatesDw.Frame
public import proofs.«01_k».proof.Proof.Gen.ProjGatesDwIdeal
public import proofs.«01_k».proof.Proof.Gen.ProjGatesDwIdeal.Value
public import proofs.«01_k».proof.Proof.Gen.ProjGatesDwRefIdeal
public import proofs.«01_k».proof.Proof.Gen.ProjGatesDwRefIdeal.Run
public import proofs.«01_k».proof.Proof.Products.ProjMain
public import proofs.«01_k».proof.Proof.Products.ProjGates
public import proofs.«01_k».proof.Proof.Products.FfnIn
public import proofs.«01_k».proof.Proof.Products.FfnOutDx
public import proofs.«01_k».proof.Proof.Products.ProjGatesDx
public import proofs.«01_k».proof.Proof.Products.FfnOut
public import proofs.«01_k».proof.Proof.Products.FfnInDx
public import proofs.«01_k».proof.Proof.Products.FfnOutDw
public import proofs.«01_k».proof.Proof.Products.FfnInDw
public import proofs.«01_k».proof.Proof.Products.MixDw
public import proofs.«01_k».proof.Proof.Products.ProjMainDw
public import proofs.«01_k».proof.Proof.Products.ProjGatesDw
public import proofs.«01_k».proof.Proof.Gen.SwigluFwd
public import proofs.«01_k».proof.Proof.Gen.SwigluFwd.Frame
public import proofs.«01_k».proof.Proof.Gen.SwigluFwdIdeal
public import proofs.«01_k».proof.Proof.Gen.SwigluFwdIdeal.Value
public import proofs.«01_k».proof.Proof.Gen.SwigluFwdRefIdeal
public import proofs.«01_k».proof.Proof.Gen.SwigluFwdRefIdeal.Run
public import proofs.«01_k».proof.Proof.Gen.SwigluBwd
public import proofs.«01_k».proof.Proof.Gen.SwigluBwd.Frame
public import proofs.«01_k».proof.Proof.Gen.SwigluBwdIdeal
public import proofs.«01_k».proof.Proof.Gen.SwigluBwdIdeal.Value
public import proofs.«01_k».proof.Proof.Gen.SwigluBwdRefIdeal
public import proofs.«01_k».proof.Proof.Gen.SwigluBwdRefIdeal.Run
public import proofs.«01_k».proof.Proof.Gen.ResLn
public import proofs.«01_k».proof.Proof.Gen.ResLn.Frame
public import proofs.«01_k».proof.Proof.Gen.ResLnIdeal
public import proofs.«01_k».proof.Proof.Gen.ResLnIdeal.Value
public import proofs.«01_k».proof.Proof.Gen.ResLnRefIdeal
public import proofs.«01_k».proof.Proof.Gen.ResLnRefIdeal.Run
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Layers.SwigluFwd
public import proofs.«01_k».proof.Proof.Layers.SwigluBwd
public import proofs.«01_k».proof.Proof.Layers.ResLn
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Layers.LnBwd
public import proofs.«01_k».proof.Proof.Layers.MixFwd
public import proofs.«01_k».proof.Proof.Layers.GateSgu
public import proofs.«01_k».proof.Proof.Layers.MixBwd
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherRef
public import proofs.«01_k».proof.Proof.Gen.GatherRefIdeal
public import proofs.«01_k».proof.Proof.Gen.GatherRef.Run
public import proofs.«01_k».proof.Proof.Gen.GatherRefIdeal.Run
public import proofs.«01_k».proof.Proof.Gen.Exchange
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeRef
public import proofs.«01_k».proof.Proof.Gen.ExchangeRefIdeal
public import proofs.«01_k».proof.Proof.Gen.ExchangeRef.Run
public import proofs.«01_k».proof.Proof.Gen.ExchangeRefIdeal.Run
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts, Cert.MergeRef.Gen.facts,
  Cert.Gather.Gen.facts, Cert.GatherIdeal.Gen.facts, Cert.GatherRefIdeal.Gen.facts, Cert.GatherRef.Gen.facts,
  Cert.Exchange.Gen.facts, Cert.ExchangeIdeal.Gen.facts, Cert.ExchangeRefIdeal.Gen.facts, Cert.ExchangeRef.Gen.facts,
  Cert.Chips.Gen.facts, Cert.ChipsIdeal.Gen.facts, Cert.ChipsRefIdeal.Gen.facts,
  Cert.Add2.Gen.facts, Cert.Add2Ideal.Gen.facts, Cert.Add2RefIdeal.Gen.facts,
  Cert.Loss.Gen.facts, Cert.LossIdeal.Gen.facts, Cert.LossRefIdeal.Gen.facts,
  Cert.GradX.Gen.facts, Cert.GradXIdeal.Gen.facts, Cert.GradXRefIdeal.Gen.facts,
  Cert.ProjMain.Gen.facts, Cert.ProjMainIdeal.Gen.facts, Cert.ProjMainRefIdeal.Gen.facts,
  Cert.ProjGates.Gen.facts, Cert.ProjGatesIdeal.Gen.facts, Cert.ProjGatesRefIdeal.Gen.facts,
  Cert.FfnIn.Gen.facts, Cert.FfnInIdeal.Gen.facts, Cert.FfnInRefIdeal.Gen.facts,
  Cert.FfnOutDx.Gen.facts, Cert.FfnOutDxIdeal.Gen.facts, Cert.FfnOutDxRefIdeal.Gen.facts,
  Cert.ProjGatesDx.Gen.facts, Cert.ProjGatesDxIdeal.Gen.facts, Cert.ProjGatesDxRefIdeal.Gen.facts,
  Cert.FfnOut.Gen.facts, Cert.FfnOutIdeal.Gen.facts, Cert.FfnOutRefIdeal.Gen.facts,
  Cert.FfnInDx.Gen.facts, Cert.FfnInDxIdeal.Gen.facts, Cert.FfnInDxRefIdeal.Gen.facts,
  Cert.FfnOutDw.Gen.facts, Cert.FfnOutDwIdeal.Gen.facts, Cert.FfnOutDwRefIdeal.Gen.facts,
  Cert.FfnInDw.Gen.facts, Cert.FfnInDwIdeal.Gen.facts, Cert.FfnInDwRefIdeal.Gen.facts,
  Cert.MixDw.Gen.facts, Cert.MixDwIdeal.Gen.facts, Cert.MixDwRefIdeal.Gen.facts,
  Cert.ProjMainDw.Gen.facts, Cert.ProjMainDwIdeal.Gen.facts, Cert.ProjMainDwRefIdeal.Gen.facts,
  Cert.ProjGatesDw.Gen.facts, Cert.ProjGatesDwIdeal.Gen.facts, Cert.ProjGatesDwRefIdeal.Gen.facts,
  Cert.SwigluFwd.Gen.facts, Cert.SwigluFwdIdeal.Gen.facts, Cert.SwigluFwdRefIdeal.Gen.facts,
  Cert.SwigluBwd.Gen.facts, Cert.SwigluBwdIdeal.Gen.facts, Cert.SwigluBwdRefIdeal.Gen.facts,
  Cert.ResLn.Gen.facts, Cert.ResLnIdeal.Gen.facts, Cert.ResLnRefIdeal.Gen.facts,
  Cert.LnBwd.Gen.facts, Cert.LnBwdIdeal.Gen.facts, Cert.LnBwdRefIdeal.Gen.facts,
  Cert.GateSgu.Gen.facts, Cert.GateSguIdeal.Gen.facts, Cert.GateSguRefIdeal.Gen.facts,
  Cert.MixFwd.Gen.facts, Cert.MixFwdIdeal.Gen.facts, Cert.MixFwdRefIdeal.Gen.facts,
  Cert.MixBwd.Gen.facts, Cert.MixBwdIdeal.Gen.facts, Cert.MixBwdRefIdeal.Gen.facts,
  Cert.AdamIn.Gen.facts, Cert.AdamInIdeal.Gen.facts, Cert.AdamInRefIdeal.Gen.facts,
  Cert.AdamProj.Gen.facts, Cert.AdamProjIdeal.Gen.facts, Cert.AdamProjRefIdeal.Gen.facts,
  Cert.AdamGate.Gen.facts, Cert.AdamGateIdeal.Gen.facts, Cert.AdamGateRefIdeal.Gen.facts,
  Cert.AdamDown.Gen.facts, Cert.AdamDownIdeal.Gen.facts, Cert.AdamDownRefIdeal.Gen.facts,
  Cert.AdamConv.Gen.facts, Cert.AdamConvIdeal.Gen.facts, Cert.AdamConvRefIdeal.Gen.facts,
  Cert.AdamSmall.Gen.facts, Cert.AdamSmallIdeal.Gen.facts, Cert.AdamSmallRefIdeal.Gen.facts,
  MergeProof.frame, MergeProof.frame_ideal, MergeProof.frame_ref_ideal, MergeProof.frame_ref,
  GatherProof.frame, GatherProof.frame_ideal, GatherProof.frame_ref_ideal, GatherProof.frame_ref,
  ExchangeProof.frame, ExchangeProof.frame_ideal, ExchangeProof.frame_ref_ideal, ExchangeProof.frame_ref,
  ChipsProof.frame, ChipsProof.frame_ideal, ChipsProof.frame_ref_ideal,
  Add2Proof.frame, Add2Proof.frame_ideal, Add2Proof.frame_ref_ideal,
  LossProof.frame, LossProof.frame_ideal, LossProof.frame_ref_ideal,
  GradXProof.frame, GradXProof.frame_ideal, GradXProof.frame_ref_ideal,
  ProjMainProof.frame, ProjMainProof.frame_ideal, ProjMainProof.frame_ref_ideal,
  ProjGatesProof.frame, ProjGatesProof.frame_ideal, ProjGatesProof.frame_ref_ideal,
  FfnInProof.frame, FfnInProof.frame_ideal, FfnInProof.frame_ref_ideal,
  FfnOutDxProof.frame, FfnOutDxProof.frame_ideal, FfnOutDxProof.frame_ref_ideal,
  ProjGatesDxProof.frame, ProjGatesDxProof.frame_ideal, ProjGatesDxProof.frame_ref_ideal,
  FfnOutProof.frame, FfnOutProof.frame_ideal, FfnOutProof.frame_ref_ideal,
  FfnInDxProof.frame, FfnInDxProof.frame_ideal, FfnInDxProof.frame_ref_ideal,
  FfnOutDwProof.frame, FfnOutDwProof.frame_ideal, FfnOutDwProof.frame_ref_ideal,
  FfnInDwProof.frame, FfnInDwProof.frame_ideal, FfnInDwProof.frame_ref_ideal,
  MixDwProof.frame, MixDwProof.frame_ideal, MixDwProof.frame_ref_ideal,
  ProjMainDwProof.frame, ProjMainDwProof.frame_ideal, ProjMainDwProof.frame_ref_ideal,
  ProjGatesDwProof.frame, ProjGatesDwProof.frame_ideal, ProjGatesDwProof.frame_ref_ideal,
  SwigluFwdProof.frame, SwigluFwdProof.frame_ideal, SwigluFwdProof.frame_ref_ideal,
  SwigluBwdProof.frame, SwigluBwdProof.frame_ideal, SwigluBwdProof.frame_ref_ideal,
  ResLnProof.frame, ResLnProof.frame_ideal, ResLnProof.frame_ref_ideal,
  LnBwdProof.frame, LnBwdProof.frame_ideal, LnBwdProof.frame_ref_ideal,
  GateSguProof.frame, GateSguProof.frame_ideal, GateSguProof.frame_ref_ideal,
  MixFwdProof.frame, MixFwdProof.frame_ideal, MixFwdProof.frame_ref_ideal,
  MixBwdProof.frame, MixBwdProof.frame_ideal, MixBwdProof.frame_ref_ideal,
  AdamProof.in_frame, AdamProof.in_frame_ideal, AdamProof.in_frame_ref,
  AdamProof.proj_frame, AdamProof.proj_frame_ideal, AdamProof.proj_frame_ref,
  AdamProof.gate_frame, AdamProof.gate_frame_ideal, AdamProof.gate_frame_ref,
  AdamProof.down_frame, AdamProof.down_frame_ideal, AdamProof.down_frame_ref,
  AdamProof.conv_frame, AdamProof.conv_frame_ideal, AdamProof.conv_frame_ref,
  AdamProof.small_frame, AdamProof.small_frame_ideal, AdamProof.small_frame_ref,
  trivial, MergeProof.algebraic, MergeProof.bitexact,
  trivial, GatherProof.algebraic, GatherProof.bitexact,
  trivial, ExchangeProof.algebraic, ExchangeProof.bitexact,
  trivial, ChipsProof.algebraic,
  trivial, Add2Proof.algebraic,
  trivial, LossProof.algebraic,
  trivial, GradXProof.algebraic,
  trivial, ProjMainProof.algebraic,
  trivial, ProjGatesProof.algebraic,
  trivial, FfnInProof.algebraic,
  trivial, FfnOutDxProof.algebraic,
  trivial, ProjGatesDxProof.algebraic,
  trivial, FfnOutProof.algebraic,
  trivial, FfnInDxProof.algebraic,
  trivial, FfnOutDwProof.algebraic,
  trivial, FfnInDwProof.algebraic,
  trivial, MixDwProof.algebraic,
  trivial, ProjMainDwProof.algebraic,
  trivial, ProjGatesDwProof.algebraic,
  trivial, SwigluFwdProof.algebraic,
  trivial, SwigluBwdProof.algebraic,
  trivial, ResLnProof.algebraic,
  trivial, LnBwdProof.algebraic,
  trivial, GateSguProof.algebraic,
  trivial, MixFwdProof.algebraic,
  trivial, MixBwdProof.algebraic,
  trivial, AdamProof.in_algebraic,
  trivial, AdamProof.proj_algebraic,
  trivial, AdamProof.gate_algebraic,
  trivial, AdamProof.down_algebraic,
  trivial, AdamProof.conv_algebraic,
  trivial, AdamProof.small_algebraic⟩

end Cert.Proof

end
